-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite29 [hPre_finite29 : Cert.Pre_finite29.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite29.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite29 [hPre_finite29 : Cert.Pre_finite29.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite29.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite30 [hPre_finite30 : Cert.Pre_finite30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)) (m ((c.tc : Thread Cert.Kernel30Ideal.nD Cert.Kernel30Ideal.τ).loc Cert.Kernel30Ideal.main_arg5)) (m ((c.tc : Thread Cert.Kernel30Ideal.nD Cert.Kernel30Ideal.τ).loc Cert.Kernel30Ideal.main_arg6))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite30 [hPre_finite30 : Cert.Pre_finite30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4)) (m ((c.tc : Thread Cert.Reference30Ideal.nD Cert.Reference30Ideal.τ).loc Cert.Reference30Ideal.main_arg5)) (m ((c.tc : Thread Cert.Reference30Ideal.nD Cert.Reference30Ideal.τ).loc Cert.Reference30Ideal.main_arg6))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite31 [hPre_finite31 : Cert.Pre_finite31.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite31 [hPre_finite31 : Cert.Pre_finite31.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))) = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_finite32 [hPre_finite32 : Cert.Pre_finite32.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_finite32.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_finite32 [hPre_finite32 : Cert.Pre_finite32.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_finite32.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))) = (fun _ => 1#1)

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Reference47Ideal (m : (ℓ : Loc Cert.Reference47Ideal.nD Cert.Reference47Ideal.τ Cert.Reference47Ideal.sig) → Buf (Elt Ideal) ℓ) : Prop :=
  True

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def Pre_Kernel50 (m : (ℓ : Loc Cert.Kernel50.nD Cert.Kernel50.τ Cert.Kernel50.sig) → Buf (Elt Bits) ℓ) : Prop :=
  True

def Pre_Kernel50Ideal (m : (ℓ : Loc Cert.Kernel50Ideal.nD Cert.Kernel50Ideal.τ Cert.Kernel50Ideal.sig) → Buf (Elt Ideal) ℓ) : Prop :=
  True

def Pre_Reference50Ideal (m : (ℓ : Loc Cert.Reference50Ideal.nD Cert.Reference50Ideal.τ Cert.Reference50Ideal.sig) → Buf (Elt Ideal) ℓ) : Prop :=
  True

def Pre_Kernel51 (m : (ℓ : Loc Cert.Kernel51.nD Cert.Kernel51.τ Cert.Kernel51.sig) → Buf (Elt Bits) ℓ) : Prop :=
  True

def Pre_Kernel51Ideal (m : (ℓ : Loc Cert.Kernel51Ideal.nD Cert.Kernel51Ideal.τ Cert.Kernel51Ideal.sig) → Buf (Elt Ideal) ℓ) : Prop :=
  True

def Pre_Reference51Ideal (m : (ℓ : Loc Cert.Reference51Ideal.nD Cert.Reference51Ideal.τ Cert.Reference51Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Kernel29Ideal_pre_finite29 [hKernel29Ideal : Cert.Kernel29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite29 m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Reference29Ideal_pre_finite29 [hReference29Ideal : Cert.Reference29Ideal.Facts] [hPre_finite29 : Cert.Pre_finite29.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite29 m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ r.2.sem = fun _ => 0)

def quiescent_Kernel30Ideal_pre_finite30 [hKernel30Ideal : Cert.Kernel30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite30 m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6))
      ∧ r.2.sem = fun _ => 0)

def quiescent_Reference30Ideal_pre_finite30 [hReference30Ideal : Cert.Reference30Ideal.Facts] [hPre_finite30 : Cert.Pre_finite30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Kernel31Ideal_pre_finite31 [hKernel31Ideal : Cert.Kernel31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite31 m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Reference31Ideal_pre_finite31 [hReference31Ideal : Cert.Reference31Ideal.Facts] [hPre_finite31 : Cert.Pre_finite31.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite31 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5)
      ∧ r.2.mem ((c.tc : Thread Cert.Kernel32.nD Cert.Kernel32.τ).loc Cert.Kernel32.main_arg6) = m ((c.tc : Thread Cert.Kernel32.nD Cert.Kernel32.τ).loc Cert.Kernel32.main_arg6))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ r.2.sem = fun _ => 0)

def quiescent_Kernel32Ideal_pre_finite32 [hKernel32Ideal : Cert.Kernel32Ideal.Facts] [hPre_finite32 : Cert.Pre_finite32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_finite32 m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6))
      ∧ r.2.sem = fun _ => 0)

def quiescent_Reference32Ideal_pre_finite32 [hReference32Ideal : Cert.Reference32Ideal.Facts] [hPre_finite32 : Cert.Pre_finite32.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_finite32 m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1))
      ∧ r.2.sem = fun _ => 0)

def quiescent_Kernel50 [hKernel50 : Cert.Kernel50.Facts] : Prop :=
  ∀ (m : (ℓ : Loc Cert.Kernel50.nD Cert.Kernel50.τ Cert.Kernel50.sig) → Buf (Elt Bits) ℓ) (g : Dev Cert.Kernel50.nD → PrngReg), Pre_Kernel50 m →
    θ_run (Cert.Kernel50.defs (F := Bits)) (onTc (τ := Cert.Kernel50.τ) (Cert.Kernel50.main (F := Bits))) ⟨m, fun _ => 0, g⟩ (fun r => (∀ c : Dev Cert.Kernel50.nD,
      r.2.mem ((c.tc : Thread Cert.Kernel50.nD Cert.Kernel50.τ).loc Cert.Kernel50.main_arg0) = m ((c.tc : Thread Cert.Kernel50.nD Cert.Kernel50.τ).loc Cert.Kernel50.main_arg0)
      ∧ r.2.mem ((c.tc : Thread Cert.Kernel50.nD Cert.Kernel50.τ).loc Cert.Kernel50.main_arg1) = m ((c.tc : Thread Cert.Kernel50.nD Cert.Kernel50.τ).loc Cert.Kernel50.main_arg1))
      ∧ r.2.sem = fun _ => 0)

def quiescent_Kernel50Ideal [hKernel50Ideal : Cert.Kernel50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg), Pre_Kernel50Ideal m →
    θ_run (Cert.Kernel50Ideal.defs (F := Ideal)) (onTc (τ := Cert.Kernel50Ideal.τ) (Cert.Kernel50Ideal.main (F := Ideal))) ⟨m, fun _ => 0, g⟩ (fun r => (∀ c : Dev Cert.Kernel50Ideal.nD,
      r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
      ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ r.2.sem = fun _ => 0)

def quiescent_Reference50Ideal [hReference50Ideal : Cert.Reference50Ideal.Facts] : Prop :=
  ∀ (m : (ℓ : Loc Cert.Reference50Ideal.nD Cert.Reference50Ideal.τ Cert.Reference50Ideal.sig) → Buf (Elt Ideal) ℓ) (g : Dev Cert.Reference50Ideal.nD → PrngReg), Pre_Reference50Ideal m →
    θ_run (Cert.Reference50Ideal.defs (F := Ideal)) (onTc (τ := Cert.Reference50Ideal.τ) (Cert.Reference50Ideal.main (F := Ideal))) ⟨m, fun _ => 0, g⟩ (fun r => (∀ c : Dev Cert.Reference50Ideal.nD,
      r.2.mem ((c.tc : Thread Cert.Reference50Ideal.nD Cert.Reference50Ideal.τ).loc Cert.Reference50Ideal.main_arg0) = m ((c.tc : Thread Cert.Reference50Ideal.nD Cert.Reference50Ideal.τ).loc Cert.Reference50Ideal.main_arg0)
      ∧ r.2.mem ((c.tc : Thread Cert.Reference50Ideal.nD Cert.Reference50Ideal.τ).loc Cert.Reference50Ideal.main_arg1) = m ((c.tc : Thread Cert.Reference50Ideal.nD Cert.Reference50Ideal.τ).loc Cert.Reference50Ideal.main_arg1))
      ∧ r.2.sem = fun _ => 0)

def quiescent_Kernel51 [hKernel51 : Cert.Kernel51.Facts] : Prop :=
  ∀ (m : (ℓ : Loc Cert.Kernel51.nD Cert.Kernel51.τ Cert.Kernel51.sig) → Buf (Elt Bits) ℓ) (g : Dev Cert.Kernel51.nD → PrngReg), Pre_Kernel51 m →
    θ_run (Cert.Kernel51.defs (F := Bits)) (onTc (τ := Cert.Kernel51.τ) (Cert.Kernel51.main (F := Bits))) ⟨m, fun _ => 0, g⟩ (fun r => (∀ c : Dev Cert.Kernel51.nD,
      r.2.mem ((c.tc : Thread Cert.Kernel51.nD Cert.Kernel51.τ).loc Cert.Kernel51.main_arg0) = m ((c.tc : Thread Cert.Kernel51.nD Cert.Kernel51.τ).loc Cert.Kernel51.main_arg0)
      ∧ r.2.mem ((c.tc : Thread Cert.Kernel51.nD Cert.Kernel51.τ).loc Cert.Kernel51.main_arg1) = m ((c.tc : Thread Cert.Kernel51.nD Cert.Kernel51.τ).loc Cert.Kernel51.main_arg1))
      ∧ r.2.sem = fun _ => 0)

def quiescent_Kernel51Ideal [hKernel51Ideal : Cert.Kernel51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg), Pre_Kernel51Ideal m →
    θ_run (Cert.Kernel51Ideal.defs (F := Ideal)) (onTc (τ := Cert.Kernel51Ideal.τ) (Cert.Kernel51Ideal.main (F := Ideal))) ⟨m, fun _ => 0, g⟩ (fun r => (∀ c : Dev Cert.Kernel51Ideal.nD,
      r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
      ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ r.2.sem = fun _ => 0)

def quiescent_Reference51Ideal [hReference51Ideal : Cert.Reference51Ideal.Facts] : Prop :=
  ∀ (m : (ℓ : Loc Cert.Reference51Ideal.nD Cert.Reference51Ideal.τ Cert.Reference51Ideal.sig) → Buf (Elt Ideal) ℓ) (g : Dev Cert.Reference51Ideal.nD → PrngReg), Pre_Reference51Ideal m →
    θ_run (Cert.Reference51Ideal.defs (F := Ideal)) (onTc (τ := Cert.Reference51Ideal.τ) (Cert.Reference51Ideal.main (F := Ideal))) ⟨m, fun _ => 0, g⟩ (fun r => (∀ c : Dev Cert.Reference51Ideal.nD,
      r.2.mem ((c.tc : Thread Cert.Reference51Ideal.nD Cert.Reference51Ideal.τ).loc Cert.Reference51Ideal.main_arg0) = m ((c.tc : Thread Cert.Reference51Ideal.nD Cert.Reference51Ideal.τ).loc Cert.Reference51Ideal.main_arg0)
      ∧ r.2.mem ((c.tc : Thread Cert.Reference51Ideal.nD Cert.Reference51Ideal.τ).loc Cert.Reference51Ideal.main_arg1) = m ((c.tc : Thread Cert.Reference51Ideal.nD Cert.Reference51Ideal.τ).loc Cert.Reference51Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v62) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_v32) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v59) = v0 c
          ∧ r.2.mem ((c.tc : Thread Cert.Reference11Ideal.nD Cert.Reference11Ideal.τ).loc Cert.Reference11Ideal.main_v58) = v1 c
          ∧ r.2.mem ((c.tc : Thread Cert.Reference11Ideal.nD Cert.Reference11Ideal.τ).loc Cert.Reference11Ideal.main_v62) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v9_0)) (v1 : (c : Dev Cert.Kernel12Ideal.nD) → Buf (Elt Ideal) ((c.tc : Thread Cert.Kernel12Ideal.nD Cert.Kernel12Ideal.τ).loc Cert.Kernel12Ideal.main_v9_1)) (v2 : (c : Dev Cert.Kernel12Ideal.nD) → Buf (Elt Ideal) ((c.tc : Thread Cert.Kernel12Ideal.nD Cert.Kernel12Ideal.τ).loc Cert.Kernel12Ideal.main_v9_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v9_0) = v0 c
          ∧ r.2.mem ((c.tc : Thread Cert.Kernel12Ideal.nD Cert.Kernel12Ideal.τ).loc Cert.Kernel12Ideal.main_v9_1) = v1 c
          ∧ r.2.mem ((c.tc : Thread Cert.Kernel12Ideal.nD Cert.Kernel12Ideal.τ).loc Cert.Kernel12Ideal.main_v9_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v124) = v0 c
          ∧ r.2.mem ((c.tc : Thread Cert.Reference12Ideal.nD Cert.Reference12Ideal.τ).loc Cert.Reference12Ideal.main_v12) = v1 c
          ∧ r.2.mem ((c.tc : Thread Cert.Reference12Ideal.nD Cert.Reference12Ideal.τ).loc Cert.Reference12Ideal.main_v20) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v53) = v1 c
          ∧ r.2.mem ((c.tc : Thread Cert.Reference14Ideal.nD Cert.Reference14Ideal.τ).loc Cert.Reference14Ideal.main_v54) = v2 c
          ∧ r.2.mem ((c.tc : Thread Cert.Reference14Ideal.nD Cert.Reference14Ideal.τ).loc Cert.Reference14Ideal.main_v36) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v12) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v15) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg1) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg1) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg1) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg1) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg1) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg1) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg1) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal_pre_finite29 [hKernel29Ideal : Cert.Kernel29Ideal.Facts] [hReference29Ideal : Cert.Reference29Ideal.Facts] [hPre_finite29 : Cert.Pre_finite29.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite29 m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v40) = v0 c
          ∧ r.2.mem ((c.tc : Thread Cert.Reference29Ideal.nD Cert.Reference29Ideal.τ).loc Cert.Reference29Ideal.main_v79) = v1 c
          ∧ r.2.mem ((c.tc : Thread Cert.Reference29Ideal.nD Cert.Reference29Ideal.τ).loc Cert.Reference29Ideal.main_v23) = v2 c
          ∧ r.2.mem ((c.tc : Thread Cert.Reference29Ideal.nD Cert.Reference29Ideal.τ).loc Cert.Reference29Ideal.main_v62) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6))

def preserves_Kernel30_Kernel30Ideal : Prop :=
  True

def algebraic_Kernel30Ideal_Reference30Ideal_pre_finite30 [hKernel30Ideal : Cert.Kernel30Ideal.Facts] [hReference30Ideal : Cert.Reference30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite30 m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v40) = v0 c
          ∧ r.2.mem ((c.tc : Thread Cert.Reference30Ideal.nD Cert.Reference30Ideal.τ).loc Cert.Reference30Ideal.main_v79) = v1 c
          ∧ r.2.mem ((c.tc : Thread Cert.Reference30Ideal.nD Cert.Reference30Ideal.τ).loc Cert.Reference30Ideal.main_v23) = v2 c
          ∧ r.2.mem ((c.tc : Thread Cert.Reference30Ideal.nD Cert.Reference30Ideal.τ).loc Cert.Reference30Ideal.main_v62) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6))

def preserves_Kernel31_Kernel31Ideal : Prop :=
  True

def algebraic_Kernel31Ideal_Reference31Ideal_pre_finite31 [hKernel31Ideal : Cert.Kernel31Ideal.Facts] [hReference31Ideal : Cert.Reference31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite31 m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v40) = v0 c
          ∧ r.2.mem ((c.tc : Thread Cert.Reference31Ideal.nD Cert.Reference31Ideal.τ).loc Cert.Reference31Ideal.main_v79) = v1 c
          ∧ r.2.mem ((c.tc : Thread Cert.Reference31Ideal.nD Cert.Reference31Ideal.τ).loc Cert.Reference31Ideal.main_v23) = v2 c
          ∧ r.2.mem ((c.tc : Thread Cert.Reference31Ideal.nD Cert.Reference31Ideal.τ).loc Cert.Reference31Ideal.main_v62) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6))

def preserves_Kernel32_Kernel32Ideal : Prop :=
  True

def algebraic_Kernel32Ideal_Reference32Ideal_pre_finite32 [hKernel32Ideal : Cert.Kernel32Ideal.Facts] [hReference32Ideal : Cert.Reference32Ideal.Facts] [hPre_finite32 : Cert.Pre_finite32.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_finite32 m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)
      ∧ m' ((c.tc : Thread Cert.Reference32Ideal.nD Cert.Reference32Ideal.τ).loc Cert.Reference32Ideal.main_arg6) = m ((c.tc : Thread Cert.Kernel32Ideal.nD Cert.Kernel32Ideal.τ).loc Cert.Kernel32Ideal.main_arg6)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
          ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v40) = v0 c
          ∧ r.2.mem ((c.tc : Thread Cert.Reference32Ideal.nD Cert.Reference32Ideal.τ).loc Cert.Reference32Ideal.main_v79) = v1 c
          ∧ r.2.mem ((c.tc : Thread Cert.Reference32Ideal.nD Cert.Reference32Ideal.τ).loc Cert.Reference32Ideal.main_v23) = v2 c
          ∧ r.2.mem ((c.tc : Thread Cert.Reference32Ideal.nD Cert.Reference32Ideal.τ).loc Cert.Reference32Ideal.main_v62) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5)
          ∧ r.2.mem ((c.tc : Thread Cert.Reference32Ideal.nD Cert.Reference32Ideal.τ).loc Cert.Reference32Ideal.main_arg6) = m' ((c.tc : Thread Cert.Reference32Ideal.nD Cert.Reference32Ideal.τ).loc Cert.Reference32Ideal.main_arg6))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v5) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v4) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v6) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v6) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v4) = v0 c
          ∧ r.2.mem ((c.tc : Thread Cert.Reference38Ideal.nD Cert.Reference38Ideal.τ).loc Cert.Reference38Ideal.main_v19) = v1 c
          ∧ r.2.mem ((c.tc : Thread Cert.Reference38Ideal.nD Cert.Reference38Ideal.τ).loc Cert.Reference38Ideal.main_v32) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v4) = v0 c
          ∧ r.2.mem ((c.tc : Thread Cert.Reference39Ideal.nD Cert.Reference39Ideal.τ).loc Cert.Reference39Ideal.main_v19) = v1 c
          ∧ r.2.mem ((c.tc : Thread Cert.Reference39Ideal.nD Cert.Reference39Ideal.τ).loc Cert.Reference39Ideal.main_v32) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v4) = v0 c
          ∧ r.2.mem ((c.tc : Thread Cert.Reference40Ideal.nD Cert.Reference40Ideal.τ).loc Cert.Reference40Ideal.main_v19) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v10) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v10) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)) →
    ∃ (v0 : (c : Dev Cert.Kernel43Ideal.nD) → Buf (Elt Ideal) ((c.tc : Thread Cert.Kernel43Ideal.nD Cert.Kernel43Ideal.τ).loc Cert.Kernel43Ideal.main_v0)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v10) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v10) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v0) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)) →
    ∃ (v0 : (c : Dev Cert.Kernel46Ideal.nD) → Buf (Elt Ideal) ((c.tc : Thread Cert.Kernel46Ideal.nD Cert.Kernel46Ideal.τ).loc Cert.Kernel46Ideal.main_v2)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v2) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v6) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1))

def preserves_Kernel47_Kernel47Ideal : Prop :=
  True

def algebraic_Kernel47Ideal_Reference47Ideal [hKernel47Ideal : Cert.Kernel47Ideal.Facts] [hReference47Ideal : Cert.Reference47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)) →
    ∃ (v0 : (c : Dev Cert.Kernel47Ideal.nD) → Buf (Elt Ideal) ((c.tc : Thread Cert.Kernel47Ideal.nD Cert.Kernel47Ideal.τ).loc Cert.Kernel47Ideal.main_v2)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v2) = v0 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v6) = v0 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)) →
    ∃ (v0 : (c : Dev Cert.Kernel48Ideal.nD) → Buf (Elt Ideal) ((c.tc : Thread Cert.Kernel48Ideal.nD Cert.Kernel48Ideal.τ).loc Cert.Kernel48Ideal.main_v2)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v2) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v6) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)) →
    ∃ (v0 : (c : Dev Cert.Kernel49Ideal.nD) → Buf (Elt Ideal) ((c.tc : Thread Cert.Kernel49Ideal.nD Cert.Kernel49Ideal.τ).loc Cert.Kernel49Ideal.main_v2)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v2) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v6) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1))

def preserves_Kernel50_Kernel50Ideal : Prop :=
  True

def algebraic_Kernel50Ideal_Reference50Ideal [hKernel50Ideal : Cert.Kernel50Ideal.Facts] [hReference50Ideal : Cert.Reference50Ideal.Facts] : Prop :=
  ∀ (m : (ℓ : Loc Cert.Kernel50Ideal.nD Cert.Kernel50Ideal.τ Cert.Kernel50Ideal.sig) → Buf (Elt Ideal) ℓ) (g : Dev Cert.Kernel50Ideal.nD → PrngReg)
    (m' : (ℓ : Loc Cert.Reference50Ideal.nD Cert.Reference50Ideal.τ Cert.Reference50Ideal.sig) → Buf (Elt Ideal) ℓ) (g' : Dev Cert.Reference50Ideal.nD → PrngReg), Pre_Kernel50Ideal m →
    (∀ c : Dev Cert.Kernel50Ideal.nD,
      m' ((c.tc : Thread Cert.Reference50Ideal.nD Cert.Reference50Ideal.τ).loc Cert.Reference50Ideal.main_arg0) = m ((c.tc : Thread Cert.Kernel50Ideal.nD Cert.Kernel50Ideal.τ).loc Cert.Kernel50Ideal.main_arg0)
      ∧ m' ((c.tc : Thread Cert.Reference50Ideal.nD Cert.Reference50Ideal.τ).loc Cert.Reference50Ideal.main_arg1) = m ((c.tc : Thread Cert.Kernel50Ideal.nD Cert.Kernel50Ideal.τ).loc Cert.Kernel50Ideal.main_arg1)) →
    ∃ (v0 : (c : Dev Cert.Kernel50Ideal.nD) → Buf (Elt Ideal) ((c.tc : Thread Cert.Kernel50Ideal.nD Cert.Kernel50Ideal.τ).loc Cert.Kernel50Ideal.main_v2)),
      θ_run (Cert.Kernel50Ideal.defs (F := Ideal)) (onTc (τ := Cert.Kernel50Ideal.τ) (Cert.Kernel50Ideal.main (F := Ideal))) ⟨m, fun _ => 0, g⟩ (fun r => ∀ c : Dev Cert.Kernel50Ideal.nD,
          r.2.mem ((c.tc : Thread Cert.Kernel50Ideal.nD Cert.Kernel50Ideal.τ).loc Cert.Kernel50Ideal.main_v2) = v0 c
          ∧ r.2.mem ((c.tc : Thread Cert.Kernel50Ideal.nD Cert.Kernel50Ideal.τ).loc Cert.Kernel50Ideal.main_arg0) = m ((c.tc : Thread Cert.Kernel50Ideal.nD Cert.Kernel50Ideal.τ).loc Cert.Kernel50Ideal.main_arg0)
          ∧ r.2.mem ((c.tc : Thread Cert.Kernel50Ideal.nD Cert.Kernel50Ideal.τ).loc Cert.Kernel50Ideal.main_arg1) = m ((c.tc : Thread Cert.Kernel50Ideal.nD Cert.Kernel50Ideal.τ).loc Cert.Kernel50Ideal.main_arg1))
      ∧ θ_run (Cert.Reference50Ideal.defs (F := Ideal)) (onTc (τ := Cert.Reference50Ideal.τ) (Cert.Reference50Ideal.main (F := Ideal))) ⟨m', fun _ => 0, g'⟩ (fun r => ∀ c : Dev Cert.Reference50Ideal.nD,
          r.2.mem ((c.tc : Thread Cert.Reference50Ideal.nD Cert.Reference50Ideal.τ).loc Cert.Reference50Ideal.main_v6) = v0 c
          ∧ r.2.mem ((c.tc : Thread Cert.Reference50Ideal.nD Cert.Reference50Ideal.τ).loc Cert.Reference50Ideal.main_arg0) = m' ((c.tc : Thread Cert.Reference50Ideal.nD Cert.Reference50Ideal.τ).loc Cert.Reference50Ideal.main_arg0)
          ∧ r.2.mem ((c.tc : Thread Cert.Reference50Ideal.nD Cert.Reference50Ideal.τ).loc Cert.Reference50Ideal.main_arg1) = m' ((c.tc : Thread Cert.Reference50Ideal.nD Cert.Reference50Ideal.τ).loc Cert.Reference50Ideal.main_arg1))

def preserves_Kernel51_Kernel51Ideal : Prop :=
  True

def algebraic_Kernel51Ideal_Reference51Ideal [hKernel51Ideal : Cert.Kernel51Ideal.Facts] [hReference51Ideal : Cert.Reference51Ideal.Facts] : Prop :=
  ∀ (m : (ℓ : Loc Cert.Kernel51Ideal.nD Cert.Kernel51Ideal.τ Cert.Kernel51Ideal.sig) → Buf (Elt Ideal) ℓ) (g : Dev Cert.Kernel51Ideal.nD → PrngReg)
    (m' : (ℓ : Loc Cert.Reference51Ideal.nD Cert.Reference51Ideal.τ Cert.Reference51Ideal.sig) → Buf (Elt Ideal) ℓ) (g' : Dev Cert.Reference51Ideal.nD → PrngReg), Pre_Kernel51Ideal m →
    (∀ c : Dev Cert.Kernel51Ideal.nD,
      m' ((c.tc : Thread Cert.Reference51Ideal.nD Cert.Reference51Ideal.τ).loc Cert.Reference51Ideal.main_arg0) = m ((c.tc : Thread Cert.Kernel51Ideal.nD Cert.Kernel51Ideal.τ).loc Cert.Kernel51Ideal.main_arg0)
      ∧ m' ((c.tc : Thread Cert.Reference51Ideal.nD Cert.Reference51Ideal.τ).loc Cert.Reference51Ideal.main_arg1) = m ((c.tc : Thread Cert.Kernel51Ideal.nD Cert.Kernel51Ideal.τ).loc Cert.Kernel51Ideal.main_arg1)) →
    ∃ (v0 : (c : Dev Cert.Kernel51Ideal.nD) → Buf (Elt Ideal) ((c.tc : Thread Cert.Kernel51Ideal.nD Cert.Kernel51Ideal.τ).loc Cert.Kernel51Ideal.main_v2)),
      θ_run (Cert.Kernel51Ideal.defs (F := Ideal)) (onTc (τ := Cert.Kernel51Ideal.τ) (Cert.Kernel51Ideal.main (F := Ideal))) ⟨m, fun _ => 0, g⟩ (fun r => ∀ c : Dev Cert.Kernel51Ideal.nD,
          r.2.mem ((c.tc : Thread Cert.Kernel51Ideal.nD Cert.Kernel51Ideal.τ).loc Cert.Kernel51Ideal.main_v2) = v0 c
          ∧ r.2.mem ((c.tc : Thread Cert.Kernel51Ideal.nD Cert.Kernel51Ideal.τ).loc Cert.Kernel51Ideal.main_arg0) = m ((c.tc : Thread Cert.Kernel51Ideal.nD Cert.Kernel51Ideal.τ).loc Cert.Kernel51Ideal.main_arg0)
          ∧ r.2.mem ((c.tc : Thread Cert.Kernel51Ideal.nD Cert.Kernel51Ideal.τ).loc Cert.Kernel51Ideal.main_arg1) = m ((c.tc : Thread Cert.Kernel51Ideal.nD Cert.Kernel51Ideal.τ).loc Cert.Kernel51Ideal.main_arg1))
      ∧ θ_run (Cert.Reference51Ideal.defs (F := Ideal)) (onTc (τ := Cert.Reference51Ideal.τ) (Cert.Reference51Ideal.main (F := Ideal))) ⟨m', fun _ => 0, g'⟩ (fun r => ∀ c : Dev Cert.Reference51Ideal.nD,
          r.2.mem ((c.tc : Thread Cert.Reference51Ideal.nD Cert.Reference51Ideal.τ).loc Cert.Reference51Ideal.main_v6) = v0 c
          ∧ r.2.mem ((c.tc : Thread Cert.Reference51Ideal.nD Cert.Reference51Ideal.τ).loc Cert.Reference51Ideal.main_arg0) = m' ((c.tc : Thread Cert.Reference51Ideal.nD Cert.Reference51Ideal.τ).loc Cert.Reference51Ideal.main_arg0)
          ∧ r.2.mem ((c.tc : Thread Cert.Reference51Ideal.nD Cert.Reference51Ideal.τ).loc Cert.Reference51Ideal.main_arg1) = m' ((c.tc : Thread Cert.Reference51Ideal.nD Cert.Reference51Ideal.τ).loc Cert.Reference51Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hKernel50 : Cert.Kernel50.Facts) (hKernel50Ideal : Cert.Kernel50Ideal.Facts) (hReference50Ideal : Cert.Reference50Ideal.Facts) (hKernel51 : Cert.Kernel51.Facts) (hKernel51Ideal : Cert.Kernel51Ideal.Facts) (hReference51Ideal : Cert.Reference51Ideal.Facts) (hPre_finite : Cert.Pre_finite.Facts) (hPre_finite2 : Cert.Pre_finite2.Facts) (hPre_finite3 : Cert.Pre_finite3.Facts) (hPre_finite10 : Cert.Pre_finite10.Facts) (hPre_finite11 : Cert.Pre_finite11.Facts) (hPre_finite12 : Cert.Pre_finite12.Facts) (hPre_finite14 : Cert.Pre_finite14.Facts) (hPre_finite29 : Cert.Pre_finite29.Facts) (hPre_finite30 : Cert.Pre_finite30.Facts) (hPre_finite31 : Cert.Pre_finite31.Facts) (hPre_finite32 : Cert.Pre_finite32.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite29 (hKernel29Ideal := hKernel29Ideal) (hPre_finite29 := hPre_finite29)
    ∧ quiescent_Reference29Ideal (hReference29Ideal := hReference29Ideal)
    ∧ quiescent_Reference29Ideal_pre_finite29 (hReference29Ideal := hReference29Ideal) (hPre_finite29 := hPre_finite29)
    ∧ quiescent_Kernel30 (hKernel30 := hKernel30)
    ∧ quiescent_Kernel30Ideal (hKernel30Ideal := hKernel30Ideal)
    ∧ quiescent_Kernel30Ideal_pre_finite30 (hKernel30Ideal := hKernel30Ideal) (hPre_finite30 := hPre_finite30)
    ∧ quiescent_Reference30Ideal (hReference30Ideal := hReference30Ideal)
    ∧ quiescent_Reference30Ideal_pre_finite30 (hReference30Ideal := hReference30Ideal) (hPre_finite30 := hPre_finite30)
    ∧ quiescent_Kernel31 (hKernel31 := hKernel31)
    ∧ quiescent_Kernel31Ideal (hKernel31Ideal := hKernel31Ideal)
    ∧ quiescent_Kernel31Ideal_pre_finite31 (hKernel31Ideal := hKernel31Ideal) (hPre_finite31 := hPre_finite31)
    ∧ quiescent_Reference31Ideal (hReference31Ideal := hReference31Ideal)
    ∧ quiescent_Reference31Ideal_pre_finite31 (hReference31Ideal := hReference31Ideal) (hPre_finite31 := hPre_finite31)
    ∧ quiescent_Kernel32 (hKernel32 := hKernel32)
    ∧ quiescent_Kernel32Ideal (hKernel32Ideal := hKernel32Ideal)
    ∧ quiescent_Kernel32Ideal_pre_finite32 (hKernel32Ideal := hKernel32Ideal) (hPre_finite32 := hPre_finite32)
    ∧ quiescent_Reference32Ideal (hReference32Ideal := hReference32Ideal)
    ∧ quiescent_Reference32Ideal_pre_finite32 (hReference32Ideal := hReference32Ideal) (hPre_finite32 := hPre_finite32)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Reference47Ideal (hReference47Ideal := hReference47Ideal)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ quiescent_Kernel50 (hKernel50 := hKernel50)
    ∧ quiescent_Kernel50Ideal (hKernel50Ideal := hKernel50Ideal)
    ∧ quiescent_Reference50Ideal (hReference50Ideal := hReference50Ideal)
    ∧ quiescent_Kernel51 (hKernel51 := hKernel51)
    ∧ quiescent_Kernel51Ideal (hKernel51Ideal := hKernel51Ideal)
    ∧ quiescent_Reference51Ideal (hReference51Ideal := hReference51Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite29 (hKernel29Ideal := hKernel29Ideal) (hReference29Ideal := hReference29Ideal) (hPre_finite29 := hPre_finite29)
    ∧ preserves_Kernel30_Kernel30Ideal
    ∧ algebraic_Kernel30Ideal_Reference30Ideal_pre_finite30 (hKernel30Ideal := hKernel30Ideal) (hReference30Ideal := hReference30Ideal) (hPre_finite30 := hPre_finite30)
    ∧ preserves_Kernel31_Kernel31Ideal
    ∧ algebraic_Kernel31Ideal_Reference31Ideal_pre_finite31 (hKernel31Ideal := hKernel31Ideal) (hReference31Ideal := hReference31Ideal) (hPre_finite31 := hPre_finite31)
    ∧ preserves_Kernel32_Kernel32Ideal
    ∧ algebraic_Kernel32Ideal_Reference32Ideal_pre_finite32 (hKernel32Ideal := hKernel32Ideal) (hReference32Ideal := hReference32Ideal) (hPre_finite32 := hPre_finite32)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal (hKernel47Ideal := hKernel47Ideal) (hReference47Ideal := hReference47Ideal)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
    ∧ preserves_Kernel50_Kernel50Ideal
    ∧ algebraic_Kernel50Ideal_Reference50Ideal (hKernel50Ideal := hKernel50Ideal) (hReference50Ideal := hReference50Ideal)
    ∧ preserves_Kernel51_Kernel51Ideal
    ∧ algebraic_Kernel51Ideal_Reference51Ideal (hKernel51Ideal := hKernel51Ideal) (hReference51Ideal := hReference51Ideal)
-- ==== Pre_finite.lean ====
abbrev S4096x1024 : Shape := ⟨2, ![4096, 1024]⟩
abbrev S4096x5632 : Shape := ⟨2, ![4096, 5632]⟩
abbrev S4x2816x1024 : Shape := ⟨3, ![4, 2816, 1024]⟩
abbrev S_ : Shape := ⟨0, ![]⟩
abbrev S4096x2816 : Shape := ⟨2, ![4096, 2816]⟩
abbrev S1x2816x1024 : Shape := ⟨3, ![1, 2816, 1024]⟩
abbrev S2816x1024 : Shape := ⟨2, ![2816, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S4096x5632_S4096x2816_0_2816 : S4096x5632.Slices ![0, 2816] S4096x2816
  bcast_S_S4096x2816 : S_.BroadcastsInDim S4096x2816 (![] : Fin 0 → Fin S4096x2816.rank)
  reducesTo_S4096x2816_S_d0_1 : S4096x2816.ReducesTo [0, 1] S_
  slices_S4x2816x1024_S1x2816x1024_1_0_0 : S4x2816x1024.Slices ![1, 0, 0] S1x2816x1024
  shapeCasts_S1x2816x1024_S2816x1024 : S1x2816x1024.ShapeCasts S2816x1024
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v11 : IVec S_ 1) (main_v17 : IVec S2816x1024 1) (main_c_3 : IVec S_ 1) : IVec S_ 1 :=
  let main_v18 : IVec S_ 1 := (fun x v => Host.reduce IntOp.andi x v reducesTo_S2816x1024_S_d0_1 h_S_) main_v17 main_c_3
  let main_v19 : IVec S_ 1 := andi main_v11 main_v18
  main_v19

def fn {F : FTy → Type} [FloatOps F] (main_arg0 : FVec F S4096x1024 .bf16) (main_arg1 : FVec F S4096x5632 .bf16) (main_arg2 : FVec F S4x2816x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x2816 .bf16 := (extractStridedSlice S4096x2816 ![0, 2816] · slices_S4096x5632_S4096x2816_0_2816) main_arg1
  let main_v6 : FVec F S4096x2816 .f32 := (extf .f32 · bitsLt_bf16_f32) main_v5
  let main_v7 : FVec F S4096x2816 .f32 := Host.absf main_v6
  let main_cst_0 : FVec F S_ .f32 := constant S_ .f32 0x7F800000#32
  let main_v8 : FVec F S4096x2816 .f32 := broadcastInDim S4096x2816 ![] bcast_S_S4096x2816 main_cst_0
  let main_v9 : IVec S4096x2816 1 := cmpf .olt main_v7 main_v8
  let main_c_1 : IVec S_ 1 := constantI S_ 1 1#1
  let main_v10 : IVec S_ 1 := (fun x v => Host.reduce IntOp.andi x v reducesTo_S4096x2816_S_d0_1 h_S_) main_v9 main_c_1
  let main_v11 : IVec S_ 1 := andi main_v4 main_v10
  let main_v12 : FVec F S1x2816x1024 .bf16 := (extractStridedSlice S1x2816x1024 ![1, 0, 0] · slices_S4x2816x1024_S1x2816x1024_1_0_0) main_arg2
  let main_v13 : FVec F S2816x1024 .bf16 := shapeCast S2816x1024 main_v12 shapeCasts_S1x2816x1024_S2816x1024
  let main_v14 : FVec F S2816x1024 .f32 := (extf .f32 · bitsLt_bf16_f32) main_v13
  let main_v15 : FVec F S2816x1024 .f32 := Host.absf main_v14
  let main_cst_2 : FVec F S_ .f32 := constant S_ .f32 0x7F800000#32
  let main_v16 : FVec F S2816x1024 .f32 := broadcastInDim S2816x1024 ![] bcast_S_S2816x1024 main_cst_2
  let main_v17 : IVec S2816x1024 1 := cmpf .olt main_v15 main_v16
  let main_c_3 : IVec S_ 1 := constantI S_ 1 1#1
  fn_part1 (F := F) main_v11 main_v17 main_c_3
-- ==== Pre_finite10.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S_ : Shape := ⟨0, ![]⟩
abbrev S1x1024x5632 : Shape := ⟨3, ![1, 1024, 5632]⟩
abbrev S1024x5632 : Shape := ⟨2, ![1024, 5632]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  slices_S4x1024x5632_S1x1024x5632_0_0_0 : S4x1024x5632.Slices ![0, 0, 0] S1x1024x5632
  shapeCasts_S1x1024x5632_S1024x5632 : S1x1024x5632.ShapeCasts S1024x5632
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg3 : FVec F S1x1024 .f32) (main_v17 : IVec S_ 1) : IVec S_ 1 :=
  let main_v18 : FVec F S1x1024 .f32 := Host.absf main_arg3
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_c_5 : IVec S_ 1 := constantI S_ 1 1#1
  let main_v21 : IVec S_ 1 := (fun x v => Host.reduce IntOp.andi x v reducesTo_S1x1024_S_d0_1 h_S_) main_v20 main_c_5
  let main_v22 : IVec S_ 1 := andi main_v17 main_v21
  main_v22

def fn {F : FTy → Type} [FloatOps F] (main_arg0 : FVec F S4096x5632 .bf16) (main_arg1 : FVec F S4x1024x5632 .bf16) (main_arg2 : FVec F S4096x1024 .f32) (main_arg3 : FVec F S1x1024 .f32) (main_arg4 : FVec F S4096x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S1x1024x5632 .bf16 := (extractStridedSlice S1x1024x5632 ![0, 0, 0] · slices_S4x1024x5632_S1x1024x5632_0_0_0) main_arg1
  let main_v6 : FVec F S1024x5632 .bf16 := shapeCast S1024x5632 main_v5 shapeCasts_S1x1024x5632_S1024x5632
  let main_v7 : FVec F S1024x5632 .f32 := (extf .f32 · bitsLt_bf16_f32) main_v6
  let main_v8 : FVec F S1024x5632 .f32 := Host.absf main_v7
  let main_cst_0 : FVec F S_ .f32 := constant S_ .f32 0x7F800000#32
  let main_v9 : FVec F S1024x5632 .f32 := broadcastInDim S1024x5632 ![] bcast_S_S1024x5632 main_cst_0
  let main_v10 : IVec S1024x5632 1 := cmpf .olt main_v8 main_v9
  let main_c_1 : IVec S_ 1 := constantI S_ 1 1#1
  let main_v11 : IVec S_ 1 := (fun x v => Host.reduce IntOp.andi x v reducesTo_S1024x5632_S_d0_1 h_S_) main_v10 main_c_1
  let main_v12 : IVec S_ 1 := andi main_v4 main_v11
  let main_v13 : FVec F S4096x1024 .f32 := Host.absf main_arg2
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v12 main_v16
  fn_part1 (F := F) main_arg3 main_v17
-- ==== Pre_finite11.lean ====
abbrev S4096x1024 : Shape := ⟨2, ![4096, 1024]⟩
abbrev S2x4x256x256 : Shape := ⟨4, ![2, 4, 256, 256]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S2x4x256x256 .bf16) (main_arg2 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite12.lean ====
abbrev S4096x1024 : Shape := ⟨2, ![4096, 1024]⟩
abbrev S2x4x256x256 : Shape := ⟨4, ![2, 4, 256, 256]⟩
abbrev S1x1024 : Shape := ⟨2, ![1, 1024]⟩
abbrev S1x4x256x256 : Shape := ⟨4, ![1, 4, 256, 256]⟩
abbrev S4x256x256 : Shape := ⟨3, ![4, 256, 256]⟩
abbrev S_ : Shape := ⟨0, ![]⟩

class Facts : Prop where
  slices_S2x4x256x256_S1x4x256x256_1_0_0_0 : S2x4x256x256.Slices ![1, 0, 0, 0] S1x4x256x256
  shapeCasts_S1x4x256x256_S4x256x256 : S1x4x256x256.ShapeCasts S4x256x256
  bitsLt_bf16_f32 : FTy.bits .bf16 < FTy.bits .f32
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1024 .bf16) (main_arg1 : FVec F S2x4x256x256 .bf16) (main_arg2 : FVec F S1x1024 .f32) (main_arg3 : FVec F S4096x1024 .f32) : IVec S_ 1 :=
  let main_v0 : FVec F S1x4x256x256 .bf16 := (extractStridedSlice S1x4x256x256 ![1, 0, 0, 0] · slices_S2x4x256x256_S1x4x256x256_1_0_0_0) main_arg1
  let main_v1 : FVec F S4x256x256 .bf16 := shapeCast S4x256x256 main_v0 shapeCasts_S1x4x256x256_S4x256x256
  let main_v2 : FVec F S4x256x256 .f32 := (extf .f32 · bitsLt_bf16_f32) main_v1
  let main_v3 : FVec F S4x256x256 .f32 := Host.absf main_v2
  let main_cst : FVec F S_ .f32 := constant S_ .f32 0x7F800000#32
  let main_v4 : FVec F S4x256x256 .f32 := broadcastInDim S4x256x256 ![] bcast_S_S4x256x256 main_cst
  let main_v5 : IVec S4x256x256 1 := cmpf .olt main_v3 main_v4
  let main_c : IVec S_ 1 := constantI S_ 1 1#1
  let main_v6 : IVec S_ 1 := (fun x v => Host.reduce IntOp.andi x v reducesTo_S4x256x256_S_d0_1_2 h_S_) main_v5 main_c
  let main_v7 : FVec F S1x1024 .f32 := Host.absf main_arg2
  let main_cst_0 : FVec F S_ .f32 := constant S_ .f32 0x7F800000#32
  let main_v8 : FVec F S1x1024 .f32 := broadcastInDim S1x1024 ![] bcast_S_S1x1024 main_cst_0
  let main_v9 : IVec S1x1024 1 := cmpf .olt main_v7 main_v8
  let main_c_1 : IVec S_ 1 := constantI S_ 1 1#1
  let main_v10 : IVec S_ 1 := (fun x v => Host.reduce IntOp.andi x v reducesTo_S1x1024_S_d0_1 h_S_) main_v9 main_c_1
  let main_v11 : IVec S_ 1 := andi main_v6 main_v10
  let main_v12 : FVec F S4096x1024 .f32 := Host.absf main_arg3
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v11 main_v15
  main_v16
-- ==== Pre_finite14.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite2.lean ====
abbrev S4096x1024 : Shape := ⟨2, ![4096, 1024]⟩
abbrev S256x2048 : Shape := ⟨2, ![256, 2048]⟩
abbrev S_ : Shape := ⟨0, ![]⟩
abbrev S256x1024 : Shape := ⟨2, ![256, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S256x2048_S256x1024_0_0 : S256x2048.Slices ![0, 0] S256x1024
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x1024 .bf16) (main_arg1 : FVec F S256x2048 .bf16) (main_arg2 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S256x1024 .bf16 := (extractStridedSlice S256x1024 ![0, 0] · slices_S256x2048_S256x1024_0_0) main_arg1
  let main_v6 : FVec F S256x1024 .f32 := (extf .f32 · bitsLt_bf16_f32) main_v5
  let main_v7 : FVec F S256x1024 .f32 := Host.absf main_v6
  let main_cst_0 : FVec F S_ .f32 := constant S_ .f32 0x7F800000#32
  let main_v8 : FVec F S256x1024 .f32 := broadcastInDim S256x1024 ![] bcast_S_S256x1024 main_cst_0
  let main_v9 : IVec S256x1024 1 := cmpf .olt main_v7 main_v8
  let main_c_1 : IVec S_ 1 := constantI S_ 1 1#1
  let main_v10 : IVec S_ 1 := (fun x v => Host.reduce IntOp.andi x v reducesTo_S256x1024_S_d0_1 h_S_) main_v9 main_c_1
  let main_v11 : IVec S_ 1 := andi main_v4 main_v10
  main_v11
-- ==== Pre_finite29.lean ====
abbrev S4096x1024 : Shape := ⟨2, ![4096, 1024]⟩
abbrev S2x1024x1024 : Shape := ⟨3, ![2, 1024, 1024]⟩
abbrev S1x1024 : Shape := ⟨2, ![1, 1024]⟩
abbrev S_ : Shape := ⟨0, ![]⟩
abbrev S1x1024x1024 : Shape := ⟨3, ![1, 1024, 1024]⟩
abbrev S1024x1024 : Shape := ⟨2, ![1024, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S2x1024x1024_S1x1024x1024_0_0_0 : S2x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v32 : IVec S_ 1) (main_v33 : FVec F S1x1024 .f32) (main_v34 : FVec F S1x1024 .f32) : IVec S_ 1 :=
  let main_v35 : IVec S1x1024 1 := cmpf .olt main_v33 main_v34
  let main_c_11 : IVec S_ 1 := constantI S_ 1 1#1
  let main_v36 : IVec S_ 1 := (fun x v => Host.reduce IntOp.andi x v reducesTo_S1x1024_S_d0_1 h_S_) main_v35 main_c_11
  let main_v37 : IVec S_ 1 := andi main_v32 main_v36
  main_v37

def fn_part1 {F : FTy → Type} [FloatOps F] (main_arg3 : FVec F S1x1024 .f32) (main_arg4 : FVec F S4096x1024 .f32) (main_arg5 : FVec F S4096x1024 .f32) (main_arg6 : FVec F S1x1024 .f32) (main_v17 : IVec S_ 1) : IVec S_ 1 :=
  let main_v18 : FVec F S1x1024 .f32 := Host.absf main_arg3
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_c_5 : IVec S_ 1 := constantI S_ 1 1#1
  let main_v21 : IVec S_ 1 := (fun x v => Host.reduce IntOp.andi x v reducesTo_S1x1024_S_d0_1 h_S_) main_v20 main_c_5
  let main_v22 : IVec S_ 1 := andi main_v17 main_v21
  let main_v23 : FVec F S4096x1024 .f32 := Host.absf main_arg4
  let main_cst_6 : FVec F S_ .f32 := constant S_ .f32 0x7F800000#32
  let main_v24 : FVec F S4096x1024 .f32 := broadcastInDim S4096x1024 ![] bcast_S_S4096x1024 main_cst_6
  let main_v25 : IVec S4096x1024 1 := cmpf .olt main_v23 main_v24
  let main_c_7 : IVec S_ 1 := constantI S_ 1 1#1
  let main_v26 : IVec S_ 1 := (fun x v => Host.reduce IntOp.andi x v reducesTo_S4096x1024_S_d0_1 h_S_) main_v25 main_c_7
  let main_v27 : IVec S_ 1 := andi main_v22 main_v26
  let main_v28 : FVec F S4096x1024 .f32 := Host.absf main_arg5
  let main_cst_8 : FVec F S_ .f32 := constant S_ .f32 0x7F800000#32
  let main_v29 : FVec F S4096x1024 .f32 := broadcastInDim S4096x1024 ![] bcast_S_S4096x1024 main_cst_8
  let main_v30 : IVec S4096x1024 1 := cmpf .olt main_v28 main_v29
  let main_c_9 : IVec S_ 1 := constantI S_ 1 1#1
  let main_v31 : IVec S_ 1 := (fun x v => Host.reduce IntOp.andi x v reducesTo_S4096x1024_S_d0_1 h_S_) main_v30 main_c_9
  let main_v32 : IVec S_ 1 := andi main_v27 main_v31
  let main_v33 : FVec F S1x1024 .f32 := Host.absf main_arg6
  let main_cst_10 : FVec F S_ .f32 := constant S_ .f32 0x7F800000#32
  let main_v34 : FVec F S1x1024 .f32 := broadcastInDim S1x1024 ![] bcast_S_S1x1024 main_cst_10
  fn_part2 (F := F) main_v32 main_v33 main_v34

def fn {F : FTy → Type} [FloatOps F] (main_arg0 : FVec F S4096x1024 .bf16) (main_arg1 : FVec F S2x1024x1024 .bf16) (main_arg2 : FVec F S4096x1024 .f32) (main_arg3 : FVec F S1x1024 .f32) (main_arg4 : FVec F S4096x1024 .f32) (main_arg5 : FVec F S4096x1024 .f32) (main_arg6 : FVec F S1x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x1024x1024 .bf16 := (extractStridedSlice S1x1024x1024 ![0, 0, 0] · slices_S2x1024x1024_S1x1024x1024_0_0_0) main_arg1
  let main_v6 : FVec F S1024x1024 .bf16 := shapeCast S1024x1024 main_v5 shapeCasts_S1x1024x1024_S1024x1024
  let main_v7 : FVec F S1024x1024 .f32 := (extf .f32 · bitsLt_bf16_f32) main_v6
  let main_v8 : FVec F S1024x1024 .f32 := Host.absf main_v7
  let main_cst_0 : FVec F S_ .f32 := constant S_ .f32 0x7F800000#32
  let main_v9 : FVec F S1024x1024 .f32 := broadcastInDim S1024x1024 ![] bcast_S_S1024x1024 main_cst_0
  let main_v10 : IVec S1024x1024 1 := cmpf .olt main_v8 main_v9
  let main_c_1 : IVec S_ 1 := constantI S_ 1 1#1
  let main_v11 : IVec S_ 1 := (fun x v => Host.reduce IntOp.andi x v reducesTo_S1024x1024_S_d0_1 h_S_) main_v10 main_c_1
  let main_v12 : IVec S_ 1 := andi main_v4 main_v11
  let main_v13 : FVec F S4096x1024 .f32 := Host.absf main_arg2
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v12 main_v16
  fn_part1 (F := F) main_arg3 main_arg4 main_arg5 main_arg6 main_v17
-- ==== Pre_finite3.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S_ : Shape := ⟨0, ![]⟩
abbrev S1x1024x5632 : Shape := ⟨3, ![1, 1024, 5632]⟩
abbrev S1024x5632 : Shape := ⟨2, ![1024, 5632]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  slices_S4x1024x5632_S1x1024x5632_1_0_0 : S4x1024x5632.Slices ![1, 0, 0] S1x1024x5632
  shapeCasts_S1x1024x5632_S1024x5632 : S1x1024x5632.ShapeCasts S1024x5632
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v32 : IVec S_ 1) (main_v33 : FVec F S1x1024 .f32) (main_v34 : FVec F S1x1024 .f32) : IVec S_ 1 :=
  let main_v35 : IVec S1x1024 1 := cmpf .olt main_v33 main_v34
  let main_c_11 : IVec S_ 1 := constantI S_ 1 1#1
  let main_v36 : IVec S_ 1 := (fun x v => Host.reduce IntOp.andi x v reducesTo_S1x1024_S_d0_1 h_S_) main_v35 main_c_11
  let main_v37 : IVec S_ 1 := andi main_v32 main_v36
  main_v37

def fn_part1 {F : FTy → Type} [FloatOps F] (main_arg3 : FVec F S1x1024 .f32) (main_arg4 : FVec F S4096x1024 .f32) (main_arg5 : FVec F S4096x1024 .f32) (main_arg6 : FVec F S1x1024 .f32) (main_v17 : IVec S_ 1) : IVec S_ 1 :=
  let main_v18 : FVec F S1x1024 .f32 := Host.absf main_arg3
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_c_5 : IVec S_ 1 := constantI S_ 1 1#1
  let main_v21 : IVec S_ 1 := (fun x v => Host.reduce IntOp.andi x v reducesTo_S1x1024_S_d0_1 h_S_) main_v20 main_c_5
  let main_v22 : IVec S_ 1 := andi main_v17 main_v21
  let main_v23 : FVec F S4096x1024 .f32 := Host.absf main_arg4
  let main_cst_6 : FVec F S_ .f32 := constant S_ .f32 0x7F800000#32
  let main_v24 : FVec F S4096x1024 .f32 := broadcastInDim S4096x1024 ![] bcast_S_S4096x1024 main_cst_6
  let main_v25 : IVec S4096x1024 1 := cmpf .olt main_v23 main_v24
  let main_c_7 : IVec S_ 1 := constantI S_ 1 1#1
  let main_v26 : IVec S_ 1 := (fun x v => Host.reduce IntOp.andi x v reducesTo_S4096x1024_S_d0_1 h_S_) main_v25 main_c_7
  let main_v27 : IVec S_ 1 := andi main_v22 main_v26
  let main_v28 : FVec F S4096x1024 .f32 := Host.absf main_arg5
  let main_cst_8 : FVec F S_ .f32 := constant S_ .f32 0x7F800000#32
  let main_v29 : FVec F S4096x1024 .f32 := broadcastInDim S4096x1024 ![] bcast_S_S4096x1024 main_cst_8
  let main_v30 : IVec S4096x1024 1 := cmpf .olt main_v28 main_v29
  let main_c_9 : IVec S_ 1 := constantI S_ 1 1#1
  let main_v31 : IVec S_ 1 := (fun x v => Host.reduce IntOp.andi x v reducesTo_S4096x1024_S_d0_1 h_S_) main_v30 main_c_9
  let main_v32 : IVec S_ 1 := andi main_v27 main_v31
  let main_v33 : FVec F S1x1024 .f32 := Host.absf main_arg6
  let main_cst_10 : FVec F S_ .f32 := constant S_ .f32 0x7F800000#32
  let main_v34 : FVec F S1x1024 .f32 := broadcastInDim S1x1024 ![] bcast_S_S1x1024 main_cst_10
  fn_part2 (F := F) main_v32 main_v33 main_v34

def fn {F : FTy → Type} [FloatOps F] (main_arg0 : FVec F S4096x5632 .bf16) (main_arg1 : FVec F S4x1024x5632 .bf16) (main_arg2 : FVec F S4096x1024 .f32) (main_arg3 : FVec F S1x1024 .f32) (main_arg4 : FVec F S4096x1024 .f32) (main_arg5 : FVec F S4096x1024 .f32) (main_arg6 : FVec F S1x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S1x1024x5632 .bf16 := (extractStridedSlice S1x1024x5632 ![1, 0, 0] · slices_S4x1024x5632_S1x1024x5632_1_0_0) main_arg1
  let main_v6 : FVec F S1024x5632 .bf16 := shapeCast S1024x5632 main_v5 shapeCasts_S1x1024x5632_S1024x5632
  let main_v7 : FVec F S1024x5632 .f32 := (extf .f32 · bitsLt_bf16_f32) main_v6
  let main_v8 : FVec F S1024x5632 .f32 := Host.absf main_v7
  let main_cst_0 : FVec F S_ .f32 := constant S_ .f32 0x7F800000#32
  let main_v9 : FVec F S1024x5632 .f32 := broadcastInDim S1024x5632 ![] bcast_S_S1024x5632 main_cst_0
  let main_v10 : IVec S1024x5632 1 := cmpf .olt main_v8 main_v9
  let main_c_1 : IVec S_ 1 := constantI S_ 1 1#1
  let main_v11 : IVec S_ 1 := (fun x v => Host.reduce IntOp.andi x v reducesTo_S1024x5632_S_d0_1 h_S_) main_v10 main_c_1
  let main_v12 : IVec S_ 1 := andi main_v4 main_v11
  let main_v13 : FVec F S4096x1024 .f32 := Host.absf main_arg2
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v12 main_v16
  fn_part1 (F := F) main_arg3 main_arg4 main_arg5 main_arg6 main_v17
-- ==== Pre_finite30.lean ====
abbrev S4096x2048 : Shape := ⟨2, ![4096, 2048]⟩
abbrev S2x1024x2048 : Shape := ⟨3, ![2, 1024, 2048]⟩
abbrev S4096x1024 : Shape := ⟨2, ![4096, 1024]⟩
abbrev S1x1024 : Shape := ⟨2, ![1, 1024]⟩
abbrev S_ : Shape := ⟨0, ![]⟩
abbrev S1x1024x2048 : Shape := ⟨3, ![1, 1024, 2048]⟩
abbrev S1024x2048 : Shape := ⟨2, ![1024, 2048]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  slices_S2x1024x2048_S1x1024x2048_0_0_0 : S2x1024x2048.Slices ![0, 0, 0] S1x1024x2048
  shapeCasts_S1x1024x2048_S1024x2048 : S1x1024x2048.ShapeCasts S1024x2048
  bcast_S_S1024x2048 : S_.BroadcastsInDim S1024x2048 (![] : Fin 0 → Fin S1024x2048.rank)
  reducesTo_S1024x2048_S_d0_1 : S1024x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v32 : IVec S_ 1) (main_v33 : FVec F S1x1024 .f32) (main_v34 : FVec F S1x1024 .f32) : IVec S_ 1 :=
  let main_v35 : IVec S1x1024 1 := cmpf .olt main_v33 main_v34
  let main_c_11 : IVec S_ 1 := constantI S_ 1 1#1
  let main_v36 : IVec S_ 1 := (fun x v => Host.reduce IntOp.andi x v reducesTo_S1x1024_S_d0_1 h_S_) main_v35 main_c_11
  let main_v37 : IVec S_ 1 := andi main_v32 main_v36
  main_v37

def fn_part1 {F : FTy → Type} [FloatOps F] (main_arg3 : FVec F S1x1024 .f32) (main_arg4 : FVec F S4096x1024 .f32) (main_arg5 : FVec F S4096x1024 .f32) (main_arg6 : FVec F S1x1024 .f32) (main_v17 : IVec S_ 1) : IVec S_ 1 :=
  let main_v18 : FVec F S1x1024 .f32 := Host.absf main_arg3
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_c_5 : IVec S_ 1 := constantI S_ 1 1#1
  let main_v21 : IVec S_ 1 := (fun x v => Host.reduce IntOp.andi x v reducesTo_S1x1024_S_d0_1 h_S_) main_v20 main_c_5
  let main_v22 : IVec S_ 1 := andi main_v17 main_v21
  let main_v23 : FVec F S4096x1024 .f32 := Host.absf main_arg4
  let main_cst_6 : FVec F S_ .f32 := constant S_ .f32 0x7F800000#32
  let main_v24 : FVec F S4096x1024 .f32 := broadcastInDim S4096x1024 ![] bcast_S_S4096x1024 main_cst_6
  let main_v25 : IVec S4096x1024 1 := cmpf .olt main_v23 main_v24
  let main_c_7 : IVec S_ 1 := constantI S_ 1 1#1
  let main_v26 : IVec S_ 1 := (fun x v => Host.reduce IntOp.andi x v reducesTo_S4096x1024_S_d0_1 h_S_) main_v25 main_c_7
  let main_v27 : IVec S_ 1 := andi main_v22 main_v26
  let main_v28 : FVec F S4096x1024 .f32 := Host.absf main_arg5
  let main_cst_8 : FVec F S_ .f32 := constant S_ .f32 0x7F800000#32
  let main_v29 : FVec F S4096x1024 .f32 := broadcastInDim S4096x1024 ![] bcast_S_S4096x1024 main_cst_8
  let main_v30 : IVec S4096x1024 1 := cmpf .olt main_v28 main_v29
  let main_c_9 : IVec S_ 1 := constantI S_ 1 1#1
  let main_v31 : IVec S_ 1 := (fun x v => Host.reduce IntOp.andi x v reducesTo_S4096x1024_S_d0_1 h_S_) main_v30 main_c_9
  let main_v32 : IVec S_ 1 := andi main_v27 main_v31
  let main_v33 : FVec F S1x1024 .f32 := Host.absf main_arg6
  let main_cst_10 : FVec F S_ .f32 := constant S_ .f32 0x7F800000#32
  let main_v34 : FVec F S1x1024 .f32 := broadcastInDim S1x1024 ![] bcast_S_S1x1024 main_cst_10
  fn_part2 (F := F) main_v32 main_v33 main_v34

def fn {F : FTy → Type} [FloatOps F] (main_arg0 : FVec F S4096x2048 .bf16) (main_arg1 : FVec F S2x1024x2048 .bf16) (main_arg2 : FVec F S4096x1024 .f32) (main_arg3 : FVec F S1x1024 .f32) (main_arg4 : FVec F S4096x1024 .f32) (main_arg5 : FVec F S4096x1024 .f32) (main_arg6 : FVec F S1x1024 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1x1024x2048 .bf16 := (extractStridedSlice S1x1024x2048 ![0, 0, 0] · slices_S2x1024x2048_S1x1024x2048_0_0_0) main_arg1
  let main_v6 : FVec F S1024x2048 .bf16 := shapeCast S1024x2048 main_v5 shapeCasts_S1x1024x2048_S1024x2048
  let main_v7 : FVec F S1024x2048 .f32 := (extf .f32 · bitsLt_bf16_f32) main_v6
  let main_v8 : FVec F S1024x2048 .f32 := Host.absf main_v7
  let main_cst_0 : FVec F S_ .f32 := constant S_ .f32 0x7F800000#32
  let main_v9 : FVec F S1024x2048 .f32 := broadcastInDim S1024x2048 ![] bcast_S_S1024x2048 main_cst_0
  let main_v10 : IVec S1024x2048 1 := cmpf .olt main_v8 main_v9
  let main_c_1 : IVec S_ 1 := constantI S_ 1 1#1
  let main_v11 : IVec S_ 1 := (fun x v => Host.reduce IntOp.andi x v reducesTo_S1024x2048_S_d0_1 h_S_) main_v10 main_c_1
  let main_v12 : IVec S_ 1 := andi main_v4 main_v11
  let main_v13 : FVec F S4096x1024 .f32 := Host.absf main_arg2
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v12 main_v16
  fn_part1 (F := F) main_arg3 main_arg4 main_arg5 main_arg6 main_v17
-- ==== Pre_finite31.lean ====
abbrev S4096x1024 : Shape := ⟨2, ![4096, 1024]⟩
abbrev S4x1024x1024 : Shape := ⟨3, ![4, 1024, 1024]⟩
abbrev S1x1024 : Shape := ⟨2, ![1, 1024]⟩
abbrev S_ : Shape := ⟨0, ![]⟩
abbrev S1x1024x1024 : Shape := ⟨3, ![1, 1024, 1024]⟩
abbrev S1024x1024 : Shape := ⟨2, ![1024, 1024]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  slices_S4x1024x1024_S1x1024x1024_1_0_0 : S4x1024x1024.Slices ![1, 0, 0] S1x1024x1024
  shapeCasts_S1x1024x1024_S1024x1024 : S1x1024x1024.ShapeCasts S1024x1024
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v32 : IVec S_ 1) (main_v33 : FVec F S1x1024 .f32) (main_v34 : FVec F S1x1024 .f32) : IVec S_ 1 :=
  let main_v35 : IVec S1x1024 1 := cmpf .olt main_v33 main_v34
  let main_c_11 : IVec S_ 1 := constantI S_ 1 1#1
  let main_v36 : IVec S_ 1 := (fun x v => Host.reduce IntOp.andi x v reducesTo_S1x1024_S_d0_1 h_S_) main_v35 main_c_11
  let main_v37 : IVec S_ 1 := andi main_v32 main_v36
  main_v37

def fn_part1 {F : FTy → Type} [FloatOps F] (main_arg3 : FVec F S1x1024 .f32) (main_arg4 : FVec F S4096x1024 .f32) (main_arg5 : FVec F S4096x1024 .f32) (main_arg6 : FVec F S1x1024 .f32) (main_v17 : IVec S_ 1) : IVec S_ 1 :=
  let main_v18 : FVec F S1x1024 .f32 := Host.absf main_arg3
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_c_5 : IVec S_ 1 := constantI S_ 1 1#1
  let main_v21 : IVec S_ 1 := (fun x v => Host.reduce IntOp.andi x v reducesTo_S1x1024_S_d0_1 h_S_) main_v20 main_c_5
  let main_v22 : IVec S_ 1 := andi main_v17 main_v21
  let main_v23 : FVec F S4096x1024 .f32 := Host.absf main_arg4
  let main_cst_6 : FVec F S_ .f32 := constant S_ .f32 0x7F800000#32
  let main_v24 : FVec F S4096x1024 .f32 := broadcastInDim S4096x1024 ![] bcast_S_S4096x1024 main_cst_6
  let main_v25 : IVec S4096x1024 1 := cmpf .olt main_v23 main_v24
  let main_c_7 : IVec S_ 1 := constantI S_ 1 1#1
  let main_v26 : IVec S_ 1 := (fun x v => Host.reduce IntOp.andi x v reducesTo_S4096x1024_S_d0_1 h_S_) main_v25 main_c_7
  let main_v27 : IVec S_ 1 := andi main_v22 main_v26
  let main_v28 : FVec F S4096x1024 .f32 := Host.absf main_arg5
  let main_cst_8 : FVec F S_ .f32 := constant S_ .f32 0x7F800000#32
  let main_v29 : FVec F S4096x1024 .f32 := broadcastInDim S4096x1024 ![] bcast_S_S4096x1024 main_cst_8
  let main_v30 : IVec S4096x1024 1 := cmpf .olt main_v28 main_v29
  let main_c_9 : IVec S_ 1 := constantI S_ 1 1#1
  let main_v31 : IVec S_ 1 := (fun x v => Host.reduce IntOp.andi x v reducesTo_S4096x1024_S_d0_1 h_S_) main_v30 main_c_9
  let main_v32 : IVec S_ 1 := andi main_v27 main_v31
  let main_v33 : FVec F S1x1024 .f32 := Host.absf main_arg6
  let main_cst_10 : FVec F S_ .f32 := constant S_ .f32 0x7F800000#32
  let main_v34 : FVec F S1x1024 .f32 := broadcastInDim S1x1024 ![] bcast_S_S1x1024 main_cst_10
  fn_part2 (F := F) main_v32 main_v33 main_v34

def fn {F : FTy → Type} [FloatOps F] (main_arg0 : FVec F S4096x1024 .bf16) (main_arg1 : FVec F S4x1024x1024 .bf16) (main_arg2 : FVec F S4096x1024 .f32) (main_arg3 : FVec F S1x1024 .f32) (main_arg4 : FVec F S4096x1024 .f32) (main_arg5 : FVec F S4096x1024 .f32) (main_arg6 : FVec F S1x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1x1024x1024 .bf16 := (extractStridedSlice S1x1024x1024 ![1, 0, 0] · slices_S4x1024x1024_S1x1024x1024_1_0_0) main_arg1
  let main_v6 : FVec F S1024x1024 .bf16 := shapeCast S1024x1024 main_v5 shapeCasts_S1x1024x1024_S1024x1024
  let main_v7 : FVec F S1024x1024 .f32 := (extf .f32 · bitsLt_bf16_f32) main_v6
  let main_v8 : FVec F S1024x1024 .f32 := Host.absf main_v7
  let main_cst_0 : FVec F S_ .f32 := constant S_ .f32 0x7F800000#32
  let main_v9 : FVec F S1024x1024 .f32 := broadcastInDim S1024x1024 ![] bcast_S_S1024x1024 main_cst_0
  let main_v10 : IVec S1024x1024 1 := cmpf .olt main_v8 main_v9
  let main_c_1 : IVec S_ 1 := constantI S_ 1 1#1
  let main_v11 : IVec S_ 1 := (fun x v => Host.reduce IntOp.andi x v reducesTo_S1024x1024_S_d0_1 h_S_) main_v10 main_c_1
  let main_v12 : IVec S_ 1 := andi main_v4 main_v11
  let main_v13 : FVec F S4096x1024 .f32 := Host.absf main_arg2
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v12 main_v16
  fn_part1 (F := F) main_arg3 main_arg4 main_arg5 main_arg6 main_v17
-- ==== Pre_finite32.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S_ : Shape := ⟨0, ![]⟩
abbrev S1x1024x5632 : Shape := ⟨3, ![1, 1024, 5632]⟩
abbrev S1024x5632 : Shape := ⟨2, ![1024, 5632]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  slices_S4x1024x5632_S1x1024x5632_1_0_0 : S4x1024x5632.Slices ![1, 0, 0] S1x1024x5632
  shapeCasts_S1x1024x5632_S1024x5632 : S1x1024x5632.ShapeCasts S1024x5632
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v32 : IVec S_ 1) (main_v33 : FVec F S1x1024 .f32) (main_v34 : FVec F S1x1024 .f32) : IVec S_ 1 :=
  let main_v35 : IVec S1x1024 1 := cmpf .olt main_v33 main_v34
  let main_c_11 : IVec S_ 1 := constantI S_ 1 1#1
  let main_v36 : IVec S_ 1 := (fun x v => Host.reduce IntOp.andi x v reducesTo_S1x1024_S_d0_1 h_S_) main_v35 main_c_11
  let main_v37 : IVec S_ 1 := andi main_v32 main_v36
  main_v37

def fn_part1 {F : FTy → Type} [FloatOps F] (main_arg3 : FVec F S1x1024 .f32) (main_arg4 : FVec F S4096x1024 .f32) (main_arg5 : FVec F S4096x1024 .f32) (main_arg6 : FVec F S1x1024 .f32) (main_v17 : IVec S_ 1) : IVec S_ 1 :=
  let main_v18 : FVec F S1x1024 .f32 := Host.absf main_arg3
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_c_5 : IVec S_ 1 := constantI S_ 1 1#1
  let main_v21 : IVec S_ 1 := (fun x v => Host.reduce IntOp.andi x v reducesTo_S1x1024_S_d0_1 h_S_) main_v20 main_c_5
  let main_v22 : IVec S_ 1 := andi main_v17 main_v21
  let main_v23 : FVec F S4096x1024 .f32 := Host.absf main_arg4
  let main_cst_6 : FVec F S_ .f32 := constant S_ .f32 0x7F800000#32
  let main_v24 : FVec F S4096x1024 .f32 := broadcastInDim S4096x1024 ![] bcast_S_S4096x1024 main_cst_6
  let main_v25 : IVec S4096x1024 1 := cmpf .olt main_v23 main_v24
  let main_c_7 : IVec S_ 1 := constantI S_ 1 1#1
  let main_v26 : IVec S_ 1 := (fun x v => Host.reduce IntOp.andi x v reducesTo_S4096x1024_S_d0_1 h_S_) main_v25 main_c_7
  let main_v27 : IVec S_ 1 := andi main_v22 main_v26
  let main_v28 : FVec F S4096x1024 .f32 := Host.absf main_arg5
  let main_cst_8 : FVec F S_ .f32 := constant S_ .f32 0x7F800000#32
  let main_v29 : FVec F S4096x1024 .f32 := broadcastInDim S4096x1024 ![] bcast_S_S4096x1024 main_cst_8
  let main_v30 : IVec S4096x1024 1 := cmpf .olt main_v28 main_v29
  let main_c_9 : IVec S_ 1 := constantI S_ 1 1#1
  let main_v31 : IVec S_ 1 := (fun x v => Host.reduce IntOp.andi x v reducesTo_S4096x1024_S_d0_1 h_S_) main_v30 main_c_9
  let main_v32 : IVec S_ 1 := andi main_v27 main_v31
  let main_v33 : FVec F S1x1024 .f32 := Host.absf main_arg6
  let main_cst_10 : FVec F S_ .f32 := constant S_ .f32 0x7F800000#32
  let main_v34 : FVec F S1x1024 .f32 := broadcastInDim S1x1024 ![] bcast_S_S1x1024 main_cst_10
  fn_part2 (F := F) main_v32 main_v33 main_v34

def fn {F : FTy → Type} [FloatOps F] (main_arg0 : FVec F S4096x5632 .bf16) (main_arg1 : FVec F S4x1024x5632 .bf16) (main_arg2 : FVec F S4096x1024 .f32) (main_arg3 : FVec F S1x1024 .f32) (main_arg4 : FVec F S4096x1024 .f32) (main_arg5 : FVec F S4096x1024 .f32) (main_arg6 : FVec F S1x1024 .f32) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S1x1024x5632 .bf16 := (extractStridedSlice S1x1024x5632 ![1, 0, 0] · slices_S4x1024x5632_S1x1024x5632_1_0_0) main_arg1
  let main_v6 : FVec F S1024x5632 .bf16 := shapeCast S1024x5632 main_v5 shapeCasts_S1x1024x5632_S1024x5632
  let main_v7 : FVec F S1024x5632 .f32 := (extf .f32 · bitsLt_bf16_f32) main_v6
  let main_v8 : FVec F S1024x5632 .f32 := Host.absf main_v7
  let main_cst_0 : FVec F S_ .f32 := constant S_ .f32 0x7F800000#32
  let main_v9 : FVec F S1024x5632 .f32 := broadcastInDim S1024x5632 ![] bcast_S_S1024x5632 main_cst_0
  let main_v10 : IVec S1024x5632 1 := cmpf .olt main_v8 main_v9
  let main_c_1 : IVec S_ 1 := constantI S_ 1 1#1
  let main_v11 : IVec S_ 1 := (fun x v => Host.reduce IntOp.andi x v reducesTo_S1024x5632_S_d0_1 h_S_) main_v10 main_c_1
  let main_v12 : IVec S_ 1 := andi main_v4 main_v11
  let main_v13 : FVec F S4096x1024 .f32 := Host.absf main_arg2
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v12 main_v16
  fn_part1 (F := F) main_arg3 main_arg4 main_arg5 main_arg6 main_v17
-- ==== Kernel.lean ====
abbrev S4096x1024 : Shape := ⟨2, ![4096, 1024]⟩
abbrev S4096x5632 : Shape := ⟨2, ![4096, 5632]⟩
abbrev S4x2816x1024 : Shape := ⟨3, ![4, 2816, 1024]⟩
abbrev S512x1024 : Shape := ⟨2, ![512, 1024]⟩
abbrev S512x5632 : Shape := ⟨2, ![512, 5632]⟩
abbrev S1x2816x1024 : Shape := ⟨3, ![1, 2816, 1024]⟩
abbrev S1x1408x1024 : Shape := ⟨3, ![1, 1408, 1024]⟩
abbrev S1408x1024 : Shape := ⟨2, ![1408, 1024]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x2816x1024, .bf16⟩
  | .hbm, ⟨3, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S512x5632, .bf16⟩
  | .local _ .vmem, ⟨3, _⟩ => ⟨S512x5632, .bf16⟩
  | .local _ .vmem, ⟨4, _⟩ => ⟨S1x2816x1024, .bf16⟩
  | .local _ .vmem, ⟨5, _⟩ => ⟨S512x5632, .bf16⟩
  | .local _ .vmem, ⟨6, _⟩ => ⟨S512x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x1024 : Shape := ⟨2, ![4096, 1024]⟩
abbrev S4096x5632 : Shape := ⟨2, ![4096, 5632]⟩
abbrev S4x2816x1024 : Shape := ⟨3, ![4, 2816, 1024]⟩
abbrev S1x2816x1024 : Shape := ⟨3, ![1, 2816, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x2816x1024, .bf16⟩
  | .hbm, ⟨3, _⟩ => ⟨S4096x1024, .f32⟩
  | .hbm, ⟨4, _⟩ => ⟨S4096x5632, .f32⟩
  | .hbm, ⟨5, _⟩ => ⟨S4x2816x1024, .f32⟩
  | .hbm, ⟨6, _⟩ => ⟨S1x2816x1024, .f32⟩
  | .hbm, ⟨7, _⟩ => ⟨S2816x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x5632, .f32⟩
  | .hbm, ⟨33, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel2.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_17 : BitVec 32 := 0#32
  let v34 : BitVec 1 := Scalar.cmpi .ne v33 c0_i32_17
  v34

def k0_cond2 (i : grid0.Coords) : BitVec 1 :=
  let arg0 : BitVec 32 := BitVec.ofNat 32 (i 0).val
  let c0_i32_18 : BitVec 32 := 0#32
  let v35 : BitVec 1 := Scalar.cmpi .sgt arg0 c0_i32_18
  let v36 : BitVec 32 := Scalar.extui v35
  let c0_i32_19 : BitVec 32 := 0#32
  let v37 : BitVec 1 := Scalar.cmpi .ne v36 c0_i32_19
  v37

def k0_cond3 (i : grid0.Coords) : BitVec 1 :=
  let arg0 : BitVec 32 := BitVec.ofNat 32 (i 0).val
  let c0_i32_38 : BitVec 32 := 0#32
  let v70 : BitVec 1 := Scalar.cmpi .eq arg0 c0_i32_38
  let v71 : BitVec 32 := Scalar.extui v70
  let c0_i32_39 : BitVec 32 := 0#32
  let v72 : BitVec 1 := Scalar.cmpi .ne v71 c0_i32_39
  v72

def k0_cond4 (i : grid0.Coords) : BitVec 1 :=
  let arg0 : BitVec 32 := BitVec.ofNat 32 (i 0).val
  let c0_i32_40 : BitVec 32 := 0#32
  let v73 : BitVec 1 := Scalar.cmpi .sgt arg0 c0_i32_40
  let v74 : BitVec 32 := Scalar.extui v73
  let c0_i32_41 : BitVec 32 := 0#32
  let v75 : BitVec 1 := Scalar.cmpi .ne v74 c0_i32_41
  v75

def k0_cond5 (i : grid0.Coords) : BitVec 1 :=
  let arg0 : BitVec 32 := BitVec.ofNat 32 (i 0).val
  let c0_i32_60 : BitVec 32 := 0#32
  let v108 : BitVec 1 := Scalar.cmpi .eq arg0 c0_i32_60
  let v109 : BitVec 32 := Scalar.extui v108
  let c0_i32_61 : BitVec 32 := 0#32
  let v110 : BitVec 1 := Scalar.cmpi .ne v109 c0_i32_61
  v110

def k0_cond6 (i : grid0.Coords) : BitVec 1 :=
  let arg0 : BitVec 32 := BitVec.ofNat 32 (i 0).val
  let c0_i32_62 : BitVec 32 := 0#32
  let v111 : BitVec 1 := Scalar.cmpi .sgt arg0 c0_i32_62
  let v112 : BitVec 32 := Scalar.extui v111
  let c0_i32_63 : BitVec 32 := 0#32
  let v113 : BitVec 1 := Scalar.cmpi .ne v112 c0_i32_63
  v113

def k0_cond7 (i : grid0.Coords) : BitVec 1 :=
  let arg0 : BitVec 32 := BitVec.ofNat 32 (i 0).val
  let c0_i32_82 : BitVec 32 := 0#32
  let v146 : BitVec 1 := Scalar.cmpi .eq arg0 c0_i32_82
  let v147 : BitVec 32 := Scalar.extui v146
  let c0_i32_83 : BitVec 32 := 0#32
  let v148 : BitVec 1 := Scalar.cmpi .ne v147 c0_i32_83
  v148

def k0_cond8 (i : grid0.Coords) : BitVec 1 :=
  let arg0 : BitVec 32 := BitVec.ofNat 32 (i 0).val
  let c0_i32_84 : BitVec 32 := 0#32
  let v149 : BitVec 1 := Scalar.cmpi .sgt arg0 c0_i32_84
  let v150 : BitVec 32 := Scalar.extui v149
  let c0_i32_85 : BitVec 32 := 0#32
  let v151 : BitVec 1 := Scalar.cmpi .ne v150 c0_i32_85
  v151

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 87
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x4x256, .f32⟩
  | .hbm, ⟨6, _⟩ => ⟨S256x1024, .f32⟩
  | .hbm, ⟨7, _⟩ => ⟨S256x1024, .f32⟩
  | .hbm, ⟨8, _⟩ => ⟨S256x4x256, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S256x1024, .f32⟩
  | .hbm, ⟨84, _⟩ => ⟨S256x2048, .f32⟩
  | .hbm, ⟨85, _⟩ => ⟨S4096x1024, .f32⟩
  | .hbm, ⟨86, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel3.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S1x1024x5632 : Shape := ⟨3, ![1, 1024, 5632]⟩
abbrev S256x5632 : Shape := ⟨2, ![256, 5632]⟩
abbrev S1024x5632 : Shape := ⟨2, ![1024, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x5632, .bf16⟩
  | .hbm, ⟨1, _⟩ => ⟨S4x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x5632, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v132 : BitVec 1 := Scalar.cmpi .eq arg0 c0_i32
  let v133 : BitVec 32 := Scalar.extui v132
  let c0_i32_63 : BitVec 32 := 0#32
  let v134 : BitVec 1 := Scalar.cmpi .ne v133 c0_i32_63
  v134

def k0_cond2 (i : grid0.Coords) : BitVec 1 :=
  let arg0 : BitVec 32 := BitVec.ofNat 32 (i 0).val
  let c0_i32_64 : BitVec 32 := 0#32
  let v135 : BitVec 1 := Scalar.cmpi .sgt arg0 c0_i32_64
  let v136 : BitVec 32 := Scalar.extui v135
  let c0_i32_65 : BitVec 32 := 0#32
  let v137 : BitVec 1 := Scalar.cmpi .ne v136 c0_i32_65
  v137

def k0_cond3 (i : grid0.Coords) : BitVec 1 :=
  let arg0 : BitVec 32 := BitVec.ofNat 32 (i 0).val
  let c0_i32_66 : BitVec 32 := 0#32
  let v138 : BitVec 1 := Scalar.cmpi .eq arg0 c0_i32_66
  let v139 : BitVec 32 := Scalar.extui v138
  let c0_i32_67 : BitVec 32 := 0#32
  let v140 : BitVec 1 := Scalar.cmpi .ne v139 c0_i32_67
  v140

def k0_cond4 (i : grid0.Coords) : BitVec 1 :=
  let arg0 : BitVec 32 := BitVec.ofNat 32 (i 0).val
  let c0_i32_68 : BitVec 32 := 0#32
  let v141 : BitVec 1 := Scalar.cmpi .sgt arg0 c0_i32_68
  let v142 : BitVec 32 := Scalar.extui v141
  let c0_i32_69 : BitVec 32 := 0#32
  let v143 : BitVec 1 := Scalar.cmpi .ne v142 c0_i32_69
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S1x1024x5632 : Shape := ⟨3, ![1, 1024, 5632]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x5632, .f32⟩
  | .hbm, ⟨8, _⟩ => ⟨S4x1024x5632, .f32⟩
  | .hbm, ⟨9, _⟩ => ⟨S1x1024x5632, .f32⟩
  | .hbm, ⟨10, _⟩ => ⟨S1024x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S4x1024x5632 : Shape := ⟨3, ![4, 1024, 5632]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x5632, .bf16⟩
  | .hbm, ⟨3, _⟩ => ⟨S4x1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x5632 : Shape := ⟨2, ![4096, 5632]⟩
abbrev S4x1024x5632 : Shape := ⟨3, ![4, 1024, 5632]⟩
abbrev S_ : Shape := ⟨0, ![]⟩
abbrev S1024x5632 : Shape := ⟨2, ![1024, 5632]⟩
abbrev S5632x1024 : Shape := ⟨2, ![5632, 1024]⟩
abbrev S1x1024x5632 : Shape := ⟨3, ![1, 1024, 5632]⟩
abbrev S2x1024x5632 : Shape := ⟨3, ![2, 1024, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x5632, .bf16⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | .hbm, ⟨11, _⟩ => ⟨S1x1024x5632, .bf16⟩
  | .hbm, ⟨12, _⟩ => ⟨S1x1024x5632, .bf16⟩
  | .hbm, ⟨13, _⟩ => ⟨S2x1024x5632, .bf16⟩
  | .hbm, ⟨14, _⟩ => ⟨S4x1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S4x2816x1024 : Shape := ⟨3, ![4, 2816, 1024]⟩
abbrev S4096x1408 : Shape := ⟨2, ![4096, 1408]⟩
abbrev S1x1408x1024 : Shape := ⟨3, ![1, 1408, 1024]⟩
abbrev S1408x1024 : Shape := ⟨2, ![1408, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S4x2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1x1408x1024, .bf16⟩
  | .local _ .vmem, ⟨4, _⟩ => ⟨S1x1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2816 : Shape := ⟨2, ![4096, 2816]⟩
abbrev S4096x1024 : Shape := ⟨2, ![4096, 1024]⟩
abbrev S4x2816x1024 : Shape := ⟨3, ![4, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩
abbrev S2x2816x1024 : Shape := ⟨3, ![2, 2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .bf16⟩
  | .hbm, ⟨12, _⟩ => ⟨S1x2816x1024, .bf16⟩
  | .hbm, ⟨13, _⟩ => ⟨S2x2816x1024, .bf16⟩
  | .hbm, ⟨14, _⟩ => ⟨S4x2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S4096x1024 : Shape := ⟨2, ![4096, 1024]⟩
abbrev S4x1024x5632 : Shape := ⟨3, ![4, 1024, 5632]⟩
abbrev S4096x5632 : Shape := ⟨2, ![4096, 5632]⟩
abbrev S4096x2816 : Shape := ⟨2, ![4096, 2816]⟩
abbrev S512x1024 : Shape := ⟨2, ![512, 1024]⟩
abbrev S1x1024x5632 : Shape := ⟨3, ![1, 1024, 5632]⟩
abbrev S512x5632 : Shape := ⟨2, ![512, 5632]⟩
abbrev S512x2816 : Shape := ⟨2, ![512, 2816]⟩
abbrev S1x1024x1408 : Shape := ⟨3, ![1, 1024, 1408]⟩
abbrev S1024x1408 : Shape := ⟨2, ![1024, 1408]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S4096x5632, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x5632, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4096x1024 : Shape := ⟨2, ![4096, 1024]⟩
abbrev S4x1024x5632 : Shape := ⟨3, ![4, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x5632, .bf16⟩
  | .hbm, ⟨2, _⟩ => ⟨S4096x1024, .f32⟩
  | .hbm, ⟨3, _⟩ => ⟨S4x1024x5632, .f32⟩
  | .hbm, ⟨4, _⟩ => ⟨S1x1024x5632, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x5632, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel7.lean ====
abbrev S4096x1024 : Shape := ⟨2, ![4096, 1024]⟩
abbrev S4096x2816 : Shape := ⟨2, ![4096, 2816]⟩
abbrev S4x2816x1024 : Shape := ⟨3, ![4, 2816, 1024]⟩
abbrev S1x1024 : Shape := ⟨2, ![1, 1024]⟩
abbrev S512x1024 : Shape := ⟨2, ![512, 1024]⟩
abbrev S512x2816 : Shape := ⟨2, ![512, 2816]⟩
abbrev S1x2816x1024 : Shape := ⟨3, ![1, 2816, 1024]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4x2816x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x1024 : Shape := ⟨2, ![4096, 1024]⟩
abbrev S4096x2816 : Shape := ⟨2, ![4096, 2816]⟩
abbrev S4x2816x1024 : Shape := ⟨3, ![4, 2816, 1024]⟩
abbrev S1x1024 : Shape := ⟨2, ![1, 1024]⟩
abbrev S1x2816x1024 : Shape := ⟨3, ![1, 2816, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4x2816x1024, .bf16⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S4x2816x1024, .f32⟩
  | .hbm, ⟨7, _⟩ => ⟨S1x2816x1024, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel8.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1x1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4x1024x1024, .f32⟩
  | .hbm, ⟨3, _⟩ => ⟨S1x1024x1024, .f32⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S1x1024x5632 : Shape := ⟨3, ![1, 1024, 5632]⟩
abbrev S256x5632 : Shape := ⟨2, ![256, 5632]⟩
abbrev S1024x5632 : Shape := ⟨2, ![1024, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024x5632, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_37 : BitVec 32 := 0#32
  let v71 : BitVec 1 := Scalar.cmpi .ne v70 c0_i32_37
  v71

def k0_cond2 (i : grid0.Coords) : BitVec 1 :=
  let arg0 : BitVec 32 := BitVec.ofNat 32 (i 0).val
  let c0_i32_38 : BitVec 32 := 0#32
  let v72 : BitVec 1 := Scalar.cmpi .sgt arg0 c0_i32_38
  let v73 : BitVec 32 := Scalar.extui v72
  let c0_i32_39 : BitVec 32 := 0#32
  let v74 : BitVec 1 := Scalar.cmpi .ne v73 c0_i32_39
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S1x1024x5632 : Shape := ⟨3, ![1, 1024, 5632]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x5632, .f32⟩
  | .hbm, ⟨6, _⟩ => ⟨S4x1024x5632, .f32⟩
  | .hbm, ⟨7, _⟩ => ⟨S1x1024x5632, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel11.lean ====
abbrev S4096x1024 : Shape := ⟨2, ![4096, 1024]⟩
abbrev S2x4x256x256 : Shape := ⟨4, ![2, 4, 256, 256]⟩
abbrev S1x1024 : Shape := ⟨2, ![1, 1024]⟩
abbrev S8x256x256 : Shape := ⟨3, ![8, 256, 256]⟩
abbrev S512x1024 : Shape := ⟨2, ![512, 1024]⟩
abbrev S32x1024 : Shape := ⟨2, ![32, 1024]⟩
abbrev S4x256x256 : Shape := ⟨3, ![4, 256, 256]⟩
abbrev S544x1024 : Shape := ⟨2, ![544, 1024]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S2x4x256x256, .bf16⟩
  | .hbm, ⟨2, _⟩ => ⟨S1x1024, .f32⟩
  | .hbm, ⟨3, _⟩ => ⟨S8x256x256, .bf16⟩
  | .hbm, ⟨4, _⟩ => ⟨S4096x1024, .bf16⟩
  | .hbm, ⟨5, _⟩ => ⟨S4096x1024, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S4x256x256, .bf16⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S544x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4096x1024 : Shape := ⟨2, ![4096, 1024]⟩
abbrev S2x4x256x256 : Shape := ⟨4, ![2, 4, 256, 256]⟩
abbrev S1x1024 : Shape := ⟨2, ![1, 1024]⟩
abbrev S_ : Shape := ⟨0, ![]⟩
abbrev S4097x1024 : Shape := ⟨2, ![4097, 1024]⟩
abbrev S4096 : Shape := ⟨1, ![4096]⟩
abbrev S4096x256 : Shape := ⟨2, ![4096, 256]⟩
abbrev S1x256 : Shape := ⟨2, ![1, 256]⟩
abbrev S4095x256 : Shape := ⟨2, ![4095, 256]⟩
abbrev S4096x1 : Shape := ⟨2, ![4096, 1]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩
abbrev S1x4x256x256 : Shape := ⟨4, ![1, 4, 256, 256]⟩
abbrev S4x256x256 : Shape := ⟨3, ![4, 256, 256]⟩
abbrev S4096x4x256 : Shape := ⟨3, ![4096, 4, 256]⟩
abbrev S4x256x4096 : Shape := ⟨3, ![4, 256, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4x256x256, .bf16⟩
  | .hbm, ⟨2, _⟩ => ⟨S1x1024, .f32⟩
  | .hbm, ⟨3, _⟩ => ⟨S_, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S1x1024, .f32⟩
  | .hbm, ⟨8, _⟩ => ⟨S4097x1024, .f32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096x256, .f32⟩
  | .hbm, ⟨14, _⟩ => ⟨S_, .f32⟩
  | .hbm, ⟨15, _⟩ => ⟨S1x256, .f32⟩
  | .hbm, ⟨16, _⟩ => ⟨S4095x256, .f32⟩
  | .hbm, ⟨17, _⟩ => ⟨S4096x256, .f32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S3x256, .f32⟩
  | .hbm, ⟨29, _⟩ => ⟨S4093x256, .f32⟩
  | .hbm, ⟨30, _⟩ => ⟨S4096x256, .f32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .f32⟩
  | .hbm, ⟨35, _⟩ => ⟨S4096x1, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S_, .f32⟩
  | .hbm, ⟨41, _⟩ => ⟨S7x256, .f32⟩
  | .hbm, ⟨42, _⟩ => ⟨S4089x256, .f32⟩
  | .hbm, ⟨43, _⟩ => ⟨S4096x256, .f32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .f32⟩
  | .hbm, ⟨48, _⟩ => ⟨S4096x1, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S_, .f32⟩
  | .hbm, ⟨54, _⟩ => ⟨S15x256, .f32⟩
  | .hbm, ⟨55, _⟩ => ⟨S4081x256, .f32⟩
  | .hbm, ⟨56, _⟩ => ⟨S4096x256, .f32⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .f32⟩
  | .hbm, ⟨61, _⟩ => ⟨S4096x1, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4096x1024, .f32⟩
  | .hbm, ⟨66, _⟩ => ⟨S4096x1024, .f32⟩
  | .hbm, ⟨67, _⟩ => ⟨S2x4x256x256, .f32⟩
  | .hbm, ⟨68, _⟩ => ⟨S1x4x256x256, .f32⟩
  | .hbm, ⟨69, _⟩ => ⟨S4x256x256, .f32⟩
  | .hbm, ⟨70, _⟩ => ⟨S4096x4x256, .f32⟩
  | .hbm, ⟨71, _⟩ => ⟨S4x256x4096, .f32⟩
  | .hbm, ⟨72, _⟩ => ⟨S4096x4x256, .f32⟩
  | .hbm, ⟨73, _⟩ => ⟨S4096x1024, .f32⟩
  | .hbm, ⟨74, _⟩ => ⟨S4096x1024, .bf16⟩
  | .hbm, ⟨75, _⟩ => ⟨S4096x1024, .f32⟩
  | .hbm, ⟨76, _⟩ => ⟨S4096x1024, .f32⟩
  | .hbm, ⟨77, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_cst : Ref sig .tc := ⟨.hbm, 3, rfl⟩
abbrev main_call0_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== Kernel12.lean ====
abbrev S4096x1024 : Shape := ⟨2, ![4096, 1024]⟩
abbrev S2x4x256x256 : Shape := ⟨4, ![2, 4, 256, 256]⟩
abbrev S1x1024 : Shape := ⟨2, ![1, 1024]⟩
abbrev S1x4x256x256 : Shape := ⟨4, ![1, 4, 256, 256]⟩
abbrev S4x256x256 : Shape := ⟨3, ![4, 256, 256]⟩
abbrev S4096x4x256 : Shape := ⟨3, ![4096, 4, 256]⟩
abbrev S4x256x4096 : Shape := ⟨3, ![4, 256, 4096]⟩
abbrev S8x256x256 : Shape := ⟨3, ![8, 256, 256]⟩
abbrev S512x1024 : Shape := ⟨2, ![512, 1024]⟩
abbrev S32x1024 : Shape := ⟨2, ![32, 1024]⟩
abbrev S544x1024 : Shape := ⟨2, ![544, 1024]⟩
abbrev S1024 : Shape := ⟨1, ![1024]⟩
abbrev S512x256 : Shape := ⟨2, ![512, 256]⟩
abbrev S1x256x256 : Shape := ⟨3, ![1, 256, 256]⟩
abbrev S256x256 : Shape := ⟨2, ![256, 256]⟩
abbrev S32x256 : Shape := ⟨2, ![32, 256]⟩

abbrev nBuf : Space → Nat
  | .hbm => 16
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S2x4x256x256, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S2x4x256x256, .f32⟩
  | .hbm, ⟨6, _⟩ => ⟨S1x4x256x256, .f32⟩
  | .hbm, ⟨7, _⟩ => ⟨S4x256x256, .f32⟩
  | .hbm, ⟨8, _⟩ => ⟨S4096x4x256, .f32⟩
  | .hbm, ⟨9, _⟩ => ⟨S4x256x4096, .f32⟩
  | .hbm, ⟨10, _⟩ => ⟨S4096x4x256, .f32⟩
  | .hbm, ⟨11, _⟩ => ⟨S4096x1024, .f32⟩
  | .hbm, ⟨12, _⟩ => ⟨S8x256x256, .bf16⟩
  | .hbm, ⟨13, _⟩ => ⟨S4096x1024, .bf16⟩
  | .hbm, ⟨14, _⟩ => ⟨S1x1024, .f32⟩
  | .hbm, ⟨15, _⟩ => ⟨S4x256x256, .f32⟩
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S4x256x256, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S4x256x256, .f32⟩
  | .local _ .vmem, ⟨14, _⟩ => ⟨S544x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c0_i32_4 : BitVec 32 := 0#32
  let v9 : BitVec 1 := Scalar.cmpi .sgt arg0 c0_i32_4
  let v10 : BitVec 32 := Scalar.extui v9
  let c0_i32_5 : BitVec 32 := 0#32
  let v11 : BitVec 1 := Scalar.cmpi .ne v10 c0_i32_5
  v11

def k0_cond3 (i : grid0.Coords) : BitVec 1 :=
  let arg0 : BitVec 32 := BitVec.ofNat 32 (i 0).val
  let c0_i32_37 : BitVec 32 := 0#32
  let v68 : BitVec 1 := Scalar.cmpi .eq arg0 c0_i32_37
  let v69 : BitVec 32 := Scalar.extui v68
  let c0_i32_38 : BitVec 32 := 0#32
  let v70 : BitVec 1 := Scalar.cmpi .ne v69 c0_i32_38
  v70

def k0_cond4 (i : grid0.Coords) : BitVec 1 :=
  let arg0 : BitVec 32 := BitVec.ofNat 32 (i 0).val
  let c0_i32_39 : BitVec 32 := 0#32
  let v71 : BitVec 1 := Scalar.cmpi .sgt arg0 c0_i32_39
  let v72 : BitVec 32 := Scalar.extui v71
  let c0_i32_40 : BitVec 32 := 0#32
  let v73 : BitVec 1 := Scalar.cmpi .ne v72 c0_i32_40
  v73

def k0_cond5 (i : grid0.Coords) : BitVec 1 :=
  let arg0 : BitVec 32 := BitVec.ofNat 32 (i 0).val
  let c0_i32_70 : BitVec 32 := 0#32
  let v122 : BitVec 1 := Scalar.cmpi .eq arg0 c0_i32_70
  let v123 : BitVec 32 := Scalar.extui v122
  let c0_i32_71 : BitVec 32 := 0#32
  let v124 : BitVec 1 := Scalar.cmpi .ne v123 c0_i32_71
  v124

def k0_cond6 (i : grid0.Coords) : BitVec 1 :=
  let arg0 : BitVec 32 := BitVec.ofNat 32 (i 0).val
  let c0_i32_72 : BitVec 32 := 0#32
  let v125 : BitVec 1 := Scalar.cmpi .sgt arg0 c0_i32_72
  let v126 : BitVec 32 := Scalar.extui v125
  let c0_i32_73 : BitVec 32 := 0#32
  let v127 : BitVec 1 := Scalar.cmpi .ne v126 c0_i32_73
  v127

def k0_cond7 (i : grid0.Coords) : BitVec 1 :=
  let arg0 : BitVec 32 := BitVec.ofNat 32 (i 0).val
  let c0_i32_110 : BitVec 32 := 0#32
  let v184 : BitVec 1 := Scalar.cmpi .eq arg0 c0_i32_110
  let v185 : BitVec 32 := Scalar.extui v184
  let c0_i32_111 : BitVec 32 := 0#32
  let v186 : BitVec 1 := Scalar.cmpi .ne v185 c0_i32_111
  v186

def k0_cond8 (i : grid0.Coords) : BitVec 1 :=
  let arg0 : BitVec 32 := BitVec.ofNat 32 (i 0).val
  let c0_i32_112 : BitVec 32 := 0#32
  let v187 : BitVec 1 := Scalar.cmpi .sgt arg0 c0_i32_112
  let v188 : BitVec 32 := Scalar.extui v187
  let c0_i32_113 : BitVec 32 := 0#32
  let v189 : BitVec 1 := Scalar.cmpi .ne v188 c0_i32_113
  v189

def k0_cond9 (i : grid0.Coords) : BitVec 1 :=
  let arg0 : BitVec 32 := BitVec.ofNat 32 (i 0).val
  let c0_i32_161 : BitVec 32 := 0#32
  let v262 : BitVec 1 := Scalar.cmpi .eq arg0 c0_i32_161
  let v263 : BitVec 32 := Scalar.extui v262
  let c0_i32_162 : BitVec 32 := 0#32
  let v264 : BitVec 1 := Scalar.cmpi .ne v263 c0_i32_162
  v264

def k0_cond10 (i : grid0.Coords) : BitVec 1 :=
  let arg0 : BitVec 32 := BitVec.ofNat 32 (i 0).val
  let c0_i32_163 : BitVec 32 := 0#32
  let v265 : BitVec 1 := Scalar.cmpi .sgt arg0 c0_i32_163
  let v266 : BitVec 32 := Scalar.extui v265
  let c0_i32_164 : BitVec 32 := 0#32
  let v267 : BitVec 1 := Scalar.cmpi .ne v266 c0_i32_164
  v267

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference12Ideal.lean ====
abbrev S4096x1024 : Shape := ⟨2, ![4096, 1024]⟩
abbrev S2x4x256x256 : Shape := ⟨4, ![2, 4, 256, 256]⟩
abbrev S1x1024 : Shape := ⟨2, ![1, 1024]⟩
abbrev S1x4x256x256 : Shape := ⟨4, ![1, 4, 256, 256]⟩
abbrev S4x256x256 : Shape := ⟨3, ![4, 256, 256]⟩
abbrev S4096x4x256 : Shape := ⟨3, ![4096, 4, 256]⟩
abbrev S4x256x4096 : Shape := ⟨3, ![4, 256, 4096]⟩
abbrev S_ : Shape := ⟨0, ![]⟩
abbrev S1024 : Shape := ⟨1, ![1024]⟩
abbrev S4x4096x256 : Shape := ⟨3, ![4, 4096, 256]⟩
abbrev S4097x1024 : Shape := ⟨2, ![4097, 1024]⟩
abbrev S4096 : Shape := ⟨1, ![4096]⟩
abbrev S4096x256 : Shape := ⟨2, ![4096, 256]⟩
abbrev S1x256 : Shape := ⟨2, ![1, 256]⟩
abbrev S4095x256 : Shape := ⟨2, ![4095, 256]⟩
abbrev S4096x1 : Shape := ⟨2, ![4096, 1]⟩
abbrev S3x256 : Shape := ⟨2, ![3, 256]⟩
abbrev S4093x256 : Shape := ⟨2, ![4093, 256]⟩
abbrev S7x256 : Shape := ⟨2, ![7, 256]⟩
abbrev S4089x256 : Shape := ⟨2, ![4089, 256]⟩
abbrev S15x256 : Shape := ⟨2, ![15, 256]⟩
abbrev S4081x256 : Shape := ⟨2, ![4081, 256]⟩

abbrev nBuf : Space → Nat
  | .hbm => 158
  | .vmem => 0
  | .smem => 0
  | _ => 0

abbrev hbmTy0_0 (i : Nat) : BufTy := match i % 128 with
  | 0 => ⟨S4096x1024, .bf16⟩
  | 1 => ⟨S2x4x256x256, .bf16⟩
  | 2 => ⟨S1x1024, .f32⟩
  | 3 => ⟨S4096x1024, .f32⟩
  | 4 => ⟨S4096x1024, .f32⟩
  | 5 => ⟨S2x4x256x256, .f32⟩
  | 6 => ⟨S1x4x256x256, .f32⟩
  | 7 => ⟨S4x256x256, .f32⟩
  | 8 => ⟨S4096x4x256, .f32⟩
  | 9 => ⟨S4x256x4096, .f32⟩
  | 10 => ⟨S4096x4x256, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S1024, .f32⟩
  | 17 => ⟨S1x1024, .f32⟩
  | 18 => ⟨S4096x1024, .f32⟩
  | 19 => ⟨S4096x1024, .f32⟩
  | 20 => ⟨S4096x4x256, .f32⟩
  | 21 => ⟨S4x256x4096, .f32⟩
  | 22 => ⟨S4x4096x256, .f32⟩
  | 23 => ⟨S4096x4x256, .f32⟩
  | 24 => ⟨S4x256x256, .f32⟩
  | 25 => ⟨S4x256x256, .f32⟩
  | 26 => ⟨S4096x1024, .f32⟩
  | 27 => ⟨S_, .f32⟩
  | 28 => ⟨S4096x1024, .f32⟩
  | 29 => ⟨S_, .f32⟩
  | 30 => ⟨S_, .f32⟩
  | 31 => ⟨S4096x1024, .f32⟩
  | 32 => ⟨S_, .f32⟩
  | 33 => ⟨S1x1024, .f32⟩
  | 34 => ⟨S4097x1024, .f32⟩
  | 35 => ⟨S_, .f32⟩
  | 36 => ⟨S1x1024, .f32⟩
  | 37 => ⟨S4096, .i32⟩
  | 38 => ⟨S_, .i32⟩
  | 39 => ⟨S4096, .i32⟩
  | 40 => ⟨S4096, .i32⟩
  | 41 => ⟨S4096x256, .f32⟩
  | 42 => ⟨S_, .f32⟩
  | 43 => ⟨S1x256, .f32⟩
  | 44 => ⟨S4095x256, .f32⟩
  | 45 => ⟨S4096x256, .f32⟩
  | 46 => ⟨S_, .f32⟩
  | 47 => ⟨S1x256, .f32⟩
  | 48 => ⟨S_, .i32⟩
  | 49 => ⟨S4096, .i32⟩
  | 50 => ⟨S4096, .i32⟩
  | 51 => ⟨S4096, .f32⟩
  | 52 => ⟨S4096x1, .f32⟩
  | 53 => ⟨S4096x256, .f32⟩
  | 54 => ⟨S4096x256, .f32⟩
  | 55 => ⟨S4096x256, .f32⟩
  | 56 => ⟨S4096x256, .f32⟩
  | 57 => ⟨S_, .f32⟩
  | 58 => ⟨S3x256, .f32⟩
  | 59 => ⟨S4093x256, .f32⟩
  | 60 => ⟨S4096x256, .f32⟩
  | 61 => ⟨S_, .f32⟩
  | 62 => ⟨S3x256, .f32⟩
  | 63 => ⟨S_, .i32⟩
  | 64 => ⟨S4096, .i32⟩
  | 65 => ⟨S4096, .i32⟩
  | 66 => ⟨S4096, .f32⟩
  | 67 => ⟨S4096x1, .f32⟩
  | 68 => ⟨S4096x256, .f32⟩
  | 69 => ⟨S4096x256, .f32⟩
  | 70 => ⟨S4096x256, .f32⟩
  | 71 => ⟨S4096x256, .f32⟩
  | 72 => ⟨S_, .f32⟩
  | 73 => ⟨S7x256, .f32⟩
  | 74 => ⟨S4089x256, .f32⟩
  | 75 => ⟨S4096x256, .f32⟩
  | 76 => ⟨S_, .f32⟩
  | 77 => ⟨S7x256, .f32⟩
  | 78 => ⟨S_, .i32⟩
  | 79 => ⟨S4096, .i32⟩
  | 80 => ⟨S4096, .i32⟩
  | 81 => ⟨S4096, .f32⟩
  | 82 => ⟨S4096x1, .f32⟩
  | 83 => ⟨S4096x256, .f32⟩
  | 84 => ⟨S4096x256, .f32⟩
  | 85 => ⟨S4096x256, .f32⟩
  | 86 => ⟨S4096x256, .f32⟩
  | 87 => ⟨S_, .f32⟩
  | 88 => ⟨S15x256, .f32⟩
  | 89 => ⟨S4081x256, .f32⟩
  | 90 => ⟨S4096x256, .f32⟩
  | 91 => ⟨S_, .f32⟩
  | 92 => ⟨S15x256, .f32⟩
  | 93 => ⟨S_, .i32⟩
  | 94 => ⟨S4096, .i32⟩
  | 95 => ⟨S4096, .i32⟩
  | 96 => ⟨S4096, .f32⟩
  | 97 => ⟨S4096x1, .f32⟩
  | 98 => ⟨S4096x256, .f32⟩
  | 99 => ⟨S4096x256, .f32⟩
  | 100 => ⟨S4096x256, .f32⟩
  | 101 => ⟨S4096x1024, .f32⟩
  | 102 => ⟨S4096x1024, .f32⟩
  | 103 => ⟨S4096x1024, .f32⟩
  | 104 => ⟨S4096x256, .f32⟩
  | 105 => ⟨S4096x256, .f32⟩
  | 106 => ⟨S4096x256, .f32⟩
  | 107 => ⟨S4096x256, .f32⟩
  | 108 => ⟨S4096x256, .f32⟩
  | 109 => ⟨S4096x256, .f32⟩
  | 110 => ⟨S4096x256, .f32⟩
  | 111 => ⟨S15x256, .f32⟩
  | 112 => ⟨S4081x256, .f32⟩
  | 113 => ⟨S_, .f32⟩
  | 114 => ⟨S4097x1024, .f32⟩
  | 115 => ⟨S_, .f32⟩
  | 116 => ⟨S4097x1024, .f32⟩
  | 117 => ⟨S4097x1024, .f32⟩
  | 118 => ⟨S4096x256, .f32⟩
  | 119 => ⟨S4096x256, .f32⟩
  | 120 => ⟨S4096x256, .f32⟩
  | 121 => ⟨S7x256, .f32⟩
  | 122 => ⟨S4089x256, .f32⟩
  | 123 => ⟨S_, .f32⟩
  | 124 => ⟨S4097x1024, .f32⟩
  | 125 => ⟨S4097x1024, .f32⟩
  | 126 => ⟨S_, .f32⟩
  | 127 => ⟨S4097x1024, .f32⟩
  | _ => ⟨S4096x1024, .bf16⟩

abbrev hbmTy0_1 (i : Nat) : BufTy := match i % 128 with
  | 0 => ⟨S4097x1024, .f32⟩
  | 1 => ⟨S4096x256, .f32⟩
  | 2 => ⟨S4096x256, .f32⟩
  | 3 => ⟨S4096x256, .f32⟩
  | 4 => ⟨S3x256, .f32⟩
  | 5 => ⟨S4093x256, .f32⟩
  | 6 => ⟨S_, .f32⟩
  | 7 => ⟨S4097x1024, .f32⟩
  | 8 => ⟨S4097x1024, .f32⟩
  | 9 => ⟨S_, .f32⟩
  | 10 => ⟨S4097x1024, .f32⟩
  | 11 => ⟨S4097x1024, .f32⟩
  | 12 => ⟨S4096x256, .f32⟩
  | 13 => ⟨S4096x256, .f32⟩
  | 14 => ⟨S4096x256, .f32⟩
  | 15 => ⟨S1x256, .f32⟩
  | 16 => ⟨S4095x256, .f32⟩
  | 17 => ⟨S_, .f32⟩
  | 18 => ⟨S4097x1024, .f32⟩
  | 19 => ⟨S4097x1024, .f32⟩
  | 20 => ⟨S_, .f32⟩
  | 21 => ⟨S4097x1024, .f32⟩
  | 22 => ⟨S4097x1024, .f32⟩
  | 23 => ⟨S1x1024, .f32⟩
  | 24 => ⟨S4096x1024, .f32⟩
  | 25 => ⟨S_, .f32⟩
  | 26 => ⟨S_, .f32⟩
  | 27 => ⟨S4096x1024, .f32⟩
  | 28 => ⟨S4096x1024, .f32⟩
  | 29 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_call0_call0_cst : Ref sig .tc := ⟨.hbm, 29, rfl⟩
abbrev main_call0_call0_v0 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_cst_16 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_17 : Ref sig .tc := ⟨.hbm, 123, rfl⟩
abbrev main_v98 : Ref sig .tc := ⟨.hbm, 124, rfl⟩
abbrev main_v99 : Ref sig .tc := ⟨.hbm, 125, rfl⟩
abbrev main_cst_18 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_19 : Ref sig .tc := ⟨.hbm, 134, rfl⟩
abbrev main_v107 : Ref sig .tc := ⟨.hbm, 135, rfl⟩
abbrev main_v108 : Ref sig .tc := ⟨.hbm, 136, rfl⟩
abbrev main_cst_20 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_21 : Ref sig .tc := ⟨.hbm, 145, rfl⟩
abbrev main_v116 : Ref sig .tc := ⟨.hbm, 146, rfl⟩
abbrev main_v117 : Ref sig .tc := ⟨.hbm, 147, rfl⟩
abbrev main_cst_22 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_call1_call0_cst : Ref sig .tc := ⟨.hbm, 153, rfl⟩
abbrev main_call1_call0_v0 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩

abbrev nD : Nat := 1
abbrev τ : Topo := Topo.v7x

variable {F : FTy → Type} [FloatOps F]
-- ==== Kernel13.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S256x2048, .f32⟩
  | .hbm, ⟨3, _⟩ => ⟨S256x1024, .f32⟩
  | .hbm, ⟨4, _⟩ => ⟨S256x1024, .f32⟩
  | .hbm, ⟨5, _⟩ => ⟨S4096x1024, .f32⟩
  | .hbm, ⟨6, _⟩ => ⟨S4096x4x256, .f32⟩
  | .hbm, ⟨7, _⟩ => ⟨S256x4x256, .f32⟩
  | .hbm, ⟨8, _⟩ => ⟨S4x4096x256, .f32⟩
  | .hbm, ⟨9, _⟩ => ⟨S_, .f32⟩
  | .hbm, ⟨10, _⟩ => ⟨S4x4096x256, .f32⟩
  | .hbm, ⟨11, _⟩ => ⟨S4x4096x256, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .f32⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x256, .f32⟩
  | .hbm, ⟨25, _⟩ => ⟨S4x4096x256, .f32⟩
  | .hbm, ⟨26, _⟩ => ⟨S256x4x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x128, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_6 : BitVec 32 := 0#32
  let v16 : BitVec 1 := Scalar.cmpi .ne v15 c0_i32_6
  v16

def k0_cond2 (i : grid0.Coords) : BitVec 1 :=
  let arg0 : BitVec 32 := BitVec.ofNat 32 (i 0).val
  let c0_i32_7 : BitVec 32 := 0#32
  let v17 : BitVec 1 := Scalar.cmpi .sgt arg0 c0_i32_7
  let v18 : BitVec 32 := Scalar.extui v17
  let c0_i32_8 : BitVec 32 := 0#32
  let v19 : BitVec 1 := Scalar.cmpi .ne v18 c0_i32_8
  v19

def k0_cond3 (i : grid0.Coords) : BitVec 1 :=
  let arg0 : BitVec 32 := BitVec.ofNat 32 (i 0).val
  let c0_i32_25 : BitVec 32 := 0#32
  let v54 : BitVec 1 := Scalar.cmpi .eq arg0 c0_i32_25
  let v55 : BitVec 32 := Scalar.extui v54
  let c0_i32_26 : BitVec 32 := 0#32
  let v56 : BitVec 1 := Scalar.cmpi .ne v55 c0_i32_26
  v56

def k0_cond4 (i : grid0.Coords) : BitVec 1 :=
  let arg0 : BitVec 32 := BitVec.ofNat 32 (i 0).val
  let c0_i32_27 : BitVec 32 := 0#32
  let v57 : BitVec 1 := Scalar.cmpi .sgt arg0 c0_i32_27
  let v58 : BitVec 32 := Scalar.extui v57
  let c0_i32_28 : BitVec 32 := 0#32
  let v59 : BitVec 1 := Scalar.cmpi .ne v58 c0_i32_28
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference14Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .bf16⟩
  | .hbm, ⟨76, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_cst_8 : Ref sig .tc := ⟨.hbm, 31, rfl⟩
abbrev main_v18 : Ref sig .tc := ⟨.hbm, 32, rfl⟩
abbrev main_v19 : Ref sig .tc := ⟨.hbm, 33, rfl⟩
abbrev main_cst_9 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_10 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_11 : Ref sig .tc := ⟨.hbm, 46, rfl⟩
abbrev main_v30 : Ref sig .tc := ⟨.hbm, 47, rfl⟩
abbrev main_v31 : Ref sig .tc := ⟨.hbm, 48, rfl⟩
abbrev main_cst_12 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_13 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_14 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_cst_16 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference16Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel17.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference17Ideal.lean ====
abbrev S256x1024 : Shape := ⟨2, ![256, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel18.lean ====
abbrev S4096x1408 : Shape := ⟨2, ![4096, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2816x1024 : Shape := ⟨2, ![2816, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x512 : Shape := ⟨2, ![2048, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4096x512 : Shape := ⟨2, ![4096, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S4096x512 : Shape := ⟨2, ![4096, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S1432x128 : Shape := ⟨2, ![1432, 128]⟩

abbrev nBuf : Space → Nat
  | .hbm => 7
  | .vmem => 7
  | .smem => 0
  | _ => 0

abbrev bufTy : (tb : Table) → Fin (tcTables nBuf tb) → BufTy
  | .hbm, ⟨0, _⟩ => ⟨S1432x128, .f32⟩
  | .hbm, ⟨1, _⟩ => ⟨S1432x128, .f32⟩
  | .hbm, ⟨2, _⟩ => ⟨S1432x128, .f32⟩
  | .hbm, ⟨3, _⟩ => ⟨S1432x128, .f32⟩
  | .hbm, ⟨4, _⟩ => ⟨S1432x128, .f32⟩
  | .hbm, ⟨5, _⟩ => ⟨S1432x128, .f32⟩
  | .hbm, ⟨6, _⟩ => ⟨S1432x128, .f32⟩
  | .local _ .vmem, ⟨0, _⟩ => ⟨S1432x128, .f32⟩
  | .local _ .vmem, ⟨1, _⟩ => ⟨S1432x128, .f32⟩
  | .local _ .vmem, ⟨2, _⟩ => ⟨S1432x128, .f32⟩
  | .local _ .vmem, ⟨3, _⟩ => ⟨S1432x128, .f32⟩
  | .local _ .vmem, ⟨4, _⟩ => ⟨S1432x128, .f32⟩
  | .local _ .vmem, ⟨5, _⟩ => ⟨S1432x128, .f32⟩
  | .local _ .vmem, ⟨6, _⟩ => ⟨S1432x128, .f32⟩
  | _, _ => ⟨S1432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1432x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1432x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1432x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1432x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1432x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1432x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1432x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S1432x128 : Shape := ⟨2, ![1432, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1432x128, .f32⟩
  | .hbm, ⟨1, _⟩ => ⟨S1432x128, .f32⟩
  | .hbm, ⟨2, _⟩ => ⟨S1432x128, .f32⟩
  | .hbm, ⟨3, _⟩ => ⟨S1432x128, .f32⟩
  | .hbm, ⟨4, _⟩ => ⟨S_, .f32⟩
  | .hbm, ⟨5, _⟩ => ⟨S1432x128, .f32⟩
  | .hbm, ⟨6, _⟩ => ⟨S1432x128, .f32⟩
  | .hbm, ⟨7, _⟩ => ⟨S_, .f32⟩
  | .hbm, ⟨8, _⟩ => ⟨S1432x128, .f32⟩
  | .hbm, ⟨9, _⟩ => ⟨S1432x128, .f32⟩
  | .hbm, ⟨10, _⟩ => ⟨S1432x128, .f32⟩
  | .hbm, ⟨11, _⟩ => ⟨S_, .f32⟩
  | .hbm, ⟨12, _⟩ => ⟨S1432x128, .f32⟩
  | .hbm, ⟨13, _⟩ => ⟨S1432x128, .f32⟩
  | .hbm, ⟨14, _⟩ => ⟨S1432x128, .f32⟩
  | .hbm, ⟨15, _⟩ => ⟨S_, .f32⟩
  | .hbm, ⟨16, _⟩ => ⟨S1432x128, .f32⟩
  | .hbm, ⟨17, _⟩ => ⟨S1432x128, .f32⟩
  | .hbm, ⟨18, _⟩ => ⟨S1432x128, .f32⟩
  | .hbm, ⟨19, _⟩ => ⟨S_, .f32⟩
  | .hbm, ⟨20, _⟩ => ⟨S1432x128, .f32⟩
  | .hbm, ⟨21, _⟩ => ⟨S1432x128, .f32⟩
  | .hbm, ⟨22, _⟩ => ⟨S_, .f32⟩
  | .hbm, ⟨23, _⟩ => ⟨S1432x128, .f32⟩
  | .hbm, ⟨24, _⟩ => ⟨S1432x128, .f32⟩
  | .hbm, ⟨25, _⟩ => ⟨S1432x128, .f32⟩
  | .hbm, ⟨26, _⟩ => ⟨S_, .f32⟩
  | .hbm, ⟨27, _⟩ => ⟨S1432x128, .f32⟩
  | .hbm, ⟨28, _⟩ => ⟨S1432x128, .f32⟩
  | .hbm, ⟨29, _⟩ => ⟨S1432x128, .f32⟩
  | .hbm, ⟨30, _⟩ => ⟨S_, .f32⟩
  | .hbm, ⟨31, _⟩ => ⟨S1432x128, .f32⟩
  | .hbm, ⟨32, _⟩ => ⟨S1432x128, .f32⟩
  | .hbm, ⟨33, _⟩ => ⟨S1432x128, .f32⟩
  | .hbm, ⟨34, _⟩ => ⟨S_, .f32⟩
  | .hbm, ⟨35, _⟩ => ⟨S1432x128, .f32⟩
  | .hbm, ⟨36, _⟩ => ⟨S1432x128, .f32⟩
  | _, _ => ⟨S1432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S4096x1024 : Shape := ⟨2, ![4096, 1024]⟩
abbrev S2x1024x1024 : Shape := ⟨3, ![2, 1024, 1024]⟩
abbrev S1x1024 : Shape := ⟨2, ![1, 1024]⟩
abbrev S512x1024 : Shape := ⟨2, ![512, 1024]⟩
abbrev S1x1024x1024 : Shape := ⟨3, ![1, 1024, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v132 : BitVec 1 := Scalar.cmpi .eq arg0 c0_i32
  let v133 : BitVec 32 := Scalar.extui v132
  let c0_i32_63 : BitVec 32 := 0#32
  let v134 : BitVec 1 := Scalar.cmpi .ne v133 c0_i32_63
  v134

def k0_cond2 (i : grid0.Coords) : BitVec 1 :=
  let arg0 : BitVec 32 := BitVec.ofNat 32 (i 0).val
  let c0_i32_64 : BitVec 32 := 0#32
  let v135 : BitVec 1 := Scalar.cmpi .sgt arg0 c0_i32_64
  let v136 : BitVec 32 := Scalar.extui v135
  let c0_i32_65 : BitVec 32 := 0#32
  let v137 : BitVec 1 := Scalar.cmpi .ne v136 c0_i32_65
  v137

def k0_cond3 (i : grid0.Coords) : BitVec 1 :=
  let arg0 : BitVec 32 := BitVec.ofNat 32 (i 0).val
  let c0_i32_66 : BitVec 32 := 0#32
  let v138 : BitVec 1 := Scalar.cmpi .eq arg0 c0_i32_66
  let v139 : BitVec 32 := Scalar.extui v138
  let c0_i32_67 : BitVec 32 := 0#32
  let v140 : BitVec 1 := Scalar.cmpi .ne v139 c0_i32_67
  v140

def k0_cond4 (i : grid0.Coords) : BitVec 1 :=
  let arg0 : BitVec 32 := BitVec.ofNat 32 (i 0).val
  let c0_i32_68 : BitVec 32 := 0#32
  let v141 : BitVec 1 := Scalar.cmpi .sgt arg0 c0_i32_68
  let v142 : BitVec 32 := Scalar.extui v141
  let c0_i32_69 : BitVec 32 := 0#32
  let v143 : BitVec 1 := Scalar.cmpi .ne v142 c0_i32_69
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference29Ideal.lean ====
abbrev S4096x1024 : Shape := ⟨2, ![4096, 1024]⟩
abbrev S2x1024x1024 : Shape := ⟨3, ![2, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S2x1024x1024, .f32⟩
  | .hbm, ⟨9, _⟩ => ⟨S1x1024x1024, .f32⟩
  | .hbm, ⟨10, _⟩ => ⟨S1024x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel30.lean ====
abbrev S4096x2048 : Shape := ⟨2, ![4096, 2048]⟩
abbrev S2x1024x2048 : Shape := ⟨3, ![2, 1024, 2048]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S1x1024x2048 : Shape := ⟨3, ![1, 1024, 2048]⟩
abbrev S256x2048 : Shape := ⟨2, ![256, 2048]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S2x1024x2048, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x2048, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v132 : BitVec 1 := Scalar.cmpi .eq arg0 c0_i32
  let v133 : BitVec 32 := Scalar.extui v132
  let c0_i32_63 : BitVec 32 := 0#32
  let v134 : BitVec 1 := Scalar.cmpi .ne v133 c0_i32_63
  v134

def k0_cond2 (i : grid0.Coords) : BitVec 1 :=
  let arg0 : BitVec 32 := BitVec.ofNat 32 (i 0).val
  let c0_i32_64 : BitVec 32 := 0#32
  let v135 : BitVec 1 := Scalar.cmpi .sgt arg0 c0_i32_64
  let v136 : BitVec 32 := Scalar.extui v135
  let c0_i32_65 : BitVec 32 := 0#32
  let v137 : BitVec 1 := Scalar.cmpi .ne v136 c0_i32_65
  v137

def k0_cond3 (i : grid0.Coords) : BitVec 1 :=
  let arg0 : BitVec 32 := BitVec.ofNat 32 (i 0).val
  let c0_i32_66 : BitVec 32 := 0#32
  let v138 : BitVec 1 := Scalar.cmpi .eq arg0 c0_i32_66
  let v139 : BitVec 32 := Scalar.extui v138
  let c0_i32_67 : BitVec 32 := 0#32
  let v140 : BitVec 1 := Scalar.cmpi .ne v139 c0_i32_67
  v140

def k0_cond4 (i : grid0.Coords) : BitVec 1 :=
  let arg0 : BitVec 32 := BitVec.ofNat 32 (i 0).val
  let c0_i32_68 : BitVec 32 := 0#32
  let v141 : BitVec 1 := Scalar.cmpi .sgt arg0 c0_i32_68
  let v142 : BitVec 32 := Scalar.extui v141
  let c0_i32_69 : BitVec 32 := 0#32
  let v143 : BitVec 1 := Scalar.cmpi .ne v142 c0_i32_69
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference30Ideal.lean ====
abbrev S4096x2048 : Shape := ⟨2, ![4096, 2048]⟩
abbrev S2x1024x2048 : Shape := ⟨3, ![2, 1024, 2048]⟩
abbrev S4096x1024 : Shape := ⟨2, ![4096, 1024]⟩
abbrev S1x1024 : Shape := ⟨2, ![1, 1024]⟩
abbrev S1x1024x2048 : Shape := ⟨3, ![1, 1024, 2048]⟩
abbrev S1024x2048 : Shape := ⟨2, ![1024, 2048]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x1024x2048, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x2048, .f32⟩
  | .hbm, ⟨8, _⟩ => ⟨S2x1024x2048, .f32⟩
  | .hbm, ⟨9, _⟩ => ⟨S1x1024x2048, .f32⟩
  | .hbm, ⟨10, _⟩ => ⟨S1024x2048, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel31.lean ====
abbrev S4096x1024 : Shape := ⟨2, ![4096, 1024]⟩
abbrev S4x1024x1024 : Shape := ⟨3, ![4, 1024, 1024]⟩
abbrev S1x1024 : Shape := ⟨2, ![1, 1024]⟩
abbrev S512x1024 : Shape := ⟨2, ![512, 1024]⟩
abbrev S1x1024x1024 : Shape := ⟨3, ![1, 1024, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v132 : BitVec 1 := Scalar.cmpi .eq arg0 c0_i32
  let v133 : BitVec 32 := Scalar.extui v132
  let c0_i32_63 : BitVec 32 := 0#32
  let v134 : BitVec 1 := Scalar.cmpi .ne v133 c0_i32_63
  v134

def k0_cond2 (i : grid0.Coords) : BitVec 1 :=
  let arg0 : BitVec 32 := BitVec.ofNat 32 (i 0).val
  let c0_i32_64 : BitVec 32 := 0#32
  let v135 : BitVec 1 := Scalar.cmpi .sgt arg0 c0_i32_64
  let v136 : BitVec 32 := Scalar.extui v135
  let c0_i32_65 : BitVec 32 := 0#32
  let v137 : BitVec 1 := Scalar.cmpi .ne v136 c0_i32_65
  v137

def k0_cond3 (i : grid0.Coords) : BitVec 1 :=
  let arg0 : BitVec 32 := BitVec.ofNat 32 (i 0).val
  let c0_i32_66 : BitVec 32 := 0#32
  let v138 : BitVec 1 := Scalar.cmpi .eq arg0 c0_i32_66
  let v139 : BitVec 32 := Scalar.extui v138
  let c0_i32_67 : BitVec 32 := 0#32
  let v140 : BitVec 1 := Scalar.cmpi .ne v139 c0_i32_67
  v140

def k0_cond4 (i : grid0.Coords) : BitVec 1 :=
  let arg0 : BitVec 32 := BitVec.ofNat 32 (i 0).val
  let c0_i32_68 : BitVec 32 := 0#32
  let v141 : BitVec 1 := Scalar.cmpi .sgt arg0 c0_i32_68
  let v142 : BitVec 32 := Scalar.extui v141
  let c0_i32_69 : BitVec 32 := 0#32
  let v143 : BitVec 1 := Scalar.cmpi .ne v142 c0_i32_69
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference31Ideal.lean ====
abbrev S4096x1024 : Shape := ⟨2, ![4096, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4x1024x1024, .f32⟩
  | .hbm, ⟨9, _⟩ => ⟨S1x1024x1024, .f32⟩
  | .hbm, ⟨10, _⟩ => ⟨S1024x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel32.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S1x1024x5632 : Shape := ⟨3, ![1, 1024, 5632]⟩
abbrev S256x5632 : Shape := ⟨2, ![256, 5632]⟩
abbrev S1024x5632 : Shape := ⟨2, ![1024, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x5632, .bf16⟩
  | .hbm, ⟨1, _⟩ => ⟨S4x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024x5632, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v132 : BitVec 1 := Scalar.cmpi .eq arg0 c0_i32
  let v133 : BitVec 32 := Scalar.extui v132
  let c0_i32_63 : BitVec 32 := 0#32
  let v134 : BitVec 1 := Scalar.cmpi .ne v133 c0_i32_63
  v134

def k0_cond2 (i : grid0.Coords) : BitVec 1 :=
  let arg0 : BitVec 32 := BitVec.ofNat 32 (i 0).val
  let c0_i32_64 : BitVec 32 := 0#32
  let v135 : BitVec 1 := Scalar.cmpi .sgt arg0 c0_i32_64
  let v136 : BitVec 32 := Scalar.extui v135
  let c0_i32_65 : BitVec 32 := 0#32
  let v137 : BitVec 1 := Scalar.cmpi .ne v136 c0_i32_65
  v137

def k0_cond3 (i : grid0.Coords) : BitVec 1 :=
  let arg0 : BitVec 32 := BitVec.ofNat 32 (i 0).val
  let c0_i32_66 : BitVec 32 := 0#32
  let v138 : BitVec 1 := Scalar.cmpi .eq arg0 c0_i32_66
  let v139 : BitVec 32 := Scalar.extui v138
  let c0_i32_67 : BitVec 32 := 0#32
  let v140 : BitVec 1 := Scalar.cmpi .ne v139 c0_i32_67
  v140

def k0_cond4 (i : grid0.Coords) : BitVec 1 :=
  let arg0 : BitVec 32 := BitVec.ofNat 32 (i 0).val
  let c0_i32_68 : BitVec 32 := 0#32
  let v141 : BitVec 1 := Scalar.cmpi .sgt arg0 c0_i32_68
  let v142 : BitVec 32 := Scalar.extui v141
  let c0_i32_69 : BitVec 32 := 0#32
  let v143 : BitVec 1 := Scalar.cmpi .ne v142 c0_i32_69
  v143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference32Ideal.lean ====
abbrev S4096x5632 : Shape := ⟨2, ![4096, 5632]⟩
abbrev S4x1024x5632 : Shape := ⟨3, ![4, 1024, 5632]⟩
abbrev S4096x1024 : Shape := ⟨2, ![4096, 1024]⟩
abbrev S1x1024 : Shape := ⟨2, ![1, 1024]⟩
abbrev S1x1024x5632 : Shape := ⟨3, ![1, 1024, 5632]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x5632, .f32⟩
  | .hbm, ⟨8, _⟩ => ⟨S4x1024x5632, .f32⟩
  | .hbm, ⟨9, _⟩ => ⟨S1x1024x5632, .f32⟩
  | .hbm, ⟨10, _⟩ => ⟨S1024x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel33.lean ====
abbrev S256x1024 : Shape := ⟨2, ![256, 1024]⟩
abbrev S4x1024x2048 : Shape := ⟨3, ![4, 1024, 2048]⟩
abbrev S256x2048 : Shape := ⟨2, ![256, 2048]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S4x1024x2048, .bf16⟩
  | .hbm, ⟨2, _⟩ => ⟨S256x2048, .bf16⟩
  | .local _ .vmem, ⟨0, _⟩ => ⟨S256x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S256x1024, .bf16⟩
  | .local _ .vmem, ⟨4, _⟩ => ⟨S256x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference33Ideal.lean ====
abbrev S256x1024 : Shape := ⟨2, ![256, 1024]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x1024x2048, .bf16⟩
  | .hbm, ⟨2, _⟩ => ⟨S256x1024, .f32⟩
  | .hbm, ⟨3, _⟩ => ⟨S4x1024x2048, .f32⟩
  | .hbm, ⟨4, _⟩ => ⟨S1x1024x2048, .f32⟩
  | .hbm, ⟨5, _⟩ => ⟨S1024x2048, .f32⟩
  | .hbm, ⟨6, _⟩ => ⟨S256x2048, .f32⟩
  | .hbm, ⟨7, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel34.lean ====
abbrev S4096x1024 : Shape := ⟨2, ![4096, 1024]⟩
abbrev S2x1024x2048 : Shape := ⟨3, ![2, 1024, 2048]⟩
abbrev S4096x2048 : Shape := ⟨2, ![4096, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024x2048, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference34Ideal.lean ====
abbrev S4096x1024 : Shape := ⟨2, ![4096, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x2048, .bf16⟩
  | .hbm, ⟨2, _⟩ => ⟨S4096x1024, .f32⟩
  | .hbm, ⟨3, _⟩ => ⟨S2x1024x2048, .f32⟩
  | .hbm, ⟨4, _⟩ => ⟨S1x1024x2048, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel35.lean ====
abbrev S4096x1024 : Shape := ⟨2, ![4096, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference35Ideal.lean ====
abbrev S4096x1024 : Shape := ⟨2, ![4096, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S2x1024x1024, .f32⟩
  | .hbm, ⟨4, _⟩ => ⟨S1x1024x1024, .f32⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel36.lean ====
abbrev S256x2048 : Shape := ⟨2, ![256, 2048]⟩
abbrev S4x1024x2048 : Shape := ⟨3, ![4, 1024, 2048]⟩
abbrev S256x1024 : Shape := ⟨2, ![256, 1024]⟩
abbrev S1x1024x2048 : Shape := ⟨3, ![1, 1024, 2048]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S4x1024x2048, .bf16⟩
  | .hbm, ⟨2, _⟩ => ⟨S256x1024, .f32⟩
  | .local _ .vmem, ⟨0, _⟩ => ⟨S256x2048, .bf16⟩
  | .local _ .vmem, ⟨1, _⟩ => ⟨S1x1024x2048, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference36Ideal.lean ====
abbrev S256x2048 : Shape := ⟨2, ![256, 2048]⟩
abbrev S4x1024x2048 : Shape := ⟨3, ![4, 1024, 2048]⟩
abbrev S1x1024x2048 : Shape := ⟨3, ![1, 1024, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x1024x2048, .bf16⟩
  | .hbm, ⟨2, _⟩ => ⟨S4x1024x2048, .f32⟩
  | .hbm, ⟨3, _⟩ => ⟨S1x1024x2048, .f32⟩
  | .hbm, ⟨4, _⟩ => ⟨S1024x2048, .f32⟩
  | .hbm, ⟨5, _⟩ => ⟨S_, .f32⟩
  | .hbm, ⟨6, _⟩ => ⟨S256x1024, .f32⟩
  | .hbm, ⟨7, _⟩ => ⟨S256x2048, .f32⟩
  | .hbm, ⟨8, _⟩ => ⟨S256x2048, .f32⟩
  | .hbm, ⟨9, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel37.lean ====
abbrev S4096x1024 : Shape := ⟨2, ![4096, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference37Ideal.lean ====
abbrev S4096x1024 : Shape := ⟨2, ![4096, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S2x1024x1024, .f32⟩
  | .hbm, ⟨3, _⟩ => ⟨S1x1024x1024, .f32⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel38.lean ====
abbrev S4096x1024 : Shape := ⟨2, ![4096, 1024]⟩
abbrev S4x1024x1024 : Shape := ⟨3, ![4, 1024, 1024]⟩
abbrev S1x1024 : Shape := ⟨2, ![1, 1024]⟩
abbrev S512x1024 : Shape := ⟨2, ![512, 1024]⟩
abbrev S1x1024x1024 : Shape := ⟨3, ![1, 1024, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4x1024x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference38Ideal.lean ====
abbrev S4096x1024 : Shape := ⟨2, ![4096, 1024]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4x1024x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4x1024x1024, .f32⟩
  | .hbm, ⟨7, _⟩ => ⟨S1x1024x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel39.lean ====
abbrev S4096x1024 : Shape := ⟨2, ![4096, 1024]⟩
abbrev S2x1024x1024 : Shape := ⟨3, ![2, 1024, 1024]⟩
abbrev S1x1024 : Shape := ⟨2, ![1, 1024]⟩
abbrev S512x1024 : Shape := ⟨2, ![512, 1024]⟩
abbrev S1x1024x1024 : Shape := ⟨3, ![1, 1024, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S2x1024x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference39Ideal.lean ====
abbrev S4096x1024 : Shape := ⟨2, ![4096, 1024]⟩
abbrev S2x1024x1024 : Shape := ⟨3, ![2, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S2x1024x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S2x1024x1024, .f32⟩
  | .hbm, ⟨7, _⟩ => ⟨S1x1024x1024, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel40.lean ====
abbrev S4096x1024 : Shape := ⟨2, ![4096, 1024]⟩
abbrev S4096x2816 : Shape := ⟨2, ![4096, 2816]⟩
abbrev S4x2816x1024 : Shape := ⟨3, ![4, 2816, 1024]⟩
abbrev S1x1024 : Shape := ⟨2, ![1, 1024]⟩
abbrev S512x1024 : Shape := ⟨2, ![512, 1024]⟩
abbrev S512x2816 : Shape := ⟨2, ![512, 2816]⟩
abbrev S1x2816x1024 : Shape := ⟨3, ![1, 2816, 1024]⟩
abbrev S256x2816 : Shape := ⟨2, ![256, 2816]⟩
abbrev S2816x1024 : Shape := ⟨2, ![2816, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4x2816x1024, .bf16⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference40Ideal.lean ====
abbrev S4096x1024 : Shape := ⟨2, ![4096, 1024]⟩
abbrev S4096x2816 : Shape := ⟨2, ![4096, 2816]⟩
abbrev S4x2816x1024 : Shape := ⟨3, ![4, 2816, 1024]⟩
abbrev S1x1024 : Shape := ⟨2, ![1, 1024]⟩
abbrev S1x2816x1024 : Shape := ⟨3, ![1, 2816, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4x2816x1024, .bf16⟩
  | .hbm, ⟨3, _⟩ => ⟨S1x1024, .f32⟩
  | .hbm, ⟨4, _⟩ => ⟨S4096x2816, .f32⟩
  | .hbm, ⟨5, _⟩ => ⟨S4x2816x1024, .f32⟩
  | .hbm, ⟨6, _⟩ => ⟨S1x2816x1024, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel41.lean ====
abbrev S4096x1024 : Shape := ⟨2, ![4096, 1024]⟩
abbrev S4x1024x1024 : Shape := ⟨3, ![4, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S4x1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference41Ideal.lean ====
abbrev S4096x1024 : Shape := ⟨2, ![4096, 1024]⟩
abbrev S4x1024x1024 : Shape := ⟨3, ![4, 1024, 1024]⟩
abbrev S_ : Shape := ⟨0, ![]⟩
abbrev S1024x1024 : Shape := ⟨2, ![1024, 1024]⟩
abbrev S1x1024x1024 : Shape := ⟨3, ![1, 1024, 1024]⟩
abbrev S2x1024x1024 : Shape := ⟨3, ![2, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | .hbm, ⟨12, _⟩ => ⟨S1x1024x1024, .bf16⟩
  | .hbm, ⟨13, _⟩ => ⟨S2x1024x1024, .bf16⟩
  | .hbm, ⟨14, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel42.lean ====
abbrev S256x1024 : Shape := ⟨2, ![256, 1024]⟩
abbrev S256x2048 : Shape := ⟨2, ![256, 2048]⟩
abbrev S4x1024x2048 : Shape := ⟨3, ![4, 1024, 2048]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S4x1024x2048, .bf16⟩
  | .hbm, ⟨3, _⟩ => ⟨S4x1024x2048, .bf16⟩
  | .local _ .vmem, ⟨0, _⟩ => ⟨S256x1024, .bf16⟩
  | .local _ .vmem, ⟨1, _⟩ => ⟨S256x512, .bf16⟩
  | .local _ .vmem, ⟨2, _⟩ => ⟨S256x512, .bf16⟩
  | .local _ .vmem, ⟨3, _⟩ => ⟨S1x1024x512, .bf16⟩
  | .local _ .vmem, ⟨4, _⟩ => ⟨S1x1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference42Ideal.lean ====
abbrev S256x1024 : Shape := ⟨2, ![256, 1024]⟩
abbrev S256x2048 : Shape := ⟨2, ![256, 2048]⟩
abbrev S4x1024x2048 : Shape := ⟨3, ![4, 1024, 2048]⟩
abbrev S_ : Shape := ⟨0, ![]⟩
abbrev S1024x2048 : Shape := ⟨2, ![1024, 2048]⟩
abbrev S2048x1024 : Shape := ⟨2, ![2048, 1024]⟩
abbrev S1x1024x2048 : Shape := ⟨3, ![1, 1024, 2048]⟩
abbrev S2x1024x2048 : Shape := ⟨3, ![2, 1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S4x1024x2048, .bf16⟩
  | .hbm, ⟨3, _⟩ => ⟨S_, .f32⟩
  | .hbm, ⟨4, _⟩ => ⟨S1024x2048, .f32⟩
  | .hbm, ⟨5, _⟩ => ⟨S256x1024, .f32⟩
  | .hbm, ⟨6, _⟩ => ⟨S256x2048, .f32⟩
  | .hbm, ⟨7, _⟩ => ⟨S256x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | .hbm, ⟨11, _⟩ => ⟨S1x1024x2048, .bf16⟩
  | .hbm, ⟨12, _⟩ => ⟨S1x1024x2048, .bf16⟩
  | .hbm, ⟨13, _⟩ => ⟨S2x1024x2048, .bf16⟩
  | .hbm, ⟨14, _⟩ => ⟨S4x1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel43.lean ====
abbrev S4096x1024 : Shape := ⟨2, ![4096, 1024]⟩
abbrev S4096x2048 : Shape := ⟨2, ![4096, 2048]⟩
abbrev S2x1024x2048 : Shape := ⟨3, ![2, 1024, 2048]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x1024x2048, .bf16⟩
  | .hbm, ⟨3, _⟩ => ⟨S2x1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference43Ideal.lean ====
abbrev S4096x1024 : Shape := ⟨2, ![4096, 1024]⟩
abbrev S4096x2048 : Shape := ⟨2, ![4096, 2048]⟩
abbrev S2x1024x2048 : Shape := ⟨3, ![2, 1024, 2048]⟩
abbrev S_ : Shape := ⟨0, ![]⟩
abbrev S1024x2048 : Shape := ⟨2, ![1024, 2048]⟩
abbrev S2048x1024 : Shape := ⟨2, ![2048, 1024]⟩
abbrev S0x1024x2048 : Shape := ⟨3, ![0, 1024, 2048]⟩
abbrev S1x1024x2048 : Shape := ⟨3, ![1, 1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x1024x2048, .bf16⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | .hbm, ⟨11, _⟩ => ⟨S0x1024x2048, .bf16⟩
  | .hbm, ⟨12, _⟩ => ⟨S1x1024x2048, .bf16⟩
  | .hbm, ⟨13, _⟩ => ⟨S1x1024x2048, .bf16⟩
  | .hbm, ⟨14, _⟩ => ⟨S2x1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel44.lean ====
abbrev S4096x1024 : Shape := ⟨2, ![4096, 1024]⟩
abbrev S2x1024x1024 : Shape := ⟨3, ![2, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x1024, .bf16⟩
  | .hbm, ⟨3, _⟩ => ⟨S2x1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference44Ideal.lean ====
abbrev S4096x1024 : Shape := ⟨2, ![4096, 1024]⟩
abbrev S2x1024x1024 : Shape := ⟨3, ![2, 1024, 1024]⟩
abbrev S_ : Shape := ⟨0, ![]⟩
abbrev S1024x1024 : Shape := ⟨2, ![1024, 1024]⟩
abbrev S0x1024x1024 : Shape := ⟨3, ![0, 1024, 1024]⟩
abbrev S1x1024x1024 : Shape := ⟨3, ![1, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S0x1024x1024, .bf16⟩
  | .hbm, ⟨12, _⟩ => ⟨S1x1024x1024, .bf16⟩
  | .hbm, ⟨13, _⟩ => ⟨S1x1024x1024, .bf16⟩
  | .hbm, ⟨14, _⟩ => ⟨S2x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel45.lean ====
abbrev S8x1432x128 : Shape := ⟨3, ![8, 1432, 128]⟩
abbrev S1432x128 : Shape := ⟨2, ![1432, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1432x128, .f32⟩
  | .hbm, ⟨1, _⟩ => ⟨S1432x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | _, _ => ⟨S8x1432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![179], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference45Ideal.lean ====
abbrev S8x1432x128 : Shape := ⟨3, ![8, 1432, 128]⟩
abbrev S_ : Shape := ⟨0, ![]⟩
abbrev S1432x128 : Shape := ⟨2, ![1432, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1432x128, .f32⟩
  | .hbm, ⟨1, _⟩ => ⟨S_, .f32⟩
  | .hbm, ⟨2, _⟩ => ⟨S1432x128, .f32⟩
  | _, _ => ⟨S8x1432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel46.lean ====
abbrev S4096x1024 : Shape := ⟨2, ![4096, 1024]⟩
abbrev S2x1024x1024 : Shape := ⟨3, ![2, 1024, 1024]⟩
abbrev S4096x512 : Shape := ⟨2, ![4096, 512]⟩
abbrev S1x1024x512 : Shape := ⟨3, ![1, 1024, 512]⟩
abbrev S1024x512 : Shape := ⟨2, ![1024, 512]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x1024x1024, .bf16⟩
  | .hbm, ⟨3, _⟩ => ⟨S1x1024x1024, .bf16⟩
  | .hbm, ⟨4, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference46Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel47.lean ====
abbrev S4096x1024 : Shape := ⟨2, ![4096, 1024]⟩
abbrev S4096x5632 : Shape := ⟨2, ![4096, 5632]⟩
abbrev S4x1024x5632 : Shape := ⟨3, ![4, 1024, 5632]⟩
abbrev S4096x512 : Shape := ⟨2, ![4096, 512]⟩
abbrev S1x1024x512 : Shape := ⟨3, ![1, 1024, 512]⟩
abbrev S1024x512 : Shape := ⟨2, ![1024, 512]⟩
abbrev S1x1024x5632 : Shape := ⟨3, ![1, 1024, 5632]⟩
abbrev S1024x5632 : Shape := ⟨2, ![1024, 5632]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x1024x5632, .bf16⟩
  | .hbm, ⟨3, _⟩ => ⟨S1x1024x5632, .bf16⟩
  | .hbm, ⟨4, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference47Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel48.lean ====
abbrev S4096x2816 : Shape := ⟨2, ![4096, 2816]⟩
abbrev S4096x1024 : Shape := ⟨2, ![4096, 1024]⟩
abbrev S4x2816x1024 : Shape := ⟨3, ![4, 2816, 1024]⟩
abbrev S4096x1408 : Shape := ⟨2, ![4096, 1408]⟩
abbrev S1x1408x1024 : Shape := ⟨3, ![1, 1408, 1024]⟩
abbrev S1408x1024 : Shape := ⟨2, ![1408, 1024]⟩
abbrev S1x2816x1024 : Shape := ⟨3, ![1, 2816, 1024]⟩
abbrev S2816x1024 : Shape := ⟨2, ![2816, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4x2816x1024, .bf16⟩
  | .hbm, ⟨3, _⟩ => ⟨S1x2816x1024, .bf16⟩
  | .hbm, ⟨4, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1x1408x1024, .bf16⟩
  | .local _ .vmem, ⟨4, _⟩ => ⟨S1x1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference48Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel49.lean ====
abbrev S4096x1024 : Shape := ⟨2, ![4096, 1024]⟩
abbrev S4x1024x1024 : Shape := ⟨3, ![4, 1024, 1024]⟩
abbrev S4096x512 : Shape := ⟨2, ![4096, 512]⟩
abbrev S1x1024x512 : Shape := ⟨3, ![1, 1024, 512]⟩
abbrev S1024x512 : Shape := ⟨2, ![1024, 512]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S1x1024x1024, .bf16⟩
  | .hbm, ⟨4, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference49Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel50.lean ====
abbrev S256x1024 : Shape := ⟨2, ![256, 1024]⟩
abbrev S256x2048 : Shape := ⟨2, ![256, 2048]⟩
abbrev S4x1024x2048 : Shape := ⟨3, ![4, 1024, 2048]⟩
abbrev S256x512 : Shape := ⟨2, ![256, 512]⟩
abbrev S1x1024x512 : Shape := ⟨3, ![1, 1024, 512]⟩
abbrev S1024x512 : Shape := ⟨2, ![1024, 512]⟩
abbrev S1x1024x2048 : Shape := ⟨3, ![1, 1024, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S4x1024x2048, .bf16⟩
  | .hbm, ⟨3, _⟩ => ⟨S1x1024x2048, .bf16⟩
  | .hbm, ⟨4, _⟩ => ⟨S1024x2048, .bf16⟩
  | .local _ .vmem, ⟨0, _⟩ => ⟨S256x1024, .bf16⟩
  | .local _ .vmem, ⟨1, _⟩ => ⟨S256x512, .bf16⟩
  | .local _ .vmem, ⟨2, _⟩ => ⟨S256x512, .bf16⟩
  | .local _ .vmem, ⟨3, _⟩ => ⟨S1x1024x512, .bf16⟩
  | .local _ .vmem, ⟨4, _⟩ => ⟨S1x1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference50Ideal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel51.lean ====
abbrev S4096x1024 : Shape := ⟨2, ![4096, 1024]⟩
abbrev S4096x2048 : Shape := ⟨2, ![4096, 2048]⟩
abbrev S2x1024x2048 : Shape := ⟨3, ![2, 1024, 2048]⟩
abbrev S4096x512 : Shape := ⟨2, ![4096, 512]⟩
abbrev S1x1024x512 : Shape := ⟨3, ![1, 1024, 512]⟩
abbrev S1024x512 : Shape := ⟨2, ![1024, 512]⟩
abbrev S1x1024x2048 : Shape := ⟨3, ![1, 1024, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S2x1024x2048, .bf16⟩
  | .hbm, ⟨3, _⟩ => ⟨S1x1024x2048, .bf16⟩
  | .hbm, ⟨4, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference51Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Swiglu.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Swiglu

open Cert.KernelIdeal Cert.KernelIdeal.Gen

/-- The gradient of the gated product: row `r` of `df` against row `c` of the second layer's down projection. -/
def dact (DF : FVec Ideal S4096x1024 .bf16) (W : FVec Ideal S4x2816x1024 .bf16) (r : Fin 4096) (c : Fin 2816) : EReal :=
  ∑ k : Fin 1024, DF (ix2 r k) * W (ix3 1 c k)

/-- The logistic function as the kernel writes it. -/
def sig1 (g : EReal) : EReal := Ideal.div 1 (1 + Ideal.exp (0 - g))

/-- The gradient of the gate column, from the gradient of the gated product, the gate and the value. -/
def gateGrad (d g u : EReal) : EReal := u * (d * sig1 g + d * sig1 g * g * (1 - sig1 g))

/-- The gradient of the value column. -/
def upGrad (d g : EReal) : EReal := d * sig1 g * g

/-- The kernel's result, element by element: the gate's gradient in the left half, the value's in the right half. -/
def G (DF : FVec Ideal S4096x1024 .bf16) (GU : FVec Ideal S4096x5632 .bf16) (W : FVec Ideal S4x2816x1024 .bf16) :
    FVec Ideal S4096x5632 .bf16 := fun j =>
  if h : (j 1 : ℕ) < 2816 then
    gateGrad (dact DF W (j 0) ⟨(j 1 : ℕ), h⟩) (GU j) (GU (ix2 (j 0) ⟨(j 1 : ℕ) + 2816, by omega⟩))
  else
    have hj : (j 1 : ℕ) - 2816 < 2816 := by have : (j 1 : ℕ) < 5632 := (j 1).isLt; omega
    upGrad (dact DF W (j 0) ⟨(j 1 : ℕ) - 2816, hj⟩) (GU (ix2 (j 0) ⟨(j 1 : ℕ) - 2816, by omega⟩))

theorem G_gate (DF : FVec Ideal S4096x1024 .bf16) (GU : FVec Ideal S4096x5632 .bf16) (W : FVec Ideal S4x2816x1024 .bf16)
    (r : Fin 4096) (c : Fin 2816) :
    G DF GU W (ix2 r ⟨(c : ℕ), by omega⟩)
      = gateGrad (dact DF W r c) (GU (ix2 r ⟨(c : ℕ), by omega⟩)) (GU (ix2 r ⟨(c : ℕ) + 2816, by omega⟩)) := by
  have h : ((⟨(c : ℕ), by omega⟩ : Fin 5632) : ℕ) < 2816 := c.isLt
  exact dif_pos h

theorem G_up (DF : FVec Ideal S4096x1024 .bf16) (GU : FVec Ideal S4096x5632 .bf16) (W : FVec Ideal S4x2816x1024 .bf16)
    (r : Fin 4096) (c : Fin 2816) :
    G DF GU W (ix2 r ⟨(c : ℕ) + 2816, by omega⟩)
      = upGrad (dact DF W r c) (GU (ix2 r ⟨(c : ℕ), by omega⟩)) := by
  have h : ¬ ((⟨(c : ℕ) + 2816, by omega⟩ : Fin 5632) : ℕ) < 2816 := by simp
  refine (dif_neg h).trans ?_
  have e : (c : ℕ) + 2816 - 2816 = c := by omega
  simp only [ix2_0, ix2_1, e]

variable (m : (ℓ : Loc nD τ sig) → Buf (Elt Ideal) ℓ)

theorem idx : ∀ t : Fin cfg0.N, win0_0.index t = ![t.val, 0] ∧ win0_1.index t = ![t.val, 0]
    ∧ win0_2.index t = ![1, 0, 0] ∧ win0_3.index t = ![t.val, 0] :=
  (by decide +kernel : ∀ t : Fin grid0.N, _)

theorem point (c : Dev nD) (t : Fin cfg0.N) (y : S512x5632.Idx) :
    out0_3 (iblk m c 0 t) (iblk m c 1 t) (iblk m c 2 t) y
      = G (m (c.tc.loc main_arg0)) (m (c.tc.loc main_arg1)) (m (c.tc.loc main_arg2))
          (((cfg0.win 3).blk t).view.emb y) := by
  unfold_out out0_3
  canon_tiles x h
  all_goals (open_payloads; pointwise)
  case piece0 =>
    have e : ((cfg0.win 3).blk t).view.emb y
        = ix2 ⟨512 * (t : ℕ) + (x 0 : ℕ), by have : (t : ℕ) < 8 := t.isLt; omega⟩ ⟨(1408 + (x 1 : ℕ)) + 2816, by omega⟩ := by
      blk_ext [idx t]
    rw [e]
    refine Eq.trans ?_ (G_up _ _ _ _ ⟨1408 + (x 1 : ℕ), by omega⟩).symm
    unfold upGrad sig1 dact
    blk_point [iblk, V, idx t]
  case piece1 =>
    have e : ((cfg0.win 3).blk t).view.emb y
        = ix2 ⟨512 * (t : ℕ) + (x 0 : ℕ), by have : (t : ℕ) < 8 := t.isLt; omega⟩ ⟨1408 + (x 1 : ℕ), by omega⟩ := by
      blk_ext [idx t]
    rw [e]
    refine Eq.trans ?_ (G_gate _ _ _ _ ⟨1408 + (x 1 : ℕ), by omega⟩).symm
    unfold gateGrad sig1 dact
    blk_point [iblk, V, idx t]
  case piece2 =>
    have e : ((cfg0.win 3).blk t).view.emb y
        = ix2 ⟨512 * (t : ℕ) + (x 0 : ℕ), by have : (t : ℕ) < 8 := t.isLt; omega⟩ ⟨(x 1 : ℕ) + 2816, by omega⟩ := by
      blk_ext [idx t]
    rw [e]
    refine Eq.trans ?_ (G_up _ _ _ _ ⟨(x 1 : ℕ), by omega⟩).symm
    unfold upGrad sig1 dact
    blk_point [iblk, V, idx t]
  case piece3 =>
    have e : ((cfg0.win 3).blk t).view.emb y
        = ix2 ⟨512 * (t : ℕ) + (x 0 : ℕ), by have : (t : ℕ) < 8 := t.isLt; omega⟩ ⟨(x 1 : ℕ), by omega⟩ := by
      blk_ext [idx t]
    rw [e]
    refine Eq.trans ?_ (G_gate _ _ _ _ ⟨(x 1 : ℕ), by omega⟩).symm
    unfold gateGrad sig1 dact
    blk_point [iblk, V, idx t]

theorem final (c : Dev nD) : (dats m 0 c).arrAt 3 cfg0.N
    = G (m (c.tc.loc main_arg0)) (m (c.tc.loc main_arg1)) (m (c.tc.loc main_arg2)) := by
  refine (dats m 0 c).arrAt_eq_of_covers 3 _ (by decide +kernel) fun t _ y => ?_
  blk_simp
  rw [after0_3]
  exact point m c t y

end Cert.KernelIdeal.Swiglu

end
-- ==== Proof.Reals.lean ====
module

public import Idealize.ShloMosaic.Lib.ReduceAll
public import Idealize.ShloMosaic.Lib.Pointwise
public import Idealize.ShloMosaic.PureOps.Ideal.Laws

@[expose] public section

noncomputable section

open Idealize.ShloMosaic

namespace Cert.Reals

/-- `x` is a real number: neither infinity. -/
def IsReal (x : EReal) : Prop := ∃ r : ℝ, x = (r : EReal)

theorem real_coe (r : ℝ) : IsReal (r : EReal) := ⟨r, rfl⟩
theorem real_add {x y : EReal} : IsReal x → IsReal y → IsReal (x + y) := fun ⟨a, ha⟩ ⟨b, hb⟩ => ⟨a + b, by rw [ha, hb, EReal.coe_add]⟩
theorem real_mul {x y : EReal} : IsReal x → IsReal y → IsReal (x * y) := fun ⟨a, ha⟩ ⟨b, hb⟩ => ⟨a * b, by rw [ha, hb, EReal.coe_mul]⟩
theorem real_sub {x y : EReal} : IsReal x → IsReal y → IsReal (x - y) := fun ⟨a, ha⟩ ⟨b, hb⟩ => ⟨a - b, by rw [ha, hb, EReal.coe_sub]⟩
theorem real_neg {x : EReal} : IsReal x → IsReal (-x) := fun ⟨a, ha⟩ => ⟨-a, by rw [ha, EReal.coe_neg]⟩
theorem real_zero : IsReal 0 := ⟨0, rfl⟩
theorem real_one : IsReal 1 := ⟨1, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem real_of_ne {x : EReal} (ht : x ≠ ⊤) (hb : x ≠ ⊥) : IsReal x := ⟨x.toReal, (EReal.coe_toReal ht hb).symm⟩

/-- A value whose magnitude compares below positive infinity is real. -/
theorem real_of_olt {φ : FTy} (x : Ideal φ)
    (h : FloatOps.cmpf .olt (FloatOps.hostAbsf x) (FloatOps.ofBits (F := Ideal) .f32 0x7F800000#32 : EReal) = 1#1) :
    IsReal (x : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine real_of_ne hlt.1.ne ?_
  intro hb
  rw [hb] at hlt
  simp at hlt

theorem exp_coe (r : ℝ) : Ideal.exp (r : EReal) = (Real.exp r : EReal) := rfl

theorem div_coe (x y : ℝ) (h : y ≠ 0) : Ideal.div (x : EReal) (y : EReal) = ((x / y : ℝ) : EReal) := by
  unfold Ideal.div
  rw [if_neg (by simpa using h), ← EReal.coe_inv, ← EReal.coe_mul, div_eq_mul_inv]

/-- The logistic function of a real, as the kernels write it. -/
theorem logistic_coe (g : ℝ) : Ideal.div 1 (1 + Ideal.exp ((-g : ℝ) : EReal)) = ((1 / (1 + Real.exp (-g)) : ℝ) : EReal) := by
  rw [exp_coe, ← EReal.coe_one, ← EReal.coe_add, div_coe]
  have := Real.exp_pos (-g)
  linarith

end Cert.Reals

end
-- ==== Proof.SwigluRef.lean ====
module

public import proofs.«01_k».proof.Proof.Swiglu
public import proofs.«01_k».proof.Proof.Reals
public import proofs.«01_k».proof.Pre_finite
public import proofs.«01_k».proof.Proof.Gen.Pre_finite
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Swiglu

open Cert.ReferenceIdeal Cert.ReferenceIdeal.Gen Cert.Reals Cert.ReferenceIdeal.Read

/-- The reference's gradient of the gated product at row `r`, column `c`. -/
def dact (DF : FVec Ideal S4096x1024 .bf16) (W : FVec Ideal S4x2816x1024 .bf16) (r : Fin 4096) (c : Fin 2816) : EReal :=
  ∑ k : Fin 1024, DF (ix2 r k) * W (ix3 1 c k)

/-- The reference's logistic function. -/
def sig0 (g : EReal) : EReal := Ideal.div 1 (1 + Ideal.exp (-g))

theorem ref_gate (DF : FVec Ideal S4096x1024 .bf16) (GU : FVec Ideal S4096x5632 .bf16) (W : FVec Ideal S4x2816x1024 .bf16)
    (r : Fin 4096) (c : Fin 2816) :
    val_main_v15 (F := Ideal) DF GU W (ix2 r ⟨(c : ℕ), by omega⟩)
      = dact DF W r c * GU (ix2 r ⟨2816 + (c : ℕ), by omega⟩) * sig0 (GU (ix2 r ⟨(c : ℕ), by omega⟩))
        + GU (ix2 r ⟨(c : ℕ), by omega⟩) * (dact DF W r c * GU (ix2 r ⟨2816 + (c : ℕ), by omega⟩))
          * (sig0 (GU (ix2 r ⟨(c : ℕ), by omega⟩)) * (1 - sig0 (GU (ix2 r ⟨(c : ℕ), by omega⟩)))) := by
  pointwise [val_main_v15, val_main_v14, val_main_v13, val_main_call1_v0, val_main_call1_v1, val_main_call1_v2, val_main_v12, val_main_v11, val_main_v10, val_main_v9, val_main_v8, val_main_v7_0, val_main_v7_1, val_main_v7_2, val_main_call0_v0, val_main_call0_v1, val_main_call0_v2, val_main_call0_v3, val_main_call0_v4, val_main_call0_v6, val_main_call0_v7, val_main_call0_cst, val_main_call0_cst_0, val_main_call0_cst_1, val_main_v6, val_main_v5, val_main_v4, val_main_v3, val_main_v2, val_main_v1, val_main_v0]
  rfl

theorem ref_up (DF : FVec Ideal S4096x1024 .bf16) (GU : FVec Ideal S4096x5632 .bf16) (W : FVec Ideal S4x2816x1024 .bf16)
    (r : Fin 4096) (c : Fin 2816) :
    val_main_v15 (F := Ideal) DF GU W (ix2 r ⟨(c : ℕ) + 2816, by omega⟩)
      = GU (ix2 r ⟨(c : ℕ), by omega⟩) * sig0 (GU (ix2 r ⟨(c : ℕ), by omega⟩)) * dact DF W r c := by
  have h1 : ¬ (c : ℕ) + 2816 < 2816 := by omega
  have h2 : (c : ℕ) + 2816 - 2816 = c := by omega
  pointwise [val_main_v15, val_main_v14, val_main_v13, val_main_call1_v0, val_main_call1_v1, val_main_call1_v2, val_main_v12, val_main_v11, val_main_v10, val_main_v9, val_main_v8, val_main_v7_0, val_main_v7_1, val_main_v7_2, val_main_call0_v0, val_main_call0_v1, val_main_call0_v2, val_main_call0_v3, val_main_call0_v4, val_main_call0_v6, val_main_call0_v7, val_main_call0_cst, val_main_call0_cst_0, val_main_call0_cst_1, val_main_v6, val_main_v5, val_main_v4, val_main_v3, val_main_v2, val_main_v1, val_main_v0, h1, h2]
  rfl

/-- Where the gradient and the value column are real, the kernel's factored form is the product rule's sum;
    the gate may be an infinity, where the logistic function saturates. -/
theorem gate_eq (d g u : EReal) (hd : IsReal d) (hu : IsReal u) :
    d * u * sig0 g + g * (d * u) * (sig0 g * (1 - sig0 g)) = KernelIdeal.Swiglu.gateGrad d g u := by
  obtain ⟨d, rfl⟩ := hd
  obtain ⟨u, rfl⟩ := hu
  have h0 : Ideal.exp (⊥ : EReal) = 0 := rfl
  have hT : Ideal.exp (⊤ : EReal) = ⊤ := rfl
  unfold KernelIdeal.Swiglu.gateGrad KernelIdeal.Swiglu.sig1 sig0
  rw [zero_sub]
  induction g using EReal.rec with
  | bot =>
    have e : Ideal.div 1 (1 + Ideal.exp (-(⊥ : EReal))) = 0 := by
      rw [EReal.neg_bot, hT]
      simp [Ideal.div, show (1 : EReal) + ⊤ = ⊤ from rfl]
    rw [e]
    simp
  | top =>
    have e : Ideal.div 1 (1 + Ideal.exp (-(⊤ : EReal))) = 1 := by
      rw [EReal.neg_top, h0]
      simp [Ideal.div]
    have e0 : (1 : EReal) - 1 = 0 := by rw [← EReal.coe_one, ← EReal.coe_sub, sub_self, EReal.coe_zero]
    rw [e, e0]
    simp [mul_comm]
  | coe g =>
    rw [← EReal.coe_neg, logistic_coe]
    norm_cast
    ring

theorem up_eq (d g : EReal) : g * sig0 g * d = KernelIdeal.Swiglu.upGrad d g := by
  unfold KernelIdeal.Swiglu.upGrad KernelIdeal.Swiglu.sig1 sig0
  rw [zero_sub]
  ac_rfl

theorem dact_real (DF : FVec Ideal S4096x1024 .bf16) (W : FVec Ideal S4x2816x1024 .bf16)
    (hDF : ∀ r k, IsReal (DF (ix2 r k))) (hW : ∀ c k, IsReal (W (ix3 1 c k))) (r : Fin 4096) (c : Fin 2816) :
    IsReal (dact DF W r c) :=
  real_sum _ _ fun k => real_mul (hDF r k) (hW c k)

/-- The reference is the kernel's closed form, where the gradient, the value columns and the layer's weights are real. -/
theorem ref_eq (DF : FVec Ideal S4096x1024 .bf16) (GU : FVec Ideal S4096x5632 .bf16) (W : FVec Ideal S4x2816x1024 .bf16)
    (hDF : ∀ r k, IsReal (DF (ix2 r k))) (hU : ∀ (r : Fin 4096) (c : Fin 2816), IsReal (GU (ix2 r ⟨2816 + (c : ℕ), by omega⟩)))
    (hW : ∀ c k, IsReal (W (ix3 1 c k))) :
    val_main_v15 (F := Ideal) DF GU W = KernelIdeal.Swiglu.G DF GU W := by
  have key : ∀ (r : Fin 4096) (c : Fin 5632),
      val_main_v15 (F := Ideal) DF GU W (ix2 r c) = KernelIdeal.Swiglu.G DF GU W (ix2 r c) := by
    intro r c
    by_cases h : (c : ℕ) < 2816
    · refine (ref_gate DF GU W r ⟨c, h⟩).trans (Eq.trans ?_ (KernelIdeal.Swiglu.G_gate DF GU W r ⟨c, h⟩).symm)
      rw [gate_eq _ _ _ (dact_real DF W hDF hW _ _) (hU _ _)]
      simp only [Nat.add_comm 2816]
      rfl
    · have hc : (c : ℕ) - 2816 < 2816 := by omega
      have e : c = ⟨((⟨(c : ℕ) - 2816, hc⟩ : Fin 2816) : ℕ) + 2816, by show (c : ℕ) - 2816 + 2816 < 5632; omega⟩ := by
        apply Fin.ext
        show (c : ℕ) = (c : ℕ) - 2816 + 2816
        omega
      rw [e]
      refine (ref_up DF GU W r ⟨(c : ℕ) - 2816, hc⟩).trans
        (Eq.trans ?_ (KernelIdeal.Swiglu.G_up DF GU W r ⟨(c : ℕ) - 2816, hc⟩).symm)
      rw [up_eq]
      rfl
  funext j
  exact (congrArg _ (eq_ix2 j)).trans ((key (j 0) (j 1)).trans (congrArg _ (eq_ix2 j).symm))

/-- What the precondition says of the three arrays. -/
theorem of_finite (DF : FVec Ideal S4096x1024 .bf16) (GU : FVec Ideal S4096x5632 .bf16) (W : FVec Ideal S4x2816x1024 .bf16)
    (h : Pre_finite.fn (F := Ideal) DF GU W = fun _ => 1#1) :
    (∀ r k, IsReal (DF (ix2 r k))) ∧ (∀ (r : Fin 4096) (c : Fin 2816), IsReal (GU (ix2 r ⟨2816 + (c : ℕ), by omega⟩)))
      ∧ ∀ c k, IsReal (W (ix3 1 c k)) := by
  have h0 := congrFun h (fun a => a.elim0)
  unfold Pre_finite.fn Pre_finite.fn_part1 at h0
  obtain ⟨h12, h3⟩ := IntOp.andi_eq_one.1 h0
  obtain ⟨h1, h2⟩ := IntOp.andi_eq_one.1 h12
  haveI : Subsingleton Pre_finite.S_.Idx := ⟨fun a b => funext fun x => x.elim0⟩
  refine ⟨fun r k => ?_, fun r c => ?_, fun c k => ?_⟩
  · exact real_of_olt _ (Host.reduce_andi_all _ _ _ _ _ h1 (ix2 r k))
  · have := real_of_olt _ (Host.reduce_andi_all _ _ _ _ _ h2 (ix2 r c))
    pointwise at this
    exact this
  · have := real_of_olt _ (Host.reduce_andi_all _ _ _ _ _ h3 (ix2 c k))
    pointwise at this
    exact this

end Cert.ReferenceIdeal.Swiglu

end
-- ==== Proof.SwigluClaim.lean ====
module

public import proofs.«01_k».proof.Defs
public import proofs.«01_k».proof.Proof.SwigluRef
public import proofs.«01_k».proof.Proof.Gen.Kernel.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

open Cert.KernelIdeal (main_arg0 main_arg1 main_arg2)

namespace Cert.Proof.Swiglu

/-- The reference runs on the host alone: it has no semaphores, and it leaves its arguments as they were. -/
theorem quiescent_ref : quiescent_ReferenceIdeal := fun m g _ =>
  (θ_run _ _ _).mono (fun r h => ⟨fun c => (h c).2, sem_eq_zero_of_no_sems (by decide) r.2⟩)
    (ReferenceIdeal.Value.run (F := Ideal) m g)

/-- The gated product's gradient: the kernel's result is the reference's. -/
theorem algebraic : algebraic_KernelIdeal_ReferenceIdeal_pre_finite := by
  intro m g m' g' hpre hagree
  refine ⟨fun c => KernelIdeal.Swiglu.G (m (c.tc.loc main_arg0)) (m (c.tc.loc main_arg1)) (m (c.tc.loc main_arg2)),
    (θ_run _ _ _).mono (fun r h c => ?_) (KernelIdeal.Value.run_blocks m g),
    (θ_run _ _ _).mono (fun r h c => ⟨(h c).1.trans ?_, (h c).2⟩) (ReferenceIdeal.Value.run (F := Ideal) m' g')⟩
  · exact ⟨(h c).1.trans (KernelIdeal.Swiglu.final m c), (h c).2⟩
  · obtain ⟨e0, e1, e2⟩ := hagree c
    refine (ReferenceIdeal.Read.val_main_v15_eq _ _ _).trans ?_
    rw [e0, e1, e2]
    obtain ⟨h0, h1, h2⟩ := ReferenceIdeal.Swiglu.of_finite _ _ _ (hpre c)
    exact ReferenceIdeal.Swiglu.ref_eq _ _ _ h0 h1 h2

end Cert.Proof.Swiglu

end
-- ==== Proof.Softmax.lean ====
module

public import proofs.«01_k».proof.Proof.Reals

@[expose] public section

noncomputable section

open Idealize.ShloMosaic

/-
The softmax of a row of 256 scores and its gradient, as the kernels compute it (`ds`: subtract the weighted mean of the
incoming gradient) and as differentiating the quotient computes it (`dsR`). They agree on real scores, whatever the
incoming gradient holds.
-/
namespace Cert.Softmax

open Cert.Reals

/-- `256^(-1/2)`. -/
def scale : EReal := Ideal.ofBits FTy.f32 1031798784#32

/-- The row's largest score. -/
def top (s : Fin 256 → EReal) : EReal := Finset.fold max (Ideal.ofBits FTy.f32 4286578688#32) s Finset.univ

/-- The exponentials, after the largest score is taken off. -/
def num (s : Fin 256 → EReal) (j : Fin 256) : EReal := Ideal.exp (s j - top s)

/-- Their sum. -/
def den (s : Fin 256 → EReal) : EReal := ∑ j, num s j

/-- The probabilities. -/
def prob (s : Fin 256 → EReal) (j : Fin 256) : EReal := Ideal.div (num s j) (den s)

/-- The scores' gradient from the probabilities' gradient. -/
def ds (s dp : Fin 256 → EReal) (j : Fin 256) : EReal := prob s j * (dp j - ∑ x, dp x * prob s x) * scale

/-- The scores' gradient, differentiating the quotient. -/
def dsR (s dp : Fin 256 → EReal) (j : Fin 256) : EReal :=
  (Ideal.div (dp j) (den s) + -∑ x, dp x * Ideal.div 1 (den s * den s) * num s x) * num s j * scale

theorem bot_bits : Ideal.ofBits FTy.f32 4286578688#32 = (⊥ : EReal) := by
  simp [Ideal.ofBits, Ideal.ieee]

theorem top_real (s : Fin 256 → EReal) (h : ∀ j, IsReal (s j)) : IsReal (top s) := by
  have hb : ∀ t : Finset (Fin 256), t.Nonempty → IsReal (Finset.fold max (⊥ : EReal) s t) := by
    intro t ht
    induction ht using Finset.Nonempty.cons_induction with
    | singleton a => simpa using h a
    | cons a t ha _ ih =>
      rw [Finset.fold_cons]
      rcases max_choice (s a) (Finset.fold max (⊥ : EReal) s t) with e | e <;> rw [e]
      · exact h a
      · exact ih
  unfold top
  rw [bot_bits]
  exact hb _ Finset.univ_nonempty

/-- On real scores the exponentials are positive reals. -/
theorem num_pos (s : Fin 256 → EReal) (h : ∀ j, IsReal (s j)) : ∃ e : Fin 256 → ℝ, (∀ j, 0 < e j) ∧ ∀ j, num s j = (e j : EReal) := by
  obtain ⟨M, hM⟩ := top_real s h
  choose f hf using h
  refine ⟨fun j => Real.exp (f j - M), fun j => Real.exp_pos _, fun j => ?_⟩
  unfold num
  rw [hM, hf, ← EReal.coe_sub, exp_coe]

theorem sum_mul_coe (f : Fin 256 → EReal) (c : ℝ) (hc : 0 ≤ c) : (∑ j, f j) * (c : EReal) = ∑ j, f j * (c : EReal) := by
  have h : ∀ t : Finset (Fin 256), (∑ j ∈ t, f j) * (c : EReal) = ∑ j ∈ t, f j * (c : EReal) := by
    intro t
    induction t using Finset.cons_induction with
    | empty => simp
    | cons a t ha ih =>
      rw [Finset.sum_cons, Finset.sum_cons, ← ih,
        EReal.right_distrib_of_nonneg_of_ne_top (EReal.coe_nonneg.2 hc) (EReal.coe_ne_top c)]
  exact h _

theorem ds_eq (s dp : Fin 256 → EReal) (h : ∀ j, IsReal (s j)) (j : Fin 256) : dsR s dp j = ds s dp j := by
  obtain ⟨e, he, hn⟩ := num_pos s h
  have hd : den s = ((∑ j, e j : ℝ) : EReal) := by
    unfold den
    simp only [hn]
    exact (coe_sum _ e).symm
  have hZ : 0 < ∑ j, e j := Finset.sum_pos (fun j _ => he j) Finset.univ_nonempty
  set Z := ∑ j, e j with hZd
  have hp : ∀ j, prob s j = ((e j * Z⁻¹ : ℝ) : EReal) := by
    intro j
    unfold prob
    rw [hn, hd, div_coe _ _ hZ.ne', div_eq_mul_inv]
  have hdiv : ∀ x : EReal, Ideal.div x (Z : EReal) = x * ((Z⁻¹ : ℝ) : EReal) := by
    intro x
    unfold Ideal.div
    rw [if_neg (by exact_mod_cast hZ.ne'), EReal.coe_inv]
  have h1 : Ideal.div 1 (den s * den s) = ((Z⁻¹ * Z⁻¹ : ℝ) : EReal) := by
    rw [hd, ← EReal.coe_mul, ← EReal.coe_one, div_coe _ _ (by positivity)]
    congr 1
    field_simp
  unfold dsR ds
  rw [h1, hp, hd, hdiv, hn]
  simp only [hp, hn]
  refine congrArg (· * scale) ?_
  have hi : (0 : ℝ) ≤ Z⁻¹ := (inv_pos.2 hZ).le
  have e1 : (∑ x, dp x * ((Z⁻¹ * Z⁻¹ : ℝ) : EReal) * ((e x : ℝ) : EReal))
      = (∑ x, dp x * ((e x * Z⁻¹ : ℝ) : EReal)) * ((Z⁻¹ : ℝ) : EReal) := by
    rw [sum_mul_coe _ _ hi]
    refine Finset.sum_congr rfl fun x _ => ?_
    rw [mul_assoc, mul_assoc, ← EReal.coe_mul, ← EReal.coe_mul]
    congr 2
    ring
  rw [e1, ← EReal.neg_mul, ← EReal.right_distrib_of_nonneg_of_ne_top (EReal.coe_nonneg.2 hi) (EReal.coe_ne_top _),
    mul_assoc, ← EReal.coe_mul, mul_comm, ← sub_eq_add_neg, mul_comm Z⁻¹ (e j)]

end Cert.Softmax

end
-- ==== Proof.Sums.lean ====
module

public import Idealize.ShloMosaic.Lib.Pointwise
public import Idealize.ShloMosaic.PureOps.Ideal.Laws

@[expose] public section

noncomputable section

open Idealize.ShloMosaic

namespace Cert.Sums

/-- A tile of 512 rows is its two blocks of 256 rows. -/
theorem halves (f : Fin 512 → EReal) :
    (∑ x : Fin 256, f ⟨(x : ℕ), by omega⟩) + ∑ x : Fin 256, f ⟨256 + (x : ℕ), by omega⟩ = ∑ k, f k := by
  rw [Fin.sum_univ_tiles 2 256 rfl f, Fin.sum_univ_two]
  refine congrArg₂ (· + ·) (Finset.sum_congr rfl fun x _ => congrArg f (Fin.ext ?_))
    (Finset.sum_congr rfl fun x _ => congrArg f (Fin.ext ?_))
  · simp
  · simp

/-- The 4096 rows are the 8 tiles of 512 rows. -/
theorem tiles (f : Fin 4096 → EReal) :
    (∑ t : Fin 8, ∑ k : Fin 512, f ⟨512 * (t : ℕ) + (k : ℕ), by omega⟩) = ∑ r, f r := by
  rw [Fin.sum_univ_tiles 8 512 rfl f]
  refine Finset.sum_congr rfl fun t _ => Finset.sum_congr rfl fun k _ => congrArg f (Fin.ext ?_)
  show 512 * (t : ℕ) + (k : ℕ) = (t : ℕ) * 512 + (k : ℕ)
  rw [Nat.mul_comm]

end Cert.Sums

end
-- ==== Proof.Attn.lean ====
module

public import proofs.«01_k».proof.Proof.Gen.Kernel2Ideal.Value
public import Idealize.ShloMosaic.Lib.Pipeline.ValueKit
public import Idealize.ShloMosaic.Lib.Pointwise
public import proofs.«01_k».proof.Proof.Softmax
public import proofs.«01_k».proof.Proof.Sums

@[expose] public section

set_option maxRecDepth 16384

noncomputable section

open Idealize.ShloMosaic Idealize.ShloMosaic.TcCoe Idealize.SL.Sem

namespace Cert.Kernel2Ideal.Attn

open Cert.Kernel2Ideal Cert.Kernel2Ideal.Gen Cert.Softmax

/-- Column `d` of head `h`, among the queries' columns. -/
def col (h : Fin 4) (d : Fin 256) : Fin 1024 := ⟨256 * (h : ℕ) + (d : ℕ), by omega⟩

/-- Column `d` of head `h`, among the keys. -/
def kcol (h : Fin 4) (d : Fin 256) : Fin 2048 := ⟨256 * (h : ℕ) + (d : ℕ), by omega⟩

/-- Column `d` of head `h`, among the values. -/
def vcol (h : Fin 4) (d : Fin 256) : Fin 2048 := ⟨1024 + 256 * (h : ℕ) + (d : ℕ), by omega⟩

/-- The head of a column, and its place in the head. -/
def head (n : ℕ) : Fin 4 := ⟨n / 256 % 4, by omega⟩
def lane (n : ℕ) : Fin 256 := ⟨n % 256, by omega⟩

/-- The scores of query `r` in head `h`. -/
def score (Q : FVec Ideal S4096x1024 .bf16) (KV : FVec Ideal S256x2048 .bf16) (r : Fin 4096) (h : Fin 4) (x : Fin 256) : EReal :=
  (∑ d : Fin 256, Q (ix2 r (col h d)) * KV (ix2 x (kcol h d))) * scale

/-- The gradient of its probabilities. -/
def dprob (DO : FVec Ideal S4096x1024 .bf16) (KV : FVec Ideal S256x2048 .bf16) (r : Fin 4096) (h : Fin 4) (x : Fin 256) : EReal :=
  ∑ d : Fin 256, DO (ix2 r (col h d)) * KV (ix2 x (vcol h d))

/-- The gradient of its scores. -/
def dscore (Q DO : FVec Ideal S4096x1024 .bf16) (KV : FVec Ideal S256x2048 .bf16) (r : Fin 4096) (h : Fin 4) (x : Fin 256) : EReal :=
  ds (score Q KV r h) (dprob DO KV r h) x

/-- The gradients of queries, keys and values. -/
def dq (Q DO : FVec Ideal S4096x1024 .bf16) (KV : FVec Ideal S256x2048 .bf16) (r : Fin 4096) (h : Fin 4) (q : Fin 256) : EReal :=
  ∑ x : Fin 256, dscore Q DO KV r h x * KV (ix2 x (kcol h q))
def dkRow (Q DO : FVec Ideal S4096x1024 .bf16) (KV : FVec Ideal S256x2048 .bf16) (x : Fin 256) (h : Fin 4) (q : Fin 256) (r : Fin 4096) : EReal :=
  dscore Q DO KV r h x * Q (ix2 r (col h q))
def dvRow (Q DO : FVec Ideal S4096x1024 .bf16) (KV : FVec Ideal S256x2048 .bf16) (x : Fin 256) (h : Fin 4) (q : Fin 256) (r : Fin 4096) : EReal :=
  prob (score Q KV r h) x * DO (ix2 r (col h q))

/-- Row `r`'s part of the gradient of keys and values, at column `n`. -/
def dkvRow (Q DO : FVec Ideal S4096x1024 .bf16) (KV : FVec Ideal S256x2048 .bf16) (x : Fin 256) (n : Fin 2048) (r : Fin 4096) : EReal :=
  if (n : ℕ) < 1024 then dkRow Q DO KV x (head n) (lane n) r else dvRow Q DO KV x (head n) (lane n) r

def G3 (Q DO : FVec Ideal S4096x1024 .bf16) (KV : FVec Ideal S256x2048 .bf16) : FVec Ideal S4096x1024 .bf16 :=
  fun j => dq Q DO KV (j 0) (head (j 1 : Fin 1024)) (lane (j 1 : Fin 1024))
def G4 (Q DO : FVec Ideal S4096x1024 .bf16) (KV : FVec Ideal S256x2048 .bf16) : FVec Ideal S256x2048 .f32 :=
  fun j => ∑ r : Fin 4096, dkvRow Q DO KV (j 0) (j 1) r

theorem head_col (h : Fin 4) (d : Fin 256) : head (col h d) = h := by unfold head col; ext; show (256 * (h : ℕ) + (d : ℕ)) / 256 % 4 = h; omega
theorem lane_col (h : Fin 4) (d : Fin 256) : lane (col h d) = d := by unfold lane col; ext; show (256 * (h : ℕ) + (d : ℕ)) % 256 = d; omega

theorem G3_col (Q DO : FVec Ideal S4096x1024 .bf16) (KV : FVec Ideal S256x2048 .bf16) (r : Fin 4096) (h : Fin 4) (d : Fin 256) :
    G3 Q DO KV (ix2 r (col h d)) = dq Q DO KV r h d := by
  show dq Q DO KV r (head (col h d)) (lane (col h d)) = _
  rw [head_col, lane_col]

theorem dkv_k (Q DO : FVec Ideal S4096x1024 .bf16) (KV : FVec Ideal S256x2048 .bf16) (x : Fin 256) (h : Fin 4) (d : Fin 256) (r : Fin 4096) :
    dkvRow Q DO KV x (kcol h d) r = dkRow Q DO KV x h d r := by
  have e1 : head (kcol h d) = h := head_col h d
  have e2 : lane (kcol h d) = d := lane_col h d
  have e3 : (kcol h d : ℕ) < 1024 := (col h d).isLt
  unfold dkvRow
  rw [if_pos e3, e1, e2]

theorem dkv_v (Q DO : FVec Ideal S4096x1024 .bf16) (KV : FVec Ideal S256x2048 .bf16) (x : Fin 256) (h : Fin 4) (d : Fin 256) (r : Fin 4096) :
    dkvRow Q DO KV x (vcol h d) r = dvRow Q DO KV x h d r := by
  have e1 : head (vcol h d) = h := by unfold head vcol; ext; show (1024 + 256 * (h : ℕ) + (d : ℕ)) / 256 % 4 = h; omega
  have e2 : lane (vcol h d) = d := by unfold lane vcol; ext; show (1024 + 256 * (h : ℕ) + (d : ℕ)) % 256 = d; omega
  have e3 : ¬(vcol h d : ℕ) < 1024 := by show ¬(1024 + 256 * (h : ℕ) + (d : ℕ)) < 1024; omega
  unfold dkvRow
  rw [if_neg e3, e1, e2]

/-- The kernel's column offsets, as columns of the heads. -/
theorem col_0 (d : Fin 256) (e) : (⟨(d : ℕ), e⟩ : Fin 1024) = col 0 d := Fin.ext (Nat.zero_add _).symm
theorem col_1 (d : Fin 256) (e) : (⟨256 + (d : ℕ), e⟩ : Fin 1024) = col 1 d := rfl
theorem col_2 (d : Fin 256) (e) : (⟨512 + (d : ℕ), e⟩ : Fin 1024) = col 2 d := rfl
theorem col_3 (d : Fin 256) (e) : (⟨768 + (d : ℕ), e⟩ : Fin 1024) = col 3 d := rfl
theorem kcol_0 (d : Fin 256) (e) : (⟨(d : ℕ), e⟩ : Fin 2048) = kcol 0 d := Fin.ext (Nat.zero_add _).symm
theorem kcol_1 (d : Fin 256) (e) : (⟨256 + (d : ℕ), e⟩ : Fin 2048) = kcol 1 d := rfl
theorem kcol_2 (d : Fin 256) (e) : (⟨512 + (d : ℕ), e⟩ : Fin 2048) = kcol 2 d := rfl
theorem kcol_3 (d : Fin 256) (e) : (⟨768 + (d : ℕ), e⟩ : Fin 2048) = kcol 3 d := rfl
theorem vcol_0 (d : Fin 256) (e) : (⟨1024 + (d : ℕ), e⟩ : Fin 2048) = vcol 0 d := rfl
theorem vcol_1 (d : Fin 256) (e) : (⟨1280 + (d : ℕ), e⟩ : Fin 2048) = vcol 1 d := rfl
theorem vcol_2 (d : Fin 256) (e) : (⟨1536 + (d : ℕ), e⟩ : Fin 2048) = vcol 2 d := rfl
theorem vcol_3 (d : Fin 256) (e) : (⟨1792 + (d : ℕ), e⟩ : Fin 2048) = vcol 3 d := rfl

variable (m : (ℓ : Loc nD τ sig) → Buf (Elt Ideal) ℓ)

theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- Row `p` of point `t`'s block. -/
def rowOf (t : Fin cfg0.N) (p : Fin 512) : Fin 4096 := ⟨512 * (t : ℕ) + (p : ℕ), by have : (t : ℕ) < 8 := t.isLt; omega⟩

theorem blkQ (c : Dev nD) (t : Fin cfg0.N) (p : Fin 512) (k : Fin 1024) :
    iblk m c 0 t (ix2 p k) = m (c.tc.loc main_arg0) (ix2 (rowOf t p) k) := by
  unfold rowOf; blk_point [iblk, V, idx t]
theorem blkDO (c : Dev nD) (t : Fin cfg0.N) (p : Fin 512) (k : Fin 1024) :
    iblk m c 1 t (ix2 p k) = m (c.tc.loc main_arg2) (ix2 (rowOf t p) k) := by
  unfold rowOf; blk_point [iblk, V, idx t]
theorem blkKV (c : Dev nD) (t : Fin cfg0.N) (x : Fin 256) (k : Fin 2048) :
    iblk m c 2 t (ix2 x k) = m (c.tc.loc main_arg1) (ix2 x k) := by
  blk_point [iblk, V, idx t]

set_option maxHeartbeats 2000000 in
theorem final3 (c : Dev nD) : (dats m 0 c).arrAt 3 cfg0.N
    = G3 (m (c.tc.loc main_arg0)) (m (c.tc.loc main_arg2)) (m (c.tc.loc main_arg1)) := by
  refine (dats m 0 c).arrAt_eq_of_covers 3 _ (by decide +kernel) fun t _ y => ?_
  blk_simp
  rw [after0_3]
  have hN : (t : ℕ) < 8 := t.isLt
  by_cases h0 : t.val % 8 = 0
  case' pos => rw [outsAt0_A m c t h0 (by omega) h0 (by omega) h0 (by omega) h0 (by omega)]
  case' neg => rw [outsAt0_B m c t h0 (by omega) h0 (by omega) h0 (by omega) h0 (by omega)]
  all_goals
    frame_out
    canon_tiles x h
  all_goals
    obtain ⟨p, q, rfl⟩ : ∃ (p : Fin 512) (q : Fin 256), x = ix2 p q := ⟨x 0, x 1, eq_ix2 x⟩
    simp only [ix2_0, ix2_1] at h0 h1
    open_payloads
    pointwise
    simp only [blkQ, blkDO, blkKV, col_0, col_1, col_2, col_3, kcol_0, kcol_1, kcol_2, kcol_3, vcol_0, vcol_1, vcol_2, vcol_3]
    first
      | have e : ((View.whole main_v0_0).slice (win0_3.rect t)).emb y = ix2 (rowOf t p) (col 0 q) := by
          unfold rowOf col
          blk_ext [idx t]
        rw [e, G3_col]; rfl
      | have e : ((View.whole main_v0_0).slice (win0_3.rect t)).emb y = ix2 (rowOf t p) (col 1 q) := by
          unfold rowOf col
          blk_ext [idx t]
        rw [e, G3_col]; rfl
      | have e : ((View.whole main_v0_0).slice (win0_3.rect t)).emb y = ix2 (rowOf t p) (col 2 q) := by
          unfold rowOf col
          blk_ext [idx t]
        rw [e, G3_col]; rfl
      | have e : ((View.whole main_v0_0).slice (win0_3.rect t)).emb y = ix2 (rowOf t p) (col 3 q) := by
          unfold rowOf col
          blk_ext [idx t]
        rw [e, G3_col]; rfl

/-- An index of a table is given by its two numbers. -/
theorem eq_ix2_of_val {a b : ℕ} {j : (⟨2, ![a, b]⟩ : Shape).Idx} {p : Fin a} {q : Fin b} (h0 : (j 0 : ℕ) = p) (h1 : (j 1 : ℕ) = q) : j = ix2 p q :=
  (eq_ix2 j).trans (congrArg₂ ix2 (Fin.ext h0) (Fin.ext h1))

/-- What grid point `t` adds. -/
def term4 (c : Dev nD) (t : Fin cfg0.N) (j : S256x2048.Idx) : EReal :=
  ∑ p : Fin 512, dkvRow (m (c.tc.loc main_arg0)) (m (c.tc.loc main_arg2)) (m (c.tc.loc main_arg1)) (j 0) (j 1) (rowOf t p)

set_option maxHeartbeats 4000000 in
theorem final4 (c : Dev nD) : (dats m 0 c).arrAt 4 cfg0.N = G4 (m (c.tc.loc main_arg0)) (m (c.tc.loc main_arg2)) (m (c.tc.loc main_arg1)) := by
  refine (dats m 0 c).arrAt_eq_of_after_last 4 t0_7 (by decide +kernel) _ fun j => ?_
  blk_simp
  rw [after0_4, Pipeline.eq_sum_fin_of_reset_step_apply_last (fun n h => (outsAt0 m c n h).2) 8 (fun _ => (0 : EReal)) (term4 m c)
    (fun t h j => by
      have hN : (t : ℕ) < 8 := t.isLt
      rw [outsAt0_A m c t h (by omega) h (by omega) h (by omega) h (by omega)]
      frame_out
      canon_tiles x h
      all_goals
        obtain ⟨p, q, rfl⟩ : ∃ (p : Fin 256) (q : Fin 256), x = ix2 p q := ⟨x 0, x 1, eq_ix2 x⟩
        simp only [ix2_0, ix2_1] at h0 h1
        open_payloads
        pointwise
        simp only [blkQ, blkDO, blkKV, col_0, col_1, col_2, col_3, kcol_0, kcol_1, kcol_2, kcol_3, vcol_0, vcol_1, vcol_2, vcol_3]
        first
          | obtain rfl : j = ix2 p (kcol 0 q) := eq_ix2_of_val h0 (h1.trans (by exact (Nat.zero_add _).symm))
            refine (Finset.sum_congr rfl fun r _ => ?_)
            exact (dkv_k (m (c.tc.loc main_arg0)) (m (c.tc.loc main_arg2)) (m (c.tc.loc main_arg1)) p 0 q (rowOf t r)).symm
          | obtain rfl : j = ix2 p (kcol 1 q) := eq_ix2_of_val h0 (h1.trans (by rfl))
            refine (Finset.sum_congr rfl fun r _ => ?_)
            exact (dkv_k (m (c.tc.loc main_arg0)) (m (c.tc.loc main_arg2)) (m (c.tc.loc main_arg1)) p 1 q (rowOf t r)).symm
          | obtain rfl : j = ix2 p (kcol 2 q) := eq_ix2_of_val h0 (h1.trans (by rfl))
            refine (Finset.sum_congr rfl fun r _ => ?_)
            exact (dkv_k (m (c.tc.loc main_arg0)) (m (c.tc.loc main_arg2)) (m (c.tc.loc main_arg1)) p 2 q (rowOf t r)).symm
          | obtain rfl : j = ix2 p (kcol 3 q) := eq_ix2_of_val h0 (h1.trans (by rfl))
            refine (Finset.sum_congr rfl fun r _ => ?_)
            exact (dkv_k (m (c.tc.loc main_arg0)) (m (c.tc.loc main_arg2)) (m (c.tc.loc main_arg1)) p 3 q (rowOf t r)).symm
          | obtain rfl : j = ix2 p (vcol 0 q) := eq_ix2_of_val h0 (h1.trans (by rfl))
            refine (Finset.sum_congr rfl fun r _ => ?_)
            exact (dkv_v (m (c.tc.loc main_arg0)) (m (c.tc.loc main_arg2)) (m (c.tc.loc main_arg1)) p 0 q (rowOf t r)).symm
          | obtain rfl : j = ix2 p (vcol 1 q) := eq_ix2_of_val h0 (h1.trans (by rfl))
            refine (Finset.sum_congr rfl fun r _ => ?_)
            exact (dkv_v (m (c.tc.loc main_arg0)) (m (c.tc.loc main_arg2)) (m (c.tc.loc main_arg1)) p 1 q (rowOf t r)).symm
          | obtain rfl : j = ix2 p (vcol 2 q) := eq_ix2_of_val h0 (h1.trans (by rfl))
            refine (Finset.sum_congr rfl fun r _ => ?_)
            exact (dkv_v (m (c.tc.loc main_arg0)) (m (c.tc.loc main_arg2)) (m (c.tc.loc main_arg1)) p 2 q (rowOf t r)).symm
          | obtain rfl : j = ix2 p (vcol 3 q) := eq_ix2_of_val h0 (h1.trans (by rfl))
            refine (Finset.sum_congr rfl fun r _ => ?_)
            exact (dkv_v (m (c.tc.loc main_arg0)) (m (c.tc.loc main_arg2)) (m (c.tc.loc main_arg1)) p 3 q (rowOf t r)).symm
)
    (fun t h j => by
      have hN : (t : ℕ) < 8 := t.isLt
      rw [outsAt0_B m c t h (by omega) h (by omega) h (by omega) h (by omega)]
      frame_out
      canon_tiles x h
      all_goals
        obtain ⟨p, q, rfl⟩ : ∃ (p : Fin 256) (q : Fin 256), x = ix2 p q := ⟨x 0, x 1, eq_ix2 x⟩
        simp only [ix2_0, ix2_1] at h0 h1
        open_payloads
        pointwise
        simp only [blkQ, blkDO, blkKV, col_0, col_1, col_2, col_3, kcol_0, kcol_1, kcol_2, kcol_3, vcol_0, vcol_1, vcol_2, vcol_3]
        first
          | obtain rfl : j = ix2 p (kcol 0 q) := eq_ix2_of_val h0 (h1.trans (by exact (Nat.zero_add _).symm))
            refine congrArg _ (Finset.sum_congr rfl fun r _ => ?_)
            exact (dkv_k (m (c.tc.loc main_arg0)) (m (c.tc.loc main_arg2)) (m (c.tc.loc main_arg1)) p 0 q (rowOf t r)).symm
          | obtain rfl : j = ix2 p (kcol 1 q) := eq_ix2_of_val h0 (h1.trans (by rfl))
            refine congrArg _ (Finset.sum_congr rfl fun r _ => ?_)
            exact (dkv_k (m (c.tc.loc main_arg0)) (m (c.tc.loc main_arg2)) (m (c.tc.loc main_arg1)) p 1 q (rowOf t r)).symm
          | obtain rfl : j = ix2 p (kcol 2 q) := eq_ix2_of_val h0 (h1.trans (by rfl))
            refine congrArg _ (Finset.sum_congr rfl fun r _ => ?_)
            exact (dkv_k (m (c.tc.loc main_arg0)) (m (c.tc.loc main_arg2)) (m (c.tc.loc main_arg1)) p 2 q (rowOf t r)).symm
          | obtain rfl : j = ix2 p (kcol 3 q) := eq_ix2_of_val h0 (h1.trans (by rfl))
            refine congrArg _ (Finset.sum_congr rfl fun r _ => ?_)
            exact (dkv_k (m (c.tc.loc main_arg0)) (m (c.tc.loc main_arg2)) (m (c.tc.loc main_arg1)) p 3 q (rowOf t r)).symm
          | obtain rfl : j = ix2 p (vcol 0 q) := eq_ix2_of_val h0 (h1.trans (by rfl))
            refine congrArg _ (Finset.sum_congr rfl fun r _ => ?_)
            exact (dkv_v (m (c.tc.loc main_arg0)) (m (c.tc.loc main_arg2)) (m (c.tc.loc main_arg1)) p 0 q (rowOf t r)).symm
          | obtain rfl : j = ix2 p (vcol 1 q) := eq_ix2_of_val h0 (h1.trans (by rfl))
            refine congrArg _ (Finset.sum_congr rfl fun r _ => ?_)
            exact (dkv_v (m (c.tc.loc main_arg0)) (m (c.tc.loc main_arg2)) (m (c.tc.loc main_arg1)) p 1 q (rowOf t r)).symm
          | obtain rfl : j = ix2 p (vcol 2 q) := eq_ix2_of_val h0 (h1.trans (by rfl))
            refine congrArg _ (Finset.sum_congr rfl fun r _ => ?_)
            exact (dkv_v (m (c.tc.loc main_arg0)) (m (c.tc.loc main_arg2)) (m (c.tc.loc main_arg1)) p 2 q (rowOf t r)).symm
          | obtain rfl : j = ix2 p (vcol 3 q) := eq_ix2_of_val h0 (h1.trans (by rfl))
            refine congrArg _ (Finset.sum_congr rfl fun r _ => ?_)
            exact (dkv_v (m (c.tc.loc main_arg0)) (m (c.tc.loc main_arg2)) (m (c.tc.loc main_arg1)) p 3 q (rowOf t r)).symm
)
    (le_of_eq N_0) t0_7 rfl j, zero_add]
  exact Sums.tiles fun r => dkvRow (m (c.tc.loc main_arg0)) (m (c.tc.loc main_arg2)) (m (c.tc.loc main_arg1)) (j 0) (j 1) r

end Cert.Kernel2Ideal.Attn

end
-- ==== Proof.AttnRef.lean ====
module

public import proofs.«01_k».proof.Proof.Attn
public import proofs.«01_k».proof.Pre_finite2
public import proofs.«01_k».proof.Proof.Gen.Pre_finite2
public import proofs.«01_k».proof.Proof.Gen.Reference2Ideal.Read

@[expose] public section

set_option maxRecDepth 16384

noncomputable section

open Idealize.ShloMosaic Idealize.ShloMosaic.TcCoe Idealize.SL.Sem

namespace Cert.Reference2Ideal.Attn

open Cert.Reference2Ideal Cert.Reference2Ideal.Gen Cert.Reals Cert.Softmax Cert.Reference2Ideal.Read
open Cert.Kernel2Ideal.Attn (col kcol vcol head lane score dprob dscore dq dkRow dvRow dkvRow G3 G4)

variable (Q : FVec Ideal S4096x1024 .bf16) (KV : FVec Ideal S256x2048 .bf16) (DO : FVec Ideal S4096x1024 .bf16)

theorem col_mul (h : Fin 4) (d : Fin 256) (e) : (⟨(h : ℕ) * 256 + (d : ℕ), e⟩ : Fin 1024) = col h d :=
  Fin.ext (by show (h : ℕ) * 256 + (d : ℕ) = 256 * (h : ℕ) + (d : ℕ); omega)
theorem kcol_mul (h : Fin 4) (d : Fin 256) (e) : (⟨(h : ℕ) * 256 + (d : ℕ), e⟩ : Fin 2048) = kcol h d :=
  Fin.ext (by show (h : ℕ) * 256 + (d : ℕ) = 256 * (h : ℕ) + (d : ℕ); omega)
theorem vcol_mul (h : Fin 4) (d : Fin 256) (e) : (⟨1024 + ((h : ℕ) * 256 + (d : ℕ)), e⟩ : Fin 2048) = vcol h d :=
  Fin.ext (by show 1024 + ((h : ℕ) * 256 + (d : ℕ)) = 1024 + 256 * (h : ℕ) + (d : ℕ); omega)

theorem ref_score (h : Fin 4) (r : Fin 4096) (x : Fin 256) : val_main_v9 (F := Ideal) Q KV (ix3 h r x) = score Q KV r h x := by
  pointwise [val_main_v9, val_main_v8, val_main_cst, val_main_v7, val_main_v5, val_main_v3, val_main_v2, val_main_v1, val_main_v0]
  simp only [col_mul, kcol_mul]
  rfl

theorem ref_dprob (h : Fin 4) (r : Fin 4096) (x : Fin 256) : val_main_v44 (F := Ideal) KV DO (ix3 h r x) = dprob DO KV r h x := by
  pointwise [val_main_v44, val_main_v43, val_main_v42, val_main_v41, val_main_v6, val_main_v4, val_main_v1]
  simp only [col_mul, vcol_mul]
  rfl

theorem ref_top (h : Fin 4) (r : Fin 4096) :
    val_main_v10 (F := Ideal) Q KV (ix2 h r) = top (score Q KV r h) := by
  pointwise [val_main_v10, val_main_cst_0]
  simp only [ref_score]
  rfl

theorem ref_shift (h : Fin 4) (r : Fin 4096) : val_main_v17 (F := Ideal) Q KV (ix2 h r) = top (score Q KV r h) := by
  rw [val_main_v17_apply, ref_top, val_main_v16_apply, val_main_cst_2_apply]
  generalize top (score Q KV r h) = y
  show max (Ideal.ofBits .f32 4286578688#32) y = y
  rw [bot_bits]
  exact max_eq_right bot_le

theorem ref_num (h : Fin 4) (r : Fin 4096) (x : Fin 256) :
    val_main_v30 (F := Ideal) Q KV (ix3 h r x) = num (score Q KV r h) x := by
  pointwise [val_main_v30, val_main_v29, val_main_v28, val_main_v27]
  rw [ref_shift, ref_score]
  rfl

theorem ref_den (h : Fin 4) (r : Fin 4096) : val_main_v31 (F := Ideal) Q KV (ix2 h r) = den (score Q KV r h) := by
  pointwise [val_main_v31, val_main_cst_8]
  simp only [ref_num]
  rfl

theorem ref_prob (h : Fin 4) (r : Fin 4096) (x : Fin 256) :
    val_main_v34 (F := Ideal) Q KV (ix3 h r x) = prob (score Q KV r h) x := by
  pointwise [val_main_v34, val_main_v33, val_main_v32]
  rw [ref_num, ref_den]
  rfl

theorem ref_ds (h : Fin 4) (r : Fin 4096) (x : Fin 256) :
    val_main_v60 (F := Ideal) Q KV DO (ix3 h r x) = dsR (score Q KV r h) (dprob DO KV r h) x := by
  pointwise [val_main_v60, val_main_v59, val_main_cst_12, val_main_v58, val_main_v57, val_main_v56, val_main_v55, val_main_cst_11, val_main_v54, val_main_v53, val_main_v52, val_main_v51, val_main_v50, val_main_cst_10, val_main_v49, val_main_v48, val_main_v47, val_main_v37, val_main_v36, val_main_cst_9, val_main_v35, val_main_v32]
  simp only [Fin.sum_univ_one, ref_den, ref_num, ref_dprob]
  rfl

variable (hQ : ∀ r k, IsReal (Q (ix2 r k))) (hK : ∀ x h d, IsReal (KV (ix2 x (kcol h d))))

include hQ hK in
theorem score_real (r : Fin 4096) (h : Fin 4) (x : Fin 256) : IsReal (score Q KV r h x) := by
  refine real_mul (real_sum _ _ fun d => real_mul (hQ _ _) (hK _ _ _)) ⟨1 / 16, ?_⟩
  simp [scale, Ideal.ofBits, Ideal.ieee]
  rw [← EReal.coe_mul]
  norm_num

include hQ hK in
theorem ref_dscore (r : Fin 4096) (h : Fin 4) (x : Fin 256) :
    val_main_v60 (F := Ideal) Q KV DO (ix3 h r x) = dscore Q DO KV r h x :=
  (ref_ds Q KV DO h r x).trans (ds_eq _ _ (score_real Q KV hQ hK r h) x)

include hQ hK in
theorem ref_dq (r : Fin 4096) (h : Fin 4) (d : Fin 256) :
    val_main_v64 (F := Ideal) Q KV DO (ix3 r h d) = dq Q DO KV r h d := by
  pointwise [val_main_v64, val_main_v63, val_main_v5, val_main_v3, val_main_v1]
  simp only [kcol_mul, ref_dscore Q KV DO hQ hK]
  rfl

include hQ hK in
theorem ref_dk (x : Fin 256) (h : Fin 4) (d : Fin 256) :
    val_main_v62 (F := Ideal) Q KV DO (ix3 x h d) = ∑ r, dkRow Q DO KV x h d r := by
  pointwise [val_main_v62, val_main_v61, val_main_v2, val_main_v0]
  simp only [col_mul, ref_dscore Q KV DO hQ hK]
  rfl

theorem ref_dv (x : Fin 256) (h : Fin 4) (d : Fin 256) :
    val_main_v46 (F := Ideal) Q KV DO (ix3 x h d) = ∑ r, dvRow Q DO KV x h d r := by
  pointwise [val_main_v46, val_main_v45, val_main_v43, val_main_v42, val_main_v41]
  simp only [col_mul, ref_prob]
  exact Finset.sum_congr rfl fun r _ => mul_comm _ _

include hQ hK in
theorem eq3 : val_main_v69 (F := Ideal) Q KV DO = G3 Q DO KV := by
  funext j
  obtain ⟨r, n, rfl⟩ : ∃ (r : Fin 4096) (n : Fin 1024), j = ix2 r n := ⟨j 0, j 1, eq_ix2 j⟩
  pointwise [val_main_v69, val_main_v68]
  rw [ref_dq Q KV DO hQ hK]
  show _ = dq Q DO KV r (head n) (lane n)
  have e : (⟨(n : ℕ) / 256, by omega⟩ : Fin 4) = head n := Fin.ext (by show (n : ℕ) / 256 = (n : ℕ) / 256 % 4; omega)
  exact congrArg (dq Q DO KV r · (lane n)) e

include hQ hK in
theorem eq4 : val_main_v67 (F := Ideal) Q KV DO = G4 Q DO KV := by
  funext j
  obtain ⟨x, n, rfl⟩ : ∃ (x : Fin 256) (n : Fin 2048), j = ix2 x n := ⟨j 0, j 1, eq_ix2 j⟩
  pointwise [val_main_v67, val_main_v66, val_main_v65]
  simp only [ref_dk Q KV DO hQ hK, ref_dv Q KV DO]
  show _ = ∑ r : Fin 4096, dkvRow Q DO KV x n r
  unfold dkvRow
  split_ifs with h
  · have e : (⟨(n : ℕ) / 256, by omega⟩ : Fin 4) = head n := Fin.ext (by show (n : ℕ) / 256 = (n : ℕ) / 256 % 4; omega)
    exact Finset.sum_congr rfl fun r _ => congrArg (dkRow Q DO KV x · (lane n) r) e
  · have e : (⟨((n : ℕ) - 1024) / 256, by omega⟩ : Fin 4) = head n :=
      Fin.ext (by show ((n : ℕ) - 1024) / 256 = (n : ℕ) / 256 % 4; omega)
    have e' : (⟨((n : ℕ) - 1024) % 256, by omega⟩ : Fin 256) = lane n :=
      Fin.ext (by show ((n : ℕ) - 1024) % 256 = (n : ℕ) % 256; omega)
    exact Finset.sum_congr rfl fun r _ => congrArg₂ (dvRow Q DO KV x · · r) e e'
  · exact absurd rfl ‹_›

theorem of_finite (h : Pre_finite2.fn (F := Ideal) Q KV DO = fun _ => 1#1) :
    (∀ r k, IsReal (Q (ix2 r k))) ∧ ∀ x h d, IsReal (KV (ix2 x (kcol h d))) := by
  have h0 := congrFun h (fun a => a.elim0)
  unfold Pre_finite2.fn at h0
  obtain ⟨h1, h2⟩ := IntOp.andi_eq_one.1 h0
  haveI : Subsingleton Pre_finite2.S_.Idx := ⟨fun a b => funext fun x => x.elim0⟩
  refine ⟨fun r k => ?_, fun x h d => ?_⟩
  · exact real_of_olt _ (Host.reduce_andi_all _ _ _ _ _ h1 (ix2 r k))
  · have := real_of_olt _ (Host.reduce_andi_all _ _ _ _ _ h2 (ix2 x (col h d)))
    pointwise at this
    exact this

end Cert.Reference2Ideal.Attn

end
-- ==== Proof.AttnClaim.lean ====
module

public import proofs.«01_k».proof.Defs
public import proofs.«01_k».proof.Proof.AttnRef
public import proofs.«01_k».proof.Proof.Gen.Kernel2.Frame
public import proofs.«01_k».proof.Proof.Gen.Kernel2Ideal.Value
public import proofs.«01_k».proof.Proof.Gen.Reference2Ideal.Run
public import Idealize.ShloMosaic.Lib.Quiescent

@[expose] public section

set_option maxRecDepth 16384

noncomputable section

open Idealize.ShloMosaic Idealize.ShloMosaic.TcCoe Idealize.SL.Sem

open Cert.Kernel2Ideal (main_arg0 main_arg1 main_arg2)

namespace Cert.Proof.Attn

/-- The reference runs on the host alone: it has no semaphores, and it leaves its arguments as they were. -/
theorem quiescent_ref : quiescent_Reference2Ideal := fun m g _ =>
  (θ_run _ _ _).mono (fun r h => ⟨fun c => (h c).2.2, sem_eq_zero_of_no_sems (by decide) r.2⟩)
    (Reference2Ideal.Value.run (F := Ideal) m g)

/-- Attention's gradients: the queries' and the keys' and values' gradients are the reference's. -/
theorem algebraic : algebraic_Kernel2Ideal_Reference2Ideal_pre_finite2 := by
  intro m g m' g' hpre hagree
  refine ⟨fun c => Kernel2Ideal.Attn.G3 (m (c.tc.loc main_arg0)) (m (c.tc.loc main_arg2)) (m (c.tc.loc main_arg1)), fun c => Kernel2Ideal.Attn.G4 (m (c.tc.loc main_arg0)) (m (c.tc.loc main_arg2)) (m (c.tc.loc main_arg1)),
    (θ_run _ _ _).mono (fun r h c => ?_) (Kernel2Ideal.Value.run_blocks m g),
    (θ_run _ _ _).mono (fun r h c => ⟨(h c).1.trans ?_, (h c).2.1.trans ?_, (h c).2.2⟩) (Reference2Ideal.Value.run (F := Ideal) m' g')⟩
  · exact ⟨(h c).1.trans (Kernel2Ideal.Attn.final3 m c), (h c).2.1.trans (Kernel2Ideal.Attn.final4 m c), (h c).2.2⟩
  · obtain ⟨e0, e1, e2⟩ := hagree c
    refine (Reference2Ideal.Read.val_main_v69_eq m' c).trans ?_
    rw [e0, e1, e2]
    obtain ⟨hQ, hK⟩ := Reference2Ideal.Attn.of_finite _ _ _ (hpre c)
    exact Reference2Ideal.Attn.eq3 _ _ _ hQ hK
  · obtain ⟨e0, e1, e2⟩ := hagree c
    refine (Reference2Ideal.Read.val_main_v67_eq m' c).trans ?_
    rw [e0, e1, e2]
    obtain ⟨hQ, hK⟩ := Reference2Ideal.Attn.of_finite _ _ _ (hpre c)
    exact Reference2Ideal.Attn.eq4 _ _ _ hQ hK

end Cert.Proof.Attn

end
-- ==== Proof.Rms.lean ====
module

public import proofs.«01_k».proof.Proof.Reals

@[expose] public section

set_option maxRecDepth 16384

noncomputable section

open Idealize.ShloMosaic

namespace Cert.Rms

open Cert.Reals

/-- The width of a row, as both programs write it. -/
def width : EReal := Ideal.ofBits .f32 0x44800000#32
/-- The small term under the root. -/
def eps : EReal := Ideal.ofBits .f32 0x358637BD#32
/-- The exponent's constant of the root's derivative. -/
def negHalf : EReal := Ideal.ofBits .f32 0xBF000000#32

theorem width_coe : width = ((1024 : ℝ) : EReal) := by
  simp [width, Ideal.ofBits, Ideal.ieee]
  rw [← EReal.coe_mul]
  norm_num

theorem eps_coe : ∃ e : ℝ, 0 < e ∧ eps = (e : EReal) := by
  refine ⟨8796093 / 2 ^ 43, by norm_num, ?_⟩
  simp [eps, Ideal.ofBits, Ideal.ieee]
  rw [← EReal.coe_mul]
  norm_num

theorem negHalf_coe : negHalf = ((-(1 / 2) : ℝ) : EReal) := by
  simp [negHalf, Ideal.ofBits, Ideal.ieee]
  rw [← EReal.coe_mul]
  norm_num

/-- The mean of a row's squares plus the small term. -/
def var (x : Fin 1024 → EReal) : EReal := Ideal.div (∑ k, x k * x k) width + eps

/-- The reciprocal root mean square of a row. -/
def inv (x : Fin 1024 → EReal) : EReal := Ideal.rsqrt (var x)

/-- The gradient of a normalised row in its input, as the kernel writes it. -/
def dxK (x g dy : Fin 1024 → EReal) (c : Fin 1024) : EReal :=
  inv x * (dy c * g c - x c * inv x * Ideal.div (∑ k, dy k * g k * (x k * inv x)) width)

/-- What the mean of squares receives, in the reference. -/
def dvar (x g dy : Fin 1024 → EReal) : EReal :=
  Ideal.div ((∑ k, x k * (dy k * g k)) * (negHalf * Ideal.div (inv x) (var x))) width

/-- The same gradient by the chain rule, as the reference writes it. -/
def dxR (x g dy : Fin 1024 → EReal) (c : Fin 1024) : EReal :=
  dy c * g c * inv x + x c * dvar x g dy + dvar x g dy * x c

theorem var_coe (x : Fin 1024 → ℝ) : ∃ v : ℝ, 0 < v ∧ var (fun k => (x k : EReal)) = (v : EReal) := by
  obtain ⟨e, he, he'⟩ := eps_coe
  refine ⟨(∑ k, x k * x k) / 1024 + e, ?_, ?_⟩
  · have : 0 ≤ ∑ k, x k * x k := Finset.sum_nonneg fun k _ => mul_self_nonneg _
    positivity
  · unfold var
    have e1 : (∑ k, (x k : EReal) * (x k : EReal)) = ((∑ k, x k * x k : ℝ) : EReal) := by
      rw [coe_sum]
      exact Finset.sum_congr rfl fun k _ => (EReal.coe_mul _ _).symm
    beta_reduce
    rw [width_coe, he', e1, div_coe _ _ (by norm_num), EReal.coe_add]

theorem rsqrt_coe (v : ℝ) (h : 0 < v) : Ideal.rsqrt (v : EReal) = (((Real.sqrt v)⁻¹ : ℝ) : EReal) := by
  have h1 : ¬ v < 0 := by linarith
  have h2 : v ≠ 0 := h.ne'
  exact (if_neg h1).trans (if_neg h2)

/-- For a row of reals the two forms of the gradient agree. -/
theorem dx_eq (x g dy : Fin 1024 → EReal) (hx : ∀ k, IsReal (x k)) (hg : ∀ k, IsReal (g k)) (hy : ∀ k, IsReal (dy k))
    (c : Fin 1024) : dxR x g dy c = dxK x g dy c := by
  choose x' hx using hx
  choose g' hg using hg
  choose y' hy using hy
  obtain rfl : x = fun k => (x' k : EReal) := funext hx
  obtain rfl : g = fun k => (g' k : EReal) := funext hg
  obtain rfl : dy = fun k => (y' k : EReal) := funext hy
  obtain ⟨v, hv, hv'⟩ := var_coe x'
  unfold dxR dxK dvar inv
  beta_reduce
  rw [hv', rsqrt_coe v hv, width_coe, negHalf_coe, div_coe _ _ hv.ne']
  have hs : 0 < Real.sqrt v := Real.sqrt_pos.2 hv
  have e1 : (∑ k, (y' k : EReal) * (g' k : EReal) * ((x' k : EReal) * (((Real.sqrt v)⁻¹ : ℝ) : EReal)))
      = (((∑ k, x' k * (y' k * g' k)) * (Real.sqrt v)⁻¹ : ℝ) : EReal) := by
    rw [Finset.sum_mul, coe_sum]
    refine Finset.sum_congr rfl fun k _ => ?_
    rw [← EReal.coe_mul, ← EReal.coe_mul, ← EReal.coe_mul]
    refine congrArg _ ?_
    ring
  have e2 : (∑ k, (x' k : EReal) * ((y' k : EReal) * (g' k : EReal))) = ((∑ k, x' k * (y' k * g' k) : ℝ) : EReal) := by
    rw [coe_sum]
    refine Finset.sum_congr rfl fun k _ => ?_
    rw [← EReal.coe_mul, ← EReal.coe_mul]
  rw [e1, e2]
  generalize (∑ k, x' k * (y' k * g' k)) = S
  rw [div_coe _ _ (by norm_num)]
  have e3 : ((S : EReal) * (((-(1 / 2) : ℝ) : EReal) * (((Real.sqrt v)⁻¹ / v : ℝ) : EReal)))
      = ((S * (-(1 / 2) * ((Real.sqrt v)⁻¹ / v)) : ℝ) : EReal) := by norm_cast
  rw [e3, div_coe _ _ (by norm_num)]
  have hq : v = Real.sqrt v * Real.sqrt v := (Real.mul_self_sqrt hv.le).symm
  have : y' c * g' c * (Real.sqrt v)⁻¹ + x' c * (S * (-(1 / 2) * ((Real.sqrt v)⁻¹ / v)) / 1024)
        + S * (-(1 / 2) * ((Real.sqrt v)⁻¹ / v)) / 1024 * x' c
      = (Real.sqrt v)⁻¹ * (y' c * g' c - x' c * (Real.sqrt v)⁻¹ * (S * (Real.sqrt v)⁻¹ / 1024)) := by
    generalize Real.sqrt v = s at *
    subst hq
    field_simp
    ring
  exact_mod_cast congrArg (fun r : ℝ => (r : EReal)) this

theorem inv_real (x : Fin 1024 → EReal) (hx : ∀ k, IsReal (x k)) : IsReal (inv x) := by
  choose x' hx using hx
  obtain rfl : x = fun k => (x' k : EReal) := funext hx
  obtain ⟨v, hv, hv'⟩ := var_coe x'
  exact ⟨_, by unfold inv; rw [hv', rsqrt_coe v hv]⟩

theorem width_div_real {a : EReal} (ha : IsReal a) : IsReal (Ideal.div a width) := by
  obtain ⟨a, rfl⟩ := ha
  exact ⟨_, by rw [width_coe, div_coe _ _ (by norm_num)]⟩

theorem dxK_real (x g dy : Fin 1024 → EReal) (hx : ∀ k, IsReal (x k)) (hg : ∀ k, IsReal (g k)) (hy : ∀ k, IsReal (dy k))
    (c : Fin 1024) : IsReal (dxK x g dy c) :=
  real_mul (inv_real x hx) (real_sub (real_mul (hy c) (hg c)) (real_mul (real_mul (hx c) (inv_real x hx))
    (width_div_real (real_sum _ _ fun k => real_mul (real_mul (hy k) (hg k)) (real_mul (hx k) (inv_real x hx))))))

end Cert.Rms

end
-- ==== Proof.Boundary.lean ====
module

public import proofs.«01_k».proof.Proof.Gen.Kernel3Ideal.Value
public import Idealize.ShloMosaic.Lib.Pipeline.ValueKit
public import Idealize.ShloMosaic.Lib.Pointwise
public import proofs.«01_k».proof.Proof.Rms
public import proofs.«01_k».proof.Proof.Sums

@[expose] public section

set_option maxRecDepth 16384

noncomputable section

open Idealize.ShloMosaic Idealize.ShloMosaic.TcCoe Idealize.SL.Sem

namespace Cert.Kernel3Ideal.Boundary

open Cert.Kernel3Ideal Cert.Kernel3Ideal.Gen Cert.Rms

/-- The gradient of the normalised rows: row `r` of `A` against row `c` of the second layer's weights. -/
def dn (A : FVec Ideal S4096x5632 .bf16) (W : FVec Ideal S4x1024x5632 .bf16) (r : Fin 4096) (c : Fin 1024) : EReal :=
  ∑ k : Fin 5632, A (ix2 r k) * W (ix3 1 c k)

/-- The residual stream's gradient below the sublayer. -/
def dh (A : FVec Ideal S4096x5632 .bf16) (W : FVec Ideal S4x1024x5632 .bf16) (H : FVec Ideal S4096x1024 .f32)
    (GP : FVec Ideal S1x1024 .f32) (DH : FVec Ideal S4096x1024 .f32) (r : Fin 4096) (c : Fin 1024) : EReal :=
  DH (ix2 r c) + dxK (fun k => H (ix2 r k)) (fun k => GP (ix2 0 k)) (fun k => dn A W r k) c

/-- Row `r`'s part of the gradient of the norm's gain before the sublayer. -/
def dgRow (A : FVec Ideal S4096x5632 .bf16) (W : FVec Ideal S4x1024x5632 .bf16) (H : FVec Ideal S4096x1024 .f32)
    (r : Fin 4096) (c : Fin 1024) : EReal :=
  dn A W r c * (H (ix2 r c) * inv fun k => H (ix2 r k))

/-- Row `r`'s part of the gradient of the previous norm's gain. -/
def dgpRow (A : FVec Ideal S4096x5632 .bf16) (W : FVec Ideal S4x1024x5632 .bf16) (H : FVec Ideal S4096x1024 .f32)
    (GP : FVec Ideal S1x1024 .f32) (DH : FVec Ideal S4096x1024 .f32) (P : FVec Ideal S4096x1024 .f32)
    (r : Fin 4096) (c : Fin 1024) : EReal :=
  dh A W H GP DH r c * (P (ix2 r c) * inv fun k => P (ix2 r k))

def G7 (A : FVec Ideal S4096x5632 .bf16) (W : FVec Ideal S4x1024x5632 .bf16) (H : FVec Ideal S4096x1024 .f32)
    (GP : FVec Ideal S1x1024 .f32) (DH : FVec Ideal S4096x1024 .f32) : FVec Ideal S4096x1024 .f32 :=
  fun j => dh A W H GP DH (j 0) (j 1)

def G8 (A : FVec Ideal S4096x5632 .bf16) (W : FVec Ideal S4x1024x5632 .bf16) (H : FVec Ideal S4096x1024 .f32)
    (GP : FVec Ideal S1x1024 .f32) (DH : FVec Ideal S4096x1024 .f32) (P : FVec Ideal S4096x1024 .f32)
    (GQ : FVec Ideal S1x1024 .f32) : FVec Ideal S4096x1024 .bf16 :=
  fun j => dxK (fun k => P (ix2 (j 0) k)) (fun k => GQ (ix2 0 k)) (fun k => dh A W H GP DH (j 0) k) (j 1)

def G9 (A : FVec Ideal S4096x5632 .bf16) (W : FVec Ideal S4x1024x5632 .bf16) (H : FVec Ideal S4096x1024 .f32) :
    FVec Ideal S1x1024 .f32 :=
  fun j => ∑ r : Fin 4096, dgRow A W H r (j 1)

def G10 (A : FVec Ideal S4096x5632 .bf16) (W : FVec Ideal S4x1024x5632 .bf16) (H : FVec Ideal S4096x1024 .f32)
    (GP : FVec Ideal S1x1024 .f32) (DH : FVec Ideal S4096x1024 .f32) (P : FVec Ideal S4096x1024 .f32) :
    FVec Ideal S1x1024 .f32 :=
  fun j => ∑ r : Fin 4096, dgpRow A W H GP DH P r (j 1)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![1, 0, 0] ∧ win0_5.index t = ![0, 0]
    ∧ win0_6.index t = ![0, 0] ∧ win0_7.index t = ![t.val, 0] ∧ win0_8.index t = ![t.val, 0] :=
  (by decide +kernel : ∀ t : Fin grid0.N, _)

/-- Row `p` of grid point `t`'s tile, as a row of the array. -/
def rowOf (t : Fin cfg0.N) (p : Fin 512) : Fin 4096 :=
  ⟨512 * (t : ℕ) + (p : ℕ), by have : (t : ℕ) < 8 := t.isLt; omega⟩

theorem blkA (c : Dev nD) (t : Fin cfg0.N) (p : Fin 512) (k : Fin 5632) :
    iblk m c 0 t (ix2 p k) = m (c.tc.loc main_arg0) (ix2 (rowOf t p) k) := by
  unfold rowOf; blk_point [iblk, V, idx t]

theorem blkH (c : Dev nD) (t : Fin cfg0.N) (p : Fin 512) (k : Fin 1024) :
    iblk m c 1 t (ix2 p k) = m (c.tc.loc main_arg2) (ix2 (rowOf t p) k) := by
  unfold rowOf; blk_point [iblk, V, idx t]

theorem blkDH (c : Dev nD) (t : Fin cfg0.N) (p : Fin 512) (k : Fin 1024) :
    iblk m c 2 t (ix2 p k) = m (c.tc.loc main_arg4) (ix2 (rowOf t p) k) := by
  unfold rowOf; blk_point [iblk, V, idx t]

theorem blkF (c : Dev nD) (t : Fin cfg0.N) (p : Fin 512) (k : Fin 1024) :
    iblk m c 3 t (ix2 p k) = m (c.tc.loc main_arg5) (ix2 (rowOf t p) k) := by
  unfold rowOf; blk_point [iblk, V, idx t]

theorem blkW (c : Dev nD) (t : Fin cfg0.N) (k : Fin 1024) (l : Fin 5632) :
    iblk m c 4 t (ix3 0 k l) = m (c.tc.loc main_arg1) (ix3 1 k l) := by
  blk_point [iblk, V, idx t]

theorem blkGP (c : Dev nD) (t : Fin cfg0.N) (k : Fin 1024) :
    iblk m c 5 t (ix2 0 k) = m (c.tc.loc main_arg3) (ix2 0 k) := by
  blk_point [iblk, V, idx t]

theorem blkGQ (c : Dev nD) (t : Fin cfg0.N) (k : Fin 1024) :
    iblk m c 6 t (ix2 0 k) = m (c.tc.loc main_arg6) (ix2 0 k) := by
  blk_point [iblk, V, idx t]

set_option maxHeartbeats 1000000 in
theorem final7 (c : Dev nD) : (dats m 0 c).arrAt 7 cfg0.N
    = G7 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after0_7]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_0).slice (win0_7.rect t)).emb y = ix2 (rowOf t ⟨256 + (p : ℕ), by omega⟩) q := by
          unfold rowOf
          blk_ext [idx t]
        rw [e]
        rfl
      | have e : ((View.whole main_v0_0).slice (win0_7.rect t)).emb y = ix2 (rowOf t ⟨(p : ℕ), by omega⟩) q := by
          unfold rowOf
          blk_ext [idx t]
        rw [e]
        rfl

set_option maxHeartbeats 1000000 in
theorem final8 (c : Dev nD) : (dats m 0 c).arrAt 8 cfg0.N
    = G8 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_1).slice (win0_8.rect t)).emb y = ix2 (rowOf t ⟨256 + (p : ℕ), by omega⟩) q := by
          unfold rowOf
          blk_ext [idx t]
        rw [e]
        rfl
      | have e : ((View.whole main_v0_1).slice (win0_8.rect t)).emb y = ix2 (rowOf t ⟨(p : ℕ), by omega⟩) q := by
          unfold rowOf
          blk_ext [idx t]
        rw [e]
        rfl

/-- What grid point `t` adds to the block. -/
def term9 (c : Dev nD) (t : Fin cfg0.N) (j : S1x1024.Idx) : EReal :=
  ∑ k : Fin 512, dgRow (m (c.tc.loc main_arg0)) (m (c.tc.loc main_arg1)) (m (c.tc.loc main_arg2)) (rowOf t k) (j 1)

set_option maxHeartbeats 1000000 in
theorem final9 (c : Dev nD) : (dats m 0 c).arrAt 9 cfg0.N
    = G9 (m (c.tc.loc main_arg0)) (m (c.tc.loc main_arg1)) (m (c.tc.loc main_arg2)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => (0 : EReal)) (term9 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgRow (m (c.tc.loc main_arg0)) (m (c.tc.loc main_arg1)) (m (c.tc.loc main_arg2)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgRow (m (c.tc.loc main_arg0)) (m (c.tc.loc main_arg1)) (m (c.tc.loc main_arg2)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgRow (m (c.tc.loc main_arg0)) (m (c.tc.loc main_arg1)) (m (c.tc.loc main_arg2)) r q

/-- What grid point `t` adds to the block. -/
def term10 (c : Dev nD) (t : Fin cfg0.N) (j : S1x1024.Idx) : EReal :=
  ∑ k : Fin 512, dgpRow (m (c.tc.loc main_arg0)) (m (c.tc.loc main_arg1)) (m (c.tc.loc main_arg2)) (m (c.tc.loc main_arg3)) (m (c.tc.loc main_arg4)) (m (c.tc.loc main_arg5)) (rowOf t k) (j 1)

set_option maxHeartbeats 1000000 in
theorem final10 (c : Dev nD) : (dats m 0 c).arrAt 10 cfg0.N
    = G10 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => (0 : EReal)) (term10 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgpRow (m (c.tc.loc main_arg0)) (m (c.tc.loc main_arg1)) (m (c.tc.loc main_arg2)) (m (c.tc.loc main_arg3)) (m (c.tc.loc main_arg4)) (m (c.tc.loc main_arg5)) r q

end Cert.Kernel3Ideal.Boundary

end
-- ==== Proof.BoundaryRef.lean ====
module

public import proofs.«01_k».proof.Proof.Boundary
public import proofs.«01_k».proof.Pre_finite3
public import proofs.«01_k».proof.Proof.Gen.Pre_finite3
public import proofs.«01_k».proof.Proof.Gen.Reference3Ideal.Read

@[expose] public section

set_option maxRecDepth 16384

noncomputable section

open Idealize.ShloMosaic Idealize.ShloMosaic.TcCoe Idealize.SL.Sem

namespace Cert.Reference3Ideal.Boundary

open Cert.Reference3Ideal Cert.Reference3Ideal.Gen Cert.Reals Cert.Rms Cert.Reference3Ideal.Read
open Cert.Kernel3Ideal.Boundary (dn dh dgRow dgpRow G7 G8 G9 G10)

variable (A : FVec Ideal S4096x5632 .bf16) (W : FVec Ideal S4x1024x5632 .bf16) (H : FVec Ideal S4096x1024 .f32)
  (GP : FVec Ideal S1x1024 .f32) (DH : FVec Ideal S4096x1024 .f32) (P : FVec Ideal S4096x1024 .f32)
  (GQ : FVec Ideal S1x1024 .f32)

theorem ref_dh (r : Fin 4096) (c : Fin 1024) :
    val_main_v40 (F := Ideal) A W H GP DH (ix2 r c)
      = DH (ix2 r c) + dxR (fun k => H (ix2 r k)) (fun k => GP (ix2 0 k)) (fun k => dn A W r k) c := by
  pointwise [val_main_v40, val_main_v39, val_main_v38, val_main_v37, val_main_v36, val_main_v35, val_main_v34, val_main_cst_6, val_main_v33, val_main_v32, val_main_cst_5, val_main_v31, val_main_v30, val_main_v29, val_main_v28, val_main_v27, val_main_cst_4, val_main_v26, val_main_v25, val_main_v24, val_main_v20, val_main_v14, val_main_v13, val_main_cst_2, val_main_v12, val_main_v11, val_main_v10, val_main_v9, val_main_cst_1, val_main_v8, val_main_v7, val_main_cst_0, val_main_v6, val_main_v5, val_main_cst, val_main_v4, val_main_v3, val_main_v2, val_main_v1, val_main_v0]
  simp only [Fin.sum_univ_one]
  rfl

theorem ref_dg (c : Fin 1024) :
    val_main_v23 (F := Ideal) A W H (ix2 0 c) = ∑ r : Fin 4096, H (ix2 r c) * inv (fun k => H (ix2 r k)) * dn A W r c := by
  pointwise [val_main_v23, val_main_v22, val_main_cst_3, val_main_v21, val_main_v20, val_main_v16, val_main_v15, val_main_v11, val_main_v10, val_main_v9, val_main_cst_1, val_main_v8, val_main_v7, val_main_cst_0, val_main_v6, val_main_v5, val_main_cst, val_main_v4, val_main_v3, val_main_v2, val_main_v1, val_main_v0]
  rfl

theorem ref_df (r : Fin 4096) (c : Fin 1024) :
    val_main_v79 (F := Ideal) A W H GP DH P GQ (ix2 r c)
      = dxR (fun k => P (ix2 r k)) (fun k => GQ (ix2 0 k)) (fun k => val_main_v40 (F := Ideal) A W H GP DH (ix2 r k)) c := by
  pointwise [val_main_v79, val_main_v78, val_main_v77, val_main_v76, val_main_v75, val_main_v74, val_main_v73, val_main_cst_16, val_main_v72, val_main_v71, val_main_cst_15, val_main_v70, val_main_v69, val_main_v68, val_main_v67, val_main_v66, val_main_cst_14, val_main_v65, val_main_v64, val_main_v63, val_main_v59, val_main_v58, val_main_cst_12, val_main_v51, val_main_v50, val_main_cst_10, val_main_v49, val_main_v48, val_main_v47, val_main_v46, val_main_cst_9, val_main_v45, val_main_v44, val_main_cst_8, val_main_v43, val_main_v42, val_main_cst_7, val_main_v41]
  simp only [Fin.sum_univ_one]
  rfl

theorem ref_dgp (c : Fin 1024) :
    val_main_v62 (F := Ideal) A W H GP DH P (ix2 0 c)
      = ∑ r : Fin 4096, P (ix2 r c) * inv (fun k => P (ix2 r k)) * val_main_v40 (F := Ideal) A W H GP DH (ix2 r c) := by
  pointwise [val_main_v62, val_main_v61, val_main_cst_13, val_main_v60, val_main_v59, val_main_v58, val_main_cst_12, val_main_v53, val_main_v52, val_main_v48, val_main_v47, val_main_v46, val_main_cst_9, val_main_v45, val_main_v44, val_main_cst_8, val_main_v43, val_main_v42, val_main_cst_7, val_main_v41]
  rfl

variable (hA : ∀ r k, IsReal (A (ix2 r k))) (hW : ∀ c k, IsReal (W (ix3 1 c k))) (hH : ∀ r k, IsReal (H (ix2 r k)))
  (hGP : ∀ k, IsReal (GP (ix2 0 k))) (hDH : ∀ r k, IsReal (DH (ix2 r k))) (hP : ∀ r k, IsReal (P (ix2 r k)))
  (hGQ : ∀ k, IsReal (GQ (ix2 0 k)))

include hA hW in
theorem dn_real (r : Fin 4096) (c : Fin 1024) : IsReal (dn A W r c) :=
  real_sum _ _ fun k => real_mul (hA r k) (hW c k)

include hA hW hH hGP in
theorem dh_eq (r : Fin 4096) (c : Fin 1024) : val_main_v40 (F := Ideal) A W H GP DH (ix2 r c) = dh A W H GP DH r c := by
  rw [ref_dh, dx_eq _ _ _ (fun k => hH r k) hGP (fun k => dn_real A W hA hW r k)]
  rfl

include hA hW hH hGP hDH in
theorem dh_real (r : Fin 4096) (c : Fin 1024) : IsReal (dh A W H GP DH r c) :=
  real_add (hDH r c) (dxK_real _ _ _ (fun k => hH r k) hGP (fun k => dn_real A W hA hW r k) c)

include hA hW hH hGP in
theorem eq7 : val_main_v40 (F := Ideal) A W H GP DH = G7 A W H GP DH := by
  funext j
  exact (congrArg _ (eq_ix2 j)).trans (dh_eq A W H GP DH hA hW hH hGP (j 0) (j 1))

include hA hW hH hGP hDH hP hGQ in
theorem eq8 : val_main_v79 (F := Ideal) A W H GP DH P GQ = G8 A W H GP DH P GQ := by
  funext j
  refine (congrArg _ (eq_ix2 j)).trans ((ref_df A W H GP DH P GQ (j 0) (j 1)).trans ?_)
  rw [show (fun k => val_main_v40 (F := Ideal) A W H GP DH (ix2 (j 0) k)) = fun k => dh A W H GP DH (j 0) k from
    funext fun k => dh_eq A W H GP DH hA hW hH hGP (j 0) k]
  exact dx_eq _ _ _ (fun k => hP (j 0) k) hGQ (fun k => dh_real A W H GP DH hA hW hH hGP hDH (j 0) k) (j 1)

theorem eq9 : val_main_v23 (F := Ideal) A W H = G9 A W H := by
  funext j
  obtain ⟨q, rfl⟩ : ∃ q : Fin 1024, j = ix2 0 q :=
    ⟨j 1, (eq_ix2 j).trans (congrArg (fun p => ix2 p (j 1)) (Subsingleton.elim (α := Fin 1) _ _))⟩
  exact (ref_dg A W H q).trans (Finset.sum_congr rfl fun r _ => mul_comm _ _)

include hA hW hH hGP in
theorem eq10 : val_main_v62 (F := Ideal) A W H GP DH P = G10 A W H GP DH P := by
  funext j
  obtain ⟨q, rfl⟩ : ∃ q : Fin 1024, j = ix2 0 q :=
    ⟨j 1, (eq_ix2 j).trans (congrArg (fun p => ix2 p (j 1)) (Subsingleton.elim (α := Fin 1) _ _))⟩
  refine (ref_dgp A W H GP DH P q).trans (Finset.sum_congr rfl fun r _ => (mul_comm _ _).trans ?_)
  rw [dh_eq A W H GP DH hA hW hH hGP]
  rfl

/-- What the precondition says of the seven arrays. -/
theorem of_finite (h : Pre_finite3.fn (F := Ideal) A W H GP DH P GQ = fun _ => 1#1) :
    (∀ r k, IsReal (A (ix2 r k))) ∧ (∀ c k, IsReal (W (ix3 1 c k))) ∧ (∀ r k, IsReal (H (ix2 r k)))
      ∧ (∀ k, IsReal (GP (ix2 0 k))) ∧ (∀ r k, IsReal (DH (ix2 r k))) ∧ (∀ r k, IsReal (P (ix2 r k)))
      ∧ ∀ k, IsReal (GQ (ix2 0 k)) := by
  have h0 := congrFun h (fun a => a.elim0)
  unfold Pre_finite3.fn Pre_finite3.fn_part1 Pre_finite3.fn_part2 at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Pre_finite3.S_.Idx := ⟨fun a b => funext fun x => x.elim0⟩
  refine ⟨fun r k => ?_, fun c k => ?_, fun r k => ?_, fun k => ?_, fun r k => ?_, fun r k => ?_, fun k => ?_⟩
  · exact real_of_olt _ (Host.reduce_andi_all _ _ _ _ _ h1 (ix2 r k))
  · have := real_of_olt _ (Host.reduce_andi_all _ _ _ _ _ h2 (ix2 c k))
    pointwise at this
    exact this
  · exact real_of_olt _ (Host.reduce_andi_all _ _ _ _ _ h3 (ix2 r k))
  · exact real_of_olt _ (Host.reduce_andi_all _ _ _ _ _ h4 (ix2 0 k))
  · exact real_of_olt _ (Host.reduce_andi_all _ _ _ _ _ h5 (ix2 r k))
  · exact real_of_olt _ (Host.reduce_andi_all _ _ _ _ _ h6 (ix2 r k))
  · exact real_of_olt _ (Host.reduce_andi_all _ _ _ _ _ h7 (ix2 0 k))

end Cert.Reference3Ideal.Boundary

end
-- ==== Proof.BoundaryClaim.lean ====
module

public import proofs.«01_k».proof.Defs
public import proofs.«01_k».proof.Proof.BoundaryRef
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent

@[expose] public section

set_option maxRecDepth 16384

noncomputable section

open Idealize.ShloMosaic Idealize.ShloMosaic.TcCoe Idealize.SL.Sem

open Cert.Kernel3Ideal (main_arg0 main_arg1 main_arg2 main_arg3 main_arg4 main_arg5 main_arg6)

namespace Cert.Proof.Boundary

/-- The reference runs on the host alone: it has no semaphores, and it leaves its arguments as they were. -/
theorem quiescent_ref : quiescent_Reference3Ideal := fun m g _ =>
  (θ_run _ _ _).mono (fun r h => ⟨fun c => (h c).2.2.2.2, sem_eq_zero_of_no_sems (by decide) r.2⟩)
    (Reference3Ideal.Value.run (F := Ideal) m g)

/-- The gradients between two sublayers: each of the kernel's four results is the reference's. -/
theorem algebraic : algebraic_Kernel3Ideal_Reference3Ideal_pre_finite3 := by
  intro m g m' g' hpre hagree
  refine ⟨fun c => Kernel3Ideal.Boundary.G7 (m (c.tc.loc main_arg0)) (m (c.tc.loc main_arg1)) (m (c.tc.loc main_arg2)) (m (c.tc.loc main_arg3)) (m (c.tc.loc main_arg4)), fun c => Kernel3Ideal.Boundary.G8 (m (c.tc.loc main_arg0)) (m (c.tc.loc main_arg1)) (m (c.tc.loc main_arg2)) (m (c.tc.loc main_arg3)) (m (c.tc.loc main_arg4)) (m (c.tc.loc main_arg5)) (m (c.tc.loc main_arg6)), fun c => Kernel3Ideal.Boundary.G9 (m (c.tc.loc main_arg0)) (m (c.tc.loc main_arg1)) (m (c.tc.loc main_arg2)), fun c => Kernel3Ideal.Boundary.G10 (m (c.tc.loc main_arg0)) (m (c.tc.loc main_arg1)) (m (c.tc.loc main_arg2)) (m (c.tc.loc main_arg3)) (m (c.tc.loc main_arg4)) (m (c.tc.loc main_arg5)),
    (θ_run _ _ _).mono (fun r h c => ?_) (Kernel3Ideal.Value.run_blocks m g),
    (θ_run _ _ _).mono (fun r h c => ⟨(h c).1.trans ?_, (h c).2.1.trans ?_, (h c).2.2.1.trans ?_, (h c).2.2.2.1.trans ?_, (h c).2.2.2.2⟩) (Reference3Ideal.Value.run (F := Ideal) m' g')⟩
  · exact ⟨(h c).1.trans (Kernel3Ideal.Boundary.final7 m c), (h c).2.1.trans (Kernel3Ideal.Boundary.final8 m c), (h c).2.2.1.trans (Kernel3Ideal.Boundary.final9 m c), (h c).2.2.2.1.trans (Kernel3Ideal.Boundary.final10 m c), (h c).2.2.2.2⟩
  · obtain ⟨e0, e1, e2, e3, e4, e5, e6⟩ := hagree c
    refine (Reference3Ideal.Read.val_main_v40_eq m' c).trans ?_
    rw [e0, e1, e2, e3, e4]
    obtain ⟨h0, h1, h2, h3, h4, h5, h6⟩ := Reference3Ideal.Boundary.of_finite _ _ _ _ _ _ _ (hpre c)
    exact Reference3Ideal.Boundary.eq7 _ _ _ _ _ h0 h1 h2 h3
  · obtain ⟨e0, e1, e2, e3, e4, e5, e6⟩ := hagree c
    refine (Reference3Ideal.Read.val_main_v79_eq m' c).trans ?_
    rw [e0, e1, e2, e3, e4, e5, e6]
    obtain ⟨h0, h1, h2, h3, h4, h5, h6⟩ := Reference3Ideal.Boundary.of_finite _ _ _ _ _ _ _ (hpre c)
    exact Reference3Ideal.Boundary.eq8 _ _ _ _ _ _ _ h0 h1 h2 h3 h4 h5 h6
  · obtain ⟨e0, e1, e2, e3, e4, e5, e6⟩ := hagree c
    refine (Reference3Ideal.Read.val_main_v23_eq _ _ _).trans ?_
    rw [e0, e1, e2]
    exact Reference3Ideal.Boundary.eq9 _ _ _
  · obtain ⟨e0, e1, e2, e3, e4, e5, e6⟩ := hagree c
    refine (Reference3Ideal.Read.val_main_v62_eq m' c).trans ?_
    rw [e0, e1, e2, e3, e4, e5]
    obtain ⟨h0, h1, h2, h3, h4, h5, h6⟩ := Reference3Ideal.Boundary.of_finite _ _ _ _ _ _ _ (hpre c)
    exact Reference3Ideal.Boundary.eq10 _ _ _ _ _ _ h0 h1 h2 h3

end Cert.Proof.Boundary

end
-- ==== Proof.WGradUp.lean ====
module

public import proofs.«01_k».proof.Proof.Gen.Kernel4Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.WGradUp

open Cert.Kernel4Ideal Cert.Kernel4Ideal.Gen

/-- The weight's gradient: column `p` of the layer's input against column `q` of the gradient of its output. -/
def dw (A : FVec Ideal S4096x1024 .bf16) (B : FVec Ideal S4096x5632 .bf16) (p : Fin 1024) (q : Fin 5632) : EReal :=
  ∑ r : Fin 4096, A (ix2 r p) * B (ix2 r q)

/-- The layer's place in the stack holds the gradient, the other places what they held. -/
def G (A : FVec Ideal S4096x1024 .bf16) (B : FVec Ideal S4096x5632 .bf16) (S : FVec Ideal S4x1024x5632 .bf16) : FVec Ideal S4x1024x5632 .bf16 :=
  fun j => if (j 0 : ℕ) / 1 = 1 then dw A B (j 1) (j 2) else S j

variable (m : (ℓ : Loc nD τ sig) → Buf (Elt Ideal) ℓ)

theorem idx : ∀ t : Fin cfg0.N, win0_0.index t = ![0, 0] ∧ win0_1.index t = ![0, t.val]
    ∧ win0_2.index t = ![1, 0, t.val] :=
  (by decide +kernel : ∀ t : Fin grid0.N, _)

/-- Place `p` of tile `t`. -/
def tileOf (t : Fin cfg0.N) (p : Fin 512) : Fin 5632 := ⟨512 * (t : ℕ) + (p : ℕ), by have : (t : ℕ) < 11 := t.isLt; omega⟩

theorem blkA (c : Dev nD) (t : Fin cfg0.N) (r : Fin 4096) (p : Fin 1024) :
    iblk m c 0 t (ix2 r p) = m (c.tc.loc main_arg0) (ix2 r (p)) := by
  try unfold tileOf
  unfold iblk; rw [show V m c (Pipeline.arrRef spec0 0) = _ from V_main_arg0 m c]; blk_point [idx t]

theorem blkB (c : Dev nD) (t : Fin cfg0.N) (r : Fin 4096) (q : Fin 512) :
    iblk m c 1 t (ix2 r q) = m (c.tc.loc main_arg1) (ix2 r (tileOf t q)) := by
  try unfold tileOf
  unfold iblk; rw [show V m c (Pipeline.arrRef spec0 1) = _ from V_main_arg1 m c]; blk_point [idx t]

theorem stack (c : Dev nD) : V m c main_v0 = (m (c.tc.loc main_arg2)) := by
  unfold V
  after_results
  rfl

theorem final (c : Dev nD) : (dats m 0 c).arrAt 2 cfg0.N = G (m (c.tc.loc main_arg0)) (m (c.tc.loc main_arg1)) (m (c.tc.loc main_arg2)) := by
  rw [← stack m c]
  refine (dats m 0 c).arrAt_eq_of_coversWhere (G := fun j => dw (m (c.tc.loc main_arg0)) (m (c.tc.loc main_arg1)) (j 1) (j 2)) 2 (fun β => β (0 : Fin _) = 1) (by decide +kernel)
    (fun t hf y => ?_) (fun j => Iff.rfl)
  have hN : (t : ℕ) < 11 := t.isLt
  blk_simp
  rw [after0_2]
  unfold outsAt0
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 1 (p) (tileOf t q) := by
    try unfold tileOf
    blk_ext [idx t]
  rw [e]
  open_payloads
  pointwise
  simp only [blkA, blkB]
  rfl

end Cert.Kernel4Ideal.WGradUp

end
-- ==== Proof.WGradUpRef.lean ====
module

public import proofs.«01_k».proof.Proof.WGradUp
public import proofs.«01_k».proof.Proof.Gen.Reference4Ideal.Read

@[expose] public section

set_option maxRecDepth 16384

noncomputable section

open Idealize.ShloMosaic Idealize.ShloMosaic.TcCoe Idealize.SL.Sem

namespace Cert.Reference4Ideal.WGradUp

open Cert.Reference4Ideal Cert.Reference4Ideal.Gen Cert.Reference4Ideal.Read

/-- The reference's gradient, the product's two factors in the other order. -/
theorem ref_dw (A : FVec Ideal S4096x1024 .bf16) (B : FVec Ideal S4096x5632 .bf16) (p : Fin 1024) (q : Fin 5632) :
    val_main_v6 (F := Ideal) A B (ix2 p q) = Kernel4Ideal.WGradUp.dw A B p q := by
  pointwise [val_main_v6, val_main_v5, val_main_v4, val_main_v3, val_main_v1, val_main_v0]
  exact Finset.sum_congr rfl fun r _ => mul_comm _ _

/-- The reference's result is the kernel's: the gradient in the layer's place, the rest of the stack as it was. -/
theorem ref_eq (A : FVec Ideal S4096x1024 .bf16) (B : FVec Ideal S4096x5632 .bf16) (S : FVec Ideal S4x1024x5632 .bf16) :
    val_main_v10 (F := Ideal) A B S = Kernel4Ideal.WGradUp.G A B S := by
  funext j
  obtain ⟨l, p, q, rfl⟩ : ∃ (l : Fin 4) (p : Fin 1024) (q : Fin 5632), j = ix3 l p q := ⟨j 0, j 1, j 2, eq_ix3 j⟩
  unfold Kernel4Ideal.WGradUp.G
  fin_cases l
  all_goals
    simp only [ix3_0, ix3_1, ix3_2]
    pointwise [val_main_v10, val_main_v9, val_main_v8, val_main_v7]
    try simp only [ref_dw]
    try rfl

end Cert.Reference4Ideal.WGradUp

end
-- ==== Proof.WGradUpClaim.lean ====
module

public import proofs.«01_k».proof.Defs
public import proofs.«01_k».proof.Proof.WGradUpRef
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

set_option maxRecDepth 16384

noncomputable section

open Idealize.ShloMosaic Idealize.ShloMosaic.TcCoe Idealize.SL.Sem

open Cert.Kernel4Ideal (main_arg0 main_arg1 main_arg2)

namespace Cert.Proof.WGradUp

/-- The reference runs on the host alone: it has no semaphores, and it leaves its arguments as they were. -/
theorem quiescent_ref : quiescent_Reference4Ideal := fun m g _ =>
  (θ_run _ _ _).mono (fun r h => ⟨fun c => (h c).2, sem_eq_zero_of_no_sems (by decide) r.2⟩)
    (Reference4Ideal.Value.run (F := Ideal) m g)

/-- The gradient of the up projection's weight, written in its place in the stack. -/
theorem algebraic : algebraic_Kernel4Ideal_Reference4Ideal := by
  intro m g m' g' _ hagree
  refine ⟨fun c => Kernel4Ideal.WGradUp.G (m (c.tc.loc main_arg0)) (m (c.tc.loc main_arg1)) (m (c.tc.loc main_arg2)),
    (θ_run _ _ _).mono (fun r h c => ?_) (Kernel4Ideal.Value.run_blocks m g),
    (θ_run _ _ _).mono (fun r h c => ⟨(h c).1.trans ?_, (h c).2⟩) (Reference4Ideal.Value.run (F := Ideal) m' g')⟩
  · exact ⟨(h c).1.trans (Kernel4Ideal.WGradUp.final m c), (h c).2⟩
  · obtain ⟨e0, e1, e2⟩ := hagree c
    refine (Reference4Ideal.Read.val_main_v10_eq _ _ _).trans ?_
    rw [e0, e1, e2]
    exact Reference4Ideal.WGradUp.ref_eq _ _ _

end Cert.Proof.WGradUp

end
-- ==== Proof.WGradDown.lean ====
module

public import proofs.«01_k».proof.Proof.Gen.Kernel5Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel5Ideal.WGradDown

open Cert.Kernel5Ideal Cert.Kernel5Ideal.Gen

/-- The weight's gradient: column `p` of the layer's input against column `q` of the gradient of its output. -/
def dw (A : FVec Ideal S4096x2816 .bf16) (B : FVec Ideal S4096x1024 .bf16) (p : Fin 2816) (q : Fin 1024) : EReal :=
  ∑ r : Fin 4096, A (ix2 r p) * B (ix2 r q)

/-- The layer's place in the stack holds the gradient, the other places what they held. -/
def G (A : FVec Ideal S4096x2816 .bf16) (B : FVec Ideal S4096x1024 .bf16) (S : FVec Ideal S4x2816x1024 .bf16) : FVec Ideal S4x2816x1024 .bf16 :=
  fun j => if (j 0 : ℕ) / 1 = 1 then dw A B (j 1) (j 2) else S j

variable (m : (ℓ : Loc nD τ sig) → Buf (Elt Ideal) ℓ)

theorem idx : ∀ t : Fin cfg0.N, win0_0.index t = ![0, t.val] ∧ win0_1.index t = ![0, 0]
    ∧ win0_2.index t = ![1, t.val, 0] :=
  (by decide +kernel : ∀ t : Fin grid0.N, _)

/-- Place `p` of tile `t`. -/
def tileOf (t : Fin cfg0.N) (p : Fin 1408) : Fin 2816 := ⟨1408 * (t : ℕ) + (p : ℕ), by have : (t : ℕ) < 2 := t.isLt; omega⟩

theorem blkA (c : Dev nD) (t : Fin cfg0.N) (r : Fin 4096) (p : Fin 1408) :
    iblk m c 0 t (ix2 r p) = m (c.tc.loc main_arg0) (ix2 r (tileOf t p)) := by
  try unfold tileOf
  unfold iblk; rw [show V m c (Pipeline.arrRef spec0 0) = _ from V_main_arg0 m c]; blk_point [idx t]

theorem blkB (c : Dev nD) (t : Fin cfg0.N) (r : Fin 4096) (q : Fin 1024) :
    iblk m c 1 t (ix2 r q) = m (c.tc.loc main_arg1) (ix2 r (q)) := by
  try unfold tileOf
  unfold iblk; rw [show V m c (Pipeline.arrRef spec0 1) = _ from V_main_arg1 m c]; blk_point [idx t]

theorem stack (c : Dev nD) : V m c main_v0 = (m (c.tc.loc main_arg2)) := by
  unfold V
  after_results
  rfl

theorem final (c : Dev nD) : (dats m 0 c).arrAt 2 cfg0.N = G (m (c.tc.loc main_arg0)) (m (c.tc.loc main_arg1)) (m (c.tc.loc main_arg2)) := by
  rw [← stack m c]
  refine (dats m 0 c).arrAt_eq_of_coversWhere (G := fun j => dw (m (c.tc.loc main_arg0)) (m (c.tc.loc main_arg1)) (j 1) (j 2)) 2 (fun β => β (0 : Fin _) = 1) (by decide +kernel)
    (fun t hf y => ?_) (fun j => Iff.rfl)
  have hN : (t : ℕ) < 2 := t.isLt
  blk_simp
  rw [after0_2]
  unfold outsAt0
  frame_out
  obtain ⟨p, q, rfl⟩ : ∃ (p : Fin 1408) (q : Fin 1024), y = (ix3 0 p q : (⟨3, ![1, 1408, 1024]⟩ : Shape).Idx) :=
    ⟨y 1, y 2, (eq_ix3 (n0 := 1) (n1 := 1408) (n2 := 1024) y).trans (congrArg (fun z => ix3 z (y 1) (y 2)) (Subsingleton.elim (α := Fin 1) _ _))⟩
  have e : ((View.whole main_v0).slice (win0_2.rect t)).emb (ix3 0 p q : (⟨3, ![1, 1408, 1024]⟩ : Shape).Idx) = ix3 1 (tileOf t p) (q) := by
    try unfold tileOf
    blk_ext [idx t]
  rw [e]
  open_payloads
  pointwise
  simp only [blkA, blkB]
  rfl

end Cert.Kernel5Ideal.WGradDown

end
-- ==== Proof.WGradDownRef.lean ====
module

public import proofs.«01_k».proof.Proof.WGradDown
public import proofs.«01_k».proof.Proof.Gen.Reference5Ideal.Read

@[expose] public section

set_option maxRecDepth 16384

noncomputable section

open Idealize.ShloMosaic Idealize.ShloMosaic.TcCoe Idealize.SL.Sem

namespace Cert.Reference5Ideal.WGradDown

open Cert.Reference5Ideal Cert.Reference5Ideal.Gen Cert.Reference5Ideal.Read

/-- The reference's gradient, the product's two factors in the other order. -/
theorem ref_dw (A : FVec Ideal S4096x2816 .bf16) (B : FVec Ideal S4096x1024 .bf16) (p : Fin 2816) (q : Fin 1024) :
    val_main_v6 (F := Ideal) A B (ix2 p q) = Kernel5Ideal.WGradDown.dw A B p q := by
  pointwise [val_main_v6, val_main_v5, val_main_v4, val_main_v3, val_main_v1, val_main_v0]
  exact Finset.sum_congr rfl fun r _ => mul_comm _ _

/-- The reference's result is the kernel's: the gradient in the layer's place, the rest of the stack as it was. -/
theorem ref_eq (A : FVec Ideal S4096x2816 .bf16) (B : FVec Ideal S4096x1024 .bf16) (S : FVec Ideal S4x2816x1024 .bf16) :
    val_main_v10 (F := Ideal) A B S = Kernel5Ideal.WGradDown.G A B S := by
  funext j
  obtain ⟨l, p, q, rfl⟩ : ∃ (l : Fin 4) (p : Fin 2816) (q : Fin 1024), j = ix3 l p q := ⟨j 0, j 1, j 2, eq_ix3 j⟩
  unfold Kernel5Ideal.WGradDown.G
  fin_cases l
  all_goals
    simp only [ix3_0, ix3_1, ix3_2]
    pointwise [val_main_v10, val_main_v9, val_main_v8, val_main_v7]
    try simp only [ref_dw]
    try rfl

end Cert.Reference5Ideal.WGradDown

end
-- ==== Proof.WGradDownClaim.lean ====
module

public import proofs.«01_k».proof.Defs
public import proofs.«01_k».proof.Proof.WGradDownRef
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent

@[expose] public section

set_option maxRecDepth 16384

noncomputable section

open Idealize.ShloMosaic Idealize.ShloMosaic.TcCoe Idealize.SL.Sem

open Cert.Kernel5Ideal (main_arg0 main_arg1 main_arg2)

namespace Cert.Proof.WGradDown

/-- The reference runs on the host alone: it has no semaphores, and it leaves its arguments as they were. -/
theorem quiescent_ref : quiescent_Reference5Ideal := fun m g _ =>
  (θ_run _ _ _).mono (fun r h => ⟨fun c => (h c).2, sem_eq_zero_of_no_sems (by decide) r.2⟩)
    (Reference5Ideal.Value.run (F := Ideal) m g)

/-- The gradient of the down projection's weight, written in its place in the stack. -/
theorem algebraic : algebraic_Kernel5Ideal_Reference5Ideal := by
  intro m g m' g' _ hagree
  refine ⟨fun c => Kernel5Ideal.WGradDown.G (m (c.tc.loc main_arg0)) (m (c.tc.loc main_arg1)) (m (c.tc.loc main_arg2)),
    (θ_run _ _ _).mono (fun r h c => ?_) (Kernel5Ideal.Value.run_blocks m g),
    (θ_run _ _ _).mono (fun r h c => ⟨(h c).1.trans ?_, (h c).2⟩) (Reference5Ideal.Value.run (F := Ideal) m' g')⟩
  · exact ⟨(h c).1.trans (Kernel5Ideal.WGradDown.final m c), (h c).2⟩
  · obtain ⟨e0, e1, e2⟩ := hagree c
    refine (Reference5Ideal.Read.val_main_v10_eq _ _ _).trans ?_
    rw [e0, e1, e2]
    exact Reference5Ideal.WGradDown.ref_eq _ _ _

end Cert.Proof.WGradDown

end
-- ==== Proof.UpSwiglu.lean ====
module

public import proofs.«01_k».proof.Proof.Gen.Kernel6Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel6Ideal.UpSwiglu

open Cert.Kernel6Ideal Cert.Kernel6Ideal.Gen

/-- The up projection: row `r` of the normalised input against column `c` of the layer's weight. -/
def gu (A : FVec Ideal S4096x1024 .bf16) (W : FVec Ideal S4x1024x5632 .bf16) (r : Fin 4096) (c : Fin 5632) : EReal :=
  ∑ k : Fin 1024, A (ix2 r k) * W (ix3 1 k c)

/-- The gated product of a gate and a value: the gate's own logistic weight times the value. -/
def swiglu (g u : EReal) : EReal := g * Ideal.div 1 (1 + Ideal.exp (-g)) * u

def G2 (A : FVec Ideal S4096x1024 .bf16) (W : FVec Ideal S4x1024x5632 .bf16) : FVec Ideal S4096x5632 .bf16 :=
  fun j => gu A W (j 0) (j 1)

def G3 (A : FVec Ideal S4096x1024 .bf16) (W : FVec Ideal S4x1024x5632 .bf16) : FVec Ideal S4096x2816 .bf16 :=
  fun j => swiglu (gu A W (j 0) ⟨((j 1 : Fin 2816) : ℕ), by have : ((j 1 : Fin 2816) : ℕ) < 2816 := (j 1).isLt; omega⟩)
    (gu A W (j 0) ⟨2816 + ((j 1 : Fin 2816) : ℕ), by have : ((j 1 : Fin 2816) : ℕ) < 2816 := (j 1).isLt; omega⟩)

variable (m : (ℓ : Loc nD τ sig) → Buf (Elt Ideal) ℓ)

theorem idx : ∀ t : Fin cfg0.N, win0_0.index t = ![t.val, 0] ∧ win0_1.index t = ![1, 0, 0]
    ∧ win0_2.index t = ![t.val, 0] ∧ win0_3.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkA (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkW (c : Dev nD) (t : Fin cfg0.N) (k : Fin 1024) (l : Fin 5632) :
    iblk m c 1 t (ix3 0 k l) = m (c.tc.loc main_arg1) (ix3 1 k l) := by
  blk_point [iblk, V, idx t]

theorem final2 (c : Dev nD) : (dats m 0 c).arrAt 2 cfg0.N = G2 (m (c.tc.loc main_arg0)) (m (c.tc.loc main_arg1)) := by
  refine (dats m 0 c).arrAt_eq_of_covers 2 _ (by decide +kernel) fun t _ y => ?_
  blk_simp
  rw [after0_2]
  have hN : (t : ℕ) < 8 := t.isLt
  unfold_out out0_2
  canon_tiles x h
  all_goals
    obtain ⟨p, q, rfl⟩ : ∃ (p : Fin 512) (q : Fin 1408), x = ix2 p q := ⟨x 0, x 1, eq_ix2 x⟩
    simp only [ix2_0, ix2_1] at h0 h1
    open_payloads
    pointwise
    simp only [blkA, blkW]
    first
      | have e : ((cfg0.win 2).blk t).view.emb y = ix2 (rowOf t p) ⟨4224 + (q : ℕ), by omega⟩ := by
          unfold rowOf
          blk_ext [idx t]
        rw [e]; rfl
      | have e : ((cfg0.win 2).blk t).view.emb y = ix2 (rowOf t p) ⟨2816 + (q : ℕ), by omega⟩ := by
          unfold rowOf
          blk_ext [idx t]
        rw [e]; rfl
      | have e : ((cfg0.win 2).blk t).view.emb y = ix2 (rowOf t p) ⟨1408 + (q : ℕ), by omega⟩ := by
          unfold rowOf
          blk_ext [idx t]
        rw [e]; rfl
      | have e : ((cfg0.win 2).blk t).view.emb y = ix2 (rowOf t p) ⟨(q : ℕ), by omega⟩ := by
          unfold rowOf
          blk_ext [idx t]
        rw [e]; rfl

theorem final3 (c : Dev nD) : (dats m 0 c).arrAt 3 cfg0.N = G3 (m (c.tc.loc main_arg0)) (m (c.tc.loc main_arg1)) := by
  refine (dats m 0 c).arrAt_eq_of_covers 3 _ (by decide +kernel) fun t _ y => ?_
  blk_simp
  rw [after0_3]
  have hN : (t : ℕ) < 8 := t.isLt
  unfold_out out0_3
  canon_tiles x h
  all_goals
    obtain ⟨p, q, rfl⟩ : ∃ (p : Fin 512) (q : Fin 1408), x = ix2 p q := ⟨x 0, x 1, eq_ix2 x⟩
    simp only [ix2_0, ix2_1] at h0 h1
    open_payloads
    pointwise
    simp only [blkA, blkW, zero_sub]
    first
      | have e : ((cfg0.win 3).blk t).view.emb y = ix2 (rowOf t p) ⟨1408 + (q : ℕ), by omega⟩ := by
          unfold rowOf
          blk_ext [idx t]
        have e' : 4224 + (q : ℕ) = 2816 + (1408 + (q : ℕ)) := by omega
        simp only [e', e]; rfl
      | have e : ((cfg0.win 3).blk t).view.emb y = ix2 (rowOf t p) ⟨(q : ℕ), by omega⟩ := by
          unfold rowOf
          blk_ext [idx t]
        rw [e]; rfl

end Cert.Kernel6Ideal.UpSwiglu

end
-- ==== Proof.UpSwigluRef.lean ====
module

public import proofs.«01_k».proof.Proof.UpSwiglu
public import proofs.«01_k».proof.Proof.Gen.Reference6Ideal.Read

@[expose] public section

set_option maxRecDepth 16384

noncomputable section

open Idealize.ShloMosaic Idealize.ShloMosaic.TcCoe Idealize.SL.Sem

namespace Cert.Reference6Ideal.UpSwiglu

open Cert.Reference6Ideal Cert.Reference6Ideal.Gen Cert.Reference6Ideal.Read

theorem ref_gu (A : FVec Ideal S4096x1024 .bf16) (W : FVec Ideal S4x1024x5632 .bf16) (r : Fin 4096) (c : Fin 5632) :
    val_main_v4 (F := Ideal) A W (ix2 r c) = Kernel6Ideal.UpSwiglu.gu A W r c := by
  pointwise [val_main_v4, val_main_v3, val_main_v2, val_main_v1, val_main_v0]
  rfl

theorem eq2 (A : FVec Ideal S4096x1024 .bf16) (W : FVec Ideal S4x1024x5632 .bf16) :
    val_main_v7 (F := Ideal) A W = Kernel6Ideal.UpSwiglu.G2 A W := by
  funext j
  obtain ⟨p, q, rfl⟩ : ∃ (p : Fin 4096) (q : Fin 5632), j = ix2 p q := ⟨j 0, j 1, eq_ix2 j⟩
  exact ref_gu A W p q

theorem eq3 (A : FVec Ideal S4096x1024 .bf16) (W : FVec Ideal S4x1024x5632 .bf16) :
    val_main_v10 (F := Ideal) A W = Kernel6Ideal.UpSwiglu.G3 A W := by
  funext j
  obtain ⟨p, q, rfl⟩ : ∃ (p : Fin 4096) (q : Fin 2816), j = ix2 p q := ⟨j 0, j 1, eq_ix2 j⟩
  pointwise [val_main_v10, val_main_v9, val_main_v8, val_main_call0_v0, val_main_call0_v1, val_main_call0_v2, val_main_call0_v3, val_main_call0_v4, val_main_call0_v5, val_main_call0_cst, val_main_call0_cst_0, val_main_v6, val_main_v5]
  simp only [ref_gu]
  rfl

end Cert.Reference6Ideal.UpSwiglu

end
-- ==== Proof.UpSwigluClaim.lean ====
module

public import proofs.«01_k».proof.Defs
public import proofs.«01_k».proof.Proof.UpSwigluRef
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent

@[expose] public section

set_option maxRecDepth 16384

noncomputable section

open Idealize.ShloMosaic Idealize.ShloMosaic.TcCoe Idealize.SL.Sem

open Cert.Kernel6Ideal (main_arg0 main_arg1)

namespace Cert.Proof.UpSwiglu

/-- The reference runs on the host alone: it has no semaphores, and it leaves its arguments as they were. -/
theorem quiescent_ref : quiescent_Reference6Ideal := fun m g _ =>
  (θ_run _ _ _).mono (fun r h => ⟨fun c => (h c).2.2, sem_eq_zero_of_no_sems (by decide) r.2⟩)
    (Reference6Ideal.Value.run (F := Ideal) m g)

/-- The up projection and the gated product. -/
theorem algebraic : algebraic_Kernel6Ideal_Reference6Ideal := by
  intro m g m' g' _ hagree
  refine ⟨fun c => Kernel6Ideal.UpSwiglu.G2 (m (c.tc.loc main_arg0)) (m (c.tc.loc main_arg1)), fun c => Kernel6Ideal.UpSwiglu.G3 (m (c.tc.loc main_arg0)) (m (c.tc.loc main_arg1)),
    (θ_run _ _ _).mono (fun r h c => ?_) (Kernel6Ideal.Value.run_blocks m g),
    (θ_run _ _ _).mono (fun r h c => ⟨(h c).1.trans ?_, (h c).2.1.trans ?_, (h c).2.2⟩) (Reference6Ideal.Value.run (F := Ideal) m' g')⟩
  · exact ⟨(h c).1.trans (Kernel6Ideal.UpSwiglu.final2 m c), (h c).2.1.trans (Kernel6Ideal.UpSwiglu.final3 m c), (h c).2.2⟩
  · obtain ⟨e0, e1⟩ := hagree c
    refine (Reference6Ideal.Read.val_main_v7_eq _ _).trans ?_
    rw [e0, e1]
    exact Reference6Ideal.UpSwiglu.eq2 _ _
  · obtain ⟨e0, e1⟩ := hagree c
    refine (Reference6Ideal.Read.val_main_v10_eq _ _).trans ?_
    rw [e0, e1]
    exact Reference6Ideal.UpSwiglu.eq3 _ _

end Cert.Proof.UpSwiglu

end
-- ==== Proof.PostMm.lean ====
module

public import proofs.«01_k».proof.Proof.Gen.Kernel7Ideal.Value
public import Idealize.ShloMosaic.Lib.Pipeline.ValueKit
public import Idealize.ShloMosaic.Lib.Pointwise
public import proofs.«01_k».proof.Proof.Rms

@[expose] public section

set_option maxRecDepth 16384

noncomputable section

open Idealize.ShloMosaic Idealize.ShloMosaic.TcCoe Idealize.SL.Sem

namespace Cert.Kernel7Ideal.PostMm

open Cert.Kernel7Ideal Cert.Kernel7Ideal.Gen Cert.Rms

/-- The layer's output product: row `r` of its input against column `c` of its weight. -/
def f (A : FVec Ideal S4096x2816 .bf16) (W : FVec Ideal S4x2816x1024 .bf16) (r : Fin 4096) (c : Fin 1024) : EReal :=
  ∑ k : Fin 2816, A (ix2 r k) * W (ix3 1 k c)

/-- The residual weight, as both programs write it. -/
def scale : EReal := Ideal.ofBits .f32 0x3F000000#32

/-- The hidden state after the layer: what came in plus the weighted, normalised output. -/
def hn (H : FVec Ideal S4096x1024 .f32) (A : FVec Ideal S4096x2816 .bf16) (W : FVec Ideal S4x2816x1024 .bf16) (GP : FVec Ideal S1x1024 .f32) (r : Fin 4096) (c : Fin 1024) : EReal :=
  H (ix2 r c) + scale * (f A W r c * inv (f A W r) * GP (ix2 0 c))

def G5 (A : FVec Ideal S4096x2816 .bf16) (W : FVec Ideal S4x2816x1024 .bf16) : FVec Ideal S4096x1024 .f32 := fun j => f A W (j 0) (j 1)

def G6 (H : FVec Ideal S4096x1024 .f32) (A : FVec Ideal S4096x2816 .bf16) (W : FVec Ideal S4x2816x1024 .bf16) (GP : FVec Ideal S1x1024 .f32) : FVec Ideal S4096x1024 .f32 := fun j => hn H A W GP (j 0) (j 1)

/-- The next layer's normalised input. -/
def G7 (H : FVec Ideal S4096x1024 .f32) (A : FVec Ideal S4096x2816 .bf16) (W : FVec Ideal S4x2816x1024 .bf16) (GP : FVec Ideal S1x1024 .f32) (GN : FVec Ideal S1x1024 .f32) : FVec Ideal S4096x1024 .bf16 :=
  fun j => hn H A W GP (j 0) (j 1) * inv (hn H A W GP (j 0)) * GN (ix2 0 (j 1))

variable (m : (ℓ : Loc nD τ sig) → Buf (Elt Ideal) ℓ)

theorem idx : ∀ t : Fin cfg0.N, win0_0.index t = ![t.val, 0] ∧ win0_1.index t = ![t.val, 0] ∧ win0_2.index t = ![1, 0, 0]
    ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkH (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkA (c : Dev nD) (t : Fin cfg0.N) (p : Fin 512) (k : Fin 2816) :
    iblk m c 1 t (ix2 p k) = m (c.tc.loc main_arg1) (ix2 (rowOf t p) k) := by
  unfold rowOf; blk_point [iblk, V, idx t]

theorem blkW (c : Dev nD) (t : Fin cfg0.N) (k : Fin 2816) (l : Fin 1024) :
    iblk m c 2 t (ix3 0 k l) = m (c.tc.loc main_arg2) (ix3 1 k l) := by
  blk_point [iblk, V, idx t]

theorem blkGP (c : Dev nD) (t : Fin cfg0.N) (k : Fin 1024) :
    iblk m c 3 t (ix2 0 k) = m (c.tc.loc main_arg3) (ix2 0 k) := by
  blk_point [iblk, V, idx t]

theorem blkGN (c : Dev nD) (t : Fin cfg0.N) (k : Fin 1024) :
    iblk m c 4 t (ix2 0 k) = m (c.tc.loc main_arg4) (ix2 0 k) := by
  blk_point [iblk, V, idx t]

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 8 := t.isLt
  unfold out0_5
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 5).blk t).view.emb y = ix2 (rowOf t ⟨256 + (p : ℕ), by omega⟩) q := by
          unfold rowOf
          blk_ext [idx t]
        rw [e]; rfl
      | have e : ((cfg0.win 5).blk t).view.emb y = ix2 (rowOf t ⟨(p : ℕ), by omega⟩) q := by
          unfold rowOf
          blk_ext [idx t]
        rw [e]; rfl

theorem final6 (c : Dev nD) : (dats m 0 c).arrAt 6 cfg0.N = G6 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  have hN : (t : ℕ) < 8 := t.isLt
  unfold out0_6
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 6).blk t).view.emb y = ix2 (rowOf t ⟨256 + (p : ℕ), by omega⟩) q := by
          unfold rowOf
          blk_ext [idx t]
        rw [e]; rfl
      | have e : ((cfg0.win 6).blk t).view.emb y = ix2 (rowOf t ⟨(p : ℕ), by omega⟩) q := by
          unfold rowOf
          blk_ext [idx t]
        rw [e]; rfl

theorem final7 (c : Dev nD) : (dats m 0 c).arrAt 7 cfg0.N = G7 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after0_7]
  have hN : (t : ℕ) < 8 := t.isLt
  unfold out0_7
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 7).blk t).view.emb y = ix2 (rowOf t ⟨256 + (p : ℕ), by omega⟩) q := by
          unfold rowOf
          blk_ext [idx t]
        rw [e]; rfl
      | have e : ((cfg0.win 7).blk t).view.emb y = ix2 (rowOf t ⟨(p : ℕ), by omega⟩) q := by
          unfold rowOf
          blk_ext [idx t]
        rw [e]; rfl

end Cert.Kernel7Ideal.PostMm

end
-- ==== Proof.PostMmRef.lean ====
module

public import proofs.«01_k».proof.Proof.PostMm
public import proofs.«01_k».proof.Proof.Gen.Reference7Ideal.Read

@[expose] public section

set_option maxRecDepth 16384

noncomputable section

open Idealize.ShloMosaic Idealize.ShloMosaic.TcCoe Idealize.SL.Sem

namespace Cert.Reference7Ideal.PostMm

open Cert.Reference7Ideal Cert.Reference7Ideal.Gen Cert.Reference7Ideal.Read

theorem ref_f (A : FVec Ideal S4096x2816 .bf16) (W : FVec Ideal S4x2816x1024 .bf16) (r : Fin 4096) (c : Fin 1024) :
    val_main_v4 (F := Ideal) A W (ix2 r c) = Kernel7Ideal.PostMm.f A W r c := by
  pointwise [val_main_v4, val_main_v3, val_main_v2, val_main_v1, val_main_v0]
  rfl

theorem ref_h (H : FVec Ideal S4096x1024 .f32) (A : FVec Ideal S4096x2816 .bf16) (W : FVec Ideal S4x2816x1024 .bf16) (GP : FVec Ideal S1x1024 .f32) (r : Fin 4096) (c : Fin 1024) :
    val_main_v19 (F := Ideal) H A W GP (ix2 r c) = Kernel7Ideal.PostMm.hn H A W GP r c := by
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_1, val_main_cst_2]
  simp only [ref_f]
  rfl

theorem eq5 (A : FVec Ideal S4096x2816 .bf16) (W : FVec Ideal S4x2816x1024 .bf16) : val_main_v4 (F := Ideal) A W = Kernel7Ideal.PostMm.G5 A W := by
  funext j
  obtain ⟨p, q, rfl⟩ : ∃ (p : Fin 4096) (q : Fin 1024), j = ix2 p q := ⟨j 0, j 1, eq_ix2 j⟩
  exact ref_f A W p q

theorem eq6 (H : FVec Ideal S4096x1024 .f32) (A : FVec Ideal S4096x2816 .bf16) (W : FVec Ideal S4x2816x1024 .bf16) (GP : FVec Ideal S1x1024 .f32) : val_main_v19 (F := Ideal) H A W GP = Kernel7Ideal.PostMm.G6 H A W GP := by
  funext j
  obtain ⟨p, q, rfl⟩ : ∃ (p : Fin 4096) (q : Fin 1024), j = ix2 p q := ⟨j 0, j 1, eq_ix2 j⟩
  exact ref_h H A W GP p q

theorem eq7 (H : FVec Ideal S4096x1024 .f32) (A : FVec Ideal S4096x2816 .bf16) (W : FVec Ideal S4x2816x1024 .bf16) (GP : FVec Ideal S1x1024 .f32) (GN : FVec Ideal S1x1024 .f32) : val_main_v32 (F := Ideal) H A W GP GN = Kernel7Ideal.PostMm.G7 H A W GP GN := by
  funext j
  obtain ⟨p, q, rfl⟩ : ∃ (p : Fin 4096) (q : Fin 1024), j = ix2 p q := ⟨j 0, j 1, eq_ix2 j⟩
  pointwise [val_main_v32, val_main_v31, val_main_v30, val_main_v29, val_main_v28, val_main_v27, val_main_v26, val_main_v25, val_main_v24, val_main_v23, val_main_v22, val_main_v21, val_main_v20, val_main_cst_3, val_main_cst_4, val_main_cst_5]
  simp only [ref_h]
  rfl

end Cert.Reference7Ideal.PostMm

end
-- ==== Proof.PostMmClaim.lean ====
module

public import proofs.«01_k».proof.Defs
public import proofs.«01_k».proof.Proof.PostMmRef
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent

@[expose] public section

set_option maxRecDepth 16384

noncomputable section

open Idealize.ShloMosaic Idealize.ShloMosaic.TcCoe Idealize.SL.Sem

open Cert.Kernel7Ideal (main_arg0 main_arg1 main_arg2 main_arg3 main_arg4)

namespace Cert.Proof.PostMm

/-- The reference runs on the host alone: it has no semaphores, and it leaves its arguments as they were. -/
theorem quiescent_ref : quiescent_Reference7Ideal := fun m g _ =>
  (θ_run _ _ _).mono (fun r h => ⟨fun c => (h c).2.2.2, sem_eq_zero_of_no_sems (by decide) r.2⟩)
    (Reference7Ideal.Value.run (F := Ideal) m g)

/-- The down projection, the residual sum and the next layer's normalised input. -/
theorem algebraic : algebraic_Kernel7Ideal_Reference7Ideal := by
  intro m g m' g' _ hagree
  refine ⟨fun c => Kernel7Ideal.PostMm.G5 (m (c.tc.loc main_arg1)) (m (c.tc.loc main_arg2)), fun c => Kernel7Ideal.PostMm.G6 (m (c.tc.loc main_arg0)) (m (c.tc.loc main_arg1)) (m (c.tc.loc main_arg2)) (m (c.tc.loc main_arg3)), fun c => Kernel7Ideal.PostMm.G7 (m (c.tc.loc main_arg0)) (m (c.tc.loc main_arg1)) (m (c.tc.loc main_arg2)) (m (c.tc.loc main_arg3)) (m (c.tc.loc main_arg4)),
    (θ_run _ _ _).mono (fun r h c => ?_) (Kernel7Ideal.Value.run_blocks m g),
    (θ_run _ _ _).mono (fun r h c => ⟨(h c).1.trans ?_, (h c).2.1.trans ?_, (h c).2.2.1.trans ?_, (h c).2.2.2⟩) (Reference7Ideal.Value.run (F := Ideal) m' g')⟩
  · exact ⟨(h c).1.trans (Kernel7Ideal.PostMm.final5 m c), (h c).2.1.trans (Kernel7Ideal.PostMm.final6 m c), (h c).2.2.1.trans (Kernel7Ideal.PostMm.final7 m c), (h c).2.2.2⟩
  · obtain ⟨e0, e1, e2, e3, e4⟩ := hagree c
    refine (Reference7Ideal.Read.val_main_v4_eq _ _).trans ?_
    rw [e1, e2]
    exact Reference7Ideal.PostMm.eq5 _ _
  · obtain ⟨e0, e1, e2, e3, e4⟩ := hagree c
    refine (Reference7Ideal.Read.val_main_v19_eq _ _ _ _).trans ?_
    rw [e0, e1, e2, e3]
    exact Reference7Ideal.PostMm.eq6 _ _ _ _
  · obtain ⟨e0, e1, e2, e3, e4⟩ := hagree c
    refine (Reference7Ideal.Read.val_main_v32_eq m' c).trans ?_
    rw [e0, e1, e2, e3, e4]
    exact Reference7Ideal.PostMm.eq7 _ _ _ _ _

end Cert.Proof.PostMm

end
-- ==== Proof.MatmulNN.lean ====
module

public import proofs.«01_k».proof.Proof.Gen.Kernel8Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel8Ideal.MatmulNN

open Cert.Kernel8Ideal Cert.Kernel8Ideal.Gen

/-- The product: row `r` of the first operand against column `c` of the weight's layer. -/
def prod (A : FVec Ideal S4096x1024 .bf16) (W : FVec Ideal S4x1024x1024 .bf16) (r : Fin 4096) (c : Fin 1024) : EReal :=
  ∑ k : Fin 1024, A (ix2 r k) * W (ix3 1 k c)

/-- The kernel's result. -/
def G (A : FVec Ideal S4096x1024 .bf16) (W : FVec Ideal S4x1024x1024 .bf16) : FVec Ideal S4096x1024 .bf16 :=
  fun j => prod A W (j 0) (j 1)

variable (m : (ℓ : Loc nD τ sig) → Buf (Elt Ideal) ℓ)

theorem idx : ∀ t : Fin cfg0.N, win0_0.index t = ![t.val, 0] ∧ win0_1.index t = ![1, 0, 0]
    ∧ win0_2.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkA (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkW (c : Dev nD) (t : Fin cfg0.N) (k : Fin 1024) (l : Fin 1024) :
    iblk m c 1 t (ix3 0 k l) = m (c.tc.loc main_arg1) (ix3 1 k l) := by
  blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 8 := t.isLt
  unfold out0_2
  canon_tiles x h
  all_goals
    obtain ⟨p, q, rfl⟩ : ∃ (p : Fin 512) (q : Fin 1024), x = ix2 p q := ⟨x 0, x 1, eq_ix2 x⟩
    simp only [ix2_0, ix2_1] at h0 h1
    open_payloads
    pointwise
    simp only [blkA, blkW]
    have e : ((cfg0.win 2).blk t).view.emb y = ix2 (rowOf t p) q := by
      unfold rowOf
      blk_ext [idx t]
    rw [e]
    rfl

end Cert.Kernel8Ideal.MatmulNN

end
-- ==== Proof.MatmulNNRef.lean ====
module

public import proofs.«01_k».proof.Proof.MatmulNN
public import proofs.«01_k».proof.Proof.Gen.Reference8Ideal.Read

@[expose] public section

set_option maxRecDepth 16384

noncomputable section

open Idealize.ShloMosaic Idealize.ShloMosaic.TcCoe Idealize.SL.Sem

namespace Cert.Reference8Ideal.MatmulNN

open Cert.Reference8Ideal Cert.Reference8Ideal.Gen Cert.Reference8Ideal.Read

/-- The reference's result is the kernel's, element by element the same product. -/
theorem ref_eq (A : FVec Ideal S4096x1024 .bf16) (W : FVec Ideal S4x1024x1024 .bf16) :
    val_main_v5 (F := Ideal) A W = Kernel8Ideal.MatmulNN.G A W := by
  funext j
  obtain ⟨p, q, rfl⟩ : ∃ (p : Fin 4096) (q : Fin 1024), j = ix2 p q := ⟨j 0, j 1, eq_ix2 j⟩
  pointwise [val_main_v5, val_main_v4, val_main_v3, val_main_v2, val_main_v1, val_main_v0]
  rfl

end Cert.Reference8Ideal.MatmulNN

end
-- ==== Proof.MatmulNNClaim.lean ====
module

public import proofs.«01_k».proof.Defs
public import proofs.«01_k».proof.Proof.MatmulNNRef
public import proofs.«01_k».proof.Proof.Gen.Kernel8.Frame
public import proofs.«01_k».proof.Proof.Gen.Kernel8Ideal.Value
public import proofs.«01_k».proof.Proof.Gen.Reference8Ideal.Run
public import Idealize.ShloMosaic.Lib.Quiescent

@[expose] public section

set_option maxRecDepth 16384

noncomputable section

open Idealize.ShloMosaic Idealize.ShloMosaic.TcCoe Idealize.SL.Sem

namespace Cert.Proof.MatmulNN

/-- The reference runs on the host alone: it has no semaphores, and it leaves its arguments as they were. -/
theorem quiescent_ref : quiescent_Reference8Ideal := fun m g _ =>
  (θ_run _ _ _).mono (fun r h => ⟨fun c => (h c).2, sem_eq_zero_of_no_sems (by decide) r.2⟩)
    (Reference8Ideal.Value.run (F := Ideal) m g)

/-- The queries' projection. -/
theorem algebraic : algebraic_Kernel8Ideal_Reference8Ideal := by
  intro m g m' g' _ hagree
  refine ⟨fun c => Kernel8Ideal.MatmulNN.G (m (c.tc.loc Kernel8Ideal.main_arg0)) (m (c.tc.loc Kernel8Ideal.main_arg1)),
    (θ_run _ _ _).mono (fun r h c => ?_) (Kernel8Ideal.Value.run_blocks m g),
    (θ_run _ _ _).mono (fun r h c => ⟨(h c).1.trans ?_, (h c).2⟩) (Reference8Ideal.Value.run (F := Ideal) m' g')⟩
  · exact ⟨(h c).1.trans (Kernel8Ideal.MatmulNN.final m c), (h c).2⟩
  · obtain ⟨e0, e1⟩ := hagree c
    refine (Reference8Ideal.Read.val_main_v5_eq _ _).trans ?_
    rw [e0, e1]
    exact Reference8Ideal.MatmulNN.ref_eq _ _

end Cert.Proof.MatmulNN

end
-- ==== Proof.MatmulNT.lean ====
module

public import proofs.«01_k».proof.Proof.Gen.Kernel9Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel9Ideal.MatmulNT

open Cert.Kernel9Ideal Cert.Kernel9Ideal.Gen

/-- The product: row `r` of the first operand against row `c` of the weight's layer. -/
def prod (A : FVec Ideal S4096x1024 .bf16) (W : FVec Ideal S4x1024x1024 .bf16) (r : Fin 4096) (c : Fin 1024) : EReal :=
  ∑ k : Fin 1024, A (ix2 r k) * W (ix3 1 c k)

/-- The kernel's result. -/
def G (A : FVec Ideal S4096x1024 .bf16) (W : FVec Ideal S4x1024x1024 .bf16) : FVec Ideal S4096x1024 .bf16 :=
  fun j => prod A W (j 0) (j 1)

variable (m : (ℓ : Loc nD τ sig) → Buf (Elt Ideal) ℓ)

theorem idx : ∀ t : Fin cfg0.N, win0_0.index t = ![t.val, 0] ∧ win0_1.index t = ![1, 0, 0]
    ∧ win0_2.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkA (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkW (c : Dev nD) (t : Fin cfg0.N) (k : Fin 1024) (l : Fin 1024) :
    iblk m c 1 t (ix3 0 k l) = m (c.tc.loc main_arg1) (ix3 1 k l) := by
  blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 8 := t.isLt
  unfold out0_2
  canon_tiles x h
  all_goals
    obtain ⟨p, q, rfl⟩ : ∃ (p : Fin 512) (q : Fin 1024), x = ix2 p q := ⟨x 0, x 1, eq_ix2 x⟩
    simp only [ix2_0, ix2_1] at h0 h1
    open_payloads
    pointwise
    simp only [blkA, blkW]
    have e : ((cfg0.win 2).blk t).view.emb y = ix2 (rowOf t p) q := by
      unfold rowOf
      blk_ext [idx t]
    rw [e]
    rfl

end Cert.Kernel9Ideal.MatmulNT

end
-- ==== Proof.MatmulNTRef.lean ====
module

public import proofs.«01_k».proof.Proof.MatmulNT
public import proofs.«01_k».proof.Proof.Gen.Reference9Ideal.Read

@[expose] public section

set_option maxRecDepth 16384

noncomputable section

open Idealize.ShloMosaic Idealize.ShloMosaic.TcCoe Idealize.SL.Sem

namespace Cert.Reference9Ideal.MatmulNT

open Cert.Reference9Ideal Cert.Reference9Ideal.Gen Cert.Reference9Ideal.Read

/-- The reference's result is the kernel's, element by element the same product. -/
theorem ref_eq (A : FVec Ideal S4096x1024 .bf16) (W : FVec Ideal S4x1024x1024 .bf16) :
    val_main_v7 (F := Ideal) A W = Kernel9Ideal.MatmulNT.G A W := by
  funext j
  obtain ⟨p, q, rfl⟩ : ∃ (p : Fin 4096) (q : Fin 1024), j = ix2 p q := ⟨j 0, j 1, eq_ix2 j⟩
  pointwise [val_main_v7, val_main_v6, val_main_v5, val_main_v2, val_main_v1, val_main_v0]
  rfl

end Cert.Reference9Ideal.MatmulNT

end
-- ==== Proof.MatmulNTClaim.lean ====
module

public import proofs.«01_k».proof.Defs
public import proofs.«01_k».proof.Proof.MatmulNTRef
public import proofs.«01_k».proof.Proof.Gen.Kernel9.Frame
public import proofs.«01_k».proof.Proof.Gen.Kernel9Ideal.Value
public import proofs.«01_k».proof.Proof.Gen.Reference9Ideal.Run
public import Idealize.ShloMosaic.Lib.Quiescent

@[expose] public section

set_option maxRecDepth 16384

noncomputable section

open Idealize.ShloMosaic Idealize.ShloMosaic.TcCoe Idealize.SL.Sem

namespace Cert.Proof.MatmulNT

/-- The reference runs on the host alone: it has no semaphores, and it leaves its arguments as they were. -/
theorem quiescent_ref : quiescent_Reference9Ideal := fun m g _ =>
  (θ_run _ _ _).mono (fun r h => ⟨fun c => (h c).2, sem_eq_zero_of_no_sems (by decide) r.2⟩)
    (Reference9Ideal.Value.run (F := Ideal) m g)

/-- The gradient through attention's output projection. -/
theorem algebraic : algebraic_Kernel9Ideal_Reference9Ideal := by
  intro m g m' g' _ hagree
  refine ⟨fun c => Kernel9Ideal.MatmulNT.G (m (c.tc.loc Kernel9Ideal.main_arg0)) (m (c.tc.loc Kernel9Ideal.main_arg1)),
    (θ_run _ _ _).mono (fun r h c => ?_) (Kernel9Ideal.Value.run_blocks m g),
    (θ_run _ _ _).mono (fun r h c => ⟨(h c).1.trans ?_, (h c).2⟩) (Reference9Ideal.Value.run (F := Ideal) m' g')⟩
  · exact ⟨(h c).1.trans (Kernel9Ideal.MatmulNT.final m c), (h c).2⟩
  · obtain ⟨e0, e1⟩ := hagree c
    refine (Reference9Ideal.Read.val_main_v7_eq _ _).trans ?_
    rw [e0, e1]
    exact Reference9Ideal.MatmulNT.ref_eq _ _

end Cert.Proof.MatmulNT

end
-- ==== Proof.BoundaryLast.lean ====
module

public import proofs.«01_k».proof.Proof.Gen.Kernel10Ideal.Value
public import Idealize.ShloMosaic.Lib.Pipeline.ValueKit
public import Idealize.ShloMosaic.Lib.Pointwise
public import proofs.«01_k».proof.Proof.Rms
public import proofs.«01_k».proof.Proof.Sums

@[expose] public section

set_option maxRecDepth 16384

noncomputable section

open Idealize.ShloMosaic Idealize.ShloMosaic.TcCoe Idealize.SL.Sem

namespace Cert.Kernel10Ideal.BoundaryLast

open Cert.Kernel10Ideal Cert.Kernel10Ideal.Gen Cert.Rms

/-- The gradient of the normalised rows: row `r` of `A` against row `c` of the layer's weights. -/
def dn (A : FVec Ideal S4096x5632 .bf16) (W : FVec Ideal S4x1024x5632 .bf16) (r : Fin 4096) (c : Fin 1024) : EReal :=
  ∑ k : Fin 5632, A (ix2 r k) * W (ix3 0 c k)

/-- The residual stream's gradient below the sublayer. -/
def dh (A : FVec Ideal S4096x5632 .bf16) (W : FVec Ideal S4x1024x5632 .bf16) (H : FVec Ideal S4096x1024 .f32)
    (GP : FVec Ideal S1x1024 .f32) (DH : FVec Ideal S4096x1024 .f32) (r : Fin 4096) (c : Fin 1024) : EReal :=
  DH (ix2 r c) + dxK (fun k => H (ix2 r k)) (fun k => GP (ix2 0 k)) (fun k => dn A W r k) c

/-- Row `r`'s part of the gradient of the norm's gain before the sublayer. -/
def dgRow (A : FVec Ideal S4096x5632 .bf16) (W : FVec Ideal S4x1024x5632 .bf16) (H : FVec Ideal S4096x1024 .f32)
    (r : Fin 4096) (c : Fin 1024) : EReal :=
  dn A W r c * (H (ix2 r c) * inv fun k => H (ix2 r k))

def Gdh (A : FVec Ideal S4096x5632 .bf16) (W : FVec Ideal S4x1024x5632 .bf16) (H : FVec Ideal S4096x1024 .f32)
    (GP : FVec Ideal S1x1024 .f32) (DH : FVec Ideal S4096x1024 .f32) : FVec Ideal S4096x1024 .f32 :=
  fun j => dh A W H GP DH (j 0) (j 1)

def Gdg (A : FVec Ideal S4096x5632 .bf16) (W : FVec Ideal S4x1024x5632 .bf16) (H : FVec Ideal S4096x1024 .f32) : FVec Ideal S1x1024 .f32 :=
  fun j => ∑ r : Fin 4096, dgRow A W H r (j 1)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![0, 0, 0] ∧ win0_4.index t = ![0, 0]
    ∧ win0_5.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkA (c : Dev nD) (t : Fin cfg0.N) (p : Fin 512) (k : Fin 5632) :
    iblk m c 0 t (ix2 p k) = m (c.tc.loc main_arg0) (ix2 (rowOf t p) k) := by
  unfold rowOf; blk_point [iblk, V, idx t]

theorem blkH (c : Dev nD) (t : Fin cfg0.N) (p : Fin 512) (k : Fin 1024) :
    iblk m c 1 t (ix2 p k) = m (c.tc.loc main_arg2) (ix2 (rowOf t p) k) := by
  unfold rowOf; blk_point [iblk, V, idx t]

theorem blkDH (c : Dev nD) (t : Fin cfg0.N) (p : Fin 512) (k : Fin 1024) :
    iblk m c 2 t (ix2 p k) = m (c.tc.loc main_arg4) (ix2 (rowOf t p) k) := by
  unfold rowOf; blk_point [iblk, V, idx t]

theorem blkW (c : Dev nD) (t : Fin cfg0.N) (k : Fin 1024) (l : Fin 5632) :
    iblk m c 3 t (ix3 0 k l) = m (c.tc.loc main_arg1) (ix3 0 k l) := by
  blk_point [iblk, V, idx t]

theorem blkGP (c : Dev nD) (t : Fin cfg0.N) (k : Fin 1024) :
    iblk m c 4 t (ix2 0 k) = m (c.tc.loc main_arg3) (ix2 0 k) := by
  blk_point [iblk, V, idx t]

set_option maxHeartbeats 1000000 in
theorem final5 (c : Dev nD) : (dats m 0 c).arrAt 5 cfg0.N
    = Gdh (m (c.tc.loc main_arg0)) (m (c.tc.loc main_arg1)) (m (c.tc.loc main_arg2)) (m (c.tc.loc main_arg3)) (m (c.tc.loc main_arg4)) := by
  refine (dats m 0 c).arrAt_eq_of_covers 5 _ (by decide +kernel) fun t _ y => ?_
  blk_simp
  rw [after0_5]
  have hN : (t : ℕ) < 8 := t.isLt
  by_cases h0 : t.val % 8 = 0
  case' pos => rw [outsAt0_A m c t h0 (by omega)]
  case' neg => rw [outsAt0_B m c t h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkW, blkGP]
    first
      | have e : ((View.whole main_v0_0).slice (win0_5.rect t)).emb y = ix2 (rowOf t ⟨256 + (p : ℕ), by omega⟩) q := by
          unfold rowOf
          blk_ext [idx t]
        rw [e]
        rfl
      | have e : ((View.whole main_v0_0).slice (win0_5.rect t)).emb y = ix2 (rowOf t ⟨(p : ℕ), by omega⟩) q := by
          unfold rowOf
          blk_ext [idx t]
        rw [e]
        rfl

/-- What grid point `t` adds to the block. -/
def term6 (c : Dev nD) (t : Fin cfg0.N) (j : S1x1024.Idx) : EReal :=
  ∑ k : Fin 512, dgRow (m (c.tc.loc main_arg0)) (m (c.tc.loc main_arg1)) (m (c.tc.loc main_arg2)) (rowOf t k) (j 1)

set_option maxHeartbeats 1000000 in
theorem final6 (c : Dev nD) : (dats m 0 c).arrAt 6 cfg0.N
    = Gdg (m (c.tc.loc main_arg0)) (m (c.tc.loc main_arg1)) (m (c.tc.loc main_arg2)) := by
  refine (dats m 0 c).arrAt_eq_of_after_last 6 t0_7 (by decide +kernel) _ fun j => ?_
  blk_simp
  rw [after0_6, Pipeline.eq_sum_fin_of_reset_step_apply_last (fun n h => (outsAt0 m c n h).2) 8 (fun _ => (0 : EReal)) (term6 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega)]
      frame_out
      open_payloads
      pointwise
      simp only [blkA, blkH, blkDH, blkW, blkGP]
      exact (Sums.halves fun k => dgRow (m (c.tc.loc main_arg0)) (m (c.tc.loc main_arg1)) (m (c.tc.loc main_arg2)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega)]
      frame_out
      open_payloads
      pointwise
      simp only [blkA, blkH, blkDH, blkW, blkGP]
      exact congrArg _ (Sums.halves fun k => dgRow (m (c.tc.loc main_arg0)) (m (c.tc.loc main_arg1)) (m (c.tc.loc main_arg2)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgRow (m (c.tc.loc main_arg0)) (m (c.tc.loc main_arg1)) (m (c.tc.loc main_arg2)) r q

end Cert.Kernel10Ideal.BoundaryLast

end
-- ==== Proof.BoundaryLastRef.lean ====
module

public import proofs.«01_k».proof.Proof.BoundaryLast
public import proofs.«01_k».proof.Pre_finite10
public import proofs.«01_k».proof.Proof.Gen.Pre_finite10
public import proofs.«01_k».proof.Proof.Gen.Reference10Ideal.Read

@[expose] public section

set_option maxRecDepth 16384

noncomputable section

open Idealize.ShloMosaic Idealize.ShloMosaic.TcCoe Idealize.SL.Sem

namespace Cert.Reference10Ideal.BoundaryLast

open Cert.Reference10Ideal Cert.Reference10Ideal.Gen Cert.Reference10Ideal.Read Cert.Reals Cert.Rms
open Cert.Kernel10Ideal.BoundaryLast (dn dh dgRow Gdh Gdg)

variable (A : FVec Ideal S4096x5632 .bf16) (W : FVec Ideal S4x1024x5632 .bf16) (H : FVec Ideal S4096x1024 .f32) (GP : FVec Ideal S1x1024 .f32) (DH : FVec Ideal S4096x1024 .f32)

theorem ref_dh (r : Fin 4096) (c : Fin 1024) :
    val_main_v40 (F := Ideal) A W H GP DH (ix2 r c)
      = DH (ix2 r c) + dxR (fun k => H (ix2 r k)) (fun k => GP (ix2 0 k)) (fun k => dn A W r k) c := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_1, val_main_cst_2, val_main_cst_3, val_main_cst_4, val_main_cst_5, val_main_cst_6]
  simp only [Fin.sum_univ_one]
  rfl

theorem ref_dg (c : Fin 1024) :
    val_main_v23 (F := Ideal) A W H (ix2 0 c) = ∑ r : Fin 4096, H (ix2 r c) * inv (fun k => H (ix2 r k)) * dn A W r c := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_1, val_main_cst_2, val_main_cst_3, val_main_cst_4, val_main_cst_5, val_main_cst_6]
  rfl

variable (hA : ∀ r k, IsReal (A (ix2 r k))) (hW : ∀ c k, IsReal (W (ix3 0 c k))) (hH : ∀ r k, IsReal (H (ix2 r k)))
  (hGP : ∀ k, IsReal (GP (ix2 0 k)))

include hA hW in
theorem dn_real (r : Fin 4096) (c : Fin 1024) : IsReal (dn A W r c) :=
  real_sum _ _ fun k => real_mul (hA r k) (hW c k)

include hA hW hH hGP in
theorem dh_eq (r : Fin 4096) (c : Fin 1024) : val_main_v40 (F := Ideal) A W H GP DH (ix2 r c) = dh A W H GP DH r c := by
  rw [ref_dh, dx_eq _ _ _ (fun k => hH r k) hGP (fun k => dn_real A W hA hW r k)]
  rfl

include hA hW hH hGP in
theorem eq_dh : val_main_v40 (F := Ideal) A W H GP DH = Gdh A W H GP DH := by
  funext j
  exact (congrArg _ (eq_ix2 j)).trans (dh_eq A W H GP DH hA hW hH hGP (j 0) (j 1))

theorem eq_dg : val_main_v23 (F := Ideal) A W H = Gdg A W H := by
  funext j
  obtain ⟨q, rfl⟩ : ∃ q : Fin 1024, j = ix2 0 q :=
    ⟨j 1, (eq_ix2 j).trans (congrArg (fun p => ix2 p (j 1)) (Subsingleton.elim (α := Fin 1) _ _))⟩
  exact (ref_dg A W H q).trans (Finset.sum_congr rfl fun r _ => mul_comm _ _)

/-- What the precondition says of the arrays. -/
theorem of_finite (h : Pre_finite10.fn (F := Ideal) A W H GP DH = fun _ => 1#1) :
    (∀ r k, IsReal (A (ix2 r k))) ∧ (∀ c k, IsReal (W (ix3 0 c k))) ∧ (∀ r k, IsReal (H (ix2 r k)))
      ∧ ∀ k, IsReal (GP (ix2 0 k)) := by
  have h0 := congrFun h (fun a => a.elim0)
  unfold Pre_finite10.fn Pre_finite10.fn_part1 at h0
  obtain ⟨h0, h4⟩ := IntOp.andi_eq_one.1 h0
  obtain ⟨h0, h3⟩ := IntOp.andi_eq_one.1 h0
  obtain ⟨h1, h2⟩ := IntOp.andi_eq_one.1 h0
  haveI : Subsingleton Pre_finite10.S_.Idx := ⟨fun a b => funext fun x => x.elim0⟩
  refine ⟨fun r k => ?_, fun c k => ?_, fun r k => ?_, fun k => ?_⟩
  · exact real_of_olt _ (Host.reduce_andi_all _ _ _ _ _ h1 (ix2 r k))
  · have := real_of_olt _ (Host.reduce_andi_all _ _ _ _ _ h2 (ix2 c k))
    pointwise at this
    exact this
  · exact real_of_olt _ (Host.reduce_andi_all _ _ _ _ _ h3 (ix2 r k))
  · exact real_of_olt _ (Host.reduce_andi_all _ _ _ _ _ h4 (ix2 0 k))

end Cert.Reference10Ideal.BoundaryLast

end
-- ==== Proof.BoundaryLastClaim.lean ====
module

public import proofs.«01_k».proof.Defs
public import proofs.«01_k».proof.Proof.BoundaryLastRef
public import proofs.«01_k».proof.Proof.Gen.Kernel10.Frame
public import proofs.«01_k».proof.Proof.Gen.Kernel10Ideal.Value
public import proofs.«01_k».proof.Proof.Gen.Reference10Ideal.Run
public import Idealize.ShloMosaic.Lib.Quiescent

@[expose] public section

set_option maxRecDepth 16384

noncomputable section

open Idealize.ShloMosaic Idealize.ShloMosaic.TcCoe Idealize.SL.Sem

open Cert.Kernel10Ideal (main_arg0 main_arg1 main_arg2 main_arg3 main_arg4)

namespace Cert.Proof.BoundaryLast

/-- The reference runs on the host alone: it has no semaphores, and it leaves its arguments as they were. -/
theorem quiescent_ref : quiescent_Reference10Ideal := fun m g _ =>
  (θ_run _ _ _).mono (fun r h => ⟨fun c => (h c).2.2, sem_eq_zero_of_no_sems (by decide) r.2⟩)
    (Reference10Ideal.Value.run (F := Ideal) m g)

/-- The last gradients of the residual stream: both of the kernel's results are the reference's. -/
theorem algebraic : algebraic_Kernel10Ideal_Reference10Ideal_pre_finite10 := by
  intro m g m' g' hpre hagree
  refine ⟨fun c => Kernel10Ideal.BoundaryLast.Gdh (m (c.tc.loc main_arg0)) (m (c.tc.loc main_arg1)) (m (c.tc.loc main_arg2)) (m (c.tc.loc main_arg3)) (m (c.tc.loc main_arg4)), fun c => Kernel10Ideal.BoundaryLast.Gdg (m (c.tc.loc main_arg0)) (m (c.tc.loc main_arg1)) (m (c.tc.loc main_arg2)),
    (θ_run _ _ _).mono (fun r h c => ?_) (Kernel10Ideal.Value.run_blocks m g),
    (θ_run _ _ _).mono (fun r h c => ⟨(h c).1.trans ?_, (h c).2.1.trans ?_, (h c).2.2⟩) (Reference10Ideal.Value.run (F := Ideal) m' g')⟩
  · exact ⟨(h c).1.trans (Kernel10Ideal.BoundaryLast.final5 m c), (h c).2.1.trans (Kernel10Ideal.BoundaryLast.final6 m c), (h c).2.2⟩
  · obtain ⟨e0, e1, e2, e3, e4⟩ := hagree c
    refine (Reference10Ideal.Read.val_main_v40_eq m' c).trans ?_
    rw [e0, e1, e2, e3, e4]
    obtain ⟨h0, h1, h2, h3⟩ := Reference10Ideal.BoundaryLast.of_finite _ _ _ _ _ (hpre c)
    exact Reference10Ideal.BoundaryLast.eq_dh _ _ _ _ _ h0 h1 h2 h3
  · obtain ⟨e0, e1, e2, e3, e4⟩ := hagree c
    refine (Reference10Ideal.Read.val_main_v23_eq _ _ _).trans ?_
    rw [e0, e1, e2]
    exact Reference10Ideal.BoundaryLast.eq_dg _ _ _

end Cert.Proof.BoundaryLast

end
-- ==== Proof.Cumsum.lean ====
module

public import proofs.«01_k».proof.Proof.Reals
public import Idealize.ShloMosaic.Lib.Routing.OpsOne

@[expose] public section

set_option maxRecDepth 16384

noncomputable section

open Idealize.ShloMosaic
open Idealize.ShloMosaic.ValueIdx hiding ix2

namespace Cert.Cumsum

open Cert.Reals Idealize.ShloMosaic.Routing

/-- Column `c` as a sequence, zero after its last row. -/
def col {C : ℕ} (x : (shape2 4096 C).Idx → EReal) (c : Fin C) (i : ℕ) : EReal :=
  if h : i < 4096 then x (ix2 ⟨i, h⟩ c) else 0

theorem col_at {C : ℕ} (x : (shape2 4096 C).Idx → EReal) (c : Fin C) (r : Fin 4096) :
    col x c r = x (ix2 r c) := dif_pos r.isLt

theorem foldl_add {ι : Type} (f : ι → EReal) (l : List ι) (v : EReal) :
    l.foldl (fun r n => r + f n) v = v + (l.map f).sum := by
  induction l generalizing v with
  | nil => simp
  | cons a l ih => simp [ih, add_assoc]

/-- The window of the whole height, padded above by one row less: the sum of the rows up to this one. -/
theorem down {C : ℕ} (x : (shape2 4096 C).Idx → EReal)
    (h : (shape2 4096 C).ReduceWindows (![4096, 1] : Fin 2 → ℕ) ![1, 1] ![4095, 0] ![0, 0] (shape2 4096 C))
    (r : Fin 4096) (c : Fin C) :
    Ideal.hostReduceWindowAdd ![4096, 1] ![1, 1] ![4095, 0] ![0, 0] h x 0 (ix2 r c)
      = ∑ i ∈ Finset.range ((r : ℕ) + 1), col x c i := by
  have hr := r.isLt
  have hc := c.isLt
  unfold Ideal.hostReduceWindowAdd Host.reduceWindow
  dsimp only
  refine (foldl_add _ _ _).trans ?_
  rw [zero_add, ← Fin.sum_univ_def]
  rw [← (finCongr (numel_col 4096)).symm.sum_comp]
  rw [Finset.sum_congr rfl fun (n : Fin 4096) _ => show _ = if 4095 ≤ (r : ℕ) + n then col x c (r + n - 4095) else 0 from ?_]
  · rw [← Finset.sum_filter]
    refine Finset.sum_bij' (fun n _ => (r : ℕ) + n - 4095) (fun i hi => ⟨i + 4095 - r, by
      have := Finset.mem_range.1 hi; omega⟩) ?_ ?_ ?_ ?_ ?_
    · intro n hn
      have := (Finset.mem_filter.1 hn).2
      have := n.isLt
      exact Finset.mem_range.2 (by omega)
    · intro i hi
      have := Finset.mem_range.1 hi
      exact Finset.mem_filter.2 ⟨Finset.mem_univ _, show 4095 ≤ (r : ℕ) + (i + 4095 - r) by omega⟩
    · intro n hn
      have := (Finset.mem_filter.1 hn).2
      exact Fin.ext (show (r : ℕ) + n - 4095 + 4095 - r = n by omega)
    · intro i hi
      have := Finset.mem_range.1 hi
      show (r : ℕ) + (i + 4095 - r) - 4095 = i
      omega
    · intro n hn
      rfl
  · have hw0 : ((shape2 4096 1).rowMajor.symm ((finCongr (numel_col 4096)).symm n) 0).val = n.val := by rw [symm_col]; rfl
    have hw1 : ((shape2 4096 1).rowMajor.symm ((finCongr (numel_col 4096)).symm n) 1).val = 0 := by rw [symm_col]; rfl
    have hn := n.isLt
    try dsimp only
    split
    · next hin =>
      have h0 := hin 0
      change 4095 ≤ (r : ℕ) * 1 + ((shape2 4096 1).rowMajor.symm ((finCongr (numel_col 4096)).symm n) 0).val
        ∧ (r : ℕ) * 1 + ((shape2 4096 1).rowMajor.symm ((finCongr (numel_col 4096)).symm n) 0).val - 4095 < 4096 at h0
      rw [hw0] at h0
      rw [if_pos (by omega), col, dif_pos (by omega)]
      refine congrArg x (funext fun a => Fin.ext ?_)
      match a with
      | ⟨0, _⟩ =>
        show (r : ℕ) * 1 + ((shape2 4096 1).rowMajor.symm ((finCongr (numel_col 4096)).symm n) 0).val - 4095 = r + n - 4095
        rw [hw0, Nat.mul_one]
      | ⟨1, _⟩ =>
        show (c : ℕ) * 1 + ((shape2 4096 1).rowMajor.symm ((finCongr (numel_col 4096)).symm n) 1).val - 0 = c
        rw [hw1]
        omega
    · next hin =>
      rw [if_neg fun hle => hin fun a => by
        match a with
        | ⟨0, _⟩ =>
          show 4095 ≤ (r : ℕ) * 1 + ((shape2 4096 1).rowMajor.symm ((finCongr (numel_col 4096)).symm n) 0).val
            ∧ (r : ℕ) * 1 + ((shape2 4096 1).rowMajor.symm ((finCongr (numel_col 4096)).symm n) 0).val - 4095 < 4096
          rw [hw0]
          omega
        | ⟨1, _⟩ =>
          show 0 ≤ (c : ℕ) * 1 + ((shape2 4096 1).rowMajor.symm ((finCongr (numel_col 4096)).symm n) 1).val
            ∧ (c : ℕ) * 1 + ((shape2 4096 1).rowMajor.symm ((finCongr (numel_col 4096)).symm n) 1).val - 0 < C
          rw [hw1]
          omega]

/-- The sum of the `w` entries ending at `r`, those before the first row left out. -/
def back (f : ℕ → EReal) (r w : ℕ) : EReal := ∑ k ∈ Finset.range w, if k ≤ r then f (r - k) else 0

/-- Of real entries, the difference of two prefix sums is the sum of the entries between. -/
theorem prefix_sub (f : ℕ → EReal) (hf : ∀ i, IsReal (f i)) (r w : ℕ) :
    ∑ i ∈ Finset.range (r + 1), f i - ∑ i ∈ Finset.range (r + 1 - w), f i = back f r w := by
  choose g hg using hf
  have hfg : f = fun i => ((g i : ℝ) : EReal) := funext hg
  subst hfg
  unfold back
  rw [← coe_sum, ← coe_sum, ← EReal.coe_sub,
    Finset.sum_congr rfl fun k _ => show (if k ≤ r then ((g (r - k) : ℝ) : EReal) else 0)
      = (((if k ≤ r then g (r - k) else 0 : ℝ)) : EReal) by split <;> rfl, ← coe_sum]
  congr 1
  induction w with
  | zero => simp
  | succ w ih =>
    rw [Finset.sum_range_succ (fun k => if k ≤ r then g (r - k) else 0) w, ← ih]
    by_cases h : w ≤ r
    · rw [if_pos h, show r + 1 - w = (r + 1 - (w + 1)) + 1 by omega, Finset.sum_range_succ g (r + 1 - (w + 1)),
        show r + 1 - (w + 1) = r - w by omega]
      ring
    · rw [if_neg h, show r + 1 - w = r + 1 - (w + 1) by omega]
      ring

/-- The window of the whole height, padded below by one row less: the sum of the rows from this one on. -/
theorem up {C : ℕ} (x : (shape2 4096 C).Idx → EReal)
    (h : (shape2 4096 C).ReduceWindows (![4096, 1] : Fin 2 → ℕ) ![1, 1] ![0, 0] ![4095, 0] (shape2 4096 C))
    (r : Fin 4096) (c : Fin C) :
    Ideal.hostReduceWindowAdd ![4096, 1] ![1, 1] ![0, 0] ![4095, 0] h x 0 (ix2 r c)
      = ∑ i ∈ Finset.range 4096, col x c (r + i) := by
  have hc := c.isLt
  unfold Ideal.hostReduceWindowAdd Host.reduceWindow
  dsimp only
  refine (foldl_add _ _ _).trans ?_
  rw [zero_add, ← Fin.sum_univ_def, ← (finCongr (numel_col 4096)).symm.sum_comp, Finset.sum_range]
  refine Finset.sum_congr rfl fun n _ => ?_
  have hw0 : ((shape2 4096 1).rowMajor.symm ((finCongr (numel_col 4096)).symm n) 0).val = n.val := by rw [symm_col]; rfl
  have hw1 : ((shape2 4096 1).rowMajor.symm ((finCongr (numel_col 4096)).symm n) 1).val = 0 := by rw [symm_col]; rfl
  try dsimp only
  split
  · next hin =>
    have h0 := hin 0
    change 0 ≤ (r : ℕ) * 1 + ((shape2 4096 1).rowMajor.symm ((finCongr (numel_col 4096)).symm n) 0).val
      ∧ (r : ℕ) * 1 + ((shape2 4096 1).rowMajor.symm ((finCongr (numel_col 4096)).symm n) 0).val - 0 < 4096 at h0
    rw [hw0] at h0
    rw [col, dif_pos (by omega)]
    refine congrArg x (funext fun a => Fin.ext ?_)
    match a with
    | ⟨0, _⟩ =>
      show (r : ℕ) * 1 + ((shape2 4096 1).rowMajor.symm ((finCongr (numel_col 4096)).symm n) 0).val - 0 = r + n
      rw [hw0, Nat.mul_one, Nat.sub_zero]
    | ⟨1, _⟩ =>
      show (c : ℕ) * 1 + ((shape2 4096 1).rowMajor.symm ((finCongr (numel_col 4096)).symm n) 1).val - 0 = c
      rw [hw1]
      omega
  · next hin =>
    rw [col, dif_neg fun hle => hin fun a => by
      match a with
      | ⟨0, _⟩ =>
        show 0 ≤ (r : ℕ) * 1 + ((shape2 4096 1).rowMajor.symm ((finCongr (numel_col 4096)).symm n) 0).val
          ∧ (r : ℕ) * 1 + ((shape2 4096 1).rowMajor.symm ((finCongr (numel_col 4096)).symm n) 0).val - 0 < 4096
        rw [hw0]
        omega
      | ⟨1, _⟩ =>
        show 0 ≤ (c : ℕ) * 1 + ((shape2 4096 1).rowMajor.symm ((finCongr (numel_col 4096)).symm n) 1).val
          ∧ (c : ℕ) * 1 + ((shape2 4096 1).rowMajor.symm ((finCongr (numel_col 4096)).symm n) 1).val - 0 < C
        rw [hw1]
        omega]

/-- Of real entries that vanish after the last row, each less the one `w` rows on, the sum from `r` on is the sum of
    the `w` entries that begin at `r`. -/
theorem suffix_sub (f : ℕ → EReal) (hf : ∀ i, IsReal (f i)) (hz : ∀ i, 4096 ≤ i → f i = 0) (r w : ℕ) :
    ∑ i ∈ Finset.range 4096, (-f (r + i + w) + f (r + i)) = ∑ k ∈ Finset.range w, f (r + k) := by
  choose g hg using hf
  have hfg : f = fun i => ((g i : ℝ) : EReal) := funext hg
  subst hfg
  have hz' : ∀ i, 4096 ≤ i → g i = 0 := fun i hi => EReal.coe_eq_zero.1 (hz i hi)
  rw [← coe_sum, Finset.sum_congr rfl fun i _ => show -((g (r + i + w) : ℝ) : EReal) + ((g (r + i) : ℝ) : EReal)
    = ((-g (r + i + w) + g (r + i) : ℝ) : EReal) by rw [EReal.coe_add, EReal.coe_neg], ← coe_sum]
  congr 1
  have step : ∀ n : ℕ, ∑ i ∈ Finset.range n, (-g (r + i + w) + g (r + i))
      = ∑ k ∈ Finset.range w, g (r + k) - ∑ k ∈ Finset.range w, g (r + n + k) := fun n => by
    induction n with
    | zero => simp
    | succ n ih =>
      have e := (Finset.sum_range_succ (fun k => g (r + n + k)) w).symm.trans (Finset.sum_range_succ' (fun k => g (r + n + k)) w)
      rw [Finset.sum_congr rfl fun k _ => show g (r + n + (k + 1)) = g (r + (n + 1) + k) from congrArg g (by omega), show g (r + n + 0) = g (r + n) from rfl] at e
      rw [Finset.sum_range_succ, ih]
      linarith
  rw [step, Finset.sum_eq_zero fun k _ => hz' (r + 4096 + k) (by omega), sub_zero]

end Cert.Cumsum

end
-- ==== Proof.OddCore.lean ====
module

public import proofs.«01_k».proof.Proof.Gen.Kernel11Ideal.Value
public import Idealize.ShloMosaic.Lib.Pipeline.ValueKit
public import Idealize.ShloMosaic.Lib.Pointwise
public import proofs.«01_k».proof.Proof.Cumsum

@[expose] public section

set_option maxRecDepth 16384

noncomputable section

open Idealize.ShloMosaic Idealize.ShloMosaic.TcCoe Idealize.SL.Sem

namespace Cert.Kernel11Ideal.OddCore

open Cert.Kernel11Ideal Cert.Kernel11Ideal.Gen

variable (m : (ℓ : Loc nD τ sig) → Buf (Elt Ideal) ℓ)

theorem idx : ∀ t : Fin cfg0.N, win0_0.index t = ![t.val, 0] ∧ win0_1.index t = ![16 * t.val - 1, 0] ∧ win0_2.index t = ![1, 0, 0] ∧ win0_3.index t = ![0, 0]
    ∧ win0_4.index t = ![t.val, 0] ∧ win0_5.index t = ![t.val, 0] ∧ win0_6.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blk0 (c : Dev nD) (t : Fin cfg0.N) (p : Fin 512) (k : Fin 1024) :
    iblk m c 0 t (ix2 p k) = (m (c.tc.loc main_arg0)) (ix2 (rowOf t p) k) := by
  unfold rowOf; unfold iblk; rw [show V m c (Pipeline.arrRef spec0 0) = _ from V_main_arg0 m c]; blk_point [idx t]

theorem blk1 (c : Dev nD) (t : Fin cfg0.N) (ht : (t : ℕ) ≠ 0) (p : Fin 32) (k : Fin 1024) :
    iblk m c 1 t (ix2 p k) = (m (c.tc.loc main_arg0)) (ix2 ⟨512 * (t : ℕ) + (p : ℕ) - 32, by have : (t : ℕ) < 8 := t.isLt; omega⟩ k) := by
  have hN : (t : ℕ) < 8 := t.isLt
  unfold iblk; rw [show V m c (Pipeline.arrRef spec0 1) = _ from V_main_arg0 m c]
  blk_point [idx t]

/-- The entry `32 - o` rows above row `r`, zero above the first row. -/
def above (P : FVec Ideal S4096x1024 .f32) (r : ℕ) (c : Fin 1024) (o : ℕ) : EReal :=
  if 32 - o ≤ r then Cumsum.col P c (r - (32 - o)) else 0

/-- The tile under the last rows of the tile before it; the first tile has zeros there. -/
def tall (P : FVec Ideal S4096x1024 .f32) (t : ℕ) (y : S544x1024.Idx) : EReal :=
  if 32 ≤ 512 * t + (y 0 : ℕ) then Cumsum.col P (y 1) (512 * t + (y 0 : ℕ) - 32) else 0

theorem first (t : Fin cfg0.N) : Scalar.cmpi CmpIPredicate.sgt (BitVec.ofNat 32 ((grid0.coords t) 0).val) 0#32
    = if (t : ℕ) = 0 then 0#1 else 1#1 :=
  (by decide +kernel : ∀ t : Fin grid0.N, Scalar.cmpi CmpIPredicate.sgt (BitVec.ofNat 32 ((grid0.coords t) 0).val) 0#32
    = if (t : ℕ) = 0 then 0#1 else 1#1) t

theorem halo_read (c : Dev nD) (t : Fin cfg0.N) (o k : ℕ) (h1 : ∀ a, (![32, 0] : Fin 2 → ℕ) a + (![512, 1024] : Fin 2 → ℕ) a ≤ S544x1024.size a)
    (h2 : ∀ a, (![0, 0] : Fin 2 → ℕ) a + (![32, 1024] : Fin 2 → ℕ) a ≤ S544x1024.size a)
    (hb : ∀ a, (![o, k] : Fin 2 → ℕ) a + (![512, 256] : Fin 2 → ℕ) a ≤ S544x1024.size a) (hle : o ≤ 32) (p : Fin 512) (q : Fin 256) :
    (View.whole cc0_scratch0).readCov (Val := Elt Ideal)
      [⟨Rect.unit (s := S544x1024) ![32, 0] ![512, 1024] h1, iblk m c 0 t⟩,
        ⟨Rect.unit (s := S544x1024) ![0, 0] ![32, 1024] h2,
          Scalar.select (Scalar.cmpi CmpIPredicate.sgt (BitVec.ofNat 32 ((grid0.coords t) 0).val) 0#32)
            (iblk m c 1 t) (broadcast S32x1024 (0 : EReal))⟩]
      (Rect.unit (s := S544x1024) ![o, k] ![512, 256] hb).toLoadRect (ix2 p q : S512x256.Idx)
      = above (m (c.tc.loc main_arg0)) (rowOf t p) ⟨k + q, by have : k + 256 ≤ 1024 := hb 1; omega⟩ o := by
  have hN : (t : ℕ) < 8 := t.isLt
  have ho : o + 512 ≤ 544 := hb 0
  have hk : k + 256 ≤ 1024 := hb 1
  rw [View.readCov_eq_canon']
  refine (View.canon_apply_of_pieces (fun y : S544x1024.Idx => tall (m (c.tc.loc main_arg0)) t y) _ (fun pc hpc x => ?_) _ ?_).trans ?_
  · rcases List.mem_cons.1 hpc with rfl | hpc
    · obtain ⟨a, b, rfl⟩ : ∃ (a : Fin 512) (b : Fin 1024), x = ix2 a b := ⟨x 0, x 1, eq_ix2 x⟩
      show iblk m c 0 t (ix2 a b) = if 32 ≤ 512 * (t : ℕ) + (32 + 1 * (a : ℕ)) then Cumsum.col (m (c.tc.loc main_arg0)) ⟨0 + 1 * (b : ℕ), _⟩ (512 * (t : ℕ) + (32 + 1 * (a : ℕ)) - 32) else 0
      rw [blk0, if_pos (by omega), show 512 * (t : ℕ) + (32 + 1 * (a : ℕ)) - 32 = (rowOf t a : ℕ) by unfold rowOf; simp only; omega, Cumsum.col_at]
      exact congrArg (m (c.tc.loc main_arg0)) (congrArg (ix2 _) (Fin.ext (by simp)))
    · obtain rfl := List.mem_singleton.1 hpc
      obtain ⟨a, b, rfl⟩ : ∃ (a : Fin 32) (b : Fin 1024), x = ix2 a b := ⟨x 0, x 1, eq_ix2 x⟩
      show Scalar.select (Scalar.cmpi CmpIPredicate.sgt (BitVec.ofNat 32 ((grid0.coords t) 0).val) 0#32) (iblk m c 1 t) (broadcast S32x1024 (0 : EReal)) (ix2 a b)
        = if 32 ≤ 512 * (t : ℕ) + (0 + 1 * (a : ℕ)) then Cumsum.col (m (c.tc.loc main_arg0)) ⟨0 + 1 * (b : ℕ), _⟩ (512 * (t : ℕ) + (0 + 1 * (a : ℕ)) - 32) else 0
      have ha : (a : ℕ) < 32 := a.isLt
      rw [first]
      by_cases ht : (t : ℕ) = 0
      · rw [if_pos ht, if_neg (by omega)]; rfl
      · rw [if_neg ht, if_pos (by omega)]
        show iblk m c 1 t (ix2 a b) = _
        rw [blk1 m c t ht, show 512 * (t : ℕ) + (0 + 1 * (a : ℕ)) - 32 = ((⟨512 * (t : ℕ) + (a : ℕ) - 32, by omega⟩ : Fin 4096) : ℕ) by simp only; omega, Cumsum.col_at]
        exact congrArg (m (c.tc.loc main_arg0)) (congrArg (ix2 _) (Fin.ext (by simp)))
  · by_cases hr : 32 ≤ o + (p : ℕ)
    · refine ⟨_, List.mem_cons_self, (Rect.mem_set_unit (inb := h1)).2 fun a => ?_⟩
      match a with
      | 0 => show 32 ≤ o + 1 * (p : ℕ) ∧ o + 1 * (p : ℕ) < 32 + 512; omega
      | 1 => show 0 ≤ k + 1 * (q : ℕ) ∧ k + 1 * (q : ℕ) < 0 + 1024; omega
    · refine ⟨_, List.mem_cons_of_mem _ List.mem_cons_self, (Rect.mem_set_unit (inb := h2)).2 fun a => ?_⟩
      match a with
      | 0 => show 0 ≤ o + 1 * (p : ℕ) ∧ o + 1 * (p : ℕ) < 0 + 32; omega
      | 1 => show 0 ≤ k + 1 * (q : ℕ) ∧ k + 1 * (q : ℕ) < 0 + 1024; omega
  · show (if 32 ≤ 512 * (t : ℕ) + (o + 1 * (p : ℕ)) then Cumsum.col (m (c.tc.loc main_arg0)) ⟨k + 1 * (q : ℕ), _⟩ (512 * (t : ℕ) + (o + 1 * (p : ℕ)) - 32) else 0)
      = if 32 - o ≤ 512 * (t : ℕ) + (p : ℕ) then Cumsum.col (m (c.tc.loc main_arg0)) ⟨k + (q : ℕ), _⟩ (512 * (t : ℕ) + (p : ℕ) - (32 - o)) else 0
    have ho' : o ≤ 32 := hle
    have e : 512 * (t : ℕ) + (o + (p : ℕ)) - 32 = 512 * (t : ℕ) + (p : ℕ) - (32 - o) := by omega
    simp only [Nat.one_mul, e]
    by_cases hr : 32 - o ≤ 512 * (t : ℕ) + (p : ℕ)
    · rw [if_pos hr, if_pos (by omega)]
    · rw [if_neg hr, if_neg (by omega)]

/-- The pooling windows of the four column groups. -/
def win (g : Fin 4) : ℕ := ![2, 4, 8, 16] g

/-- Column `q` of group `g`. -/
def gcol (g : Fin 4) (q : Fin 256) : Fin 1024 := ⟨256 * (g : ℕ) + (q : ℕ), by have := g.isLt; have := q.isLt; omega⟩

/-- How many rows the window of width `w` that ends in row `r` holds. -/
def cnt (r w : ℕ) : EReal := FloatOps.sitofp (F := Ideal) FTy.f32 (IntOp.minsi (BitVec.ofNat 32 (r + 1)) (BitVec.ofNat 32 w))

/-- The window's mean minus the entry itself. -/
def dval (P : FVec Ideal S4096x1024 .f32) (r : Fin 4096) (g : Fin 4) (q : Fin 256) : EReal :=
  Ideal.div (Cumsum.back (Cumsum.col P (gcol g q)) r (win g)) (cnt r (win g)) - P (ix2 r (gcol g q))

/-- The group's mixing product. -/
def eval (P : FVec Ideal S4096x1024 .f32) (W : FVec Ideal S2x4x256x256 .bf16) (r : Fin 4096) (g : Fin 4) (q : Fin 256) : EReal :=
  ∑ k : Fin 256, dval P r g k * (W (ix4 1 g k q) : EReal)

/-- The array whose column `256 * g + q` is column `q` of group `g`. -/
def byGroup (f : Fin 4096 → Fin 4 → Fin 256 → EReal) : S4096x1024.Idx → EReal :=
  fun j => f (j 0) ⟨(j 1).val / 256, by have : (j 1).val < 1024 := (j 1).isLt; omega⟩ ⟨(j 1).val % 256, by omega⟩

theorem byGroup_at (f : Fin 4096 → Fin 4 → Fin 256 → EReal) (r : Fin 4096) (g : Fin 4) (q : Fin 256) :
    byGroup f (ix2 r (gcol g q)) = f r g q := by
  have hg : (⟨(gcol g q).val / 256, by have := (gcol g q).isLt; omega⟩ : Fin 4) = g := Fin.ext (by unfold gcol; simp only; omega)
  have hq : (⟨(gcol g q).val % 256, by omega⟩ : Fin 256) = q := Fin.ext (by unfold gcol; simp only; omega)
  show f r ⟨(gcol g q).val / 256, _⟩ ⟨(gcol g q).val % 256, _⟩ = _
  rw [hg, hq]

theorem count_eq (t : Fin cfg0.N) (p : Fin 512) :
    IntOp.addi (IntOp.addi (Scalar.addi (Scalar.muli (BitVec.ofNat 32 ((grid0.coords t) 0).val) 512#32) 0#32) (BitVec.ofNat 32 (p : ℕ))) 1#32
      = BitVec.ofNat 32 ((rowOf t p : ℕ) + 1) := by
  rw [(by decide +kernel : ∀ t : Fin grid0.N, ((grid0.coords t) 0).val = t.val) t]
  show ((BitVec.ofNat 32 (t : ℕ) * 512#32 + 0#32) + BitVec.ofNat 32 (p : ℕ)) + 1#32 = BitVec.ofNat 32 (512 * (t : ℕ) + (p : ℕ) + 1)
  simp [BitVec.ofNat_add, BitVec.ofNat_mul, mul_comm]

theorem split_read (v : S2x4x256x256.Idx → EReal) (h : S2x4x256x256.ShapeCasts S8x256x256) (j : S8x256x256.Idx) :
    shapeCast S8x256x256 v h j = v (ix4 ⟨(j 0).val / 4, by have : (j 0).val < 8 := (j 0).isLt; omega⟩ ⟨(j 0).val % 4, by omega⟩ (j 1) (j 2)) := by
  pointwise

theorem blk2 (c : Dev nD) (t : Fin cfg0.N) (g : Fin 4) (a b : Fin 256) :
    iblk m c 2 t (ix3 g a b) = (m (c.tc.loc main_arg1) : FVec Ideal S2x4x256x256 .bf16) (ix4 1 g a b) := by
  have e : (V m c main_v0 : S8x256x256.Idx → EReal) = shapeCast S8x256x256 (m (c.tc.loc main_arg1) : FVec Ideal S2x4x256x256 .bf16) shapeCasts_S2x4x256x256_S8x256x256 := by
    unfold V; after_results; rfl
  have hx : ((cfg0.win 2).blk t).view.emb (ix3 g a b) = ix3 ⟨4 + (g : ℕ), by have := g.isLt; omega⟩ a b := by blk_ext [idx t]
  show (V m c main_v0 : S8x256x256.Idx → EReal) (((cfg0.win 2).blk t).view.emb (ix3 g a b)) = _
  rw [e, hx]
  have hg := g.isLt
  rw [split_read]
  have h0 : (⟨(4 + (g : ℕ)) / 4, by omega⟩ : Fin 2) = 1 := Fin.ext (by simp only; omega)
  have h1 : (⟨(4 + (g : ℕ)) % 4, by omega⟩ : Fin 4) = g := Fin.ext (by simp only; omega)
  show (m (c.tc.loc main_arg1) : FVec Ideal S2x4x256x256 .bf16) (ix4 ⟨(4 + (g : ℕ)) / 4, _⟩ ⟨(4 + (g : ℕ)) % 4, _⟩ a b) = _
  rw [h0, h1]

theorem blk3 (c : Dev nD) (t : Fin cfg0.N) (q : Fin 1024) :
    iblk m c 3 t (ix2 0 q) = (m (c.tc.loc main_arg2) : FVec Ideal S1x1024 .f32) (ix2 0 q) := by
  unfold iblk; rw [show V m c (Pipeline.arrRef spec0 3) = _ from V_main_arg2 m c]; blk_point [idx t]

theorem d2 (P : FVec Ideal S4096x1024 .f32) (t : Fin cfg0.N) (p : Fin 512) (q : Fin 256) :
    Ideal.div ((P (ix2 (rowOf t p) ⟨(q : ℕ), by have := q.isLt; omega⟩) : EReal)
          + above P (rowOf t p) ⟨(q : ℕ), by have := q.isLt; omega⟩ 31)
        (FloatOps.sitofp (F := Ideal) FTy.f32 (IntOp.minsi (IntOp.addi (IntOp.addi (Scalar.addi (Scalar.muli (BitVec.ofNat 32 ((grid0.coords t) 0).val) 512#32) 0#32) (BitVec.ofNat 32 (p : ℕ))) 1#32) 2#32))
      - (P (ix2 (rowOf t p) ⟨(q : ℕ), by have := q.isLt; omega⟩) : EReal)
      = dval P (rowOf t p) 0 q := by
  rw [count_eq]
  have hc : (⟨(q : ℕ), by have := q.isLt; omega⟩ : Fin 1024) = gcol 0 q := Fin.ext (by simp [gcol])
  simp only [hc]
  unfold dval
  refine congrArg₂ (· - ·) (congrArg₂ Ideal.div ?_ rfl) rfl
  show _ = Cumsum.back (Cumsum.col P (gcol 0 q)) (rowOf t p) 2
  unfold Cumsum.back above
  simp only [Finset.sum_range_succ, Finset.sum_range_zero, zero_add, Nat.reduceSub, Nat.zero_le, if_true, Nat.sub_zero, Cumsum.col_at]

theorem d4 (P : FVec Ideal S4096x1024 .f32) (t : Fin cfg0.N) (p : Fin 512) (q : Fin 256) :
    Ideal.div ((P (ix2 (rowOf t p) ⟨256 + (q : ℕ), by have := q.isLt; omega⟩) : EReal)
          + above P (rowOf t p) ⟨256 + (q : ℕ), by have := q.isLt; omega⟩ 31
          + above P (rowOf t p) ⟨256 + (q : ℕ), by have := q.isLt; omega⟩ 30
          + above P (rowOf t p) ⟨256 + (q : ℕ), by have := q.isLt; omega⟩ 29)
        (FloatOps.sitofp (F := Ideal) FTy.f32 (IntOp.minsi (IntOp.addi (IntOp.addi (Scalar.addi (Scalar.muli (BitVec.ofNat 32 ((grid0.coords t) 0).val) 512#32) 0#32) (BitVec.ofNat 32 (p : ℕ))) 1#32) 4#32))
      - (P (ix2 (rowOf t p) ⟨256 + (q : ℕ), by have := q.isLt; omega⟩) : EReal)
      = dval P (rowOf t p) 1 q := by
  rw [count_eq]
  have hc : (⟨256 + (q : ℕ), by have := q.isLt; omega⟩ : Fin 1024) = gcol 1 q := Fin.ext (by simp [gcol])
  simp only [hc]
  unfold dval
  refine congrArg₂ (· - ·) (congrArg₂ Ideal.div ?_ rfl) rfl
  show _ = Cumsum.back (Cumsum.col P (gcol 1 q)) (rowOf t p) 4
  unfold Cumsum.back above
  simp only [Finset.sum_range_succ, Finset.sum_range_zero, zero_add, Nat.reduceSub, Nat.zero_le, if_true, Nat.sub_zero, Cumsum.col_at]

theorem d8 (P : FVec Ideal S4096x1024 .f32) (t : Fin cfg0.N) (p : Fin 512) (q : Fin 256) :
    Ideal.div ((P (ix2 (rowOf t p) ⟨512 + (q : ℕ), by have := q.isLt; omega⟩) : EReal)
          + above P (rowOf t p) ⟨512 + (q : ℕ), by have := q.isLt; omega⟩ 31
          + above P (rowOf t p) ⟨512 + (q : ℕ), by have := q.isLt; omega⟩ 30
          + above P (rowOf t p) ⟨512 + (q : ℕ), by have := q.isLt; omega⟩ 29
          + above P (rowOf t p) ⟨512 + (q : ℕ), by have := q.isLt; omega⟩ 28
          + above P (rowOf t p) ⟨512 + (q : ℕ), by have := q.isLt; omega⟩ 27
          + above P (rowOf t p) ⟨512 + (q : ℕ), by have := q.isLt; omega⟩ 26
          + above P (rowOf t p) ⟨512 + (q : ℕ), by have := q.isLt; omega⟩ 25)
        (FloatOps.sitofp (F := Ideal) FTy.f32 (IntOp.minsi (IntOp.addi (IntOp.addi (Scalar.addi (Scalar.muli (BitVec.ofNat 32 ((grid0.coords t) 0).val) 512#32) 0#32) (BitVec.ofNat 32 (p : ℕ))) 1#32) 8#32))
      - (P (ix2 (rowOf t p) ⟨512 + (q : ℕ), by have := q.isLt; omega⟩) : EReal)
      = dval P (rowOf t p) 2 q := by
  rw [count_eq]
  have hc : (⟨512 + (q : ℕ), by have := q.isLt; omega⟩ : Fin 1024) = gcol 2 q := Fin.ext (by simp [gcol])
  simp only [hc]
  unfold dval
  refine congrArg₂ (· - ·) (congrArg₂ Ideal.div ?_ rfl) rfl
  show _ = Cumsum.back (Cumsum.col P (gcol 2 q)) (rowOf t p) 8
  unfold Cumsum.back above
  simp only [Finset.sum_range_succ, Finset.sum_range_zero, zero_add, Nat.reduceSub, Nat.zero_le, if_true, Nat.sub_zero, Cumsum.col_at]

theorem d16 (P : FVec Ideal S4096x1024 .f32) (t : Fin cfg0.N) (p : Fin 512) (q : Fin 256) :
    Ideal.div ((P (ix2 (rowOf t p) ⟨768 + (q : ℕ), by have := q.isLt; omega⟩) : EReal)
          + above P (rowOf t p) ⟨768 + (q : ℕ), by have := q.isLt; omega⟩ 31
          + above P (rowOf t p) ⟨768 + (q : ℕ), by have := q.isLt; omega⟩ 30
          + above P (rowOf t p) ⟨768 + (q : ℕ), by have := q.isLt; omega⟩ 29
          + above P (rowOf t p) ⟨768 + (q : ℕ), by have := q.isLt; omega⟩ 28
          + above P (rowOf t p) ⟨768 + (q : ℕ), by have := q.isLt; omega⟩ 27
          + above P (rowOf t p) ⟨768 + (q : ℕ), by have := q.isLt; omega⟩ 26
          + above P (rowOf t p) ⟨768 + (q : ℕ), by have := q.isLt; omega⟩ 25
          + above P (rowOf t p) ⟨768 + (q : ℕ), by have := q.isLt; omega⟩ 24
          + above P (rowOf t p) ⟨768 + (q : ℕ), by have := q.isLt; omega⟩ 23
          + above P (rowOf t p) ⟨768 + (q : ℕ), by have := q.isLt; omega⟩ 22
          + above P (rowOf t p) ⟨768 + (q : ℕ), by have := q.isLt; omega⟩ 21
          + above P (rowOf t p) ⟨768 + (q : ℕ), by have := q.isLt; omega⟩ 20
          + above P (rowOf t p) ⟨768 + (q : ℕ), by have := q.isLt; omega⟩ 19
          + above P (rowOf t p) ⟨768 + (q : ℕ), by have := q.isLt; omega⟩ 18
          + above P (rowOf t p) ⟨768 + (q : ℕ), by have := q.isLt; omega⟩ 17)
        (FloatOps.sitofp (F := Ideal) FTy.f32 (IntOp.minsi (IntOp.addi (IntOp.addi (Scalar.addi (Scalar.muli (BitVec.ofNat 32 ((grid0.coords t) 0).val) 512#32) 0#32) (BitVec.ofNat 32 (p : ℕ))) 1#32) 16#32))
      - (P (ix2 (rowOf t p) ⟨768 + (q : ℕ), by have := q.isLt; omega⟩) : EReal)
      = dval P (rowOf t p) 3 q := by
  rw [count_eq]
  have hc : (⟨768 + (q : ℕ), by have := q.isLt; omega⟩ : Fin 1024) = gcol 3 q := Fin.ext (by simp [gcol])
  simp only [hc]
  unfold dval
  refine congrArg₂ (· - ·) (congrArg₂ Ideal.div ?_ rfl) rfl
  show _ = Cumsum.back (Cumsum.col P (gcol 3 q)) (rowOf t p) 16
  unfold Cumsum.back above
  simp only [Finset.sum_range_succ, Finset.sum_range_zero, zero_add, Nat.reduceSub, Nat.zero_le, if_true, Nat.sub_zero, Cumsum.col_at]

theorem final4 (c : Dev nD) : (dats m 0 c).arrAt 4 cfg0.N = byGroup (dval (m (c.tc.loc main_arg0))) := by
  refine (dats m 0 c).arrAt_eq_of_covers 4 _ (by decide +kernel) fun t _ y => ?_
  blk_simp
  rw [after0_4]
  have hN : (t : ℕ) < 8 := t.isLt
  unfold outsAt0
  frame_out
  canon_tiles x h
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_0).slice (win0_4.rect t)).emb y = ix2 (rowOf t p) (gcol 3 q) := by
      unfold rowOf gcol; blk_ext [idx t]
    rw [e, byGroup_at]
    simp (disch := decide) only [halo_read m c t, blk0, Nat.zero_add]
    exact d16 (m (c.tc.loc main_arg0)) t p q
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_0).slice (win0_4.rect t)).emb y = ix2 (rowOf t p) (gcol 2 q) := by
      unfold rowOf gcol; blk_ext [idx t]
    rw [e, byGroup_at]
    simp (disch := decide) only [halo_read m c t, blk0, Nat.zero_add]
    exact d8 (m (c.tc.loc main_arg0)) t p q
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_0).slice (win0_4.rect t)).emb y = ix2 (rowOf t p) (gcol 1 q) := by
      unfold rowOf gcol; blk_ext [idx t]
    rw [e, byGroup_at]
    simp (disch := decide) only [halo_read m c t, blk0, Nat.zero_add]
    exact d4 (m (c.tc.loc main_arg0)) t p q
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_0).slice (win0_4.rect t)).emb y = ix2 (rowOf t p) (gcol 0 q) := by
      unfold rowOf gcol; blk_ext [idx t]
    rw [e, byGroup_at]
    simp (disch := decide) only [halo_read m c t, blk0, Nat.zero_add]
    exact d2 (m (c.tc.loc main_arg0)) t p q

theorem final5 (c : Dev nD) : (dats m 0 c).arrAt 5 cfg0.N = byGroup (eval (m (c.tc.loc main_arg0)) (m (c.tc.loc main_arg1) : FVec Ideal S2x4x256x256 .bf16)) := by
  refine (dats m 0 c).arrAt_eq_of_covers 5 _ (by decide +kernel) fun t _ y => ?_
  blk_simp
  rw [after0_5]
  have hN : (t : ℕ) < 8 := t.isLt
  unfold outsAt0
  frame_out
  canon_tiles x h
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_1).slice (win0_5.rect t)).emb y = ix2 (rowOf t p) (gcol 3 q) := by
      unfold rowOf gcol; blk_ext [idx t]
    rw [e, byGroup_at]
    simp (disch := decide) only [halo_read m c t, blk0, blk2, Nat.zero_add]
    exact Finset.sum_congr rfl fun k _ => congrArg₂ (· * ·) (d16 (m (c.tc.loc main_arg0)) t p k) rfl
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_1).slice (win0_5.rect t)).emb y = ix2 (rowOf t p) (gcol 2 q) := by
      unfold rowOf gcol; blk_ext [idx t]
    rw [e, byGroup_at]
    simp (disch := decide) only [halo_read m c t, blk0, blk2, Nat.zero_add]
    exact Finset.sum_congr rfl fun k _ => congrArg₂ (· * ·) (d8 (m (c.tc.loc main_arg0)) t p k) rfl
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_1).slice (win0_5.rect t)).emb y = ix2 (rowOf t p) (gcol 1 q) := by
      unfold rowOf gcol; blk_ext [idx t]
    rw [e, byGroup_at]
    simp (disch := decide) only [halo_read m c t, blk0, blk2, Nat.zero_add]
    exact Finset.sum_congr rfl fun k _ => congrArg₂ (· * ·) (d4 (m (c.tc.loc main_arg0)) t p k) rfl
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_1).slice (win0_5.rect t)).emb y = ix2 (rowOf t p) (gcol 0 q) := by
      unfold rowOf gcol; blk_ext [idx t]
    rw [e, byGroup_at]
    simp (disch := decide) only [halo_read m c t, blk0, blk2, Nat.zero_add]
    exact Finset.sum_congr rfl fun k _ => congrArg₂ (· * ·) (d2 (m (c.tc.loc main_arg0)) t p k) rfl

theorem final6 (c : Dev nD) : (dats m 0 c).arrAt 6 cfg0.N = byGroup (fun r g q => eval (m (c.tc.loc main_arg0)) (m (c.tc.loc main_arg1) : FVec Ideal S2x4x256x256 .bf16) r g q * (m (c.tc.loc main_arg2) : FVec Ideal S1x1024 .f32) (ix2 0 (gcol g q))) := by
  refine (dats m 0 c).arrAt_eq_of_covers 6 _ (by decide +kernel) fun t _ y => ?_
  blk_simp
  rw [after0_6]
  have hN : (t : ℕ) < 8 := t.isLt
  unfold outsAt0
  frame_out
  canon_tiles x h
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_2).slice (win0_6.rect t)).emb y = ix2 (rowOf t p) (gcol 3 q) := by
      unfold rowOf gcol; blk_ext [idx t]
    rw [e, byGroup_at]
    simp (disch := decide) only [halo_read m c t, blk0, blk2, blk3, Nat.zero_add]
    refine congrArg₂ (· * ·) (Finset.sum_congr rfl fun k _ => congrArg₂ (· * ·) (d16 (m (c.tc.loc main_arg0)) t p k) rfl) ?_
    exact congrArg (m (c.tc.loc main_arg2) : FVec Ideal S1x1024 .f32) (congrArg (ix2 _) (Fin.ext (by simp [gcol])))
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_2).slice (win0_6.rect t)).emb y = ix2 (rowOf t p) (gcol 2 q) := by
      unfold rowOf gcol; blk_ext [idx t]
    rw [e, byGroup_at]
    simp (disch := decide) only [halo_read m c t, blk0, blk2, blk3, Nat.zero_add]
    refine congrArg₂ (· * ·) (Finset.sum_congr rfl fun k _ => congrArg₂ (· * ·) (d8 (m (c.tc.loc main_arg0)) t p k) rfl) ?_
    exact congrArg (m (c.tc.loc main_arg2) : FVec Ideal S1x1024 .f32) (congrArg (ix2 _) (Fin.ext (by simp [gcol])))
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_2).slice (win0_6.rect t)).emb y = ix2 (rowOf t p) (gcol 1 q) := by
      unfold rowOf gcol; blk_ext [idx t]
    rw [e, byGroup_at]
    simp (disch := decide) only [halo_read m c t, blk0, blk2, blk3, Nat.zero_add]
    refine congrArg₂ (· * ·) (Finset.sum_congr rfl fun k _ => congrArg₂ (· * ·) (d4 (m (c.tc.loc main_arg0)) t p k) rfl) ?_
    exact congrArg (m (c.tc.loc main_arg2) : FVec Ideal S1x1024 .f32) (congrArg (ix2 _) (Fin.ext (by simp [gcol])))
  · obtain ⟨p, q, rfl⟩ : ∃ (p : Fin 512) (q : Fin 256), x = ix2 p q := ⟨x 0, x 1, eq_ix2 x⟩
    simp only [ix2_0, ix2_1] at h0 h1
    open_payloads
    pointwise
    have e : ((View.whole main_v1_2).slice (win0_6.rect t)).emb y = ix2 (rowOf t p) (gcol 0 q) := by
      unfold rowOf gcol; blk_ext [idx t]
    rw [e, byGroup_at]
    simp (disch := decide) only [halo_read m c t, blk0, blk2, blk3, Nat.zero_add]
    refine congrArg₂ (· * ·) (Finset.sum_congr rfl fun k _ => congrArg₂ (· * ·) (d2 (m (c.tc.loc main_arg0)) t p k) rfl) ?_
    exact congrArg (m (c.tc.loc main_arg2) : FVec Ideal S1x1024 .f32) (congrArg (ix2 _) (Fin.ext (by simp [gcol])))

def G4 (P : FVec Ideal S4096x1024 .f32) : FVec Ideal S4096x1024 .bf16 := byGroup (dval P)
def G5 (P : FVec Ideal S4096x1024 .f32) (W : FVec Ideal S2x4x256x256 .bf16) : FVec Ideal S4096x1024 .f32 := byGroup (eval P W)
def G6 (P : FVec Ideal S4096x1024 .f32) (W : FVec Ideal S2x4x256x256 .bf16) (SC : FVec Ideal S1x1024 .f32) : FVec Ideal S4096x1024 .bf16 :=
  byGroup (fun r g q => eval P W r g q * (SC (ix2 0 (gcol g q)) : EReal))

theorem total4 (c : Dev nD) : (dats m 0 c).arrAt 4 cfg0.N = G4 (m (c.tc.loc main_arg0)) := final4 m c
theorem total5 (c : Dev nD) : (dats m 0 c).arrAt 5 cfg0.N = G5 (m (c.tc.loc main_arg0)) (m (c.tc.loc main_arg1) : FVec Ideal S2x4x256x256 .bf16) := final5 m c
theorem total6 (c : Dev nD) : (dats m 0 c).arrAt 6 cfg0.N = G6 (m (c.tc.loc main_arg0)) (m (c.tc.loc main_arg1) : FVec Ideal S2x4x256x256 .bf16) (m (c.tc.loc main_arg2) : FVec Ideal S1x1024 .f32) := final6 m c

end Cert.Kernel11Ideal.OddCore

end
-- ==== Proof.OddCoreRef.lean ====
module

public import proofs.«01_k».proof.Proof.OddCore
public import proofs.«01_k».proof.Pre_finite11
public import proofs.«01_k».proof.Proof.Gen.Pre_finite11
public import proofs.«01_k».proof.Proof.Gen.Reference11Ideal.Read

@[expose] public section

set_option maxRecDepth 16384

noncomputable section

open Idealize.ShloMosaic Idealize.ShloMosaic.TcCoe Idealize.SL.Sem

namespace Cert.Reference11Ideal.OddCore

open Cert.Reference11Ideal Cert.Reference11Ideal.Gen Cert.Reference11Ideal.Read

open Cert.Reals
open Cert.Kernel11Ideal.OddCore (win gcol cnt dval eval byGroup byGroup_at)

variable (P : FVec Ideal S4096x1024 .f32) (W : FVec Ideal S2x4x256x256 .bf16) (SC : FVec Ideal S1x1024 .f32)

theorem init_zero (i : S_.Idx) : val_main_call0_call0_v0 (F := Ideal) i = (0 : EReal) := by
  pointwise [val_main_call0_call0_v0, val_main_call0_call0_cst]

theorem cum (r : Fin 4096) (c : Fin 1024) :
    val_main_v0 (F := Ideal) P (ix2 r c) = ∑ i ∈ Finset.range ((r : ℕ) + 1), Cumsum.col P c i := by
  have e : val_main_v0 (F := Ideal) P = Ideal.hostReduceWindowAdd ![4096, 1] ![1, 1] ![4095, 0] ![0, 0]
      reduceWindows_S4096x1024_S4096x1024_w4096s1p4095_0_w1s1p0_0 P (val_main_call0_call0_v0 (F := Ideal) (Shape.Idx.first h_S_)) := by
    unfold val_main_v0 Host.reduceWindowAdd
    rfl
  rw [e, init_zero]
  exact Cumsum.down P _ r c

theorem cumPad (r : Fin 4097) (c : Fin 1024) :
    val_main_v2 (F := Ideal) P (ix2 r c) = ∑ i ∈ Finset.range (r : ℕ), Cumsum.col P c i := by
  pointwise [val_main_v2, val_main_v1, val_main_cst]
  by_cases h : (r : ℕ) < 1
  · rw [dif_pos h, show (r : ℕ) = 0 by omega]
    simp
  · rw [dif_neg h, cum]
    exact congrArg (fun n => ∑ i ∈ Finset.range n, Cumsum.col P c i) (show (r : ℕ) - 1 + 1 = r by omega)

theorem count (r : Fin 4096) : IntOp.addi 1#32 (BitVec.ofNat 32 (r : ℕ)) = BitVec.ofNat 32 ((r : ℕ) + 1) := by
  rw [Nat.add_comm, BitVec.ofNat_add]
  rfl

variable (hP : ∀ r k, IsReal (P (ix2 r k)))

include hP in
theorem col_real (c : Fin 1024) (i : ℕ) : IsReal (Cumsum.col P c i) := by
  unfold Cumsum.col
  split
  · exact hP _ _
  · exact real_zero

include hP in
theorem mean2 (r : Fin 4096) (q : Fin 256) :
    val_main_v16 (F := Ideal) P (ix2 r q) = Ideal.div (Cumsum.back (Cumsum.col P (gcol 0 q)) r 2) (cnt r 2) := by
  pointwise [val_main_v16, val_main_v15, val_main_v14, val_main_v13, val_main_v12, val_main_v11, val_main_v10, val_main_v9, val_main_v8, val_main_v7, val_main_v6, val_main_v5, val_main_v4, val_main_v3, val_main_cst_0, val_main_c, val_main_c_1]
  simp only [cumPad, count]
  refine congrArg₂ Ideal.div ?_ rfl
  have hc : (⟨(q : ℕ), by have := q.isLt; omega⟩ : Fin 1024) = gcol 0 q := Fin.ext (by simp [gcol])
  simp only [hc]
  refine Eq.trans ?_ (Cumsum.prefix_sub _ (col_real P hP (gcol 0 q)) r 2)
  refine congrArg₂ (· - ·) (by rw [Nat.add_comm]) ?_
  by_cases h : (r : ℕ) < 1
  · rw [dif_pos h, show (r : ℕ) + 1 - 2 = 0 by omega]
    simp
  · rw [dif_neg h, show (r : ℕ) + 1 - 2 = (r : ℕ) - 1 by omega]

include hP in
theorem mean4 (r : Fin 4096) (q : Fin 256) :
    val_main_v27 (F := Ideal) P (ix2 r q) = Ideal.div (Cumsum.back (Cumsum.col P (gcol 1 q)) r 4) (cnt r 4) := by
  pointwise [val_main_v27, val_main_v26, val_main_v25, val_main_v24, val_main_v23, val_main_v22, val_main_v21, val_main_v20, val_main_v19, val_main_v18, val_main_v17, val_main_v5, val_main_v4, val_main_v3, val_main_cst_2, val_main_c, val_main_c_3]
  simp only [cumPad, count]
  refine congrArg₂ Ideal.div ?_ rfl
  have hc : (⟨256 + (q : ℕ), by have := q.isLt; omega⟩ : Fin 1024) = gcol 1 q := Fin.ext (by simp [gcol])
  simp only [hc]
  refine Eq.trans ?_ (Cumsum.prefix_sub _ (col_real P hP (gcol 1 q)) r 4)
  refine congrArg₂ (· - ·) (by rw [Nat.add_comm]) ?_
  by_cases h : (r : ℕ) < 3
  · rw [dif_pos h, show (r : ℕ) + 1 - 4 = 0 by omega]
    simp
  · rw [dif_neg h, show (r : ℕ) + 1 - 4 = (r : ℕ) - 3 by omega]

include hP in
theorem mean8 (r : Fin 4096) (q : Fin 256) :
    val_main_v38 (F := Ideal) P (ix2 r q) = Ideal.div (Cumsum.back (Cumsum.col P (gcol 2 q)) r 8) (cnt r 8) := by
  pointwise [val_main_v38, val_main_v37, val_main_v36, val_main_v35, val_main_v34, val_main_v33, val_main_v32, val_main_v31, val_main_v30, val_main_v29, val_main_v28, val_main_v5, val_main_v4, val_main_v3, val_main_cst_4, val_main_c, val_main_c_5]
  simp only [cumPad, count]
  refine congrArg₂ Ideal.div ?_ rfl
  have hc : (⟨512 + (q : ℕ), by have := q.isLt; omega⟩ : Fin 1024) = gcol 2 q := Fin.ext (by simp [gcol])
  simp only [hc]
  refine Eq.trans ?_ (Cumsum.prefix_sub _ (col_real P hP (gcol 2 q)) r 8)
  refine congrArg₂ (· - ·) (by rw [Nat.add_comm]) ?_
  by_cases h : (r : ℕ) < 7
  · rw [dif_pos h, show (r : ℕ) + 1 - 8 = 0 by omega]
    simp
  · rw [dif_neg h, show (r : ℕ) + 1 - 8 = (r : ℕ) - 7 by omega]

include hP in
theorem mean16 (r : Fin 4096) (q : Fin 256) :
    val_main_v49 (F := Ideal) P (ix2 r q) = Ideal.div (Cumsum.back (Cumsum.col P (gcol 3 q)) r 16) (cnt r 16) := by
  pointwise [val_main_v49, val_main_v48, val_main_v47, val_main_v46, val_main_v45, val_main_v44, val_main_v43, val_main_v42, val_main_v41, val_main_v40, val_main_v39, val_main_v5, val_main_v4, val_main_v3, val_main_cst_6, val_main_c, val_main_c_7]
  simp only [cumPad, count]
  refine congrArg₂ Ideal.div ?_ rfl
  have hc : (⟨768 + (q : ℕ), by have := q.isLt; omega⟩ : Fin 1024) = gcol 3 q := Fin.ext (by simp [gcol])
  simp only [hc]
  refine Eq.trans ?_ (Cumsum.prefix_sub _ (col_real P hP (gcol 3 q)) r 16)
  refine congrArg₂ (· - ·) (by rw [Nat.add_comm]) ?_
  by_cases h : (r : ℕ) < 15
  · rw [dif_pos h, show (r : ℕ) + 1 - 16 = 0 by omega]
    simp
  · rw [dif_neg h, show (r : ℕ) + 1 - 16 = (r : ℕ) - 15 by omega]

include hP in
theorem ref_d (r : Fin 4096) (g : Fin 4) (q : Fin 256) : val_main_v51 (F := Ideal) P (ix2 r (gcol g q)) = dval P r g q := by
  match g with
  | 0 =>
    have hc : gcol 0 q = ⟨(q : ℕ), by have := q.isLt; omega⟩ := Fin.ext (by simp [gcol])
    unfold dval
    rw [hc]
    pointwise [val_main_v51, val_main_v50]
    rw [mean2 P hP, hc]
    rfl
  | 1 =>
    have hc : gcol 1 q = ⟨256 + (q : ℕ), by have := q.isLt; omega⟩ := Fin.ext (by simp [gcol])
    unfold dval
    rw [hc]
    pointwise [val_main_v51, val_main_v50]
    rw [mean4 P hP, hc]
    rfl
  | 2 =>
    have hc : gcol 2 q = ⟨512 + (q : ℕ), by have := q.isLt; omega⟩ := Fin.ext (by simp [gcol])
    unfold dval
    rw [hc]
    pointwise [val_main_v51, val_main_v50]
    refine congrArg₂ (· - ·) ((dif_neg (by omega)).trans ((dif_neg (by omega)).trans ((dif_pos (by omega)).trans ?_))) rfl
    refine (congrArg (fun c => val_main_v38 (F := Ideal) P (ix2 r c)) (Fin.ext (show 512 + (q : ℕ) - 256 - 256 = q by omega))).trans ?_
    rw [← hc]
    exact mean8 P hP r q
  | 3 =>
    have hc : gcol 3 q = ⟨768 + (q : ℕ), by have := q.isLt; omega⟩ := Fin.ext (by simp [gcol])
    unfold dval
    rw [hc]
    pointwise [val_main_v51, val_main_v50]
    refine congrArg₂ (· - ·) ((dif_neg (by omega)).trans ((dif_neg (by omega)).trans ((dif_neg (by omega)).trans (?_)))) rfl
    refine (congrArg (fun c => val_main_v49 (F := Ideal) P (ix2 r c)) (Fin.ext (show 768 + (q : ℕ) - 256 - 256 - 256 = q by omega))).trans ?_
    rw [← hc]
    exact mean16 P hP r q

include hP in
theorem ref_e (r : Fin 4096) (g : Fin 4) (q : Fin 256) : val_main_v58 (F := Ideal) P W (ix2 r (gcol g q)) = eval P W r g q := by
  have hg := g.isLt
  have hc : ∀ x : Fin 256, (⟨(g : ℕ) * 256 + (x : ℕ), by have := x.isLt; omega⟩ : Fin 1024) = gcol g x := fun x => Fin.ext (by simp [gcol, Nat.mul_comm])
  rw [show gcol g q = ⟨256 * (g : ℕ) + (q : ℕ), by have := q.isLt; omega⟩ from rfl]
  pointwise [val_main_v58, val_main_v57, val_main_v56, val_main_v55, val_main_v54, val_main_v53, val_main_v52]
  unfold eval
  refine Finset.sum_congr rfl fun k _ => (mul_comm _ _).trans ?_
  rw [hc, ref_d P hP]

theorem at_group (j : S4096x1024.Idx) : ∃ r g q, j = ix2 r (gcol g q) := by
  have h : (j 1).val < 1024 := (j 1).isLt
  refine ⟨j 0, ⟨(j 1).val / 256, by omega⟩, ⟨(j 1).val % 256, by omega⟩, (eq_ix2 j).trans (congrArg (ix2 _) (Fin.ext ?_))⟩
  show (j 1).val = 256 * ((j 1).val / 256) + (j 1).val % 256
  omega

include hP in
theorem eq4 : val_main_v59 (F := Ideal) P = byGroup (dval P) := by
  funext j
  obtain ⟨r, g, q, rfl⟩ := at_group j
  rw [byGroup_at]
  exact ref_d P hP r g q

include hP in
theorem eq5 : val_main_v58 (F := Ideal) P W = byGroup (eval P W) := by
  funext j
  obtain ⟨r, g, q, rfl⟩ := at_group j
  rw [byGroup_at]
  exact ref_e P W hP r g q

include hP in
theorem eq6 : val_main_v62 (F := Ideal) P W SC = byGroup (fun r g q => eval P W r g q * (SC (ix2 0 (gcol g q)) : EReal)) := by
  funext j
  obtain ⟨r, g, q, rfl⟩ := at_group j
  rw [byGroup_at]
  have e : val_main_v62 (F := Ideal) P W SC (ix2 r (gcol g q)) = val_main_v58 (F := Ideal) P W (ix2 r (gcol g q)) * (SC (ix2 0 (gcol g q)) : EReal) := by
    pointwise [val_main_v62, val_main_v61, val_main_v60, val_main_v59]
  rw [e, ref_e P W hP]

/-- What the precondition says of the first array. -/
theorem of_finite (h : Pre_finite11.fn (F := Ideal) P W SC = fun _ => 1#1) : ∀ r k, IsReal (P (ix2 r k)) := by
  have h0 := congrFun h (fun a => a.elim0)
  unfold Pre_finite11.fn at h0
  haveI : Subsingleton Pre_finite11.S_.Idx := ⟨fun a b => funext fun x => x.elim0⟩
  exact fun r k => real_of_olt _ (Host.reduce_andi_all _ _ _ _ _ h0 (ix2 r k))

end Cert.Reference11Ideal.OddCore

end
-- ==== Proof.OddCoreClaim.lean ====
module

public import proofs.«01_k».proof.Defs
public import proofs.«01_k».proof.Proof.OddCoreRef
public import proofs.«01_k».proof.Proof.Gen.Kernel11.Frame
public import proofs.«01_k».proof.Proof.Gen.Kernel11Ideal.Value
public import proofs.«01_k».proof.Proof.Gen.Reference11Ideal.Run
public import Idealize.ShloMosaic.Lib.Quiescent

@[expose] public section

set_option maxRecDepth 16384

noncomputable section

open Idealize.ShloMosaic Idealize.ShloMosaic.TcCoe Idealize.SL.Sem

open Cert.Kernel11Ideal (main_arg0 main_arg1 main_arg2)

namespace Cert.Proof.OddCore

/-- The reference runs on the host alone: it has no semaphores, and it leaves its arguments as they were. -/
theorem quiescent_ref : quiescent_Reference11Ideal := fun m g _ =>
  (θ_run _ _ _).mono (fun r h => ⟨fun c => (h c).2.2.2, sem_eq_zero_of_no_sems (by decide) r.2⟩)
    (Reference11Ideal.Value.run (F := Ideal) m g)

/-- The odd layers' mixer: the pooled differences, their mixing product and the scaled product. -/
theorem algebraic : algebraic_Kernel11Ideal_Reference11Ideal_pre_finite11 := by
  intro m g m' g' hpre hagree
  refine ⟨fun c => Kernel11Ideal.OddCore.G4 (m (c.tc.loc main_arg0)), fun c => Kernel11Ideal.OddCore.G5 (m (c.tc.loc main_arg0)) (m (c.tc.loc main_arg1)), fun c => Kernel11Ideal.OddCore.G6 (m (c.tc.loc main_arg0)) (m (c.tc.loc main_arg1)) (m (c.tc.loc main_arg2)),
    (θ_run _ _ _).mono (fun r h c => ?_) (Kernel11Ideal.Value.run_blocks m g),
    (θ_run _ _ _).mono (fun r h c => ⟨(h c).1.trans ?_, (h c).2.1.trans ?_, (h c).2.2.1.trans ?_, (h c).2.2.2⟩) (Reference11Ideal.Value.run (F := Ideal) m' g')⟩
  · exact ⟨(h c).1.trans (Kernel11Ideal.OddCore.total4 m c), (h c).2.1.trans (Kernel11Ideal.OddCore.total5 m c), (h c).2.2.1.trans (Kernel11Ideal.OddCore.total6 m c), (h c).2.2.2⟩
  · obtain ⟨e0, e1, e2⟩ := hagree c
    refine (Reference11Ideal.Read.val_main_v59_eq _ _).trans ?_
    rw [e0]
    exact Reference11Ideal.OddCore.eq4 _ (Reference11Ideal.OddCore.of_finite _ _ _ (hpre c))
  · obtain ⟨e0, e1, e2⟩ := hagree c
    refine (Reference11Ideal.Read.val_main_v58_eq _ _).trans ?_
    rw [e0, e1]
    exact Reference11Ideal.OddCore.eq5 _ _ (Reference11Ideal.OddCore.of_finite _ _ _ (hpre c))
  · obtain ⟨e0, e1, e2⟩ := hagree c
    refine (Reference11Ideal.Read.val_main_v62_eq _ _).trans ?_
    rw [e0, e1, e2]
    exact Reference11Ideal.OddCore.eq6 _ _ _ (Reference11Ideal.OddCore.of_finite _ _ _ (hpre c))

end Cert.Proof.OddCore

end
-- ==== Proof.OddBwd.lean ====
module

public import proofs.«01_k».proof.Proof.Gen.Kernel12Ideal.Value
public import Idealize.ShloMosaic.Lib.Pipeline.ValueKit
public import Idealize.ShloMosaic.Lib.Pointwise
public import proofs.«01_k».proof.Proof.Cumsum
public import proofs.«01_k».proof.Proof.Sums

@[expose] public section

set_option maxRecDepth 16384

noncomputable section

open Idealize.ShloMosaic Idealize.ShloMosaic.TcCoe Idealize.SL.Sem

namespace Cert.Kernel12Ideal.OddBwd

open Cert.Kernel12Ideal Cert.Kernel12Ideal.Gen

variable (m : (ℓ : Loc nD τ sig) → Buf (Elt Ideal) ℓ)

theorem idx : ∀ t : Fin cfg0.N, win0_0.index t = ![t.val, 0] ∧ win0_1.index t = ![min (16 * t.val + 16) 127, 0] ∧ win0_2.index t = ![t.val, 0]
    ∧ win0_3.index t = ![t.val, 0] ∧ win0_4.index t = ![1, 0, 0] ∧ win0_5.index t = ![0, 0] ∧ win0_6.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blk0 (c : Dev nD) (t : Fin cfg0.N) (p : Fin 512) (k : Fin 1024) :
    iblk m c 0 t (ix2 p k) = (m (c.tc.loc main_arg3) : FVec Ideal S4096x1024 .f32) (ix2 (rowOf t p) k) := by
  unfold rowOf; unfold iblk; rw [show V m c (Pipeline.arrRef spec0 0) = _ from V_main_arg3 m c]; blk_point [idx t]

theorem blk1 (c : Dev nD) (t : Fin cfg0.N) (ht : (t : ℕ) < 7) (p : Fin 32) (k : Fin 1024) :
    iblk m c 1 t (ix2 p k) = (m (c.tc.loc main_arg3) : FVec Ideal S4096x1024 .f32) (ix2 ⟨512 * (t : ℕ) + 512 + (p : ℕ), by omega⟩ k) := by
  have hm : min (16 * t.val + 16) 127 = 16 * t.val + 16 := by omega
  have hi : win0_1.index t = ![16 * t.val + 16, 0] := by rw [(idx t).2.1, hm]
  unfold iblk; rw [show V m c (Pipeline.arrRef spec0 1) = _ from V_main_arg3 m c]
  blk_point [hi]

theorem blk3 (c : Dev nD) (t : Fin cfg0.N) (p : Fin 512) (k : Fin 1024) :
    iblk m c 3 t (ix2 p k) = (m (c.tc.loc main_arg0) : FVec Ideal S4096x1024 .bf16) (ix2 (rowOf t p) k) := by
  unfold rowOf; unfold iblk; rw [show V m c (Pipeline.arrRef spec0 3) = _ from V_main_arg0 m c]; blk_point [idx t]

theorem split_read (v : S2x4x256x256.Idx → EReal) (h : S2x4x256x256.ShapeCasts S8x256x256) (j : S8x256x256.Idx) :
    shapeCast S8x256x256 v h j = v (ix4 ⟨(j 0).val / 4, by have : (j 0).val < 8 := (j 0).isLt; omega⟩ ⟨(j 0).val % 4, by omega⟩ (j 1) (j 2)) := by
  pointwise

theorem blk4 (c : Dev nD) (t : Fin cfg0.N) (g : Fin 4) (a b : Fin 256) :
    iblk m c 4 t (ix3 g a b) = (m (c.tc.loc main_arg1) : FVec Ideal S2x4x256x256 .bf16) (ix4 1 g a b) := by
  have e : (V m c main_v8 : S8x256x256.Idx → EReal) = shapeCast S8x256x256 (m (c.tc.loc main_arg1) : FVec Ideal S2x4x256x256 .bf16) shapeCasts_S2x4x256x256_S8x256x256 := by
    unfold V; after_results; rfl
  have hx : ((cfg0.win 4).blk t).view.emb (ix3 g a b) = ix3 ⟨4 + (g : ℕ), by have := g.isLt; omega⟩ a b := by blk_ext [idx t]
  show (V m c main_v8 : S8x256x256.Idx → EReal) (((cfg0.win 4).blk t).view.emb (ix3 g a b)) = _
  rw [e, hx]
  have hg := g.isLt
  rw [split_read]
  have h0 : (⟨(4 + (g : ℕ)) / 4, by omega⟩ : Fin 2) = 1 := Fin.ext (by simp only; omega)
  have h1 : (⟨(4 + (g : ℕ)) % 4, by omega⟩ : Fin 4) = g := Fin.ext (by simp only; omega)
  show (m (c.tc.loc main_arg1) : FVec Ideal S2x4x256x256 .bf16) (ix4 ⟨(4 + (g : ℕ)) / 4, _⟩ ⟨(4 + (g : ℕ)) % 4, _⟩ a b) = _
  rw [h0, h1]

theorem blk5 (c : Dev nD) (t : Fin cfg0.N) (q : Fin 1024) :
    iblk m c 5 t (ix2 0 q) = (m (c.tc.loc main_arg2) : FVec Ideal S1x1024 .f32) (ix2 0 q) := by
  unfold iblk; rw [show V m c (Pipeline.arrRef spec0 5) = _ from V_main_arg2 m c]; blk_point [idx t]

/-- The call's inputs: the incoming gradient, the group weights, the scale. -/
abbrev aX (c : Dev nD) : FVec Ideal S4096x1024 .f32 := m (c.tc.loc main_arg3)
@[inherit_doc aX] abbrev aW (c : Dev nD) : FVec Ideal S2x4x256x256 .bf16 := m (c.tc.loc main_arg1)
@[inherit_doc aX] abbrev aS (c : Dev nD) : FVec Ideal S1x1024 .f32 := m (c.tc.loc main_arg2)

/-- The pooling windows of the four column groups. -/
def win (g : Fin 4) : ℕ := ![2, 4, 8, 16] g

/-- Column `q` of group `g`. -/
def gcol (g : Fin 4) (q : Fin 256) : Fin 1024 := ⟨256 * (g : ℕ) + (q : ℕ), by have := g.isLt; have := q.isLt; omega⟩

/-- How many rows the window of width `w` that ends in row `r` holds. -/
def cnt (r w : ℕ) : EReal := FloatOps.sitofp (F := Ideal) FTy.f32 (IntOp.minsi (BitVec.ofNat 32 (r + 1)) (BitVec.ofNat 32 w))

/-- The gradient of the group's pooled differences. -/
def dd (X : FVec Ideal S4096x1024 .f32) (W : FVec Ideal S2x4x256x256 .bf16) (SC : FVec Ideal S1x1024 .f32) (r : Fin 4096) (g : Fin 4) (q : Fin 256) : EReal :=
  ∑ k : Fin 256, (X (ix2 r (gcol g k)) * SC (ix2 0 (gcol g k)) : EReal) * (W (ix4 1 g q k) : EReal)

/-- That gradient over its window's count, as a sequence that is zero after the last row. -/
def quot (X : FVec Ideal S4096x1024 .f32) (W : FVec Ideal S2x4x256x256 .bf16) (SC : FVec Ideal S1x1024 .f32) (g : Fin 4) (q : Fin 256) (i : ℕ) : EReal :=
  if h : i < 4096 then Ideal.div (dd X W SC ⟨i, h⟩ g q) (cnt i (win g)) else 0

/-- The gradient of the array before pooling. -/
def dpv (X : FVec Ideal S4096x1024 .f32) (W : FVec Ideal S2x4x256x256 .bf16) (SC : FVec Ideal S1x1024 .f32) (r : Fin 4096) (g : Fin 4) (q : Fin 256) : EReal :=
  (∑ k ∈ Finset.range (win g), quot X W SC g q (r + k)) - dd X W SC r g q

/-- The array whose column `256 * g + q` is column `q` of group `g`. -/
def byGroup (f : Fin 4096 → Fin 4 → Fin 256 → EReal) : S4096x1024.Idx → EReal :=
  fun j => f (j 0) ⟨(j 1).val / 256, by have : (j 1).val < 1024 := (j 1).isLt; omega⟩ ⟨(j 1).val % 256, by omega⟩

theorem byGroup_at (f : Fin 4096 → Fin 4 → Fin 256 → EReal) (r : Fin 4096) (g : Fin 4) (q : Fin 256) :
    byGroup f (ix2 r (gcol g q)) = f r g q := by
  have hg : (⟨(gcol g q).val / 256, by have := (gcol g q).isLt; omega⟩ : Fin 4) = g := Fin.ext (by unfold gcol; simp only; omega)
  have hq : (⟨(gcol g q).val % 256, by omega⟩ : Fin 256) = q := Fin.ext (by unfold gcol; simp only; omega)
  show f r ⟨(gcol g q).val / 256, _⟩ ⟨(gcol g q).val % 256, _⟩ = _
  rw [hg, hq]

theorem cnt_real (r w : ℕ) (hr : r < 8192) (hw : 0 < w) (hw' : w ≤ 16) : ∃ y : ℝ, y ≠ 0 ∧ cnt r w = (y : EReal) := by
  have hi : ∀ n : ℕ, n ≤ 8192 → (BitVec.ofNat 32 n).toInt = (n : ℤ) := fun n hn => by
    rw [BitVec.toInt_eq_toNat_cond, BitVec.toNat_ofNat]
    omega
  refine ⟨(((IntOp.minsi (BitVec.ofNat 32 (r + 1)) (BitVec.ofNat 32 w)).toInt : ℤ) : ℝ), Int.cast_ne_zero.2 ?_, rfl⟩
  unfold IntOp.minsi
  split
  · rw [hi _ (by omega)]; omega
  · rw [hi _ (by omega)]; omega

theorem div_zero_coe (y : ℝ) (h : y ≠ 0) : Ideal.div (0 : EReal) (y : EReal) = 0 := by
  unfold Ideal.div
  rw [if_neg (by simpa using h), zero_mul]

theorem count_eq (t : Fin cfg0.N) (p : Fin 512) :
    IntOp.addi (IntOp.addi (Scalar.addi (Scalar.muli (BitVec.ofNat 32 ((grid0.coords t) 0).val) 512#32) 0#32) (BitVec.ofNat 32 (p : ℕ))) 1#32
      = BitVec.ofNat 32 ((rowOf t p : ℕ) + 1) := by
  rw [(by decide +kernel : ∀ t : Fin grid0.N, ((grid0.coords t) 0).val = t.val) t]
  show ((BitVec.ofNat 32 (t : ℕ) * 512#32 + 0#32) + BitVec.ofNat 32 (p : ℕ)) + 1#32 = BitVec.ofNat 32 (512 * (t : ℕ) + (p : ℕ) + 1)
  simp [BitVec.ofNat_add, BitVec.ofNat_mul, mul_comm]

theorem count_eq' (t : Fin cfg0.N) (p : Fin 32) :
    IntOp.addi (IntOp.addi (Scalar.addi (Scalar.muli (BitVec.ofNat 32 ((grid0.coords t) 0).val) 512#32) 512#32) (BitVec.ofNat 32 (p : ℕ))) 1#32
      = BitVec.ofNat 32 (512 * (t : ℕ) + 512 + (p : ℕ) + 1) := by
  rw [(by decide +kernel : ∀ t : Fin grid0.N, ((grid0.coords t) 0).val = t.val) t]
  show ((BitVec.ofNat 32 (t : ℕ) * 512#32 + 512#32) + BitVec.ofNat 32 (p : ℕ)) + 1#32 = _
  simp [BitVec.ofNat_add, BitVec.ofNat_mul, mul_comm]

theorem last (t : Fin cfg0.N) : Scalar.cmpi CmpIPredicate.slt (BitVec.ofNat 32 ((grid0.coords t) 0).val) 7#32
    = if (t : ℕ) < 7 then 1#1 else 0#1 :=
  (by decide +kernel : ∀ t : Fin grid0.N, Scalar.cmpi CmpIPredicate.slt (BitVec.ofNat 32 ((grid0.coords t) 0).val) 7#32
    = if (t : ℕ) < 7 then 1#1 else 0#1) t

theorem sel_lt (c : Dev nD) (t : Fin cfg0.N) (ht : (t : ℕ) < 7) :
    Scalar.select (Scalar.cmpi CmpIPredicate.slt (BitVec.ofNat 32 ((grid0.coords t) 0).val) 7#32) (iblk m c 1 t) (broadcast S32x1024 (0 : EReal)) = iblk m c 1 t := by
  rw [last, if_pos ht]
  rfl

theorem sel_last (c : Dev nD) (t : Fin cfg0.N) (ht : ¬(t : ℕ) < 7) :
    Scalar.select (Scalar.cmpi CmpIPredicate.slt (BitVec.ofNat 32 ((grid0.coords t) 0).val) 7#32) (iblk m c 1 t) (broadcast S32x1024 (0 : EReal)) = broadcast S32x1024 (0 : EReal) := by
  rw [last, if_neg ht]
  rfl

/-- What the scratch array holds: the tile's quotients over the first rows of the next tile's. -/
def tall (X : FVec Ideal S4096x1024 .f32) (W : FVec Ideal S2x4x256x256 .bf16) (SC : FVec Ideal S1x1024 .f32) (t : ℕ) (y : S544x1024.Idx) : EReal :=
  quot X W SC ⟨(y 1).val / 256, by have : (y 1).val < 1024 := (y 1).isLt; omega⟩ ⟨(y 1).val % 256, by omega⟩ (512 * t + (y 0).val)

theorem tall_at (X : FVec Ideal S4096x1024 .f32) (W : FVec Ideal S2x4x256x256 .bf16) (SC : FVec Ideal S1x1024 .f32) (t : ℕ)
    (g : Fin 4) (b : Fin 256) (y : S544x1024.Idx) (h : (y 1).val = 256 * (g : ℕ) + (b : ℕ)) (i : ℕ) (h' : 512 * t + (y 0).val = i) :
    quot X W SC g b i = tall X W SC t y := by
  unfold tall
  have hb := b.isLt
  exact (congrFun (congr (congrArg (quot X W SC) (Fin.ext (show _ / 256 = (g : ℕ) by rw [h]; omega)))
    (Fin.ext (show _ % 256 = (b : ℕ) by rw [h]; omega))) _).trans (congrArg _ h') |>.symm

abbrev hi0 (c : Dev nD) (t : Fin cfg0.N) : FVec Ideal S32x256 .f32 :=
  divf (Ideal.matmul dot_S32x256_S256x256_S32x256_1_1_0_0_n_n
    (extractStridedSlice (s := S32x1024) S32x256 ![0, 0] (truncf FTy.bf16 (mulf (Scalar.select (Scalar.cmpi CmpIPredicate.slt (BitVec.ofNat 32 ((grid0.coords t) 0).val) 7#32) (iblk m c 1 t) (broadcast S32x1024 (0 : EReal))) (broadcastTo (s := S1x1024) S32x1024 (iblk m c 5 t) broadcasts_S1x1024_S32x1024)) bitsLt_bf16_f32 : FVec Ideal S32x1024 .bf16) slices_S32x1024_o0_0_S32x256)
    (shapeCast (s := S1x256x256) S256x256 (View.ld (iblk m c 4 t) (Rect.unit ![0, 0, 0] ![1, 256, 256] inb_S4x256x256_S1x256x256_0_0_0)) shapeCasts_S1x256x256_S256x256)
    (constant (F := Ideal) S32x256 FTy.f32 0#32))
  (sitofp FTy.f32 (minsi (addi (addi (broadcast S32x256 (Scalar.addi (Scalar.muli (BitVec.ofNat 32 ((grid0.coords t) 0).val) 512#32) 512#32)) (iota Kind.tc S32x256 32 [0] iota_S32x256_d0_w32)) (broadcast S32x256 1#32)) (broadcast S32x256 2#32)))

abbrev lo0 (c : Dev nD) (t : Fin cfg0.N) : FVec Ideal S512x256 .f32 :=
  divf (Ideal.matmul dot_S512x256_S256x256_S512x256_1_1_0_0_n_n
    (extractStridedSlice (s := S512x1024) S512x256 ![0, 0] (truncf FTy.bf16 (mulf (iblk m c 0 t) (broadcastTo (s := S1x1024) S512x1024 (iblk m c 5 t) broadcasts_S1x1024_S512x1024)) bitsLt_bf16_f32 : FVec Ideal S512x1024 .bf16) slices_S512x1024_o0_0_S512x256)
    (shapeCast (s := S1x256x256) S256x256 (View.ld (iblk m c 4 t) (Rect.unit ![0, 0, 0] ![1, 256, 256] inb_S4x256x256_S1x256x256_0_0_0)) shapeCasts_S1x256x256_S256x256)
    (constant (F := Ideal) S512x256 FTy.f32 0#32))
  (sitofp FTy.f32 (minsi (addi (addi (broadcast S512x256 (Scalar.addi (Scalar.muli (BitVec.ofNat 32 ((grid0.coords t) 0).val) 512#32) 0#32)) (iota Kind.tc S512x256 32 [0] iota_S512x256_d0_w32)) (broadcast S512x256 1#32)) (broadcast S512x256 2#32)))

/-- What the scratch array holds once group 0 is stored. -/
abbrev pcs0 (c : Dev nD) (t : Fin cfg0.N) : List (View.Piece (Elt Ideal) S544x1024 .f32) :=
  ⟨Rect.unit ![512, 0] ![32, 256] inb_S544x1024_S32x256_512_0, hi0 m c t⟩
    :: ⟨Rect.unit ![0, 0] ![512, 256] inb_S544x1024_S512x256_0_0, lo0 m c t⟩ :: []

theorem lo0_at (c : Dev nD) (t : Fin cfg0.N) (p : Fin 512) (q : Fin 256) :
    lo0 m c t (ix2 p q) = quot (aX m c) (aW m c) (aS m c) 0 q (rowOf t p) := by
  have hc : ∀ k : Fin 256, (⟨(k : ℕ), by have := k.isLt; omega⟩ : Fin 1024) = gcol 0 k := fun k => Fin.ext (by simp [gcol])
  unfold lo0
  pointwise
  unfold quot
  rw [dif_pos (rowOf t p).isLt, count_eq]
  refine congrArg₂ Ideal.div (Finset.sum_congr rfl fun k _ => ?_) rfl
  rw [blk0, blk4, blk5, hc]

theorem hi0_at (c : Dev nD) (t : Fin cfg0.N) (p : Fin 32) (q : Fin 256) :
    hi0 m c t (ix2 p q) = quot (aX m c) (aW m c) (aS m c) 0 q (512 * (t : ℕ) + 512 + (p : ℕ)) := by
  have hN : (t : ℕ) < 8 := t.isLt
  have hp := p.isLt
  have hc : ∀ k : Fin 256, (⟨(k : ℕ), by have := k.isLt; omega⟩ : Fin 1024) = gcol 0 k := fun k => Fin.ext (by simp [gcol])
  by_cases ht : (t : ℕ) < 7
  · unfold hi0
    rw [sel_lt m c t ht]
    pointwise
    unfold quot
    rw [count_eq', dif_pos (by omega)]
    refine congrArg₂ Ideal.div (Finset.sum_congr rfl fun k _ => ?_) rfl
    rw [blk1 m c t ht, blk4, blk5, hc]
  · unfold hi0
    rw [sel_last m c t ht]
    pointwise
    unfold quot
    rw [count_eq', dif_neg (by omega)]
    obtain ⟨y, hy, e⟩ := cnt_real (512 * (t : ℕ) + 512 + (p : ℕ)) 2 (by omega) (by omega) (by omega)
    refine (congrArg₂ Ideal.div (Finset.sum_eq_zero fun k _ => ?_) e).trans (div_zero_coe y hy)
    rw [zero_mul, zero_mul]

theorem good0 (c : Dev nD) (t : Fin cfg0.N) (pc : View.Piece (Elt Ideal) S544x1024 .f32) (h : pc ∈ pcs0 m c t) (x : pc.1.shape.Idx) :
    pc.2 x = tall (aX m c) (aW m c) (aS m c) t (pc.1.emb x) := by
  rcases List.mem_cons.1 h with rfl | h
  · obtain ⟨a, b, rfl⟩ : ∃ (a : Fin 32) (b : Fin 256), x = ix2 a b := ⟨x 0, x 1, eq_ix2 x⟩
    exact (hi0_at m c t a b).trans (tall_at _ _ _ _ 0 b _ (show 0 + 1 * (b : ℕ) = _ by simp) _ (show 512 * (t : ℕ) + (512 + 1 * (a : ℕ)) = _ by omega))
  rcases List.mem_cons.1 h with rfl | h
  · obtain ⟨a, b, rfl⟩ : ∃ (a : Fin 512) (b : Fin 256), x = ix2 a b := ⟨x 0, x 1, eq_ix2 x⟩
    exact (lo0_at m c t a b).trans (tall_at _ _ _ _ 0 b _ (show 0 + 1 * (b : ℕ) = _ by simp) _ (show 512 * (t : ℕ) + (0 + 1 * (a : ℕ)) = _ by unfold rowOf; simp only; omega))
  · exact absurd h List.not_mem_nil

theorem read0 (c : Dev nD) (t : Fin cfg0.N) (o : ℕ) (hb : ∀ a, (![o, 0] : Fin 2 → ℕ) a + (![512, 256] : Fin 2 → ℕ) a ≤ S544x1024.size a)
    (p : Fin 512) (q : Fin 256) :
    (View.whole cc0_scratch0).readCov (Val := Elt Ideal) (pcs0 m c t) (Rect.unit (s := S544x1024) ![o, 0] ![512, 256] hb).toLoadRect (ix2 p q : S512x256.Idx)
      = quot (aX m c) (aW m c) (aS m c) 0 q ((rowOf t p : ℕ) + o) := by
  have ho : o + 512 ≤ 544 := hb 0
  rw [View.readCov_eq_canon']
  refine (View.canon_apply_of_pieces (tall (aX m c) (aW m c) (aS m c) t) _ (good0 m c t) _ ?_).trans
    (tall_at _ _ _ _ 0 q _ (show 0 + 1 * (q : ℕ) = _ by simp) _ (show 512 * (t : ℕ) + (o + 1 * (p : ℕ)) = _ by unfold rowOf; simp only; omega)).symm
  by_cases hr : 512 ≤ o + (p : ℕ)
  · refine ⟨_, List.mem_cons_self, (Rect.mem_set_unit (inb := inb_S544x1024_S32x256_512_0)).2 fun a => ?_⟩
    match a with
    | 0 => show 512 ≤ o + 1 * (p : ℕ) ∧ o + 1 * (p : ℕ) < 512 + 32; omega
    | 1 => show 0 ≤ 0 + 1 * (q : ℕ) ∧ 0 + 1 * (q : ℕ) < 0 + 256; omega
  · refine ⟨_, List.mem_cons_of_mem _ List.mem_cons_self, (Rect.mem_set_unit (inb := inb_S544x1024_S512x256_0_0)).2 fun a => ?_⟩
    match a with
    | 0 => show 0 ≤ o + 1 * (p : ℕ) ∧ o + 1 * (p : ℕ) < 0 + 512; omega
    | 1 => show 0 ≤ 0 + 1 * (q : ℕ) ∧ 0 + 1 * (q : ℕ) < 0 + 256; omega

abbrev hi1 (c : Dev nD) (t : Fin cfg0.N) : FVec Ideal S32x256 .f32 :=
  divf (Ideal.matmul dot_S32x256_S256x256_S32x256_1_1_0_0_n_n
    (extractStridedSlice (s := S32x1024) S32x256 ![0, 256] (truncf FTy.bf16 (mulf (Scalar.select (Scalar.cmpi CmpIPredicate.slt (BitVec.ofNat 32 ((grid0.coords t) 0).val) 7#32) (iblk m c 1 t) (broadcast S32x1024 (0 : EReal))) (broadcastTo (s := S1x1024) S32x1024 (iblk m c 5 t) broadcasts_S1x1024_S32x1024)) bitsLt_bf16_f32 : FVec Ideal S32x1024 .bf16) slices_S32x1024_o0_256_S32x256)
    (shapeCast (s := S1x256x256) S256x256 (View.ld (iblk m c 4 t) (Rect.unit ![1, 0, 0] ![1, 256, 256] inb_S4x256x256_S1x256x256_1_0_0)) shapeCasts_S1x256x256_S256x256)
    (constant (F := Ideal) S32x256 FTy.f32 0#32))
  (sitofp FTy.f32 (minsi (addi (addi (broadcast S32x256 (Scalar.addi (Scalar.muli (BitVec.ofNat 32 ((grid0.coords t) 0).val) 512#32) 512#32)) (iota Kind.tc S32x256 32 [0] iota_S32x256_d0_w32)) (broadcast S32x256 1#32)) (broadcast S32x256 4#32)))

abbrev lo1 (c : Dev nD) (t : Fin cfg0.N) : FVec Ideal S512x256 .f32 :=
  divf (Ideal.matmul dot_S512x256_S256x256_S512x256_1_1_0_0_n_n
    (extractStridedSlice (s := S512x1024) S512x256 ![0, 256] (truncf FTy.bf16 (mulf (iblk m c 0 t) (broadcastTo (s := S1x1024) S512x1024 (iblk m c 5 t) broadcasts_S1x1024_S512x1024)) bitsLt_bf16_f32 : FVec Ideal S512x1024 .bf16) slices_S512x1024_o0_256_S512x256)
    (shapeCast (s := S1x256x256) S256x256 (View.ld (iblk m c 4 t) (Rect.unit ![1, 0, 0] ![1, 256, 256] inb_S4x256x256_S1x256x256_1_0_0)) shapeCasts_S1x256x256_S256x256)
    (constant (F := Ideal) S512x256 FTy.f32 0#32))
  (sitofp FTy.f32 (minsi (addi (addi (broadcast S512x256 (Scalar.addi (Scalar.muli (BitVec.ofNat 32 ((grid0.coords t) 0).val) 512#32) 0#32)) (iota Kind.tc S512x256 32 [0] iota_S512x256_d0_w32)) (broadcast S512x256 1#32)) (broadcast S512x256 4#32)))

/-- What the scratch array holds once group 1 is stored. -/
abbrev pcs1 (c : Dev nD) (t : Fin cfg0.N) : List (View.Piece (Elt Ideal) S544x1024 .f32) :=
  ⟨Rect.unit ![512, 256] ![32, 256] inb_S544x1024_S32x256_512_256, hi1 m c t⟩
    :: ⟨Rect.unit ![0, 256] ![512, 256] inb_S544x1024_S512x256_0_256, lo1 m c t⟩ :: pcs0 m c t

theorem lo1_at (c : Dev nD) (t : Fin cfg0.N) (p : Fin 512) (q : Fin 256) :
    lo1 m c t (ix2 p q) = quot (aX m c) (aW m c) (aS m c) 1 q (rowOf t p) := by
  have hc : ∀ k : Fin 256, (⟨256 + (k : ℕ), by have := k.isLt; omega⟩ : Fin 1024) = gcol 1 k := fun k => Fin.ext (by simp [gcol])
  unfold lo1
  pointwise
  unfold quot
  rw [dif_pos (rowOf t p).isLt, count_eq]
  refine congrArg₂ Ideal.div (Finset.sum_congr rfl fun k _ => ?_) rfl
  rw [blk0, blk4, blk5, hc]

theorem hi1_at (c : Dev nD) (t : Fin cfg0.N) (p : Fin 32) (q : Fin 256) :
    hi1 m c t (ix2 p q) = quot (aX m c) (aW m c) (aS m c) 1 q (512 * (t : ℕ) + 512 + (p : ℕ)) := by
  have hN : (t : ℕ) < 8 := t.isLt
  have hp := p.isLt
  have hc : ∀ k : Fin 256, (⟨256 + (k : ℕ), by have := k.isLt; omega⟩ : Fin 1024) = gcol 1 k := fun k => Fin.ext (by simp [gcol])
  by_cases ht : (t : ℕ) < 7
  · unfold hi1
    rw [sel_lt m c t ht]
    pointwise
    unfold quot
    rw [count_eq', dif_pos (by omega)]
    refine congrArg₂ Ideal.div (Finset.sum_congr rfl fun k _ => ?_) rfl
    rw [blk1 m c t ht, blk4, blk5, hc]
  · unfold hi1
    rw [sel_last m c t ht]
    pointwise
    unfold quot
    rw [count_eq', dif_neg (by omega)]
    obtain ⟨y, hy, e⟩ := cnt_real (512 * (t : ℕ) + 512 + (p : ℕ)) 4 (by omega) (by omega) (by omega)
    refine (congrArg₂ Ideal.div (Finset.sum_eq_zero fun k _ => ?_) e).trans (div_zero_coe y hy)
    rw [zero_mul, zero_mul]

theorem good1 (c : Dev nD) (t : Fin cfg0.N) (pc : View.Piece (Elt Ideal) S544x1024 .f32) (h : pc ∈ pcs1 m c t) (x : pc.1.shape.Idx) :
    pc.2 x = tall (aX m c) (aW m c) (aS m c) t (pc.1.emb x) := by
  rcases List.mem_cons.1 h with rfl | h
  · obtain ⟨a, b, rfl⟩ : ∃ (a : Fin 32) (b : Fin 256), x = ix2 a b := ⟨x 0, x 1, eq_ix2 x⟩
    exact (hi1_at m c t a b).trans (tall_at _ _ _ _ 1 b _ (show 256 + 1 * (b : ℕ) = _ by simp) _ (show 512 * (t : ℕ) + (512 + 1 * (a : ℕ)) = _ by omega))
  rcases List.mem_cons.1 h with rfl | h
  · obtain ⟨a, b, rfl⟩ : ∃ (a : Fin 512) (b : Fin 256), x = ix2 a b := ⟨x 0, x 1, eq_ix2 x⟩
    exact (lo1_at m c t a b).trans (tall_at _ _ _ _ 1 b _ (show 256 + 1 * (b : ℕ) = _ by simp) _ (show 512 * (t : ℕ) + (0 + 1 * (a : ℕ)) = _ by unfold rowOf; simp only; omega))
  · exact good0 m c t pc h x

theorem read1 (c : Dev nD) (t : Fin cfg0.N) (o : ℕ) (hb : ∀ a, (![o, 256] : Fin 2 → ℕ) a + (![512, 256] : Fin 2 → ℕ) a ≤ S544x1024.size a)
    (p : Fin 512) (q : Fin 256) :
    (View.whole cc0_scratch0).readCov (Val := Elt Ideal) (pcs1 m c t) (Rect.unit (s := S544x1024) ![o, 256] ![512, 256] hb).toLoadRect (ix2 p q : S512x256.Idx)
      = quot (aX m c) (aW m c) (aS m c) 1 q ((rowOf t p : ℕ) + o) := by
  have ho : o + 512 ≤ 544 := hb 0
  rw [View.readCov_eq_canon']
  refine (View.canon_apply_of_pieces (tall (aX m c) (aW m c) (aS m c) t) _ (good1 m c t) _ ?_).trans
    (tall_at _ _ _ _ 1 q _ (show 256 + 1 * (q : ℕ) = _ by simp) _ (show 512 * (t : ℕ) + (o + 1 * (p : ℕ)) = _ by unfold rowOf; simp only; omega)).symm
  by_cases hr : 512 ≤ o + (p : ℕ)
  · refine ⟨_, List.mem_cons_self, (Rect.mem_set_unit (inb := inb_S544x1024_S32x256_512_256)).2 fun a => ?_⟩
    match a with
    | 0 => show 512 ≤ o + 1 * (p : ℕ) ∧ o + 1 * (p : ℕ) < 512 + 32; omega
    | 1 => show 256 ≤ 256 + 1 * (q : ℕ) ∧ 256 + 1 * (q : ℕ) < 256 + 256; omega
  · refine ⟨_, List.mem_cons_of_mem _ List.mem_cons_self, (Rect.mem_set_unit (inb := inb_S544x1024_S512x256_0_256)).2 fun a => ?_⟩
    match a with
    | 0 => show 0 ≤ o + 1 * (p : ℕ) ∧ o + 1 * (p : ℕ) < 0 + 512; omega
    | 1 => show 256 ≤ 256 + 1 * (q : ℕ) ∧ 256 + 1 * (q : ℕ) < 256 + 256; omega

abbrev hi2 (c : Dev nD) (t : Fin cfg0.N) : FVec Ideal S32x256 .f32 :=
  divf (Ideal.matmul dot_S32x256_S256x256_S32x256_1_1_0_0_n_n
    (extractStridedSlice (s := S32x1024) S32x256 ![0, 512] (truncf FTy.bf16 (mulf (Scalar.select (Scalar.cmpi CmpIPredicate.slt (BitVec.ofNat 32 ((grid0.coords t) 0).val) 7#32) (iblk m c 1 t) (broadcast S32x1024 (0 : EReal))) (broadcastTo (s := S1x1024) S32x1024 (iblk m c 5 t) broadcasts_S1x1024_S32x1024)) bitsLt_bf16_f32 : FVec Ideal S32x1024 .bf16) slices_S32x1024_o0_512_S32x256)
    (shapeCast (s := S1x256x256) S256x256 (View.ld (iblk m c 4 t) (Rect.unit ![2, 0, 0] ![1, 256, 256] inb_S4x256x256_S1x256x256_2_0_0)) shapeCasts_S1x256x256_S256x256)
    (constant (F := Ideal) S32x256 FTy.f32 0#32))
  (sitofp FTy.f32 (minsi (addi (addi (broadcast S32x256 (Scalar.addi (Scalar.muli (BitVec.ofNat 32 ((grid0.coords t) 0).val) 512#32) 512#32)) (iota Kind.tc S32x256 32 [0] iota_S32x256_d0_w32)) (broadcast S32x256 1#32)) (broadcast S32x256 8#32)))

abbrev lo2 (c : Dev nD) (t : Fin cfg0.N) : FVec Ideal S512x256 .f32 :=
  divf (Ideal.matmul dot_S512x256_S256x256_S512x256_1_1_0_0_n_n
    (extractStridedSlice (s := S512x1024) S512x256 ![0, 512] (truncf FTy.bf16 (mulf (iblk m c 0 t) (broadcastTo (s := S1x1024) S512x1024 (iblk m c 5 t) broadcasts_S1x1024_S512x1024)) bitsLt_bf16_f32 : FVec Ideal S512x1024 .bf16) slices_S512x1024_o0_512_S512x256)
    (shapeCast (s := S1x256x256) S256x256 (View.ld (iblk m c 4 t) (Rect.unit ![2, 0, 0] ![1, 256, 256] inb_S4x256x256_S1x256x256_2_0_0)) shapeCasts_S1x256x256_S256x256)
    (constant (F := Ideal) S512x256 FTy.f32 0#32))
  (sitofp FTy.f32 (minsi (addi (addi (broadcast S512x256 (Scalar.addi (Scalar.muli (BitVec.ofNat 32 ((grid0.coords t) 0).val) 512#32) 0#32)) (iota Kind.tc S512x256 32 [0] iota_S512x256_d0_w32)) (broadcast S512x256 1#32)) (broadcast S512x256 8#32)))

/-- What the scratch array holds once group 2 is stored. -/
abbrev pcs2 (c : Dev nD) (t : Fin cfg0.N) : List (View.Piece (Elt Ideal) S544x1024 .f32) :=
  ⟨Rect.unit ![512, 512] ![32, 256] inb_S544x1024_S32x256_512_512, hi2 m c t⟩
    :: ⟨Rect.unit ![0, 512] ![512, 256] inb_S544x1024_S512x256_0_512, lo2 m c t⟩ :: pcs1 m c t

theorem lo2_at (c : Dev nD) (t : Fin cfg0.N) (p : Fin 512) (q : Fin 256) :
    lo2 m c t (ix2 p q) = quot (aX m c) (aW m c) (aS m c) 2 q (rowOf t p) := by
  have hc : ∀ k : Fin 256, (⟨512 + (k : ℕ), by have := k.isLt; omega⟩ : Fin 1024) = gcol 2 k := fun k => Fin.ext (by simp [gcol])
  unfold lo2
  pointwise
  unfold quot
  rw [dif_pos (rowOf t p).isLt, count_eq]
  refine congrArg₂ Ideal.div (Finset.sum_congr rfl fun k _ => ?_) rfl
  rw [blk0, blk4, blk5, hc]

theorem hi2_at (c : Dev nD) (t : Fin cfg0.N) (p : Fin 32) (q : Fin 256) :
    hi2 m c t (ix2 p q) = quot (aX m c) (aW m c) (aS m c) 2 q (512 * (t : ℕ) + 512 + (p : ℕ)) := by
  have hN : (t : ℕ) < 8 := t.isLt
  have hp := p.isLt
  have hc : ∀ k : Fin 256, (⟨512 + (k : ℕ), by have := k.isLt; omega⟩ : Fin 1024) = gcol 2 k := fun k => Fin.ext (by simp [gcol])
  by_cases ht : (t : ℕ) < 7
  · unfold hi2
    rw [sel_lt m c t ht]
    pointwise
    unfold quot
    rw [count_eq', dif_pos (by omega)]
    refine congrArg₂ Ideal.div (Finset.sum_congr rfl fun k _ => ?_) rfl
    rw [blk1 m c t ht, blk4, blk5, hc]
  · unfold hi2
    rw [sel_last m c t ht]
    pointwise
    unfold quot
    rw [count_eq', dif_neg (by omega)]
    obtain ⟨y, hy, e⟩ := cnt_real (512 * (t : ℕ) + 512 + (p : ℕ)) 8 (by omega) (by omega) (by omega)
    refine (congrArg₂ Ideal.div (Finset.sum_eq_zero fun k _ => ?_) e).trans (div_zero_coe y hy)
    rw [zero_mul, zero_mul]

theorem good2 (c : Dev nD) (t : Fin cfg0.N) (pc : View.Piece (Elt Ideal) S544x1024 .f32) (h : pc ∈ pcs2 m c t) (x : pc.1.shape.Idx) :
    pc.2 x = tall (aX m c) (aW m c) (aS m c) t (pc.1.emb x) := by
  rcases List.mem_cons.1 h with rfl | h
  · obtain ⟨a, b, rfl⟩ : ∃ (a : Fin 32) (b : Fin 256), x = ix2 a b := ⟨x 0, x 1, eq_ix2 x⟩
    exact (hi2_at m c t a b).trans (tall_at _ _ _ _ 2 b _ (show 512 + 1 * (b : ℕ) = _ by simp) _ (show 512 * (t : ℕ) + (512 + 1 * (a : ℕ)) = _ by omega))
  rcases List.mem_cons.1 h with rfl | h
  · obtain ⟨a, b, rfl⟩ : ∃ (a : Fin 512) (b : Fin 256), x = ix2 a b := ⟨x 0, x 1, eq_ix2 x⟩
    exact (lo2_at m c t a b).trans (tall_at _ _ _ _ 2 b _ (show 512 + 1 * (b : ℕ) = _ by simp) _ (show 512 * (t : ℕ) + (0 + 1 * (a : ℕ)) = _ by unfold rowOf; simp only; omega))
  · exact good1 m c t pc h x

theorem read2 (c : Dev nD) (t : Fin cfg0.N) (o : ℕ) (hb : ∀ a, (![o, 512] : Fin 2 → ℕ) a + (![512, 256] : Fin 2 → ℕ) a ≤ S544x1024.size a)
    (p : Fin 512) (q : Fin 256) :
    (View.whole cc0_scratch0).readCov (Val := Elt Ideal) (pcs2 m c t) (Rect.unit (s := S544x1024) ![o, 512] ![512, 256] hb).toLoadRect (ix2 p q : S512x256.Idx)
      = quot (aX m c) (aW m c) (aS m c) 2 q ((rowOf t p : ℕ) + o) := by
  have ho : o + 512 ≤ 544 := hb 0
  rw [View.readCov_eq_canon']
  refine (View.canon_apply_of_pieces (tall (aX m c) (aW m c) (aS m c) t) _ (good2 m c t) _ ?_).trans
    (tall_at _ _ _ _ 2 q _ (show 512 + 1 * (q : ℕ) = _ by simp) _ (show 512 * (t : ℕ) + (o + 1 * (p : ℕ)) = _ by unfold rowOf; simp only; omega)).symm
  by_cases hr : 512 ≤ o + (p : ℕ)
  · refine ⟨_, List.mem_cons_self, (Rect.mem_set_unit (inb := inb_S544x1024_S32x256_512_512)).2 fun a => ?_⟩
    match a with
    | 0 => show 512 ≤ o + 1 * (p : ℕ) ∧ o + 1 * (p : ℕ) < 512 + 32; omega
    | 1 => show 512 ≤ 512 + 1 * (q : ℕ) ∧ 512 + 1 * (q : ℕ) < 512 + 256; omega
  · refine ⟨_, List.mem_cons_of_mem _ List.mem_cons_self, (Rect.mem_set_unit (inb := inb_S544x1024_S512x256_0_512)).2 fun a => ?_⟩
    match a with
    | 0 => show 0 ≤ o + 1 * (p : ℕ) ∧ o + 1 * (p : ℕ) < 0 + 512; omega
    | 1 => show 512 ≤ 512 + 1 * (q : ℕ) ∧ 512 + 1 * (q : ℕ) < 512 + 256; omega

abbrev hi3 (c : Dev nD) (t : Fin cfg0.N) : FVec Ideal S32x256 .f32 :=
  divf (Ideal.matmul dot_S32x256_S256x256_S32x256_1_1_0_0_n_n
    (extractStridedSlice (s := S32x1024) S32x256 ![0, 768] (truncf FTy.bf16 (mulf (Scalar.select (Scalar.cmpi CmpIPredicate.slt (BitVec.ofNat 32 ((grid0.coords t) 0).val) 7#32) (iblk m c 1 t) (broadcast S32x1024 (0 : EReal))) (broadcastTo (s := S1x1024) S32x1024 (iblk m c 5 t) broadcasts_S1x1024_S32x1024)) bitsLt_bf16_f32 : FVec Ideal S32x1024 .bf16) slices_S32x1024_o0_768_S32x256)
    (shapeCast (s := S1x256x256) S256x256 (View.ld (iblk m c 4 t) (Rect.unit ![3, 0, 0] ![1, 256, 256] inb_S4x256x256_S1x256x256_3_0_0)) shapeCasts_S1x256x256_S256x256)
    (constant (F := Ideal) S32x256 FTy.f32 0#32))
  (sitofp FTy.f32 (minsi (addi (addi (broadcast S32x256 (Scalar.addi (Scalar.muli (BitVec.ofNat 32 ((grid0.coords t) 0).val) 512#32) 512#32)) (iota Kind.tc S32x256 32 [0] iota_S32x256_d0_w32)) (broadcast S32x256 1#32)) (broadcast S32x256 16#32)))

abbrev lo3 (c : Dev nD) (t : Fin cfg0.N) : FVec Ideal S512x256 .f32 :=
  divf (Ideal.matmul dot_S512x256_S256x256_S512x256_1_1_0_0_n_n
    (extractStridedSlice (s := S512x1024) S512x256 ![0, 768] (truncf FTy.bf16 (mulf (iblk m c 0 t) (broadcastTo (s := S1x1024) S512x1024 (iblk m c 5 t) broadcasts_S1x1024_S512x1024)) bitsLt_bf16_f32 : FVec Ideal S512x1024 .bf16) slices_S512x1024_o0_768_S512x256)
    (shapeCast (s := S1x256x256) S256x256 (View.ld (iblk m c 4 t) (Rect.unit ![3, 0, 0] ![1, 256, 256] inb_S4x256x256_S1x256x256_3_0_0)) shapeCasts_S1x256x256_S256x256)
    (constant (F := Ideal) S512x256 FTy.f32 0#32))
  (sitofp FTy.f32 (minsi (addi (addi (broadcast S512x256 (Scalar.addi (Scalar.muli (BitVec.ofNat 32 ((grid0.coords t) 0).val) 512#32) 0#32)) (iota Kind.tc S512x256 32 [0] iota_S512x256_d0_w32)) (broadcast S512x256 1#32)) (broadcast S512x256 16#32)))

/-- What the scratch array holds once group 3 is stored. -/
abbrev pcs3 (c : Dev nD) (t : Fin cfg0.N) : List (View.Piece (Elt Ideal) S544x1024 .f32) :=
  ⟨Rect.unit ![512, 768] ![32, 256] inb_S544x1024_S32x256_512_768, hi3 m c t⟩
    :: ⟨Rect.unit ![0, 768] ![512, 256] inb_S544x1024_S512x256_0_768, lo3 m c t⟩ :: pcs2 m c t

theorem lo3_at (c : Dev nD) (t : Fin cfg0.N) (p : Fin 512) (q : Fin 256) :
    lo3 m c t (ix2 p q) = quot (aX m c) (aW m c) (aS m c) 3 q (rowOf t p) := by
  have hc : ∀ k : Fin 256, (⟨768 + (k : ℕ), by have := k.isLt; omega⟩ : Fin 1024) = gcol 3 k := fun k => Fin.ext (by simp [gcol])
  unfold lo3
  pointwise
  unfold quot
  rw [dif_pos (rowOf t p).isLt, count_eq]
  refine congrArg₂ Ideal.div (Finset.sum_congr rfl fun k _ => ?_) rfl
  rw [blk0, blk4, blk5, hc]

theorem hi3_at (c : Dev nD) (t : Fin cfg0.N) (p : Fin 32) (q : Fin 256) :
    hi3 m c t (ix2 p q) = quot (aX m c) (aW m c) (aS m c) 3 q (512 * (t : ℕ) + 512 + (p : ℕ)) := by
  have hN : (t : ℕ) < 8 := t.isLt
  have hp := p.isLt
  have hc : ∀ k : Fin 256, (⟨768 + (k : ℕ), by have := k.isLt; omega⟩ : Fin 1024) = gcol 3 k := fun k => Fin.ext (by simp [gcol])
  by_cases ht : (t : ℕ) < 7
  · unfold hi3
    rw [sel_lt m c t ht]
    pointwise
    unfold quot
    rw [count_eq', dif_pos (by omega)]
    refine congrArg₂ Ideal.div (Finset.sum_congr rfl fun k _ => ?_) rfl
    rw [blk1 m c t ht, blk4, blk5, hc]
  · unfold hi3
    rw [sel_last m c t ht]
    pointwise
    unfold quot
    rw [count_eq', dif_neg (by omega)]
    obtain ⟨y, hy, e⟩ := cnt_real (512 * (t : ℕ) + 512 + (p : ℕ)) 16 (by omega) (by omega) (by omega)
    refine (congrArg₂ Ideal.div (Finset.sum_eq_zero fun k _ => ?_) e).trans (div_zero_coe y hy)
    rw [zero_mul, zero_mul]

theorem good3 (c : Dev nD) (t : Fin cfg0.N) (pc : View.Piece (Elt Ideal) S544x1024 .f32) (h : pc ∈ pcs3 m c t) (x : pc.1.shape.Idx) :
    pc.2 x = tall (aX m c) (aW m c) (aS m c) t (pc.1.emb x) := by
  rcases List.mem_cons.1 h with rfl | h
  · obtain ⟨a, b, rfl⟩ : ∃ (a : Fin 32) (b : Fin 256), x = ix2 a b := ⟨x 0, x 1, eq_ix2 x⟩
    exact (hi3_at m c t a b).trans (tall_at _ _ _ _ 3 b _ (show 768 + 1 * (b : ℕ) = _ by simp) _ (show 512 * (t : ℕ) + (512 + 1 * (a : ℕ)) = _ by omega))
  rcases List.mem_cons.1 h with rfl | h
  · obtain ⟨a, b, rfl⟩ : ∃ (a : Fin 512) (b : Fin 256), x = ix2 a b := ⟨x 0, x 1, eq_ix2 x⟩
    exact (lo3_at m c t a b).trans (tall_at _ _ _ _ 3 b _ (show 768 + 1 * (b : ℕ) = _ by simp) _ (show 512 * (t : ℕ) + (0 + 1 * (a : ℕ)) = _ by unfold rowOf; simp only; omega))
  · exact good2 m c t pc h x

theorem read3 (c : Dev nD) (t : Fin cfg0.N) (o : ℕ) (hb : ∀ a, (![o, 768] : Fin 2 → ℕ) a + (![512, 256] : Fin 2 → ℕ) a ≤ S544x1024.size a)
    (p : Fin 512) (q : Fin 256) :
    (View.whole cc0_scratch0).readCov (Val := Elt Ideal) (pcs3 m c t) (Rect.unit (s := S544x1024) ![o, 768] ![512, 256] hb).toLoadRect (ix2 p q : S512x256.Idx)
      = quot (aX m c) (aW m c) (aS m c) 3 q ((rowOf t p : ℕ) + o) := by
  have ho : o + 512 ≤ 544 := hb 0
  rw [View.readCov_eq_canon']
  refine (View.canon_apply_of_pieces (tall (aX m c) (aW m c) (aS m c) t) _ (good3 m c t) _ ?_).trans
    (tall_at _ _ _ _ 3 q _ (show 768 + 1 * (q : ℕ) = _ by simp) _ (show 512 * (t : ℕ) + (o + 1 * (p : ℕ)) = _ by unfold rowOf; simp only; omega)).symm
  by_cases hr : 512 ≤ o + (p : ℕ)
  · refine ⟨_, List.mem_cons_self, (Rect.mem_set_unit (inb := inb_S544x1024_S32x256_512_768)).2 fun a => ?_⟩
    match a with
    | 0 => show 512 ≤ o + 1 * (p : ℕ) ∧ o + 1 * (p : ℕ) < 512 + 32; omega
    | 1 => show 768 ≤ 768 + 1 * (q : ℕ) ∧ 768 + 1 * (q : ℕ) < 768 + 256; omega
  · refine ⟨_, List.mem_cons_of_mem _ List.mem_cons_self, (Rect.mem_set_unit (inb := inb_S544x1024_S512x256_0_768)).2 fun a => ?_⟩
    match a with
    | 0 => show 0 ≤ o + 1 * (p : ℕ) ∧ o + 1 * (p : ℕ) < 0 + 512; omega
    | 1 => show 768 ≤ 768 + 1 * (q : ℕ) ∧ 768 + 1 * (q : ℕ) < 768 + 256; omega

set_option maxHeartbeats 0 in
theorem final6 (c : Dev nD) : (dats m 0 c).arrAt 6 cfg0.N = byGroup (dpv (aX m c) (aW m c) (aS m c)) := by
  refine (dats m 0 c).arrAt_eq_of_covers 6 _ (by decide +kernel) fun t _ y => ?_
  blk_simp
  rw [after0_6]
  have hN : (t : ℕ) < 8 := t.isLt
  by_cases h0 : t.val % 8 = 0
  case' pos => rw [outsAt0_A m c t h0 (by omega) h0 (by omega) h0 (by omega) h0 (by omega) h0 (by omega)]
  case' neg => rw [outsAt0_B m c t h0 (by omega) h0 (by omega) h0 (by omega) h0 (by omega) h0 (by omega)]
  all_goals
    frame_out
    canon_tiles x h
    · obtain ⟨p, q, rfl⟩ : ∃ (p : Fin 512) (q : Fin 256), x = ix2 p q := ⟨x 0, x 1, eq_ix2 x⟩
      simp only [ix2_0, ix2_1] at h0 h1
      open_payloads
      pointwise
      have e : ((View.whole main_v9_0).slice (win0_6.rect t)).emb y = ix2 (rowOf t p) (gcol 3 q) := by
        unfold rowOf gcol; blk_ext [idx t]
      have hc : ∀ k : Fin 256, (⟨768 + (k : ℕ), by have := k.isLt; omega⟩ : Fin 1024) = gcol 3 k := fun k => Fin.ext (by simp [gcol])
      rw [e, byGroup_at]
      unfold dpv
      simp only [show win 3 = 16 from rfl, Finset.sum_range_succ, Finset.sum_range_zero, zero_add]
      refine congrArg₂ (· - ·) ?_ (Finset.sum_congr rfl fun k _ => by rw [blk0, blk4, blk5, hc])
      exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (read3 m c t 0 _ p q) (read3 m c t 1 _ p q)) (read3 m c t 2 _ p q)) (read3 m c t 3 _ p q)) (read3 m c t 4 _ p q)) (read3 m c t 5 _ p q)) (read3 m c t 6 _ p q)) (read3 m c t 7 _ p q)) (read3 m c t 8 _ p q)) (read3 m c t 9 _ p q)) (read3 m c t 10 _ p q)) (read3 m c t 11 _ p q)) (read3 m c t 12 _ p q)) (read3 m c t 13 _ p q)) (read3 m c t 14 _ p q)) (read3 m c t 15 _ p q))
    · obtain ⟨p, q, rfl⟩ : ∃ (p : Fin 512) (q : Fin 256), x = ix2 p q := ⟨x 0, x 1, eq_ix2 x⟩
      simp only [ix2_0, ix2_1] at h0 h1
      open_payloads
      pointwise
      have e : ((View.whole main_v9_0).slice (win0_6.rect t)).emb y = ix2 (rowOf t p) (gcol 2 q) := by
        unfold rowOf gcol; blk_ext [idx t]
      have hc : ∀ k : Fin 256, (⟨512 + (k : ℕ), by have := k.isLt; omega⟩ : Fin 1024) = gcol 2 k := fun k => Fin.ext (by simp [gcol])
      rw [e, byGroup_at]
      unfold dpv
      simp only [show win 2 = 8 from rfl, Finset.sum_range_succ, Finset.sum_range_zero, zero_add]
      refine congrArg₂ (· - ·) ?_ (Finset.sum_congr rfl fun k _ => by rw [blk0, blk4, blk5, hc])
      exact (congrArg₂ (· + ·) (congrArg₂ (· + ·) (congrArg₂ (· + ·) (congrArg₂ (· + ·) (congrArg₂ (· + ·) (congrArg₂ (· + ·) (congrArg₂ (· + ·) (read2 m c t 0 _ p q) (read2 m c t 1 _ p q)) (read2 m c t 2 _ p q)) (read2 m c t 3 _ p q)) (read2 m c t 4 _ p q)) (read2 m c t 5 _ p q)) (read2 m c t 6 _ p q)) (read2 m c t 7 _ p q))
    · obtain ⟨p, q, rfl⟩ : ∃ (p : Fin 512) (q : Fin 256), x = ix2 p q := ⟨x 0, x 1, eq_ix2 x⟩
      simp only [ix2_0, ix2_1] at h0 h1
      open_payloads
      pointwise
      have e : ((View.whole main_v9_0).slice (win0_6.rect t)).emb y = ix2 (rowOf t p) (gcol 1 q) := by
        unfold rowOf gcol; blk_ext [idx t]
      have hc : ∀ k : Fin 256, (⟨256 + (k : ℕ), by have := k.isLt; omega⟩ : Fin 1024) = gcol 1 k := fun k => Fin.ext (by simp [gcol])
      rw [e, byGroup_at]
      unfold dpv
      simp only [show win 1 = 4 from rfl, Finset.sum_range_succ, Finset.sum_range_zero, zero_add]
      refine congrArg₂ (· - ·) ?_ (Finset.sum_congr rfl fun k _ => by rw [blk0, blk4, blk5, hc])
      exact (congrArg₂ (· + ·) (congrArg₂ (· + ·) (congrArg₂ (· + ·) (read1 m c t 0 _ p q) (read1 m c t 1 _ p q)) (read1 m c t 2 _ p q)) (read1 m c t 3 _ p q))
    · obtain ⟨p, q, rfl⟩ : ∃ (p : Fin 512) (q : Fin 256), x = ix2 p q := ⟨x 0, x 1, eq_ix2 x⟩
      simp only [ix2_0, ix2_1] at h0 h1
      open_payloads
      pointwise
      have e : ((View.whole main_v9_0).slice (win0_6.rect t)).emb y = ix2 (rowOf t p) (gcol 0 q) := by
        unfold rowOf gcol; blk_ext [idx t]
      have hc : ∀ k : Fin 256, (⟨(k : ℕ), by have := k.isLt; omega⟩ : Fin 1024) = gcol 0 k := fun k => Fin.ext (by simp [gcol])
      rw [e, byGroup_at]
      unfold dpv
      simp only [show win 0 = 2 from rfl, Finset.sum_range_succ, Finset.sum_range_zero, zero_add]
      refine congrArg₂ (· - ·) ?_ (Finset.sum_congr rfl fun k _ => by rw [blk0, blk4, blk5, hc])
      exact (congrArg₂ (· + ·) (read0 m c t 0 _ p q) (read0 m c t 1 _ p q))

/-- The mixing products, as the host computes them from the pooled differences. -/
def mixed (D : FVec Ideal S4096x1024 .bf16) (W : FVec Ideal S2x4x256x256 .bf16) : FVec Ideal S4096x1024 .f32 :=
  shapeCast S4096x1024 (transpose S4096x4x256 [2, 0, 1] (Host.dotGeneral (F := Ideal) dot_S4x256x256_S4096x4x256_S4x256x4096_1_2_2_0_0_1 none
    (shapeCast S4x256x256 (extractStridedSlice S1x4x256x256 ![1, 0, 0, 0] (extf .f32 W bitsLt_bf16_f32 : FVec Ideal S2x4x256x256 .f32) slices_S2x4x256x256_S1x4x256x256_1_0_0_0) shapeCasts_S1x4x256x256_S4x256x256)
    (shapeCast S4096x4x256 (extf .f32 D bitsLt_bf16_f32 : FVec Ideal S4096x1024 .f32) shapeCasts_S4096x1024_S4096x4x256))
    transposes_S4x256x4096_S4096x4x256_2_0_1) shapeCasts_S4096x4x256_S4096x1024

theorem host_mixed (c : Dev nD) : V m c main_v7 = mixed (m (c.tc.loc main_arg0) : FVec Ideal S4096x1024 .bf16) (m (c.tc.loc main_arg1) : FVec Ideal S2x4x256x256 .bf16) := by
  unfold V mixed
  after_results
  rfl

theorem blk2 (c : Dev nD) (t : Fin cfg0.N) (p : Fin 512) (k : Fin 1024) :
    iblk m c 2 t (ix2 p k) = mixed (m (c.tc.loc main_arg0) : FVec Ideal S4096x1024 .bf16) (m (c.tc.loc main_arg1) : FVec Ideal S2x4x256x256 .bf16) (ix2 (rowOf t p) k) := by
  have hx : ((cfg0.win 2).blk t).view.emb (ix2 p k) = ix2 (rowOf t p) k := by unfold rowOf; blk_ext [idx t]
  show (V m c main_v7 : S4096x1024.Idx → EReal) (((cfg0.win 2).blk t).view.emb (ix2 p k)) = _
  rw [host_mixed, hx]

/-- Row `r`'s part of the gradient of the scale. -/
def dscRow (D : FVec Ideal S4096x1024 .bf16) (W : FVec Ideal S2x4x256x256 .bf16) (X : FVec Ideal S4096x1024 .f32) (q : Fin 1024) (r : Fin 4096) : EReal :=
  X (ix2 r q) * mixed D W (ix2 r q)

def dsc (D : FVec Ideal S4096x1024 .bf16) (W : FVec Ideal S2x4x256x256 .bf16) (X : FVec Ideal S4096x1024 .f32) : FVec Ideal S1x1024 .f32 :=
  fun j => ∑ r : Fin 4096, dscRow D W X (j 1) r

/-- Row `r`'s part of the gradient of group `g`'s weight. -/
def dwRow (D : FVec Ideal S4096x1024 .bf16) (SC : FVec Ideal S1x1024 .f32) (X : FVec Ideal S4096x1024 .f32) (g : Fin 4) (a b : Fin 256) (r : Fin 4096) : EReal :=
  (D (ix2 r (gcol g a)) : EReal) * (X (ix2 r (gcol g b)) * SC (ix2 0 (gcol g b)) : EReal)

def dwg (D : FVec Ideal S4096x1024 .bf16) (SC : FVec Ideal S1x1024 .f32) (X : FVec Ideal S4096x1024 .f32) : FVec Ideal S4x256x256 .f32 :=
  fun j => ∑ r : Fin 4096, dwRow D SC X (j 0) (j 1) (j 2) r

theorem dw_at (D : FVec Ideal S4096x1024 .bf16) (SC : FVec Ideal S1x1024 .f32) (X : FVec Ideal S4096x1024 .f32) (r r' : Fin 4096) (g : Fin 4) (a b : Fin 256)
    (u v : Fin 1024) (hu : u = gcol g a) (hv : v = gcol g b) (hr : r = r') :
    (D (ix2 r u) : EReal) * (X (ix2 r v) * SC (ix2 0 v) : EReal) = dwRow D SC X g a b r' := by
  subst hu hv hr
  rfl

/-- What grid point `t` adds to the two blocks. -/
def term7 (c : Dev nD) (t : Fin cfg0.N) (j : S1x1024.Idx) : EReal :=
  ∑ k : Fin 512, dscRow (m (c.tc.loc main_arg0) : FVec Ideal S4096x1024 .bf16) (m (c.tc.loc main_arg1) : FVec Ideal S2x4x256x256 .bf16) (m (c.tc.loc main_arg3) : FVec Ideal S4096x1024 .f32) (j 1) (rowOf t k)

def term8 (c : Dev nD) (t : Fin cfg0.N) (j : S4x256x256.Idx) : EReal :=
  ∑ k : Fin 512, dwRow (m (c.tc.loc main_arg0) : FVec Ideal S4096x1024 .bf16) (m (c.tc.loc main_arg2) : FVec Ideal S1x1024 .f32) (m (c.tc.loc main_arg3) : FVec Ideal S4096x1024 .f32) (j 0) (j 1) (j 2) (rowOf t k)

set_option maxHeartbeats 0 in
theorem final7 (c : Dev nD) : (dats m 0 c).arrAt 7 cfg0.N = dsc (m (c.tc.loc main_arg0) : FVec Ideal S4096x1024 .bf16) (m (c.tc.loc main_arg1) : FVec Ideal S2x4x256x256 .bf16) (m (c.tc.loc main_arg3) : FVec Ideal S4096x1024 .f32) := by
  refine (dats m 0 c).arrAt_eq_of_after_last 7 t0_7 (by decide +kernel) _ fun j => ?_
  blk_simp
  rw [after0_7, Pipeline.eq_sum_fin_of_reset_step_apply_last (fun n h => (outsAt0 m c n h).2.1) 8 (fun _ => (0 : EReal)) (term7 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega) h (by omega) h (by omega) h (by omega)]
      frame_out
      open_payloads
      pointwise
      simp only [blk0, blk2]
      rfl)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega) h (by omega) h (by omega) h (by omega)]
      frame_out
      open_payloads
      pointwise
      simp only [blk0, blk2]
      rfl)
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles (dscRow (m (c.tc.loc main_arg0) : FVec Ideal S4096x1024 .bf16) (m (c.tc.loc main_arg1) : FVec Ideal S2x4x256x256 .bf16) (m (c.tc.loc main_arg3) : FVec Ideal S4096x1024 .f32) q)

set_option maxHeartbeats 0 in
theorem final8 (c : Dev nD) : (dats m 0 c).arrAt 8 cfg0.N = dwg (m (c.tc.loc main_arg0) : FVec Ideal S4096x1024 .bf16) (m (c.tc.loc main_arg2) : FVec Ideal S1x1024 .f32) (m (c.tc.loc main_arg3) : FVec Ideal S4096x1024 .f32) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => (0 : EReal)) (term8 m c)
    (fun t h j => by
      have hN : (t : ℕ) < 8 := t.isLt
      rw [outsAt0_A m c t h (by omega) h (by omega) h (by omega) h (by omega) h (by omega)]
      frame_out
      canon_tiles x h
      · obtain ⟨a, b, rfl⟩ : ∃ a b : Fin 256, x = ix3 0 a b :=
          ⟨x 1, x 2, (eq_ix3 x).trans (congrArg (fun p => ix3 p (x 1) (x 2)) (Subsingleton.elim (α := Fin 1) _ _))⟩
        obtain rfl : j = ix3 3 a b := (eq_ix3 j).trans (by
          rw [show j 0 = (3 : Fin 4) from Fin.ext h0, show j 1 = a from Fin.ext h1, show j 2 = b from Fin.ext h2])
        open_payloads
        pointwise
        simp only [blk0, blk3, blk5]
        exact Finset.sum_congr rfl fun k _ => dw_at _ _ _ _ _ 3 a b _ _ (Fin.ext (by simp [gcol])) (Fin.ext (by simp [gcol])) rfl
      · obtain ⟨a, b, rfl⟩ : ∃ a b : Fin 256, x = ix3 0 a b :=
          ⟨x 1, x 2, (eq_ix3 x).trans (congrArg (fun p => ix3 p (x 1) (x 2)) (Subsingleton.elim (α := Fin 1) _ _))⟩
        obtain rfl : j = ix3 2 a b := (eq_ix3 j).trans (by
          rw [show j 0 = (2 : Fin 4) from Fin.ext h0, show j 1 = a from Fin.ext h1, show j 2 = b from Fin.ext h2])
        open_payloads
        pointwise
        simp only [blk0, blk3, blk5]
        exact Finset.sum_congr rfl fun k _ => dw_at _ _ _ _ _ 2 a b _ _ (Fin.ext (by simp [gcol])) (Fin.ext (by simp [gcol])) rfl
      · obtain ⟨a, b, rfl⟩ : ∃ a b : Fin 256, x = ix3 0 a b :=
          ⟨x 1, x 2, (eq_ix3 x).trans (congrArg (fun p => ix3 p (x 1) (x 2)) (Subsingleton.elim (α := Fin 1) _ _))⟩
        obtain rfl : j = ix3 1 a b := (eq_ix3 j).trans (by
          rw [show j 0 = (1 : Fin 4) from Fin.ext h0, show j 1 = a from Fin.ext h1, show j 2 = b from Fin.ext h2])
        open_payloads
        pointwise
        simp only [blk0, blk3, blk5]
        exact Finset.sum_congr rfl fun k _ => dw_at _ _ _ _ _ 1 a b _ _ (Fin.ext (by simp [gcol])) (Fin.ext (by simp [gcol])) rfl
      · obtain ⟨a, b, rfl⟩ : ∃ a b : Fin 256, x = ix3 0 a b :=
          ⟨x 1, x 2, (eq_ix3 x).trans (congrArg (fun p => ix3 p (x 1) (x 2)) (Subsingleton.elim (α := Fin 1) _ _))⟩
        obtain rfl : j = ix3 0 a b := (eq_ix3 j).trans (by
          rw [show j 0 = (0 : Fin 4) from Fin.ext h0, show j 1 = a from Fin.ext h1, show j 2 = b from Fin.ext h2])
        open_payloads
        pointwise
        simp only [blk0, blk3, blk5]
        exact Finset.sum_congr rfl fun k _ => dw_at _ _ _ _ _ 0 a b _ _ (Fin.ext (by simp [gcol])) (Fin.ext (by simp [gcol])) rfl)
    (fun t h j => by
      have hN : (t : ℕ) < 8 := t.isLt
      rw [outsAt0_B m c t h (by omega) h (by omega) h (by omega) h (by omega) h (by omega)]
      frame_out
      canon_tiles x h
      · obtain ⟨a, b, rfl⟩ : ∃ a b : Fin 256, x = ix3 0 a b :=
          ⟨x 1, x 2, (eq_ix3 x).trans (congrArg (fun p => ix3 p (x 1) (x 2)) (Subsingleton.elim (α := Fin 1) _ _))⟩
        obtain rfl : j = ix3 3 a b := (eq_ix3 j).trans (by
          rw [show j 0 = (3 : Fin 4) from Fin.ext h0, show j 1 = a from Fin.ext h1, show j 2 = b from Fin.ext h2])
        open_payloads
        pointwise
        simp only [blk0, blk3, blk5]
        refine congrArg₂ (· + ·) (congrArg (outsAt0 m c ((t : ℕ) - 1) (by omega)).2.2 (funext fun i => match i with | 0 => rfl | 1 => rfl | 2 => rfl)) ?_
        exact Finset.sum_congr rfl fun k _ => dw_at _ _ _ _ _ 3 a b _ _ (Fin.ext (by simp [gcol])) (Fin.ext (by simp [gcol])) rfl
      · obtain ⟨a, b, rfl⟩ : ∃ a b : Fin 256, x = ix3 0 a b :=
          ⟨x 1, x 2, (eq_ix3 x).trans (congrArg (fun p => ix3 p (x 1) (x 2)) (Subsingleton.elim (α := Fin 1) _ _))⟩
        obtain rfl : j = ix3 2 a b := (eq_ix3 j).trans (by
          rw [show j 0 = (2 : Fin 4) from Fin.ext h0, show j 1 = a from Fin.ext h1, show j 2 = b from Fin.ext h2])
        open_payloads
        pointwise
        simp only [blk0, blk3, blk5]
        refine congrArg₂ (· + ·) (congrArg (outsAt0 m c ((t : ℕ) - 1) (by omega)).2.2 (funext fun i => match i with | 0 => rfl | 1 => rfl | 2 => rfl)) ?_
        exact Finset.sum_congr rfl fun k _ => dw_at _ _ _ _ _ 2 a b _ _ (Fin.ext (by simp [gcol])) (Fin.ext (by simp [gcol])) rfl
      · obtain ⟨a, b, rfl⟩ : ∃ a b : Fin 256, x = ix3 0 a b :=
          ⟨x 1, x 2, (eq_ix3 x).trans (congrArg (fun p => ix3 p (x 1) (x 2)) (Subsingleton.elim (α := Fin 1) _ _))⟩
        obtain rfl : j = ix3 1 a b := (eq_ix3 j).trans (by
          rw [show j 0 = (1 : Fin 4) from Fin.ext h0, show j 1 = a from Fin.ext h1, show j 2 = b from Fin.ext h2])
        open_payloads
        pointwise
        simp only [blk0, blk3, blk5]
        refine congrArg₂ (· + ·) (congrArg (outsAt0 m c ((t : ℕ) - 1) (by omega)).2.2 (funext fun i => match i with | 0 => rfl | 1 => rfl | 2 => rfl)) ?_
        exact Finset.sum_congr rfl fun k _ => dw_at _ _ _ _ _ 1 a b _ _ (Fin.ext (by simp [gcol])) (Fin.ext (by simp [gcol])) rfl
      · obtain ⟨a, b, rfl⟩ : ∃ a b : Fin 256, x = ix3 0 a b :=
          ⟨x 1, x 2, (eq_ix3 x).trans (congrArg (fun p => ix3 p (x 1) (x 2)) (Subsingleton.elim (α := Fin 1) _ _))⟩
        obtain rfl : j = ix3 0 a b := (eq_ix3 j).trans (by
          rw [show j 0 = (0 : Fin 4) from Fin.ext h0, show j 1 = a from Fin.ext h1, show j 2 = b from Fin.ext h2])
        open_payloads
        pointwise
        simp only [blk0, blk3, blk5]
        refine congrArg₂ (· + ·) (congrArg (outsAt0 m c ((t : ℕ) - 1) (by omega)).2.2 (funext fun i => match i with | 0 => rfl | 1 => rfl | 2 => rfl)) ?_
        exact Finset.sum_congr rfl fun k _ => dw_at _ _ _ _ _ 0 a b _ _ (Fin.ext (by simp [gcol])) (Fin.ext (by simp [gcol])) rfl)
    (le_of_eq N_0) t0_7 rfl j, zero_add]
  obtain ⟨g, a, b, rfl⟩ : ∃ (g : Fin 4) (a b : Fin 256), j = ix3 g a b := ⟨j 0, j 1, j 2, eq_ix3 j⟩
  exact Sums.tiles (dwRow (m (c.tc.loc main_arg0) : FVec Ideal S4096x1024 .bf16) (m (c.tc.loc main_arg2) : FVec Ideal S1x1024 .f32) (m (c.tc.loc main_arg3) : FVec Ideal S4096x1024 .f32) g a b)

def G6 (W : FVec Ideal S2x4x256x256 .bf16) (SC : FVec Ideal S1x1024 .f32) (X : FVec Ideal S4096x1024 .f32) : FVec Ideal S4096x1024 .bf16 := byGroup (dpv X W SC)

theorem total6 (c : Dev nD) : (dats m 0 c).arrAt 6 cfg0.N = G6 (m (c.tc.loc main_arg1) : FVec Ideal S2x4x256x256 .bf16) (m (c.tc.loc main_arg2) : FVec Ideal S1x1024 .f32) (m (c.tc.loc main_arg3) : FVec Ideal S4096x1024 .f32) := final6 m c

end Cert.Kernel12Ideal.OddBwd

end
-- ==== Proof.OddBwdRef.lean ====
module

public import proofs.«01_k».proof.Proof.OddBwd
public import proofs.«01_k».proof.Proof.Reals
public import Idealize.ShloMosaic.Lib.KernelVsHost
public import proofs.«01_k».proof.Pre_finite12
public import proofs.«01_k».proof.Proof.Gen.Pre_finite12
public import proofs.«01_k».proof.Proof.Gen.Reference12Ideal.Read

@[expose] public section

set_option maxRecDepth 16384

noncomputable section

open Idealize.ShloMosaic Idealize.ShloMosaic.TcCoe Idealize.SL.Sem

namespace Cert.Reference12Ideal.OddBwd

open Cert.Reference12Ideal Cert.Reference12Ideal.Gen Cert.Reference12Ideal.Read
open Idealize.ShloMosaic.Routing

open Cert.Reals
open Cert.Kernel12Ideal.OddBwd (win gcol cnt cnt_real dd quot dpv byGroup byGroup_at mixed dscRow dsc dwRow dwg G6)

variable (D : FVec Ideal S4096x1024 .bf16) (W : FVec Ideal S2x4x256x256 .bf16) (SC : FVec Ideal S1x1024 .f32) (X : FVec Ideal S4096x1024 .f32)

theorem eq7 : val_main_v12 (F := Ideal) D W X = dsc D W X := by
  funext j
  obtain ⟨q, rfl⟩ : ∃ q : Fin 1024, j = ix2 0 q :=
    ⟨j 1, (eq_ix2 j).trans (congrArg (fun p => ix2 p (j 1)) (Subsingleton.elim (α := Fin 1) _ _))⟩
  have e : val_main_v7 (F := Ideal) D W = mixed D W := rfl
  pointwise [val_main_v12, val_main_v11, val_main_v10, val_main_cst]
  rw [e]
  exact Finset.sum_congr rfl fun r _ => mul_comm _ _

theorem group_col (g : Fin 4) (x : Fin 256) : (⟨(g : ℕ) * 256 + (x : ℕ), by have := g.isLt; have := x.isLt; omega⟩ : Fin 1024) = gcol g x :=
  Fin.ext (by simp [gcol, Nat.mul_comm])

theorem eq8 : val_main_v20 (F := Ideal) D SC X = dwg D SC X := by
  funext j
  obtain ⟨g, a, b, rfl⟩ : ∃ (g : Fin 4) (a b : Fin 256), j = ix3 g a b := ⟨j 0, j 1, j 2, eq_ix3 j⟩
  pointwise [val_main_v20, val_main_v19, val_main_v16, val_main_v15, val_main_v14, val_main_v13, val_main_v4, val_main_v0]
  refine Finset.sum_congr rfl fun r _ => (mul_comm _ _).trans ?_
  simp only [group_col]
  rfl

theorem ref_dd (r : Fin 4096) (g : Fin 4) (q : Fin 256) : val_main_v21 (F := Ideal) W SC X (ix2 r (gcol g q)) = dd X W SC r g q := by
  have hg := g.isLt
  rw [show gcol g q = ⟨256 * (g : ℕ) + (q : ℕ), by have := q.isLt; omega⟩ from rfl]
  pointwise [val_main_v21, val_main_v18, val_main_v17, val_main_v16, val_main_v15, val_main_v14, val_main_v13, val_main_v3, val_main_v2, val_main_v1]
  unfold dd
  refine Finset.sum_congr rfl fun k _ => ?_
  simp only [group_col]

theorem count (r : Fin 4096) : IntOp.addi 1#32 (BitVec.ofNat 32 (r : ℕ)) = BitVec.ofNat 32 ((r : ℕ) + 1) := by
  rw [Nat.add_comm, BitVec.ofNat_add]
  rfl

theorem quot_at (g : Fin 4) (q : Fin 256) (r : Fin 4096) : quot X W SC g q r = Ideal.div (dd X W SC r g q) (cnt r (win g)) :=
  dif_pos r.isLt

theorem quot_out (g : Fin 4) (q : Fin 256) (i : ℕ) (h : 4096 ≤ i) : quot X W SC g q i = 0 := dif_neg (by omega)

theorem pad_in {R : ℕ} (x : (shape2 R 256).Idx → EReal) (v : S_.Idx → EReal) (lo hi : Fin 2 → ℕ) (h : (shape2 R 256).Pads lo hi ![0, 0] S4097x1024) (hu : 0 < S_.numel)
    (i : Fin 4097) (c : Fin 1024) (k : Fin R) (q : Fin 256) (h0 : (i : ℕ) = lo 0 + (k : ℕ)) (h1 : (c : ℕ) = lo 1 + (q : ℕ)) :
    pad S4097x1024 lo hi ![0, 0] x v h hu (ix2 i c) = x (ix2 k q) := by
  refine pad_apply_of_inside lo hi ![0, 0] x v h hu _ _ fun a => ?_
  match a with
  | 0 => exact h0.trans (by simp)
  | 1 => exact h1.trans (by simp)

theorem pad_out {R : ℕ} (x : (shape2 R 256).Idx → EReal) (v : S_.Idx → EReal) (hv : ∀ i, v i = 0) (lo hi : Fin 2 → ℕ) (h : (shape2 R 256).Pads lo hi ![0, 0] S4097x1024)
    (hu : 0 < S_.numel) (i : Fin 4097) (c : Fin 1024) (hout : ¬(lo 0 ≤ (i : ℕ) ∧ (i : ℕ) - lo 0 < R) ∨ ¬(lo 1 ≤ (c : ℕ) ∧ (c : ℕ) - lo 1 < 256)) :
    pad S4097x1024 lo hi ![0, 0] x v h hu (ix2 i c) = 0 := by
  rcases hout with ho | ho
  · refine (pad_apply_of_not_inside lo hi ![0, 0] x v h hu (ix2 i c) (0 : Fin 2) fun hin => ho ?_).trans (hv _)
    have hin1 : lo 0 ≤ (i : ℕ) ∧ ((i : ℕ) - lo 0) % 1 = 0 ∧ ((i : ℕ) - lo 0) / 1 < R := hin
    exact ⟨hin1.1, lt_of_eq_of_lt (Nat.div_one _).symm hin1.2.2⟩
  · refine (pad_apply_of_not_inside lo hi ![0, 0] x v h hu (ix2 i c) (1 : Fin 2) fun hin => ho ?_).trans (hv _)
    have hin1 : lo 1 ≤ (c : ℕ) ∧ ((c : ℕ) - lo 1) % 1 = 0 ∧ ((c : ℕ) - lo 1) / 1 < 256 := hin
    exact ⟨hin1.1, lt_of_eq_of_lt (Nat.div_one _).symm hin1.2.2⟩

theorem pad_col {R : ℕ} (x : (shape2 R 256).Idx → EReal) (v : S_.Idx → EReal) (hv : ∀ i, v i = 0) (lo hi : Fin 2 → ℕ) (h : (shape2 R 256).Pads lo hi ![0, 0] S4097x1024)
    (hu : 0 < S_.numel) (i : Fin 4097) (g g' : Fin 4) (q : Fin 256) (hl : lo 1 = 256 * (g' : ℕ)) (hg : g ≠ g') :
    pad S4097x1024 lo hi ![0, 0] x v h hu (ix2 i (gcol g q)) = 0 := by
  have h' : (g : ℕ) ≠ (g' : ℕ) := fun e => hg (Fin.ext e)
  have hq := q.isLt
  refine pad_out x v hv lo hi h hu i _ (Or.inr fun hn => ?_)
  have hn1 : lo 1 ≤ 256 * (g : ℕ) + (q : ℕ) ∧ 256 * (g : ℕ) + (q : ℕ) - lo 1 < 256 := hn
  omega

theorem ratio2 (r : Fin 4096) (q : Fin 256) : val_main_v112 (F := Ideal) W SC X (ix2 r q) = quot X W SC 0 q r := by
  have hc : (⟨(q : ℕ), by have := q.isLt; omega⟩ : Fin 1024) = gcol 0 q := Fin.ext (by simp [gcol])
  pointwise [val_main_v112, val_main_v111, val_main_v81, val_main_v38, val_main_v37, val_main_v36, val_main_v35, val_main_v29, val_main_v28, val_main_v27, val_main_c_5, val_main_c]
  rw [hc, ref_dd, count, quot_at]
  rfl

theorem less2 (r : Fin 4097) (hr : 1 ≤ (r : ℕ)) (g : Fin 4) (q : Fin 256) :
    val_main_v116 (F := Ideal) W SC X (ix2 r (gcol g q)) = if g = 0 then -quot X W SC 0 q ((r : ℕ) - 1 + 2) else 0 := by
  have hv : ∀ i, val_main_cst_21 (F := Ideal) i = (0 : EReal) := fun i => by pointwise [val_main_cst_21]
  unfold val_main_v116
  by_cases h : g = 0
  · subst h
    rw [if_pos rfl]
    by_cases hb : (r : ℕ) < 4095
    · refine (pad_in _ _ _ _ _ _ r _ ⟨r, hb⟩ q (by simp) (by simp [gcol])).trans ?_
      have e : ∀ k : Fin 4095, val_main_v115 (F := Ideal) W SC X (ix2 k q) = -quot X W SC 0 q (1 + (k : ℕ)) := fun k => by
        pointwise [val_main_v115, val_main_v113]
        rw [ratio2]
      rw [e]
      exact congrArg (fun n => -quot X W SC 0 q n) (show 1 + (r : ℕ) = (r : ℕ) - 1 + 2 by omega)
    · rw [quot_out W SC X _ _ _ (by omega), neg_zero]
      exact pad_out _ _ hv _ _ _ _ _ _ (Or.inl fun hn => hb (by simpa using hn.2))
  · rw [if_neg h]
    exact pad_col _ _ hv _ _ _ _ _ g 0 q rfl h

theorem more2 (r : Fin 4097) (hr : 1 ≤ (r : ℕ)) (g : Fin 4) (q : Fin 256) :
    val_main_v118 (F := Ideal) W SC X (ix2 r (gcol g q)) = if g = 0 then quot X W SC 0 q ((r : ℕ) - 1) else 0 := by
  have hr' := r.isLt
  have hv : ∀ i, val_main_cst_22 (F := Ideal) i = (0 : EReal) := fun i => by pointwise [val_main_cst_22]
  unfold val_main_v118
  by_cases h : g = 0
  · subst h
    rw [if_pos rfl]
    refine (pad_in _ _ _ _ _ _ r _ ⟨(r : ℕ) - 1, by omega⟩ q (show (r : ℕ) = 1 + ((r : ℕ) - 1) by omega) (by simp [gcol])).trans ?_
    exact ratio2 W SC X ⟨(r : ℕ) - 1, by omega⟩ q
  · rw [if_neg h]
    exact pad_col _ _ hv _ _ _ _ _ g 0 q rfl h

theorem ratio4 (r : Fin 4096) (q : Fin 256) : val_main_v103 (F := Ideal) W SC X (ix2 r q) = quot X W SC 1 q r := by
  have hc : (⟨256 + (q : ℕ), by have := q.isLt; omega⟩ : Fin 1024) = gcol 1 q := Fin.ext (by simp [gcol])
  pointwise [val_main_v103, val_main_v102, val_main_v82, val_main_v50, val_main_v49, val_main_v48, val_main_v47, val_main_v29, val_main_v28, val_main_v27, val_main_c_8, val_main_c]
  rw [hc, ref_dd, count, quot_at]
  rfl

theorem less4 (r : Fin 4097) (hr : 1 ≤ (r : ℕ)) (g : Fin 4) (q : Fin 256) :
    val_main_v107 (F := Ideal) W SC X (ix2 r (gcol g q)) = if g = 1 then -quot X W SC 1 q ((r : ℕ) - 1 + 4) else 0 := by
  have hv : ∀ i, val_main_cst_19 (F := Ideal) i = (0 : EReal) := fun i => by pointwise [val_main_cst_19]
  unfold val_main_v107
  by_cases h : g = 1
  · subst h
    rw [if_pos rfl]
    by_cases hb : (r : ℕ) < 4093
    · refine (pad_in _ _ _ _ _ _ r _ ⟨r, hb⟩ q (by simp) (by simp [gcol])).trans ?_
      have e : ∀ k : Fin 4093, val_main_v106 (F := Ideal) W SC X (ix2 k q) = -quot X W SC 1 q (3 + (k : ℕ)) := fun k => by
        pointwise [val_main_v106, val_main_v104]
        rw [ratio4]
      rw [e]
      exact congrArg (fun n => -quot X W SC 1 q n) (show 3 + (r : ℕ) = (r : ℕ) - 1 + 4 by omega)
    · rw [quot_out W SC X _ _ _ (by omega), neg_zero]
      exact pad_out _ _ hv _ _ _ _ _ _ (Or.inl fun hn => hb (by simpa using hn.2))
  · rw [if_neg h]
    exact pad_col _ _ hv _ _ _ _ _ g 1 q rfl h

theorem more4 (r : Fin 4097) (hr : 1 ≤ (r : ℕ)) (g : Fin 4) (q : Fin 256) :
    val_main_v109 (F := Ideal) W SC X (ix2 r (gcol g q)) = if g = 1 then quot X W SC 1 q ((r : ℕ) - 1) else 0 := by
  have hr' := r.isLt
  have hv : ∀ i, val_main_cst_20 (F := Ideal) i = (0 : EReal) := fun i => by pointwise [val_main_cst_20]
  unfold val_main_v109
  by_cases h : g = 1
  · subst h
    rw [if_pos rfl]
    refine (pad_in _ _ _ _ _ _ r _ ⟨(r : ℕ) - 1, by omega⟩ q (show (r : ℕ) = 1 + ((r : ℕ) - 1) by omega) (by simp [gcol])).trans ?_
    exact ratio4 W SC X ⟨(r : ℕ) - 1, by omega⟩ q
  · rw [if_neg h]
    exact pad_col _ _ hv _ _ _ _ _ g 1 q rfl h

theorem ratio8 (r : Fin 4096) (q : Fin 256) : val_main_v94 (F := Ideal) W SC X (ix2 r q) = quot X W SC 2 q r := by
  have hc : (⟨512 + (q : ℕ), by have := q.isLt; omega⟩ : Fin 1024) = gcol 2 q := Fin.ext (by simp [gcol])
  pointwise [val_main_v94, val_main_v93, val_main_v83, val_main_v62, val_main_v61, val_main_v60, val_main_v59, val_main_v29, val_main_v28, val_main_v27, val_main_c_11, val_main_c]
  rw [hc, ref_dd, count, quot_at]
  rfl

theorem less8 (r : Fin 4097) (hr : 1 ≤ (r : ℕ)) (g : Fin 4) (q : Fin 256) :
    val_main_v98 (F := Ideal) W SC X (ix2 r (gcol g q)) = if g = 2 then -quot X W SC 2 q ((r : ℕ) - 1 + 8) else 0 := by
  have hv : ∀ i, val_main_cst_17 (F := Ideal) i = (0 : EReal) := fun i => by pointwise [val_main_cst_17]
  unfold val_main_v98
  by_cases h : g = 2
  · subst h
    rw [if_pos rfl]
    by_cases hb : (r : ℕ) < 4089
    · refine (pad_in _ _ _ _ _ _ r _ ⟨r, hb⟩ q (by simp) (by simp [gcol])).trans ?_
      have e : ∀ k : Fin 4089, val_main_v97 (F := Ideal) W SC X (ix2 k q) = -quot X W SC 2 q (7 + (k : ℕ)) := fun k => by
        pointwise [val_main_v97, val_main_v95]
        rw [ratio8]
      rw [e]
      exact congrArg (fun n => -quot X W SC 2 q n) (show 7 + (r : ℕ) = (r : ℕ) - 1 + 8 by omega)
    · rw [quot_out W SC X _ _ _ (by omega), neg_zero]
      exact pad_out _ _ hv _ _ _ _ _ _ (Or.inl fun hn => hb (by simpa using hn.2))
  · rw [if_neg h]
    exact pad_col _ _ hv _ _ _ _ _ g 2 q rfl h

theorem more8 (r : Fin 4097) (hr : 1 ≤ (r : ℕ)) (g : Fin 4) (q : Fin 256) :
    val_main_v100 (F := Ideal) W SC X (ix2 r (gcol g q)) = if g = 2 then quot X W SC 2 q ((r : ℕ) - 1) else 0 := by
  have hr' := r.isLt
  have hv : ∀ i, val_main_cst_18 (F := Ideal) i = (0 : EReal) := fun i => by pointwise [val_main_cst_18]
  unfold val_main_v100
  by_cases h : g = 2
  · subst h
    rw [if_pos rfl]
    refine (pad_in _ _ _ _ _ _ r _ ⟨(r : ℕ) - 1, by omega⟩ q (show (r : ℕ) = 1 + ((r : ℕ) - 1) by omega) (by simp [gcol])).trans ?_
    exact ratio8 W SC X ⟨(r : ℕ) - 1, by omega⟩ q
  · rw [if_neg h]
    exact pad_col _ _ hv _ _ _ _ _ g 2 q rfl h

theorem ratio16 (r : Fin 4096) (q : Fin 256) : val_main_v86 (F := Ideal) W SC X (ix2 r q) = quot X W SC 3 q r := by
  have hc : (⟨768 + (q : ℕ), by have := q.isLt; omega⟩ : Fin 1024) = gcol 3 q := Fin.ext (by simp [gcol])
  pointwise [val_main_v86, val_main_v85, val_main_v84, val_main_v74, val_main_v73, val_main_v72, val_main_v71, val_main_v29, val_main_v28, val_main_v27, val_main_c_14, val_main_c]
  rw [hc, ref_dd, count, quot_at]
  rfl

theorem less16 (r : Fin 4097) (hr : 1 ≤ (r : ℕ)) (g : Fin 4) (q : Fin 256) :
    val_main_v90 (F := Ideal) W SC X (ix2 r (gcol g q)) = if g = 3 then -quot X W SC 3 q ((r : ℕ) - 1 + 16) else 0 := by
  have hv : ∀ i, val_main_cst_15 (F := Ideal) i = (0 : EReal) := fun i => by pointwise [val_main_cst_15]
  unfold val_main_v90
  by_cases h : g = 3
  · subst h
    rw [if_pos rfl]
    by_cases hb : (r : ℕ) < 4081
    · refine (pad_in _ _ _ _ _ _ r _ ⟨r, hb⟩ q (by simp) (by simp [gcol])).trans ?_
      have e : ∀ k : Fin 4081, val_main_v89 (F := Ideal) W SC X (ix2 k q) = -quot X W SC 3 q (15 + (k : ℕ)) := fun k => by
        pointwise [val_main_v89, val_main_v87]
        rw [ratio16]
      rw [e]
      exact congrArg (fun n => -quot X W SC 3 q n) (show 15 + (r : ℕ) = (r : ℕ) - 1 + 16 by omega)
    · rw [quot_out W SC X _ _ _ (by omega), neg_zero]
      exact pad_out _ _ hv _ _ _ _ _ _ (Or.inl fun hn => hb (by simpa using hn.2))
  · rw [if_neg h]
    exact pad_col _ _ hv _ _ _ _ _ g 3 q rfl h

theorem more16 (r : Fin 4097) (hr : 1 ≤ (r : ℕ)) (g : Fin 4) (q : Fin 256) :
    val_main_v91 (F := Ideal) W SC X (ix2 r (gcol g q)) = if g = 3 then quot X W SC 3 q ((r : ℕ) - 1) else 0 := by
  have hr' := r.isLt
  have hv : ∀ i, val_main_cst_16 (F := Ideal) i = (0 : EReal) := fun i => by pointwise [val_main_cst_16]
  unfold val_main_v91
  by_cases h : g = 3
  · subst h
    rw [if_pos rfl]
    refine (pad_in _ _ _ _ _ _ r _ ⟨(r : ℕ) - 1, by omega⟩ q (show (r : ℕ) = 1 + ((r : ℕ) - 1) by omega) (by simp [gcol])).trans ?_
    exact ratio16 W SC X ⟨(r : ℕ) - 1, by omega⟩ q
  · rw [if_neg h]
    exact pad_col _ _ hv _ _ _ _ _ g 3 q rfl h

theorem steps (r : Fin 4096) (g : Fin 4) (q : Fin 256) :
    val_main_v121 (F := Ideal) W SC X (ix2 r (gcol g q)) = -quot X W SC g q ((r : ℕ) + win g) + quot X W SC g q r := by
  have hs : ∀ c : Fin 1024, val_main_v121 (F := Ideal) W SC X (ix2 r c) = val_main_v119 (F := Ideal) W SC X (ix2 ⟨1 + (r : ℕ), by have := r.isLt; omega⟩ c) := fun c => by
    pointwise [val_main_v121]
  have h1 : ∀ r : Fin 4097, 1 ≤ (r : ℕ) → val_main_v119 (F := Ideal) W SC X (ix2 r (gcol g q)) = -quot X W SC g q ((r : ℕ) - 1 + win g) + quot X W SC g q ((r : ℕ) - 1) := fun r hr => by
    have e : val_main_v119 (F := Ideal) W SC X (ix2 r (gcol g q)) = ((((((val_main_v90 (F := Ideal) W SC X (ix2 r (gcol g q)) + val_main_v91 (F := Ideal) W SC X (ix2 r (gcol g q)))
        + val_main_v98 (F := Ideal) W SC X (ix2 r (gcol g q))) + val_main_v100 (F := Ideal) W SC X (ix2 r (gcol g q))) + val_main_v107 (F := Ideal) W SC X (ix2 r (gcol g q)))
        + val_main_v109 (F := Ideal) W SC X (ix2 r (gcol g q))) + val_main_v116 (F := Ideal) W SC X (ix2 r (gcol g q))) + val_main_v118 (F := Ideal) W SC X (ix2 r (gcol g q)) := rfl
    rw [e, less2 W SC X r hr, less4 W SC X r hr, less8 W SC X r hr, less16 W SC X r hr, more2 W SC X r hr, more4 W SC X r hr, more8 W SC X r hr, more16 W SC X r hr]
    match g with
    | 0 => simp [win]
    | 1 => simp [win]
    | 2 => simp [win]
    | 3 => simp [win]
  rw [hs, h1 _ (by simp)]
  simp only [Nat.add_sub_cancel_left]

theorem init_zero (i : S_.Idx) : val_main_call1_call0_v0 (F := Ideal) i = (0 : EReal) := by
  pointwise [val_main_call1_call0_v0, val_main_call1_call0_cst]

theorem sums (r : Fin 4096) (c : Fin 1024) :
    val_main_v122 (F := Ideal) W SC X (ix2 r c) = ∑ i ∈ Finset.range 4096, Cumsum.col (val_main_v121 (F := Ideal) W SC X) c (r + i) := by
  have e : val_main_v122 (F := Ideal) W SC X = Ideal.hostReduceWindowAdd ![4096, 1] ![1, 1] ![0, 0] ![4095, 0]
      reduceWindows_S4096x1024_S4096x1024_w4096s1p0_4095_w1s1p0_0 (val_main_v121 (F := Ideal) W SC X) (val_main_call1_call0_v0 (F := Ideal) (Shape.Idx.first h_S_)) := by
    unfold val_main_v122 Host.reduceWindowAdd
    rfl
  rw [e, init_zero]
  exact Cumsum.up _ _ r c

variable (hX : ∀ r k, IsReal (X (ix2 r k))) (hW : ∀ g a b, IsReal (W (ix4 1 g a b))) (hS : ∀ k, IsReal (SC (ix2 0 k)))

include hX hW hS in
theorem quot_real (g : Fin 4) (q : Fin 256) (i : ℕ) : IsReal (quot X W SC g q i) := by
  by_cases h : i < 4096
  · have hw : 0 < win g ∧ win g ≤ 16 := (by decide : ∀ g, 0 < win g ∧ win g ≤ 16) g
    obtain ⟨y, hy, e⟩ := cnt_real i (win g) (by omega) hw.1 hw.2
    obtain ⟨x, hx⟩ : IsReal (dd X W SC ⟨i, h⟩ g q) := real_sum _ _ fun k => real_mul (real_mul (hX _ _) (hS _)) (hW _ _ _)
    exact ⟨x / y, by rw [show quot X W SC g q i = _ from quot_at W SC X g q ⟨i, h⟩, hx, e, div_coe _ _ hy]⟩
  · rw [quot_out W SC X g q i (by omega)]
    exact real_zero

include hX hW hS in
theorem ref_dp (r : Fin 4096) (g : Fin 4) (q : Fin 256) : val_main_v124 (F := Ideal) W SC X (ix2 r (gcol g q)) = dpv X W SC r g q := by
  have e : val_main_v124 (F := Ideal) W SC X (ix2 r (gcol g q))
      = -val_main_v21 (F := Ideal) W SC X (ix2 r (gcol g q)) + val_main_v122 (F := Ideal) W SC X (ix2 r (gcol g q)) := rfl
  rw [e, ref_dd, sums, add_comm, ← sub_eq_add_neg]
  unfold dpv
  rw [← Cumsum.suffix_sub _ (quot_real W SC X hX hW hS g q) (quot_out W SC X g q) r (win g)]
  refine congrArg₂ (· - ·) (Finset.sum_congr rfl fun i _ => ?_) rfl
  by_cases h : (r : ℕ) + i < 4096
  · exact (Cumsum.col_at _ _ ⟨(r : ℕ) + i, h⟩).trans (steps W SC X ⟨(r : ℕ) + i, h⟩ g q)
  · rw [Cumsum.col, dif_neg h, quot_out W SC X g q _ (by omega), quot_out W SC X g q _ (by omega), neg_zero, zero_add]

include hX hW hS in
theorem eq6 : val_main_v124 (F := Ideal) W SC X = G6 W SC X := by
  funext j
  have h : (j 1).val < 1024 := (j 1).isLt
  obtain ⟨r, g, q, rfl⟩ : ∃ r g q, j = ix2 r (gcol g q) := by
    refine ⟨j 0, ⟨(j 1).val / 256, by omega⟩, ⟨(j 1).val % 256, by omega⟩, (eq_ix2 j).trans (congrArg (ix2 _) (Fin.ext ?_))⟩
    show (j 1).val = 256 * ((j 1).val / 256) + (j 1).val % 256
    omega
  exact (ref_dp W SC X hX hW hS r g q).trans (byGroup_at _ r g q).symm

/-- What the precondition says of the arrays. -/
theorem of_finite (h : Pre_finite12.fn (F := Ideal) D W SC X = fun _ => 1#1) :
    (∀ r k, IsReal (X (ix2 r k))) ∧ (∀ g a b, IsReal (W (ix4 1 g a b))) ∧ ∀ k, IsReal (SC (ix2 0 k)) := by
  have h0 := congrFun h (fun a => a.elim0)
  unfold Pre_finite12.fn at h0
  obtain ⟨h0, h3⟩ := IntOp.andi_eq_one.1 h0
  obtain ⟨h1, h2⟩ := IntOp.andi_eq_one.1 h0
  haveI : Subsingleton Pre_finite12.S_.Idx := ⟨fun a b => funext fun x => x.elim0⟩
  refine ⟨fun r k => ?_, fun g a b => ?_, fun k => ?_⟩
  · exact real_of_olt _ (Host.reduce_andi_all _ _ _ _ _ h3 (ix2 r k))
  · have := real_of_olt _ (Host.reduce_andi_all _ _ _ _ _ h1 (ix3 g a b))
    pointwise at this
    exact this
  · exact real_of_olt _ (Host.reduce_andi_all _ _ _ _ _ h2 (ix2 0 k))

end Cert.Reference12Ideal.OddBwd

end
-- ==== Proof.OddBwdClaim.lean ====
module

public import proofs.«01_k».proof.Defs
public import proofs.«01_k».proof.Proof.OddBwdRef
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent

@[expose] public section

set_option maxRecDepth 16384

noncomputable section

open Idealize.ShloMosaic Idealize.ShloMosaic.TcCoe Idealize.SL.Sem

open Cert.Kernel12Ideal (main_arg0 main_arg1 main_arg2 main_arg3)

namespace Cert.Proof.OddBwd

/-- The reference runs on the host alone: it has no semaphores, and it leaves its arguments as they were. -/
theorem quiescent_ref : quiescent_Reference12Ideal := fun m g _ =>
  (θ_run _ _ _).mono (fun r h => ⟨fun c => (h c).2.2.2, sem_eq_zero_of_no_sems (by decide) r.2⟩)
    (Reference12Ideal.Value.run (F := Ideal) m g)

/-- The backward call of the odd layers' mixer: the gradients before pooling, of the scale and of the group weights. -/
theorem algebraic : algebraic_Kernel12Ideal_Reference12Ideal_pre_finite12 := by
  intro m g m' g' hpre hagree
  refine ⟨fun c => Kernel12Ideal.OddBwd.G6 (m (c.tc.loc main_arg1)) (m (c.tc.loc main_arg2)) (m (c.tc.loc main_arg3)), fun c => Kernel12Ideal.OddBwd.dsc (m (c.tc.loc main_arg0)) (m (c.tc.loc main_arg1)) (m (c.tc.loc main_arg3)), fun c => Kernel12Ideal.OddBwd.dwg (m (c.tc.loc main_arg0)) (m (c.tc.loc main_arg2)) (m (c.tc.loc main_arg3)),
    (θ_run _ _ _).mono (fun r h c => ?_) (Kernel12Ideal.Value.run_blocks m g),
    (θ_run _ _ _).mono (fun r h c => ⟨(h c).1.trans ?_, (h c).2.1.trans ?_, (h c).2.2.1.trans ?_, (h c).2.2.2⟩) (Reference12Ideal.Value.run (F := Ideal) m' g')⟩
  · exact ⟨(h c).1.trans (Kernel12Ideal.OddBwd.total6 m c), (h c).2.1.trans (Kernel12Ideal.OddBwd.final7 m c), (h c).2.2.1.trans (Kernel12Ideal.OddBwd.final8 m c), (h c).2.2.2⟩
  · obtain ⟨e0, e1, e2, e3⟩ := hagree c
    refine (Reference12Ideal.Read.val_main_v124_eq m' c).trans ?_
    rw [e1, e2, e3]
    exact Reference12Ideal.OddBwd.eq6 _ _ _ (Reference12Ideal.OddBwd.of_finite _ _ _ _ (hpre c)).1 (Reference12Ideal.OddBwd.of_finite _ _ _ _ (hpre c)).2.1 (Reference12Ideal.OddBwd.of_finite _ _ _ _ (hpre c)).2.2
  · obtain ⟨e0, e1, e2, e3⟩ := hagree c
    refine (Reference12Ideal.Read.val_main_v12_eq _ _ _).trans ?_
    rw [e0, e1, e3]
    exact Reference12Ideal.OddBwd.eq7 _ _ _
  · obtain ⟨e0, e1, e2, e3⟩ := hagree c
    refine (Reference12Ideal.Read.val_main_v20_eq _ _ _).trans ?_
    rw [e0, e2, e3]
    exact Reference12Ideal.OddBwd.eq8 _ _ _

end Cert.Proof.OddBwd

end
-- ==== Proof.AttnFwd.lean ====
module

public import proofs.«01_k».proof.Proof.Gen.Kernel13Ideal.Value
public import Idealize.ShloMosaic.Lib.Pipeline.ValueKit
public import Idealize.ShloMosaic.Lib.Pointwise
public import proofs.«01_k».proof.Proof.Attn

@[expose] public section

set_option maxRecDepth 16384

noncomputable section

open Idealize.ShloMosaic Idealize.ShloMosaic.TcCoe Idealize.SL.Sem

namespace Cert.Kernel13Ideal.AttnFwd

open Cert.Kernel13Ideal Cert.Kernel13Ideal.Gen Cert.Softmax
open Cert.Kernel2Ideal.Attn (col kcol vcol head lane score head_col lane_col col_0 col_1 col_2 col_3 kcol_0 kcol_1 kcol_2 kcol_3 vcol_0 vcol_1 vcol_2 vcol_3)

/-- Row `r` of head `h`: the probabilities against the values. -/
def out (Q : FVec Ideal S4096x1024 .bf16) (KV : FVec Ideal S256x2048 .bf16) (r : Fin 4096) (h : Fin 4) (q : Fin 256) : EReal :=
  ∑ x : Fin 256, prob (score Q KV r h) x * KV (ix2 x (vcol h q))

def G (Q : FVec Ideal S4096x1024 .bf16) (KV : FVec Ideal S256x2048 .bf16) : FVec Ideal S4096x1024 .bf16 :=
  fun j => out Q KV (j 0) (head (j 1 : Fin 1024)) (lane (j 1 : Fin 1024))

theorem G_col (Q : FVec Ideal S4096x1024 .bf16) (KV : FVec Ideal S256x2048 .bf16) (r : Fin 4096) (h : Fin 4) (d : Fin 256) :
    G Q KV (ix2 r (col h d)) = out Q KV r h d := by
  show out Q KV r (head (col h d)) (lane (col h d)) = _
  rw [head_col, lane_col]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkQ (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkKV (c : Dev nD) (t : Fin cfg0.N) (x : Fin 256) (k : Fin 2048) :
    iblk m c 1 t (ix2 x k) = m (c.tc.loc main_arg1) (ix2 x k) := by
  blk_point [iblk, V, idx t]

set_option maxHeartbeats 1000000 in
theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 8 := t.isLt
  unfold out0_2
  canon_tiles x h
  all_goals
    obtain ⟨p, q, rfl⟩ : ∃ (p : Fin 512) (q : Fin 256), x = ix2 p q := ⟨x 0, x 1, eq_ix2 x⟩
    simp only [ix2_0, ix2_1] at h0 h1
    open_payloads
    pointwise
    simp only [blkQ, blkKV, col_0, col_1, col_2, col_3, kcol_0, kcol_1, kcol_2, kcol_3, vcol_0, vcol_1, vcol_2, vcol_3]
    first
      | have e : ((cfg0.win 2).blk t).view.emb y = ix2 (rowOf t p) (col 0 q) := by
          unfold rowOf col
          blk_ext [idx t]
        rw [e, G_col]; rfl
      | have e : ((cfg0.win 2).blk t).view.emb y = ix2 (rowOf t p) (col 1 q) := by
          unfold rowOf col
          blk_ext [idx t]
        rw [e, G_col]; rfl
      | have e : ((cfg0.win 2).blk t).view.emb y = ix2 (rowOf t p) (col 2 q) := by
          unfold rowOf col
          blk_ext [idx t]
        rw [e, G_col]; rfl
      | have e : ((cfg0.win 2).blk t).view.emb y = ix2 (rowOf t p) (col 3 q) := by
          unfold rowOf col
          blk_ext [idx t]
        rw [e, G_col]; rfl

end Cert.Kernel13Ideal.AttnFwd

end
-- ==== Proof.AttnFwdRef.lean ====
module

public import proofs.«01_k».proof.Proof.AttnFwd
public import proofs.«01_k».proof.Proof.AttnRef
public import proofs.«01_k».proof.Proof.Gen.Reference13Ideal.Read

@[expose] public section

set_option maxRecDepth 16384

noncomputable section

open Idealize.ShloMosaic Idealize.ShloMosaic.TcCoe Idealize.SL.Sem

namespace Cert.Reference13Ideal.AttnFwd

open Cert.Reference13Ideal Cert.Reference13Ideal.Gen Cert.Reference13Ideal.Read Cert.Softmax
open Cert.Kernel2Ideal.Attn (col kcol vcol head lane score)
open Cert.Reference2Ideal.Attn (col_mul kcol_mul vcol_mul)

variable (Q : FVec Ideal S4096x1024 .bf16) (KV : FVec Ideal S256x2048 .bf16)

theorem ref_score (h : Fin 4) (r : Fin 4096) (x : Fin 256) : val_main_v8 (F := Ideal) Q KV (ix3 h r x) = score Q KV r h x := by
  pointwise [val_main_v8, val_main_v7, val_main_v6, val_main_v5, val_main_v4, val_main_v3, val_main_v2, val_main_v1, val_main_v0, val_main_cst]
  simp only [col_mul, kcol_mul]
  rfl

theorem ref_top (h : Fin 4) (r : Fin 4096) : val_main_v9 (F := Ideal) Q KV (ix2 h r) = top (score Q KV r h) := by
  pointwise [val_main_v9, val_main_cst_0]
  simp only [ref_score]
  rfl

theorem ref_shift (h : Fin 4) (r : Fin 4096) : val_main_v11 (F := Ideal) Q KV (ix2 h r) = top (score Q KV r h) := by
  rw [val_main_v11_apply, ref_top, val_main_v10_apply, val_main_cst_1_apply]
  generalize top (score Q KV r h) = y
  show max (Ideal.ofBits .f32 4286578688#32) y = y
  rw [bot_bits]
  exact max_eq_right bot_le

theorem ref_num (h : Fin 4) (r : Fin 4096) (x : Fin 256) : val_main_v15 (F := Ideal) Q KV (ix3 h r x) = num (score Q KV r h) x := by
  pointwise [val_main_v15, val_main_v14, val_main_v13, val_main_v12]
  rw [ref_shift, ref_score]
  rfl

theorem ref_den (h : Fin 4) (r : Fin 4096) : val_main_v16 (F := Ideal) Q KV (ix2 h r) = den (score Q KV r h) := by
  pointwise [val_main_v16, val_main_cst_2]
  simp only [ref_num]
  rfl

theorem ref_prob (h : Fin 4) (r : Fin 4096) (x : Fin 256) : val_main_v19 (F := Ideal) Q KV (ix3 h r x) = prob (score Q KV r h) x := by
  pointwise [val_main_v19, val_main_v18, val_main_v17]
  rw [ref_num, ref_den]
  rfl

theorem ref_eq : val_main_v24 (F := Ideal) Q KV = Kernel13Ideal.AttnFwd.G Q KV := by
  funext j
  obtain ⟨p, q, rfl⟩ : ∃ (p : Fin 4096) (q : Fin 1024), j = ix2 p q := ⟨j 0, j 1, eq_ix2 j⟩
  have e : q = col (head (q : ℕ)) (lane (q : ℕ)) := Fin.ext (by
    show (q : ℕ) = 256 * ((q : ℕ) / 256 % 4) + (q : ℕ) % 256
    have := q.isLt
    omega)
  generalize head (q : ℕ) = h at e
  generalize lane (q : ℕ) = d at e
  subst e
  rw [Kernel13Ideal.AttnFwd.G_col]
  unfold col
  pointwise [val_main_v24, val_main_v23, val_main_v22, val_main_v21, val_main_v20, val_main_v2, val_main_v0]
  simp only [ref_prob, vcol_mul]
  unfold Kernel13Ideal.AttnFwd.out
  exact Finset.sum_congr rfl fun x _ => mul_comm _ _

end Cert.Reference13Ideal.AttnFwd

end
-- ==== Proof.AttnFwdClaim.lean ====
module

public import proofs.«01_k».proof.Defs
public import proofs.«01_k».proof.Proof.AttnFwdRef
public import proofs.«01_k».proof.Proof.Gen.Kernel13.Frame
public import proofs.«01_k».proof.Proof.Gen.Kernel13Ideal.Value
public import proofs.«01_k».proof.Proof.Gen.Reference13Ideal.Run
public import Idealize.ShloMosaic.Lib.Quiescent

@[expose] public section

set_option maxRecDepth 16384

noncomputable section

open Idealize.ShloMosaic Idealize.ShloMosaic.TcCoe Idealize.SL.Sem

namespace Cert.Proof.AttnFwd

/-- The reference runs on the host alone: it has no semaphores, and it leaves its arguments as they were. -/
theorem quiescent_ref : quiescent_Reference13Ideal := fun m g _ =>
  (θ_run _ _ _).mono (fun r h => ⟨fun c => (h c).2, sem_eq_zero_of_no_sems (by decide) r.2⟩)
    (Reference13Ideal.Value.run (F := Ideal) m g)

/-- Attention. -/
theorem algebraic : algebraic_Kernel13Ideal_Reference13Ideal := by
  intro m g m' g' _ hagree
  refine ⟨fun c => Kernel13Ideal.AttnFwd.G (m (c.tc.loc Kernel13Ideal.main_arg0)) (m (c.tc.loc Kernel13Ideal.main_arg1)),
    (θ_run _ _ _).mono (fun r h c => ?_) (Kernel13Ideal.Value.run_blocks m g),
    (θ_run _ _ _).mono (fun r h c => ⟨(h c).1.trans ?_, (h c).2⟩) (Reference13Ideal.Value.run (F := Ideal) m' g')⟩
  · exact ⟨(h c).1.trans (Kernel13Ideal.AttnFwd.final m c), (h c).2⟩
  · obtain ⟨e0, e1⟩ := hagree c
    refine (Reference13Ideal.Read.val_main_v24_eq _ _).trans ?_
    rw [e0, e1]
    exact Reference13Ideal.AttnFwd.ref_eq _ _

end Cert.Proof.AttnFwd

end
-- ==== Proof.LossTop.lean ====
module

public import proofs.«01_k».proof.Proof.Gen.Kernel14Ideal.Value
public import Idealize.ShloMosaic.Lib.Pipeline.ValueKit
public import Idealize.ShloMosaic.Lib.Pointwise
public import proofs.«01_k».proof.Proof.Rms
public import proofs.«01_k».proof.Proof.Sums

@[expose] public section

set_option maxRecDepth 16384

noncomputable section

open Idealize.ShloMosaic Idealize.ShloMosaic.TcCoe Idealize.SL.Sem

namespace Cert.Kernel14Ideal.LossTop

open Cert.Kernel14Ideal Cert.Kernel14Ideal.Gen Cert.Rms

/-- The error of an output, and the mean of a row's squared errors. -/
def err (H T : FVec Ideal S4096x1024 .f32) (r : Fin 4096) (c : Fin 1024) : EReal := H (ix2 r c) - T (ix2 r c)
def mse (H T : FVec Ideal S4096x1024 .f32) (r : Fin 4096) : EReal := Ideal.div (∑ k : Fin 1024, err H T r k * err H T r k) width

/-- One half, and one part in 1024, as both programs write them. -/
def half : EReal := Ideal.ofBits .f32 0x3F000000#32
def part : EReal := Ideal.ofBits .f32 0x3A800000#32

/-- The gradient of the loss in the outputs, and the half of it that the last sublayer receives. -/
def dh (H T : FVec Ideal S4096x1024 .f32) (r : Fin 4096) (c : Fin 1024) : EReal := err H T r c * part
def dy (H T : FVec Ideal S4096x1024 .f32) (r : Fin 4096) (c : Fin 1024) : EReal := half * dh H T r c

/-- Row `r`'s part of the gradient of the last norm's gain. -/
def dgRow (H T P : FVec Ideal S4096x1024 .f32) (r : Fin 4096) (c : Fin 1024) : EReal := dy H T r c * (P (ix2 r c) * inv fun k => P (ix2 r k))

def G4 (H T : FVec Ideal S4096x1024 .f32) : FVec Ideal S4096x1024 .f32 := fun j => dh H T (j 0) (j 1)
def G5 (H T P : FVec Ideal S4096x1024 .f32) (GQ : FVec Ideal S1x1024 .f32) : FVec Ideal S4096x1024 .bf16 :=
  fun j => dxK (fun k => P (ix2 (j 0) k)) (fun k => GQ (ix2 0 k)) (fun k => dy H T (j 0) k) (j 1)
def G6 (H T : FVec Ideal S4096x1024 .f32) : FVec Ideal S1x128 .f32 :=
  fun _ => ∑ t : Fin 8, half * ∑ k : Fin 512, mse H T ⟨512 * (t : ℕ) + (k : ℕ), by omega⟩
def G7 (H T P : FVec Ideal S4096x1024 .f32) : FVec Ideal S1x1024 .f32 := fun j => ∑ r : Fin 4096, dgRow H T P r (j 1)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkH (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkT (c : Dev nD) (t : Fin cfg0.N) (p : Fin 512) (k : Fin 1024) :
    iblk m c 1 t (ix2 p k) = m (c.tc.loc main_arg1) (ix2 (rowOf t p) k) := by
  unfold rowOf; blk_point [iblk, V, idx t]

theorem blkP (c : Dev nD) (t : Fin cfg0.N) (p : Fin 512) (k : Fin 1024) :
    iblk m c 2 t (ix2 p k) = m (c.tc.loc main_arg2) (ix2 (rowOf t p) k) := by
  unfold rowOf; blk_point [iblk, V, idx t]

theorem blkG (c : Dev nD) (t : Fin cfg0.N) (k : Fin 1024) :
    iblk m c 3 t (ix2 0 k) = m (c.tc.loc main_arg3) (ix2 0 k) := by
  blk_point [iblk, V, idx t]

set_option maxHeartbeats 1000000 in
theorem final4 (c : Dev nD) : (dats m 0 c).arrAt 4 cfg0.N = G4 (m (c.tc.loc main_arg0)) (m (c.tc.loc main_arg1)) := by
  refine (dats m 0 c).arrAt_eq_of_covers 4 _ (by decide +kernel) fun t _ y => ?_
  blk_simp
  rw [after0_4]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    obtain ⟨p, q, rfl⟩ : ∃ (p : Fin 512) (q : Fin 1024), y = ix2 p q := ⟨y 0, y 1, eq_ix2 y⟩
    have e : ((View.whole main_v0_0).slice (win0_4.rect t)).emb (ix2 p q) = ix2 (rowOf t p) q := by
      unfold rowOf
      blk_ext [idx t]
    rw [e]
    open_payloads
    pointwise
    simp only [blkH, blkT, blkP, blkG]
    rfl

set_option maxHeartbeats 1000000 in
theorem final5 (c : Dev nD) : (dats m 0 c).arrAt 5 cfg0.N = G5 (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    obtain ⟨p, q, rfl⟩ : ∃ (p : Fin 512) (q : Fin 1024), y = ix2 p q := ⟨y 0, y 1, eq_ix2 y⟩
    have e : ((View.whole main_v0_1).slice (win0_5.rect t)).emb (ix2 p q) = ix2 (rowOf t p) q := by
      unfold rowOf
      blk_ext [idx t]
    rw [e]
    open_payloads
    pointwise
    simp only [blkH, blkT, blkP, blkG]
    rfl

/-- What grid point `t` adds to the block. -/
def term6 (c : Dev nD) (t : Fin cfg0.N) (j : S1x128.Idx) : EReal :=
  half * ∑ k : Fin 512, mse (m (c.tc.loc main_arg0)) (m (c.tc.loc main_arg1)) (rowOf t k)

set_option maxHeartbeats 1000000 in
theorem final6 (c : Dev nD) : (dats m 0 c).arrAt 6 cfg0.N = G6 (m (c.tc.loc main_arg0)) (m (c.tc.loc main_arg1)) := by
  refine (dats m 0 c).arrAt_eq_of_after_last 6 t0_7 (by decide +kernel) _ fun j => ?_
  blk_simp
  rw [after0_6, Pipeline.eq_sum_fin_of_reset_step_apply_last (fun n h => (outsAt0 m c n h).2.2.1) 8 (fun _ => (0 : EReal)) (term6 m c)
    (fun t h j => by
      have hN : (t : ℕ) < 8 := t.isLt
      obtain ⟨q, rfl⟩ : ∃ q : Fin 128, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkH, blkT, blkP, blkG]
      rfl)
    (fun t h j => by
      have hN : (t : ℕ) < 8 := t.isLt
      obtain ⟨q, rfl⟩ : ∃ q : Fin 128, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkH, blkT, blkP, blkG]
      rfl)
    (le_of_eq N_0) t0_7 rfl j, zero_add]
  obtain ⟨q, rfl⟩ : ∃ q : Fin 128, j = ix2 0 q :=
    ⟨j 1, (eq_ix2 j).trans (congrArg (fun p => ix2 p (j 1)) (Subsingleton.elim (α := Fin 1) _ _))⟩
  rfl

/-- What grid point `t` adds to the block. -/
def term7 (c : Dev nD) (t : Fin cfg0.N) (j : S1x1024.Idx) : EReal :=
  ∑ k : Fin 512, dgRow (m (c.tc.loc main_arg0)) (m (c.tc.loc main_arg1)) (m (c.tc.loc main_arg2)) (rowOf t k) (j 1)

set_option maxHeartbeats 1000000 in
theorem final7 (c : Dev nD) : (dats m 0 c).arrAt 7 cfg0.N = G7 (m (c.tc.loc main_arg0)) (m (c.tc.loc main_arg1)) (m (c.tc.loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2.2) 8 (fun _ => (0 : EReal)) (term7 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkH, blkT, blkP, blkG]
      rfl)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkH, blkT, blkP, blkG]
      rfl)
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgRow (m (c.tc.loc main_arg0)) (m (c.tc.loc main_arg1)) (m (c.tc.loc main_arg2)) r q

end Cert.Kernel14Ideal.LossTop

end
-- ==== Proof.LossTopRef.lean ====
module

public import proofs.«01_k».proof.Proof.LossTop
public import proofs.«01_k».proof.Pre_finite14
public import proofs.«01_k».proof.Proof.Gen.Pre_finite14
public import proofs.«01_k».proof.Proof.Gen.Reference14Ideal.Read

@[expose] public section

set_option maxRecDepth 16384

noncomputable section

open Idealize.ShloMosaic Idealize.ShloMosaic.TcCoe Idealize.SL.Sem

namespace Cert.Reference14Ideal.LossTop

open Cert.Reference14Ideal Cert.Reference14Ideal.Gen Cert.Reference14Ideal.Read Cert.Reals Cert.Rms
open Cert.Kernel14Ideal.LossTop (err mse half part dh dy dgRow G4 G5 G6 G7)

variable (H T P : FVec Ideal S4096x1024 .f32) (GQ : FVec Ideal S1x1024 .f32)

/-- The reference's factor of twice the error. -/
def coef : EReal := Ideal.div half width

theorem half_coe : half = ((1 / 2 : ℝ) : EReal) := by
  simp [half, Ideal.ofBits, Ideal.ieee]
  rw [← EReal.coe_mul]
  norm_num

theorem part_coe : part = ((1 / 1024 : ℝ) : EReal) := by
  simp [part, Ideal.ofBits, Ideal.ieee]
  rw [← EReal.coe_mul]
  norm_num

theorem two_coe : Ideal.ofBits .f32 0x40000000#32 = ((2 : ℝ) : EReal) := by
  simp [Ideal.ofBits, Ideal.ieee]
  rw [← EReal.coe_mul]
  norm_num

theorem coef_two (x : EReal) : coef * (Ideal.ofBits .f32 0x40000000#32 * x) = x * part := by
  unfold coef
  rw [half_coe, two_coe, part_coe, width_coe, div_coe _ _ (by norm_num), ← mul_assoc, ← EReal.coe_mul, mul_comm]
  norm_num

theorem ref_dh (r : Fin 4096) (c : Fin 1024) : val_main_v14 (F := Ideal) H T (ix2 r c) = dh H T r c := by
  refine Eq.trans ?_ (coef_two (err H T r c))
  pointwise [val_main_v14, val_main_v13, val_main_v12, val_main_cst_6, val_main_v11, val_main_v10, val_main_v9, val_main_cst_5, val_main_cst_4, val_main_v3, val_main_v2, val_main_cst, val_main_v0]
  rfl

theorem ref_mse (r : Fin 4096) : val_main_v6 (F := Ideal) H T (ix1 r) = mse H T r := by
  pointwise [val_main_v6, val_main_v5, val_main_cst_1, val_main_v4, val_main_cst_0, val_main_v1, val_main_v0]
  rfl

theorem ref_loss (l : Fin 128) : val_main_v54 (F := Ideal) H T (ix2 0 l) = half * ∑ r : Fin 4096, mse H T r := by
  pointwise [val_main_v54, val_main_v8, val_main_cst_3, val_main_v7, val_main_cst_2]
  simp only [ref_mse]
  rfl

theorem ref_dg (c : Fin 1024) :
    val_main_v36 (F := Ideal) H T P (ix2 0 c) = ∑ r : Fin 4096, P (ix2 r c) * inv (fun k => P (ix2 r k)) * dy H T r c := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v28, val_main_v27, val_main_v26, val_main_v25, val_main_v24, val_main_v23, val_main_v22, val_main_v21, val_main_v20, val_main_v19, val_main_v18, val_main_v17, val_main_v16, val_main_v15, val_main_cst_7, val_main_cst_8, val_main_cst_9, val_main_cst_10, val_main_cst_12, val_main_cst_13, val_main_cst_14, val_main_cst_15, val_main_cst_16]
  simp only [ref_dh]
  rfl

theorem ref_df (r : Fin 4096) (c : Fin 1024) :
    val_main_v53 (F := Ideal) H T P GQ (ix2 r c)
      = dxR (fun k => P (ix2 r k)) (fun k => GQ (ix2 0 k)) (fun k => dy H T r k) c := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v28, val_main_v27, val_main_v26, val_main_v25, val_main_v24, val_main_v23, val_main_v22, val_main_v21, val_main_v20, val_main_v19, val_main_v18, val_main_v17, val_main_v16, val_main_v15, val_main_cst_7, val_main_cst_8, val_main_cst_9, val_main_cst_10, val_main_cst_12, val_main_cst_13, val_main_cst_14, val_main_cst_15, val_main_cst_16]
  simp only [ref_dh, Fin.sum_univ_one]
  rfl

theorem eq4 : val_main_v14 (F := Ideal) H T = G4 H T := by
  funext j
  exact (congrArg _ (eq_ix2 j)).trans (ref_dh H T (j 0) (j 1))

theorem eq7 : val_main_v36 (F := Ideal) H T P = G7 H T P := by
  funext j
  obtain ⟨q, rfl⟩ : ∃ q : Fin 1024, j = ix2 0 q :=
    ⟨j 1, (eq_ix2 j).trans (congrArg (fun p => ix2 p (j 1)) (Subsingleton.elim (α := Fin 1) _ _))⟩
  exact (ref_dg H T P q).trans (Finset.sum_congr rfl fun r _ => mul_comm _ _)

variable (hH : ∀ r k, IsReal (H (ix2 r k))) (hT : ∀ r k, IsReal (T (ix2 r k))) (hP : ∀ r k, IsReal (P (ix2 r k)))
  (hGQ : ∀ k, IsReal (GQ (ix2 0 k)))

include hH hT in
theorem err_real (r : Fin 4096) (c : Fin 1024) : IsReal (err H T r c) := real_sub (hH r c) (hT r c)

include hH hT in
theorem mse_real (r : Fin 4096) : IsReal (mse H T r) :=
  width_div_real (real_sum _ _ fun k => real_mul (err_real H T hH hT r k) (err_real H T hH hT r k))

include hH hT in
theorem dy_real (r : Fin 4096) (c : Fin 1024) : IsReal (dy H T r c) :=
  real_mul ⟨_, half_coe⟩ (real_mul (err_real H T hH hT r c) ⟨_, part_coe⟩)

include hH hT hP hGQ in
theorem eq5 : val_main_v53 (F := Ideal) H T P GQ = G5 H T P GQ := by
  funext j
  refine (congrArg _ (eq_ix2 j)).trans ((ref_df H T P GQ (j 0) (j 1)).trans ?_)
  exact dx_eq _ _ _ (fun k => hP (j 0) k) hGQ (fun k => dy_real H T hH hT (j 0) k) (j 1)

include hH hT in
theorem eq6 : val_main_v54 (F := Ideal) H T = G6 H T := by
  funext j
  obtain ⟨q, rfl⟩ : ∃ q : Fin 128, j = ix2 0 q :=
    ⟨j 1, (eq_ix2 j).trans (congrArg (fun p => ix2 p (j 1)) (Subsingleton.elim (α := Fin 1) _ _))⟩
  refine (ref_loss H T q).trans ?_
  unfold G6
  rw [← Sums.tiles fun r => mse H T r]
  have hm := mse_real H T hH hT
  choose e he using hm
  simp only [he, half_coe]
  have e1 : ∀ t : Fin 8, (∑ k : Fin 512, ((e ⟨512 * (t : ℕ) + (k : ℕ), by omega⟩ : ℝ) : EReal))
      = ((∑ k : Fin 512, e ⟨512 * (t : ℕ) + (k : ℕ), by omega⟩ : ℝ) : EReal) := fun t => (coe_sum _ _).symm
  simp only [e1, ← EReal.coe_mul]
  rw [← coe_sum, ← coe_sum, ← EReal.coe_mul, Finset.mul_sum]

/-- What the precondition says of the arrays. -/
theorem of_finite (h : Pre_finite14.fn (F := Ideal) H T P GQ = fun _ => 1#1) :
    (∀ r k, IsReal (H (ix2 r k))) ∧ (∀ r k, IsReal (T (ix2 r k))) ∧ (∀ r k, IsReal (P (ix2 r k)))
      ∧ ∀ k, IsReal (GQ (ix2 0 k)) := by
  have h0 := congrFun h (fun a => a.elim0)
  unfold Pre_finite14.fn Pre_finite14.fn_part1 at h0
  obtain ⟨h0, h4⟩ := IntOp.andi_eq_one.1 h0
  obtain ⟨h0, h3⟩ := IntOp.andi_eq_one.1 h0
  obtain ⟨h1, h2⟩ := IntOp.andi_eq_one.1 h0
  haveI : Subsingleton Pre_finite14.S_.Idx := ⟨fun a b => funext fun x => x.elim0⟩
  refine ⟨fun r k => ?_, fun c k => ?_, fun r k => ?_, fun k => ?_⟩
  · exact real_of_olt _ (Host.reduce_andi_all _ _ _ _ _ h1 (ix2 r k))
  · exact real_of_olt _ (Host.reduce_andi_all _ _ _ _ _ h2 (ix2 c k))
  · exact real_of_olt _ (Host.reduce_andi_all _ _ _ _ _ h3 (ix2 r k))
  · exact real_of_olt _ (Host.reduce_andi_all _ _ _ _ _ h4 (ix2 0 k))

end Cert.Reference14Ideal.LossTop

end
-- ==== Proof.LossTopClaim.lean ====
module

public import proofs.«01_k».proof.Defs
public import proofs.«01_k».proof.Proof.LossTopRef
public import proofs.«01_k».proof.Proof.Gen.Kernel14.Frame
public import proofs.«01_k».proof.Proof.Gen.Kernel14Ideal.Value
public import proofs.«01_k».proof.Proof.Gen.Reference14Ideal.Run
public import Idealize.ShloMosaic.Lib.Quiescent

@[expose] public section

set_option maxRecDepth 16384

noncomputable section

open Idealize.ShloMosaic Idealize.ShloMosaic.TcCoe Idealize.SL.Sem

open Cert.Kernel14Ideal (main_arg0 main_arg1 main_arg2 main_arg3)

namespace Cert.Proof.LossTop

/-- The reference runs on the host alone: it has no semaphores, and it leaves its arguments as they were. -/
theorem quiescent_ref : quiescent_Reference14Ideal := fun m g _ =>
  (θ_run _ _ _).mono (fun r h => ⟨fun c => (h c).2.2.2.2, sem_eq_zero_of_no_sems (by decide) r.2⟩)
    (Reference14Ideal.Value.run (F := Ideal) m g)

/-- The loss and the first gradients. -/
theorem algebraic : algebraic_Kernel14Ideal_Reference14Ideal_pre_finite14 := by
  intro m g m' g' hpre hagree
  refine ⟨fun c => Kernel14Ideal.LossTop.G4 (m (c.tc.loc main_arg0)) (m (c.tc.loc main_arg1)), fun c => Kernel14Ideal.LossTop.G5 (m (c.tc.loc main_arg0)) (m (c.tc.loc main_arg1)) (m (c.tc.loc main_arg2)) (m (c.tc.loc main_arg3)), fun c => Kernel14Ideal.LossTop.G6 (m (c.tc.loc main_arg0)) (m (c.tc.loc main_arg1)), fun c => Kernel14Ideal.LossTop.G7 (m (c.tc.loc main_arg0)) (m (c.tc.loc main_arg1)) (m (c.tc.loc main_arg2)),
    (θ_run _ _ _).mono (fun r h c => ?_) (Kernel14Ideal.Value.run_blocks m g),
    (θ_run _ _ _).mono (fun r h c => ⟨(h c).1.trans ?_, (h c).2.1.trans ?_, (h c).2.2.1.trans ?_, (h c).2.2.2.1.trans ?_, (h c).2.2.2.2⟩) (Reference14Ideal.Value.run (F := Ideal) m' g')⟩
  · exact ⟨(h c).1.trans (Kernel14Ideal.LossTop.final4 m c), (h c).2.1.trans (Kernel14Ideal.LossTop.final5 m c), (h c).2.2.1.trans (Kernel14Ideal.LossTop.final6 m c), (h c).2.2.2.1.trans (Kernel14Ideal.LossTop.final7 m c), (h c).2.2.2.2⟩
  · obtain ⟨e0, e1, e2, e3⟩ := hagree c
    refine (Reference14Ideal.Read.val_main_v14_eq _ _).trans ?_
    rw [e0, e1]
    exact Reference14Ideal.LossTop.eq4 _ _
  · obtain ⟨e0, e1, e2, e3⟩ := hagree c
    refine (Reference14Ideal.Read.val_main_v53_eq m' c).trans ?_
    rw [e0, e1, e2, e3]
    obtain ⟨h0, h1, h2, h3⟩ := Reference14Ideal.LossTop.of_finite _ _ _ _ (hpre c)
    exact Reference14Ideal.LossTop.eq5 _ _ _ _ h0 h1 h2 h3
  · obtain ⟨e0, e1, e2, e3⟩ := hagree c
    refine (Reference14Ideal.Read.val_main_v54_eq _ _).trans ?_
    rw [e0, e1]
    obtain ⟨h0, h1, h2, h3⟩ := Reference14Ideal.LossTop.of_finite _ _ _ _ (hpre c)
    exact Reference14Ideal.LossTop.eq6 _ _ h0 h1
  · obtain ⟨e0, e1, e2, e3⟩ := hagree c
    refine (Reference14Ideal.Read.val_main_v36_eq _ _ _).trans ?_
    rw [e0, e1, e2]
    exact Reference14Ideal.LossTop.eq7 _ _ _

end Cert.Proof.LossTop

end
-- ==== Proof.Prenorm.lean ====
module

public import proofs.«01_k».proof.Proof.Gen.Kernel15Ideal.Value
public import Idealize.ShloMosaic.Lib.Pipeline.ValueKit
public import Idealize.ShloMosaic.Lib.Pointwise
public import proofs.«01_k».proof.Proof.Rms

@[expose] public section

set_option maxRecDepth 16384

noncomputable section

open Idealize.ShloMosaic Idealize.ShloMosaic.TcCoe Idealize.SL.Sem

namespace Cert.Kernel15Ideal.Prenorm

open Cert.Kernel15Ideal Cert.Kernel15Ideal.Gen Cert.Rms

/-- The normalised rows under the gain. -/
def G (H : FVec Ideal S4096x1024 .f32) (GN : FVec Ideal S1x1024 .f32) : FVec Ideal S4096x1024 .bf16 :=
  fun j => H (ix2 (j 0) (j 1)) * inv (fun k => H (ix2 (j 0) k)) * GN (ix2 0 (j 1))

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkH (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkG (c : Dev nD) (t : Fin cfg0.N) (k : Fin 1024) :
    iblk m c 1 t (ix2 0 k) = m (c.tc.loc main_arg1) (ix2 0 k) := by
  blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 8 := t.isLt
  unfold out0_2
  canon_tiles x h
  all_goals
    obtain ⟨p, q, rfl⟩ : ∃ (p : Fin 512) (q : Fin 1024), x = ix2 p q := ⟨x 0, x 1, eq_ix2 x⟩
    simp only [ix2_0, ix2_1] at h0 h1
    open_payloads
    pointwise
    simp only [blkH, blkG]
    have e : ((cfg0.win 2).blk t).view.emb y = ix2 (rowOf t p) q := by
      unfold rowOf
      blk_ext [idx t]
    rw [e]
    rfl

end Cert.Kernel15Ideal.Prenorm

end
-- ==== Proof.PrenormRef.lean ====
module

public import proofs.«01_k».proof.Proof.Prenorm
public import proofs.«01_k».proof.Proof.Gen.Reference15Ideal.Read

@[expose] public section

set_option maxRecDepth 16384

noncomputable section

open Idealize.ShloMosaic Idealize.ShloMosaic.TcCoe Idealize.SL.Sem

namespace Cert.Reference15Ideal.Prenorm

open Cert.Reference15Ideal Cert.Reference15Ideal.Gen Cert.Reference15Ideal.Read

theorem ref_eq (H : FVec Ideal S4096x1024 .f32) (GN : FVec Ideal S1x1024 .f32) :
    val_main_v12 (F := Ideal) H GN = Kernel15Ideal.Prenorm.G H GN := by
  funext j
  obtain ⟨p, q, rfl⟩ : ∃ (p : Fin 4096) (q : Fin 1024), j = ix2 p q := ⟨j 0, j 1, eq_ix2 j⟩
  pointwise [val_main_v12, val_main_v11, val_main_v10, val_main_v9, val_main_v8, val_main_v7, val_main_v6, val_main_v5, val_main_v4, val_main_v3, val_main_v2, val_main_v1, val_main_v0, val_main_cst, val_main_cst_1, val_main_cst]
  rfl

end Cert.Reference15Ideal.Prenorm

end
-- ==== Proof.PrenormClaim.lean ====
module

public import proofs.«01_k».proof.Defs
public import proofs.«01_k».proof.Proof.PrenormRef
public import proofs.«01_k».proof.Proof.Gen.Kernel15.Frame
public import proofs.«01_k».proof.Proof.Gen.Kernel15Ideal.Value
public import proofs.«01_k».proof.Proof.Gen.Reference15Ideal.Run
public import Idealize.ShloMosaic.Lib.Quiescent

@[expose] public section

set_option maxRecDepth 16384

noncomputable section

open Idealize.ShloMosaic Idealize.ShloMosaic.TcCoe Idealize.SL.Sem

namespace Cert.Proof.Prenorm

/-- The reference runs on the host alone: it has no semaphores, and it leaves its arguments as they were. -/
theorem quiescent_ref : quiescent_Reference15Ideal := fun m g _ =>
  (θ_run _ _ _).mono (fun r h => ⟨fun c => (h c).2, sem_eq_zero_of_no_sems (by decide) r.2⟩)
    (Reference15Ideal.Value.run (F := Ideal) m g)

/-- The first layer's normalised input. -/
theorem algebraic : algebraic_Kernel15Ideal_Reference15Ideal := by
  intro m g m' g' _ hagree
  refine ⟨fun c => Kernel15Ideal.Prenorm.G (m (c.tc.loc Kernel15Ideal.main_arg0)) (m (c.tc.loc Kernel15Ideal.main_arg1)),
    (θ_run _ _ _).mono (fun r h c => ?_) (Kernel15Ideal.Value.run_blocks m g),
    (θ_run _ _ _).mono (fun r h c => ⟨(h c).1.trans ?_, (h c).2⟩) (Reference15Ideal.Value.run (F := Ideal) m' g')⟩
  · exact ⟨(h c).1.trans (Kernel15Ideal.Prenorm.final m c), (h c).2⟩
  · obtain ⟨e0, e1⟩ := hagree c
    refine (Reference15Ideal.Read.val_main_v12_eq _ _).trans ?_
    rw [e0, e1]
    exact Reference15Ideal.Prenorm.ref_eq _ _

end Cert.Proof.Prenorm

end
-- ==== Proof.MemNorm.lean ====
module

public import proofs.«01_k».proof.Proof.Gen.Kernel16Ideal.Value
public import Idealize.ShloMosaic.Lib.Pipeline.ValueKit
public import Idealize.ShloMosaic.Lib.Pointwise
public import proofs.«01_k».proof.Proof.Rms

@[expose] public section

set_option maxRecDepth 16384

noncomputable section

open Idealize.ShloMosaic Idealize.ShloMosaic.TcCoe Idealize.SL.Sem

namespace Cert.Kernel16Ideal.MemNorm

open Cert.Kernel16Ideal Cert.Kernel16Ideal.Gen Cert.Rms

/-- The normalised rows under the gain. -/
def G (H : FVec Ideal S256x1024 .f32) (GN : FVec Ideal S1x1024 .f32) : FVec Ideal S256x1024 .bf16 :=
  fun j => H (ix2 (j 0) (j 1)) * inv (fun k => H (ix2 (j 0) k)) * GN (ix2 0 (j 1))

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `p` of block `t`. -/
def rowOf (t : Fin cfg0.N) (p : Fin 256) : Fin 256 := ⟨256 * (t : ℕ) + (p : ℕ), by have : (t : ℕ) < 1 := t.isLt; omega⟩

theorem blkH (c : Dev nD) (t : Fin cfg0.N) (p : Fin 256) (k : Fin 1024) :
    iblk m c 0 t (ix2 p k) = m (c.tc.loc main_arg0) (ix2 (rowOf t p) k) := by
  unfold rowOf; blk_point [iblk, V, idx t]

theorem blkG (c : Dev nD) (t : Fin cfg0.N) (k : Fin 1024) :
    iblk m c 1 t (ix2 0 k) = m (c.tc.loc main_arg1) (ix2 0 k) := by
  blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 1 := t.isLt
  unfold out0_2
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkG]
    have e : ((cfg0.win 2).blk t).view.emb y = ix2 (rowOf t p) q := by
      unfold rowOf
      blk_ext [idx t]
    rw [e]
    rfl

end Cert.Kernel16Ideal.MemNorm

end
-- ==== Proof.MemNormRef.lean ====
module

public import proofs.«01_k».proof.Proof.MemNorm
public import proofs.«01_k».proof.Proof.Gen.Reference16Ideal.Read

@[expose] public section

set_option maxRecDepth 16384

noncomputable section

open Idealize.ShloMosaic Idealize.ShloMosaic.TcCoe Idealize.SL.Sem

namespace Cert.Reference16Ideal.MemNorm

open Cert.Reference16Ideal Cert.Reference16Ideal.Gen Cert.Reference16Ideal.Read

theorem ref_eq (H : FVec Ideal S256x1024 .f32) (GN : FVec Ideal S1x1024 .f32) :
    val_main_v12 (F := Ideal) H GN = Kernel16Ideal.MemNorm.G H GN := by
  funext j
  obtain ⟨p, q, rfl⟩ : ∃ (p : Fin 256) (q : Fin 1024), j = ix2 p q := ⟨j 0, j 1, eq_ix2 j⟩
  pointwise [val_main_v12, val_main_v11, val_main_v10, val_main_v9, val_main_v8, val_main_v7, val_main_v6, val_main_v5, val_main_v4, val_main_v3, val_main_v2, val_main_v1, val_main_v0, val_main_cst, val_main_cst_1, val_main_cst]
  rfl

end Cert.Reference16Ideal.MemNorm

end
-- ==== Proof.MemNormClaim.lean ====
module

public import proofs.«01_k».proof.Defs
public import proofs.«01_k».proof.Proof.MemNormRef
public import proofs.«01_k».proof.Proof.Gen.Kernel16.Frame
public import proofs.«01_k».proof.Proof.Gen.Kernel16Ideal.Value
public import proofs.«01_k».proof.Proof.Gen.Reference16Ideal.Run
public import Idealize.ShloMosaic.Lib.Quiescent

@[expose] public section

set_option maxRecDepth 16384

noncomputable section

open Idealize.ShloMosaic Idealize.ShloMosaic.TcCoe Idealize.SL.Sem

namespace Cert.Proof.MemNorm

/-- The reference runs on the host alone: it has no semaphores, and it leaves its arguments as they were. -/
theorem quiescent_ref : quiescent_Reference16Ideal := fun m g _ =>
  (θ_run _ _ _).mono (fun r h => ⟨fun c => (h c).2, sem_eq_zero_of_no_sems (by decide) r.2⟩)
    (Reference16Ideal.Value.run (F := Ideal) m g)

/-- The normalised memory tokens. -/
theorem algebraic : algebraic_Kernel16Ideal_Reference16Ideal := by
  intro m g m' g' _ hagree
  refine ⟨fun c => Kernel16Ideal.MemNorm.G (m (c.tc.loc Kernel16Ideal.main_arg0)) (m (c.tc.loc Kernel16Ideal.main_arg1)),
    (θ_run _ _ _).mono (fun r h c => ?_) (Kernel16Ideal.Value.run_blocks m g),
    (θ_run _ _ _).mono (fun r h c => ⟨(h c).1.trans ?_, (h c).2⟩) (Reference16Ideal.Value.run (F := Ideal) m' g')⟩
  · exact ⟨(h c).1.trans (Kernel16Ideal.MemNorm.final m c), (h c).2⟩
  · obtain ⟨e0, e1⟩ := hagree c
    refine (Reference16Ideal.Read.val_main_v12_eq _ _).trans ?_
    rw [e0, e1]
    exact Reference16Ideal.MemNorm.ref_eq _ _

end Cert.Proof.MemNorm

end
-- ==== Proof.MemGain.lean ====
module

public import proofs.«01_k».proof.Proof.Gen.Kernel17Ideal.Value
public import Idealize.ShloMosaic.Lib.Pipeline.ValueKit
public import Idealize.ShloMosaic.Lib.Pointwise
public import proofs.«01_k».proof.Proof.Rms

@[expose] public section

set_option maxRecDepth 16384

noncomputable section

open Idealize.ShloMosaic Idealize.ShloMosaic.TcCoe Idealize.SL.Sem

namespace Cert.Kernel17Ideal.MemGain

open Cert.Kernel17Ideal Cert.Kernel17Ideal.Gen Cert.Rms

/-- The gradient of the memory norm's gain: each row's gradient times its normalised row, summed. -/
def G (M DN : FVec Ideal S256x1024 .f32) : FVec Ideal S1x1024 .f32 :=
  fun j => ∑ r : Fin 256, DN (ix2 r (j 1)) * (M (ix2 r (j 1)) * inv fun k => M (ix2 r k))

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem blk0 (c : Dev nD) (t : Fin cfg0.N) (p : Fin 256) (k : Fin 1024) :
    iblk m c 0 t (ix2 p k) = m (c.tc.loc main_arg0) (ix2 p k) := by
  blk_point [iblk, V, idx t]

theorem blk1 (c : Dev nD) (t : Fin cfg0.N) (p : Fin 256) (k : Fin 1024) :
    iblk m c 1 t (ix2 p k) = m (c.tc.loc main_arg1) (ix2 p k) := by
  blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 1 := t.isLt
  unfold out0_2
  canon_tiles x h
  all_goals
    obtain ⟨q, rfl⟩ : ∃ q : Fin 1024, x = ix2 0 q :=
      ⟨x 1, (eq_ix2 x).trans (congrArg (fun p => ix2 p (x 1)) (Subsingleton.elim (α := Fin 1) _ _))⟩
    simp only [ix2_0, ix2_1] at h0 h1
    open_payloads
    pointwise
    simp only [blk0, blk1]
    have e : ((cfg0.win 2).blk t).view.emb y = ix2 0 q := by
      blk_ext [idx t]
    rw [e]
    rfl

end Cert.Kernel17Ideal.MemGain

end
-- ==== Proof.MemGainRef.lean ====
module

public import proofs.«01_k».proof.Proof.MemGain
public import proofs.«01_k».proof.Proof.Gen.Reference17Ideal.Read

@[expose] public section

set_option maxRecDepth 16384

noncomputable section

open Idealize.ShloMosaic Idealize.ShloMosaic.TcCoe Idealize.SL.Sem

namespace Cert.Reference17Ideal.MemGain

open Cert.Reference17Ideal Cert.Reference17Ideal.Gen Cert.Reference17Ideal.Read

theorem ref_eq (M DN : FVec Ideal S256x1024 .f32) :
    val_main_v15 (F := Ideal) M DN = Kernel17Ideal.MemGain.G M DN := by
  funext j
  obtain ⟨q, rfl⟩ : ∃ q : Fin 1024, j = ix2 0 q :=
    ⟨j 1, (eq_ix2 j).trans (congrArg (fun p => ix2 p (j 1)) (Subsingleton.elim (α := Fin 1) _ _))⟩
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_1, val_main_cst_2, val_main_cst_3, val_main_cst_0]
  exact Finset.sum_congr rfl fun r _ => mul_comm _ _

end Cert.Reference17Ideal.MemGain

end
-- ==== Proof.MemGainClaim.lean ====
module

public import proofs.«01_k».proof.Defs
public import proofs.«01_k».proof.Proof.MemGainRef
public import proofs.«01_k».proof.Proof.Gen.Kernel17.Frame
public import proofs.«01_k».proof.Proof.Gen.Kernel17Ideal.Value
public import proofs.«01_k».proof.Proof.Gen.Reference17Ideal.Run
public import Idealize.ShloMosaic.Lib.Quiescent

@[expose] public section

set_option maxRecDepth 16384

noncomputable section

open Idealize.ShloMosaic Idealize.ShloMosaic.TcCoe Idealize.SL.Sem

namespace Cert.Proof.MemGain

/-- The reference runs on the host alone: it has no semaphores, and it leaves its arguments as they were. -/
theorem quiescent_ref : quiescent_Reference17Ideal := fun m g _ =>
  (θ_run _ _ _).mono (fun r h => ⟨fun c => (h c).2, sem_eq_zero_of_no_sems (by decide) r.2⟩)
    (Reference17Ideal.Value.run (F := Ideal) m g)

/-- The gradient of the memory norm's gain. -/
theorem algebraic : algebraic_Kernel17Ideal_Reference17Ideal := by
  intro m g m' g' _ hagree
  refine ⟨fun c => Kernel17Ideal.MemGain.G (m (c.tc.loc Kernel17Ideal.main_arg0)) (m (c.tc.loc Kernel17Ideal.main_arg1)),
    (θ_run _ _ _).mono (fun r h c => ?_) (Kernel17Ideal.Value.run_blocks m g),
    (θ_run _ _ _).mono (fun r h c => ⟨(h c).1.trans ?_, (h c).2⟩) (Reference17Ideal.Value.run (F := Ideal) m' g')⟩
  · exact ⟨(h c).1.trans (Kernel17Ideal.MemGain.final m c), (h c).2⟩
  · obtain ⟨e0, e1⟩ := hagree c
    refine (Reference17Ideal.Read.val_main_v15_eq _ _).trans ?_
    rw [e0, e1]
    exact Reference17Ideal.MemGain.ref_eq _ _

end Cert.Proof.MemGain

end
-- ==== Proof.Adam.lean ====
module

public import Idealize.ShloMosaic.Lib.Pointwise

@[expose] public section

set_option maxRecDepth 16384

noncomputable section

open Idealize.ShloMosaic Idealize.ShloMosaic.TcCoe Idealize.SL.Sem

namespace Cert.Adam

/-- The new first moment. -/
def mom (m g : EReal) : EReal := Ideal.ofBits .f32 0x3F666666#32 * m + Ideal.ofBits .f32 0x3DCCCCCD#32 * g

/-- The new second moment. -/
def var (v g : EReal) : EReal := Ideal.ofBits .f32 0x3F7FBE77#32 * v + Ideal.ofBits .f32 0x3A83126F#32 * (g * g)

/-- The weight's step: the corrected moments' quotient and the decay, times the negated rate. -/
def delta (w g m v : EReal) : EReal :=
  Ideal.ofBits .f32 0xBA83126F#32 * (Ideal.div (Ideal.div (mom m g) (Ideal.ofBits .f32 0x3F26BD02#32))
    (Ideal.sqrt (Ideal.div (var v g) (Ideal.ofBits .f32 0x3C231ACC#32)) + Ideal.ofBits .f32 0x322BCC77#32)
      + Ideal.ofBits .f32 0x3C23D70A#32 * w)

end Cert.Adam

end
-- ==== Proof.AdamUp.lean ====
module

public import proofs.«01_k».proof.Proof.Gen.Kernel18Ideal.Value
public import Idealize.ShloMosaic.Lib.Pipeline.ValueKit
public import Idealize.ShloMosaic.Lib.Pointwise
public import proofs.«01_k».proof.Proof.Adam

@[expose] public section

set_option maxRecDepth 16384

noncomputable section

open Idealize.ShloMosaic Idealize.ShloMosaic.TcCoe Idealize.SL.Sem

namespace Cert.Kernel18Ideal.AdamUp

open Cert.Kernel18Ideal Cert.Kernel18Ideal.Gen

def G4 (W G M V : FVec Ideal S4096x1408 .f32) : FVec Ideal S4096x1408 .f32 := fun j => Adam.delta (W j) (G j) (M j) (V j)
def G5 (G M : FVec Ideal S4096x1408 .f32) : FVec Ideal S4096x1408 .f32 := fun j => Adam.mom (M j) (G j)
def G6 (G V : FVec Ideal S4096x1408 .f32) : FVec Ideal S4096x1408 .f32 := fun j => Adam.var (V j) (G j)
def G7 (G : FVec Ideal S4096x1408 .f32) : FVec Ideal S4096x1408 .f32 := G

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 256) : Fin 4096 := ⟨256 * (t : ℕ) + (p : ℕ), by have : (t : ℕ) < 16 := t.isLt; omega⟩

theorem blk0 (c : Dev nD) (t : Fin cfg0.N) (p : Fin 256) (k : Fin 1408) :
    iblk m c 0 t (ix2 p k) = m (c.tc.loc main_arg0) (ix2 (rowOf t p) k) := by
  unfold rowOf; blk_point [iblk, V, idx t]

theorem blk1 (c : Dev nD) (t : Fin cfg0.N) (p : Fin 256) (k : Fin 1408) :
    iblk m c 1 t (ix2 p k) = m (c.tc.loc main_arg1) (ix2 (rowOf t p) k) := by
  unfold rowOf; blk_point [iblk, V, idx t]

theorem blk2 (c : Dev nD) (t : Fin cfg0.N) (p : Fin 256) (k : Fin 1408) :
    iblk m c 2 t (ix2 p k) = m (c.tc.loc main_arg2) (ix2 (rowOf t p) k) := by
  unfold rowOf; blk_point [iblk, V, idx t]

theorem blk3 (c : Dev nD) (t : Fin cfg0.N) (p : Fin 256) (k : Fin 1408) :
    iblk m c 3 t (ix2 p k) = m (c.tc.loc main_arg3) (ix2 (rowOf t p) k) := by
  unfold rowOf; blk_point [iblk, V, idx t]

theorem final4 (c : Dev nD) : (dats m 0 c).arrAt 4 cfg0.N = G4 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  have hN : (t : ℕ) < 16 := t.isLt
  unfold out0_4
  canon_tiles x h
  all_goals
    obtain ⟨p, q, rfl⟩ : ∃ (p : Fin 256) (q : Fin 1408), x = ix2 p q := ⟨x 0, x 1, eq_ix2 x⟩
    simp only [ix2_0, ix2_1] at h0 h1
    open_payloads
    pointwise
    simp only [blk0, blk1, blk2, blk3]
    have e : ((cfg0.win 4).blk t).view.emb y = ix2 (rowOf t p) q := by
      unfold rowOf
      blk_ext [idx t]
    rw [e]
    rfl

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 16 := t.isLt
  unfold out0_5
  canon_tiles x h
  all_goals
    obtain ⟨p, q, rfl⟩ : ∃ (p : Fin 256) (q : Fin 1408), x = ix2 p q := ⟨x 0, x 1, eq_ix2 x⟩
    simp only [ix2_0, ix2_1] at h0 h1
    open_payloads
    pointwise
    simp only [blk0, blk1, blk2, blk3]
    have e : ((cfg0.win 5).blk t).view.emb y = ix2 (rowOf t p) q := by
      unfold rowOf
      blk_ext [idx t]
    rw [e]
    rfl

theorem final6 (c : Dev nD) : (dats m 0 c).arrAt 6 cfg0.N = G6 (m (c.tc.loc main_arg1)) (m (c.tc.loc main_arg3)) := by
  refine (dats m 0 c).arrAt_eq_of_covers 6 _ (by decide +kernel) fun t _ y => ?_
  blk_simp
  rw [after0_6]
  have hN : (t : ℕ) < 16 := t.isLt
  unfold out0_6
  canon_tiles x h
  all_goals
    obtain ⟨p, q, rfl⟩ : ∃ (p : Fin 256) (q : Fin 1408), x = ix2 p q := ⟨x 0, x 1, eq_ix2 x⟩
    simp only [ix2_0, ix2_1] at h0 h1
    open_payloads
    pointwise
    simp only [blk0, blk1, blk2, blk3]
    have e : ((cfg0.win 6).blk t).view.emb y = ix2 (rowOf t p) q := by
      unfold rowOf
      blk_ext [idx t]
    rw [e]
    rfl

theorem final7 (c : Dev nD) : (dats m 0 c).arrAt 7 cfg0.N = G7 (m (c.tc.loc main_arg1)) := by
  refine (dats m 0 c).arrAt_eq_of_covers 7 _ (by decide +kernel) fun t _ y => ?_
  blk_simp
  rw [after0_7]
  have hN : (t : ℕ) < 16 := t.isLt
  unfold out0_7
  canon_tiles x h
  all_goals
    obtain ⟨p, q, rfl⟩ : ∃ (p : Fin 256) (q : Fin 1408), x = ix2 p q := ⟨x 0, x 1, eq_ix2 x⟩
    simp only [ix2_0, ix2_1] at h0 h1
    open_payloads
    pointwise
    simp only [blk0, blk1, blk2, blk3]
    have e : ((cfg0.win 7).blk t).view.emb y = ix2 (rowOf t p) q := by
      unfold rowOf
      blk_ext [idx t]
    rw [e]
    rfl

end Cert.Kernel18Ideal.AdamUp

end
-- ==== Proof.AdamUpRef.lean ====
module

public import proofs.«01_k».proof.Proof.AdamUp
public import proofs.«01_k».proof.Proof.Gen.Reference18Ideal.Read

@[expose] public section

set_option maxRecDepth 16384

noncomputable section

open Idealize.ShloMosaic Idealize.ShloMosaic.TcCoe Idealize.SL.Sem

namespace Cert.Reference18Ideal.AdamUp

open Cert.Reference18Ideal Cert.Reference18Ideal.Gen Cert.Reference18Ideal.Read

variable (W G M V : FVec Ideal S4096x1408 .f32)

theorem eq5 : val_main_v4 (F := Ideal) G M = Kernel18Ideal.AdamUp.G5 G M := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq6 : val_main_v10 (F := Ideal) G V = Kernel18Ideal.AdamUp.G6 G V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq4 : val_main_v23 (F := Ideal) W G M V = Kernel18Ideal.AdamUp.G4 W G M V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

end Cert.Reference18Ideal.AdamUp

end
-- ==== Proof.AdamUpClaim.lean ====
module

public import proofs.«01_k».proof.Defs
public import proofs.«01_k».proof.Proof.AdamUpRef
public import proofs.«01_k».proof.Proof.Gen.Kernel18.Frame
public import proofs.«01_k».proof.Proof.Gen.Kernel18Ideal.Value
public import proofs.«01_k».proof.Proof.Gen.Reference18Ideal.Run
public import Idealize.ShloMosaic.Lib.Quiescent

@[expose] public section

set_option maxRecDepth 16384

noncomputable section

open Idealize.ShloMosaic Idealize.ShloMosaic.TcCoe Idealize.SL.Sem

open Cert.Kernel18Ideal (main_arg0 main_arg1 main_arg2 main_arg3)

namespace Cert.Proof.AdamUp

/-- The reference runs on the host alone: it has no semaphores, and it leaves its arguments as they were. -/
theorem quiescent_ref : quiescent_Reference18Ideal := fun m g _ =>
  (θ_run _ _ _).mono (fun r h => ⟨fun c => (h c).2.2.2.2, sem_eq_zero_of_no_sems (by decide) r.2⟩)
    (Reference18Ideal.Value.run (F := Ideal) m g)

/-- The optimiser: the weight's step, the new moments and the gradient itself. -/
theorem algebraic : algebraic_Kernel18Ideal_Reference18Ideal := by
  intro m g m' g' _ hagree
  refine ⟨fun c => Kernel18Ideal.AdamUp.G4 (m (c.tc.loc main_arg0)) (m (c.tc.loc main_arg1)) (m (c.tc.loc main_arg2)) (m (c.tc.loc main_arg3)), fun c => Kernel18Ideal.AdamUp.G5 (m (c.tc.loc main_arg1)) (m (c.tc.loc main_arg2)), fun c => Kernel18Ideal.AdamUp.G6 (m (c.tc.loc main_arg1)) (m (c.tc.loc main_arg3)), fun c => Kernel18Ideal.AdamUp.G7 (m (c.tc.loc main_arg1)),
    (θ_run _ _ _).mono (fun r h c => ?_) (Kernel18Ideal.Value.run_blocks m g),
    (θ_run _ _ _).mono (fun r h c => ⟨(h c).1.trans ?_, (h c).2.1.trans ?_, (h c).2.2.1.trans ?_, (h c).2.2.2.1.trans ?_, (h c).2.2.2.2⟩) (Reference18Ideal.Value.run (F := Ideal) m' g')⟩
  · exact ⟨(h c).1.trans (Kernel18Ideal.AdamUp.final4 m c), (h c).2.1.trans (Kernel18Ideal.AdamUp.final5 m c), (h c).2.2.1.trans (Kernel18Ideal.AdamUp.final6 m c), (h c).2.2.2.1.trans (Kernel18Ideal.AdamUp.final7 m c), (h c).2.2.2.2⟩
  · obtain ⟨e0, e1, e2, e3⟩ := hagree c
    refine (Reference18Ideal.Read.val_main_v23_eq _ _ _ _).trans ?_
    rw [e0, e1, e2, e3]
    exact Reference18Ideal.AdamUp.eq4 _ _ _ _
  · obtain ⟨e0, e1, e2, e3⟩ := hagree c
    refine (Reference18Ideal.Read.val_main_v4_eq _ _).trans ?_
    rw [e1, e2]
    exact Reference18Ideal.AdamUp.eq5 _ _
  · obtain ⟨e0, e1, e2, e3⟩ := hagree c
    refine (Reference18Ideal.Read.val_main_v10_eq _ _).trans ?_
    rw [e1, e3]
    exact Reference18Ideal.AdamUp.eq6 _ _
  · obtain ⟨e0, e1, e2, e3⟩ := hagree c
    rw [e1]
    rfl

end Cert.Proof.AdamUp

end
-- ==== Proof.AdamDown.lean ====
module

public import proofs.«01_k».proof.Proof.Gen.Kernel22Ideal.Value
public import Idealize.ShloMosaic.Lib.Pipeline.ValueKit
public import Idealize.ShloMosaic.Lib.Pointwise
public import proofs.«01_k».proof.Proof.Adam

@[expose] public section

set_option maxRecDepth 16384

noncomputable section

open Idealize.ShloMosaic Idealize.ShloMosaic.TcCoe Idealize.SL.Sem

namespace Cert.Kernel22Ideal.AdamDown

open Cert.Kernel22Ideal Cert.Kernel22Ideal.Gen

def G4 (W G M V : FVec Ideal S2816x1024 .f32) : FVec Ideal S2816x1024 .f32 := fun j => Adam.delta (W j) (G j) (M j) (V j)
def G5 (G M : FVec Ideal S2816x1024 .f32) : FVec Ideal S2816x1024 .f32 := fun j => Adam.mom (M j) (G j)
def G6 (G V : FVec Ideal S2816x1024 .f32) : FVec Ideal S2816x1024 .f32 := fun j => Adam.var (V j) (G j)
def G7 (G : FVec Ideal S2816x1024 .f32) : FVec Ideal S2816x1024 .f32 := G

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 256) : Fin 2816 := ⟨256 * (t : ℕ) + (p : ℕ), by have : (t : ℕ) < 11 := t.isLt; omega⟩

theorem blk0 (c : Dev nD) (t : Fin cfg0.N) (p : Fin 256) (k : Fin 1024) :
    iblk m c 0 t (ix2 p k) = m (c.tc.loc main_arg0) (ix2 (rowOf t p) k) := by
  unfold rowOf; blk_point [iblk, V, idx t]

theorem blk1 (c : Dev nD) (t : Fin cfg0.N) (p : Fin 256) (k : Fin 1024) :
    iblk m c 1 t (ix2 p k) = m (c.tc.loc main_arg1) (ix2 (rowOf t p) k) := by
  unfold rowOf; blk_point [iblk, V, idx t]

theorem blk2 (c : Dev nD) (t : Fin cfg0.N) (p : Fin 256) (k : Fin 1024) :
    iblk m c 2 t (ix2 p k) = m (c.tc.loc main_arg2) (ix2 (rowOf t p) k) := by
  unfold rowOf; blk_point [iblk, V, idx t]

theorem blk3 (c : Dev nD) (t : Fin cfg0.N) (p : Fin 256) (k : Fin 1024) :
    iblk m c 3 t (ix2 p k) = m (c.tc.loc main_arg3) (ix2 (rowOf t p) k) := by
  unfold rowOf; blk_point [iblk, V, idx t]

theorem final4 (c : Dev nD) : (dats m 0 c).arrAt 4 cfg0.N = G4 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  have hN : (t : ℕ) < 11 := t.isLt
  unfold out0_4
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 4).blk t).view.emb y = ix2 (rowOf t p) q := by
      unfold rowOf
      blk_ext [idx t]
    rw [e]
    rfl

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 11 := t.isLt
  unfold out0_5
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 5).blk t).view.emb y = ix2 (rowOf t p) q := by
      unfold rowOf
      blk_ext [idx t]
    rw [e]
    rfl

theorem final6 (c : Dev nD) : (dats m 0 c).arrAt 6 cfg0.N = G6 (m (c.tc.loc main_arg1)) (m (c.tc.loc main_arg3)) := by
  refine (dats m 0 c).arrAt_eq_of_covers 6 _ (by decide +kernel) fun t _ y => ?_
  blk_simp
  rw [after0_6]
  have hN : (t : ℕ) < 11 := t.isLt
  unfold out0_6
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 6).blk t).view.emb y = ix2 (rowOf t p) q := by
      unfold rowOf
      blk_ext [idx t]
    rw [e]
    rfl

theorem final7 (c : Dev nD) : (dats m 0 c).arrAt 7 cfg0.N = G7 (m (c.tc.loc main_arg1)) := by
  refine (dats m 0 c).arrAt_eq_of_covers 7 _ (by decide +kernel) fun t _ y => ?_
  blk_simp
  rw [after0_7]
  have hN : (t : ℕ) < 11 := t.isLt
  unfold out0_7
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 7).blk t).view.emb y = ix2 (rowOf t p) q := by
      unfold rowOf
      blk_ext [idx t]
    rw [e]
    rfl

end Cert.Kernel22Ideal.AdamDown

end
-- ==== Proof.AdamDownRef.lean ====
module

public import proofs.«01_k».proof.Proof.AdamDown
public import proofs.«01_k».proof.Proof.Gen.Reference22Ideal.Read

@[expose] public section

set_option maxRecDepth 16384

noncomputable section

open Idealize.ShloMosaic Idealize.ShloMosaic.TcCoe Idealize.SL.Sem

namespace Cert.Reference22Ideal.AdamDown

open Cert.Reference22Ideal Cert.Reference22Ideal.Gen Cert.Reference22Ideal.Read

variable (W G M V : FVec Ideal S2816x1024 .f32)

theorem eq5 : val_main_v4 (F := Ideal) G M = Kernel22Ideal.AdamDown.G5 G M := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq6 : val_main_v10 (F := Ideal) G V = Kernel22Ideal.AdamDown.G6 G V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq4 : val_main_v23 (F := Ideal) W G M V = Kernel22Ideal.AdamDown.G4 W G M V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

end Cert.Reference22Ideal.AdamDown

end
-- ==== Proof.AdamDownClaim.lean ====
module

public import proofs.«01_k».proof.Defs
public import proofs.«01_k».proof.Proof.AdamDownRef
public import proofs.«01_k».proof.Proof.Gen.Kernel22.Frame
public import proofs.«01_k».proof.Proof.Gen.Kernel22Ideal.Value
public import proofs.«01_k».proof.Proof.Gen.Reference22Ideal.Run
public import Idealize.ShloMosaic.Lib.Quiescent

@[expose] public section

set_option maxRecDepth 16384

noncomputable section

open Idealize.ShloMosaic Idealize.ShloMosaic.TcCoe Idealize.SL.Sem

open Cert.Kernel22Ideal (main_arg0 main_arg1 main_arg2 main_arg3)

namespace Cert.Proof.AdamDown

/-- The reference runs on the host alone: it has no semaphores, and it leaves its arguments as they were. -/
theorem quiescent_ref : quiescent_Reference22Ideal := fun m g _ =>
  (θ_run _ _ _).mono (fun r h => ⟨fun c => (h c).2.2.2.2, sem_eq_zero_of_no_sems (by decide) r.2⟩)
    (Reference22Ideal.Value.run (F := Ideal) m g)

/-- The optimiser: the weight's step, the new moments and the gradient itself. -/
theorem algebraic : algebraic_Kernel22Ideal_Reference22Ideal := by
  intro m g m' g' _ hagree
  refine ⟨fun c => Kernel22Ideal.AdamDown.G4 (m (c.tc.loc main_arg0)) (m (c.tc.loc main_arg1)) (m (c.tc.loc main_arg2)) (m (c.tc.loc main_arg3)), fun c => Kernel22Ideal.AdamDown.G5 (m (c.tc.loc main_arg1)) (m (c.tc.loc main_arg2)), fun c => Kernel22Ideal.AdamDown.G6 (m (c.tc.loc main_arg1)) (m (c.tc.loc main_arg3)), fun c => Kernel22Ideal.AdamDown.G7 (m (c.tc.loc main_arg1)),
    (θ_run _ _ _).mono (fun r h c => ?_) (Kernel22Ideal.Value.run_blocks m g),
    (θ_run _ _ _).mono (fun r h c => ⟨(h c).1.trans ?_, (h c).2.1.trans ?_, (h c).2.2.1.trans ?_, (h c).2.2.2.1.trans ?_, (h c).2.2.2.2⟩) (Reference22Ideal.Value.run (F := Ideal) m' g')⟩
  · exact ⟨(h c).1.trans (Kernel22Ideal.AdamDown.final4 m c), (h c).2.1.trans (Kernel22Ideal.AdamDown.final5 m c), (h c).2.2.1.trans (Kernel22Ideal.AdamDown.final6 m c), (h c).2.2.2.1.trans (Kernel22Ideal.AdamDown.final7 m c), (h c).2.2.2.2⟩
  · obtain ⟨e0, e1, e2, e3⟩ := hagree c
    refine (Reference22Ideal.Read.val_main_v23_eq _ _ _ _).trans ?_
    rw [e0, e1, e2, e3]
    exact Reference22Ideal.AdamDown.eq4 _ _ _ _
  · obtain ⟨e0, e1, e2, e3⟩ := hagree c
    refine (Reference22Ideal.Read.val_main_v4_eq _ _).trans ?_
    rw [e1, e2]
    exact Reference22Ideal.AdamDown.eq5 _ _
  · obtain ⟨e0, e1, e2, e3⟩ := hagree c
    refine (Reference22Ideal.Read.val_main_v10_eq _ _).trans ?_
    rw [e1, e3]
    exact Reference22Ideal.AdamDown.eq6 _ _
  · obtain ⟨e0, e1, e2, e3⟩ := hagree c
    rw [e1]
    rfl

end Cert.Proof.AdamDown

end
-- ==== Proof.AdamEvenIn.lean ====
module

public import proofs.«01_k».proof.Proof.Gen.Kernel23Ideal.Value
public import Idealize.ShloMosaic.Lib.Pipeline.ValueKit
public import Idealize.ShloMosaic.Lib.Pointwise
public import proofs.«01_k».proof.Proof.Adam

@[expose] public section

set_option maxRecDepth 16384

noncomputable section

open Idealize.ShloMosaic Idealize.ShloMosaic.TcCoe Idealize.SL.Sem

namespace Cert.Kernel23Ideal.AdamEvenIn

open Cert.Kernel23Ideal Cert.Kernel23Ideal.Gen

def G4 (W G M V : FVec Ideal S2048x512 .f32) : FVec Ideal S2048x512 .f32 := fun j => Adam.delta (W j) (G j) (M j) (V j)
def G5 (G M : FVec Ideal S2048x512 .f32) : FVec Ideal S2048x512 .f32 := fun j => Adam.mom (M j) (G j)
def G6 (G V : FVec Ideal S2048x512 .f32) : FVec Ideal S2048x512 .f32 := fun j => Adam.var (V j) (G j)
def G7 (G : FVec Ideal S2048x512 .f32) : FVec Ideal S2048x512 .f32 := G

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 256) : Fin 2048 := ⟨256 * (t : ℕ) + (p : ℕ), by have : (t : ℕ) < 8 := t.isLt; omega⟩

theorem blk0 (c : Dev nD) (t : Fin cfg0.N) (p : Fin 256) (k : Fin 512) :
    iblk m c 0 t (ix2 p k) = m (c.tc.loc main_arg0) (ix2 (rowOf t p) k) := by
  unfold rowOf; blk_point [iblk, V, idx t]

theorem blk1 (c : Dev nD) (t : Fin cfg0.N) (p : Fin 256) (k : Fin 512) :
    iblk m c 1 t (ix2 p k) = m (c.tc.loc main_arg1) (ix2 (rowOf t p) k) := by
  unfold rowOf; blk_point [iblk, V, idx t]

theorem blk2 (c : Dev nD) (t : Fin cfg0.N) (p : Fin 256) (k : Fin 512) :
    iblk m c 2 t (ix2 p k) = m (c.tc.loc main_arg2) (ix2 (rowOf t p) k) := by
  unfold rowOf; blk_point [iblk, V, idx t]

theorem blk3 (c : Dev nD) (t : Fin cfg0.N) (p : Fin 256) (k : Fin 512) :
    iblk m c 3 t (ix2 p k) = m (c.tc.loc main_arg3) (ix2 (rowOf t p) k) := by
  unfold rowOf; blk_point [iblk, V, idx t]

theorem final4 (c : Dev nD) : (dats m 0 c).arrAt 4 cfg0.N = G4 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  have hN : (t : ℕ) < 8 := t.isLt
  unfold out0_4
  canon_tiles x h
  all_goals
    obtain ⟨p, q, rfl⟩ : ∃ (p : Fin 256) (q : Fin 512), x = ix2 p q := ⟨x 0, x 1, eq_ix2 x⟩
    simp only [ix2_0, ix2_1] at h0 h1
    open_payloads
    pointwise
    simp only [blk0, blk1, blk2, blk3]
    have e : ((cfg0.win 4).blk t).view.emb y = ix2 (rowOf t p) q := by
      unfold rowOf
      blk_ext [idx t]
    rw [e]
    rfl

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 8 := t.isLt
  unfold out0_5
  canon_tiles x h
  all_goals
    obtain ⟨p, q, rfl⟩ : ∃ (p : Fin 256) (q : Fin 512), x = ix2 p q := ⟨x 0, x 1, eq_ix2 x⟩
    simp only [ix2_0, ix2_1] at h0 h1
    open_payloads
    pointwise
    simp only [blk0, blk1, blk2, blk3]
    have e : ((cfg0.win 5).blk t).view.emb y = ix2 (rowOf t p) q := by
      unfold rowOf
      blk_ext [idx t]
    rw [e]
    rfl

theorem final6 (c : Dev nD) : (dats m 0 c).arrAt 6 cfg0.N = G6 (m (c.tc.loc main_arg1)) (m (c.tc.loc main_arg3)) := by
  refine (dats m 0 c).arrAt_eq_of_covers 6 _ (by decide +kernel) fun t _ y => ?_
  blk_simp
  rw [after0_6]
  have hN : (t : ℕ) < 8 := t.isLt
  unfold out0_6
  canon_tiles x h
  all_goals
    obtain ⟨p, q, rfl⟩ : ∃ (p : Fin 256) (q : Fin 512), x = ix2 p q := ⟨x 0, x 1, eq_ix2 x⟩
    simp only [ix2_0, ix2_1] at h0 h1
    open_payloads
    pointwise
    simp only [blk0, blk1, blk2, blk3]
    have e : ((cfg0.win 6).blk t).view.emb y = ix2 (rowOf t p) q := by
      unfold rowOf
      blk_ext [idx t]
    rw [e]
    rfl

theorem final7 (c : Dev nD) : (dats m 0 c).arrAt 7 cfg0.N = G7 (m (c.tc.loc main_arg1)) := by
  refine (dats m 0 c).arrAt_eq_of_covers 7 _ (by decide +kernel) fun t _ y => ?_
  blk_simp
  rw [after0_7]
  have hN : (t : ℕ) < 8 := t.isLt
  unfold out0_7
  canon_tiles x h
  all_goals
    obtain ⟨p, q, rfl⟩ : ∃ (p : Fin 256) (q : Fin 512), x = ix2 p q := ⟨x 0, x 1, eq_ix2 x⟩
    simp only [ix2_0, ix2_1] at h0 h1
    open_payloads
    pointwise
    simp only [blk0, blk1, blk2, blk3]
    have e : ((cfg0.win 7).blk t).view.emb y = ix2 (rowOf t p) q := by
      unfold rowOf
      blk_ext [idx t]
    rw [e]
    rfl

end Cert.Kernel23Ideal.AdamEvenIn

end
-- ==== Proof.AdamEvenInRef.lean ====
module

public import proofs.«01_k».proof.Proof.AdamEvenIn
public import proofs.«01_k».proof.Proof.Gen.Reference23Ideal.Read

@[expose] public section

set_option maxRecDepth 16384

noncomputable section

open Idealize.ShloMosaic Idealize.ShloMosaic.TcCoe Idealize.SL.Sem

namespace Cert.Reference23Ideal.AdamEvenIn

open Cert.Reference23Ideal Cert.Reference23Ideal.Gen Cert.Reference23Ideal.Read

variable (W G M V : FVec Ideal S2048x512 .f32)

theorem eq5 : val_main_v4 (F := Ideal) G M = Kernel23Ideal.AdamEvenIn.G5 G M := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq6 : val_main_v10 (F := Ideal) G V = Kernel23Ideal.AdamEvenIn.G6 G V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq4 : val_main_v23 (F := Ideal) W G M V = Kernel23Ideal.AdamEvenIn.G4 W G M V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

end Cert.Reference23Ideal.AdamEvenIn

end
-- ==== Proof.AdamEvenInClaim.lean ====
module

public import proofs.«01_k».proof.Defs
public import proofs.«01_k».proof.Proof.AdamEvenInRef
public import proofs.«01_k».proof.Proof.Gen.Kernel23.Frame
public import proofs.«01_k».proof.Proof.Gen.Kernel23Ideal.Value
public import proofs.«01_k».proof.Proof.Gen.Reference23Ideal.Run
public import Idealize.ShloMosaic.Lib.Quiescent

@[expose] public section

set_option maxRecDepth 16384

noncomputable section

open Idealize.ShloMosaic Idealize.ShloMosaic.TcCoe Idealize.SL.Sem

open Cert.Kernel23Ideal (main_arg0 main_arg1 main_arg2 main_arg3)

namespace Cert.Proof.AdamEvenIn

/-- The reference runs on the host alone: it has no semaphores, and it leaves its arguments as they were. -/
theorem quiescent_ref : quiescent_Reference23Ideal := fun m g _ =>
  (θ_run _ _ _).mono (fun r h => ⟨fun c => (h c).2.2.2.2, sem_eq_zero_of_no_sems (by decide) r.2⟩)
    (Reference23Ideal.Value.run (F := Ideal) m g)

/-- The optimiser: the weight's step, the new moments and the gradient itself. -/
theorem algebraic : algebraic_Kernel23Ideal_Reference23Ideal := by
  intro m g m' g' _ hagree
  refine ⟨fun c => Kernel23Ideal.AdamEvenIn.G4 (m (c.tc.loc main_arg0)) (m (c.tc.loc main_arg1)) (m (c.tc.loc main_arg2)) (m (c.tc.loc main_arg3)), fun c => Kernel23Ideal.AdamEvenIn.G5 (m (c.tc.loc main_arg1)) (m (c.tc.loc main_arg2)), fun c => Kernel23Ideal.AdamEvenIn.G6 (m (c.tc.loc main_arg1)) (m (c.tc.loc main_arg3)), fun c => Kernel23Ideal.AdamEvenIn.G7 (m (c.tc.loc main_arg1)),
    (θ_run _ _ _).mono (fun r h c => ?_) (Kernel23Ideal.Value.run_blocks m g),
    (θ_run _ _ _).mono (fun r h c => ⟨(h c).1.trans ?_, (h c).2.1.trans ?_, (h c).2.2.1.trans ?_, (h c).2.2.2.1.trans ?_, (h c).2.2.2.2⟩) (Reference23Ideal.Value.run (F := Ideal) m' g')⟩
  · exact ⟨(h c).1.trans (Kernel23Ideal.AdamEvenIn.final4 m c), (h c).2.1.trans (Kernel23Ideal.AdamEvenIn.final5 m c), (h c).2.2.1.trans (Kernel23Ideal.AdamEvenIn.final6 m c), (h c).2.2.2.1.trans (Kernel23Ideal.AdamEvenIn.final7 m c), (h c).2.2.2.2⟩
  · obtain ⟨e0, e1, e2, e3⟩ := hagree c
    refine (Reference23Ideal.Read.val_main_v23_eq _ _ _ _).trans ?_
    rw [e0, e1, e2, e3]
    exact Reference23Ideal.AdamEvenIn.eq4 _ _ _ _
  · obtain ⟨e0, e1, e2, e3⟩ := hagree c
    refine (Reference23Ideal.Read.val_main_v4_eq _ _).trans ?_
    rw [e1, e2]
    exact Reference23Ideal.AdamEvenIn.eq5 _ _
  · obtain ⟨e0, e1, e2, e3⟩ := hagree c
    refine (Reference23Ideal.Read.val_main_v10_eq _ _).trans ?_
    rw [e1, e3]
    exact Reference23Ideal.AdamEvenIn.eq6 _ _
  · obtain ⟨e0, e1, e2, e3⟩ := hagree c
    rw [e1]
    rfl

end Cert.Proof.AdamEvenIn

end
-- ==== Proof.AdamOut.lean ====
module

public import proofs.«01_k».proof.Proof.Gen.Kernel24Ideal.Value
public import Idealize.ShloMosaic.Lib.Pipeline.ValueKit
public import Idealize.ShloMosaic.Lib.Pointwise
public import proofs.«01_k».proof.Proof.Adam

@[expose] public section

set_option maxRecDepth 16384

noncomputable section

open Idealize.ShloMosaic Idealize.ShloMosaic.TcCoe Idealize.SL.Sem

namespace Cert.Kernel24Ideal.AdamOut

open Cert.Kernel24Ideal Cert.Kernel24Ideal.Gen

def G4 (W G M V : FVec Ideal S512x1024 .f32) : FVec Ideal S512x1024 .f32 := fun j => Adam.delta (W j) (G j) (M j) (V j)
def G5 (G M : FVec Ideal S512x1024 .f32) : FVec Ideal S512x1024 .f32 := fun j => Adam.mom (M j) (G j)
def G6 (G V : FVec Ideal S512x1024 .f32) : FVec Ideal S512x1024 .f32 := fun j => Adam.var (V j) (G j)
def G7 (G : FVec Ideal S512x1024 .f32) : FVec Ideal S512x1024 .f32 := G

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 256) : Fin 512 := ⟨256 * (t : ℕ) + (p : ℕ), by have : (t : ℕ) < 2 := t.isLt; omega⟩

theorem blk0 (c : Dev nD) (t : Fin cfg0.N) (p : Fin 256) (k : Fin 1024) :
    iblk m c 0 t (ix2 p k) = m (c.tc.loc main_arg0) (ix2 (rowOf t p) k) := by
  unfold rowOf; blk_point [iblk, V, idx t]

theorem blk1 (c : Dev nD) (t : Fin cfg0.N) (p : Fin 256) (k : Fin 1024) :
    iblk m c 1 t (ix2 p k) = m (c.tc.loc main_arg1) (ix2 (rowOf t p) k) := by
  unfold rowOf; blk_point [iblk, V, idx t]

theorem blk2 (c : Dev nD) (t : Fin cfg0.N) (p : Fin 256) (k : Fin 1024) :
    iblk m c 2 t (ix2 p k) = m (c.tc.loc main_arg2) (ix2 (rowOf t p) k) := by
  unfold rowOf; blk_point [iblk, V, idx t]

theorem blk3 (c : Dev nD) (t : Fin cfg0.N) (p : Fin 256) (k : Fin 1024) :
    iblk m c 3 t (ix2 p k) = m (c.tc.loc main_arg3) (ix2 (rowOf t p) k) := by
  unfold rowOf; blk_point [iblk, V, idx t]

theorem final4 (c : Dev nD) : (dats m 0 c).arrAt 4 cfg0.N = G4 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  have hN : (t : ℕ) < 2 := t.isLt
  unfold out0_4
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 4).blk t).view.emb y = ix2 (rowOf t p) q := by
      unfold rowOf
      blk_ext [idx t]
    rw [e]
    rfl

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 2 := t.isLt
  unfold out0_5
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 5).blk t).view.emb y = ix2 (rowOf t p) q := by
      unfold rowOf
      blk_ext [idx t]
    rw [e]
    rfl

theorem final6 (c : Dev nD) : (dats m 0 c).arrAt 6 cfg0.N = G6 (m (c.tc.loc main_arg1)) (m (c.tc.loc main_arg3)) := by
  refine (dats m 0 c).arrAt_eq_of_covers 6 _ (by decide +kernel) fun t _ y => ?_
  blk_simp
  rw [after0_6]
  have hN : (t : ℕ) < 2 := t.isLt
  unfold out0_6
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 6).blk t).view.emb y = ix2 (rowOf t p) q := by
      unfold rowOf
      blk_ext [idx t]
    rw [e]
    rfl

theorem final7 (c : Dev nD) : (dats m 0 c).arrAt 7 cfg0.N = G7 (m (c.tc.loc main_arg1)) := by
  refine (dats m 0 c).arrAt_eq_of_covers 7 _ (by decide +kernel) fun t _ y => ?_
  blk_simp
  rw [after0_7]
  have hN : (t : ℕ) < 2 := t.isLt
  unfold out0_7
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 7).blk t).view.emb y = ix2 (rowOf t p) q := by
      unfold rowOf
      blk_ext [idx t]
    rw [e]
    rfl

end Cert.Kernel24Ideal.AdamOut

end
-- ==== Proof.AdamOutRef.lean ====
module

public import proofs.«01_k».proof.Proof.AdamOut
public import proofs.«01_k».proof.Proof.Gen.Reference24Ideal.Read

@[expose] public section

set_option maxRecDepth 16384

noncomputable section

open Idealize.ShloMosaic Idealize.ShloMosaic.TcCoe Idealize.SL.Sem

namespace Cert.Reference24Ideal.AdamOut

open Cert.Reference24Ideal Cert.Reference24Ideal.Gen Cert.Reference24Ideal.Read

variable (W G M V : FVec Ideal S512x1024 .f32)

theorem eq5 : val_main_v4 (F := Ideal) G M = Kernel24Ideal.AdamOut.G5 G M := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq6 : val_main_v10 (F := Ideal) G V = Kernel24Ideal.AdamOut.G6 G V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq4 : val_main_v23 (F := Ideal) W G M V = Kernel24Ideal.AdamOut.G4 W G M V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

end Cert.Reference24Ideal.AdamOut

end
-- ==== Proof.AdamOutClaim.lean ====
module

public import proofs.«01_k».proof.Defs
public import proofs.«01_k».proof.Proof.AdamOutRef
public import proofs.«01_k».proof.Proof.Gen.Kernel24.Frame
public import proofs.«01_k».proof.Proof.Gen.Kernel24Ideal.Value
public import proofs.«01_k».proof.Proof.Gen.Reference24Ideal.Run
public import Idealize.ShloMosaic.Lib.Quiescent

@[expose] public section

set_option maxRecDepth 16384

noncomputable section

open Idealize.ShloMosaic Idealize.ShloMosaic.TcCoe Idealize.SL.Sem

open Cert.Kernel24Ideal (main_arg0 main_arg1 main_arg2 main_arg3)

namespace Cert.Proof.AdamOut

/-- The reference runs on the host alone: it has no semaphores, and it leaves its arguments as they were. -/
theorem quiescent_ref : quiescent_Reference24Ideal := fun m g _ =>
  (θ_run _ _ _).mono (fun r h => ⟨fun c => (h c).2.2.2.2, sem_eq_zero_of_no_sems (by decide) r.2⟩)
    (Reference24Ideal.Value.run (F := Ideal) m g)

/-- The optimiser: the weight's step, the new moments and the gradient itself. -/
theorem algebraic : algebraic_Kernel24Ideal_Reference24Ideal := by
  intro m g m' g' _ hagree
  refine ⟨fun c => Kernel24Ideal.AdamOut.G4 (m (c.tc.loc main_arg0)) (m (c.tc.loc main_arg1)) (m (c.tc.loc main_arg2)) (m (c.tc.loc main_arg3)), fun c => Kernel24Ideal.AdamOut.G5 (m (c.tc.loc main_arg1)) (m (c.tc.loc main_arg2)), fun c => Kernel24Ideal.AdamOut.G6 (m (c.tc.loc main_arg1)) (m (c.tc.loc main_arg3)), fun c => Kernel24Ideal.AdamOut.G7 (m (c.tc.loc main_arg1)),
    (θ_run _ _ _).mono (fun r h c => ?_) (Kernel24Ideal.Value.run_blocks m g),
    (θ_run _ _ _).mono (fun r h c => ⟨(h c).1.trans ?_, (h c).2.1.trans ?_, (h c).2.2.1.trans ?_, (h c).2.2.2.1.trans ?_, (h c).2.2.2.2⟩) (Reference24Ideal.Value.run (F := Ideal) m' g')⟩
  · exact ⟨(h c).1.trans (Kernel24Ideal.AdamOut.final4 m c), (h c).2.1.trans (Kernel24Ideal.AdamOut.final5 m c), (h c).2.2.1.trans (Kernel24Ideal.AdamOut.final6 m c), (h c).2.2.2.1.trans (Kernel24Ideal.AdamOut.final7 m c), (h c).2.2.2.2⟩
  · obtain ⟨e0, e1, e2, e3⟩ := hagree c
    refine (Reference24Ideal.Read.val_main_v23_eq _ _ _ _).trans ?_
    rw [e0, e1, e2, e3]
    exact Reference24Ideal.AdamOut.eq4 _ _ _ _
  · obtain ⟨e0, e1, e2, e3⟩ := hagree c
    refine (Reference24Ideal.Read.val_main_v4_eq _ _).trans ?_
    rw [e1, e2]
    exact Reference24Ideal.AdamOut.eq5 _ _
  · obtain ⟨e0, e1, e2, e3⟩ := hagree c
    refine (Reference24Ideal.Read.val_main_v10_eq _ _).trans ?_
    rw [e1, e3]
    exact Reference24Ideal.AdamOut.eq6 _ _
  · obtain ⟨e0, e1, e2, e3⟩ := hagree c
    rw [e1]
    rfl

end Cert.Proof.AdamOut

end
-- ==== Proof.AdamGroup.lean ====
module

public import proofs.«01_k».proof.Proof.Gen.Kernel25Ideal.Value
public import Idealize.ShloMosaic.Lib.Pipeline.ValueKit
public import Idealize.ShloMosaic.Lib.Pointwise
public import proofs.«01_k».proof.Proof.Adam

@[expose] public section

set_option maxRecDepth 16384

noncomputable section

open Idealize.ShloMosaic Idealize.ShloMosaic.TcCoe Idealize.SL.Sem

namespace Cert.Kernel25Ideal.AdamGroup

open Cert.Kernel25Ideal Cert.Kernel25Ideal.Gen

def G4 (W G M V : FVec Ideal S512x256 .f32) : FVec Ideal S512x256 .f32 := fun j => Adam.delta (W j) (G j) (M j) (V j)
def G5 (G M : FVec Ideal S512x256 .f32) : FVec Ideal S512x256 .f32 := fun j => Adam.mom (M j) (G j)
def G6 (G V : FVec Ideal S512x256 .f32) : FVec Ideal S512x256 .f32 := fun j => Adam.var (V j) (G j)
def G7 (G : FVec Ideal S512x256 .f32) : FVec Ideal S512x256 .f32 := G

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 256) : Fin 512 := ⟨256 * (t : ℕ) + (p : ℕ), by have : (t : ℕ) < 2 := t.isLt; omega⟩

theorem blk0 (c : Dev nD) (t : Fin cfg0.N) (p : Fin 256) (k : Fin 256) :
    iblk m c 0 t (ix2 p k) = m (c.tc.loc main_arg0) (ix2 (rowOf t p) k) := by
  unfold rowOf; blk_point [iblk, V, idx t]

theorem blk1 (c : Dev nD) (t : Fin cfg0.N) (p : Fin 256) (k : Fin 256) :
    iblk m c 1 t (ix2 p k) = m (c.tc.loc main_arg1) (ix2 (rowOf t p) k) := by
  unfold rowOf; blk_point [iblk, V, idx t]

theorem blk2 (c : Dev nD) (t : Fin cfg0.N) (p : Fin 256) (k : Fin 256) :
    iblk m c 2 t (ix2 p k) = m (c.tc.loc main_arg2) (ix2 (rowOf t p) k) := by
  unfold rowOf; blk_point [iblk, V, idx t]

theorem blk3 (c : Dev nD) (t : Fin cfg0.N) (p : Fin 256) (k : Fin 256) :
    iblk m c 3 t (ix2 p k) = m (c.tc.loc main_arg3) (ix2 (rowOf t p) k) := by
  unfold rowOf; blk_point [iblk, V, idx t]

theorem final4 (c : Dev nD) : (dats m 0 c).arrAt 4 cfg0.N = G4 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  have hN : (t : ℕ) < 2 := t.isLt
  unfold out0_4
  canon_tiles x h
  all_goals
    obtain ⟨p, q, rfl⟩ : ∃ (p : Fin 256) (q : Fin 256), x = ix2 p q := ⟨x 0, x 1, eq_ix2 x⟩
    simp only [ix2_0, ix2_1] at h0 h1
    open_payloads
    pointwise
    simp only [blk0, blk1, blk2, blk3]
    have e : ((cfg0.win 4).blk t).view.emb y = ix2 (rowOf t p) q := by
      unfold rowOf
      blk_ext [idx t]
    rw [e]
    rfl

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 2 := t.isLt
  unfold out0_5
  canon_tiles x h
  all_goals
    obtain ⟨p, q, rfl⟩ : ∃ (p : Fin 256) (q : Fin 256), x = ix2 p q := ⟨x 0, x 1, eq_ix2 x⟩
    simp only [ix2_0, ix2_1] at h0 h1
    open_payloads
    pointwise
    simp only [blk0, blk1, blk2, blk3]
    have e : ((cfg0.win 5).blk t).view.emb y = ix2 (rowOf t p) q := by
      unfold rowOf
      blk_ext [idx t]
    rw [e]
    rfl

theorem final6 (c : Dev nD) : (dats m 0 c).arrAt 6 cfg0.N = G6 (m (c.tc.loc main_arg1)) (m (c.tc.loc main_arg3)) := by
  refine (dats m 0 c).arrAt_eq_of_covers 6 _ (by decide +kernel) fun t _ y => ?_
  blk_simp
  rw [after0_6]
  have hN : (t : ℕ) < 2 := t.isLt
  unfold out0_6
  canon_tiles x h
  all_goals
    obtain ⟨p, q, rfl⟩ : ∃ (p : Fin 256) (q : Fin 256), x = ix2 p q := ⟨x 0, x 1, eq_ix2 x⟩
    simp only [ix2_0, ix2_1] at h0 h1
    open_payloads
    pointwise
    simp only [blk0, blk1, blk2, blk3]
    have e : ((cfg0.win 6).blk t).view.emb y = ix2 (rowOf t p) q := by
      unfold rowOf
      blk_ext [idx t]
    rw [e]
    rfl

theorem final7 (c : Dev nD) : (dats m 0 c).arrAt 7 cfg0.N = G7 (m (c.tc.loc main_arg1)) := by
  refine (dats m 0 c).arrAt_eq_of_covers 7 _ (by decide +kernel) fun t _ y => ?_
  blk_simp
  rw [after0_7]
  have hN : (t : ℕ) < 2 := t.isLt
  unfold out0_7
  canon_tiles x h
  all_goals
    obtain ⟨p, q, rfl⟩ : ∃ (p : Fin 256) (q : Fin 256), x = ix2 p q := ⟨x 0, x 1, eq_ix2 x⟩
    simp only [ix2_0, ix2_1] at h0 h1
    open_payloads
    pointwise
    simp only [blk0, blk1, blk2, blk3]
    have e : ((cfg0.win 7).blk t).view.emb y = ix2 (rowOf t p) q := by
      unfold rowOf
      blk_ext [idx t]
    rw [e]
    rfl

end Cert.Kernel25Ideal.AdamGroup

end
-- ==== Proof.AdamGroupRef.lean ====
module

public import proofs.«01_k».proof.Proof.AdamGroup
public import proofs.«01_k».proof.Proof.Gen.Reference25Ideal.Read

@[expose] public section

set_option maxRecDepth 16384

noncomputable section

open Idealize.ShloMosaic Idealize.ShloMosaic.TcCoe Idealize.SL.Sem

namespace Cert.Reference25Ideal.AdamGroup

open Cert.Reference25Ideal Cert.Reference25Ideal.Gen Cert.Reference25Ideal.Read

variable (W G M V : FVec Ideal S512x256 .f32)

theorem eq5 : val_main_v4 (F := Ideal) G M = Kernel25Ideal.AdamGroup.G5 G M := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq6 : val_main_v10 (F := Ideal) G V = Kernel25Ideal.AdamGroup.G6 G V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq4 : val_main_v23 (F := Ideal) W G M V = Kernel25Ideal.AdamGroup.G4 W G M V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

end Cert.Reference25Ideal.AdamGroup

end
-- ==== Proof.AdamGroupClaim.lean ====
module

public import proofs.«01_k».proof.Defs
public import proofs.«01_k».proof.Proof.AdamGroupRef
public import proofs.«01_k».proof.Proof.Gen.Kernel25.Frame
public import proofs.«01_k».proof.Proof.Gen.Kernel25Ideal.Value
public import proofs.«01_k».proof.Proof.Gen.Reference25Ideal.Run
public import Idealize.ShloMosaic.Lib.Quiescent

@[expose] public section

set_option maxRecDepth 16384

noncomputable section

open Idealize.ShloMosaic Idealize.ShloMosaic.TcCoe Idealize.SL.Sem

open Cert.Kernel25Ideal (main_arg0 main_arg1 main_arg2 main_arg3)

namespace Cert.Proof.AdamGroup

/-- The reference runs on the host alone: it has no semaphores, and it leaves its arguments as they were. -/
theorem quiescent_ref : quiescent_Reference25Ideal := fun m g _ =>
  (θ_run _ _ _).mono (fun r h => ⟨fun c => (h c).2.2.2.2, sem_eq_zero_of_no_sems (by decide) r.2⟩)
    (Reference25Ideal.Value.run (F := Ideal) m g)

/-- The optimiser: the weight's step, the new moments and the gradient itself. -/
theorem algebraic : algebraic_Kernel25Ideal_Reference25Ideal := by
  intro m g m' g' _ hagree
  refine ⟨fun c => Kernel25Ideal.AdamGroup.G4 (m (c.tc.loc main_arg0)) (m (c.tc.loc main_arg1)) (m (c.tc.loc main_arg2)) (m (c.tc.loc main_arg3)), fun c => Kernel25Ideal.AdamGroup.G5 (m (c.tc.loc main_arg1)) (m (c.tc.loc main_arg2)), fun c => Kernel25Ideal.AdamGroup.G6 (m (c.tc.loc main_arg1)) (m (c.tc.loc main_arg3)), fun c => Kernel25Ideal.AdamGroup.G7 (m (c.tc.loc main_arg1)),
    (θ_run _ _ _).mono (fun r h c => ?_) (Kernel25Ideal.Value.run_blocks m g),
    (θ_run _ _ _).mono (fun r h c => ⟨(h c).1.trans ?_, (h c).2.1.trans ?_, (h c).2.2.1.trans ?_, (h c).2.2.2.1.trans ?_, (h c).2.2.2.2⟩) (Reference25Ideal.Value.run (F := Ideal) m' g')⟩
  · exact ⟨(h c).1.trans (Kernel25Ideal.AdamGroup.final4 m c), (h c).2.1.trans (Kernel25Ideal.AdamGroup.final5 m c), (h c).2.2.1.trans (Kernel25Ideal.AdamGroup.final6 m c), (h c).2.2.2.1.trans (Kernel25Ideal.AdamGroup.final7 m c), (h c).2.2.2.2⟩
  · obtain ⟨e0, e1, e2, e3⟩ := hagree c
    refine (Reference25Ideal.Read.val_main_v23_eq _ _ _ _).trans ?_
    rw [e0, e1, e2, e3]
    exact Reference25Ideal.AdamGroup.eq4 _ _ _ _
  · obtain ⟨e0, e1, e2, e3⟩ := hagree c
    refine (Reference25Ideal.Read.val_main_v4_eq _ _).trans ?_
    rw [e1, e2]
    exact Reference25Ideal.AdamGroup.eq5 _ _
  · obtain ⟨e0, e1, e2, e3⟩ := hagree c
    refine (Reference25Ideal.Read.val_main_v10_eq _ _).trans ?_
    rw [e1, e3]
    exact Reference25Ideal.AdamGroup.eq6 _ _
  · obtain ⟨e0, e1, e2, e3⟩ := hagree c
    rw [e1]
    rfl

end Cert.Proof.AdamGroup

end
-- ==== Proof.AdamQ.lean ====
module

public import proofs.«01_k».proof.Proof.Gen.Kernel26Ideal.Value
public import Idealize.ShloMosaic.Lib.Pipeline.ValueKit
public import Idealize.ShloMosaic.Lib.Pointwise
public import proofs.«01_k».proof.Proof.Adam

@[expose] public section

set_option maxRecDepth 16384

noncomputable section

open Idealize.ShloMosaic Idealize.ShloMosaic.TcCoe Idealize.SL.Sem

namespace Cert.Kernel26Ideal.AdamQ

open Cert.Kernel26Ideal Cert.Kernel26Ideal.Gen

def G4 (W G M V : FVec Ideal S1024x1024 .f32) : FVec Ideal S1024x1024 .f32 := fun j => Adam.delta (W j) (G j) (M j) (V j)
def G5 (G M : FVec Ideal S1024x1024 .f32) : FVec Ideal S1024x1024 .f32 := fun j => Adam.mom (M j) (G j)
def G6 (G V : FVec Ideal S1024x1024 .f32) : FVec Ideal S1024x1024 .f32 := fun j => Adam.var (V j) (G j)
def G7 (G : FVec Ideal S1024x1024 .f32) : FVec Ideal S1024x1024 .f32 := G

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 256) : Fin 1024 := ⟨256 * (t : ℕ) + (p : ℕ), by have : (t : ℕ) < 4 := t.isLt; omega⟩

theorem blk0 (c : Dev nD) (t : Fin cfg0.N) (p : Fin 256) (k : Fin 1024) :
    iblk m c 0 t (ix2 p k) = m (c.tc.loc main_arg0) (ix2 (rowOf t p) k) := by
  unfold rowOf; blk_point [iblk, V, idx t]

theorem blk1 (c : Dev nD) (t : Fin cfg0.N) (p : Fin 256) (k : Fin 1024) :
    iblk m c 1 t (ix2 p k) = m (c.tc.loc main_arg1) (ix2 (rowOf t p) k) := by
  unfold rowOf; blk_point [iblk, V, idx t]

theorem blk2 (c : Dev nD) (t : Fin cfg0.N) (p : Fin 256) (k : Fin 1024) :
    iblk m c 2 t (ix2 p k) = m (c.tc.loc main_arg2) (ix2 (rowOf t p) k) := by
  unfold rowOf; blk_point [iblk, V, idx t]

theorem blk3 (c : Dev nD) (t : Fin cfg0.N) (p : Fin 256) (k : Fin 1024) :
    iblk m c 3 t (ix2 p k) = m (c.tc.loc main_arg3) (ix2 (rowOf t p) k) := by
  unfold rowOf; blk_point [iblk, V, idx t]

theorem final4 (c : Dev nD) : (dats m 0 c).arrAt 4 cfg0.N = G4 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  have hN : (t : ℕ) < 4 := t.isLt
  unfold out0_4
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 4).blk t).view.emb y = ix2 (rowOf t p) q := by
      unfold rowOf
      blk_ext [idx t]
    rw [e]
    rfl

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 4 := t.isLt
  unfold out0_5
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 5).blk t).view.emb y = ix2 (rowOf t p) q := by
      unfold rowOf
      blk_ext [idx t]
    rw [e]
    rfl

theorem final6 (c : Dev nD) : (dats m 0 c).arrAt 6 cfg0.N = G6 (m (c.tc.loc main_arg1)) (m (c.tc.loc main_arg3)) := by
  refine (dats m 0 c).arrAt_eq_of_covers 6 _ (by decide +kernel) fun t _ y => ?_
  blk_simp
  rw [after0_6]
  have hN : (t : ℕ) < 4 := t.isLt
  unfold out0_6
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 6).blk t).view.emb y = ix2 (rowOf t p) q := by
      unfold rowOf
      blk_ext [idx t]
    rw [e]
    rfl

theorem final7 (c : Dev nD) : (dats m 0 c).arrAt 7 cfg0.N = G7 (m (c.tc.loc main_arg1)) := by
  refine (dats m 0 c).arrAt_eq_of_covers 7 _ (by decide +kernel) fun t _ y => ?_
  blk_simp
  rw [after0_7]
  have hN : (t : ℕ) < 4 := t.isLt
  unfold out0_7
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blk0, blk1, blk2, blk3]
    have e : ((cfg0.win 7).blk t).view.emb y = ix2 (rowOf t p) q := by
      unfold rowOf
      blk_ext [idx t]
    rw [e]
    rfl

end Cert.Kernel26Ideal.AdamQ

end
-- ==== Proof.AdamQRef.lean ====
module

public import proofs.«01_k».proof.Proof.AdamQ
public import proofs.«01_k».proof.Proof.Gen.Reference26Ideal.Read

@[expose] public section

set_option maxRecDepth 16384

noncomputable section

open Idealize.ShloMosaic Idealize.ShloMosaic.TcCoe Idealize.SL.Sem

namespace Cert.Reference26Ideal.AdamQ

open Cert.Reference26Ideal Cert.Reference26Ideal.Gen Cert.Reference26Ideal.Read

variable (W G M V : FVec Ideal S1024x1024 .f32)

theorem eq5 : val_main_v4 (F := Ideal) G M = Kernel26Ideal.AdamQ.G5 G M := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq6 : val_main_v10 (F := Ideal) G V = Kernel26Ideal.AdamQ.G6 G V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq4 : val_main_v23 (F := Ideal) W G M V = Kernel26Ideal.AdamQ.G4 W G M V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

end Cert.Reference26Ideal.AdamQ

end
-- ==== Proof.AdamQClaim.lean ====
module

public import proofs.«01_k».proof.Defs
public import proofs.«01_k».proof.Proof.AdamQRef
public import proofs.«01_k».proof.Proof.Gen.Kernel26.Frame
public import proofs.«01_k».proof.Proof.Gen.Kernel26Ideal.Value
public import proofs.«01_k».proof.Proof.Gen.Reference26Ideal.Run
public import Idealize.ShloMosaic.Lib.Quiescent

@[expose] public section

set_option maxRecDepth 16384

noncomputable section

open Idealize.ShloMosaic Idealize.ShloMosaic.TcCoe Idealize.SL.Sem

open Cert.Kernel26Ideal (main_arg0 main_arg1 main_arg2 main_arg3)

namespace Cert.Proof.AdamQ

/-- The reference runs on the host alone: it has no semaphores, and it leaves its arguments as they were. -/
theorem quiescent_ref : quiescent_Reference26Ideal := fun m g _ =>
  (θ_run _ _ _).mono (fun r h => ⟨fun c => (h c).2.2.2.2, sem_eq_zero_of_no_sems (by decide) r.2⟩)
    (Reference26Ideal.Value.run (F := Ideal) m g)

/-- The optimiser: the weight's step, the new moments and the gradient itself. -/
theorem algebraic : algebraic_Kernel26Ideal_Reference26Ideal := by
  intro m g m' g' _ hagree
  refine ⟨fun c => Kernel26Ideal.AdamQ.G4 (m (c.tc.loc main_arg0)) (m (c.tc.loc main_arg1)) (m (c.tc.loc main_arg2)) (m (c.tc.loc main_arg3)), fun c => Kernel26Ideal.AdamQ.G5 (m (c.tc.loc main_arg1)) (m (c.tc.loc main_arg2)), fun c => Kernel26Ideal.AdamQ.G6 (m (c.tc.loc main_arg1)) (m (c.tc.loc main_arg3)), fun c => Kernel26Ideal.AdamQ.G7 (m (c.tc.loc main_arg1)),
    (θ_run _ _ _).mono (fun r h c => ?_) (Kernel26Ideal.Value.run_blocks m g),
    (θ_run _ _ _).mono (fun r h c => ⟨(h c).1.trans ?_, (h c).2.1.trans ?_, (h c).2.2.1.trans ?_, (h c).2.2.2.1.trans ?_, (h c).2.2.2.2⟩) (Reference26Ideal.Value.run (F := Ideal) m' g')⟩
  · exact ⟨(h c).1.trans (Kernel26Ideal.AdamQ.final4 m c), (h c).2.1.trans (Kernel26Ideal.AdamQ.final5 m c), (h c).2.2.1.trans (Kernel26Ideal.AdamQ.final6 m c), (h c).2.2.2.1.trans (Kernel26Ideal.AdamQ.final7 m c), (h c).2.2.2.2⟩
  · obtain ⟨e0, e1, e2, e3⟩ := hagree c
    refine (Reference26Ideal.Read.val_main_v23_eq _ _ _ _).trans ?_
    rw [e0, e1, e2, e3]
    exact Reference26Ideal.AdamQ.eq4 _ _ _ _
  · obtain ⟨e0, e1, e2, e3⟩ := hagree c
    refine (Reference26Ideal.Read.val_main_v4_eq _ _).trans ?_
    rw [e1, e2]
    exact Reference26Ideal.AdamQ.eq5 _ _
  · obtain ⟨e0, e1, e2, e3⟩ := hagree c
    refine (Reference26Ideal.Read.val_main_v10_eq _ _).trans ?_
    rw [e1, e3]
    exact Reference26Ideal.AdamQ.eq6 _ _
  · obtain ⟨e0, e1, e2, e3⟩ := hagree c
    rw [e1]
    rfl

end Cert.Proof.AdamQ

end
-- ==== Proof.AdamKv.lean ====
module

public import proofs.«01_k».proof.Proof.Gen.Kernel27Ideal.Value
public import Idealize.ShloMosaic.Lib.Pipeline.ValueKit
public import Idealize.ShloMosaic.Lib.Pointwise
public import proofs.«01_k».proof.Proof.Adam

@[expose] public section

set_option maxRecDepth 16384

noncomputable section

open Idealize.ShloMosaic Idealize.ShloMosaic.TcCoe Idealize.SL.Sem

namespace Cert.Kernel27Ideal.AdamKv

open Cert.Kernel27Ideal Cert.Kernel27Ideal.Gen

def G4 (W G M V : FVec Ideal S4096x512 .f32) : FVec Ideal S4096x512 .f32 := fun j => Adam.delta (W j) (G j) (M j) (V j)
def G5 (G M : FVec Ideal S4096x512 .f32) : FVec Ideal S4096x512 .f32 := fun j => Adam.mom (M j) (G j)
def G6 (G V : FVec Ideal S4096x512 .f32) : FVec Ideal S4096x512 .f32 := fun j => Adam.var (V j) (G j)
def G7 (G : FVec Ideal S4096x512 .f32) : FVec Ideal S4096x512 .f32 := G

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 256) : Fin 4096 := ⟨256 * (t : ℕ) + (p : ℕ), by have : (t : ℕ) < 16 := t.isLt; omega⟩

theorem blk0 (c : Dev nD) (t : Fin cfg0.N) (p : Fin 256) (k : Fin 512) :
    iblk m c 0 t (ix2 p k) = m (c.tc.loc main_arg0) (ix2 (rowOf t p) k) := by
  unfold rowOf; blk_point [iblk, V, idx t]

theorem blk1 (c : Dev nD) (t : Fin cfg0.N) (p : Fin 256) (k : Fin 512) :
    iblk m c 1 t (ix2 p k) = m (c.tc.loc main_arg1) (ix2 (rowOf t p) k) := by
  unfold rowOf; blk_point [iblk, V, idx t]

theorem blk2 (c : Dev nD) (t : Fin cfg0.N) (p : Fin 256) (k : Fin 512) :
    iblk m c 2 t (ix2 p k) = m (c.tc.loc main_arg2) (ix2 (rowOf t p) k) := by
  unfold rowOf; blk_point [iblk, V, idx t]

theorem blk3 (c : Dev nD) (t : Fin cfg0.N) (p : Fin 256) (k : Fin 512) :
    iblk m c 3 t (ix2 p k) = m (c.tc.loc main_arg3) (ix2 (rowOf t p) k) := by
  unfold rowOf; blk_point [iblk, V, idx t]

theorem final4 (c : Dev nD) : (dats m 0 c).arrAt 4 cfg0.N = G4 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  have hN : (t : ℕ) < 16 := t.isLt
  unfold out0_4
  canon_tiles x h
  all_goals
    obtain ⟨p, q, rfl⟩ : ∃ (p : Fin 256) (q : Fin 512), x = ix2 p q := ⟨x 0, x 1, eq_ix2 x⟩
    simp only [ix2_0, ix2_1] at h0 h1
    open_payloads
    pointwise
    simp only [blk0, blk1, blk2, blk3]
    have e : ((cfg0.win 4).blk t).view.emb y = ix2 (rowOf t p) q := by
      unfold rowOf
      blk_ext [idx t]
    rw [e]
    rfl

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 16 := t.isLt
  unfold out0_5
  canon_tiles x h
  all_goals
    obtain ⟨p, q, rfl⟩ : ∃ (p : Fin 256) (q : Fin 512), x = ix2 p q := ⟨x 0, x 1, eq_ix2 x⟩
    simp only [ix2_0, ix2_1] at h0 h1
    open_payloads
    pointwise
    simp only [blk0, blk1, blk2, blk3]
    have e : ((cfg0.win 5).blk t).view.emb y = ix2 (rowOf t p) q := by
      unfold rowOf
      blk_ext [idx t]
    rw [e]
    rfl

theorem final6 (c : Dev nD) : (dats m 0 c).arrAt 6 cfg0.N = G6 (m (c.tc.loc main_arg1)) (m (c.tc.loc main_arg3)) := by
  refine (dats m 0 c).arrAt_eq_of_covers 6 _ (by decide +kernel) fun t _ y => ?_
  blk_simp
  rw [after0_6]
  have hN : (t : ℕ) < 16 := t.isLt
  unfold out0_6
  canon_tiles x h
  all_goals
    obtain ⟨p, q, rfl⟩ : ∃ (p : Fin 256) (q : Fin 512), x = ix2 p q := ⟨x 0, x 1, eq_ix2 x⟩
    simp only [ix2_0, ix2_1] at h0 h1
    open_payloads
    pointwise
    simp only [blk0, blk1, blk2, blk3]
    have e : ((cfg0.win 6).blk t).view.emb y = ix2 (rowOf t p) q := by
      unfold rowOf
      blk_ext [idx t]
    rw [e]
    rfl

theorem final7 (c : Dev nD) : (dats m 0 c).arrAt 7 cfg0.N = G7 (m (c.tc.loc main_arg1)) := by
  refine (dats m 0 c).arrAt_eq_of_covers 7 _ (by decide +kernel) fun t _ y => ?_
  blk_simp
  rw [after0_7]
  have hN : (t : ℕ) < 16 := t.isLt
  unfold out0_7
  canon_tiles x h
  all_goals
    obtain ⟨p, q, rfl⟩ : ∃ (p : Fin 256) (q : Fin 512), x = ix2 p q := ⟨x 0, x 1, eq_ix2 x⟩
    simp only [ix2_0, ix2_1] at h0 h1
    open_payloads
    pointwise
    simp only [blk0, blk1, blk2, blk3]
    have e : ((cfg0.win 7).blk t).view.emb y = ix2 (rowOf t p) q := by
      unfold rowOf
      blk_ext [idx t]
    rw [e]
    rfl

end Cert.Kernel27Ideal.AdamKv

end
-- ==== Proof.AdamKvRef.lean ====
module

public import proofs.«01_k».proof.Proof.AdamKv
public import proofs.«01_k».proof.Proof.Gen.Reference27Ideal.Read

@[expose] public section

set_option maxRecDepth 16384

noncomputable section

open Idealize.ShloMosaic Idealize.ShloMosaic.TcCoe Idealize.SL.Sem

namespace Cert.Reference27Ideal.AdamKv

open Cert.Reference27Ideal Cert.Reference27Ideal.Gen Cert.Reference27Ideal.Read

variable (W G M V : FVec Ideal S4096x512 .f32)

theorem eq5 : val_main_v4 (F := Ideal) G M = Kernel27Ideal.AdamKv.G5 G M := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq6 : val_main_v10 (F := Ideal) G V = Kernel27Ideal.AdamKv.G6 G V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq4 : val_main_v23 (F := Ideal) W G M V = Kernel27Ideal.AdamKv.G4 W G M V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

end Cert.Reference27Ideal.AdamKv

end
-- ==== Proof.AdamKvClaim.lean ====
module

public import proofs.«01_k».proof.Defs
public import proofs.«01_k».proof.Proof.AdamKvRef
public import proofs.«01_k».proof.Proof.Gen.Kernel27.Frame
public import proofs.«01_k».proof.Proof.Gen.Kernel27Ideal.Value
public import proofs.«01_k».proof.Proof.Gen.Reference27Ideal.Run
public import Idealize.ShloMosaic.Lib.Quiescent

@[expose] public section

set_option maxRecDepth 16384

noncomputable section

open Idealize.ShloMosaic Idealize.ShloMosaic.TcCoe Idealize.SL.Sem

open Cert.Kernel27Ideal (main_arg0 main_arg1 main_arg2 main_arg3)

namespace Cert.Proof.AdamKv

/-- The reference runs on the host alone: it has no semaphores, and it leaves its arguments as they were. -/
theorem quiescent_ref : quiescent_Reference27Ideal := fun m g _ =>
  (θ_run _ _ _).mono (fun r h => ⟨fun c => (h c).2.2.2.2, sem_eq_zero_of_no_sems (by decide) r.2⟩)
    (Reference27Ideal.Value.run (F := Ideal) m g)

/-- The optimiser: the weight's step, the new moments and the gradient itself. -/
theorem algebraic : algebraic_Kernel27Ideal_Reference27Ideal := by
  intro m g m' g' _ hagree
  refine ⟨fun c => Kernel27Ideal.AdamKv.G4 (m (c.tc.loc main_arg0)) (m (c.tc.loc main_arg1)) (m (c.tc.loc main_arg2)) (m (c.tc.loc main_arg3)), fun c => Kernel27Ideal.AdamKv.G5 (m (c.tc.loc main_arg1)) (m (c.tc.loc main_arg2)), fun c => Kernel27Ideal.AdamKv.G6 (m (c.tc.loc main_arg1)) (m (c.tc.loc main_arg3)), fun c => Kernel27Ideal.AdamKv.G7 (m (c.tc.loc main_arg1)),
    (θ_run _ _ _).mono (fun r h c => ?_) (Kernel27Ideal.Value.run_blocks m g),
    (θ_run _ _ _).mono (fun r h c => ⟨(h c).1.trans ?_, (h c).2.1.trans ?_, (h c).2.2.1.trans ?_, (h c).2.2.2.1.trans ?_, (h c).2.2.2.2⟩) (Reference27Ideal.Value.run (F := Ideal) m' g')⟩
  · exact ⟨(h c).1.trans (Kernel27Ideal.AdamKv.final4 m c), (h c).2.1.trans (Kernel27Ideal.AdamKv.final5 m c), (h c).2.2.1.trans (Kernel27Ideal.AdamKv.final6 m c), (h c).2.2.2.1.trans (Kernel27Ideal.AdamKv.final7 m c), (h c).2.2.2.2⟩
  · obtain ⟨e0, e1, e2, e3⟩ := hagree c
    refine (Reference27Ideal.Read.val_main_v23_eq _ _ _ _).trans ?_
    rw [e0, e1, e2, e3]
    exact Reference27Ideal.AdamKv.eq4 _ _ _ _
  · obtain ⟨e0, e1, e2, e3⟩ := hagree c
    refine (Reference27Ideal.Read.val_main_v4_eq _ _).trans ?_
    rw [e1, e2]
    exact Reference27Ideal.AdamKv.eq5 _ _
  · obtain ⟨e0, e1, e2, e3⟩ := hagree c
    refine (Reference27Ideal.Read.val_main_v10_eq _ _).trans ?_
    rw [e1, e3]
    exact Reference27Ideal.AdamKv.eq6 _ _
  · obtain ⟨e0, e1, e2, e3⟩ := hagree c
    rw [e1]
    rfl

end Cert.Proof.AdamKv

end
-- ==== Proof.AdamSmall.lean ====
module

public import proofs.«01_k».proof.Proof.Gen.Kernel28Ideal.Value
public import Idealize.ShloMosaic.Lib.Pipeline.ValueKit
public import Idealize.ShloMosaic.Lib.Pointwise
public import proofs.«01_k».proof.Proof.Adam

@[expose] public section

set_option maxRecDepth 16384

noncomputable section

open Idealize.ShloMosaic Idealize.ShloMosaic.TcCoe Idealize.SL.Sem

namespace Cert.Kernel28Ideal.AdamSmall

open Cert.Kernel28Ideal Cert.Kernel28Ideal.Gen

def G4 (W G M V : FVec Ideal S1432x128 .f32) : FVec Ideal S1432x128 .f32 := fun j => Adam.delta (W j) (G j) (M j) (V j)
def G5 (G M : FVec Ideal S1432x128 .f32) : FVec Ideal S1432x128 .f32 := fun j => Adam.mom (M j) (G j)
def G6 (G V : FVec Ideal S1432x128 .f32) : FVec Ideal S1432x128 .f32 := fun j => Adam.var (V j) (G j)
def G7 (G : FVec Ideal S1432x128 .f32) : FVec Ideal S1432x128 .f32 := G

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- Row `p` of block `t`. -/
def rowOf (t : Fin cfg0.N) (p : Fin 1432) : Fin 1432 := ⟨1432 * (t : ℕ) + (p : ℕ), by have : (t : ℕ) < 1 := t.isLt; omega⟩

theorem blk0 (c : Dev nD) (t : Fin cfg0.N) (p : Fin 1432) (k : Fin 128) :
    iblk m c 0 t (ix2 p k) = m (c.tc.loc main_arg0) (ix2 (rowOf t p) k) := by
  unfold rowOf; blk_point [iblk, V, idx t]

theorem blk1 (c : Dev nD) (t : Fin cfg0.N) (p : Fin 1432) (k : Fin 128) :
    iblk m c 1 t (ix2 p k) = m (c.tc.loc main_arg1) (ix2 (rowOf t p) k) := by
  unfold rowOf; blk_point [iblk, V, idx t]

theorem blk2 (c : Dev nD) (t : Fin cfg0.N) (p : Fin 1432) (k : Fin 128) :
    iblk m c 2 t (ix2 p k) = m (c.tc.loc main_arg2) (ix2 (rowOf t p) k) := by
  unfold rowOf; blk_point [iblk, V, idx t]

theorem blk3 (c : Dev nD) (t : Fin cfg0.N) (p : Fin 1432) (k : Fin 128) :
    iblk m c 3 t (ix2 p k) = m (c.tc.loc main_arg3) (ix2 (rowOf t p) k) := by
  unfold rowOf; blk_point [iblk, V, idx t]

theorem final4 (c : Dev nD) : (dats m 0 c).arrAt 4 cfg0.N = G4 (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4]
  have hN : (t : ℕ) < 1 := t.isLt
  unfold out0_4
  canon_tiles x h
  all_goals
    obtain ⟨p, q, rfl⟩ : ∃ (p : Fin 1432) (q : Fin 128), x = ix2 p q := ⟨x 0, x 1, eq_ix2 x⟩
    simp only [ix2_0, ix2_1] at h0 h1
    open_payloads
    pointwise
    simp only [blk0, blk1, blk2, blk3]
    have e : ((cfg0.win 4).blk t).view.emb y = ix2 (rowOf t p) q := by
      unfold rowOf
      blk_ext [idx t]
    rw [e]
    rfl

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 1 := t.isLt
  unfold out0_5
  canon_tiles x h
  all_goals
    obtain ⟨p, q, rfl⟩ : ∃ (p : Fin 1432) (q : Fin 128), x = ix2 p q := ⟨x 0, x 1, eq_ix2 x⟩
    simp only [ix2_0, ix2_1] at h0 h1
    open_payloads
    pointwise
    simp only [blk0, blk1, blk2, blk3]
    have e : ((cfg0.win 5).blk t).view.emb y = ix2 (rowOf t p) q := by
      unfold rowOf
      blk_ext [idx t]
    rw [e]
    rfl

theorem final6 (c : Dev nD) : (dats m 0 c).arrAt 6 cfg0.N = G6 (m (c.tc.loc main_arg1)) (m (c.tc.loc main_arg3)) := by
  refine (dats m 0 c).arrAt_eq_of_covers 6 _ (by decide +kernel) fun t _ y => ?_
  blk_simp
  rw [after0_6]
  have hN : (t : ℕ) < 1 := t.isLt
  unfold out0_6
  canon_tiles x h
  all_goals
    obtain ⟨p, q, rfl⟩ : ∃ (p : Fin 1432) (q : Fin 128), x = ix2 p q := ⟨x 0, x 1, eq_ix2 x⟩
    simp only [ix2_0, ix2_1] at h0 h1
    open_payloads
    pointwise
    simp only [blk0, blk1, blk2, blk3]
    have e : ((cfg0.win 6).blk t).view.emb y = ix2 (rowOf t p) q := by
      unfold rowOf
      blk_ext [idx t]
    rw [e]
    rfl

end Cert.Kernel28Ideal.AdamSmall

end
-- ==== Proof.AdamSmallRef.lean ====
module

public import proofs.«01_k».proof.Proof.AdamSmall
public import proofs.«01_k».proof.Proof.Gen.Reference28Ideal.Read

@[expose] public section

set_option maxRecDepth 16384

noncomputable section

open Idealize.ShloMosaic Idealize.ShloMosaic.TcCoe Idealize.SL.Sem

namespace Cert.Reference28Ideal.AdamSmall

open Cert.Reference28Ideal Cert.Reference28Ideal.Gen Cert.Reference28Ideal.Read

variable (W G M V : FVec Ideal S1432x128 .f32)

theorem eq5 : val_main_v4 (F := Ideal) G M = Kernel28Ideal.AdamSmall.G5 G M := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq6 : val_main_v10 (F := Ideal) G V = Kernel28Ideal.AdamSmall.G6 G V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

theorem eq4 : val_main_v23 (F := Ideal) W G M V = Kernel28Ideal.AdamSmall.G4 W G M V := by
  funext j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

end Cert.Reference28Ideal.AdamSmall

end
-- ==== Proof.AdamSmallClaim.lean ====
module

public import proofs.«01_k».proof.Defs
public import proofs.«01_k».proof.Proof.AdamSmallRef
public import proofs.«01_k».proof.Proof.Gen.Kernel28.Frame
public import proofs.«01_k».proof.Proof.Gen.Kernel28Ideal.Value
public import proofs.«01_k».proof.Proof.Gen.Reference28Ideal.Run
public import Idealize.ShloMosaic.Lib.Quiescent

@[expose] public section

set_option maxRecDepth 16384

noncomputable section

open Idealize.ShloMosaic Idealize.ShloMosaic.TcCoe Idealize.SL.Sem

open Cert.Kernel28Ideal (main_arg0 main_arg1 main_arg2 main_arg3)

namespace Cert.Proof.AdamSmall

/-- The reference runs on the host alone: it has no semaphores, and it leaves its arguments as they were. -/
theorem quiescent_ref : quiescent_Reference28Ideal := fun m g _ =>
  (θ_run _ _ _).mono (fun r h => ⟨fun c => (h c).2.2.2, sem_eq_zero_of_no_sems (by decide) r.2⟩)
    (Reference28Ideal.Value.run (F := Ideal) m g)

/-- The optimiser: the weight's step, the new moments and the gradient itself. -/
theorem algebraic : algebraic_Kernel28Ideal_Reference28Ideal := by
  intro m g m' g' _ hagree
  refine ⟨fun c => Kernel28Ideal.AdamSmall.G4 (m (c.tc.loc main_arg0)) (m (c.tc.loc main_arg1)) (m (c.tc.loc main_arg2)) (m (c.tc.loc main_arg3)), fun c => Kernel28Ideal.AdamSmall.G5 (m (c.tc.loc main_arg1)) (m (c.tc.loc main_arg2)), fun c => Kernel28Ideal.AdamSmall.G6 (m (c.tc.loc main_arg1)) (m (c.tc.loc main_arg3)),
    (θ_run _ _ _).mono (fun r h c => ?_) (Kernel28Ideal.Value.run_blocks m g),
    (θ_run _ _ _).mono (fun r h c => ⟨(h c).1.trans ?_, (h c).2.1.trans ?_, (h c).2.2.1.trans ?_, (h c).2.2.2⟩) (Reference28Ideal.Value.run (F := Ideal) m' g')⟩
  · exact ⟨(h c).1.trans (Kernel28Ideal.AdamSmall.final4 m c), (h c).2.1.trans (Kernel28Ideal.AdamSmall.final5 m c), (h c).2.2.1.trans (Kernel28Ideal.AdamSmall.final6 m c), (h c).2.2.2⟩
  · obtain ⟨e0, e1, e2, e3⟩ := hagree c
    refine (Reference28Ideal.Read.val_main_v23_eq _ _ _ _).trans ?_
    rw [e0, e1, e2, e3]
    exact Reference28Ideal.AdamSmall.eq4 _ _ _ _
  · obtain ⟨e0, e1, e2, e3⟩ := hagree c
    refine (Reference28Ideal.Read.val_main_v4_eq _ _).trans ?_
    rw [e1, e2]
    exact Reference28Ideal.AdamSmall.eq5 _ _
  · obtain ⟨e0, e1, e2, e3⟩ := hagree c
    refine (Reference28Ideal.Read.val_main_v10_eq _ _).trans ?_
    rw [e1, e3]
    exact Reference28Ideal.AdamSmall.eq6 _ _

end Cert.Proof.AdamSmall

end
-- ==== Proof.BoundaryOdd.lean ====
module

public import proofs.«01_k».proof.Proof.Gen.Kernel29Ideal.Value
public import Idealize.ShloMosaic.Lib.Pipeline.ValueKit
public import Idealize.ShloMosaic.Lib.Pointwise
public import proofs.«01_k».proof.Proof.Rms
public import proofs.«01_k».proof.Proof.Sums

@[expose] public section

set_option maxRecDepth 16384

noncomputable section

open Idealize.ShloMosaic Idealize.ShloMosaic.TcCoe Idealize.SL.Sem

namespace Cert.Kernel29Ideal.BoundaryOdd

open Cert.Kernel29Ideal Cert.Kernel29Ideal.Gen Cert.Rms

/-- The residual weight of the sublayer below, as both programs write it. -/
def half : EReal := Ideal.ofBits .f32 0x3F000000#32

/-- The gradient of the normalised rows: row `r` of `A` against row `c` of the second layer's weights. -/
def dn (A : FVec Ideal S4096x1024 .bf16) (W : FVec Ideal S2x1024x1024 .bf16) (r : Fin 4096) (c : Fin 1024) : EReal :=
  ∑ k : Fin 1024, A (ix2 r k) * W (ix3 0 c k)

/-- The residual stream's gradient below the sublayer. -/
def dh (A : FVec Ideal S4096x1024 .bf16) (W : FVec Ideal S2x1024x1024 .bf16) (H : FVec Ideal S4096x1024 .f32)
    (GP : FVec Ideal S1x1024 .f32) (DH : FVec Ideal S4096x1024 .f32) (r : Fin 4096) (c : Fin 1024) : EReal :=
  DH (ix2 r c) + dxK (fun k => H (ix2 r k)) (fun k => GP (ix2 0 k)) (fun k => dn A W r k) c

/-- Row `r`'s part of the gradient of the norm's gain before the sublayer. -/
def dgRow (A : FVec Ideal S4096x1024 .bf16) (W : FVec Ideal S2x1024x1024 .bf16) (H : FVec Ideal S4096x1024 .f32)
    (r : Fin 4096) (c : Fin 1024) : EReal :=
  dn A W r c * (H (ix2 r c) * inv fun k => H (ix2 r k))

/-- Row `r`'s part of the gradient of the previous norm's gain. -/
def dgpRow (A : FVec Ideal S4096x1024 .bf16) (W : FVec Ideal S2x1024x1024 .bf16) (H : FVec Ideal S4096x1024 .f32)
    (GP : FVec Ideal S1x1024 .f32) (DH : FVec Ideal S4096x1024 .f32) (P : FVec Ideal S4096x1024 .f32)
    (r : Fin 4096) (c : Fin 1024) : EReal :=
  half * dh A W H GP DH r c * (P (ix2 r c) * inv fun k => P (ix2 r k))

def G7 (A : FVec Ideal S4096x1024 .bf16) (W : FVec Ideal S2x1024x1024 .bf16) (H : FVec Ideal S4096x1024 .f32)
    (GP : FVec Ideal S1x1024 .f32) (DH : FVec Ideal S4096x1024 .f32) : FVec Ideal S4096x1024 .f32 :=
  fun j => dh A W H GP DH (j 0) (j 1)

def G8 (A : FVec Ideal S4096x1024 .bf16) (W : FVec Ideal S2x1024x1024 .bf16) (H : FVec Ideal S4096x1024 .f32)
    (GP : FVec Ideal S1x1024 .f32) (DH : FVec Ideal S4096x1024 .f32) (P : FVec Ideal S4096x1024 .f32)
    (GQ : FVec Ideal S1x1024 .f32) : FVec Ideal S4096x1024 .bf16 :=
  fun j => dxK (fun k => P (ix2 (j 0) k)) (fun k => GQ (ix2 0 k)) (fun k => half * dh A W H GP DH (j 0) k) (j 1)

def G9 (A : FVec Ideal S4096x1024 .bf16) (W : FVec Ideal S2x1024x1024 .bf16) (H : FVec Ideal S4096x1024 .f32) :
    FVec Ideal S1x1024 .f32 :=
  fun j => ∑ r : Fin 4096, dgRow A W H r (j 1)

def G10 (A : FVec Ideal S4096x1024 .bf16) (W : FVec Ideal S2x1024x1024 .bf16) (H : FVec Ideal S4096x1024 .f32)
    (GP : FVec Ideal S1x1024 .f32) (DH : FVec Ideal S4096x1024 .f32) (P : FVec Ideal S4096x1024 .f32) :
    FVec Ideal S1x1024 .f32 :=
  fun j => ∑ r : Fin 4096, dgpRow A W H GP DH P r (j 1)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![0, 0, 0] ∧ win0_5.index t = ![0, 0]
    ∧ win0_6.index t = ![0, 0] ∧ win0_7.index t = ![t.val, 0] ∧ win0_8.index t = ![t.val, 0] :=
  (by decide +kernel : ∀ t : Fin grid0.N, _)

/-- Row `p` of grid point `t`'s tile, as a row of the array. -/
def rowOf (t : Fin cfg0.N) (p : Fin 512) : Fin 4096 :=
  ⟨512 * (t : ℕ) + (p : ℕ), by have : (t : ℕ) < 8 := t.isLt; omega⟩

theorem blkA (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkH (c : Dev nD) (t : Fin cfg0.N) (p : Fin 512) (k : Fin 1024) :
    iblk m c 1 t (ix2 p k) = m (c.tc.loc main_arg2) (ix2 (rowOf t p) k) := by
  unfold rowOf; blk_point [iblk, V, idx t]

theorem blkDH (c : Dev nD) (t : Fin cfg0.N) (p : Fin 512) (k : Fin 1024) :
    iblk m c 2 t (ix2 p k) = m (c.tc.loc main_arg4) (ix2 (rowOf t p) k) := by
  unfold rowOf; blk_point [iblk, V, idx t]

theorem blkF (c : Dev nD) (t : Fin cfg0.N) (p : Fin 512) (k : Fin 1024) :
    iblk m c 3 t (ix2 p k) = m (c.tc.loc main_arg5) (ix2 (rowOf t p) k) := by
  unfold rowOf; blk_point [iblk, V, idx t]

theorem blkW (c : Dev nD) (t : Fin cfg0.N) (k : Fin 1024) (l : Fin 1024) :
    iblk m c 4 t (ix3 0 k l) = m (c.tc.loc main_arg1) (ix3 0 k l) := by
  blk_point [iblk, V, idx t]

theorem blkGP (c : Dev nD) (t : Fin cfg0.N) (k : Fin 1024) :
    iblk m c 5 t (ix2 0 k) = m (c.tc.loc main_arg3) (ix2 0 k) := by
  blk_point [iblk, V, idx t]

theorem blkGQ (c : Dev nD) (t : Fin cfg0.N) (k : Fin 1024) :
    iblk m c 6 t (ix2 0 k) = m (c.tc.loc main_arg6) (ix2 0 k) := by
  blk_point [iblk, V, idx t]

set_option maxHeartbeats 1000000 in
theorem final7 (c : Dev nD) : (dats m 0 c).arrAt 7 cfg0.N
    = G7 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after0_7]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_0).slice (win0_7.rect t)).emb y = ix2 (rowOf t ⟨256 + (p : ℕ), by omega⟩) q := by
          unfold rowOf
          blk_ext [idx t]
        rw [e]
        rfl
      | have e : ((View.whole main_v0_0).slice (win0_7.rect t)).emb y = ix2 (rowOf t ⟨(p : ℕ), by omega⟩) q := by
          unfold rowOf
          blk_ext [idx t]
        rw [e]
        rfl

set_option maxHeartbeats 1000000 in
theorem final8 (c : Dev nD) : (dats m 0 c).arrAt 8 cfg0.N
    = G8 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_1).slice (win0_8.rect t)).emb y = ix2 (rowOf t ⟨256 + (p : ℕ), by omega⟩) q := by
          unfold rowOf
          blk_ext [idx t]
        rw [e]
        rfl
      | have e : ((View.whole main_v0_1).slice (win0_8.rect t)).emb y = ix2 (rowOf t ⟨(p : ℕ), by omega⟩) q := by
          unfold rowOf
          blk_ext [idx t]
        rw [e]
        rfl

/-- What grid point `t` adds to the block. -/
def term9 (c : Dev nD) (t : Fin cfg0.N) (j : S1x1024.Idx) : EReal :=
  ∑ k : Fin 512, dgRow (m (c.tc.loc main_arg0)) (m (c.tc.loc main_arg1)) (m (c.tc.loc main_arg2)) (rowOf t k) (j 1)

set_option maxHeartbeats 1000000 in
theorem final9 (c : Dev nD) : (dats m 0 c).arrAt 9 cfg0.N
    = G9 (m (c.tc.loc main_arg0)) (m (c.tc.loc main_arg1)) (m (c.tc.loc main_arg2)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => (0 : EReal)) (term9 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgRow (m (c.tc.loc main_arg0)) (m (c.tc.loc main_arg1)) (m (c.tc.loc main_arg2)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgRow (m (c.tc.loc main_arg0)) (m (c.tc.loc main_arg1)) (m (c.tc.loc main_arg2)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgRow (m (c.tc.loc main_arg0)) (m (c.tc.loc main_arg1)) (m (c.tc.loc main_arg2)) r q

/-- What grid point `t` adds to the block. -/
def term10 (c : Dev nD) (t : Fin cfg0.N) (j : S1x1024.Idx) : EReal :=
  ∑ k : Fin 512, dgpRow (m (c.tc.loc main_arg0)) (m (c.tc.loc main_arg1)) (m (c.tc.loc main_arg2)) (m (c.tc.loc main_arg3)) (m (c.tc.loc main_arg4)) (m (c.tc.loc main_arg5)) (rowOf t k) (j 1)

set_option maxHeartbeats 1000000 in
theorem final10 (c : Dev nD) : (dats m 0 c).arrAt 10 cfg0.N
    = G10 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => (0 : EReal)) (term10 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgpRow (m (c.tc.loc main_arg0)) (m (c.tc.loc main_arg1)) (m (c.tc.loc main_arg2)) (m (c.tc.loc main_arg3)) (m (c.tc.loc main_arg4)) (m (c.tc.loc main_arg5)) r q

end Cert.Kernel29Ideal.BoundaryOdd

end
-- ==== Proof.BoundaryOddRef.lean ====
module

public import proofs.«01_k».proof.Proof.BoundaryOdd
public import proofs.«01_k».proof.Pre_finite29
public import proofs.«01_k».proof.Proof.Gen.Pre_finite29
public import proofs.«01_k».proof.Proof.Gen.Reference29Ideal.Read

@[expose] public section

set_option maxRecDepth 16384

noncomputable section

open Idealize.ShloMosaic Idealize.ShloMosaic.TcCoe Idealize.SL.Sem

namespace Cert.Reference29Ideal.BoundaryOdd

open Cert.Reference29Ideal Cert.Reference29Ideal.Gen Cert.Reals Cert.Rms Cert.Reference29Ideal.Read
open Cert.Kernel29Ideal.BoundaryOdd (half dn dh dgRow dgpRow G7 G8 G9 G10)

variable (A : FVec Ideal S4096x1024 .bf16) (W : FVec Ideal S2x1024x1024 .bf16) (H : FVec Ideal S4096x1024 .f32)
  (GP : FVec Ideal S1x1024 .f32) (DH : FVec Ideal S4096x1024 .f32) (P : FVec Ideal S4096x1024 .f32)
  (GQ : FVec Ideal S1x1024 .f32)

theorem ref_dh (r : Fin 4096) (c : Fin 1024) :
    val_main_v40 (F := Ideal) A W H GP DH (ix2 r c)
      = DH (ix2 r c) + dxR (fun k => H (ix2 r k)) (fun k => GP (ix2 0 k)) (fun k => dn A W r k) c := by
  pointwise [val_main_v40, val_main_v39, val_main_v38, val_main_v37, val_main_v36, val_main_v35, val_main_v34, val_main_cst_6, val_main_v33, val_main_v32, val_main_cst_5, val_main_v31, val_main_v30, val_main_v29, val_main_v28, val_main_v27, val_main_cst_4, val_main_v26, val_main_v25, val_main_v24, val_main_v20, val_main_v14, val_main_v13, val_main_cst_2, val_main_v12, val_main_v11, val_main_v10, val_main_v9, val_main_cst_1, val_main_v8, val_main_v7, val_main_cst_0, val_main_v6, val_main_v5, val_main_cst, val_main_v4, val_main_v3, val_main_v2, val_main_v1, val_main_v0]
  simp only [Fin.sum_univ_one]
  rfl

theorem ref_dg (c : Fin 1024) :
    val_main_v23 (F := Ideal) A W H (ix2 0 c) = ∑ r : Fin 4096, H (ix2 r c) * inv (fun k => H (ix2 r k)) * dn A W r c := by
  pointwise [val_main_v23, val_main_v22, val_main_cst_3, val_main_v21, val_main_v20, val_main_v16, val_main_v15, val_main_v11, val_main_v10, val_main_v9, val_main_cst_1, val_main_v8, val_main_v7, val_main_cst_0, val_main_v6, val_main_v5, val_main_cst, val_main_v4, val_main_v3, val_main_v2, val_main_v1, val_main_v0]
  rfl

theorem ref_df (r : Fin 4096) (c : Fin 1024) :
    val_main_v79 (F := Ideal) A W H GP DH P GQ (ix2 r c)
      = dxR (fun k => P (ix2 r k)) (fun k => GQ (ix2 0 k)) (fun k => half * val_main_v40 (F := Ideal) A W H GP DH (ix2 r k)) c := by
  pointwise [val_main_v79, val_main_v78, val_main_v77, val_main_v76, val_main_v75, val_main_v74, val_main_v73, val_main_cst_16, val_main_v72, val_main_v71, val_main_cst_15, val_main_v70, val_main_v69, val_main_v68, val_main_v67, val_main_v66, val_main_cst_14, val_main_v65, val_main_v64, val_main_v63, val_main_v59, val_main_v58, val_main_cst_12, val_main_v51, val_main_v50, val_main_cst_10, val_main_v49, val_main_v48, val_main_v47, val_main_v46, val_main_cst_9, val_main_v45, val_main_v44, val_main_cst_8, val_main_v43, val_main_v42, val_main_cst_7, val_main_v41]
  simp only [Fin.sum_univ_one]
  rfl

theorem ref_dgp (c : Fin 1024) :
    val_main_v62 (F := Ideal) A W H GP DH P (ix2 0 c)
      = ∑ r : Fin 4096, P (ix2 r c) * inv (fun k => P (ix2 r k)) * (half * val_main_v40 (F := Ideal) A W H GP DH (ix2 r c)) := by
  pointwise [val_main_v62, val_main_v61, val_main_cst_13, val_main_v60, val_main_v59, val_main_v58, val_main_cst_12, val_main_v53, val_main_v52, val_main_v48, val_main_v47, val_main_v46, val_main_cst_9, val_main_v45, val_main_v44, val_main_cst_8, val_main_v43, val_main_v42, val_main_cst_7, val_main_v41]
  rfl

theorem half_real : IsReal half := by
  refine ⟨1 / 2, ?_⟩
  simp [half, Ideal.ofBits, Ideal.ieee]
  rw [← EReal.coe_mul]
  norm_num

variable (hA : ∀ r k, IsReal (A (ix2 r k))) (hW : ∀ c k, IsReal (W (ix3 0 c k))) (hH : ∀ r k, IsReal (H (ix2 r k)))
  (hGP : ∀ k, IsReal (GP (ix2 0 k))) (hDH : ∀ r k, IsReal (DH (ix2 r k))) (hP : ∀ r k, IsReal (P (ix2 r k)))
  (hGQ : ∀ k, IsReal (GQ (ix2 0 k)))

include hA hW in
theorem dn_real (r : Fin 4096) (c : Fin 1024) : IsReal (dn A W r c) :=
  real_sum _ _ fun k => real_mul (hA r k) (hW c k)

include hA hW hH hGP in
theorem dh_eq (r : Fin 4096) (c : Fin 1024) : val_main_v40 (F := Ideal) A W H GP DH (ix2 r c) = dh A W H GP DH r c := by
  rw [ref_dh, dx_eq _ _ _ (fun k => hH r k) hGP (fun k => dn_real A W hA hW r k)]
  rfl

include hA hW hH hGP hDH in
theorem dh_real (r : Fin 4096) (c : Fin 1024) : IsReal (dh A W H GP DH r c) :=
  real_add (hDH r c) (dxK_real _ _ _ (fun k => hH r k) hGP (fun k => dn_real A W hA hW r k) c)

include hA hW hH hGP in
theorem eq7 : val_main_v40 (F := Ideal) A W H GP DH = G7 A W H GP DH := by
  funext j
  exact (congrArg _ (eq_ix2 j)).trans (dh_eq A W H GP DH hA hW hH hGP (j 0) (j 1))

include hA hW hH hGP hDH hP hGQ in
theorem eq8 : val_main_v79 (F := Ideal) A W H GP DH P GQ = G8 A W H GP DH P GQ := by
  funext j
  refine (congrArg _ (eq_ix2 j)).trans ((ref_df A W H GP DH P GQ (j 0) (j 1)).trans ?_)
  rw [show (fun k => half * val_main_v40 (F := Ideal) A W H GP DH (ix2 (j 0) k)) = fun k => half * dh A W H GP DH (j 0) k from
    funext fun k => congrArg _ (dh_eq A W H GP DH hA hW hH hGP (j 0) k)]
  exact dx_eq _ _ _ (fun k => hP (j 0) k) hGQ (fun k => real_mul half_real (dh_real A W H GP DH hA hW hH hGP hDH (j 0) k)) (j 1)

theorem eq9 : val_main_v23 (F := Ideal) A W H = G9 A W H := by
  funext j
  obtain ⟨q, rfl⟩ : ∃ q : Fin 1024, j = ix2 0 q :=
    ⟨j 1, (eq_ix2 j).trans (congrArg (fun p => ix2 p (j 1)) (Subsingleton.elim (α := Fin 1) _ _))⟩
  exact (ref_dg A W H q).trans (Finset.sum_congr rfl fun r _ => mul_comm _ _)

include hA hW hH hGP in
theorem eq10 : val_main_v62 (F := Ideal) A W H GP DH P = G10 A W H GP DH P := by
  funext j
  obtain ⟨q, rfl⟩ : ∃ q : Fin 1024, j = ix2 0 q :=
    ⟨j 1, (eq_ix2 j).trans (congrArg (fun p => ix2 p (j 1)) (Subsingleton.elim (α := Fin 1) _ _))⟩
  refine (ref_dgp A W H GP DH P q).trans (Finset.sum_congr rfl fun r _ => (mul_comm _ _).trans ?_)
  rw [dh_eq A W H GP DH hA hW hH hGP]
  rfl

/-- What the precondition says of the seven arrays. -/
theorem of_finite (h : Pre_finite29.fn (F := Ideal) A W H GP DH P GQ = fun _ => 1#1) :
    (∀ r k, IsReal (A (ix2 r k))) ∧ (∀ c k, IsReal (W (ix3 0 c k))) ∧ (∀ r k, IsReal (H (ix2 r k)))
      ∧ (∀ k, IsReal (GP (ix2 0 k))) ∧ (∀ r k, IsReal (DH (ix2 r k))) ∧ (∀ r k, IsReal (P (ix2 r k)))
      ∧ ∀ k, IsReal (GQ (ix2 0 k)) := by
  have h0 := congrFun h (fun a => a.elim0)
  unfold Pre_finite29.fn Pre_finite29.fn_part1 Pre_finite29.fn_part2 at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Pre_finite29.S_.Idx := ⟨fun a b => funext fun x => x.elim0⟩
  refine ⟨fun r k => ?_, fun c k => ?_, fun r k => ?_, fun k => ?_, fun r k => ?_, fun r k => ?_, fun k => ?_⟩
  · exact real_of_olt _ (Host.reduce_andi_all _ _ _ _ _ h1 (ix2 r k))
  · have := real_of_olt _ (Host.reduce_andi_all _ _ _ _ _ h2 (ix2 c k))
    pointwise at this
    exact this
  · exact real_of_olt _ (Host.reduce_andi_all _ _ _ _ _ h3 (ix2 r k))
  · exact real_of_olt _ (Host.reduce_andi_all _ _ _ _ _ h4 (ix2 0 k))
  · exact real_of_olt _ (Host.reduce_andi_all _ _ _ _ _ h5 (ix2 r k))
  · exact real_of_olt _ (Host.reduce_andi_all _ _ _ _ _ h6 (ix2 r k))
  · exact real_of_olt _ (Host.reduce_andi_all _ _ _ _ _ h7 (ix2 0 k))

end Cert.Reference29Ideal.BoundaryOdd

end
-- ==== Proof.BoundaryOddClaim.lean ====
module

public import proofs.«01_k».proof.Defs
public import proofs.«01_k».proof.Proof.BoundaryOddRef
public import proofs.«01_k».proof.Proof.Gen.Kernel29.Frame
public import proofs.«01_k».proof.Proof.Gen.Kernel29Ideal.Value
public import proofs.«01_k».proof.Proof.Gen.Reference29Ideal.Run
public import Idealize.ShloMosaic.Lib.Quiescent

@[expose] public section

set_option maxRecDepth 16384

noncomputable section

open Idealize.ShloMosaic Idealize.ShloMosaic.TcCoe Idealize.SL.Sem

open Cert.Kernel29Ideal (main_arg0 main_arg1 main_arg2 main_arg3 main_arg4 main_arg5 main_arg6)

namespace Cert.Proof.BoundaryOdd

/-- The reference runs on the host alone: it has no semaphores, and it leaves its arguments as they were. -/
theorem quiescent_ref : quiescent_Reference29Ideal := fun m g _ =>
  (θ_run _ _ _).mono (fun r h => ⟨fun c => (h c).2.2.2.2, sem_eq_zero_of_no_sems (by decide) r.2⟩)
    (Reference29Ideal.Value.run (F := Ideal) m g)

/-- The gradients between two sublayers: each of the kernel's four results is the reference's. -/
theorem algebraic : algebraic_Kernel29Ideal_Reference29Ideal_pre_finite29 := by
  intro m g m' g' hpre hagree
  refine ⟨fun c => Kernel29Ideal.BoundaryOdd.G7 (m (c.tc.loc main_arg0)) (m (c.tc.loc main_arg1)) (m (c.tc.loc main_arg2)) (m (c.tc.loc main_arg3)) (m (c.tc.loc main_arg4)), fun c => Kernel29Ideal.BoundaryOdd.G8 (m (c.tc.loc main_arg0)) (m (c.tc.loc main_arg1)) (m (c.tc.loc main_arg2)) (m (c.tc.loc main_arg3)) (m (c.tc.loc main_arg4)) (m (c.tc.loc main_arg5)) (m (c.tc.loc main_arg6)), fun c => Kernel29Ideal.BoundaryOdd.G9 (m (c.tc.loc main_arg0)) (m (c.tc.loc main_arg1)) (m (c.tc.loc main_arg2)), fun c => Kernel29Ideal.BoundaryOdd.G10 (m (c.tc.loc main_arg0)) (m (c.tc.loc main_arg1)) (m (c.tc.loc main_arg2)) (m (c.tc.loc main_arg3)) (m (c.tc.loc main_arg4)) (m (c.tc.loc main_arg5)),
    (θ_run _ _ _).mono (fun r h c => ?_) (Kernel29Ideal.Value.run_blocks m g),
    (θ_run _ _ _).mono (fun r h c => ⟨(h c).1.trans ?_, (h c).2.1.trans ?_, (h c).2.2.1.trans ?_, (h c).2.2.2.1.trans ?_, (h c).2.2.2.2⟩) (Reference29Ideal.Value.run (F := Ideal) m' g')⟩
  · exact ⟨(h c).1.trans (Kernel29Ideal.BoundaryOdd.final7 m c), (h c).2.1.trans (Kernel29Ideal.BoundaryOdd.final8 m c), (h c).2.2.1.trans (Kernel29Ideal.BoundaryOdd.final9 m c), (h c).2.2.2.1.trans (Kernel29Ideal.BoundaryOdd.final10 m c), (h c).2.2.2.2⟩
  · obtain ⟨e0, e1, e2, e3, e4, e5, e6⟩ := hagree c
    refine (Reference29Ideal.Read.val_main_v40_eq m' c).trans ?_
    rw [e0, e1, e2, e3, e4]
    obtain ⟨h0, h1, h2, h3, h4, h5, h6⟩ := Reference29Ideal.BoundaryOdd.of_finite _ _ _ _ _ _ _ (hpre c)
    exact Reference29Ideal.BoundaryOdd.eq7 _ _ _ _ _ h0 h1 h2 h3
  · obtain ⟨e0, e1, e2, e3, e4, e5, e6⟩ := hagree c
    refine (Reference29Ideal.Read.val_main_v79_eq m' c).trans ?_
    rw [e0, e1, e2, e3, e4, e5, e6]
    obtain ⟨h0, h1, h2, h3, h4, h5, h6⟩ := Reference29Ideal.BoundaryOdd.of_finite _ _ _ _ _ _ _ (hpre c)
    exact Reference29Ideal.BoundaryOdd.eq8 _ _ _ _ _ _ _ h0 h1 h2 h3 h4 h5 h6
  · obtain ⟨e0, e1, e2, e3, e4, e5, e6⟩ := hagree c
    refine (Reference29Ideal.Read.val_main_v23_eq _ _ _).trans ?_
    rw [e0, e1, e2]
    exact Reference29Ideal.BoundaryOdd.eq9 _ _ _
  · obtain ⟨e0, e1, e2, e3, e4, e5, e6⟩ := hagree c
    refine (Reference29Ideal.Read.val_main_v62_eq m' c).trans ?_
    rw [e0, e1, e2, e3, e4, e5]
    obtain ⟨h0, h1, h2, h3, h4, h5, h6⟩ := Reference29Ideal.BoundaryOdd.of_finite _ _ _ _ _ _ _ (hpre c)
    exact Reference29Ideal.BoundaryOdd.eq10 _ _ _ _ _ _ h0 h1 h2 h3

end Cert.Proof.BoundaryOdd

end
-- ==== Proof.BoundaryEven.lean ====
module

public import proofs.«01_k».proof.Proof.Gen.Kernel30Ideal.Value
public import Idealize.ShloMosaic.Lib.Pipeline.ValueKit
public import Idealize.ShloMosaic.Lib.Pointwise
public import proofs.«01_k».proof.Proof.Rms
public import proofs.«01_k».proof.Proof.Sums

@[expose] public section

set_option maxRecDepth 16384

noncomputable section

open Idealize.ShloMosaic Idealize.ShloMosaic.TcCoe Idealize.SL.Sem

namespace Cert.Kernel30Ideal.BoundaryEven

open Cert.Kernel30Ideal Cert.Kernel30Ideal.Gen Cert.Rms

/-- The residual weight of the sublayer below, as both programs write it. -/
def half : EReal := Ideal.ofBits .f32 0x3F000000#32

/-- The gradient of the normalised rows: row `r` of `A` against row `c` of the second layer's weights. -/
def dn (A : FVec Ideal S4096x2048 .bf16) (W : FVec Ideal S2x1024x2048 .bf16) (r : Fin 4096) (c : Fin 1024) : EReal :=
  ∑ k : Fin 2048, A (ix2 r k) * W (ix3 0 c k)

/-- The residual stream's gradient below the sublayer. -/
def dh (A : FVec Ideal S4096x2048 .bf16) (W : FVec Ideal S2x1024x2048 .bf16) (H : FVec Ideal S4096x1024 .f32)
    (GP : FVec Ideal S1x1024 .f32) (DH : FVec Ideal S4096x1024 .f32) (r : Fin 4096) (c : Fin 1024) : EReal :=
  DH (ix2 r c) + dxK (fun k => H (ix2 r k)) (fun k => GP (ix2 0 k)) (fun k => dn A W r k) c

/-- Row `r`'s part of the gradient of the norm's gain before the sublayer. -/
def dgRow (A : FVec Ideal S4096x2048 .bf16) (W : FVec Ideal S2x1024x2048 .bf16) (H : FVec Ideal S4096x1024 .f32)
    (r : Fin 4096) (c : Fin 1024) : EReal :=
  dn A W r c * (H (ix2 r c) * inv fun k => H (ix2 r k))

/-- Row `r`'s part of the gradient of the previous norm's gain. -/
def dgpRow (A : FVec Ideal S4096x2048 .bf16) (W : FVec Ideal S2x1024x2048 .bf16) (H : FVec Ideal S4096x1024 .f32)
    (GP : FVec Ideal S1x1024 .f32) (DH : FVec Ideal S4096x1024 .f32) (P : FVec Ideal S4096x1024 .f32)
    (r : Fin 4096) (c : Fin 1024) : EReal :=
  half * dh A W H GP DH r c * (P (ix2 r c) * inv fun k => P (ix2 r k))

def G7 (A : FVec Ideal S4096x2048 .bf16) (W : FVec Ideal S2x1024x2048 .bf16) (H : FVec Ideal S4096x1024 .f32)
    (GP : FVec Ideal S1x1024 .f32) (DH : FVec Ideal S4096x1024 .f32) : FVec Ideal S4096x1024 .f32 :=
  fun j => dh A W H GP DH (j 0) (j 1)

def G8 (A : FVec Ideal S4096x2048 .bf16) (W : FVec Ideal S2x1024x2048 .bf16) (H : FVec Ideal S4096x1024 .f32)
    (GP : FVec Ideal S1x1024 .f32) (DH : FVec Ideal S4096x1024 .f32) (P : FVec Ideal S4096x1024 .f32)
    (GQ : FVec Ideal S1x1024 .f32) : FVec Ideal S4096x1024 .bf16 :=
  fun j => dxK (fun k => P (ix2 (j 0) k)) (fun k => GQ (ix2 0 k)) (fun k => half * dh A W H GP DH (j 0) k) (j 1)

def G9 (A : FVec Ideal S4096x2048 .bf16) (W : FVec Ideal S2x1024x2048 .bf16) (H : FVec Ideal S4096x1024 .f32) :
    FVec Ideal S1x1024 .f32 :=
  fun j => ∑ r : Fin 4096, dgRow A W H r (j 1)

def G10 (A : FVec Ideal S4096x2048 .bf16) (W : FVec Ideal S2x1024x2048 .bf16) (H : FVec Ideal S4096x1024 .f32)
    (GP : FVec Ideal S1x1024 .f32) (DH : FVec Ideal S4096x1024 .f32) (P : FVec Ideal S4096x1024 .f32) :
    FVec Ideal S1x1024 .f32 :=
  fun j => ∑ r : Fin 4096, dgpRow A W H GP DH P r (j 1)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![0, 0, 0] ∧ win0_5.index t = ![0, 0]
    ∧ win0_6.index t = ![0, 0] ∧ win0_7.index t = ![t.val, 0] ∧ win0_8.index t = ![t.val, 0] :=
  (by decide +kernel : ∀ t : Fin grid0.N, _)

/-- Row `p` of grid point `t`'s tile, as a row of the array. -/
def rowOf (t : Fin cfg0.N) (p : Fin 512) : Fin 4096 :=
  ⟨512 * (t : ℕ) + (p : ℕ), by have : (t : ℕ) < 8 := t.isLt; omega⟩

theorem blkA (c : Dev nD) (t : Fin cfg0.N) (p : Fin 512) (k : Fin 2048) :
    iblk m c 0 t (ix2 p k) = m (c.tc.loc main_arg0) (ix2 (rowOf t p) k) := by
  unfold rowOf; blk_point [iblk, V, idx t]

theorem blkH (c : Dev nD) (t : Fin cfg0.N) (p : Fin 512) (k : Fin 1024) :
    iblk m c 1 t (ix2 p k) = m (c.tc.loc main_arg2) (ix2 (rowOf t p) k) := by
  unfold rowOf; blk_point [iblk, V, idx t]

theorem blkDH (c : Dev nD) (t : Fin cfg0.N) (p : Fin 512) (k : Fin 1024) :
    iblk m c 2 t (ix2 p k) = m (c.tc.loc main_arg4) (ix2 (rowOf t p) k) := by
  unfold rowOf; blk_point [iblk, V, idx t]

theorem blkF (c : Dev nD) (t : Fin cfg0.N) (p : Fin 512) (k : Fin 1024) :
    iblk m c 3 t (ix2 p k) = m (c.tc.loc main_arg5) (ix2 (rowOf t p) k) := by
  unfold rowOf; blk_point [iblk, V, idx t]

theorem blkW (c : Dev nD) (t : Fin cfg0.N) (k : Fin 1024) (l : Fin 2048) :
    iblk m c 4 t (ix3 0 k l) = m (c.tc.loc main_arg1) (ix3 0 k l) := by
  blk_point [iblk, V, idx t]

theorem blkGP (c : Dev nD) (t : Fin cfg0.N) (k : Fin 1024) :
    iblk m c 5 t (ix2 0 k) = m (c.tc.loc main_arg3) (ix2 0 k) := by
  blk_point [iblk, V, idx t]

theorem blkGQ (c : Dev nD) (t : Fin cfg0.N) (k : Fin 1024) :
    iblk m c 6 t (ix2 0 k) = m (c.tc.loc main_arg6) (ix2 0 k) := by
  blk_point [iblk, V, idx t]

set_option maxHeartbeats 1000000 in
theorem final7 (c : Dev nD) : (dats m 0 c).arrAt 7 cfg0.N
    = G7 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after0_7]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_0).slice (win0_7.rect t)).emb y = ix2 (rowOf t ⟨256 + (p : ℕ), by omega⟩) q := by
          unfold rowOf
          blk_ext [idx t]
        rw [e]
        rfl
      | have e : ((View.whole main_v0_0).slice (win0_7.rect t)).emb y = ix2 (rowOf t ⟨(p : ℕ), by omega⟩) q := by
          unfold rowOf
          blk_ext [idx t]
        rw [e]
        rfl

set_option maxHeartbeats 1000000 in
theorem final8 (c : Dev nD) : (dats m 0 c).arrAt 8 cfg0.N
    = G8 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_1).slice (win0_8.rect t)).emb y = ix2 (rowOf t ⟨256 + (p : ℕ), by omega⟩) q := by
          unfold rowOf
          blk_ext [idx t]
        rw [e]
        rfl
      | have e : ((View.whole main_v0_1).slice (win0_8.rect t)).emb y = ix2 (rowOf t ⟨(p : ℕ), by omega⟩) q := by
          unfold rowOf
          blk_ext [idx t]
        rw [e]
        rfl

/-- What grid point `t` adds to the block. -/
def term9 (c : Dev nD) (t : Fin cfg0.N) (j : S1x1024.Idx) : EReal :=
  ∑ k : Fin 512, dgRow (m (c.tc.loc main_arg0)) (m (c.tc.loc main_arg1)) (m (c.tc.loc main_arg2)) (rowOf t k) (j 1)

set_option maxHeartbeats 1000000 in
theorem final9 (c : Dev nD) : (dats m 0 c).arrAt 9 cfg0.N
    = G9 (m (c.tc.loc main_arg0)) (m (c.tc.loc main_arg1)) (m (c.tc.loc main_arg2)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => (0 : EReal)) (term9 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgRow (m (c.tc.loc main_arg0)) (m (c.tc.loc main_arg1)) (m (c.tc.loc main_arg2)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgRow (m (c.tc.loc main_arg0)) (m (c.tc.loc main_arg1)) (m (c.tc.loc main_arg2)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgRow (m (c.tc.loc main_arg0)) (m (c.tc.loc main_arg1)) (m (c.tc.loc main_arg2)) r q

/-- What grid point `t` adds to the block. -/
def term10 (c : Dev nD) (t : Fin cfg0.N) (j : S1x1024.Idx) : EReal :=
  ∑ k : Fin 512, dgpRow (m (c.tc.loc main_arg0)) (m (c.tc.loc main_arg1)) (m (c.tc.loc main_arg2)) (m (c.tc.loc main_arg3)) (m (c.tc.loc main_arg4)) (m (c.tc.loc main_arg5)) (rowOf t k) (j 1)

set_option maxHeartbeats 1000000 in
theorem final10 (c : Dev nD) : (dats m 0 c).arrAt 10 cfg0.N
    = G10 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => (0 : EReal)) (term10 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgpRow (m (c.tc.loc main_arg0)) (m (c.tc.loc main_arg1)) (m (c.tc.loc main_arg2)) (m (c.tc.loc main_arg3)) (m (c.tc.loc main_arg4)) (m (c.tc.loc main_arg5)) r q

end Cert.Kernel30Ideal.BoundaryEven

end
-- ==== Proof.BoundaryEvenRef.lean ====
module

public import proofs.«01_k».proof.Proof.BoundaryEven
public import proofs.«01_k».proof.Pre_finite30
public import proofs.«01_k».proof.Proof.Gen.Pre_finite30
public import proofs.«01_k».proof.Proof.Gen.Reference30Ideal.Read

@[expose] public section

set_option maxRecDepth 16384

noncomputable section

open Idealize.ShloMosaic Idealize.ShloMosaic.TcCoe Idealize.SL.Sem

namespace Cert.Reference30Ideal.BoundaryEven

open Cert.Reference30Ideal Cert.Reference30Ideal.Gen Cert.Reals Cert.Rms Cert.Reference30Ideal.Read
open Cert.Kernel30Ideal.BoundaryEven (half dn dh dgRow dgpRow G7 G8 G9 G10)

variable (A : FVec Ideal S4096x2048 .bf16) (W : FVec Ideal S2x1024x2048 .bf16) (H : FVec Ideal S4096x1024 .f32)
  (GP : FVec Ideal S1x1024 .f32) (DH : FVec Ideal S4096x1024 .f32) (P : FVec Ideal S4096x1024 .f32)
  (GQ : FVec Ideal S1x1024 .f32)

theorem ref_dh (r : Fin 4096) (c : Fin 1024) :
    val_main_v40 (F := Ideal) A W H GP DH (ix2 r c)
      = DH (ix2 r c) + dxR (fun k => H (ix2 r k)) (fun k => GP (ix2 0 k)) (fun k => dn A W r k) c := by
  pointwise [val_main_v40, val_main_v39, val_main_v38, val_main_v37, val_main_v36, val_main_v35, val_main_v34, val_main_cst_6, val_main_v33, val_main_v32, val_main_cst_5, val_main_v31, val_main_v30, val_main_v29, val_main_v28, val_main_v27, val_main_cst_4, val_main_v26, val_main_v25, val_main_v24, val_main_v20, val_main_v14, val_main_v13, val_main_cst_2, val_main_v12, val_main_v11, val_main_v10, val_main_v9, val_main_cst_1, val_main_v8, val_main_v7, val_main_cst_0, val_main_v6, val_main_v5, val_main_cst, val_main_v4, val_main_v3, val_main_v2, val_main_v1, val_main_v0]
  simp only [Fin.sum_univ_one]
  rfl

theorem ref_dg (c : Fin 1024) :
    val_main_v23 (F := Ideal) A W H (ix2 0 c) = ∑ r : Fin 4096, H (ix2 r c) * inv (fun k => H (ix2 r k)) * dn A W r c := by
  pointwise [val_main_v23, val_main_v22, val_main_cst_3, val_main_v21, val_main_v20, val_main_v16, val_main_v15, val_main_v11, val_main_v10, val_main_v9, val_main_cst_1, val_main_v8, val_main_v7, val_main_cst_0, val_main_v6, val_main_v5, val_main_cst, val_main_v4, val_main_v3, val_main_v2, val_main_v1, val_main_v0]
  rfl

theorem ref_df (r : Fin 4096) (c : Fin 1024) :
    val_main_v79 (F := Ideal) A W H GP DH P GQ (ix2 r c)
      = dxR (fun k => P (ix2 r k)) (fun k => GQ (ix2 0 k)) (fun k => half * val_main_v40 (F := Ideal) A W H GP DH (ix2 r k)) c := by
  pointwise [val_main_v79, val_main_v78, val_main_v77, val_main_v76, val_main_v75, val_main_v74, val_main_v73, val_main_cst_16, val_main_v72, val_main_v71, val_main_cst_15, val_main_v70, val_main_v69, val_main_v68, val_main_v67, val_main_v66, val_main_cst_14, val_main_v65, val_main_v64, val_main_v63, val_main_v59, val_main_v58, val_main_cst_12, val_main_v51, val_main_v50, val_main_cst_10, val_main_v49, val_main_v48, val_main_v47, val_main_v46, val_main_cst_9, val_main_v45, val_main_v44, val_main_cst_8, val_main_v43, val_main_v42, val_main_cst_7, val_main_v41]
  simp only [Fin.sum_univ_one]
  rfl

theorem ref_dgp (c : Fin 1024) :
    val_main_v62 (F := Ideal) A W H GP DH P (ix2 0 c)
      = ∑ r : Fin 4096, P (ix2 r c) * inv (fun k => P (ix2 r k)) * (half * val_main_v40 (F := Ideal) A W H GP DH (ix2 r c)) := by
  pointwise [val_main_v62, val_main_v61, val_main_cst_13, val_main_v60, val_main_v59, val_main_v58, val_main_cst_12, val_main_v53, val_main_v52, val_main_v48, val_main_v47, val_main_v46, val_main_cst_9, val_main_v45, val_main_v44, val_main_cst_8, val_main_v43, val_main_v42, val_main_cst_7, val_main_v41]
  rfl

theorem half_real : IsReal half := by
  refine ⟨1 / 2, ?_⟩
  simp [half, Ideal.ofBits, Ideal.ieee]
  rw [← EReal.coe_mul]
  norm_num

variable (hA : ∀ r k, IsReal (A (ix2 r k))) (hW : ∀ c k, IsReal (W (ix3 0 c k))) (hH : ∀ r k, IsReal (H (ix2 r k)))
  (hGP : ∀ k, IsReal (GP (ix2 0 k))) (hDH : ∀ r k, IsReal (DH (ix2 r k))) (hP : ∀ r k, IsReal (P (ix2 r k)))
  (hGQ : ∀ k, IsReal (GQ (ix2 0 k)))

include hA hW in
theorem dn_real (r : Fin 4096) (c : Fin 1024) : IsReal (dn A W r c) :=
  real_sum _ _ fun k => real_mul (hA r k) (hW c k)

include hA hW hH hGP in
theorem dh_eq (r : Fin 4096) (c : Fin 1024) : val_main_v40 (F := Ideal) A W H GP DH (ix2 r c) = dh A W H GP DH r c := by
  rw [ref_dh, dx_eq _ _ _ (fun k => hH r k) hGP (fun k => dn_real A W hA hW r k)]
  rfl

include hA hW hH hGP hDH in
theorem dh_real (r : Fin 4096) (c : Fin 1024) : IsReal (dh A W H GP DH r c) :=
  real_add (hDH r c) (dxK_real _ _ _ (fun k => hH r k) hGP (fun k => dn_real A W hA hW r k) c)

include hA hW hH hGP in
theorem eq7 : val_main_v40 (F := Ideal) A W H GP DH = G7 A W H GP DH := by
  funext j
  exact (congrArg _ (eq_ix2 j)).trans (dh_eq A W H GP DH hA hW hH hGP (j 0) (j 1))

include hA hW hH hGP hDH hP hGQ in
theorem eq8 : val_main_v79 (F := Ideal) A W H GP DH P GQ = G8 A W H GP DH P GQ := by
  funext j
  refine (congrArg _ (eq_ix2 j)).trans ((ref_df A W H GP DH P GQ (j 0) (j 1)).trans ?_)
  rw [show (fun k => half * val_main_v40 (F := Ideal) A W H GP DH (ix2 (j 0) k)) = fun k => half * dh A W H GP DH (j 0) k from
    funext fun k => congrArg _ (dh_eq A W H GP DH hA hW hH hGP (j 0) k)]
  exact dx_eq _ _ _ (fun k => hP (j 0) k) hGQ (fun k => real_mul half_real (dh_real A W H GP DH hA hW hH hGP hDH (j 0) k)) (j 1)

theorem eq9 : val_main_v23 (F := Ideal) A W H = G9 A W H := by
  funext j
  obtain ⟨q, rfl⟩ : ∃ q : Fin 1024, j = ix2 0 q :=
    ⟨j 1, (eq_ix2 j).trans (congrArg (fun p => ix2 p (j 1)) (Subsingleton.elim (α := Fin 1) _ _))⟩
  exact (ref_dg A W H q).trans (Finset.sum_congr rfl fun r _ => mul_comm _ _)

include hA hW hH hGP in
theorem eq10 : val_main_v62 (F := Ideal) A W H GP DH P = G10 A W H GP DH P := by
  funext j
  obtain ⟨q, rfl⟩ : ∃ q : Fin 1024, j = ix2 0 q :=
    ⟨j 1, (eq_ix2 j).trans (congrArg (fun p => ix2 p (j 1)) (Subsingleton.elim (α := Fin 1) _ _))⟩
  refine (ref_dgp A W H GP DH P q).trans (Finset.sum_congr rfl fun r _ => (mul_comm _ _).trans ?_)
  rw [dh_eq A W H GP DH hA hW hH hGP]
  rfl

/-- What the precondition says of the seven arrays. -/
theorem of_finite (h : Pre_finite30.fn (F := Ideal) A W H GP DH P GQ = fun _ => 1#1) :
    (∀ r k, IsReal (A (ix2 r k))) ∧ (∀ c k, IsReal (W (ix3 0 c k))) ∧ (∀ r k, IsReal (H (ix2 r k)))
      ∧ (∀ k, IsReal (GP (ix2 0 k))) ∧ (∀ r k, IsReal (DH (ix2 r k))) ∧ (∀ r k, IsReal (P (ix2 r k)))
      ∧ ∀ k, IsReal (GQ (ix2 0 k)) := by
  have h0 := congrFun h (fun a => a.elim0)
  unfold Pre_finite30.fn Pre_finite30.fn_part1 Pre_finite30.fn_part2 at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Pre_finite30.S_.Idx := ⟨fun a b => funext fun x => x.elim0⟩
  refine ⟨fun r k => ?_, fun c k => ?_, fun r k => ?_, fun k => ?_, fun r k => ?_, fun r k => ?_, fun k => ?_⟩
  · exact real_of_olt _ (Host.reduce_andi_all _ _ _ _ _ h1 (ix2 r k))
  · have := real_of_olt _ (Host.reduce_andi_all _ _ _ _ _ h2 (ix2 c k))
    pointwise at this
    exact this
  · exact real_of_olt _ (Host.reduce_andi_all _ _ _ _ _ h3 (ix2 r k))
  · exact real_of_olt _ (Host.reduce_andi_all _ _ _ _ _ h4 (ix2 0 k))
  · exact real_of_olt _ (Host.reduce_andi_all _ _ _ _ _ h5 (ix2 r k))
  · exact real_of_olt _ (Host.reduce_andi_all _ _ _ _ _ h6 (ix2 r k))
  · exact real_of_olt _ (Host.reduce_andi_all _ _ _ _ _ h7 (ix2 0 k))

end Cert.Reference30Ideal.BoundaryEven

end
-- ==== Proof.BoundaryEvenClaim.lean ====
module

public import proofs.«01_k».proof.Defs
public import proofs.«01_k».proof.Proof.BoundaryEvenRef
public import proofs.«01_k».proof.Proof.Gen.Kernel30.Frame
public import proofs.«01_k».proof.Proof.Gen.Kernel30Ideal.Value
public import proofs.«01_k».proof.Proof.Gen.Reference30Ideal.Run
public import Idealize.ShloMosaic.Lib.Quiescent

@[expose] public section

set_option maxRecDepth 16384

noncomputable section

open Idealize.ShloMosaic Idealize.ShloMosaic.TcCoe Idealize.SL.Sem

open Cert.Kernel30Ideal (main_arg0 main_arg1 main_arg2 main_arg3 main_arg4 main_arg5 main_arg6)

namespace Cert.Proof.BoundaryEven

/-- The reference runs on the host alone: it has no semaphores, and it leaves its arguments as they were. -/
theorem quiescent_ref : quiescent_Reference30Ideal := fun m g _ =>
  (θ_run _ _ _).mono (fun r h => ⟨fun c => (h c).2.2.2.2, sem_eq_zero_of_no_sems (by decide) r.2⟩)
    (Reference30Ideal.Value.run (F := Ideal) m g)

/-- The gradients between two sublayers: each of the kernel's four results is the reference's. -/
theorem algebraic : algebraic_Kernel30Ideal_Reference30Ideal_pre_finite30 := by
  intro m g m' g' hpre hagree
  refine ⟨fun c => Kernel30Ideal.BoundaryEven.G7 (m (c.tc.loc main_arg0)) (m (c.tc.loc main_arg1)) (m (c.tc.loc main_arg2)) (m (c.tc.loc main_arg3)) (m (c.tc.loc main_arg4)), fun c => Kernel30Ideal.BoundaryEven.G8 (m (c.tc.loc main_arg0)) (m (c.tc.loc main_arg1)) (m (c.tc.loc main_arg2)) (m (c.tc.loc main_arg3)) (m (c.tc.loc main_arg4)) (m (c.tc.loc main_arg5)) (m (c.tc.loc main_arg6)), fun c => Kernel30Ideal.BoundaryEven.G9 (m (c.tc.loc main_arg0)) (m (c.tc.loc main_arg1)) (m (c.tc.loc main_arg2)), fun c => Kernel30Ideal.BoundaryEven.G10 (m (c.tc.loc main_arg0)) (m (c.tc.loc main_arg1)) (m (c.tc.loc main_arg2)) (m (c.tc.loc main_arg3)) (m (c.tc.loc main_arg4)) (m (c.tc.loc main_arg5)),
    (θ_run _ _ _).mono (fun r h c => ?_) (Kernel30Ideal.Value.run_blocks m g),
    (θ_run _ _ _).mono (fun r h c => ⟨(h c).1.trans ?_, (h c).2.1.trans ?_, (h c).2.2.1.trans ?_, (h c).2.2.2.1.trans ?_, (h c).2.2.2.2⟩) (Reference30Ideal.Value.run (F := Ideal) m' g')⟩
  · exact ⟨(h c).1.trans (Kernel30Ideal.BoundaryEven.final7 m c), (h c).2.1.trans (Kernel30Ideal.BoundaryEven.final8 m c), (h c).2.2.1.trans (Kernel30Ideal.BoundaryEven.final9 m c), (h c).2.2.2.1.trans (Kernel30Ideal.BoundaryEven.final10 m c), (h c).2.2.2.2⟩
  · obtain ⟨e0, e1, e2, e3, e4, e5, e6⟩ := hagree c
    refine (Reference30Ideal.Read.val_main_v40_eq m' c).trans ?_
    rw [e0, e1, e2, e3, e4]
    obtain ⟨h0, h1, h2, h3, h4, h5, h6⟩ := Reference30Ideal.BoundaryEven.of_finite _ _ _ _ _ _ _ (hpre c)
    exact Reference30Ideal.BoundaryEven.eq7 _ _ _ _ _ h0 h1 h2 h3
  · obtain ⟨e0, e1, e2, e3, e4, e5, e6⟩ := hagree c
    refine (Reference30Ideal.Read.val_main_v79_eq m' c).trans ?_
    rw [e0, e1, e2, e3, e4, e5, e6]
    obtain ⟨h0, h1, h2, h3, h4, h5, h6⟩ := Reference30Ideal.BoundaryEven.of_finite _ _ _ _ _ _ _ (hpre c)
    exact Reference30Ideal.BoundaryEven.eq8 _ _ _ _ _ _ _ h0 h1 h2 h3 h4 h5 h6
  · obtain ⟨e0, e1, e2, e3, e4, e5, e6⟩ := hagree c
    refine (Reference30Ideal.Read.val_main_v23_eq _ _ _).trans ?_
    rw [e0, e1, e2]
    exact Reference30Ideal.BoundaryEven.eq9 _ _ _
  · obtain ⟨e0, e1, e2, e3, e4, e5, e6⟩ := hagree c
    refine (Reference30Ideal.Read.val_main_v62_eq m' c).trans ?_
    rw [e0, e1, e2, e3, e4, e5]
    obtain ⟨h0, h1, h2, h3, h4, h5, h6⟩ := Reference30Ideal.BoundaryEven.of_finite _ _ _ _ _ _ _ (hpre c)
    exact Reference30Ideal.BoundaryEven.eq10 _ _ _ _ _ _ h0 h1 h2 h3

end Cert.Proof.BoundaryEven

end
-- ==== Proof.BoundaryXa.lean ====
module

public import proofs.«01_k».proof.Proof.Gen.Kernel31Ideal.Value
public import Idealize.ShloMosaic.Lib.Pipeline.ValueKit
public import Idealize.ShloMosaic.Lib.Pointwise
public import proofs.«01_k».proof.Proof.Rms
public import proofs.«01_k».proof.Proof.Sums

@[expose] public section

set_option maxRecDepth 16384

noncomputable section

open Idealize.ShloMosaic Idealize.ShloMosaic.TcCoe Idealize.SL.Sem

namespace Cert.Kernel31Ideal.BoundaryXa

open Cert.Kernel31Ideal Cert.Kernel31Ideal.Gen Cert.Rms

/-- The gradient of the normalised rows: row `r` of `A` against row `c` of the second layer's weights. -/
def dn (A : FVec Ideal S4096x1024 .bf16) (W : FVec Ideal S4x1024x1024 .bf16) (r : Fin 4096) (c : Fin 1024) : EReal :=
  ∑ k : Fin 1024, A (ix2 r k) * W (ix3 1 c k)

/-- The residual stream's gradient below the sublayer. -/
def dh (A : FVec Ideal S4096x1024 .bf16) (W : FVec Ideal S4x1024x1024 .bf16) (H : FVec Ideal S4096x1024 .f32)
    (GP : FVec Ideal S1x1024 .f32) (DH : FVec Ideal S4096x1024 .f32) (r : Fin 4096) (c : Fin 1024) : EReal :=
  DH (ix2 r c) + dxK (fun k => H (ix2 r k)) (fun k => GP (ix2 0 k)) (fun k => dn A W r k) c

/-- Row `r`'s part of the gradient of the norm's gain before the sublayer. -/
def dgRow (A : FVec Ideal S4096x1024 .bf16) (W : FVec Ideal S4x1024x1024 .bf16) (H : FVec Ideal S4096x1024 .f32)
    (r : Fin 4096) (c : Fin 1024) : EReal :=
  dn A W r c * (H (ix2 r c) * inv fun k => H (ix2 r k))

/-- Row `r`'s part of the gradient of the previous norm's gain. -/
def dgpRow (A : FVec Ideal S4096x1024 .bf16) (W : FVec Ideal S4x1024x1024 .bf16) (H : FVec Ideal S4096x1024 .f32)
    (GP : FVec Ideal S1x1024 .f32) (DH : FVec Ideal S4096x1024 .f32) (P : FVec Ideal S4096x1024 .f32)
    (r : Fin 4096) (c : Fin 1024) : EReal :=
  dh A W H GP DH r c * (P (ix2 r c) * inv fun k => P (ix2 r k))

def G7 (A : FVec Ideal S4096x1024 .bf16) (W : FVec Ideal S4x1024x1024 .bf16) (H : FVec Ideal S4096x1024 .f32)
    (GP : FVec Ideal S1x1024 .f32) (DH : FVec Ideal S4096x1024 .f32) : FVec Ideal S4096x1024 .f32 :=
  fun j => dh A W H GP DH (j 0) (j 1)

def G8 (A : FVec Ideal S4096x1024 .bf16) (W : FVec Ideal S4x1024x1024 .bf16) (H : FVec Ideal S4096x1024 .f32)
    (GP : FVec Ideal S1x1024 .f32) (DH : FVec Ideal S4096x1024 .f32) (P : FVec Ideal S4096x1024 .f32)
    (GQ : FVec Ideal S1x1024 .f32) : FVec Ideal S4096x1024 .bf16 :=
  fun j => dxK (fun k => P (ix2 (j 0) k)) (fun k => GQ (ix2 0 k)) (fun k => dh A W H GP DH (j 0) k) (j 1)

def G9 (A : FVec Ideal S4096x1024 .bf16) (W : FVec Ideal S4x1024x1024 .bf16) (H : FVec Ideal S4096x1024 .f32) :
    FVec Ideal S1x1024 .f32 :=
  fun j => ∑ r : Fin 4096, dgRow A W H r (j 1)

def G10 (A : FVec Ideal S4096x1024 .bf16) (W : FVec Ideal S4x1024x1024 .bf16) (H : FVec Ideal S4096x1024 .f32)
    (GP : FVec Ideal S1x1024 .f32) (DH : FVec Ideal S4096x1024 .f32) (P : FVec Ideal S4096x1024 .f32) :
    FVec Ideal S1x1024 .f32 :=
  fun j => ∑ r : Fin 4096, dgpRow A W H GP DH P r (j 1)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![1, 0, 0] ∧ win0_5.index t = ![0, 0]
    ∧ win0_6.index t = ![0, 0] ∧ win0_7.index t = ![t.val, 0] ∧ win0_8.index t = ![t.val, 0] :=
  (by decide +kernel : ∀ t : Fin grid0.N, _)

/-- Row `p` of grid point `t`'s tile, as a row of the array. -/
def rowOf (t : Fin cfg0.N) (p : Fin 512) : Fin 4096 :=
  ⟨512 * (t : ℕ) + (p : ℕ), by have : (t : ℕ) < 8 := t.isLt; omega⟩

theorem blkA (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkH (c : Dev nD) (t : Fin cfg0.N) (p : Fin 512) (k : Fin 1024) :
    iblk m c 1 t (ix2 p k) = m (c.tc.loc main_arg2) (ix2 (rowOf t p) k) := by
  unfold rowOf; blk_point [iblk, V, idx t]

theorem blkDH (c : Dev nD) (t : Fin cfg0.N) (p : Fin 512) (k : Fin 1024) :
    iblk m c 2 t (ix2 p k) = m (c.tc.loc main_arg4) (ix2 (rowOf t p) k) := by
  unfold rowOf; blk_point [iblk, V, idx t]

theorem blkF (c : Dev nD) (t : Fin cfg0.N) (p : Fin 512) (k : Fin 1024) :
    iblk m c 3 t (ix2 p k) = m (c.tc.loc main_arg5) (ix2 (rowOf t p) k) := by
  unfold rowOf; blk_point [iblk, V, idx t]

theorem blkW (c : Dev nD) (t : Fin cfg0.N) (k : Fin 1024) (l : Fin 1024) :
    iblk m c 4 t (ix3 0 k l) = m (c.tc.loc main_arg1) (ix3 1 k l) := by
  blk_point [iblk, V, idx t]

theorem blkGP (c : Dev nD) (t : Fin cfg0.N) (k : Fin 1024) :
    iblk m c 5 t (ix2 0 k) = m (c.tc.loc main_arg3) (ix2 0 k) := by
  blk_point [iblk, V, idx t]

theorem blkGQ (c : Dev nD) (t : Fin cfg0.N) (k : Fin 1024) :
    iblk m c 6 t (ix2 0 k) = m (c.tc.loc main_arg6) (ix2 0 k) := by
  blk_point [iblk, V, idx t]

set_option maxHeartbeats 1000000 in
theorem final7 (c : Dev nD) : (dats m 0 c).arrAt 7 cfg0.N
    = G7 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after0_7]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_0).slice (win0_7.rect t)).emb y = ix2 (rowOf t ⟨256 + (p : ℕ), by omega⟩) q := by
          unfold rowOf
          blk_ext [idx t]
        rw [e]
        rfl
      | have e : ((View.whole main_v0_0).slice (win0_7.rect t)).emb y = ix2 (rowOf t ⟨(p : ℕ), by omega⟩) q := by
          unfold rowOf
          blk_ext [idx t]
        rw [e]
        rfl

set_option maxHeartbeats 1000000 in
theorem final8 (c : Dev nD) : (dats m 0 c).arrAt 8 cfg0.N
    = G8 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_1).slice (win0_8.rect t)).emb y = ix2 (rowOf t ⟨256 + (p : ℕ), by omega⟩) q := by
          unfold rowOf
          blk_ext [idx t]
        rw [e]
        rfl
      | have e : ((View.whole main_v0_1).slice (win0_8.rect t)).emb y = ix2 (rowOf t ⟨(p : ℕ), by omega⟩) q := by
          unfold rowOf
          blk_ext [idx t]
        rw [e]
        rfl

/-- What grid point `t` adds to the block. -/
def term9 (c : Dev nD) (t : Fin cfg0.N) (j : S1x1024.Idx) : EReal :=
  ∑ k : Fin 512, dgRow (m (c.tc.loc main_arg0)) (m (c.tc.loc main_arg1)) (m (c.tc.loc main_arg2)) (rowOf t k) (j 1)

set_option maxHeartbeats 1000000 in
theorem final9 (c : Dev nD) : (dats m 0 c).arrAt 9 cfg0.N
    = G9 (m (c.tc.loc main_arg0)) (m (c.tc.loc main_arg1)) (m (c.tc.loc main_arg2)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => (0 : EReal)) (term9 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgRow (m (c.tc.loc main_arg0)) (m (c.tc.loc main_arg1)) (m (c.tc.loc main_arg2)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgRow (m (c.tc.loc main_arg0)) (m (c.tc.loc main_arg1)) (m (c.tc.loc main_arg2)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgRow (m (c.tc.loc main_arg0)) (m (c.tc.loc main_arg1)) (m (c.tc.loc main_arg2)) r q

/-- What grid point `t` adds to the block. -/
def term10 (c : Dev nD) (t : Fin cfg0.N) (j : S1x1024.Idx) : EReal :=
  ∑ k : Fin 512, dgpRow (m (c.tc.loc main_arg0)) (m (c.tc.loc main_arg1)) (m (c.tc.loc main_arg2)) (m (c.tc.loc main_arg3)) (m (c.tc.loc main_arg4)) (m (c.tc.loc main_arg5)) (rowOf t k) (j 1)

set_option maxHeartbeats 1000000 in
theorem final10 (c : Dev nD) : (dats m 0 c).arrAt 10 cfg0.N
    = G10 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => (0 : EReal)) (term10 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgpRow (m (c.tc.loc main_arg0)) (m (c.tc.loc main_arg1)) (m (c.tc.loc main_arg2)) (m (c.tc.loc main_arg3)) (m (c.tc.loc main_arg4)) (m (c.tc.loc main_arg5)) r q

end Cert.Kernel31Ideal.BoundaryXa

end
-- ==== Proof.BoundaryXaRef.lean ====
module

public import proofs.«01_k».proof.Proof.BoundaryXa
public import proofs.«01_k».proof.Pre_finite31
public import proofs.«01_k».proof.Proof.Gen.Pre_finite31
public import proofs.«01_k».proof.Proof.Gen.Reference31Ideal.Read

@[expose] public section

set_option maxRecDepth 16384

noncomputable section

open Idealize.ShloMosaic Idealize.ShloMosaic.TcCoe Idealize.SL.Sem

namespace Cert.Reference31Ideal.BoundaryXa

open Cert.Reference31Ideal Cert.Reference31Ideal.Gen Cert.Reals Cert.Rms Cert.Reference31Ideal.Read
open Cert.Kernel31Ideal.BoundaryXa (dn dh dgRow dgpRow G7 G8 G9 G10)

variable (A : FVec Ideal S4096x1024 .bf16) (W : FVec Ideal S4x1024x1024 .bf16) (H : FVec Ideal S4096x1024 .f32)
  (GP : FVec Ideal S1x1024 .f32) (DH : FVec Ideal S4096x1024 .f32) (P : FVec Ideal S4096x1024 .f32)
  (GQ : FVec Ideal S1x1024 .f32)

theorem ref_dh (r : Fin 4096) (c : Fin 1024) :
    val_main_v40 (F := Ideal) A W H GP DH (ix2 r c)
      = DH (ix2 r c) + dxR (fun k => H (ix2 r k)) (fun k => GP (ix2 0 k)) (fun k => dn A W r k) c := by
  pointwise [val_main_v40, val_main_v39, val_main_v38, val_main_v37, val_main_v36, val_main_v35, val_main_v34, val_main_cst_6, val_main_v33, val_main_v32, val_main_cst_5, val_main_v31, val_main_v30, val_main_v29, val_main_v28, val_main_v27, val_main_cst_4, val_main_v26, val_main_v25, val_main_v24, val_main_v20, val_main_v14, val_main_v13, val_main_cst_2, val_main_v12, val_main_v11, val_main_v10, val_main_v9, val_main_cst_1, val_main_v8, val_main_v7, val_main_cst_0, val_main_v6, val_main_v5, val_main_cst, val_main_v4, val_main_v3, val_main_v2, val_main_v1, val_main_v0]
  simp only [Fin.sum_univ_one]
  rfl

theorem ref_dg (c : Fin 1024) :
    val_main_v23 (F := Ideal) A W H (ix2 0 c) = ∑ r : Fin 4096, H (ix2 r c) * inv (fun k => H (ix2 r k)) * dn A W r c := by
  pointwise [val_main_v23, val_main_v22, val_main_cst_3, val_main_v21, val_main_v20, val_main_v16, val_main_v15, val_main_v11, val_main_v10, val_main_v9, val_main_cst_1, val_main_v8, val_main_v7, val_main_cst_0, val_main_v6, val_main_v5, val_main_cst, val_main_v4, val_main_v3, val_main_v2, val_main_v1, val_main_v0]
  rfl

theorem ref_df (r : Fin 4096) (c : Fin 1024) :
    val_main_v79 (F := Ideal) A W H GP DH P GQ (ix2 r c)
      = dxR (fun k => P (ix2 r k)) (fun k => GQ (ix2 0 k)) (fun k => val_main_v40 (F := Ideal) A W H GP DH (ix2 r k)) c := by
  pointwise [val_main_v79, val_main_v78, val_main_v77, val_main_v76, val_main_v75, val_main_v74, val_main_v73, val_main_cst_16, val_main_v72, val_main_v71, val_main_cst_15, val_main_v70, val_main_v69, val_main_v68, val_main_v67, val_main_v66, val_main_cst_14, val_main_v65, val_main_v64, val_main_v63, val_main_v59, val_main_v58, val_main_cst_12, val_main_v51, val_main_v50, val_main_cst_10, val_main_v49, val_main_v48, val_main_v47, val_main_v46, val_main_cst_9, val_main_v45, val_main_v44, val_main_cst_8, val_main_v43, val_main_v42, val_main_cst_7, val_main_v41]
  simp only [Fin.sum_univ_one]
  rfl

theorem ref_dgp (c : Fin 1024) :
    val_main_v62 (F := Ideal) A W H GP DH P (ix2 0 c)
      = ∑ r : Fin 4096, P (ix2 r c) * inv (fun k => P (ix2 r k)) * val_main_v40 (F := Ideal) A W H GP DH (ix2 r c) := by
  pointwise [val_main_v62, val_main_v61, val_main_cst_13, val_main_v60, val_main_v59, val_main_v58, val_main_cst_12, val_main_v53, val_main_v52, val_main_v48, val_main_v47, val_main_v46, val_main_cst_9, val_main_v45, val_main_v44, val_main_cst_8, val_main_v43, val_main_v42, val_main_cst_7, val_main_v41]
  rfl

variable (hA : ∀ r k, IsReal (A (ix2 r k))) (hW : ∀ c k, IsReal (W (ix3 1 c k))) (hH : ∀ r k, IsReal (H (ix2 r k)))
  (hGP : ∀ k, IsReal (GP (ix2 0 k))) (hDH : ∀ r k, IsReal (DH (ix2 r k))) (hP : ∀ r k, IsReal (P (ix2 r k)))
  (hGQ : ∀ k, IsReal (GQ (ix2 0 k)))

include hA hW in
theorem dn_real (r : Fin 4096) (c : Fin 1024) : IsReal (dn A W r c) :=
  real_sum _ _ fun k => real_mul (hA r k) (hW c k)

include hA hW hH hGP in
theorem dh_eq (r : Fin 4096) (c : Fin 1024) : val_main_v40 (F := Ideal) A W H GP DH (ix2 r c) = dh A W H GP DH r c := by
  rw [ref_dh, dx_eq _ _ _ (fun k => hH r k) hGP (fun k => dn_real A W hA hW r k)]
  rfl

include hA hW hH hGP hDH in
theorem dh_real (r : Fin 4096) (c : Fin 1024) : IsReal (dh A W H GP DH r c) :=
  real_add (hDH r c) (dxK_real _ _ _ (fun k => hH r k) hGP (fun k => dn_real A W hA hW r k) c)

include hA hW hH hGP in
theorem eq7 : val_main_v40 (F := Ideal) A W H GP DH = G7 A W H GP DH := by
  funext j
  exact (congrArg _ (eq_ix2 j)).trans (dh_eq A W H GP DH hA hW hH hGP (j 0) (j 1))

include hA hW hH hGP hDH hP hGQ in
theorem eq8 : val_main_v79 (F := Ideal) A W H GP DH P GQ = G8 A W H GP DH P GQ := by
  funext j
  refine (congrArg _ (eq_ix2 j)).trans ((ref_df A W H GP DH P GQ (j 0) (j 1)).trans ?_)
  rw [show (fun k => val_main_v40 (F := Ideal) A W H GP DH (ix2 (j 0) k)) = fun k => dh A W H GP DH (j 0) k from
    funext fun k => dh_eq A W H GP DH hA hW hH hGP (j 0) k]
  exact dx_eq _ _ _ (fun k => hP (j 0) k) hGQ (fun k => dh_real A W H GP DH hA hW hH hGP hDH (j 0) k) (j 1)

theorem eq9 : val_main_v23 (F := Ideal) A W H = G9 A W H := by
  funext j
  obtain ⟨q, rfl⟩ : ∃ q : Fin 1024, j = ix2 0 q :=
    ⟨j 1, (eq_ix2 j).trans (congrArg (fun p => ix2 p (j 1)) (Subsingleton.elim (α := Fin 1) _ _))⟩
  exact (ref_dg A W H q).trans (Finset.sum_congr rfl fun r _ => mul_comm _ _)

include hA hW hH hGP in
theorem eq10 : val_main_v62 (F := Ideal) A W H GP DH P = G10 A W H GP DH P := by
  funext j
  obtain ⟨q, rfl⟩ : ∃ q : Fin 1024, j = ix2 0 q :=
    ⟨j 1, (eq_ix2 j).trans (congrArg (fun p => ix2 p (j 1)) (Subsingleton.elim (α := Fin 1) _ _))⟩
  refine (ref_dgp A W H GP DH P q).trans (Finset.sum_congr rfl fun r _ => (mul_comm _ _).trans ?_)
  rw [dh_eq A W H GP DH hA hW hH hGP]
  rfl

/-- What the precondition says of the seven arrays. -/
theorem of_finite (h : Pre_finite31.fn (F := Ideal) A W H GP DH P GQ = fun _ => 1#1) :
    (∀ r k, IsReal (A (ix2 r k))) ∧ (∀ c k, IsReal (W (ix3 1 c k))) ∧ (∀ r k, IsReal (H (ix2 r k)))
      ∧ (∀ k, IsReal (GP (ix2 0 k))) ∧ (∀ r k, IsReal (DH (ix2 r k))) ∧ (∀ r k, IsReal (P (ix2 r k)))
      ∧ ∀ k, IsReal (GQ (ix2 0 k)) := by
  have h0 := congrFun h (fun a => a.elim0)
  unfold Pre_finite31.fn Pre_finite31.fn_part1 Pre_finite31.fn_part2 at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Pre_finite31.S_.Idx := ⟨fun a b => funext fun x => x.elim0⟩
  refine ⟨fun r k => ?_, fun c k => ?_, fun r k => ?_, fun k => ?_, fun r k => ?_, fun r k => ?_, fun k => ?_⟩
  · exact real_of_olt _ (Host.reduce_andi_all _ _ _ _ _ h1 (ix2 r k))
  · have := real_of_olt _ (Host.reduce_andi_all _ _ _ _ _ h2 (ix2 c k))
    pointwise at this
    exact this
  · exact real_of_olt _ (Host.reduce_andi_all _ _ _ _ _ h3 (ix2 r k))
  · exact real_of_olt _ (Host.reduce_andi_all _ _ _ _ _ h4 (ix2 0 k))
  · exact real_of_olt _ (Host.reduce_andi_all _ _ _ _ _ h5 (ix2 r k))
  · exact real_of_olt _ (Host.reduce_andi_all _ _ _ _ _ h6 (ix2 r k))
  · exact real_of_olt _ (Host.reduce_andi_all _ _ _ _ _ h7 (ix2 0 k))

end Cert.Reference31Ideal.BoundaryXa

end
-- ==== Proof.BoundaryXaClaim.lean ====
module

public import proofs.«01_k».proof.Defs
public import proofs.«01_k».proof.Proof.BoundaryXaRef
public import proofs.«01_k».proof.Proof.Gen.Kernel31.Frame
public import proofs.«01_k».proof.Proof.Gen.Kernel31Ideal.Value
public import proofs.«01_k».proof.Proof.Gen.Reference31Ideal.Run
public import Idealize.ShloMosaic.Lib.Quiescent

@[expose] public section

set_option maxRecDepth 16384

noncomputable section

open Idealize.ShloMosaic Idealize.ShloMosaic.TcCoe Idealize.SL.Sem

open Cert.Kernel31Ideal (main_arg0 main_arg1 main_arg2 main_arg3 main_arg4 main_arg5 main_arg6)

namespace Cert.Proof.BoundaryXa

/-- The reference runs on the host alone: it has no semaphores, and it leaves its arguments as they were. -/
theorem quiescent_ref : quiescent_Reference31Ideal := fun m g _ =>
  (θ_run _ _ _).mono (fun r h => ⟨fun c => (h c).2.2.2.2, sem_eq_zero_of_no_sems (by decide) r.2⟩)
    (Reference31Ideal.Value.run (F := Ideal) m g)

/-- The gradients between two sublayers: each of the kernel's four results is the reference's. -/
theorem algebraic : algebraic_Kernel31Ideal_Reference31Ideal_pre_finite31 := by
  intro m g m' g' hpre hagree
  refine ⟨fun c => Kernel31Ideal.BoundaryXa.G7 (m (c.tc.loc main_arg0)) (m (c.tc.loc main_arg1)) (m (c.tc.loc main_arg2)) (m (c.tc.loc main_arg3)) (m (c.tc.loc main_arg4)), fun c => Kernel31Ideal.BoundaryXa.G8 (m (c.tc.loc main_arg0)) (m (c.tc.loc main_arg1)) (m (c.tc.loc main_arg2)) (m (c.tc.loc main_arg3)) (m (c.tc.loc main_arg4)) (m (c.tc.loc main_arg5)) (m (c.tc.loc main_arg6)), fun c => Kernel31Ideal.BoundaryXa.G9 (m (c.tc.loc main_arg0)) (m (c.tc.loc main_arg1)) (m (c.tc.loc main_arg2)), fun c => Kernel31Ideal.BoundaryXa.G10 (m (c.tc.loc main_arg0)) (m (c.tc.loc main_arg1)) (m (c.tc.loc main_arg2)) (m (c.tc.loc main_arg3)) (m (c.tc.loc main_arg4)) (m (c.tc.loc main_arg5)),
    (θ_run _ _ _).mono (fun r h c => ?_) (Kernel31Ideal.Value.run_blocks m g),
    (θ_run _ _ _).mono (fun r h c => ⟨(h c).1.trans ?_, (h c).2.1.trans ?_, (h c).2.2.1.trans ?_, (h c).2.2.2.1.trans ?_, (h c).2.2.2.2⟩) (Reference31Ideal.Value.run (F := Ideal) m' g')⟩
  · exact ⟨(h c).1.trans (Kernel31Ideal.BoundaryXa.final7 m c), (h c).2.1.trans (Kernel31Ideal.BoundaryXa.final8 m c), (h c).2.2.1.trans (Kernel31Ideal.BoundaryXa.final9 m c), (h c).2.2.2.1.trans (Kernel31Ideal.BoundaryXa.final10 m c), (h c).2.2.2.2⟩
  · obtain ⟨e0, e1, e2, e3, e4, e5, e6⟩ := hagree c
    refine (Reference31Ideal.Read.val_main_v40_eq m' c).trans ?_
    rw [e0, e1, e2, e3, e4]
    obtain ⟨h0, h1, h2, h3, h4, h5, h6⟩ := Reference31Ideal.BoundaryXa.of_finite _ _ _ _ _ _ _ (hpre c)
    exact Reference31Ideal.BoundaryXa.eq7 _ _ _ _ _ h0 h1 h2 h3
  · obtain ⟨e0, e1, e2, e3, e4, e5, e6⟩ := hagree c
    refine (Reference31Ideal.Read.val_main_v79_eq m' c).trans ?_
    rw [e0, e1, e2, e3, e4, e5, e6]
    obtain ⟨h0, h1, h2, h3, h4, h5, h6⟩ := Reference31Ideal.BoundaryXa.of_finite _ _ _ _ _ _ _ (hpre c)
    exact Reference31Ideal.BoundaryXa.eq8 _ _ _ _ _ _ _ h0 h1 h2 h3 h4 h5 h6
  · obtain ⟨e0, e1, e2, e3, e4, e5, e6⟩ := hagree c
    refine (Reference31Ideal.Read.val_main_v23_eq _ _ _).trans ?_
    rw [e0, e1, e2]
    exact Reference31Ideal.BoundaryXa.eq9 _ _ _
  · obtain ⟨e0, e1, e2, e3, e4, e5, e6⟩ := hagree c
    refine (Reference31Ideal.Read.val_main_v62_eq m' c).trans ?_
    rw [e0, e1, e2, e3, e4, e5]
    obtain ⟨h0, h1, h2, h3, h4, h5, h6⟩ := Reference31Ideal.BoundaryXa.of_finite _ _ _ _ _ _ _ (hpre c)
    exact Reference31Ideal.BoundaryXa.eq10 _ _ _ _ _ _ h0 h1 h2 h3

end Cert.Proof.BoundaryXa

end
-- ==== Proof.BoundaryUp.lean ====
module

public import proofs.«01_k».proof.Proof.Gen.Kernel32Ideal.Value
public import Idealize.ShloMosaic.Lib.Pipeline.ValueKit
public import Idealize.ShloMosaic.Lib.Pointwise
public import proofs.«01_k».proof.Proof.Rms
public import proofs.«01_k».proof.Proof.Sums

@[expose] public section

set_option maxRecDepth 16384

noncomputable section

open Idealize.ShloMosaic Idealize.ShloMosaic.TcCoe Idealize.SL.Sem

namespace Cert.Kernel32Ideal.BoundaryUp

open Cert.Kernel32Ideal Cert.Kernel32Ideal.Gen Cert.Rms

/-- The residual weight of the sublayer below, as both programs write it. -/
def half : EReal := Ideal.ofBits .f32 0x3F000000#32

/-- The gradient of the normalised rows: row `r` of `A` against row `c` of the second layer's weights. -/
def dn (A : FVec Ideal S4096x5632 .bf16) (W : FVec Ideal S4x1024x5632 .bf16) (r : Fin 4096) (c : Fin 1024) : EReal :=
  ∑ k : Fin 5632, A (ix2 r k) * W (ix3 1 c k)

/-- The residual stream's gradient below the sublayer. -/
def dh (A : FVec Ideal S4096x5632 .bf16) (W : FVec Ideal S4x1024x5632 .bf16) (H : FVec Ideal S4096x1024 .f32)
    (GP : FVec Ideal S1x1024 .f32) (DH : FVec Ideal S4096x1024 .f32) (r : Fin 4096) (c : Fin 1024) : EReal :=
  DH (ix2 r c) + dxK (fun k => H (ix2 r k)) (fun k => GP (ix2 0 k)) (fun k => dn A W r k) c

/-- Row `r`'s part of the gradient of the norm's gain before the sublayer. -/
def dgRow (A : FVec Ideal S4096x5632 .bf16) (W : FVec Ideal S4x1024x5632 .bf16) (H : FVec Ideal S4096x1024 .f32)
    (r : Fin 4096) (c : Fin 1024) : EReal :=
  dn A W r c * (H (ix2 r c) * inv fun k => H (ix2 r k))

/-- Row `r`'s part of the gradient of the previous norm's gain. -/
def dgpRow (A : FVec Ideal S4096x5632 .bf16) (W : FVec Ideal S4x1024x5632 .bf16) (H : FVec Ideal S4096x1024 .f32)
    (GP : FVec Ideal S1x1024 .f32) (DH : FVec Ideal S4096x1024 .f32) (P : FVec Ideal S4096x1024 .f32)
    (r : Fin 4096) (c : Fin 1024) : EReal :=
  half * dh A W H GP DH r c * (P (ix2 r c) * inv fun k => P (ix2 r k))

def G7 (A : FVec Ideal S4096x5632 .bf16) (W : FVec Ideal S4x1024x5632 .bf16) (H : FVec Ideal S4096x1024 .f32)
    (GP : FVec Ideal S1x1024 .f32) (DH : FVec Ideal S4096x1024 .f32) : FVec Ideal S4096x1024 .f32 :=
  fun j => dh A W H GP DH (j 0) (j 1)

def G8 (A : FVec Ideal S4096x5632 .bf16) (W : FVec Ideal S4x1024x5632 .bf16) (H : FVec Ideal S4096x1024 .f32)
    (GP : FVec Ideal S1x1024 .f32) (DH : FVec Ideal S4096x1024 .f32) (P : FVec Ideal S4096x1024 .f32)
    (GQ : FVec Ideal S1x1024 .f32) : FVec Ideal S4096x1024 .bf16 :=
  fun j => dxK (fun k => P (ix2 (j 0) k)) (fun k => GQ (ix2 0 k)) (fun k => half * dh A W H GP DH (j 0) k) (j 1)

def G9 (A : FVec Ideal S4096x5632 .bf16) (W : FVec Ideal S4x1024x5632 .bf16) (H : FVec Ideal S4096x1024 .f32) :
    FVec Ideal S1x1024 .f32 :=
  fun j => ∑ r : Fin 4096, dgRow A W H r (j 1)

def G10 (A : FVec Ideal S4096x5632 .bf16) (W : FVec Ideal S4x1024x5632 .bf16) (H : FVec Ideal S4096x1024 .f32)
    (GP : FVec Ideal S1x1024 .f32) (DH : FVec Ideal S4096x1024 .f32) (P : FVec Ideal S4096x1024 .f32) :
    FVec Ideal S1x1024 .f32 :=
  fun j => ∑ r : Fin 4096, dgpRow A W H GP DH P r (j 1)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![1, 0, 0] ∧ win0_5.index t = ![0, 0]
    ∧ win0_6.index t = ![0, 0] ∧ win0_7.index t = ![t.val, 0] ∧ win0_8.index t = ![t.val, 0] :=
  (by decide +kernel : ∀ t : Fin grid0.N, _)

/-- Row `p` of grid point `t`'s tile, as a row of the array. -/
def rowOf (t : Fin cfg0.N) (p : Fin 512) : Fin 4096 :=
  ⟨512 * (t : ℕ) + (p : ℕ), by have : (t : ℕ) < 8 := t.isLt; omega⟩

theorem blkA (c : Dev nD) (t : Fin cfg0.N) (p : Fin 512) (k : Fin 5632) :
    iblk m c 0 t (ix2 p k) = m (c.tc.loc main_arg0) (ix2 (rowOf t p) k) := by
  unfold rowOf; blk_point [iblk, V, idx t]

theorem blkH (c : Dev nD) (t : Fin cfg0.N) (p : Fin 512) (k : Fin 1024) :
    iblk m c 1 t (ix2 p k) = m (c.tc.loc main_arg2) (ix2 (rowOf t p) k) := by
  unfold rowOf; blk_point [iblk, V, idx t]

theorem blkDH (c : Dev nD) (t : Fin cfg0.N) (p : Fin 512) (k : Fin 1024) :
    iblk m c 2 t (ix2 p k) = m (c.tc.loc main_arg4) (ix2 (rowOf t p) k) := by
  unfold rowOf; blk_point [iblk, V, idx t]

theorem blkF (c : Dev nD) (t : Fin cfg0.N) (p : Fin 512) (k : Fin 1024) :
    iblk m c 3 t (ix2 p k) = m (c.tc.loc main_arg5) (ix2 (rowOf t p) k) := by
  unfold rowOf; blk_point [iblk, V, idx t]

theorem blkW (c : Dev nD) (t : Fin cfg0.N) (k : Fin 1024) (l : Fin 5632) :
    iblk m c 4 t (ix3 0 k l) = m (c.tc.loc main_arg1) (ix3 1 k l) := by
  blk_point [iblk, V, idx t]

theorem blkGP (c : Dev nD) (t : Fin cfg0.N) (k : Fin 1024) :
    iblk m c 5 t (ix2 0 k) = m (c.tc.loc main_arg3) (ix2 0 k) := by
  blk_point [iblk, V, idx t]

theorem blkGQ (c : Dev nD) (t : Fin cfg0.N) (k : Fin 1024) :
    iblk m c 6 t (ix2 0 k) = m (c.tc.loc main_arg6) (ix2 0 k) := by
  blk_point [iblk, V, idx t]

set_option maxHeartbeats 1000000 in
theorem final7 (c : Dev nD) : (dats m 0 c).arrAt 7 cfg0.N
    = G7 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after0_7]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_0).slice (win0_7.rect t)).emb y = ix2 (rowOf t ⟨256 + (p : ℕ), by omega⟩) q := by
          unfold rowOf
          blk_ext [idx t]
        rw [e]
        rfl
      | have e : ((View.whole main_v0_0).slice (win0_7.rect t)).emb y = ix2 (rowOf t ⟨(p : ℕ), by omega⟩) q := by
          unfold rowOf
          blk_ext [idx t]
        rw [e]
        rfl

set_option maxHeartbeats 1000000 in
theorem final8 (c : Dev nD) : (dats m 0 c).arrAt 8 cfg0.N
    = G8 (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t _ y => ?_
  blk_simp
  rw [after0_8]
  have hN : (t : ℕ) < 8 := t.isLt
  by_cases h0 : t.val % 8 = 0
  case' pos => rw [outsAt0_A m c t h0 (by omega) h0 (by omega)]
  case' neg => rw [outsAt0_B m c t h0 (by omega) h0 (by omega)]
  all_goals
    frame_out
    canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkH, blkDH, blkF, blkW, blkGP, blkGQ]
    first
      | have e : ((View.whole main_v0_1).slice (win0_8.rect t)).emb y = ix2 (rowOf t ⟨256 + (p : ℕ), by omega⟩) q := by
          unfold rowOf
          blk_ext [idx t]
        rw [e]
        rfl
      | have e : ((View.whole main_v0_1).slice (win0_8.rect t)).emb y = ix2 (rowOf t ⟨(p : ℕ), by omega⟩) q := by
          unfold rowOf
          blk_ext [idx t]
        rw [e]
        rfl

/-- What grid point `t` adds to the block. -/
def term9 (c : Dev nD) (t : Fin cfg0.N) (j : S1x1024.Idx) : EReal :=
  ∑ k : Fin 512, dgRow (m (c.tc.loc main_arg0)) (m (c.tc.loc main_arg1)) (m (c.tc.loc main_arg2)) (rowOf t k) (j 1)

set_option maxHeartbeats 1000000 in
theorem final9 (c : Dev nD) : (dats m 0 c).arrAt 9 cfg0.N
    = G9 (m (c.tc.loc main_arg0)) (m (c.tc.loc main_arg1)) (m (c.tc.loc main_arg2)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => (0 : EReal)) (term9 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgRow (m (c.tc.loc main_arg0)) (m (c.tc.loc main_arg1)) (m (c.tc.loc main_arg2)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgRow (m (c.tc.loc main_arg0)) (m (c.tc.loc main_arg1)) (m (c.tc.loc main_arg2)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgRow (m (c.tc.loc main_arg0)) (m (c.tc.loc main_arg1)) (m (c.tc.loc main_arg2)) r q

/-- What grid point `t` adds to the block. -/
def term10 (c : Dev nD) (t : Fin cfg0.N) (j : S1x1024.Idx) : EReal :=
  ∑ k : Fin 512, dgpRow (m (c.tc.loc main_arg0)) (m (c.tc.loc main_arg1)) (m (c.tc.loc main_arg2)) (m (c.tc.loc main_arg3)) (m (c.tc.loc main_arg4)) (m (c.tc.loc main_arg5)) (rowOf t k) (j 1)

set_option maxHeartbeats 1000000 in
theorem final10 (c : Dev nD) : (dats m 0 c).arrAt 10 cfg0.N
    = G10 (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => (0 : EReal)) (term10 m c)
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_A m c t h (by omega) h (by omega)]
      frame_out
      open_payloads
      pointwise
      simp only [blkA, blkH, blkDH, blkF, blkW, blkGP, blkGQ]
      exact (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (fun t h j => by
      have hN : (t : ℕ) < 8 := t.isLt
      obtain ⟨q, rfl⟩ : ∃ q : Fin 1024, j = ix2 0 q :=
        ⟨j 1, (eq_ix2 j).trans (congrArg (fun p => ix2 p (j 1)) (Subsingleton.elim (α := Fin 1) _ _))⟩
      rw [outsAt0_B m c t h (by omega) h (by omega)]
      frame_out
      open_payloads
      pointwise
      simp only [blkA, blkH, blkDH, blkF, blkW, blkGP, blkGQ]
      exact congrArg _ (Sums.halves fun k => dgpRow (m (c.tc.loc main_arg0)) (m (c.tc.loc main_arg1)) (m (c.tc.loc main_arg2)) (m (c.tc.loc main_arg3)) (m (c.tc.loc main_arg4)) (m (c.tc.loc main_arg5)) (rowOf t k) q))
    (le_of_eq N_0) t0_7 rfl j, zero_add]
  obtain ⟨q, rfl⟩ : ∃ q : Fin 1024, j = ix2 0 q :=
    ⟨j 1, (eq_ix2 j).trans (congrArg (fun p => ix2 p (j 1)) (Subsingleton.elim (α := Fin 1) _ _))⟩
  exact Sums.tiles fun r => dgpRow (m (c.tc.loc main_arg0)) (m (c.tc.loc main_arg1)) (m (c.tc.loc main_arg2)) (m (c.tc.loc main_arg3)) (m (c.tc.loc main_arg4)) (m (c.tc.loc main_arg5)) r q

end Cert.Kernel32Ideal.BoundaryUp

end
-- ==== Proof.BoundaryUpRef.lean ====
module

public import proofs.«01_k».proof.Proof.BoundaryUp
public import proofs.«01_k».proof.Pre_finite32
public import proofs.«01_k».proof.Proof.Gen.Pre_finite32
public import proofs.«01_k».proof.Proof.Gen.Reference32Ideal.Read

@[expose] public section

set_option maxRecDepth 16384

noncomputable section

open Idealize.ShloMosaic Idealize.ShloMosaic.TcCoe Idealize.SL.Sem

namespace Cert.Reference32Ideal.BoundaryUp

open Cert.Reference32Ideal Cert.Reference32Ideal.Gen Cert.Reals Cert.Rms Cert.Reference32Ideal.Read
open Cert.Kernel32Ideal.BoundaryUp (half dn dh dgRow dgpRow G7 G8 G9 G10)

variable (A : FVec Ideal S4096x5632 .bf16) (W : FVec Ideal S4x1024x5632 .bf16) (H : FVec Ideal S4096x1024 .f32)
  (GP : FVec Ideal S1x1024 .f32) (DH : FVec Ideal S4096x1024 .f32) (P : FVec Ideal S4096x1024 .f32)
  (GQ : FVec Ideal S1x1024 .f32)

theorem ref_dh (r : Fin 4096) (c : Fin 1024) :
    val_main_v40 (F := Ideal) A W H GP DH (ix2 r c)
      = DH (ix2 r c) + dxR (fun k => H (ix2 r k)) (fun k => GP (ix2 0 k)) (fun k => dn A W r k) c := by
  pointwise [val_main_v40, val_main_v39, val_main_v38, val_main_v37, val_main_v36, val_main_v35, val_main_v34, val_main_cst_6, val_main_v33, val_main_v32, val_main_cst_5, val_main_v31, val_main_v30, val_main_v29, val_main_v28, val_main_v27, val_main_cst_4, val_main_v26, val_main_v25, val_main_v24, val_main_v20, val_main_v14, val_main_v13, val_main_cst_2, val_main_v12, val_main_v11, val_main_v10, val_main_v9, val_main_cst_1, val_main_v8, val_main_v7, val_main_cst_0, val_main_v6, val_main_v5, val_main_cst, val_main_v4, val_main_v3, val_main_v2, val_main_v1, val_main_v0]
  simp only [Fin.sum_univ_one]
  rfl

theorem ref_dg (c : Fin 1024) :
    val_main_v23 (F := Ideal) A W H (ix2 0 c) = ∑ r : Fin 4096, H (ix2 r c) * inv (fun k => H (ix2 r k)) * dn A W r c := by
  pointwise [val_main_v23, val_main_v22, val_main_cst_3, val_main_v21, val_main_v20, val_main_v16, val_main_v15, val_main_v11, val_main_v10, val_main_v9, val_main_cst_1, val_main_v8, val_main_v7, val_main_cst_0, val_main_v6, val_main_v5, val_main_cst, val_main_v4, val_main_v3, val_main_v2, val_main_v1, val_main_v0]
  rfl

theorem ref_df (r : Fin 4096) (c : Fin 1024) :
    val_main_v79 (F := Ideal) A W H GP DH P GQ (ix2 r c)
      = dxR (fun k => P (ix2 r k)) (fun k => GQ (ix2 0 k)) (fun k => half * val_main_v40 (F := Ideal) A W H GP DH (ix2 r k)) c := by
  pointwise [val_main_v79, val_main_v78, val_main_v77, val_main_v76, val_main_v75, val_main_v74, val_main_v73, val_main_cst_16, val_main_v72, val_main_v71, val_main_cst_15, val_main_v70, val_main_v69, val_main_v68, val_main_v67, val_main_v66, val_main_cst_14, val_main_v65, val_main_v64, val_main_v63, val_main_v59, val_main_v58, val_main_cst_12, val_main_v51, val_main_v50, val_main_cst_10, val_main_v49, val_main_v48, val_main_v47, val_main_v46, val_main_cst_9, val_main_v45, val_main_v44, val_main_cst_8, val_main_v43, val_main_v42, val_main_cst_7, val_main_v41]
  simp only [Fin.sum_univ_one]
  rfl

theorem ref_dgp (c : Fin 1024) :
    val_main_v62 (F := Ideal) A W H GP DH P (ix2 0 c)
      = ∑ r : Fin 4096, P (ix2 r c) * inv (fun k => P (ix2 r k)) * (half * val_main_v40 (F := Ideal) A W H GP DH (ix2 r c)) := by
  pointwise [val_main_v62, val_main_v61, val_main_cst_13, val_main_v60, val_main_v59, val_main_v58, val_main_cst_12, val_main_v53, val_main_v52, val_main_v48, val_main_v47, val_main_v46, val_main_cst_9, val_main_v45, val_main_v44, val_main_cst_8, val_main_v43, val_main_v42, val_main_cst_7, val_main_v41]
  rfl

theorem half_real : IsReal half := by
  refine ⟨1 / 2, ?_⟩
  simp [half, Ideal.ofBits, Ideal.ieee]
  rw [← EReal.coe_mul]
  norm_num

variable (hA : ∀ r k, IsReal (A (ix2 r k))) (hW : ∀ c k, IsReal (W (ix3 1 c k))) (hH : ∀ r k, IsReal (H (ix2 r k)))
  (hGP : ∀ k, IsReal (GP (ix2 0 k))) (hDH : ∀ r k, IsReal (DH (ix2 r k))) (hP : ∀ r k, IsReal (P (ix2 r k)))
  (hGQ : ∀ k, IsReal (GQ (ix2 0 k)))

include hA hW in
theorem dn_real (r : Fin 4096) (c : Fin 1024) : IsReal (dn A W r c) :=
  real_sum _ _ fun k => real_mul (hA r k) (hW c k)

include hA hW hH hGP in
theorem dh_eq (r : Fin 4096) (c : Fin 1024) : val_main_v40 (F := Ideal) A W H GP DH (ix2 r c) = dh A W H GP DH r c := by
  rw [ref_dh, dx_eq _ _ _ (fun k => hH r k) hGP (fun k => dn_real A W hA hW r k)]
  rfl

include hA hW hH hGP hDH in
theorem dh_real (r : Fin 4096) (c : Fin 1024) : IsReal (dh A W H GP DH r c) :=
  real_add (hDH r c) (dxK_real _ _ _ (fun k => hH r k) hGP (fun k => dn_real A W hA hW r k) c)

include hA hW hH hGP in
theorem eq7 : val_main_v40 (F := Ideal) A W H GP DH = G7 A W H GP DH := by
  funext j
  exact (congrArg _ (eq_ix2 j)).trans (dh_eq A W H GP DH hA hW hH hGP (j 0) (j 1))

include hA hW hH hGP hDH hP hGQ in
theorem eq8 : val_main_v79 (F := Ideal) A W H GP DH P GQ = G8 A W H GP DH P GQ := by
  funext j
  refine (congrArg _ (eq_ix2 j)).trans ((ref_df A W H GP DH P GQ (j 0) (j 1)).trans ?_)
  rw [show (fun k => half * val_main_v40 (F := Ideal) A W H GP DH (ix2 (j 0) k)) = fun k => half * dh A W H GP DH (j 0) k from
    funext fun k => congrArg _ (dh_eq A W H GP DH hA hW hH hGP (j 0) k)]
  exact dx_eq _ _ _ (fun k => hP (j 0) k) hGQ (fun k => real_mul half_real (dh_real A W H GP DH hA hW hH hGP hDH (j 0) k)) (j 1)

theorem eq9 : val_main_v23 (F := Ideal) A W H = G9 A W H := by
  funext j
  obtain ⟨q, rfl⟩ : ∃ q : Fin 1024, j = ix2 0 q :=
    ⟨j 1, (eq_ix2 j).trans (congrArg (fun p => ix2 p (j 1)) (Subsingleton.elim (α := Fin 1) _ _))⟩
  exact (ref_dg A W H q).trans (Finset.sum_congr rfl fun r _ => mul_comm _ _)

include hA hW hH hGP in
theorem eq10 : val_main_v62 (F := Ideal) A W H GP DH P = G10 A W H GP DH P := by
  funext j
  obtain ⟨q, rfl⟩ : ∃ q : Fin 1024, j = ix2 0 q :=
    ⟨j 1, (eq_ix2 j).trans (congrArg (fun p => ix2 p (j 1)) (Subsingleton.elim (α := Fin 1) _ _))⟩
  refine (ref_dgp A W H GP DH P q).trans (Finset.sum_congr rfl fun r _ => (mul_comm _ _).trans ?_)
  rw [dh_eq A W H GP DH hA hW hH hGP]
  rfl

/-- What the precondition says of the seven arrays. -/
theorem of_finite (h : Pre_finite32.fn (F := Ideal) A W H GP DH P GQ = fun _ => 1#1) :
    (∀ r k, IsReal (A (ix2 r k))) ∧ (∀ c k, IsReal (W (ix3 1 c k))) ∧ (∀ r k, IsReal (H (ix2 r k)))
      ∧ (∀ k, IsReal (GP (ix2 0 k))) ∧ (∀ r k, IsReal (DH (ix2 r k))) ∧ (∀ r k, IsReal (P (ix2 r k)))
      ∧ ∀ k, IsReal (GQ (ix2 0 k)) := by
  have h0 := congrFun h (fun a => a.elim0)
  unfold Pre_finite32.fn Pre_finite32.fn_part1 Pre_finite32.fn_part2 at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Pre_finite32.S_.Idx := ⟨fun a b => funext fun x => x.elim0⟩
  refine ⟨fun r k => ?_, fun c k => ?_, fun r k => ?_, fun k => ?_, fun r k => ?_, fun r k => ?_, fun k => ?_⟩
  · exact real_of_olt _ (Host.reduce_andi_all _ _ _ _ _ h1 (ix2 r k))
  · have := real_of_olt _ (Host.reduce_andi_all _ _ _ _ _ h2 (ix2 c k))
    pointwise at this
    exact this
  · exact real_of_olt _ (Host.reduce_andi_all _ _ _ _ _ h3 (ix2 r k))
  · exact real_of_olt _ (Host.reduce_andi_all _ _ _ _ _ h4 (ix2 0 k))
  · exact real_of_olt _ (Host.reduce_andi_all _ _ _ _ _ h5 (ix2 r k))
  · exact real_of_olt _ (Host.reduce_andi_all _ _ _ _ _ h6 (ix2 r k))
  · exact real_of_olt _ (Host.reduce_andi_all _ _ _ _ _ h7 (ix2 0 k))

end Cert.Reference32Ideal.BoundaryUp

end
-- ==== Proof.BoundaryUpClaim.lean ====
module

public import proofs.«01_k».proof.Defs
public import proofs.«01_k».proof.Proof.BoundaryUpRef
public import proofs.«01_k».proof.Proof.Gen.Kernel32.Frame
public import proofs.«01_k».proof.Proof.Gen.Kernel32Ideal.Value
public import proofs.«01_k».proof.Proof.Gen.Reference32Ideal.Run
public import Idealize.ShloMosaic.Lib.Quiescent

@[expose] public section

set_option maxRecDepth 16384

noncomputable section

open Idealize.ShloMosaic Idealize.ShloMosaic.TcCoe Idealize.SL.Sem

open Cert.Kernel32Ideal (main_arg0 main_arg1 main_arg2 main_arg3 main_arg4 main_arg5 main_arg6)

namespace Cert.Proof.BoundaryUp

/-- The reference runs on the host alone: it has no semaphores, and it leaves its arguments as they were. -/
theorem quiescent_ref : quiescent_Reference32Ideal := fun m g _ =>
  (θ_run _ _ _).mono (fun r h => ⟨fun c => (h c).2.2.2.2, sem_eq_zero_of_no_sems (by decide) r.2⟩)
    (Reference32Ideal.Value.run (F := Ideal) m g)

/-- The gradients between two sublayers: each of the kernel's four results is the reference's. -/
theorem algebraic : algebraic_Kernel32Ideal_Reference32Ideal_pre_finite32 := by
  intro m g m' g' hpre hagree
  refine ⟨fun c => Kernel32Ideal.BoundaryUp.G7 (m (c.tc.loc main_arg0)) (m (c.tc.loc main_arg1)) (m (c.tc.loc main_arg2)) (m (c.tc.loc main_arg3)) (m (c.tc.loc main_arg4)), fun c => Kernel32Ideal.BoundaryUp.G8 (m (c.tc.loc main_arg0)) (m (c.tc.loc main_arg1)) (m (c.tc.loc main_arg2)) (m (c.tc.loc main_arg3)) (m (c.tc.loc main_arg4)) (m (c.tc.loc main_arg5)) (m (c.tc.loc main_arg6)), fun c => Kernel32Ideal.BoundaryUp.G9 (m (c.tc.loc main_arg0)) (m (c.tc.loc main_arg1)) (m (c.tc.loc main_arg2)), fun c => Kernel32Ideal.BoundaryUp.G10 (m (c.tc.loc main_arg0)) (m (c.tc.loc main_arg1)) (m (c.tc.loc main_arg2)) (m (c.tc.loc main_arg3)) (m (c.tc.loc main_arg4)) (m (c.tc.loc main_arg5)),
    (θ_run _ _ _).mono (fun r h c => ?_) (Kernel32Ideal.Value.run_blocks m g),
    (θ_run _ _ _).mono (fun r h c => ⟨(h c).1.trans ?_, (h c).2.1.trans ?_, (h c).2.2.1.trans ?_, (h c).2.2.2.1.trans ?_, (h c).2.2.2.2⟩) (Reference32Ideal.Value.run (F := Ideal) m' g')⟩
  · exact ⟨(h c).1.trans (Kernel32Ideal.BoundaryUp.final7 m c), (h c).2.1.trans (Kernel32Ideal.BoundaryUp.final8 m c), (h c).2.2.1.trans (Kernel32Ideal.BoundaryUp.final9 m c), (h c).2.2.2.1.trans (Kernel32Ideal.BoundaryUp.final10 m c), (h c).2.2.2.2⟩
  · obtain ⟨e0, e1, e2, e3, e4, e5, e6⟩ := hagree c
    refine (Reference32Ideal.Read.val_main_v40_eq m' c).trans ?_
    rw [e0, e1, e2, e3, e4]
    obtain ⟨h0, h1, h2, h3, h4, h5, h6⟩ := Reference32Ideal.BoundaryUp.of_finite _ _ _ _ _ _ _ (hpre c)
    exact Reference32Ideal.BoundaryUp.eq7 _ _ _ _ _ h0 h1 h2 h3
  · obtain ⟨e0, e1, e2, e3, e4, e5, e6⟩ := hagree c
    refine (Reference32Ideal.Read.val_main_v79_eq m' c).trans ?_
    rw [e0, e1, e2, e3, e4, e5, e6]
    obtain ⟨h0, h1, h2, h3, h4, h5, h6⟩ := Reference32Ideal.BoundaryUp.of_finite _ _ _ _ _ _ _ (hpre c)
    exact Reference32Ideal.BoundaryUp.eq8 _ _ _ _ _ _ _ h0 h1 h2 h3 h4 h5 h6
  · obtain ⟨e0, e1, e2, e3, e4, e5, e6⟩ := hagree c
    refine (Reference32Ideal.Read.val_main_v23_eq _ _ _).trans ?_
    rw [e0, e1, e2]
    exact Reference32Ideal.BoundaryUp.eq9 _ _ _
  · obtain ⟨e0, e1, e2, e3, e4, e5, e6⟩ := hagree c
    refine (Reference32Ideal.Read.val_main_v62_eq m' c).trans ?_
    rw [e0, e1, e2, e3, e4, e5]
    obtain ⟨h0, h1, h2, h3, h4, h5, h6⟩ := Reference32Ideal.BoundaryUp.of_finite _ _ _ _ _ _ _ (hpre c)
    exact Reference32Ideal.BoundaryUp.eq10 _ _ _ _ _ _ h0 h1 h2 h3

end Cert.Proof.BoundaryUp

end
-- ==== Proof.MemoryKv.lean ====
module

public import proofs.«01_k».proof.Proof.Gen.Kernel33Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel33Ideal.MemoryKv

open Cert.Kernel33Ideal Cert.Kernel33Ideal.Gen

/-- The product: row `r` of the first operand against column `c` of the weight's layer. -/
def prod (A : FVec Ideal S256x1024 .bf16) (W : FVec Ideal S4x1024x2048 .bf16) (r : Fin 256) (c : Fin 2048) : EReal :=
  ∑ k : Fin 1024, A (ix2 r k) * W (ix3 1 k c)

/-- The kernel's result. -/
def G (A : FVec Ideal S256x1024 .bf16) (W : FVec Ideal S4x1024x2048 .bf16) : FVec Ideal S256x2048 .bf16 :=
  fun j => prod A W (j 0) (j 1)

variable (m : (ℓ : Loc nD τ sig) → Buf (Elt Ideal) ℓ)

theorem idx : ∀ t : Fin cfg0.N, win0_0.index t = ![t.val % 1, 0] ∧ win0_1.index t = ![1, 0, t.val / 1]
    ∧ win0_2.index t = ![t.val % 1, t.val / 1] :=
  (by decide +kernel : ∀ t : Fin grid0.N, _)

/-- Row `p` and column `q` of tile `t`: the tiles of one half of the columns come first. -/
def rowOf (t : Fin cfg0.N) (p : Fin 256) : Fin 256 := ⟨256 * ((t : ℕ) % 1) + (p : ℕ), by omega⟩
def colOf (t : Fin cfg0.N) (q : Fin 1024) : Fin 2048 := ⟨1024 * ((t : ℕ) / 1) + (q : ℕ), by have : (t : ℕ) < 2 := t.isLt; omega⟩

theorem blkA (c : Dev nD) (t : Fin cfg0.N) (p : Fin 256) (k : Fin 1024) :
    iblk m c 0 t (ix2 p k) = m (c.tc.loc main_arg0) (ix2 (rowOf t p) k) := by
  unfold rowOf; blk_point [iblk, V, idx t]

theorem blkW (c : Dev nD) (t : Fin cfg0.N) (k : Fin 1024) (q : Fin 1024) :
    iblk m c 1 t (ix3 0 k q) = m (c.tc.loc main_arg1) (ix3 1 k (colOf t q)) := by
  unfold colOf; blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 2 := t.isLt
  unfold out0_2
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkW]
    have e : ((cfg0.win 2).blk t).view.emb y = ix2 (rowOf t p) (colOf t q) := by
      unfold rowOf colOf
      blk_ext [idx t]
    rw [e]
    rfl

end Cert.Kernel33Ideal.MemoryKv

end
-- ==== Proof.MemoryKvRef.lean ====
module

public import proofs.«01_k».proof.Proof.MemoryKv
public import proofs.«01_k».proof.Proof.Gen.Reference33Ideal.Read

@[expose] public section

set_option maxRecDepth 16384

noncomputable section

open Idealize.ShloMosaic Idealize.ShloMosaic.TcCoe Idealize.SL.Sem

namespace Cert.Reference33Ideal.MemoryKv

open Cert.Reference33Ideal Cert.Reference33Ideal.Gen Cert.Reference33Ideal.Read

/-- The reference's result is the kernel's, element by element the same product. -/
theorem ref_eq (A : FVec Ideal S256x1024 .bf16) (W : FVec Ideal S4x1024x2048 .bf16) :
    val_main_v5 (F := Ideal) A W = Kernel33Ideal.MemoryKv.G A W := by
  funext j
  obtain ⟨p, q, rfl⟩ : ∃ (p : Fin 256) (q : Fin 2048), j = ix2 p q := ⟨j 0, j 1, eq_ix2 j⟩
  pointwise [val_main_v5, val_main_v4, val_main_v3, val_main_v2, val_main_v1, val_main_v0]
  rfl

end Cert.Reference33Ideal.MemoryKv

end
-- ==== Proof.MemoryKvClaim.lean ====
module

public import proofs.«01_k».proof.Defs
public import proofs.«01_k».proof.Proof.MemoryKvRef
public import proofs.«01_k».proof.Proof.Gen.Kernel33.Frame
public import proofs.«01_k».proof.Proof.Gen.Kernel33Ideal.Value
public import proofs.«01_k».proof.Proof.Gen.Reference33Ideal.Run
public import Idealize.ShloMosaic.Lib.Quiescent

@[expose] public section

set_option maxRecDepth 16384

noncomputable section

open Idealize.ShloMosaic Idealize.ShloMosaic.TcCoe Idealize.SL.Sem

namespace Cert.Proof.MemoryKv

/-- The reference runs on the host alone: it has no semaphores, and it leaves its arguments as they were. -/
theorem quiescent_ref : quiescent_Reference33Ideal := fun m g _ =>
  (θ_run _ _ _).mono (fun r h => ⟨fun c => (h c).2, sem_eq_zero_of_no_sems (by decide) r.2⟩)
    (Reference33Ideal.Value.run (F := Ideal) m g)

/-- The memory's keys and values. -/
theorem algebraic : algebraic_Kernel33Ideal_Reference33Ideal := by
  intro m g m' g' _ hagree
  refine ⟨fun c => Kernel33Ideal.MemoryKv.G (m (c.tc.loc Kernel33Ideal.main_arg0)) (m (c.tc.loc Kernel33Ideal.main_arg1)),
    (θ_run _ _ _).mono (fun r h c => ?_) (Kernel33Ideal.Value.run_blocks m g),
    (θ_run _ _ _).mono (fun r h c => ⟨(h c).1.trans ?_, (h c).2⟩) (Reference33Ideal.Value.run (F := Ideal) m' g')⟩
  · exact ⟨(h c).1.trans (Kernel33Ideal.MemoryKv.final m c), (h c).2⟩
  · obtain ⟨e0, e1⟩ := hagree c
    refine (Reference33Ideal.Read.val_main_v5_eq _ _).trans ?_
    rw [e0, e1]
    exact Reference33Ideal.MemoryKv.ref_eq _ _

end Cert.Proof.MemoryKv

end
-- ==== Proof.EvenIn.lean ====
module

public import proofs.«01_k».proof.Proof.Gen.Kernel34Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel34Ideal.EvenIn

open Cert.Kernel34Ideal Cert.Kernel34Ideal.Gen

/-- The product: row `r` of the first operand against column `c` of the weight's layer. -/
def prod (A : FVec Ideal S4096x1024 .bf16) (W : FVec Ideal S2x1024x2048 .bf16) (r : Fin 4096) (c : Fin 2048) : EReal :=
  ∑ k : Fin 1024, A (ix2 r k) * W (ix3 0 k c)

/-- The kernel's result. -/
def G (A : FVec Ideal S4096x1024 .bf16) (W : FVec Ideal S2x1024x2048 .bf16) : FVec Ideal S4096x2048 .f32 :=
  fun j => prod A W (j 0) (j 1)

variable (m : (ℓ : Loc nD τ sig) → Buf (Elt Ideal) ℓ)

theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- Row `p` and column `q` of tile `t`: the tiles of one half of the columns come first. -/
def rowOf (t : Fin cfg0.N) (p : Fin 512) : Fin 4096 := ⟨512 * ((t : ℕ) % 8) + (p : ℕ), by omega⟩
def colOf (t : Fin cfg0.N) (q : Fin 1024) : Fin 2048 := ⟨1024 * ((t : ℕ) / 8) + (q : ℕ), by have : (t : ℕ) < 16 := t.isLt; omega⟩

theorem blkA (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkW (c : Dev nD) (t : Fin cfg0.N) (k : Fin 1024) (q : Fin 1024) :
    iblk m c 1 t (ix3 0 k q) = m (c.tc.loc main_arg1) (ix3 0 k (colOf t q)) := by
  unfold colOf; blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 16 := t.isLt
  unfold out0_2
  canon_tiles x h
  all_goals
    obtain ⟨p, q, rfl⟩ : ∃ (p : Fin 512) (q : Fin 1024), x = ix2 p q := ⟨x 0, x 1, eq_ix2 x⟩
    simp only [ix2_0, ix2_1] at h0 h1
    open_payloads
    pointwise
    simp only [blkA, blkW]
    have e : ((cfg0.win 2).blk t).view.emb y = ix2 (rowOf t p) (colOf t q) := by
      unfold rowOf colOf
      blk_ext [idx t]
    rw [e]
    rfl

end Cert.Kernel34Ideal.EvenIn

end
-- ==== Proof.EvenInRef.lean ====
module

public import proofs.«01_k».proof.Proof.EvenIn
public import proofs.«01_k».proof.Proof.Gen.Reference34Ideal.Read

@[expose] public section

set_option maxRecDepth 16384

noncomputable section

open Idealize.ShloMosaic Idealize.ShloMosaic.TcCoe Idealize.SL.Sem

namespace Cert.Reference34Ideal.EvenIn

open Cert.Reference34Ideal Cert.Reference34Ideal.Gen Cert.Reference34Ideal.Read

/-- The reference's result is the kernel's, element by element the same product. -/
theorem ref_eq (A : FVec Ideal S4096x1024 .bf16) (W : FVec Ideal S2x1024x2048 .bf16) :
    val_main_v4 (F := Ideal) A W = Kernel34Ideal.EvenIn.G A W := by
  funext j
  obtain ⟨p, q, rfl⟩ : ∃ (p : Fin 4096) (q : Fin 2048), j = ix2 p q := ⟨j 0, j 1, eq_ix2 j⟩
  pointwise [val_main_v4, val_main_v3, val_main_v2, val_main_v1, val_main_v0]
  rfl

end Cert.Reference34Ideal.EvenIn

end
-- ==== Proof.EvenInClaim.lean ====
module

public import proofs.«01_k».proof.Defs
public import proofs.«01_k».proof.Proof.EvenInRef
public import proofs.«01_k».proof.Proof.Gen.Kernel34.Frame
public import proofs.«01_k».proof.Proof.Gen.Kernel34Ideal.Value
public import proofs.«01_k».proof.Proof.Gen.Reference34Ideal.Run
public import Idealize.ShloMosaic.Lib.Quiescent

@[expose] public section

set_option maxRecDepth 16384

noncomputable section

open Idealize.ShloMosaic Idealize.ShloMosaic.TcCoe Idealize.SL.Sem

namespace Cert.Proof.EvenIn

/-- The reference runs on the host alone: it has no semaphores, and it leaves its arguments as they were. -/
theorem quiescent_ref : quiescent_Reference34Ideal := fun m g _ =>
  (θ_run _ _ _).mono (fun r h => ⟨fun c => (h c).2, sem_eq_zero_of_no_sems (by decide) r.2⟩)
    (Reference34Ideal.Value.run (F := Ideal) m g)

/-- The gated mixer's input projection. -/
theorem algebraic : algebraic_Kernel34Ideal_Reference34Ideal := by
  intro m g m' g' _ hagree
  refine ⟨fun c => Kernel34Ideal.EvenIn.G (m (c.tc.loc Kernel34Ideal.main_arg0)) (m (c.tc.loc Kernel34Ideal.main_arg1)),
    (θ_run _ _ _).mono (fun r h c => ?_) (Kernel34Ideal.Value.run_blocks m g),
    (θ_run _ _ _).mono (fun r h c => ⟨(h c).1.trans ?_, (h c).2⟩) (Reference34Ideal.Value.run (F := Ideal) m' g')⟩
  · exact ⟨(h c).1.trans (Kernel34Ideal.EvenIn.final m c), (h c).2⟩
  · obtain ⟨e0, e1⟩ := hagree c
    refine (Reference34Ideal.Read.val_main_v4_eq _ _).trans ?_
    rw [e0, e1]
    exact Reference34Ideal.EvenIn.ref_eq _ _

end Cert.Proof.EvenIn

end
-- ==== Proof.OddIn.lean ====
module

public import proofs.«01_k».proof.Proof.Gen.Kernel35Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel35Ideal.OddIn

open Cert.Kernel35Ideal Cert.Kernel35Ideal.Gen

/-- The product: row `r` of the first operand against column `c` of the weight's layer. -/
def prod (A : FVec Ideal S4096x1024 .bf16) (W : FVec Ideal S2x1024x1024 .bf16) (r : Fin 4096) (c : Fin 1024) : EReal :=
  ∑ k : Fin 1024, A (ix2 r k) * W (ix3 0 k c)

/-- The kernel's result. -/
def G (A : FVec Ideal S4096x1024 .bf16) (W : FVec Ideal S2x1024x1024 .bf16) : FVec Ideal S4096x1024 .f32 :=
  fun j => prod A W (j 0) (j 1)

variable (m : (ℓ : Loc nD τ sig) → Buf (Elt Ideal) ℓ)

theorem idx : ∀ t : Fin cfg0.N, win0_0.index t = ![t.val, 0] ∧ win0_1.index t = ![0, 0, 0]
    ∧ win0_2.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkA (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkW (c : Dev nD) (t : Fin cfg0.N) (k : Fin 1024) (l : Fin 1024) :
    iblk m c 1 t (ix3 0 k l) = m (c.tc.loc main_arg1) (ix3 0 k l) := by
  blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 8 := t.isLt
  unfold out0_2
  canon_tiles x h
  all_goals
    obtain ⟨p, q, rfl⟩ : ∃ (p : Fin 512) (q : Fin 1024), x = ix2 p q := ⟨x 0, x 1, eq_ix2 x⟩
    simp only [ix2_0, ix2_1] at h0 h1
    open_payloads
    pointwise
    simp only [blkA, blkW]
    have e : ((cfg0.win 2).blk t).view.emb y = ix2 (rowOf t p) q := by
      unfold rowOf
      blk_ext [idx t]
    rw [e]
    rfl

end Cert.Kernel35Ideal.OddIn

end
-- ==== Proof.OddInRef.lean ====
module

public import proofs.«01_k».proof.Proof.OddIn
public import proofs.«01_k».proof.Proof.Gen.Reference35Ideal.Read

@[expose] public section

set_option maxRecDepth 16384

noncomputable section

open Idealize.ShloMosaic Idealize.ShloMosaic.TcCoe Idealize.SL.Sem

namespace Cert.Reference35Ideal.OddIn

open Cert.Reference35Ideal Cert.Reference35Ideal.Gen Cert.Reference35Ideal.Read

/-- The reference's result is the kernel's, element by element the same product. -/
theorem ref_eq (A : FVec Ideal S4096x1024 .bf16) (W : FVec Ideal S2x1024x1024 .bf16) :
    val_main_v4 (F := Ideal) A W = Kernel35Ideal.OddIn.G A W := by
  funext j
  obtain ⟨p, q, rfl⟩ : ∃ (p : Fin 4096) (q : Fin 1024), j = ix2 p q := ⟨j 0, j 1, eq_ix2 j⟩
  pointwise [val_main_v4, val_main_v3, val_main_v2, val_main_v1, val_main_v0]
  rfl

end Cert.Reference35Ideal.OddIn

end
-- ==== Proof.OddInClaim.lean ====
module

public import proofs.«01_k».proof.Defs
public import proofs.«01_k».proof.Proof.OddInRef
public import proofs.«01_k».proof.Proof.Gen.Kernel35.Frame
public import proofs.«01_k».proof.Proof.Gen.Kernel35Ideal.Value
public import proofs.«01_k».proof.Proof.Gen.Reference35Ideal.Run
public import Idealize.ShloMosaic.Lib.Quiescent

@[expose] public section

set_option maxRecDepth 16384

noncomputable section

open Idealize.ShloMosaic Idealize.ShloMosaic.TcCoe Idealize.SL.Sem

namespace Cert.Proof.OddIn

/-- The reference runs on the host alone: it has no semaphores, and it leaves its arguments as they were. -/
theorem quiescent_ref : quiescent_Reference35Ideal := fun m g _ =>
  (θ_run _ _ _).mono (fun r h => ⟨fun c => (h c).2, sem_eq_zero_of_no_sems (by decide) r.2⟩)
    (Reference35Ideal.Value.run (F := Ideal) m g)

/-- The pooling mixer's input projection. -/
theorem algebraic : algebraic_Kernel35Ideal_Reference35Ideal := by
  intro m g m' g' _ hagree
  refine ⟨fun c => Kernel35Ideal.OddIn.G (m (c.tc.loc Kernel35Ideal.main_arg0)) (m (c.tc.loc Kernel35Ideal.main_arg1)),
    (θ_run _ _ _).mono (fun r h c => ?_) (Kernel35Ideal.Value.run_blocks m g),
    (θ_run _ _ _).mono (fun r h c => ⟨(h c).1.trans ?_, (h c).2⟩) (Reference35Ideal.Value.run (F := Ideal) m' g')⟩
  · exact ⟨(h c).1.trans (Kernel35Ideal.OddIn.final m c), (h c).2⟩
  · obtain ⟨e0, e1⟩ := hagree c
    refine (Reference35Ideal.Read.val_main_v4_eq _ _).trans ?_
    rw [e0, e1]
    exact Reference35Ideal.OddIn.ref_eq _ _

end Cert.Proof.OddIn

end
-- ==== Proof.MemoryDx.lean ====
module

public import proofs.«01_k».proof.Proof.Gen.Kernel36Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel36Ideal.MemoryDx

open Cert.Kernel36Ideal Cert.Kernel36Ideal.Gen

/-- The product: row `r` of the first operand against row `c` of the weight's layer. -/
def prod (A : FVec Ideal S256x2048 .bf16) (W : FVec Ideal S4x1024x2048 .bf16) (r : Fin 256) (c : Fin 1024) : EReal :=
  ∑ k : Fin 2048, A (ix2 r k) * W (ix3 1 c k)

/-- The kernel's result. -/
def G (A : FVec Ideal S256x2048 .bf16) (W : FVec Ideal S4x1024x2048 .bf16) : FVec Ideal S256x1024 .f32 :=
  fun j => prod A W (j 0) (j 1)

variable (m : (ℓ : Loc nD τ sig) → Buf (Elt Ideal) ℓ)

theorem idx : ∀ t : Fin cfg0.N, win0_0.index t = ![t.val, 0] ∧ win0_1.index t = ![1, 0, 0]
    ∧ win0_2.index t = ![t.val, 0] :=
  (by decide +kernel : ∀ t : Fin grid0.N, _)

/-- Row `p` of block `t`. -/
def rowOf (t : Fin cfg0.N) (p : Fin 256) : Fin 256 := ⟨256 * (t : ℕ) + (p : ℕ), by have : (t : ℕ) < 1 := t.isLt; omega⟩

theorem blkA (c : Dev nD) (t : Fin cfg0.N) (p : Fin 256) (k : Fin 2048) :
    iblk m c 0 t (ix2 p k) = m (c.tc.loc main_arg0) (ix2 (rowOf t p) k) := by
  unfold rowOf; blk_point [iblk, V, idx t]

theorem blkW (c : Dev nD) (t : Fin cfg0.N) (k : Fin 1024) (l : Fin 2048) :
    iblk m c 1 t (ix3 0 k l) = m (c.tc.loc main_arg1) (ix3 1 k l) := by
  blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 1 := t.isLt
  unfold out0_2
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkA, blkW]
    have e : ((cfg0.win 2).blk t).view.emb y = ix2 (rowOf t p) q := by
      unfold rowOf
      blk_ext [idx t]
    rw [e]
    rfl

end Cert.Kernel36Ideal.MemoryDx

end
-- ==== Proof.MemoryDxRef.lean ====
module

public import proofs.«01_k».proof.Proof.MemoryDx
public import proofs.«01_k».proof.Proof.Gen.Reference36Ideal.Read

@[expose] public section

set_option maxRecDepth 16384

noncomputable section

open Idealize.ShloMosaic Idealize.ShloMosaic.TcCoe Idealize.SL.Sem

namespace Cert.Reference36Ideal.MemoryDx

open Cert.Reference36Ideal Cert.Reference36Ideal.Gen Cert.Reference36Ideal.Read

/-- The reference's result is the kernel's, element by element the same product. -/
theorem ref_eq (A : FVec Ideal S256x2048 .bf16) (W : FVec Ideal S4x1024x2048 .bf16) :
    val_main_v6 (F := Ideal) A W = Kernel36Ideal.MemoryDx.G A W := by
  funext j
  obtain ⟨p, q, rfl⟩ : ∃ (p : Fin 256) (q : Fin 1024), j = ix2 p q := ⟨j 0, j 1, eq_ix2 j⟩
  pointwise [val_main_v6, val_main_v5, val_main_v2, val_main_v1, val_main_v0]
  rfl

end Cert.Reference36Ideal.MemoryDx

end
-- ==== Proof.MemoryDxClaim.lean ====
module

public import proofs.«01_k».proof.Defs
public import proofs.«01_k».proof.Proof.MemoryDxRef
public import proofs.«01_k».proof.Proof.Gen.Kernel36.Frame
public import proofs.«01_k».proof.Proof.Gen.Kernel36Ideal.Value
public import proofs.«01_k».proof.Proof.Gen.Reference36Ideal.Run
public import Idealize.ShloMosaic.Lib.Quiescent

@[expose] public section

set_option maxRecDepth 16384

noncomputable section

open Idealize.ShloMosaic Idealize.ShloMosaic.TcCoe Idealize.SL.Sem

namespace Cert.Proof.MemoryDx

/-- The reference runs on the host alone: it has no semaphores, and it leaves its arguments as they were. -/
theorem quiescent_ref : quiescent_Reference36Ideal := fun m g _ =>
  (θ_run _ _ _).mono (fun r h => ⟨fun c => (h c).2, sem_eq_zero_of_no_sems (by decide) r.2⟩)
    (Reference36Ideal.Value.run (F := Ideal) m g)

/-- The gradient through the memory's projection. -/
theorem algebraic : algebraic_Kernel36Ideal_Reference36Ideal := by
  intro m g m' g' _ hagree
  refine ⟨fun c => Kernel36Ideal.MemoryDx.G (m (c.tc.loc Kernel36Ideal.main_arg0)) (m (c.tc.loc Kernel36Ideal.main_arg1)),
    (θ_run _ _ _).mono (fun r h c => ?_) (Kernel36Ideal.Value.run_blocks m g),
    (θ_run _ _ _).mono (fun r h c => ⟨(h c).1.trans ?_, (h c).2⟩) (Reference36Ideal.Value.run (F := Ideal) m' g')⟩
  · exact ⟨(h c).1.trans (Kernel36Ideal.MemoryDx.final m c), (h c).2⟩
  · obtain ⟨e0, e1⟩ := hagree c
    refine (Reference36Ideal.Read.val_main_v6_eq _ _).trans ?_
    rw [e0, e1]
    exact Reference36Ideal.MemoryDx.ref_eq _ _

end Cert.Proof.MemoryDx

end
-- ==== Proof.MixerDx.lean ====
module

public import proofs.«01_k».proof.Proof.Gen.Kernel37Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel37Ideal.MixerDx

open Cert.Kernel37Ideal Cert.Kernel37Ideal.Gen

/-- The product: row `r` of the first operand against row `c` of the weight's layer. -/
def prod (A : FVec Ideal S4096x1024 .bf16) (W : FVec Ideal S2x1024x1024 .bf16) (r : Fin 4096) (c : Fin 1024) : EReal :=
  ∑ k : Fin 1024, A (ix2 r k) * W (ix3 0 c k)

/-- The kernel's result. -/
def G (A : FVec Ideal S4096x1024 .bf16) (W : FVec Ideal S2x1024x1024 .bf16) : FVec Ideal S4096x1024 .f32 :=
  fun j => prod A W (j 0) (j 1)

variable (m : (ℓ : Loc nD τ sig) → Buf (Elt Ideal) ℓ)

theorem idx : ∀ t : Fin cfg0.N, win0_0.index t = ![t.val, 0] ∧ win0_1.index t = ![0, 0, 0]
    ∧ win0_2.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkA (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkW (c : Dev nD) (t : Fin cfg0.N) (k : Fin 1024) (l : Fin 1024) :
    iblk m c 1 t (ix3 0 k l) = m (c.tc.loc main_arg1) (ix3 0 k l) := by
  blk_point [iblk, V, idx t]

theorem final (c : Dev nD) : (dats m 0 c).arrAt 2 cfg0.N = G (m (c.tc.loc main_arg0)) (m (c.tc.loc main_arg1)) := by
  refine (dats m 0 c).arrAt_eq_of_covers 2 _ (by decide +kernel) fun t _ y => ?_
  blk_simp
  rw [after0_2]
  have hN : (t : ℕ) < 8 := t.isLt
  unfold out0_2
  canon_tiles x h
  all_goals
    obtain ⟨p, q, rfl⟩ : ∃ (p : Fin 512) (q : Fin 1024), x = ix2 p q := ⟨x 0, x 1, eq_ix2 x⟩
    simp only [ix2_0, ix2_1] at h0 h1
    open_payloads
    pointwise
    simp only [blkA, blkW]
    have e : ((cfg0.win 2).blk t).view.emb y = ix2 (rowOf t p) q := by
      unfold rowOf
      blk_ext [idx t]
    rw [e]
    rfl

end Cert.Kernel37Ideal.MixerDx

end
-- ==== Proof.MixerDxRef.lean ====
module

public import proofs.«01_k».proof.Proof.MixerDx
public import proofs.«01_k».proof.Proof.Gen.Reference37Ideal.Read

@[expose] public section

set_option maxRecDepth 16384

noncomputable section

open Idealize.ShloMosaic Idealize.ShloMosaic.TcCoe Idealize.SL.Sem

namespace Cert.Reference37Ideal.MixerDx

open Cert.Reference37Ideal Cert.Reference37Ideal.Gen Cert.Reference37Ideal.Read

/-- The reference's result is the kernel's, element by element the same product. -/
theorem ref_eq (A : FVec Ideal S4096x1024 .bf16) (W : FVec Ideal S2x1024x1024 .bf16) :
    val_main_v6 (F := Ideal) A W = Kernel37Ideal.MixerDx.G A W := by
  funext j
  obtain ⟨p, q, rfl⟩ : ∃ (p : Fin 4096) (q : Fin 1024), j = ix2 p q := ⟨j 0, j 1, eq_ix2 j⟩
  pointwise [val_main_v6, val_main_v5, val_main_v2, val_main_v1, val_main_v0]
  rfl

end Cert.Reference37Ideal.MixerDx

end
-- ==== Proof.MixerDxClaim.lean ====
module

public import proofs.«01_k».proof.Defs
public import proofs.«01_k».proof.Proof.MixerDxRef
public import proofs.«01_k».proof.Proof.Gen.Kernel37.Frame
public import proofs.«01_k».proof.Proof.Gen.Kernel37Ideal.Value
public import proofs.«01_k».proof.Proof.Gen.Reference37Ideal.Run
public import Idealize.ShloMosaic.Lib.Quiescent

@[expose] public section

set_option maxRecDepth 16384

noncomputable section

open Idealize.ShloMosaic Idealize.ShloMosaic.TcCoe Idealize.SL.Sem

namespace Cert.Proof.MixerDx

/-- The reference runs on the host alone: it has no semaphores, and it leaves its arguments as they were. -/
theorem quiescent_ref : quiescent_Reference37Ideal := fun m g _ =>
  (θ_run _ _ _).mono (fun r h => ⟨fun c => (h c).2, sem_eq_zero_of_no_sems (by decide) r.2⟩)
    (Reference37Ideal.Value.run (F := Ideal) m g)

/-- The gradient through a mixer's output projection. -/
theorem algebraic : algebraic_Kernel37Ideal_Reference37Ideal := by
  intro m g m' g' _ hagree
  refine ⟨fun c => Kernel37Ideal.MixerDx.G (m (c.tc.loc Kernel37Ideal.main_arg0)) (m (c.tc.loc Kernel37Ideal.main_arg1)),
    (θ_run _ _ _).mono (fun r h c => ?_) (Kernel37Ideal.Value.run_blocks m g),
    (θ_run _ _ _).mono (fun r h c => ⟨(h c).1.trans ?_, (h c).2⟩) (Reference37Ideal.Value.run (F := Ideal) m' g')⟩
  · exact ⟨(h c).1.trans (Kernel37Ideal.MixerDx.final m c), (h c).2⟩
  · obtain ⟨e0, e1⟩ := hagree c
    refine (Reference37Ideal.Read.val_main_v6_eq _ _).trans ?_
    rw [e0, e1]
    exact Reference37Ideal.MixerDx.ref_eq _ _

end Cert.Proof.MixerDx

end
-- ==== Proof.PostO.lean ====
module

public import proofs.«01_k».proof.Proof.Gen.Kernel38Ideal.Value
public import Idealize.ShloMosaic.Lib.Pipeline.ValueKit
public import Idealize.ShloMosaic.Lib.Pointwise
public import proofs.«01_k».proof.Proof.Rms

@[expose] public section

set_option maxRecDepth 16384

noncomputable section

open Idealize.ShloMosaic Idealize.ShloMosaic.TcCoe Idealize.SL.Sem

namespace Cert.Kernel38Ideal.PostO

open Cert.Kernel38Ideal Cert.Kernel38Ideal.Gen Cert.Rms

/-- The layer's output product: row `r` of its input against column `c` of its weight. -/
def f (A : FVec Ideal S4096x1024 .bf16) (W : FVec Ideal S4x1024x1024 .bf16) (r : Fin 4096) (c : Fin 1024) : EReal :=
  ∑ k : Fin 1024, A (ix2 r k) * W (ix3 1 k c)

/-- The hidden state after the layer: what came in plus the normalised output. -/
def hn (H : FVec Ideal S4096x1024 .f32) (A : FVec Ideal S4096x1024 .bf16) (W : FVec Ideal S4x1024x1024 .bf16) (GP : FVec Ideal S1x1024 .f32) (r : Fin 4096) (c : Fin 1024) : EReal :=
  H (ix2 r c) + f A W r c * inv (f A W r) * GP (ix2 0 c)

def G5 (A : FVec Ideal S4096x1024 .bf16) (W : FVec Ideal S4x1024x1024 .bf16) : FVec Ideal S4096x1024 .f32 := fun j => f A W (j 0) (j 1)

def G6 (H : FVec Ideal S4096x1024 .f32) (A : FVec Ideal S4096x1024 .bf16) (W : FVec Ideal S4x1024x1024 .bf16) (GP : FVec Ideal S1x1024 .f32) : FVec Ideal S4096x1024 .f32 := fun j => hn H A W GP (j 0) (j 1)

/-- The next layer's normalised input. -/
def G7 (H : FVec Ideal S4096x1024 .f32) (A : FVec Ideal S4096x1024 .bf16) (W : FVec Ideal S4x1024x1024 .bf16) (GP : FVec Ideal S1x1024 .f32) (GN : FVec Ideal S1x1024 .f32) : FVec Ideal S4096x1024 .bf16 :=
  fun j => hn H A W GP (j 0) (j 1) * inv (hn H A W GP (j 0)) * GN (ix2 0 (j 1))

variable (m : (ℓ : Loc nD τ sig) → Buf (Elt Ideal) ℓ)

theorem idx : ∀ t : Fin cfg0.N, win0_0.index t = ![t.val, 0] ∧ win0_1.index t = ![t.val, 0] ∧ win0_2.index t = ![1, 0, 0]
    ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkH (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkA (c : Dev nD) (t : Fin cfg0.N) (p : Fin 512) (k : Fin 1024) :
    iblk m c 1 t (ix2 p k) = m (c.tc.loc main_arg1) (ix2 (rowOf t p) k) := by
  unfold rowOf; blk_point [iblk, V, idx t]

theorem blkW (c : Dev nD) (t : Fin cfg0.N) (k : Fin 1024) (l : Fin 1024) :
    iblk m c 2 t (ix3 0 k l) = m (c.tc.loc main_arg2) (ix3 1 k l) := by
  blk_point [iblk, V, idx t]

theorem blkGP (c : Dev nD) (t : Fin cfg0.N) (k : Fin 1024) :
    iblk m c 3 t (ix2 0 k) = m (c.tc.loc main_arg3) (ix2 0 k) := by
  blk_point [iblk, V, idx t]

theorem blkGN (c : Dev nD) (t : Fin cfg0.N) (k : Fin 1024) :
    iblk m c 4 t (ix2 0 k) = m (c.tc.loc main_arg4) (ix2 0 k) := by
  blk_point [iblk, V, idx t]

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 8 := t.isLt
  unfold out0_5
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 5).blk t).view.emb y = ix2 (rowOf t ⟨256 + (p : ℕ), by omega⟩) q := by
          unfold rowOf
          blk_ext [idx t]
        rw [e]; rfl
      | have e : ((cfg0.win 5).blk t).view.emb y = ix2 (rowOf t ⟨(p : ℕ), by omega⟩) q := by
          unfold rowOf
          blk_ext [idx t]
        rw [e]; rfl

theorem final6 (c : Dev nD) : (dats m 0 c).arrAt 6 cfg0.N = G6 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  have hN : (t : ℕ) < 8 := t.isLt
  unfold out0_6
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 6).blk t).view.emb y = ix2 (rowOf t ⟨256 + (p : ℕ), by omega⟩) q := by
          unfold rowOf
          blk_ext [idx t]
        rw [e]; rfl
      | have e : ((cfg0.win 6).blk t).view.emb y = ix2 (rowOf t ⟨(p : ℕ), by omega⟩) q := by
          unfold rowOf
          blk_ext [idx t]
        rw [e]; rfl

theorem final7 (c : Dev nD) : (dats m 0 c).arrAt 7 cfg0.N = G7 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after0_7]
  have hN : (t : ℕ) < 8 := t.isLt
  unfold out0_7
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 7).blk t).view.emb y = ix2 (rowOf t ⟨256 + (p : ℕ), by omega⟩) q := by
          unfold rowOf
          blk_ext [idx t]
        rw [e]; rfl
      | have e : ((cfg0.win 7).blk t).view.emb y = ix2 (rowOf t ⟨(p : ℕ), by omega⟩) q := by
          unfold rowOf
          blk_ext [idx t]
        rw [e]; rfl

end Cert.Kernel38Ideal.PostO

end
-- ==== Proof.PostORef.lean ====
module

public import proofs.«01_k».proof.Proof.PostO
public import proofs.«01_k».proof.Proof.Gen.Reference38Ideal.Read

@[expose] public section

set_option maxRecDepth 16384

noncomputable section

open Idealize.ShloMosaic Idealize.ShloMosaic.TcCoe Idealize.SL.Sem

namespace Cert.Reference38Ideal.PostO

open Cert.Reference38Ideal Cert.Reference38Ideal.Gen Cert.Reference38Ideal.Read

theorem ref_f (A : FVec Ideal S4096x1024 .bf16) (W : FVec Ideal S4x1024x1024 .bf16) (r : Fin 4096) (c : Fin 1024) :
    val_main_v4 (F := Ideal) A W (ix2 r c) = Kernel38Ideal.PostO.f A W r c := by
  pointwise [val_main_v4, val_main_v3, val_main_v2, val_main_v1, val_main_v0]
  rfl

theorem ref_h (H : FVec Ideal S4096x1024 .f32) (A : FVec Ideal S4096x1024 .bf16) (W : FVec Ideal S4x1024x1024 .bf16) (GP : FVec Ideal S1x1024 .f32) (r : Fin 4096) (c : Fin 1024) :
    val_main_v19 (F := Ideal) H A W GP (ix2 r c) = Kernel38Ideal.PostO.hn H A W GP r c := by
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_1, val_main_cst_2]
  simp only [ref_f]
  rfl

theorem eq5 (A : FVec Ideal S4096x1024 .bf16) (W : FVec Ideal S4x1024x1024 .bf16) : val_main_v4 (F := Ideal) A W = Kernel38Ideal.PostO.G5 A W := by
  funext j
  obtain ⟨p, q, rfl⟩ : ∃ (p : Fin 4096) (q : Fin 1024), j = ix2 p q := ⟨j 0, j 1, eq_ix2 j⟩
  exact ref_f A W p q

theorem eq6 (H : FVec Ideal S4096x1024 .f32) (A : FVec Ideal S4096x1024 .bf16) (W : FVec Ideal S4x1024x1024 .bf16) (GP : FVec Ideal S1x1024 .f32) : val_main_v19 (F := Ideal) H A W GP = Kernel38Ideal.PostO.G6 H A W GP := by
  funext j
  obtain ⟨p, q, rfl⟩ : ∃ (p : Fin 4096) (q : Fin 1024), j = ix2 p q := ⟨j 0, j 1, eq_ix2 j⟩
  exact ref_h H A W GP p q

theorem eq7 (H : FVec Ideal S4096x1024 .f32) (A : FVec Ideal S4096x1024 .bf16) (W : FVec Ideal S4x1024x1024 .bf16) (GP : FVec Ideal S1x1024 .f32) (GN : FVec Ideal S1x1024 .f32) : val_main_v32 (F := Ideal) H A W GP GN = Kernel38Ideal.PostO.G7 H A W GP GN := by
  funext j
  obtain ⟨p, q, rfl⟩ : ∃ (p : Fin 4096) (q : Fin 1024), j = ix2 p q := ⟨j 0, j 1, eq_ix2 j⟩
  pointwise [val_main_v32, val_main_v31, val_main_v30, val_main_v29, val_main_v28, val_main_v27, val_main_v26, val_main_v25, val_main_v24, val_main_v23, val_main_v22, val_main_v21, val_main_v20, val_main_cst_3, val_main_cst_4, val_main_cst_5]
  simp only [ref_h]
  rfl

end Cert.Reference38Ideal.PostO

end
-- ==== Proof.PostOClaim.lean ====
module

public import proofs.«01_k».proof.Defs
public import proofs.«01_k».proof.Proof.PostORef
public import proofs.«01_k».proof.Proof.Gen.Kernel38.Frame
public import proofs.«01_k».proof.Proof.Gen.Kernel38Ideal.Value
public import proofs.«01_k».proof.Proof.Gen.Reference38Ideal.Run
public import Idealize.ShloMosaic.Lib.Quiescent

@[expose] public section

set_option maxRecDepth 16384

noncomputable section

open Idealize.ShloMosaic Idealize.ShloMosaic.TcCoe Idealize.SL.Sem

open Cert.Kernel38Ideal (main_arg0 main_arg1 main_arg2 main_arg3 main_arg4)

namespace Cert.Proof.PostO

/-- The reference runs on the host alone: it has no semaphores, and it leaves its arguments as they were. -/
theorem quiescent_ref : quiescent_Reference38Ideal := fun m g _ =>
  (θ_run _ _ _).mono (fun r h => ⟨fun c => (h c).2.2.2, sem_eq_zero_of_no_sems (by decide) r.2⟩)
    (Reference38Ideal.Value.run (F := Ideal) m g)

/-- The output projection, the residual sum and the next sublayer's normalised input. -/
theorem algebraic : algebraic_Kernel38Ideal_Reference38Ideal := by
  intro m g m' g' _ hagree
  refine ⟨fun c => Kernel38Ideal.PostO.G5 (m (c.tc.loc main_arg1)) (m (c.tc.loc main_arg2)), fun c => Kernel38Ideal.PostO.G6 (m (c.tc.loc main_arg0)) (m (c.tc.loc main_arg1)) (m (c.tc.loc main_arg2)) (m (c.tc.loc main_arg3)), fun c => Kernel38Ideal.PostO.G7 (m (c.tc.loc main_arg0)) (m (c.tc.loc main_arg1)) (m (c.tc.loc main_arg2)) (m (c.tc.loc main_arg3)) (m (c.tc.loc main_arg4)),
    (θ_run _ _ _).mono (fun r h c => ?_) (Kernel38Ideal.Value.run_blocks m g),
    (θ_run _ _ _).mono (fun r h c => ⟨(h c).1.trans ?_, (h c).2.1.trans ?_, (h c).2.2.1.trans ?_, (h c).2.2.2⟩) (Reference38Ideal.Value.run (F := Ideal) m' g')⟩
  · exact ⟨(h c).1.trans (Kernel38Ideal.PostO.final5 m c), (h c).2.1.trans (Kernel38Ideal.PostO.final6 m c), (h c).2.2.1.trans (Kernel38Ideal.PostO.final7 m c), (h c).2.2.2⟩
  · obtain ⟨e0, e1, e2, e3, e4⟩ := hagree c
    refine (Reference38Ideal.Read.val_main_v4_eq _ _).trans ?_
    rw [e1, e2]
    exact Reference38Ideal.PostO.eq5 _ _
  · obtain ⟨e0, e1, e2, e3, e4⟩ := hagree c
    refine (Reference38Ideal.Read.val_main_v19_eq _ _ _ _).trans ?_
    rw [e0, e1, e2, e3]
    exact Reference38Ideal.PostO.eq6 _ _ _ _
  · obtain ⟨e0, e1, e2, e3, e4⟩ := hagree c
    refine (Reference38Ideal.Read.val_main_v32_eq m' c).trans ?_
    rw [e0, e1, e2, e3, e4]
    exact Reference38Ideal.PostO.eq7 _ _ _ _ _

end Cert.Proof.PostO

end
-- ==== Proof.PostMixer.lean ====
module

public import proofs.«01_k».proof.Proof.Gen.Kernel39Ideal.Value
public import Idealize.ShloMosaic.Lib.Pipeline.ValueKit
public import Idealize.ShloMosaic.Lib.Pointwise
public import proofs.«01_k».proof.Proof.Rms

@[expose] public section

set_option maxRecDepth 16384

noncomputable section

open Idealize.ShloMosaic Idealize.ShloMosaic.TcCoe Idealize.SL.Sem

namespace Cert.Kernel39Ideal.PostMixer

open Cert.Kernel39Ideal Cert.Kernel39Ideal.Gen Cert.Rms

/-- The layer's output product: row `r` of its input against column `c` of its weight. -/
def f (A : FVec Ideal S4096x1024 .bf16) (W : FVec Ideal S2x1024x1024 .bf16) (r : Fin 4096) (c : Fin 1024) : EReal :=
  ∑ k : Fin 1024, A (ix2 r k) * W (ix3 0 k c)

/-- The hidden state after the layer: what came in plus the normalised output. -/
def hn (H : FVec Ideal S4096x1024 .f32) (A : FVec Ideal S4096x1024 .bf16) (W : FVec Ideal S2x1024x1024 .bf16) (GP : FVec Ideal S1x1024 .f32) (r : Fin 4096) (c : Fin 1024) : EReal :=
  H (ix2 r c) + f A W r c * inv (f A W r) * GP (ix2 0 c)

def G5 (A : FVec Ideal S4096x1024 .bf16) (W : FVec Ideal S2x1024x1024 .bf16) : FVec Ideal S4096x1024 .f32 := fun j => f A W (j 0) (j 1)

def G6 (H : FVec Ideal S4096x1024 .f32) (A : FVec Ideal S4096x1024 .bf16) (W : FVec Ideal S2x1024x1024 .bf16) (GP : FVec Ideal S1x1024 .f32) : FVec Ideal S4096x1024 .f32 := fun j => hn H A W GP (j 0) (j 1)

/-- The next layer's normalised input. -/
def G7 (H : FVec Ideal S4096x1024 .f32) (A : FVec Ideal S4096x1024 .bf16) (W : FVec Ideal S2x1024x1024 .bf16) (GP : FVec Ideal S1x1024 .f32) (GN : FVec Ideal S1x1024 .f32) : FVec Ideal S4096x1024 .bf16 :=
  fun j => hn H A W GP (j 0) (j 1) * inv (hn H A W GP (j 0)) * GN (ix2 0 (j 1))

variable (m : (ℓ : Loc nD τ sig) → Buf (Elt Ideal) ℓ)

theorem idx : ∀ t : Fin cfg0.N, win0_0.index t = ![t.val, 0] ∧ win0_1.index t = ![t.val, 0] ∧ win0_2.index t = ![0, 0, 0]
    ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkH (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkA (c : Dev nD) (t : Fin cfg0.N) (p : Fin 512) (k : Fin 1024) :
    iblk m c 1 t (ix2 p k) = m (c.tc.loc main_arg1) (ix2 (rowOf t p) k) := by
  unfold rowOf; blk_point [iblk, V, idx t]

theorem blkW (c : Dev nD) (t : Fin cfg0.N) (k : Fin 1024) (l : Fin 1024) :
    iblk m c 2 t (ix3 0 k l) = m (c.tc.loc main_arg2) (ix3 0 k l) := by
  blk_point [iblk, V, idx t]

theorem blkGP (c : Dev nD) (t : Fin cfg0.N) (k : Fin 1024) :
    iblk m c 3 t (ix2 0 k) = m (c.tc.loc main_arg3) (ix2 0 k) := by
  blk_point [iblk, V, idx t]

theorem blkGN (c : Dev nD) (t : Fin cfg0.N) (k : Fin 1024) :
    iblk m c 4 t (ix2 0 k) = m (c.tc.loc main_arg4) (ix2 0 k) := by
  blk_point [iblk, V, idx t]

theorem final5 (c : Dev nD) : (dats m 0 c).arrAt 5 cfg0.N = G5 (m (c.tc.loc main_arg1)) (m (c.tc.loc main_arg2)) := by
  refine (dats m 0 c).arrAt_eq_of_covers 5 _ (by decide +kernel) fun t _ y => ?_
  blk_simp
  rw [after0_5]
  have hN : (t : ℕ) < 8 := t.isLt
  unfold out0_5
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 5).blk t).view.emb y = ix2 (rowOf t ⟨256 + (p : ℕ), by omega⟩) q := by
          unfold rowOf
          blk_ext [idx t]
        rw [e]; rfl
      | have e : ((cfg0.win 5).blk t).view.emb y = ix2 (rowOf t ⟨(p : ℕ), by omega⟩) q := by
          unfold rowOf
          blk_ext [idx t]
        rw [e]; rfl

theorem final6 (c : Dev nD) : (dats m 0 c).arrAt 6 cfg0.N = G6 (m (c.tc.loc main_arg0)) (m (c.tc.loc main_arg1)) (m (c.tc.loc main_arg2)) (m (c.tc.loc main_arg3)) := by
  refine (dats m 0 c).arrAt_eq_of_covers 6 _ (by decide +kernel) fun t _ y => ?_
  blk_simp
  rw [after0_6]
  have hN : (t : ℕ) < 8 := t.isLt
  unfold out0_6
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 6).blk t).view.emb y = ix2 (rowOf t ⟨256 + (p : ℕ), by omega⟩) q := by
          unfold rowOf
          blk_ext [idx t]
        rw [e]; rfl
      | have e : ((cfg0.win 6).blk t).view.emb y = ix2 (rowOf t ⟨(p : ℕ), by omega⟩) q := by
          unfold rowOf
          blk_ext [idx t]
        rw [e]; rfl

theorem final7 (c : Dev nD) : (dats m 0 c).arrAt 7 cfg0.N = G7 (m (c.tc.loc main_arg0)) (m (c.tc.loc main_arg1)) (m (c.tc.loc main_arg2)) (m (c.tc.loc main_arg3)) (m (c.tc.loc main_arg4)) := by
  refine (dats m 0 c).arrAt_eq_of_covers 7 _ (by decide +kernel) fun t _ y => ?_
  blk_simp
  rw [after0_7]
  have hN : (t : ℕ) < 8 := t.isLt
  unfold out0_7
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP, blkGN]
    first
      | have e : ((cfg0.win 7).blk t).view.emb y = ix2 (rowOf t ⟨256 + (p : ℕ), by omega⟩) q := by
          unfold rowOf
          blk_ext [idx t]
        rw [e]; rfl
      | have e : ((cfg0.win 7).blk t).view.emb y = ix2 (rowOf t ⟨(p : ℕ), by omega⟩) q := by
          unfold rowOf
          blk_ext [idx t]
        rw [e]; rfl

end Cert.Kernel39Ideal.PostMixer

end
-- ==== Proof.PostMixerRef.lean ====
module

public import proofs.«01_k».proof.Proof.PostMixer
public import proofs.«01_k».proof.Proof.Gen.Reference39Ideal.Read

@[expose] public section

set_option maxRecDepth 16384

noncomputable section

open Idealize.ShloMosaic Idealize.ShloMosaic.TcCoe Idealize.SL.Sem

namespace Cert.Reference39Ideal.PostMixer

open Cert.Reference39Ideal Cert.Reference39Ideal.Gen Cert.Reference39Ideal.Read

theorem ref_f (A : FVec Ideal S4096x1024 .bf16) (W : FVec Ideal S2x1024x1024 .bf16) (r : Fin 4096) (c : Fin 1024) :
    val_main_v4 (F := Ideal) A W (ix2 r c) = Kernel39Ideal.PostMixer.f A W r c := by
  pointwise [val_main_v4, val_main_v3, val_main_v2, val_main_v1, val_main_v0]
  rfl

theorem ref_h (H : FVec Ideal S4096x1024 .f32) (A : FVec Ideal S4096x1024 .bf16) (W : FVec Ideal S2x1024x1024 .bf16) (GP : FVec Ideal S1x1024 .f32) (r : Fin 4096) (c : Fin 1024) :
    val_main_v19 (F := Ideal) H A W GP (ix2 r c) = Kernel39Ideal.PostMixer.hn H A W GP r c := by
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_1, val_main_cst_2]
  simp only [ref_f]
  rfl

theorem eq5 (A : FVec Ideal S4096x1024 .bf16) (W : FVec Ideal S2x1024x1024 .bf16) : val_main_v4 (F := Ideal) A W = Kernel39Ideal.PostMixer.G5 A W := by
  funext j
  obtain ⟨p, q, rfl⟩ : ∃ (p : Fin 4096) (q : Fin 1024), j = ix2 p q := ⟨j 0, j 1, eq_ix2 j⟩
  exact ref_f A W p q

theorem eq6 (H : FVec Ideal S4096x1024 .f32) (A : FVec Ideal S4096x1024 .bf16) (W : FVec Ideal S2x1024x1024 .bf16) (GP : FVec Ideal S1x1024 .f32) : val_main_v19 (F := Ideal) H A W GP = Kernel39Ideal.PostMixer.G6 H A W GP := by
  funext j
  obtain ⟨p, q, rfl⟩ : ∃ (p : Fin 4096) (q : Fin 1024), j = ix2 p q := ⟨j 0, j 1, eq_ix2 j⟩
  exact ref_h H A W GP p q

theorem eq7 (H : FVec Ideal S4096x1024 .f32) (A : FVec Ideal S4096x1024 .bf16) (W : FVec Ideal S2x1024x1024 .bf16) (GP : FVec Ideal S1x1024 .f32) (GN : FVec Ideal S1x1024 .f32) : val_main_v32 (F := Ideal) H A W GP GN = Kernel39Ideal.PostMixer.G7 H A W GP GN := by
  funext j
  obtain ⟨p, q, rfl⟩ : ∃ (p : Fin 4096) (q : Fin 1024), j = ix2 p q := ⟨j 0, j 1, eq_ix2 j⟩
  pointwise [val_main_v32, val_main_v31, val_main_v30, val_main_v29, val_main_v28, val_main_v27, val_main_v26, val_main_v25, val_main_v24, val_main_v23, val_main_v22, val_main_v21, val_main_v20, val_main_cst_3, val_main_cst_4, val_main_cst_5]
  simp only [ref_h]
  rfl

end Cert.Reference39Ideal.PostMixer

end
-- ==== Proof.PostMixerClaim.lean ====
module

public import proofs.«01_k».proof.Defs
public import proofs.«01_k».proof.Proof.PostMixerRef
public import proofs.«01_k».proof.Proof.Gen.Kernel39.Frame
public import proofs.«01_k».proof.Proof.Gen.Kernel39Ideal.Value
public import proofs.«01_k».proof.Proof.Gen.Reference39Ideal.Run
public import Idealize.ShloMosaic.Lib.Quiescent

@[expose] public section

set_option maxRecDepth 16384

noncomputable section

open Idealize.ShloMosaic Idealize.ShloMosaic.TcCoe Idealize.SL.Sem

open Cert.Kernel39Ideal (main_arg0 main_arg1 main_arg2 main_arg3 main_arg4)

namespace Cert.Proof.PostMixer

/-- The reference runs on the host alone: it has no semaphores, and it leaves its arguments as they were. -/
theorem quiescent_ref : quiescent_Reference39Ideal := fun m g _ =>
  (θ_run _ _ _).mono (fun r h => ⟨fun c => (h c).2.2.2, sem_eq_zero_of_no_sems (by decide) r.2⟩)
    (Reference39Ideal.Value.run (F := Ideal) m g)

/-- The output projection, the residual sum and the next sublayer's normalised input. -/
theorem algebraic : algebraic_Kernel39Ideal_Reference39Ideal := by
  intro m g m' g' _ hagree
  refine ⟨fun c => Kernel39Ideal.PostMixer.G5 (m (c.tc.loc main_arg1)) (m (c.tc.loc main_arg2)), fun c => Kernel39Ideal.PostMixer.G6 (m (c.tc.loc main_arg0)) (m (c.tc.loc main_arg1)) (m (c.tc.loc main_arg2)) (m (c.tc.loc main_arg3)), fun c => Kernel39Ideal.PostMixer.G7 (m (c.tc.loc main_arg0)) (m (c.tc.loc main_arg1)) (m (c.tc.loc main_arg2)) (m (c.tc.loc main_arg3)) (m (c.tc.loc main_arg4)),
    (θ_run _ _ _).mono (fun r h c => ?_) (Kernel39Ideal.Value.run_blocks m g),
    (θ_run _ _ _).mono (fun r h c => ⟨(h c).1.trans ?_, (h c).2.1.trans ?_, (h c).2.2.1.trans ?_, (h c).2.2.2⟩) (Reference39Ideal.Value.run (F := Ideal) m' g')⟩
  · exact ⟨(h c).1.trans (Kernel39Ideal.PostMixer.final5 m c), (h c).2.1.trans (Kernel39Ideal.PostMixer.final6 m c), (h c).2.2.1.trans (Kernel39Ideal.PostMixer.final7 m c), (h c).2.2.2⟩
  · obtain ⟨e0, e1, e2, e3, e4⟩ := hagree c
    refine (Reference39Ideal.Read.val_main_v4_eq _ _).trans ?_
    rw [e1, e2]
    exact Reference39Ideal.PostMixer.eq5 _ _
  · obtain ⟨e0, e1, e2, e3, e4⟩ := hagree c
    refine (Reference39Ideal.Read.val_main_v19_eq _ _ _ _).trans ?_
    rw [e0, e1, e2, e3]
    exact Reference39Ideal.PostMixer.eq6 _ _ _ _
  · obtain ⟨e0, e1, e2, e3, e4⟩ := hagree c
    refine (Reference39Ideal.Read.val_main_v32_eq m' c).trans ?_
    rw [e0, e1, e2, e3, e4]
    exact Reference39Ideal.PostMixer.eq7 _ _ _ _ _

end Cert.Proof.PostMixer

end
-- ==== Proof.PostLast.lean ====
module

public import proofs.«01_k».proof.Proof.Gen.Kernel40Ideal.Value
public import Idealize.ShloMosaic.Lib.Pipeline.ValueKit
public import Idealize.ShloMosaic.Lib.Pointwise
public import proofs.«01_k».proof.Proof.Rms

@[expose] public section

set_option maxRecDepth 16384

noncomputable section

open Idealize.ShloMosaic Idealize.ShloMosaic.TcCoe Idealize.SL.Sem

namespace Cert.Kernel40Ideal.PostLast

open Cert.Kernel40Ideal Cert.Kernel40Ideal.Gen Cert.Rms

/-- The layer's output product: row `r` of its input against column `c` of its weight. -/
def f (A : FVec Ideal S4096x2816 .bf16) (W : FVec Ideal S4x2816x1024 .bf16) (r : Fin 4096) (c : Fin 1024) : EReal :=
  ∑ k : Fin 2816, A (ix2 r k) * W (ix3 3 k c)

/-- The residual weight, as both programs write it. -/
def scale : EReal := Ideal.ofBits .f32 0x3F000000#32

/-- The hidden state after the layer: what came in plus the weighted, normalised output. -/
def hn (H : FVec Ideal S4096x1024 .f32) (A : FVec Ideal S4096x2816 .bf16) (W : FVec Ideal S4x2816x1024 .bf16) (GP : FVec Ideal S1x1024 .f32) (r : Fin 4096) (c : Fin 1024) : EReal :=
  H (ix2 r c) + scale * (f A W r c * inv (f A W r) * GP (ix2 0 c))

def G4 (A : FVec Ideal S4096x2816 .bf16) (W : FVec Ideal S4x2816x1024 .bf16) : FVec Ideal S4096x1024 .f32 := fun j => f A W (j 0) (j 1)

def G5 (H : FVec Ideal S4096x1024 .f32) (A : FVec Ideal S4096x2816 .bf16) (W : FVec Ideal S4x2816x1024 .bf16) (GP : FVec Ideal S1x1024 .f32) : FVec Ideal S4096x1024 .f32 := fun j => hn H A W GP (j 0) (j 1)

variable (m : (ℓ : Loc nD τ sig) → Buf (Elt Ideal) ℓ)

theorem idx : ∀ t : Fin cfg0.N, win0_0.index t = ![t.val, 0] ∧ win0_1.index t = ![t.val, 0] ∧ win0_2.index t = ![3, 0, 0]
    ∧ win0_3.index t = ![0, 0]
    ∧ win0_4.index t = ![t.val, 0] ∧ win0_5.index t = ![t.val, 0] :=
  (by decide +kernel : ∀ t : Fin grid0.N, _)

/-- Row `p` of block `t`. -/
def rowOf (t : Fin cfg0.N) (p : Fin 512) : Fin 4096 := ⟨512 * (t : ℕ) + (p : ℕ), by have : (t : ℕ) < 8 := t.isLt; omega⟩

theorem blkH (c : Dev nD) (t : Fin cfg0.N) (p : Fin 512) (k : Fin 1024) :
    iblk m c 0 t (ix2 p k) = m (c.tc.loc main_arg0) (ix2 (rowOf t p) k) := by
  unfold rowOf; blk_point [iblk, V, idx t]

theorem blkA (c : Dev nD) (t : Fin cfg0.N) (p : Fin 512) (k : Fin 2816) :
    iblk m c 1 t (ix2 p k) = m (c.tc.loc main_arg1) (ix2 (rowOf t p) k) := by
  unfold rowOf; blk_point [iblk, V, idx t]

theorem blkW (c : Dev nD) (t : Fin cfg0.N) (k : Fin 2816) (l : Fin 1024) :
    iblk m c 2 t (ix3 0 k l) = m (c.tc.loc main_arg2) (ix3 3 k l) := by
  blk_point [iblk, V, idx t]

theorem blkGP (c : Dev nD) (t : Fin cfg0.N) (k : Fin 1024) :
    iblk m c 3 t (ix2 0 k) = m (c.tc.loc main_arg3) (ix2 0 k) := by
  blk_point [iblk, V, idx t]

theorem final4 (c : Dev nD) : (dats m 0 c).arrAt 4 cfg0.N = G4 (m (c.tc.loc main_arg1)) (m (c.tc.loc main_arg2)) := by
  refine (dats m 0 c).arrAt_eq_of_covers 4 _ (by decide +kernel) fun t _ y => ?_
  blk_simp
  rw [after0_4]
  have hN : (t : ℕ) < 8 := t.isLt
  unfold out0_4
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP]
    first
      | have e : ((cfg0.win 4).blk t).view.emb y = ix2 (rowOf t ⟨256 + (p : ℕ), by omega⟩) q := by
          unfold rowOf
          blk_ext [idx t]
        rw [e]; rfl
      | have e : ((cfg0.win 4).blk t).view.emb y = ix2 (rowOf t ⟨(p : ℕ), by omega⟩) q := by
          unfold rowOf
          blk_ext [idx t]
        rw [e]; rfl

theorem final5 (c : Dev nD) : (dats m 0 c).arrAt 5 cfg0.N = G5 (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5]
  have hN : (t : ℕ) < 8 := t.isLt
  unfold out0_5
  canon_tiles x h
  all_goals
    obtain ⟨p, q, rfl⟩ : ∃ (p : Fin 256) (q : Fin 1024), x = ix2 p q := ⟨x 0, x 1, eq_ix2 x⟩
    simp only [ix2_0, ix2_1] at h0 h1
    open_payloads
    pointwise
    simp only [blkH, blkA, blkW, blkGP]
    first
      | have e : ((cfg0.win 5).blk t).view.emb y = ix2 (rowOf t ⟨256 + (p : ℕ), by omega⟩) q := by
          unfold rowOf
          blk_ext [idx t]
        rw [e]; rfl
      | have e : ((cfg0.win 5).blk t).view.emb y = ix2 (rowOf t ⟨(p : ℕ), by omega⟩) q := by
          unfold rowOf
          blk_ext [idx t]
        rw [e]; rfl

end Cert.Kernel40Ideal.PostLast

end
-- ==== Proof.PostLastRef.lean ====
module

public import proofs.«01_k».proof.Proof.PostLast
public import proofs.«01_k».proof.Proof.Gen.Reference40Ideal.Read

@[expose] public section

set_option maxRecDepth 16384

noncomputable section

open Idealize.ShloMosaic Idealize.ShloMosaic.TcCoe Idealize.SL.Sem

namespace Cert.Reference40Ideal.PostLast

open Cert.Reference40Ideal Cert.Reference40Ideal.Gen Cert.Reference40Ideal.Read

theorem ref_f (A : FVec Ideal S4096x2816 .bf16) (W : FVec Ideal S4x2816x1024 .bf16) (r : Fin 4096) (c : Fin 1024) :
    val_main_v4 (F := Ideal) A W (ix2 r c) = Kernel40Ideal.PostLast.f A W r c := by
  pointwise [val_main_v4, val_main_v3, val_main_v2, val_main_v1, val_main_v0]
  rfl

theorem ref_h (H : FVec Ideal S4096x1024 .f32) (A : FVec Ideal S4096x2816 .bf16) (W : FVec Ideal S4x2816x1024 .bf16) (GP : FVec Ideal S1x1024 .f32) (r : Fin 4096) (c : Fin 1024) :
    val_main_v19 (F := Ideal) H A W GP (ix2 r c) = Kernel40Ideal.PostLast.hn H A W GP r c := by
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_1, val_main_cst_2]
  simp only [ref_f]
  rfl

theorem eq4 (A : FVec Ideal S4096x2816 .bf16) (W : FVec Ideal S4x2816x1024 .bf16) : val_main_v4 (F := Ideal) A W = Kernel40Ideal.PostLast.G4 A W := by
  funext j
  obtain ⟨p, q, rfl⟩ : ∃ (p : Fin 4096) (q : Fin 1024), j = ix2 p q := ⟨j 0, j 1, eq_ix2 j⟩
  exact ref_f A W p q

theorem eq5 (H : FVec Ideal S4096x1024 .f32) (A : FVec Ideal S4096x2816 .bf16) (W : FVec Ideal S4x2816x1024 .bf16) (GP : FVec Ideal S1x1024 .f32) : val_main_v19 (F := Ideal) H A W GP = Kernel40Ideal.PostLast.G5 H A W GP := by
  funext j
  obtain ⟨p, q, rfl⟩ : ∃ (p : Fin 4096) (q : Fin 1024), j = ix2 p q := ⟨j 0, j 1, eq_ix2 j⟩
  exact ref_h H A W GP p q

end Cert.Reference40Ideal.PostLast

end
-- ==== Proof.PostLastClaim.lean ====
module

public import proofs.«01_k».proof.Defs
public import proofs.«01_k».proof.Proof.PostLastRef
public import proofs.«01_k».proof.Proof.Gen.Kernel40.Frame
public import proofs.«01_k».proof.Proof.Gen.Kernel40Ideal.Value
public import proofs.«01_k».proof.Proof.Gen.Reference40Ideal.Run
public import Idealize.ShloMosaic.Lib.Quiescent

@[expose] public section

set_option maxRecDepth 16384

noncomputable section

open Idealize.ShloMosaic Idealize.ShloMosaic.TcCoe Idealize.SL.Sem

open Cert.Kernel40Ideal (main_arg0 main_arg1 main_arg2 main_arg3)

namespace Cert.Proof.PostLast

/-- The reference runs on the host alone: it has no semaphores, and it leaves its arguments as they were. -/
theorem quiescent_ref : quiescent_Reference40Ideal := fun m g _ =>
  (θ_run _ _ _).mono (fun r h => ⟨fun c => (h c).2.2, sem_eq_zero_of_no_sems (by decide) r.2⟩)
    (Reference40Ideal.Value.run (F := Ideal) m g)

/-- The last down projection and the residual sum. -/
theorem algebraic : algebraic_Kernel40Ideal_Reference40Ideal := by
  intro m g m' g' _ hagree
  refine ⟨fun c => Kernel40Ideal.PostLast.G4 (m (c.tc.loc main_arg1)) (m (c.tc.loc main_arg2)), fun c => Kernel40Ideal.PostLast.G5 (m (c.tc.loc main_arg0)) (m (c.tc.loc main_arg1)) (m (c.tc.loc main_arg2)) (m (c.tc.loc main_arg3)),
    (θ_run _ _ _).mono (fun r h c => ?_) (Kernel40Ideal.Value.run_blocks m g),
    (θ_run _ _ _).mono (fun r h c => ⟨(h c).1.trans ?_, (h c).2.1.trans ?_, (h c).2.2⟩) (Reference40Ideal.Value.run (F := Ideal) m' g')⟩
  · exact ⟨(h c).1.trans (Kernel40Ideal.PostLast.final4 m c), (h c).2.1.trans (Kernel40Ideal.PostLast.final5 m c), (h c).2.2⟩
  · obtain ⟨e0, e1, e2, e3⟩ := hagree c
    refine (Reference40Ideal.Read.val_main_v4_eq _ _).trans ?_
    rw [e1, e2]
    exact Reference40Ideal.PostLast.eq4 _ _
  · obtain ⟨e0, e1, e2, e3⟩ := hagree c
    refine (Reference40Ideal.Read.val_main_v19_eq _ _ _ _).trans ?_
    rw [e0, e1, e2, e3]
    exact Reference40Ideal.PostLast.eq5 _ _ _ _

end Cert.Proof.PostLast

end
-- ==== Proof.WGradO.lean ====
module

public import proofs.«01_k».proof.Proof.Gen.Kernel41Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel41Ideal.WGradO

open Cert.Kernel41Ideal Cert.Kernel41Ideal.Gen

/-- The weight's gradient: column `p` of the layer's input against column `q` of the gradient of its output. -/
def dw (A : FVec Ideal S4096x1024 .bf16) (B : FVec Ideal S4096x1024 .bf16) (p : Fin 1024) (q : Fin 1024) : EReal :=
  ∑ r : Fin 4096, A (ix2 r p) * B (ix2 r q)

/-- The layer's place in the stack holds the gradient, the other places what they held. -/
def G (A : FVec Ideal S4096x1024 .bf16) (B : FVec Ideal S4096x1024 .bf16) (S : FVec Ideal S4x1024x1024 .bf16) : FVec Ideal S4x1024x1024 .bf16 :=
  fun j => if (j 0 : ℕ) / 1 = 1 then dw A B (j 1) (j 2) else S j

variable (m : (ℓ : Loc nD τ sig) → Buf (Elt Ideal) ℓ)

theorem idx : ∀ t : Fin cfg0.N, win0_0.index t = ![0, 0] ∧ win0_1.index t = ![0, t.val]
    ∧ win0_2.index t = ![1, 0, t.val] :=
  (by decide +kernel : ∀ t : Fin grid0.N, _)

/-- Place `p` of tile `t`. -/
def tileOf (t : Fin cfg0.N) (p : Fin 512) : Fin 1024 := ⟨512 * (t : ℕ) + (p : ℕ), by have : (t : ℕ) < 2 := t.isLt; omega⟩

theorem blkA (c : Dev nD) (t : Fin cfg0.N) (r : Fin 4096) (p : Fin 1024) :
    iblk m c 0 t (ix2 r p) = m (c.tc.loc main_arg0) (ix2 r (p)) := by
  try unfold tileOf
  unfold iblk; rw [show V m c (Pipeline.arrRef spec0 0) = _ from V_main_arg0 m c]; blk_point [idx t]

theorem blkB (c : Dev nD) (t : Fin cfg0.N) (r : Fin 4096) (q : Fin 512) :
    iblk m c 1 t (ix2 r q) = m (c.tc.loc main_arg1) (ix2 r (tileOf t q)) := by
  try unfold tileOf
  unfold iblk; rw [show V m c (Pipeline.arrRef spec0 1) = _ from V_main_arg1 m c]; blk_point [idx t]

theorem stack (c : Dev nD) : V m c main_v0 = (m (c.tc.loc main_arg2)) := by
  unfold V
  after_results
  rfl

theorem final (c : Dev nD) : (dats m 0 c).arrAt 2 cfg0.N = G (m (c.tc.loc main_arg0)) (m (c.tc.loc main_arg1)) (m (c.tc.loc main_arg2)) := by
  rw [← stack m c]
  refine (dats m 0 c).arrAt_eq_of_coversWhere (G := fun j => dw (m (c.tc.loc main_arg0)) (m (c.tc.loc main_arg1)) (j 1) (j 2)) 2 (fun β => β (0 : Fin _) = 1) (by decide +kernel)
    (fun t hf y => ?_) (fun j => Iff.rfl)
  have hN : (t : ℕ) < 2 := t.isLt
  blk_simp
  rw [after0_2]
  unfold outsAt0
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 1 (p) (tileOf t q) := by
    try unfold tileOf
    blk_ext [idx t]
  rw [e]
  open_payloads
  pointwise
  simp only [blkA, blkB]
  rfl

end Cert.Kernel41Ideal.WGradO

end
-- ==== Proof.WGradORef.lean ====
module

public import proofs.«01_k».proof.Proof.WGradO
public import proofs.«01_k».proof.Proof.Gen.Reference41Ideal.Read

@[expose] public section

set_option maxRecDepth 16384

noncomputable section

open Idealize.ShloMosaic Idealize.ShloMosaic.TcCoe Idealize.SL.Sem

namespace Cert.Reference41Ideal.WGradO

open Cert.Reference41Ideal Cert.Reference41Ideal.Gen Cert.Reference41Ideal.Read

/-- The reference's gradient, the product's two factors in the other order. -/
theorem ref_dw (A : FVec Ideal S4096x1024 .bf16) (B : FVec Ideal S4096x1024 .bf16) (p : Fin 1024) (q : Fin 1024) :
    val_main_v6 (F := Ideal) A B (ix2 p q) = Kernel41Ideal.WGradO.dw A B p q := by
  pointwise [val_main_v6, val_main_v5, val_main_v4, val_main_v3, val_main_v1, val_main_v0]
  exact Finset.sum_congr rfl fun r _ => mul_comm _ _

/-- The reference's result is the kernel's: the gradient in the layer's place, the rest of the stack as it was. -/
theorem ref_eq (A : FVec Ideal S4096x1024 .bf16) (B : FVec Ideal S4096x1024 .bf16) (S : FVec Ideal S4x1024x1024 .bf16) :
    val_main_v10 (F := Ideal) A B S = Kernel41Ideal.WGradO.G A B S := by
  funext j
  obtain ⟨l, p, q, rfl⟩ : ∃ (l : Fin 4) (p : Fin 1024) (q : Fin 1024), j = ix3 l p q := ⟨j 0, j 1, j 2, eq_ix3 j⟩
  unfold Kernel41Ideal.WGradO.G
  fin_cases l
  all_goals
    simp only [ix3_0, ix3_1, ix3_2]
    pointwise [val_main_v10, val_main_v9, val_main_v8, val_main_v7]
    try simp only [ref_dw]
    try rfl

end Cert.Reference41Ideal.WGradO

end
-- ==== Proof.WGradOClaim.lean ====
module

public import proofs.«01_k».proof.Defs
public import proofs.«01_k».proof.Proof.WGradORef
public import proofs.«01_k».proof.Proof.Gen.Kernel41.Frame
public import proofs.«01_k».proof.Proof.Gen.Kernel41Ideal.Value
public import proofs.«01_k».proof.Proof.Gen.Reference41Ideal.Run
public import Idealize.ShloMosaic.Lib.Quiescent

@[expose] public section

set_option maxRecDepth 16384

noncomputable section

open Idealize.ShloMosaic Idealize.ShloMosaic.TcCoe Idealize.SL.Sem

open Cert.Kernel41Ideal (main_arg0 main_arg1 main_arg2)

namespace Cert.Proof.WGradO

/-- The reference runs on the host alone: it has no semaphores, and it leaves its arguments as they were. -/
theorem quiescent_ref : quiescent_Reference41Ideal := fun m g _ =>
  (θ_run _ _ _).mono (fun r h => ⟨fun c => (h c).2, sem_eq_zero_of_no_sems (by decide) r.2⟩)
    (Reference41Ideal.Value.run (F := Ideal) m g)

/-- The gradient of attention's output weight, written in its place in the stack. -/
theorem algebraic : algebraic_Kernel41Ideal_Reference41Ideal := by
  intro m g m' g' _ hagree
  refine ⟨fun c => Kernel41Ideal.WGradO.G (m (c.tc.loc main_arg0)) (m (c.tc.loc main_arg1)) (m (c.tc.loc main_arg2)),
    (θ_run _ _ _).mono (fun r h c => ?_) (Kernel41Ideal.Value.run_blocks m g),
    (θ_run _ _ _).mono (fun r h c => ⟨(h c).1.trans ?_, (h c).2⟩) (Reference41Ideal.Value.run (F := Ideal) m' g')⟩
  · exact ⟨(h c).1.trans (Kernel41Ideal.WGradO.final m c), (h c).2⟩
  · obtain ⟨e0, e1, e2⟩ := hagree c
    refine (Reference41Ideal.Read.val_main_v10_eq _ _ _).trans ?_
    rw [e0, e1, e2]
    exact Reference41Ideal.WGradO.ref_eq _ _ _

end Cert.Proof.WGradO

end
-- ==== Proof.WGradKv.lean ====
module

public import proofs.«01_k».proof.Proof.Gen.Kernel42Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel42Ideal.WGradKv

open Cert.Kernel42Ideal Cert.Kernel42Ideal.Gen

/-- The weight's gradient: column `p` of the layer's input against column `q` of the gradient of its output. -/
def dw (A : FVec Ideal S256x1024 .bf16) (B : FVec Ideal S256x2048 .bf16) (p : Fin 1024) (q : Fin 2048) : EReal :=
  ∑ r : Fin 256, A (ix2 r p) * B (ix2 r q)

/-- The layer's place in the stack holds the gradient, the other places what they held. -/
def G (A : FVec Ideal S256x1024 .bf16) (B : FVec Ideal S256x2048 .bf16) (S : FVec Ideal S4x1024x2048 .bf16) : FVec Ideal S4x1024x2048 .bf16 :=
  fun j => if (j 0 : ℕ) / 1 = 1 then dw A B (j 1) (j 2) else S j

variable (m : (ℓ : Loc nD τ sig) → Buf (Elt Ideal) ℓ)

theorem idx : ∀ t : Fin cfg0.N, win0_0.index t = ![0, 0] ∧ win0_1.index t = ![0, t.val]
    ∧ win0_2.index t = ![1, 0, t.val] :=
  (by decide +kernel : ∀ t : Fin grid0.N, _)

/-- Place `p` of tile `t`. -/
def tileOf (t : Fin cfg0.N) (p : Fin 512) : Fin 2048 := ⟨512 * (t : ℕ) + (p : ℕ), by have : (t : ℕ) < 4 := t.isLt; omega⟩

theorem blkA (c : Dev nD) (t : Fin cfg0.N) (r : Fin 256) (p : Fin 1024) :
    iblk m c 0 t (ix2 r p) = m (c.tc.loc main_arg0) (ix2 r (p)) := by
  try unfold tileOf
  unfold iblk; rw [show V m c (Pipeline.arrRef spec0 0) = _ from V_main_arg0 m c]; blk_point [idx t]

theorem blkB (c : Dev nD) (t : Fin cfg0.N) (r : Fin 256) (q : Fin 512) :
    iblk m c 1 t (ix2 r q) = m (c.tc.loc main_arg1) (ix2 r (tileOf t q)) := by
  try unfold tileOf
  unfold iblk; rw [show V m c (Pipeline.arrRef spec0 1) = _ from V_main_arg1 m c]; blk_point [idx t]

theorem stack (c : Dev nD) : V m c main_v0 = (m (c.tc.loc main_arg2)) := by
  unfold V
  after_results
  rfl

theorem final (c : Dev nD) : (dats m 0 c).arrAt 2 cfg0.N = G (m (c.tc.loc main_arg0)) (m (c.tc.loc main_arg1)) (m (c.tc.loc main_arg2)) := by
  rw [← stack m c]
  refine (dats m 0 c).arrAt_eq_of_coversWhere (G := fun j => dw (m (c.tc.loc main_arg0)) (m (c.tc.loc main_arg1)) (j 1) (j 2)) 2 (fun β => β (0 : Fin _) = 1) (by decide +kernel)
    (fun t hf y => ?_) (fun j => Iff.rfl)
  have hN : (t : ℕ) < 4 := t.isLt
  blk_simp
  rw [after0_2]
  unfold outsAt0
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 1 (p) (tileOf t q) := by
    try unfold tileOf
    blk_ext [idx t]
  rw [e]
  open_payloads
  pointwise
  simp only [blkA, blkB]
  rfl

end Cert.Kernel42Ideal.WGradKv

end
-- ==== Proof.WGradKvRef.lean ====
module

public import proofs.«01_k».proof.Proof.WGradKv
public import proofs.«01_k».proof.Proof.Gen.Reference42Ideal.Read

@[expose] public section

set_option maxRecDepth 16384

noncomputable section

open Idealize.ShloMosaic Idealize.ShloMosaic.TcCoe Idealize.SL.Sem

namespace Cert.Reference42Ideal.WGradKv

open Cert.Reference42Ideal Cert.Reference42Ideal.Gen Cert.Reference42Ideal.Read

/-- The reference's gradient, the product's two factors in the other order. -/
theorem ref_dw (A : FVec Ideal S256x1024 .bf16) (B : FVec Ideal S256x2048 .bf16) (p : Fin 1024) (q : Fin 2048) :
    val_main_v6 (F := Ideal) A B (ix2 p q) = Kernel42Ideal.WGradKv.dw A B p q := by
  pointwise [val_main_v6, val_main_v5, val_main_v4, val_main_v3, val_main_v1, val_main_v0]
  exact Finset.sum_congr rfl fun r _ => mul_comm _ _

/-- The reference's result is the kernel's: the gradient in the layer's place, the rest of the stack as it was. -/
theorem ref_eq (A : FVec Ideal S256x1024 .bf16) (B : FVec Ideal S256x2048 .bf16) (S : FVec Ideal S4x1024x2048 .bf16) :
    val_main_v10 (F := Ideal) A B S = Kernel42Ideal.WGradKv.G A B S := by
  funext j
  obtain ⟨l, p, q, rfl⟩ : ∃ (l : Fin 4) (p : Fin 1024) (q : Fin 2048), j = ix3 l p q := ⟨j 0, j 1, j 2, eq_ix3 j⟩
  unfold Kernel42Ideal.WGradKv.G
  fin_cases l
  all_goals
    simp only [ix3_0, ix3_1, ix3_2]
    pointwise [val_main_v10, val_main_v9, val_main_v8, val_main_v7]
    try simp only [ref_dw]
    try rfl

end Cert.Reference42Ideal.WGradKv

end
-- ==== Proof.WGradKvClaim.lean ====
module

public import proofs.«01_k».proof.Defs
public import proofs.«01_k».proof.Proof.WGradKvRef
public import proofs.«01_k».proof.Proof.Gen.Kernel42.Frame
public import proofs.«01_k».proof.Proof.Gen.Kernel42Ideal.Value
public import proofs.«01_k».proof.Proof.Gen.Reference42Ideal.Run
public import Idealize.ShloMosaic.Lib.Quiescent

@[expose] public section

set_option maxRecDepth 16384

noncomputable section

open Idealize.ShloMosaic Idealize.ShloMosaic.TcCoe Idealize.SL.Sem

open Cert.Kernel42Ideal (main_arg0 main_arg1 main_arg2)

namespace Cert.Proof.WGradKv

/-- The reference runs on the host alone: it has no semaphores, and it leaves its arguments as they were. -/
theorem quiescent_ref : quiescent_Reference42Ideal := fun m g _ =>
  (θ_run _ _ _).mono (fun r h => ⟨fun c => (h c).2, sem_eq_zero_of_no_sems (by decide) r.2⟩)
    (Reference42Ideal.Value.run (F := Ideal) m g)

/-- The gradient of the memory's weight, written in its place in the stack. -/
theorem algebraic : algebraic_Kernel42Ideal_Reference42Ideal := by
  intro m g m' g' _ hagree
  refine ⟨fun c => Kernel42Ideal.WGradKv.G (m (c.tc.loc main_arg0)) (m (c.tc.loc main_arg1)) (m (c.tc.loc main_arg2)),
    (θ_run _ _ _).mono (fun r h c => ?_) (Kernel42Ideal.Value.run_blocks m g),
    (θ_run _ _ _).mono (fun r h c => ⟨(h c).1.trans ?_, (h c).2⟩) (Reference42Ideal.Value.run (F := Ideal) m' g')⟩
  · exact ⟨(h c).1.trans (Kernel42Ideal.WGradKv.final m c), (h c).2⟩
  · obtain ⟨e0, e1, e2⟩ := hagree c
    refine (Reference42Ideal.Read.val_main_v10_eq _ _ _).trans ?_
    rw [e0, e1, e2]
    exact Reference42Ideal.WGradKv.ref_eq _ _ _

end Cert.Proof.WGradKv

end
-- ==== Proof.WGradEvenIn.lean ====
module

public import proofs.«01_k».proof.Proof.Gen.Kernel43Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel43Ideal.WGradEvenIn

open Cert.Kernel43Ideal Cert.Kernel43Ideal.Gen

/-- The weight's gradient: column `p` of the layer's input against column `q` of the gradient of its output. -/
def dw (A : FVec Ideal S4096x1024 .bf16) (B : FVec Ideal S4096x2048 .bf16) (p : Fin 1024) (q : Fin 2048) : EReal :=
  ∑ r : Fin 4096, A (ix2 r p) * B (ix2 r q)

/-- The layer's place in the stack holds the gradient, the other places what they held. -/
def G (A : FVec Ideal S4096x1024 .bf16) (B : FVec Ideal S4096x2048 .bf16) (S : FVec Ideal S2x1024x2048 .bf16) : FVec Ideal S2x1024x2048 .bf16 :=
  fun j => if (j 0 : ℕ) / 1 = 0 then dw A B (j 1) (j 2) else S j

variable (m : (ℓ : Loc nD τ sig) → Buf (Elt Ideal) ℓ)

theorem idx : ∀ t : Fin cfg0.N, win0_0.index t = ![0, 0] ∧ win0_1.index t = ![0, t.val]
    ∧ win0_2.index t = ![0, 0, t.val] :=
  (by decide +kernel : ∀ t : Fin grid0.N, _)

/-- Place `p` of tile `t`. -/
def tileOf (t : Fin cfg0.N) (p : Fin 512) : Fin 2048 := ⟨512 * (t : ℕ) + (p : ℕ), by have : (t : ℕ) < 4 := t.isLt; omega⟩

theorem blkA (c : Dev nD) (t : Fin cfg0.N) (r : Fin 4096) (p : Fin 1024) :
    iblk m c 0 t (ix2 r p) = m (c.tc.loc main_arg0) (ix2 r (p)) := by
  try unfold tileOf
  unfold iblk; rw [show V m c (Pipeline.arrRef spec0 0) = _ from V_main_arg0 m c]; blk_point [idx t]

theorem blkB (c : Dev nD) (t : Fin cfg0.N) (r : Fin 4096) (q : Fin 512) :
    iblk m c 1 t (ix2 r q) = m (c.tc.loc main_arg1) (ix2 r (tileOf t q)) := by
  try unfold tileOf
  unfold iblk; rw [show V m c (Pipeline.arrRef spec0 1) = _ from V_main_arg1 m c]; blk_point [idx t]

theorem stack (c : Dev nD) : V m c main_v0 = (m (c.tc.loc main_arg2)) := by
  unfold V
  after_results
  rfl

theorem final (c : Dev nD) : (dats m 0 c).arrAt 2 cfg0.N = G (m (c.tc.loc main_arg0)) (m (c.tc.loc main_arg1)) (m (c.tc.loc main_arg2)) := by
  rw [← stack m c]
  refine (dats m 0 c).arrAt_eq_of_coversWhere (G := fun j => dw (m (c.tc.loc main_arg0)) (m (c.tc.loc main_arg1)) (j 1) (j 2)) 2 (fun β => β (0 : Fin _) = 0) (by decide +kernel)
    (fun t hf y => ?_) (fun j => Iff.rfl)
  have hN : (t : ℕ) < 4 := t.isLt
  blk_simp
  rw [after0_2]
  unfold outsAt0
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 0 (p) (tileOf t q) := by
    try unfold tileOf
    blk_ext [idx t]
  rw [e]
  open_payloads
  pointwise
  simp only [blkA, blkB]
  rfl

end Cert.Kernel43Ideal.WGradEvenIn

end
-- ==== Proof.WGradEvenInRef.lean ====
module

public import proofs.«01_k».proof.Proof.WGradEvenIn
public import proofs.«01_k».proof.Proof.Gen.Reference43Ideal.Read

@[expose] public section

set_option maxRecDepth 16384

noncomputable section

open Idealize.ShloMosaic Idealize.ShloMosaic.TcCoe Idealize.SL.Sem

namespace Cert.Reference43Ideal.WGradEvenIn

open Cert.Reference43Ideal Cert.Reference43Ideal.Gen Cert.Reference43Ideal.Read

/-- The reference's gradient, the product's two factors in the other order. -/
theorem ref_dw (A : FVec Ideal S4096x1024 .bf16) (B : FVec Ideal S4096x2048 .bf16) (p : Fin 1024) (q : Fin 2048) :
    val_main_v6 (F := Ideal) A B (ix2 p q) = Kernel43Ideal.WGradEvenIn.dw A B p q := by
  pointwise [val_main_v6, val_main_v5, val_main_v4, val_main_v3, val_main_v1, val_main_v0]
  exact Finset.sum_congr rfl fun r _ => mul_comm _ _

/-- The reference's result is the kernel's: the gradient in the layer's place, the rest of the stack as it was. -/
theorem ref_eq (A : FVec Ideal S4096x1024 .bf16) (B : FVec Ideal S4096x2048 .bf16) (S : FVec Ideal S2x1024x2048 .bf16) :
    val_main_v10 (F := Ideal) A B S = Kernel43Ideal.WGradEvenIn.G A B S := by
  funext j
  obtain ⟨l, p, q, rfl⟩ : ∃ (l : Fin 2) (p : Fin 1024) (q : Fin 2048), j = ix3 l p q := ⟨j 0, j 1, j 2, eq_ix3 j⟩
  unfold Kernel43Ideal.WGradEvenIn.G
  fin_cases l
  all_goals
    simp only [ix3_0, ix3_1, ix3_2]
    pointwise [val_main_v10, val_main_v9, val_main_v8, val_main_v7]
    try simp only [ref_dw]
    try rfl

end Cert.Reference43Ideal.WGradEvenIn

end
-- ==== Proof.WGradEvenInClaim.lean ====
module

public import proofs.«01_k».proof.Defs
public import proofs.«01_k».proof.Proof.WGradEvenInRef
public import proofs.«01_k».proof.Proof.Gen.Kernel43.Frame
public import proofs.«01_k».proof.Proof.Gen.Kernel43Ideal.Value
public import proofs.«01_k».proof.Proof.Gen.Reference43Ideal.Run
public import Idealize.ShloMosaic.Lib.Quiescent

@[expose] public section

set_option maxRecDepth 16384

noncomputable section

open Idealize.ShloMosaic Idealize.ShloMosaic.TcCoe Idealize.SL.Sem

open Cert.Kernel43Ideal (main_arg0 main_arg1 main_arg2)

namespace Cert.Proof.WGradEvenIn

/-- The reference runs on the host alone: it has no semaphores, and it leaves its arguments as they were. -/
theorem quiescent_ref : quiescent_Reference43Ideal := fun m g _ =>
  (θ_run _ _ _).mono (fun r h => ⟨fun c => (h c).2, sem_eq_zero_of_no_sems (by decide) r.2⟩)
    (Reference43Ideal.Value.run (F := Ideal) m g)

/-- The gradient of the gated mixer's input weight, written in its place in the stack. -/
theorem algebraic : algebraic_Kernel43Ideal_Reference43Ideal := by
  intro m g m' g' _ hagree
  refine ⟨fun c => Kernel43Ideal.WGradEvenIn.G (m (c.tc.loc main_arg0)) (m (c.tc.loc main_arg1)) (m (c.tc.loc main_arg2)),
    (θ_run _ _ _).mono (fun r h c => ?_) (Kernel43Ideal.Value.run_blocks m g),
    (θ_run _ _ _).mono (fun r h c => ⟨(h c).1.trans ?_, (h c).2⟩) (Reference43Ideal.Value.run (F := Ideal) m' g')⟩
  · exact ⟨(h c).1.trans (Kernel43Ideal.WGradEvenIn.final m c), (h c).2⟩
  · obtain ⟨e0, e1, e2⟩ := hagree c
    refine (Reference43Ideal.Read.val_main_v10_eq _ _ _).trans ?_
    rw [e0, e1, e2]
    exact Reference43Ideal.WGradEvenIn.ref_eq _ _ _

end Cert.Proof.WGradEvenIn

end
-- ==== Proof.WGradOddIn.lean ====
module

public import proofs.«01_k».proof.Proof.Gen.Kernel44Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel44Ideal.WGradOddIn

open Cert.Kernel44Ideal Cert.Kernel44Ideal.Gen

/-- The weight's gradient: column `p` of the layer's input against column `q` of the gradient of its output. -/
def dw (A : FVec Ideal S4096x1024 .bf16) (B : FVec Ideal S4096x1024 .bf16) (p : Fin 1024) (q : Fin 1024) : EReal :=
  ∑ r : Fin 4096, A (ix2 r p) * B (ix2 r q)

/-- The layer's place in the stack holds the gradient, the other places what they held. -/
def G (A : FVec Ideal S4096x1024 .bf16) (B : FVec Ideal S4096x1024 .bf16) (S : FVec Ideal S2x1024x1024 .bf16) : FVec Ideal S2x1024x1024 .bf16 :=
  fun j => if (j 0 : ℕ) / 1 = 0 then dw A B (j 1) (j 2) else S j

variable (m : (ℓ : Loc nD τ sig) → Buf (Elt Ideal) ℓ)

theorem idx : ∀ t : Fin cfg0.N, win0_0.index t = ![0, 0] ∧ win0_1.index t = ![0, t.val]
    ∧ win0_2.index t = ![0, 0, t.val] :=
  (by decide +kernel : ∀ t : Fin grid0.N, _)

/-- Place `p` of tile `t`. -/
def tileOf (t : Fin cfg0.N) (p : Fin 512) : Fin 1024 := ⟨512 * (t : ℕ) + (p : ℕ), by have : (t : ℕ) < 2 := t.isLt; omega⟩

theorem blkA (c : Dev nD) (t : Fin cfg0.N) (r : Fin 4096) (p : Fin 1024) :
    iblk m c 0 t (ix2 r p) = m (c.tc.loc main_arg0) (ix2 r (p)) := by
  try unfold tileOf
  unfold iblk; rw [show V m c (Pipeline.arrRef spec0 0) = _ from V_main_arg0 m c]; blk_point [idx t]

theorem blkB (c : Dev nD) (t : Fin cfg0.N) (r : Fin 4096) (q : Fin 512) :
    iblk m c 1 t (ix2 r q) = m (c.tc.loc main_arg1) (ix2 r (tileOf t q)) := by
  try unfold tileOf
  unfold iblk; rw [show V m c (Pipeline.arrRef spec0 1) = _ from V_main_arg1 m c]; blk_point [idx t]

theorem stack (c : Dev nD) : V m c main_v0 = (m (c.tc.loc main_arg2)) := by
  unfold V
  after_results
  rfl

theorem final (c : Dev nD) : (dats m 0 c).arrAt 2 cfg0.N = G (m (c.tc.loc main_arg0)) (m (c.tc.loc main_arg1)) (m (c.tc.loc main_arg2)) := by
  rw [← stack m c]
  refine (dats m 0 c).arrAt_eq_of_coversWhere (G := fun j => dw (m (c.tc.loc main_arg0)) (m (c.tc.loc main_arg1)) (j 1) (j 2)) 2 (fun β => β (0 : Fin _) = 0) (by decide +kernel)
    (fun t hf y => ?_) (fun j => Iff.rfl)
  have hN : (t : ℕ) < 2 := t.isLt
  blk_simp
  rw [after0_2]
  unfold outsAt0
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 0 (p) (tileOf t q) := by
    try unfold tileOf
    blk_ext [idx t]
  rw [e]
  open_payloads
  pointwise
  simp only [blkA, blkB]
  rfl

end Cert.Kernel44Ideal.WGradOddIn

end
-- ==== Proof.WGradOddInRef.lean ====
module

public import proofs.«01_k».proof.Proof.WGradOddIn
public import proofs.«01_k».proof.Proof.Gen.Reference44Ideal.Read

@[expose] public section

set_option maxRecDepth 16384

noncomputable section

open Idealize.ShloMosaic Idealize.ShloMosaic.TcCoe Idealize.SL.Sem

namespace Cert.Reference44Ideal.WGradOddIn

open Cert.Reference44Ideal Cert.Reference44Ideal.Gen Cert.Reference44Ideal.Read

/-- The reference's gradient, the product's two factors in the other order. -/
theorem ref_dw (A : FVec Ideal S4096x1024 .bf16) (B : FVec Ideal S4096x1024 .bf16) (p : Fin 1024) (q : Fin 1024) :
    val_main_v6 (F := Ideal) A B (ix2 p q) = Kernel44Ideal.WGradOddIn.dw A B p q := by
  pointwise [val_main_v6, val_main_v5, val_main_v4, val_main_v3, val_main_v1, val_main_v0]
  exact Finset.sum_congr rfl fun r _ => mul_comm _ _

/-- The reference's result is the kernel's: the gradient in the layer's place, the rest of the stack as it was. -/
theorem ref_eq (A : FVec Ideal S4096x1024 .bf16) (B : FVec Ideal S4096x1024 .bf16) (S : FVec Ideal S2x1024x1024 .bf16) :
    val_main_v10 (F := Ideal) A B S = Kernel44Ideal.WGradOddIn.G A B S := by
  funext j
  obtain ⟨l, p, q, rfl⟩ : ∃ (l : Fin 2) (p : Fin 1024) (q : Fin 1024), j = ix3 l p q := ⟨j 0, j 1, j 2, eq_ix3 j⟩
  unfold Kernel44Ideal.WGradOddIn.G
  fin_cases l
  all_goals
    simp only [ix3_0, ix3_1, ix3_2]
    pointwise [val_main_v10, val_main_v9, val_main_v8, val_main_v7]
    try simp only [ref_dw]
    try rfl

end Cert.Reference44Ideal.WGradOddIn

end
-- ==== Proof.WGradOddInClaim.lean ====
module

public import proofs.«01_k».proof.Defs
public import proofs.«01_k».proof.Proof.WGradOddInRef
public import proofs.«01_k».proof.Proof.Gen.Kernel44.Frame
public import proofs.«01_k».proof.Proof.Gen.Kernel44Ideal.Value
public import proofs.«01_k».proof.Proof.Gen.Reference44Ideal.Run
public import Idealize.ShloMosaic.Lib.Quiescent

@[expose] public section

set_option maxRecDepth 16384

noncomputable section

open Idealize.ShloMosaic Idealize.ShloMosaic.TcCoe Idealize.SL.Sem

open Cert.Kernel44Ideal (main_arg0 main_arg1 main_arg2)

namespace Cert.Proof.WGradOddIn

/-- The reference runs on the host alone: it has no semaphores, and it leaves its arguments as they were. -/
theorem quiescent_ref : quiescent_Reference44Ideal := fun m g _ =>
  (θ_run _ _ _).mono (fun r h => ⟨fun c => (h c).2, sem_eq_zero_of_no_sems (by decide) r.2⟩)
    (Reference44Ideal.Value.run (F := Ideal) m g)

/-- The gradient of the pooling mixer's input weight, written in its place in the stack. -/
theorem algebraic : algebraic_Kernel44Ideal_Reference44Ideal := by
  intro m g m' g' _ hagree
  refine ⟨fun c => Kernel44Ideal.WGradOddIn.G (m (c.tc.loc main_arg0)) (m (c.tc.loc main_arg1)) (m (c.tc.loc main_arg2)),
    (θ_run _ _ _).mono (fun r h c => ?_) (Kernel44Ideal.Value.run_blocks m g),
    (θ_run _ _ _).mono (fun r h c => ⟨(h c).1.trans ?_, (h c).2⟩) (Reference44Ideal.Value.run (F := Ideal) m' g')⟩
  · exact ⟨(h c).1.trans (Kernel44Ideal.WGradOddIn.final m c), (h c).2⟩
  · obtain ⟨e0, e1, e2⟩ := hagree c
    refine (Reference44Ideal.Read.val_main_v10_eq _ _ _).trans ?_
    rw [e0, e1, e2]
    exact Reference44Ideal.WGradOddIn.ref_eq _ _ _

end Cert.Proof.WGradOddIn

end
-- ==== Proof.SumSlots.lean ====
module

public import proofs.«01_k».proof.Proof.Gen.Kernel45Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel45Ideal.SumSlots

open Cert.Kernel45Ideal Cert.Kernel45Ideal.Gen

/-- Each entry's sum over the eight devices' slots. -/
def G (B : FVec Ideal S8x1432x128 .f32) : FVec Ideal S1432x128 .f32 := fun j => ∑ s : Fin 8, B (ix3 s (j 0) (j 1))

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- Row `p` of block `t`. -/
def rowOf (t : Fin cfg0.N) (p : Fin 8) : Fin 1432 := ⟨8 * (t : ℕ) + (p : ℕ), by have : (t : ℕ) < 179 := t.isLt; omega⟩

theorem blk0 (c : Dev nD) (t : Fin cfg0.N) (s : Fin 8) (p : Fin 8) (k : Fin 128) :
    iblk m c 0 t (ix3 s p k) = m (c.tc.loc main_arg0) (ix3 s (rowOf t p) k) := by
  unfold rowOf; blk_point [iblk, V, idx t]

theorem final (c : Dev nD) : (dats m 0 c).arrAt 1 cfg0.N = G (m (c.tc.loc main_arg0)) := by
  refine (dats m 0 c).arrAt_eq_of_covers 1 _ (by decide +kernel) fun t _ y => ?_
  blk_simp
  rw [after0_1]
  have hN : (t : ℕ) < 179 := t.isLt
  unfold out0_1
  canon_tiles x h
  all_goals
    obtain ⟨p, q, rfl⟩ : ∃ (p : Fin 8) (q : Fin 128), x = ix2 p q := ⟨x 0, x 1, eq_ix2 x⟩
    simp only [ix2_0, ix2_1] at h0 h1
    open_payloads
    pointwise
    simp only [blk0]
    have e : ((cfg0.win 1).blk t).view.emb y = ix2 (rowOf t p) q := by
      unfold rowOf
      blk_ext [idx t]
    rw [e]
    exact (Fin.sum_univ_eight (M := EReal) fun s : Fin 8 => ((m (c.tc.loc main_arg0)) : FVec Ideal S8x1432x128 .f32) (ix3 s (rowOf t p) q)).symm

end Cert.Kernel45Ideal.SumSlots

end
-- ==== Proof.SumSlotsRef.lean ====
module

public import proofs.«01_k».proof.Proof.SumSlots
public import proofs.«01_k».proof.Proof.Gen.Reference45Ideal.Read

@[expose] public section

set_option maxRecDepth 16384

noncomputable section

open Idealize.ShloMosaic Idealize.ShloMosaic.TcCoe Idealize.SL.Sem

namespace Cert.Reference45Ideal.SumSlots

open Cert.Reference45Ideal Cert.Reference45Ideal.Gen Cert.Reference45Ideal.Read

theorem ref_eq (B : FVec Ideal S8x1432x128 .f32) :
    val_main_v0 (F := Ideal) B = Kernel45Ideal.SumSlots.G B := by
  funext j
  pointwise [val_main_v0, val_main_cst]
  rfl

end Cert.Reference45Ideal.SumSlots

end
-- ==== Proof.SumSlotsClaim.lean ====
module

public import proofs.«01_k».proof.Defs
public import proofs.«01_k».proof.Proof.SumSlotsRef
public import proofs.«01_k».proof.Proof.Gen.Kernel45.Frame
public import proofs.«01_k».proof.Proof.Gen.Kernel45Ideal.Value
public import proofs.«01_k».proof.Proof.Gen.Reference45Ideal.Run
public import Idealize.ShloMosaic.Lib.Quiescent

@[expose] public section

set_option maxRecDepth 16384

noncomputable section

open Idealize.ShloMosaic Idealize.ShloMosaic.TcCoe Idealize.SL.Sem

namespace Cert.Proof.SumSlots

/-- The reference runs on the host alone: it has no semaphores, and it leaves its arguments as they were. -/
theorem quiescent_ref : quiescent_Reference45Ideal := fun m g _ =>
  (θ_run _ _ _).mono (fun r h => ⟨fun c => (h c).2, sem_eq_zero_of_no_sems (by decide) r.2⟩)
    (Reference45Ideal.Value.run (F := Ideal) m g)

/-- The small weights' gradients, summed over the devices' slots. -/
theorem algebraic : algebraic_Kernel45Ideal_Reference45Ideal := by
  intro m g m' g' _ hagree
  refine ⟨fun c => Kernel45Ideal.SumSlots.G (m (c.tc.loc Kernel45Ideal.main_arg0)),
    (θ_run _ _ _).mono (fun r h c => ?_) (Kernel45Ideal.Value.run_blocks m g),
    (θ_run _ _ _).mono (fun r h c => ⟨(h c).1.trans ?_, (h c).2⟩) (Reference45Ideal.Value.run (F := Ideal) m' g')⟩
  · exact ⟨(h c).1.trans (Kernel45Ideal.SumSlots.final m c), (h c).2⟩
  · obtain e0 := hagree c
    refine (Reference45Ideal.Read.val_main_v0_eq _).trans ?_
    rw [e0]
    exact Reference45Ideal.SumSlots.ref_eq _

end Cert.Proof.SumSlots

end
-- ==== Proof.FirstOddInClaim.lean ====
module

public import proofs.«01_k».proof.Defs
public import proofs.«01_k».proof.Proof.Gen.Kernel46.Frame
public import proofs.«01_k».proof.Proof.Gen.Kernel46Ideal.Frame
public import proofs.«01_k».proof.Proof.Gen.Reference46Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel46Ideal.FirstOddIn

open Cert.Kernel46Ideal Cert.Kernel46Ideal.Gen

/-- The weight's gradient: each column of the layer's input against each of the gradient of its output. -/
def dw (A : FVec Ideal S4096x1024 .bf16) (B : FVec Ideal S4096x1024 .bf16) : FVec Ideal S1024x1024 .bf16 :=
  fun j => ∑ r : Fin 4096, (A (ix2 r (j 0)) * B (ix2 r (j 1)) : EReal)

variable (m : (ℓ : Loc nD τ sig) → Buf (Elt Ideal) ℓ)

theorem idx : ∀ t : Fin cfg0.N, win0_0.index t = ![0, 0] ∧ win0_1.index t = ![0, t.val] ∧ win0_2.index t = ![1, 0, t.val] :=
  (by decide +kernel : ∀ t : Fin grid0.N, _)

/-- Place `p` of tile `t`. -/
def tileOf (t : Fin cfg0.N) (p : Fin 512) : Fin 1024 := ⟨512 * (t : ℕ) + (p : ℕ), by have : (t : ℕ) < 2 := t.isLt; omega⟩

theorem blkA (c : Dev nD) (t : Fin cfg0.N) (r : Fin 4096) (p : Fin 1024) : iblk m c 0 t (ix2 r p) = m (c.tc.loc main_arg0) (ix2 r (p)) := by
  unfold iblk; rw [show V m c (Pipeline.arrRef spec0 0) = _ from V_main_arg0 m c]; blk_point [idx t, tileOf]

theorem blkB (c : Dev nD) (t : Fin cfg0.N) (r : Fin 4096) (q : Fin 512) : iblk m c 1 t (ix2 r q) = m (c.tc.loc main_arg1) (ix2 r (tileOf t q)) := by
  unfold iblk; rw [show V m c (Pipeline.arrRef spec0 1) = _ from V_main_arg1 m c]; blk_point [idx t, tileOf]

/-- What the call writes: the gradient, in the last layer's place. -/
theorem layer (c : Dev nD) (p : Fin 1024) (q : Fin 1024) : (dats m 0 c).arrAt 2 cfg0.N (ix3 1 p q) = dw (m (c.tc.loc main_arg0)) (m (c.tc.loc main_arg1)) (ix2 p q) := by
  have e := (dats m 0 c).arrAt_eq_of_coversWhere (G := fun j => dw (m (c.tc.loc main_arg0)) (m (c.tc.loc main_arg1)) (ix2 (j 1) (j 2))) (P := fun j => (j (0 : Fin 3) : ℕ) / 1 = 1) 2 (fun β => β (0 : Fin _) = 1) (by decide +kernel)
    (fun t hf y => ?_) (fun j => Iff.rfl)
  · rw [e]
    exact if_pos (Nat.div_one 1)
  have hN : (t : ℕ) < 2 := t.isLt
  blk_simp
  rw [after0_2]
  unfold out0_2
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 1 (p) (tileOf t q) := by
    unfold tileOf
    blk_ext [idx t]
  rw [e]
  open_payloads
  pointwise
  simp only [blkA, blkB]
  rfl

/-- That place, taken out on the host. -/
theorem taken (c : Dev nD) : Pipeline.afterTail₀ cfgs (dats m) 0 (V0 m) [hostOps1] c main_v2 = dw (m (c.tc.loc main_arg0)) (m (c.tc.loc main_arg1)) := by
  unfold Pipeline.afterTail₀ hostOps1
  simp only [List.flatten_cons, List.flatten_nil, List.append_nil]
  after_results
  refine (congrArg (fun z : FVec Ideal S2x1024x1024 .bf16 => (shapeCast S1024x1024 (extractStridedSlice S1x1024x1024 ![1, 0, 0] z slices_S2x1024x1024_S1x1024x1024_1_0_0)
    shapeCasts_S1x1024x1024_S1024x1024 : FVec Ideal S1024x1024 .bf16)) (Pipeline.withArrays_arr _ launch0.win.arr_inj c (V0 m c) (fun w => (dats m 0 c).arrAt w cfg0.N) 2 :
      Pipeline.withArrays spec0 c (V0 m c) (fun w => (dats m 0 c).arrAt w cfg0.N) (Proc.devRef .tc main_v0) = (dats m 0 c).arrAt 2 cfg0.N)).trans ?_
  funext j
  obtain ⟨p, q, rfl⟩ : ∃ (p : Fin 1024) (q : Fin 1024), j = ix2 p q := ⟨j 0, j 1, eq_ix2 j⟩
  rw [← layer m c p q]
  pointwise

theorem run (ρ : Dev nD → PrngReg) : θ_run defs (onTc (τ := τ) (main (F := Ideal))) ⟨m, fun _ => 0, ρ⟩ fun r => ∀ c : Dev nD,
    r.2.mem (c.tc.loc main_v2) = dw (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun r h c => ⟨((h.1 c).2 main_v2 (Pipeline.mem_restRefs_of main_v2 (by decide) (by decide))).trans (taken m c), h.2 c⟩)
    (θ_run_and (run_main m ρ) (unchanged m ρ))

end Cert.Kernel46Ideal.FirstOddIn

namespace Cert.Reference46Ideal.FirstOddIn

open Cert.Reference46Ideal Cert.Reference46Ideal.Gen Cert.Reference46Ideal.Read

/-- The reference's gradient, the product's two factors in the other order. -/
theorem ref_eq (A : FVec Ideal S4096x1024 .bf16) (B : FVec Ideal S4096x1024 .bf16) : val_main_v6 (F := Ideal) A B = Kernel46Ideal.FirstOddIn.dw A B := by
  funext j
  obtain ⟨p, q, rfl⟩ : ∃ (p : Fin 1024) (q : Fin 1024), j = ix2 p q := ⟨j 0, j 1, eq_ix2 j⟩
  pointwise [val_main_v6, val_main_v5, val_main_v4, val_main_v3, val_main_v1]
  exact Finset.sum_congr rfl fun r _ => mul_comm _ _

end Cert.Reference46Ideal.FirstOddIn

namespace Cert.Proof.FirstOddIn

/-- The reference runs on the host alone: it has no semaphores, and it leaves its arguments as they were. -/
theorem quiescent_ref : quiescent_Reference46Ideal := fun m g _ =>
  (θ_run _ _ _).mono (fun r h => ⟨fun c => (h c).2, sem_eq_zero_of_no_sems (by decide) r.2⟩) (Reference46Ideal.Value.run (F := Ideal) m g)

theorem algebraic : algebraic_Kernel46Ideal_Reference46Ideal := fun m g m' g' _ hagree =>
  ⟨_, Kernel46Ideal.FirstOddIn.run m g, (θ_run _ _ _).mono (fun r h c => ⟨(h c).1.trans ((Reference46Ideal.Read.val_main_v6_eq _ _).trans
    (by rw [(hagree c).1, (hagree c).2]; exact Reference46Ideal.FirstOddIn.ref_eq _ _)), (h c).2⟩) (Reference46Ideal.Value.run (F := Ideal) m' g')⟩

end Cert.Proof.FirstOddIn

end
-- ==== Proof.FirstUpClaim.lean ====
module

public import proofs.«01_k».proof.Defs
public import proofs.«01_k».proof.Proof.Gen.Kernel47.Frame
public import proofs.«01_k».proof.Proof.Gen.Kernel47Ideal.Frame
public import proofs.«01_k».proof.Proof.Gen.Reference47Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel47Ideal.FirstUp

open Cert.Kernel47Ideal Cert.Kernel47Ideal.Gen

/-- The weight's gradient: each column of the layer's input against each of the gradient of its output. -/
def dw (A : FVec Ideal S4096x1024 .bf16) (B : FVec Ideal S4096x5632 .bf16) : FVec Ideal S1024x5632 .bf16 :=
  fun j => ∑ r : Fin 4096, (A (ix2 r (j 0)) * B (ix2 r (j 1)) : EReal)

variable (m : (ℓ : Loc nD τ sig) → Buf (Elt Ideal) ℓ)

theorem idx : ∀ t : Fin cfg0.N, win0_0.index t = ![0, 0] ∧ win0_1.index t = ![0, t.val] ∧ win0_2.index t = ![3, 0, t.val] :=
  (by decide +kernel : ∀ t : Fin grid0.N, _)

/-- Place `p` of tile `t`. -/
def tileOf (t : Fin cfg0.N) (p : Fin 512) : Fin 5632 := ⟨512 * (t : ℕ) + (p : ℕ), by have : (t : ℕ) < 11 := t.isLt; omega⟩

theorem blkA (c : Dev nD) (t : Fin cfg0.N) (r : Fin 4096) (p : Fin 1024) : iblk m c 0 t (ix2 r p) = m (c.tc.loc main_arg0) (ix2 r (p)) := by
  unfold iblk; rw [show V m c (Pipeline.arrRef spec0 0) = _ from V_main_arg0 m c]; blk_point [idx t, tileOf]

theorem blkB (c : Dev nD) (t : Fin cfg0.N) (r : Fin 4096) (q : Fin 512) : iblk m c 1 t (ix2 r q) = m (c.tc.loc main_arg1) (ix2 r (tileOf t q)) := by
  unfold iblk; rw [show V m c (Pipeline.arrRef spec0 1) = _ from V_main_arg1 m c]; blk_point [idx t, tileOf]

/-- What the call writes: the gradient, in the last layer's place. -/
theorem layer (c : Dev nD) (p : Fin 1024) (q : Fin 5632) : (dats m 0 c).arrAt 2 cfg0.N (ix3 3 p q) = dw (m (c.tc.loc main_arg0)) (m (c.tc.loc main_arg1)) (ix2 p q) := by
  have e := (dats m 0 c).arrAt_eq_of_coversWhere (G := fun j => dw (m (c.tc.loc main_arg0)) (m (c.tc.loc main_arg1)) (ix2 (j 1) (j 2))) (P := fun j => (j (0 : Fin 3) : ℕ) / 1 = 3) 2 (fun β => β (0 : Fin _) = 3) (by decide +kernel)
    (fun t hf y => ?_) (fun j => Iff.rfl)
  · rw [e]
    exact if_pos (Nat.div_one 3)
  have hN : (t : ℕ) < 11 := t.isLt
  blk_simp
  rw [after0_2]
  unfold out0_2
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 3 (p) (tileOf t q) := by
    unfold tileOf
    blk_ext [idx t]
  rw [e]
  open_payloads
  pointwise
  simp only [blkA, blkB]
  rfl

/-- That place, taken out on the host. -/
theorem taken (c : Dev nD) : Pipeline.afterTail₀ cfgs (dats m) 0 (V0 m) [hostOps1] c main_v2 = dw (m (c.tc.loc main_arg0)) (m (c.tc.loc main_arg1)) := by
  unfold Pipeline.afterTail₀ hostOps1
  simp only [List.flatten_cons, List.flatten_nil, List.append_nil]
  after_results
  refine (congrArg (fun z : FVec Ideal S4x1024x5632 .bf16 => (shapeCast S1024x5632 (extractStridedSlice S1x1024x5632 ![3, 0, 0] z slices_S4x1024x5632_S1x1024x5632_3_0_0)
    shapeCasts_S1x1024x5632_S1024x5632 : FVec Ideal S1024x5632 .bf16)) (Pipeline.withArrays_arr _ launch0.win.arr_inj c (V0 m c) (fun w => (dats m 0 c).arrAt w cfg0.N) 2 :
      Pipeline.withArrays spec0 c (V0 m c) (fun w => (dats m 0 c).arrAt w cfg0.N) (Proc.devRef .tc main_v0) = (dats m 0 c).arrAt 2 cfg0.N)).trans ?_
  funext j
  obtain ⟨p, q, rfl⟩ : ∃ (p : Fin 1024) (q : Fin 5632), j = ix2 p q := ⟨j 0, j 1, eq_ix2 j⟩
  rw [← layer m c p q]
  pointwise

theorem run (ρ : Dev nD → PrngReg) : θ_run defs (onTc (τ := τ) (main (F := Ideal))) ⟨m, fun _ => 0, ρ⟩ fun r => ∀ c : Dev nD,
    r.2.mem (c.tc.loc main_v2) = dw (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun r h c => ⟨((h.1 c).2 main_v2 (Pipeline.mem_restRefs_of main_v2 (by decide) (by decide))).trans (taken m c), h.2 c⟩)
    (θ_run_and (run_main m ρ) (unchanged m ρ))

end Cert.Kernel47Ideal.FirstUp

namespace Cert.Reference47Ideal.FirstUp

open Cert.Reference47Ideal Cert.Reference47Ideal.Gen Cert.Reference47Ideal.Read

/-- The reference's gradient, the product's two factors in the other order. -/
theorem ref_eq (A : FVec Ideal S4096x1024 .bf16) (B : FVec Ideal S4096x5632 .bf16) : val_main_v6 (F := Ideal) A B = Kernel47Ideal.FirstUp.dw A B := by
  funext j
  obtain ⟨p, q, rfl⟩ : ∃ (p : Fin 1024) (q : Fin 5632), j = ix2 p q := ⟨j 0, j 1, eq_ix2 j⟩
  pointwise [val_main_v6, val_main_v5, val_main_v4, val_main_v3, val_main_v1]
  exact Finset.sum_congr rfl fun r _ => mul_comm _ _

end Cert.Reference47Ideal.FirstUp

namespace Cert.Proof.FirstUp

/-- The reference runs on the host alone: it has no semaphores, and it leaves its arguments as they were. -/
theorem quiescent_ref : quiescent_Reference47Ideal := fun m g _ =>
  (θ_run _ _ _).mono (fun r h => ⟨fun c => (h c).2, sem_eq_zero_of_no_sems (by decide) r.2⟩) (Reference47Ideal.Value.run (F := Ideal) m g)

theorem algebraic : algebraic_Kernel47Ideal_Reference47Ideal := fun m g m' g' _ hagree =>
  ⟨_, Kernel47Ideal.FirstUp.run m g, (θ_run _ _ _).mono (fun r h c => ⟨(h c).1.trans ((Reference47Ideal.Read.val_main_v6_eq _ _).trans
    (by rw [(hagree c).1, (hagree c).2]; exact Reference47Ideal.FirstUp.ref_eq _ _)), (h c).2⟩) (Reference47Ideal.Value.run (F := Ideal) m' g')⟩

end Cert.Proof.FirstUp

end
-- ==== Proof.FirstDownClaim.lean ====
module

public import proofs.«01_k».proof.Defs
public import proofs.«01_k».proof.Proof.Gen.Kernel48.Frame
public import proofs.«01_k».proof.Proof.Gen.Kernel48Ideal.Frame
public import proofs.«01_k».proof.Proof.Gen.Reference48Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel48Ideal.FirstDown

open Cert.Kernel48Ideal Cert.Kernel48Ideal.Gen

/-- The weight's gradient: each column of the layer's input against each of the gradient of its output. -/
def dw (A : FVec Ideal S4096x2816 .bf16) (B : FVec Ideal S4096x1024 .bf16) : FVec Ideal S2816x1024 .bf16 :=
  fun j => ∑ r : Fin 4096, (A (ix2 r (j 0)) * B (ix2 r (j 1)) : EReal)

variable (m : (ℓ : Loc nD τ sig) → Buf (Elt Ideal) ℓ)

theorem idx : ∀ t : Fin cfg0.N, win0_0.index t = ![0, t.val] ∧ win0_1.index t = ![0, 0] ∧ win0_2.index t = ![3, t.val, 0] :=
  (by decide +kernel : ∀ t : Fin grid0.N, _)

/-- Place `p` of tile `t`. -/
def tileOf (t : Fin cfg0.N) (p : Fin 1408) : Fin 2816 := ⟨1408 * (t : ℕ) + (p : ℕ), by have : (t : ℕ) < 2 := t.isLt; omega⟩

theorem blkA (c : Dev nD) (t : Fin cfg0.N) (r : Fin 4096) (p : Fin 1408) : iblk m c 0 t (ix2 r p) = m (c.tc.loc main_arg0) (ix2 r (tileOf t p)) := by
  unfold iblk; rw [show V m c (Pipeline.arrRef spec0 0) = _ from V_main_arg0 m c]; blk_point [idx t, tileOf]

theorem blkB (c : Dev nD) (t : Fin cfg0.N) (r : Fin 4096) (q : Fin 1024) : iblk m c 1 t (ix2 r q) = m (c.tc.loc main_arg1) (ix2 r (q)) := by
  unfold iblk; rw [show V m c (Pipeline.arrRef spec0 1) = _ from V_main_arg1 m c]; blk_point [idx t, tileOf]

/-- What the call writes: the gradient, in the last layer's place. -/
theorem layer (c : Dev nD) (p : Fin 2816) (q : Fin 1024) : (dats m 0 c).arrAt 2 cfg0.N (ix3 3 p q) = dw (m (c.tc.loc main_arg0)) (m (c.tc.loc main_arg1)) (ix2 p q) := by
  have e := (dats m 0 c).arrAt_eq_of_coversWhere (G := fun j => dw (m (c.tc.loc main_arg0)) (m (c.tc.loc main_arg1)) (ix2 (j 1) (j 2))) (P := fun j => (j (0 : Fin 3) : ℕ) / 1 = 3) 2 (fun β => β (0 : Fin _) = 3) (by decide +kernel)
    (fun t hf y => ?_) (fun j => Iff.rfl)
  · rw [e]
    exact if_pos (Nat.div_one 3)
  have hN : (t : ℕ) < 2 := t.isLt
  blk_simp
  rw [after0_2]
  unfold out0_2
  frame_out
  obtain ⟨p, q, rfl⟩ : ∃ (p : Fin 1408) (q : Fin 1024), y = (ix3 0 p q : (⟨3, ![1, 1408, 1024]⟩ : Shape).Idx) :=
    ⟨y 1, y 2, (eq_ix3 (n0 := 1) (n1 := 1408) (n2 := 1024) y).trans (congrArg (fun z => ix3 z (y 1) (y 2)) (Subsingleton.elim (α := Fin 1) _ _))⟩
  have e : ((View.whole main_v0).slice (win0_2.rect t)).emb (ix3 0 p q : (⟨3, ![1, 1408, 1024]⟩ : Shape).Idx) = ix3 3 (tileOf t p) (q) := by
    unfold tileOf
    blk_ext [idx t]
  rw [e]
  open_payloads
  pointwise
  simp only [blkA, blkB]
  rfl

/-- That place, taken out on the host. -/
theorem taken (c : Dev nD) : Pipeline.afterTail₀ cfgs (dats m) 0 (V0 m) [hostOps1] c main_v2 = dw (m (c.tc.loc main_arg0)) (m (c.tc.loc main_arg1)) := by
  unfold Pipeline.afterTail₀ hostOps1
  simp only [List.flatten_cons, List.flatten_nil, List.append_nil]
  after_results
  refine (congrArg (fun z : FVec Ideal S4x2816x1024 .bf16 => (shapeCast S2816x1024 (extractStridedSlice S1x2816x1024 ![3, 0, 0] z slices_S4x2816x1024_S1x2816x1024_3_0_0)
    shapeCasts_S1x2816x1024_S2816x1024 : FVec Ideal S2816x1024 .bf16)) (Pipeline.withArrays_arr _ launch0.win.arr_inj c (V0 m c) (fun w => (dats m 0 c).arrAt w cfg0.N) 2 :
      Pipeline.withArrays spec0 c (V0 m c) (fun w => (dats m 0 c).arrAt w cfg0.N) (Proc.devRef .tc main_v0) = (dats m 0 c).arrAt 2 cfg0.N)).trans ?_
  funext j
  obtain ⟨p, q, rfl⟩ : ∃ (p : Fin 2816) (q : Fin 1024), j = ix2 p q := ⟨j 0, j 1, eq_ix2 j⟩
  rw [← layer m c p q]
  pointwise

theorem run (ρ : Dev nD → PrngReg) : θ_run defs (onTc (τ := τ) (main (F := Ideal))) ⟨m, fun _ => 0, ρ⟩ fun r => ∀ c : Dev nD,
    r.2.mem (c.tc.loc main_v2) = dw (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun r h c => ⟨((h.1 c).2 main_v2 (Pipeline.mem_restRefs_of main_v2 (by decide) (by decide))).trans (taken m c), h.2 c⟩)
    (θ_run_and (run_main m ρ) (unchanged m ρ))

end Cert.Kernel48Ideal.FirstDown

namespace Cert.Reference48Ideal.FirstDown

open Cert.Reference48Ideal Cert.Reference48Ideal.Gen Cert.Reference48Ideal.Read

/-- The reference's gradient, the product's two factors in the other order. -/
theorem ref_eq (A : FVec Ideal S4096x2816 .bf16) (B : FVec Ideal S4096x1024 .bf16) : val_main_v6 (F := Ideal) A B = Kernel48Ideal.FirstDown.dw A B := by
  funext j
  obtain ⟨p, q, rfl⟩ : ∃ (p : Fin 2816) (q : Fin 1024), j = ix2 p q := ⟨j 0, j 1, eq_ix2 j⟩
  pointwise [val_main_v6, val_main_v5, val_main_v4, val_main_v3, val_main_v1]
  exact Finset.sum_congr rfl fun r _ => mul_comm _ _

end Cert.Reference48Ideal.FirstDown

namespace Cert.Proof.FirstDown

/-- The reference runs on the host alone: it has no semaphores, and it leaves its arguments as they were. -/
theorem quiescent_ref : quiescent_Reference48Ideal := fun m g _ =>
  (θ_run _ _ _).mono (fun r h => ⟨fun c => (h c).2, sem_eq_zero_of_no_sems (by decide) r.2⟩) (Reference48Ideal.Value.run (F := Ideal) m g)

theorem algebraic : algebraic_Kernel48Ideal_Reference48Ideal := fun m g m' g' _ hagree =>
  ⟨_, Kernel48Ideal.FirstDown.run m g, (θ_run _ _ _).mono (fun r h c => ⟨(h c).1.trans ((Reference48Ideal.Read.val_main_v6_eq _ _).trans
    (by rw [(hagree c).1, (hagree c).2]; exact Reference48Ideal.FirstDown.ref_eq _ _)), (h c).2⟩) (Reference48Ideal.Value.run (F := Ideal) m' g')⟩

end Cert.Proof.FirstDown

end
-- ==== Proof.FirstOClaim.lean ====
module

public import proofs.«01_k».proof.Defs
public import proofs.«01_k».proof.Proof.Gen.Kernel49.Frame
public import proofs.«01_k».proof.Proof.Gen.Kernel49Ideal.Frame
public import proofs.«01_k».proof.Proof.Gen.Reference49Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel49Ideal.FirstO

open Cert.Kernel49Ideal Cert.Kernel49Ideal.Gen

/-- The weight's gradient: each column of the layer's input against each of the gradient of its output. -/
def dw (A : FVec Ideal S4096x1024 .bf16) (B : FVec Ideal S4096x1024 .bf16) : FVec Ideal S1024x1024 .bf16 :=
  fun j => ∑ r : Fin 4096, (A (ix2 r (j 0)) * B (ix2 r (j 1)) : EReal)

variable (m : (ℓ : Loc nD τ sig) → Buf (Elt Ideal) ℓ)

theorem idx : ∀ t : Fin cfg0.N, win0_0.index t = ![0, 0] ∧ win0_1.index t = ![0, t.val] ∧ win0_2.index t = ![3, 0, t.val] :=
  (by decide +kernel : ∀ t : Fin grid0.N, _)

/-- Place `p` of tile `t`. -/
def tileOf (t : Fin cfg0.N) (p : Fin 512) : Fin 1024 := ⟨512 * (t : ℕ) + (p : ℕ), by have : (t : ℕ) < 2 := t.isLt; omega⟩

theorem blkA (c : Dev nD) (t : Fin cfg0.N) (r : Fin 4096) (p : Fin 1024) : iblk m c 0 t (ix2 r p) = m (c.tc.loc main_arg0) (ix2 r (p)) := by
  unfold iblk; rw [show V m c (Pipeline.arrRef spec0 0) = _ from V_main_arg0 m c]; blk_point [idx t, tileOf]

theorem blkB (c : Dev nD) (t : Fin cfg0.N) (r : Fin 4096) (q : Fin 512) : iblk m c 1 t (ix2 r q) = m (c.tc.loc main_arg1) (ix2 r (tileOf t q)) := by
  unfold iblk; rw [show V m c (Pipeline.arrRef spec0 1) = _ from V_main_arg1 m c]; blk_point [idx t, tileOf]

/-- What the call writes: the gradient, in the last layer's place. -/
theorem layer (c : Dev nD) (p : Fin 1024) (q : Fin 1024) : (dats m 0 c).arrAt 2 cfg0.N (ix3 3 p q) = dw (m (c.tc.loc main_arg0)) (m (c.tc.loc main_arg1)) (ix2 p q) := by
  have e := (dats m 0 c).arrAt_eq_of_coversWhere (G := fun j => dw (m (c.tc.loc main_arg0)) (m (c.tc.loc main_arg1)) (ix2 (j 1) (j 2))) (P := fun j => (j (0 : Fin 3) : ℕ) / 1 = 3) 2 (fun β => β (0 : Fin _) = 3) (by decide +kernel)
    (fun t hf y => ?_) (fun j => Iff.rfl)
  · rw [e]
    exact if_pos (Nat.div_one 3)
  have hN : (t : ℕ) < 2 := t.isLt
  blk_simp
  rw [after0_2]
  unfold out0_2
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 3 (p) (tileOf t q) := by
    unfold tileOf
    blk_ext [idx t]
  rw [e]
  open_payloads
  pointwise
  simp only [blkA, blkB]
  rfl

/-- That place, taken out on the host. -/
theorem taken (c : Dev nD) : Pipeline.afterTail₀ cfgs (dats m) 0 (V0 m) [hostOps1] c main_v2 = dw (m (c.tc.loc main_arg0)) (m (c.tc.loc main_arg1)) := by
  unfold Pipeline.afterTail₀ hostOps1
  simp only [List.flatten_cons, List.flatten_nil, List.append_nil]
  after_results
  refine (congrArg (fun z : FVec Ideal S4x1024x1024 .bf16 => (shapeCast S1024x1024 (extractStridedSlice S1x1024x1024 ![3, 0, 0] z slices_S4x1024x1024_S1x1024x1024_3_0_0)
    shapeCasts_S1x1024x1024_S1024x1024 : FVec Ideal S1024x1024 .bf16)) (Pipeline.withArrays_arr _ launch0.win.arr_inj c (V0 m c) (fun w => (dats m 0 c).arrAt w cfg0.N) 2 :
      Pipeline.withArrays spec0 c (V0 m c) (fun w => (dats m 0 c).arrAt w cfg0.N) (Proc.devRef .tc main_v0) = (dats m 0 c).arrAt 2 cfg0.N)).trans ?_
  funext j
  obtain ⟨p, q, rfl⟩ : ∃ (p : Fin 1024) (q : Fin 1024), j = ix2 p q := ⟨j 0, j 1, eq_ix2 j⟩
  rw [← layer m c p q]
  pointwise

theorem run (ρ : Dev nD → PrngReg) : θ_run defs (onTc (τ := τ) (main (F := Ideal))) ⟨m, fun _ => 0, ρ⟩ fun r => ∀ c : Dev nD,
    r.2.mem (c.tc.loc main_v2) = dw (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun r h c => ⟨((h.1 c).2 main_v2 (Pipeline.mem_restRefs_of main_v2 (by decide) (by decide))).trans (taken m c), h.2 c⟩)
    (θ_run_and (run_main m ρ) (unchanged m ρ))

end Cert.Kernel49Ideal.FirstO

namespace Cert.Reference49Ideal.FirstO

open Cert.Reference49Ideal Cert.Reference49Ideal.Gen Cert.Reference49Ideal.Read

/-- The reference's gradient, the product's two factors in the other order. -/
theorem ref_eq (A : FVec Ideal S4096x1024 .bf16) (B : FVec Ideal S4096x1024 .bf16) : val_main_v6 (F := Ideal) A B = Kernel49Ideal.FirstO.dw A B := by
  funext j
  obtain ⟨p, q, rfl⟩ : ∃ (p : Fin 1024) (q : Fin 1024), j = ix2 p q := ⟨j 0, j 1, eq_ix2 j⟩
  pointwise [val_main_v6, val_main_v5, val_main_v4, val_main_v3, val_main_v1]
  exact Finset.sum_congr rfl fun r _ => mul_comm _ _

end Cert.Reference49Ideal.FirstO

namespace Cert.Proof.FirstO

/-- The reference runs on the host alone: it has no semaphores, and it leaves its arguments as they were. -/
theorem quiescent_ref : quiescent_Reference49Ideal := fun m g _ =>
  (θ_run _ _ _).mono (fun r h => ⟨fun c => (h c).2, sem_eq_zero_of_no_sems (by decide) r.2⟩) (Reference49Ideal.Value.run (F := Ideal) m g)

theorem algebraic : algebraic_Kernel49Ideal_Reference49Ideal := fun m g m' g' _ hagree =>
  ⟨_, Kernel49Ideal.FirstO.run m g, (θ_run _ _ _).mono (fun r h c => ⟨(h c).1.trans ((Reference49Ideal.Read.val_main_v6_eq _ _).trans
    (by rw [(hagree c).1, (hagree c).2]; exact Reference49Ideal.FirstO.ref_eq _ _)), (h c).2⟩) (Reference49Ideal.Value.run (F := Ideal) m' g')⟩

end Cert.Proof.FirstO

end
-- ==== Proof.FirstKvClaim.lean ====
module

public import proofs.«01_k».proof.Defs
public import proofs.«01_k».proof.Proof.Gen.Kernel50.Frame
public import proofs.«01_k».proof.Proof.Gen.Kernel50Ideal.Frame
public import proofs.«01_k».proof.Proof.Gen.Reference50Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel50Ideal.FirstKv

open Cert.Kernel50Ideal Cert.Kernel50Ideal.Gen

/-- The weight's gradient: each column of the layer's input against each of the gradient of its output. -/
def dw (A : FVec Ideal S256x1024 .bf16) (B : FVec Ideal S256x2048 .bf16) : FVec Ideal S1024x2048 .bf16 :=
  fun j => ∑ r : Fin 256, (A (ix2 r (j 0)) * B (ix2 r (j 1)) : EReal)

variable (m : (ℓ : Loc nD τ sig) → Buf (Elt Ideal) ℓ)

theorem idx : ∀ t : Fin cfg0.N, win0_0.index t = ![0, 0] ∧ win0_1.index t = ![0, t.val] ∧ win0_2.index t = ![3, 0, t.val] :=
  (by decide +kernel : ∀ t : Fin grid0.N, _)

/-- Place `p` of tile `t`. -/
def tileOf (t : Fin cfg0.N) (p : Fin 512) : Fin 2048 := ⟨512 * (t : ℕ) + (p : ℕ), by have : (t : ℕ) < 4 := t.isLt; omega⟩

theorem blkA (c : Dev nD) (t : Fin cfg0.N) (r : Fin 256) (p : Fin 1024) : iblk m c 0 t (ix2 r p) = m (c.tc.loc main_arg0) (ix2 r (p)) := by
  unfold iblk; rw [show V m c (Pipeline.arrRef spec0 0) = _ from V_main_arg0 m c]; blk_point [idx t, tileOf]

theorem blkB (c : Dev nD) (t : Fin cfg0.N) (r : Fin 256) (q : Fin 512) : iblk m c 1 t (ix2 r q) = m (c.tc.loc main_arg1) (ix2 r (tileOf t q)) := by
  unfold iblk; rw [show V m c (Pipeline.arrRef spec0 1) = _ from V_main_arg1 m c]; blk_point [idx t, tileOf]

/-- What the call writes: the gradient, in the last layer's place. -/
theorem layer (c : Dev nD) (p : Fin 1024) (q : Fin 2048) : (dats m 0 c).arrAt 2 cfg0.N (ix3 3 p q) = dw (m (c.tc.loc main_arg0)) (m (c.tc.loc main_arg1)) (ix2 p q) := by
  have e := (dats m 0 c).arrAt_eq_of_coversWhere (G := fun j => dw (m (c.tc.loc main_arg0)) (m (c.tc.loc main_arg1)) (ix2 (j 1) (j 2))) (P := fun j => (j (0 : Fin 3) : ℕ) / 1 = 3) 2 (fun β => β (0 : Fin _) = 3) (by decide +kernel)
    (fun t hf y => ?_) (fun j => Iff.rfl)
  · rw [e]
    exact if_pos (Nat.div_one 3)
  have hN : (t : ℕ) < 4 := t.isLt
  blk_simp
  rw [after0_2]
  unfold out0_2
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 3 (p) (tileOf t q) := by
    unfold tileOf
    blk_ext [idx t]
  rw [e]
  open_payloads
  pointwise
  simp only [blkA, blkB]
  rfl

/-- That place, taken out on the host. -/
theorem taken (c : Dev nD) : Pipeline.afterTail₀ cfgs (dats m) 0 (V0 m) [hostOps1] c main_v2 = dw (m (c.tc.loc main_arg0)) (m (c.tc.loc main_arg1)) := by
  unfold Pipeline.afterTail₀ hostOps1
  simp only [List.flatten_cons, List.flatten_nil, List.append_nil]
  after_results
  refine (congrArg (fun z : FVec Ideal S4x1024x2048 .bf16 => (shapeCast S1024x2048 (extractStridedSlice S1x1024x2048 ![3, 0, 0] z slices_S4x1024x2048_S1x1024x2048_3_0_0)
    shapeCasts_S1x1024x2048_S1024x2048 : FVec Ideal S1024x2048 .bf16)) (Pipeline.withArrays_arr _ launch0.win.arr_inj c (V0 m c) (fun w => (dats m 0 c).arrAt w cfg0.N) 2 :
      Pipeline.withArrays spec0 c (V0 m c) (fun w => (dats m 0 c).arrAt w cfg0.N) (Proc.devRef .tc main_v0) = (dats m 0 c).arrAt 2 cfg0.N)).trans ?_
  funext j
  obtain ⟨p, q, rfl⟩ : ∃ (p : Fin 1024) (q : Fin 2048), j = ix2 p q := ⟨j 0, j 1, eq_ix2 j⟩
  rw [← layer m c p q]
  pointwise

theorem run (ρ : Dev nD → PrngReg) : θ_run defs (onTc (τ := τ) (main (F := Ideal))) ⟨m, fun _ => 0, ρ⟩ fun r => ∀ c : Dev nD,
    r.2.mem (c.tc.loc main_v2) = dw (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun r h c => ⟨((h.1 c).2 main_v2 (Pipeline.mem_restRefs_of main_v2 (by decide) (by decide))).trans (taken m c), h.2 c⟩)
    (θ_run_and (run_main m ρ) (unchanged m ρ))

end Cert.Kernel50Ideal.FirstKv

namespace Cert.Reference50Ideal.FirstKv

open Cert.Reference50Ideal Cert.Reference50Ideal.Gen Cert.Reference50Ideal.Read

/-- The reference's gradient, the product's two factors in the other order. -/
theorem ref_eq (A : FVec Ideal S256x1024 .bf16) (B : FVec Ideal S256x2048 .bf16) : val_main_v6 (F := Ideal) A B = Kernel50Ideal.FirstKv.dw A B := by
  funext j
  obtain ⟨p, q, rfl⟩ : ∃ (p : Fin 1024) (q : Fin 2048), j = ix2 p q := ⟨j 0, j 1, eq_ix2 j⟩
  pointwise [val_main_v6, val_main_v5, val_main_v4, val_main_v3, val_main_v1]
  exact Finset.sum_congr rfl fun r _ => mul_comm _ _

end Cert.Reference50Ideal.FirstKv

namespace Cert.Proof.FirstKv

/-- The reference runs on the host alone: it has no semaphores, and it leaves its arguments as they were. -/
theorem quiescent_ref : quiescent_Reference50Ideal := fun m g _ =>
  (θ_run _ _ _).mono (fun r h => ⟨fun c => (h c).2, sem_eq_zero_of_no_sems (by decide) r.2⟩) (Reference50Ideal.Value.run (F := Ideal) m g)

theorem algebraic : algebraic_Kernel50Ideal_Reference50Ideal := fun m g m' g' _ hagree =>
  ⟨_, Kernel50Ideal.FirstKv.run m g, (θ_run _ _ _).mono (fun r h c => ⟨(h c).1.trans ((Reference50Ideal.Read.val_main_v6_eq _ _).trans
    (by rw [(hagree c).1, (hagree c).2]; exact Reference50Ideal.FirstKv.ref_eq _ _)), (h c).2⟩) (Reference50Ideal.Value.run (F := Ideal) m' g')⟩

end Cert.Proof.FirstKv

end
-- ==== Proof.FirstEvenInClaim.lean ====
module

public import proofs.«01_k».proof.Defs
public import proofs.«01_k».proof.Proof.Gen.Kernel51.Frame
public import proofs.«01_k».proof.Proof.Gen.Kernel51Ideal.Frame
public import proofs.«01_k».proof.Proof.Gen.Reference51Ideal.Read
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Kernel51Ideal.FirstEvenIn

open Cert.Kernel51Ideal Cert.Kernel51Ideal.Gen

/-- The weight's gradient: each column of the layer's input against each of the gradient of its output. -/
def dw (A : FVec Ideal S4096x1024 .bf16) (B : FVec Ideal S4096x2048 .bf16) : FVec Ideal S1024x2048 .bf16 :=
  fun j => ∑ r : Fin 4096, (A (ix2 r (j 0)) * B (ix2 r (j 1)) : EReal)

variable (m : (ℓ : Loc nD τ sig) → Buf (Elt Ideal) ℓ)

theorem idx : ∀ t : Fin cfg0.N, win0_0.index t = ![0, 0] ∧ win0_1.index t = ![0, t.val] ∧ win0_2.index t = ![1, 0, t.val] :=
  (by decide +kernel : ∀ t : Fin grid0.N, _)

/-- Place `p` of tile `t`. -/
def tileOf (t : Fin cfg0.N) (p : Fin 512) : Fin 2048 := ⟨512 * (t : ℕ) + (p : ℕ), by have : (t : ℕ) < 4 := t.isLt; omega⟩

theorem blkA (c : Dev nD) (t : Fin cfg0.N) (r : Fin 4096) (p : Fin 1024) : iblk m c 0 t (ix2 r p) = m (c.tc.loc main_arg0) (ix2 r (p)) := by
  unfold iblk; rw [show V m c (Pipeline.arrRef spec0 0) = _ from V_main_arg0 m c]; blk_point [idx t, tileOf]

theorem blkB (c : Dev nD) (t : Fin cfg0.N) (r : Fin 4096) (q : Fin 512) : iblk m c 1 t (ix2 r q) = m (c.tc.loc main_arg1) (ix2 r (tileOf t q)) := by
  unfold iblk; rw [show V m c (Pipeline.arrRef spec0 1) = _ from V_main_arg1 m c]; blk_point [idx t, tileOf]

/-- What the call writes: the gradient, in the last layer's place. -/
theorem layer (c : Dev nD) (p : Fin 1024) (q : Fin 2048) : (dats m 0 c).arrAt 2 cfg0.N (ix3 1 p q) = dw (m (c.tc.loc main_arg0)) (m (c.tc.loc main_arg1)) (ix2 p q) := by
  have e := (dats m 0 c).arrAt_eq_of_coversWhere (G := fun j => dw (m (c.tc.loc main_arg0)) (m (c.tc.loc main_arg1)) (ix2 (j 1) (j 2))) (P := fun j => (j (0 : Fin 3) : ℕ) / 1 = 1) 2 (fun β => β (0 : Fin _) = 1) (by decide +kernel)
    (fun t hf y => ?_) (fun j => Iff.rfl)
  · rw [e]
    exact if_pos (Nat.div_one 1)
  have hN : (t : ℕ) < 4 := t.isLt
  blk_simp
  rw [after0_2]
  unfold out0_2
  frame_out
  obtain ⟨p, q, rfl⟩ : ∃ (p : Fin 1024) (q : Fin 512), y = (ix3 0 p q : (⟨3, ![1, 1024, 512]⟩ : Shape).Idx) :=
    ⟨y 1, y 2, (eq_ix3 (n0 := 1) (n1 := 1024) (n2 := 512) y).trans (congrArg (fun z => ix3 z (y 1) (y 2)) (Subsingleton.elim (α := Fin 1) _ _))⟩
  have e : ((View.whole main_v0).slice (win0_2.rect t)).emb (ix3 0 p q : (⟨3, ![1, 1024, 512]⟩ : Shape).Idx) = ix3 1 (p) (tileOf t q) := by
    unfold tileOf
    blk_ext [idx t]
  rw [e]
  open_payloads
  pointwise
  simp only [blkA, blkB]
  rfl

/-- That place, taken out on the host. -/
theorem taken (c : Dev nD) : Pipeline.afterTail₀ cfgs (dats m) 0 (V0 m) [hostOps1] c main_v2 = dw (m (c.tc.loc main_arg0)) (m (c.tc.loc main_arg1)) := by
  unfold Pipeline.afterTail₀ hostOps1
  simp only [List.flatten_cons, List.flatten_nil, List.append_nil]
  after_results
  refine (congrArg (fun z : FVec Ideal S2x1024x2048 .bf16 => (shapeCast S1024x2048 (extractStridedSlice S1x1024x2048 ![1, 0, 0] z slices_S2x1024x2048_S1x1024x2048_1_0_0)
    shapeCasts_S1x1024x2048_S1024x2048 : FVec Ideal S1024x2048 .bf16)) (Pipeline.withArrays_arr _ launch0.win.arr_inj c (V0 m c) (fun w => (dats m 0 c).arrAt w cfg0.N) 2 :
      Pipeline.withArrays spec0 c (V0 m c) (fun w => (dats m 0 c).arrAt w cfg0.N) (Proc.devRef .tc main_v0) = (dats m 0 c).arrAt 2 cfg0.N)).trans ?_
  funext j
  obtain ⟨p, q, rfl⟩ : ∃ (p : Fin 1024) (q : Fin 2048), j = ix2 p q := ⟨j 0, j 1, eq_ix2 j⟩
  rw [← layer m c p q]
  pointwise

theorem run (ρ : Dev nD → PrngReg) : θ_run defs (onTc (τ := τ) (main (F := Ideal))) ⟨m, fun _ => 0, ρ⟩ fun r => ∀ c : Dev nD,
    r.2.mem (c.tc.loc main_v2) = dw (m (c.tc.loc main_arg0)) (m (c.tc.loc main_arg1))
    ∧ r.2.mem (c.tc.loc main_arg0) = m (c.tc.loc main_arg0) ∧ r.2.mem (c.tc.loc main_arg1) = m (c.tc.loc main_arg1) :=
  (θ_run defs _ _).mono (fun r h c => ⟨((h.1 c).2 main_v2 (Pipeline.mem_restRefs_of main_v2 (by decide) (by decide))).trans (taken m c), h.2 c⟩)
    (θ_run_and (run_main m ρ) (unchanged m ρ))

end Cert.Kernel51Ideal.FirstEvenIn

namespace Cert.Reference51Ideal.FirstEvenIn

open Cert.Reference51Ideal Cert.Reference51Ideal.Gen Cert.Reference51Ideal.Read

/-- The reference's gradient, the product's two factors in the other order. -/
theorem ref_eq (A : FVec Ideal S4096x1024 .bf16) (B : FVec Ideal S4096x2048 .bf16) : val_main_v6 (F := Ideal) A B = Kernel51Ideal.FirstEvenIn.dw A B := by
  funext j
  obtain ⟨p, q, rfl⟩ : ∃ (p : Fin 1024) (q : Fin 2048), j = ix2 p q := ⟨j 0, j 1, eq_ix2 j⟩
  pointwise [val_main_v6, val_main_v5, val_main_v4, val_main_v3, val_main_v1]
  exact Finset.sum_congr rfl fun r _ => mul_comm _ _

end Cert.Reference51Ideal.FirstEvenIn

namespace Cert.Proof.FirstEvenIn

/-- The reference runs on the host alone: it has no semaphores, and it leaves its arguments as they were. -/
theorem quiescent_ref : quiescent_Reference51Ideal := fun m g _ =>
  (θ_run _ _ _).mono (fun r h => ⟨fun c => (h c).2, sem_eq_zero_of_no_sems (by decide) r.2⟩) (Reference51Ideal.Value.run (F := Ideal) m g)

theorem algebraic : algebraic_Kernel51Ideal_Reference51Ideal := fun m g m' g' _ hagree =>
  ⟨_, Kernel51Ideal.FirstEvenIn.run m g, (θ_run _ _ _).mono (fun r h c => ⟨(h c).1.trans ((Reference51Ideal.Read.val_main_v6_eq _ _).trans
    (by rw [(hagree c).1, (hagree c).2]; exact Reference51Ideal.FirstEvenIn.ref_eq _ _)), (h c).2⟩) (Reference51Ideal.Value.run (F := Ideal) m' g')⟩

end Cert.Proof.FirstEvenIn

end
-- ==== Proof.lean ====
module

public import proofs.«01_k».proof.Defs
public import proofs.«01_k».proof.Proof.SwigluClaim
public import proofs.«01_k».proof.Proof.AttnClaim
public import proofs.«01_k».proof.Proof.BoundaryClaim
public import proofs.«01_k».proof.Proof.WGradUpClaim
public import proofs.«01_k».proof.Proof.WGradDownClaim
public import proofs.«01_k».proof.Proof.UpSwigluClaim
public import proofs.«01_k».proof.Proof.PostMmClaim
public import proofs.«01_k».proof.Proof.MatmulNNClaim
public import proofs.«01_k».proof.Proof.MatmulNTClaim
public import proofs.«01_k».proof.Proof.BoundaryLastClaim
public import proofs.«01_k».proof.Proof.OddCoreClaim
public import proofs.«01_k».proof.Proof.OddBwdClaim
public import proofs.«01_k».proof.Proof.AttnFwdClaim
public import proofs.«01_k».proof.Proof.LossTopClaim
public import proofs.«01_k».proof.Proof.PrenormClaim
public import proofs.«01_k».proof.Proof.MemNormClaim
public import proofs.«01_k».proof.Proof.MemGainClaim
public import proofs.«01_k».proof.Proof.AdamUpClaim
public import proofs.«01_k».proof.Proof.AdamDownClaim
public import proofs.«01_k».proof.Proof.AdamEvenInClaim
public import proofs.«01_k».proof.Proof.AdamOutClaim
public import proofs.«01_k».proof.Proof.AdamGroupClaim
public import proofs.«01_k».proof.Proof.AdamQClaim
public import proofs.«01_k».proof.Proof.AdamKvClaim
public import proofs.«01_k».proof.Proof.AdamSmallClaim
public import proofs.«01_k».proof.Proof.BoundaryOddClaim
public import proofs.«01_k».proof.Proof.BoundaryEvenClaim
public import proofs.«01_k».proof.Proof.BoundaryXaClaim
public import proofs.«01_k».proof.Proof.BoundaryUpClaim
public import proofs.«01_k».proof.Proof.MemoryKvClaim
public import proofs.«01_k».proof.Proof.EvenInClaim
public import proofs.«01_k».proof.Proof.OddInClaim
public import proofs.«01_k».proof.Proof.MemoryDxClaim
public import proofs.«01_k».proof.Proof.MixerDxClaim
public import proofs.«01_k».proof.Proof.PostOClaim
public import proofs.«01_k».proof.Proof.PostMixerClaim
public import proofs.«01_k».proof.Proof.PostLastClaim
public import proofs.«01_k».proof.Proof.WGradOClaim
public import proofs.«01_k».proof.Proof.WGradKvClaim
public import proofs.«01_k».proof.Proof.WGradEvenInClaim
public import proofs.«01_k».proof.Proof.WGradOddInClaim
public import proofs.«01_k».proof.Proof.SumSlotsClaim
public import proofs.«01_k».proof.Proof.FirstOddInClaim
public import proofs.«01_k».proof.Proof.FirstUpClaim
public import proofs.«01_k».proof.Proof.FirstDownClaim
public import proofs.«01_k».proof.Proof.FirstOClaim
public import proofs.«01_k».proof.Proof.FirstKvClaim
public import proofs.«01_k».proof.Proof.FirstEvenInClaim

@[expose] public section

noncomputable section

open Idealize.ShloMosaic Idealize.SL.Sem

namespace Cert.Proof

/-- Everything the certificate claims: the side conditions each program states, that every program runs to the end,
    leaves its arguments as they were and its semaphores at zero, and that every kernel's results are its reference's. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Kernel46.Gen.facts, Cert.Kernel46Ideal.Gen.facts, Cert.Reference46Ideal.Gen.facts, Cert.Kernel47.Gen.facts, Cert.Kernel47Ideal.Gen.facts, Cert.Reference47Ideal.Gen.facts, Cert.Kernel48.Gen.facts, Cert.Kernel48Ideal.Gen.facts, Cert.Reference48Ideal.Gen.facts, Cert.Kernel49.Gen.facts, Cert.Kernel49Ideal.Gen.facts, Cert.Reference49Ideal.Gen.facts, Cert.Kernel50.Gen.facts, Cert.Kernel50Ideal.Gen.facts, Cert.Reference50Ideal.Gen.facts, Cert.Kernel51.Gen.facts, Cert.Kernel51Ideal.Gen.facts, Cert.Reference51Ideal.Gen.facts, Cert.Pre_finite.Gen.facts, Cert.Pre_finite2.Gen.facts, Cert.Pre_finite3.Gen.facts, Cert.Pre_finite10.Gen.facts, Cert.Pre_finite11.Gen.facts, Cert.Pre_finite12.Gen.facts, Cert.Pre_finite14.Gen.facts, Cert.Pre_finite29.Gen.facts, Cert.Pre_finite30.Gen.facts, Cert.Pre_finite31.Gen.facts, Cert.Pre_finite32.Gen.facts,
   fun m g _ => Cert.Kernel.Gen.frame m g,
   fun m g _ => Cert.KernelIdeal.Gen.frame m g,
   fun m g _ => Cert.KernelIdeal.Gen.frame m g,
   fun m g _ => Swiglu.quiescent_ref m g trivial,
   fun m g _ => Swiglu.quiescent_ref m g trivial,
   fun m g _ => Cert.Kernel2.Gen.frame m g,
   fun m g _ => Cert.Kernel2Ideal.Gen.frame m g,
   fun m g _ => Cert.Kernel2Ideal.Gen.frame m g,
   fun m g _ => Attn.quiescent_ref m g trivial,
   fun m g _ => Attn.quiescent_ref m g trivial,
   fun m g _ => Cert.Kernel3.Gen.frame m g,
   fun m g _ => Cert.Kernel3Ideal.Gen.frame m g,
   fun m g _ => Cert.Kernel3Ideal.Gen.frame m g,
   fun m g _ => Boundary.quiescent_ref m g trivial,
   fun m g _ => Boundary.quiescent_ref m g trivial,
   fun m g _ => Cert.Kernel4.Gen.frame m g,
   fun m g _ => Cert.Kernel4Ideal.Gen.frame m g,
   fun m g _ => WGradUp.quiescent_ref m g trivial,
   fun m g _ => Cert.Kernel5.Gen.frame m g,
   fun m g _ => Cert.Kernel5Ideal.Gen.frame m g,
   fun m g _ => WGradDown.quiescent_ref m g trivial,
   fun m g _ => Cert.Kernel6.Gen.frame m g,
   fun m g _ => Cert.Kernel6Ideal.Gen.frame m g,
   fun m g _ => UpSwiglu.quiescent_ref m g trivial,
   fun m g _ => Cert.Kernel7.Gen.frame m g,
   fun m g _ => Cert.Kernel7Ideal.Gen.frame m g,
   fun m g _ => PostMm.quiescent_ref m g trivial,
   fun m g _ => Cert.Kernel8.Gen.frame m g,
   fun m g _ => Cert.Kernel8Ideal.Gen.frame m g,
   fun m g _ => MatmulNN.quiescent_ref m g trivial,
   fun m g _ => Cert.Kernel9.Gen.frame m g,
   fun m g _ => Cert.Kernel9Ideal.Gen.frame m g,
   fun m g _ => MatmulNT.quiescent_ref m g trivial,
   fun m g _ => Cert.Kernel10.Gen.frame m g,
   fun m g _ => Cert.Kernel10Ideal.Gen.frame m g,
   fun m g _ => Cert.Kernel10Ideal.Gen.frame m g,
   fun m g _ => BoundaryLast.quiescent_ref m g trivial,
   fun m g _ => BoundaryLast.quiescent_ref m g trivial,
   fun m g _ => Cert.Kernel11.Gen.frame m g,
   fun m g _ => Cert.Kernel11Ideal.Gen.frame m g,
   fun m g _ => Cert.Kernel11Ideal.Gen.frame m g,
   fun m g _ => OddCore.quiescent_ref m g trivial,
   fun m g _ => OddCore.quiescent_ref m g trivial,
   fun m g _ => Cert.Kernel12.Gen.frame m g,
   fun m g _ => Cert.Kernel12Ideal.Gen.frame m g,
   fun m g _ => Cert.Kernel12Ideal.Gen.frame m g,
   fun m g _ => OddBwd.quiescent_ref m g trivial,
   fun m g _ => OddBwd.quiescent_ref m g trivial,
   fun m g _ => Cert.Kernel13.Gen.frame m g,
   fun m g _ => Cert.Kernel13Ideal.Gen.frame m g,
   fun m g _ => AttnFwd.quiescent_ref m g trivial,
   fun m g _ => Cert.Kernel14.Gen.frame m g,
   fun m g _ => Cert.Kernel14Ideal.Gen.frame m g,
   fun m g _ => Cert.Kernel14Ideal.Gen.frame m g,
   fun m g _ => LossTop.quiescent_ref m g trivial,
   fun m g _ => LossTop.quiescent_ref m g trivial,
   fun m g _ => Cert.Kernel15.Gen.frame m g,
   fun m g _ => Cert.Kernel15Ideal.Gen.frame m g,
   fun m g _ => Prenorm.quiescent_ref m g trivial,
   fun m g _ => Cert.Kernel16.Gen.frame m g,
   fun m g _ => Cert.Kernel16Ideal.Gen.frame m g,
   fun m g _ => MemNorm.quiescent_ref m g trivial,
   fun m g _ => Cert.Kernel17.Gen.frame m g,
   fun m g _ => Cert.Kernel17Ideal.Gen.frame m g,
   fun m g _ => MemGain.quiescent_ref m g trivial,
   fun m g _ => Cert.Kernel18.Gen.frame m g,
   fun m g _ => Cert.Kernel18Ideal.Gen.frame m g,
   fun m g _ => AdamUp.quiescent_ref m g trivial,
   fun m g _ => Cert.Kernel22.Gen.frame m g,
   fun m g _ => Cert.Kernel22Ideal.Gen.frame m g,
   fun m g _ => AdamDown.quiescent_ref m g trivial,
   fun m g _ => Cert.Kernel23.Gen.frame m g,
   fun m g _ => Cert.Kernel23Ideal.Gen.frame m g,
   fun m g _ => AdamEvenIn.quiescent_ref m g trivial,
   fun m g _ => Cert.Kernel24.Gen.frame m g,
   fun m g _ => Cert.Kernel24Ideal.Gen.frame m g,
   fun m g _ => AdamOut.quiescent_ref m g trivial,
   fun m g _ => Cert.Kernel25.Gen.frame m g,
   fun m g _ => Cert.Kernel25Ideal.Gen.frame m g,
   fun m g _ => AdamGroup.quiescent_ref m g trivial,
   fun m g _ => Cert.Kernel26.Gen.frame m g,
   fun m g _ => Cert.Kernel26Ideal.Gen.frame m g,
   fun m g _ => AdamQ.quiescent_ref m g trivial,
   fun m g _ => Cert.Kernel27.Gen.frame m g,
   fun m g _ => Cert.Kernel27Ideal.Gen.frame m g,
   fun m g _ => AdamKv.quiescent_ref m g trivial,
   fun m g _ => Cert.Kernel28.Gen.frame m g,
   fun m g _ => Cert.Kernel28Ideal.Gen.frame m g,
   fun m g _ => AdamSmall.quiescent_ref m g trivial,
   fun m g _ => Cert.Kernel29.Gen.frame m g,
   fun m g _ => Cert.Kernel29Ideal.Gen.frame m g,
   fun m g _ => Cert.Kernel29Ideal.Gen.frame m g,
   fun m g _ => BoundaryOdd.quiescent_ref m g trivial,
   fun m g _ => BoundaryOdd.quiescent_ref m g trivial,
   fun m g _ => Cert.Kernel30.Gen.frame m g,
   fun m g _ => Cert.Kernel30Ideal.Gen.frame m g,
   fun m g _ => Cert.Kernel30Ideal.Gen.frame m g,
   fun m g _ => BoundaryEven.quiescent_ref m g trivial,
   fun m g _ => BoundaryEven.quiescent_ref m g trivial,
   fun m g _ => Cert.Kernel31.Gen.frame m g,
   fun m g _ => Cert.Kernel31Ideal.Gen.frame m g,
   fun m g _ => Cert.Kernel31Ideal.Gen.frame m g,
   fun m g _ => BoundaryXa.quiescent_ref m g trivial,
   fun m g _ => BoundaryXa.quiescent_ref m g trivial,
   fun m g _ => Cert.Kernel32.Gen.frame m g,
   fun m g _ => Cert.Kernel32Ideal.Gen.frame m g,
   fun m g _ => Cert.Kernel32Ideal.Gen.frame m g,
   fun m g _ => BoundaryUp.quiescent_ref m g trivial,
   fun m g _ => BoundaryUp.quiescent_ref m g trivial,
   fun m g _ => Cert.Kernel33.Gen.frame m g,
   fun m g _ => Cert.Kernel33Ideal.Gen.frame m g,
   fun m g _ => MemoryKv.quiescent_ref m g trivial,
   fun m g _ => Cert.Kernel34.Gen.frame m g,
   fun m g _ => Cert.Kernel34Ideal.Gen.frame m g,
   fun m g _ => EvenIn.quiescent_ref m g trivial,
   fun m g _ => Cert.Kernel35.Gen.frame m g,
   fun m g _ => Cert.Kernel35Ideal.Gen.frame m g,
   fun m g _ => OddIn.quiescent_ref m g trivial,
   fun m g _ => Cert.Kernel36.Gen.frame m g,
   fun m g _ => Cert.Kernel36Ideal.Gen.frame m g,
   fun m g _ => MemoryDx.quiescent_ref m g trivial,
   fun m g _ => Cert.Kernel37.Gen.frame m g,
   fun m g _ => Cert.Kernel37Ideal.Gen.frame m g,
   fun m g _ => MixerDx.quiescent_ref m g trivial,
   fun m g _ => Cert.Kernel38.Gen.frame m g,
   fun m g _ => Cert.Kernel38Ideal.Gen.frame m g,
   fun m g _ => PostO.quiescent_ref m g trivial,
   fun m g _ => Cert.Kernel39.Gen.frame m g,
   fun m g _ => Cert.Kernel39Ideal.Gen.frame m g,
   fun m g _ => PostMixer.quiescent_ref m g trivial,
   fun m g _ => Cert.Kernel40.Gen.frame m g,
   fun m g _ => Cert.Kernel40Ideal.Gen.frame m g,
   fun m g _ => PostLast.quiescent_ref m g trivial,
   fun m g _ => Cert.Kernel41.Gen.frame m g,
   fun m g _ => Cert.Kernel41Ideal.Gen.frame m g,
   fun m g _ => WGradO.quiescent_ref m g trivial,
   fun m g _ => Cert.Kernel42.Gen.frame m g,
   fun m g _ => Cert.Kernel42Ideal.Gen.frame m g,
   fun m g _ => WGradKv.quiescent_ref m g trivial,
   fun m g _ => Cert.Kernel43.Gen.frame m g,
   fun m g _ => Cert.Kernel43Ideal.Gen.frame m g,
   fun m g _ => WGradEvenIn.quiescent_ref m g trivial,
   fun m g _ => Cert.Kernel44.Gen.frame m g,
   fun m g _ => Cert.Kernel44Ideal.Gen.frame m g,
   fun m g _ => WGradOddIn.quiescent_ref m g trivial,
   fun m g _ => Cert.Kernel45.Gen.frame m g,
   fun m g _ => Cert.Kernel45Ideal.Gen.frame m g,
   fun m g _ => SumSlots.quiescent_ref m g trivial,
   fun m g _ => Cert.Kernel46.Gen.frame m g,
   fun m g _ => Cert.Kernel46Ideal.Gen.frame m g,
   fun m g _ => FirstOddIn.quiescent_ref m g trivial,
   fun m g _ => Cert.Kernel47.Gen.frame m g,
   fun m g _ => Cert.Kernel47Ideal.Gen.frame m g,
   fun m g _ => FirstUp.quiescent_ref m g trivial,
   fun m g _ => Cert.Kernel48.Gen.frame m g,
   fun m g _ => Cert.Kernel48Ideal.Gen.frame m g,
   fun m g _ => FirstDown.quiescent_ref m g trivial,
   fun m g _ => Cert.Kernel49.Gen.frame m g,
   fun m g _ => Cert.Kernel49Ideal.Gen.frame m g,
   fun m g _ => FirstO.quiescent_ref m g trivial,
   fun m g _ => Cert.Kernel50.Gen.frame m g,
   fun m g _ => Cert.Kernel50Ideal.Gen.frame m g,
   fun m g _ => FirstKv.quiescent_ref m g trivial,
   fun m g _ => Cert.Kernel51.Gen.frame m g,
   fun m g _ => Cert.Kernel51Ideal.Gen.frame m g,
   fun m g _ => FirstEvenIn.quiescent_ref m g trivial,
   trivial,
   Swiglu.algebraic,
   trivial,
   Attn.algebraic,
   trivial,
   Boundary.algebraic,
   trivial,
   WGradUp.algebraic,
   trivial,
   WGradDown.algebraic,
   trivial,
   UpSwiglu.algebraic,
   trivial,
   PostMm.algebraic,
   trivial,
   MatmulNN.algebraic,
   trivial,
   MatmulNT.algebraic,
   trivial,
   BoundaryLast.algebraic,
   trivial,
   OddCore.algebraic,
   trivial,
   OddBwd.algebraic,
   trivial,
   AttnFwd.algebraic,
   trivial,
   LossTop.algebraic,
   trivial,
   Prenorm.algebraic,
   trivial,
   MemNorm.algebraic,
   trivial,
   MemGain.algebraic,
   trivial,
   AdamUp.algebraic,
   trivial,
   AdamDown.algebraic,
   trivial,
   AdamEvenIn.algebraic,
   trivial,
   AdamOut.algebraic,
   trivial,
   AdamGroup.algebraic,
   trivial,
   AdamQ.algebraic,
   trivial,
   AdamKv.algebraic,
   trivial,
   AdamSmall.algebraic,
   trivial,
   BoundaryOdd.algebraic,
   trivial,
   BoundaryEven.algebraic,
   trivial,
   BoundaryXa.algebraic,
   trivial,
   BoundaryUp.algebraic,
   trivial,
   MemoryKv.algebraic,
   trivial,
   EvenIn.algebraic,
   trivial,
   OddIn.algebraic,
   trivial,
   MemoryDx.algebraic,
   trivial,
   MixerDx.algebraic,
   trivial,
   PostO.algebraic,
   trivial,
   PostMixer.algebraic,
   trivial,
   PostLast.algebraic,
   trivial,
   WGradO.algebraic,
   trivial,
   WGradKv.algebraic,
   trivial,
   WGradEvenIn.algebraic,
   trivial,
   WGradOddIn.algebraic,
   trivial,
   SumSlots.algebraic,
   trivial,
   FirstOddIn.algebraic,
   trivial,
   FirstUp.algebraic,
   trivial,
   FirstDown.algebraic,
   trivial,
   FirstO.algebraic,
   trivial,
   FirstKv.algebraic,
   trivial,
   FirstEvenIn.algebraic⟩

end Cert.Proof

end
